-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn_bwd [hPre_finite_attn_bwd : Cert.Pre_finite_attn_bwd.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn_bwd [hPre_finite_attn_bwd : Cert.Pre_finite_attn_bwd.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn_bwd.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_finite_mla_qkv_bwd [hPre_finite_mla_qkv_bwd : Cert.Pre_finite_mla_qkv_bwd.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_finite_mla_qkv_bwd.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10))) = (fun _ => 1#1)

def Pre_MlaBwdRefIdeal (m : (ℓ : Loc Cert.MlaBwdRefIdeal.nD Cert.MlaBwdRefIdeal.τ Cert.MlaBwdRefIdeal.sig) → Buf (Elt Ideal) ℓ) : Prop :=
  True

def Pre_MlaBwdRefIdeal_finite_mla_qkv_bwd [hPre_finite_mla_qkv_bwd : Cert.Pre_finite_mla_qkv_bwd.Facts] (m : (ℓ : Loc Cert.MlaBwdRefIdeal.nD Cert.MlaBwdRefIdeal.τ Cert.MlaBwdRefIdeal.sig) → Buf (Elt Ideal) ℓ) : Prop :=
  ∀ c : Dev Cert.MlaBwdRefIdeal.nD,
    (Cert.Pre_finite_mla_qkv_bwd.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9)) (m ((c.tc : Thread Cert.MlaBwdRefIdeal.nD Cert.MlaBwdRefIdeal.τ).loc Cert.MlaBwdRefIdeal.main_arg10))) = (fun _ => 1#1)

def Pre_MixInBwd (m : (ℓ : Loc Cert.MixInBwd.nD Cert.MixInBwd.τ Cert.MixInBwd.sig) → Buf (Elt Bits) ℓ) : Prop :=
  True

def Pre_MixInBwdIdeal (m : (ℓ : Loc Cert.MixInBwdIdeal.nD Cert.MixInBwdIdeal.τ Cert.MixInBwdIdeal.sig) → Buf (Elt Ideal) ℓ) : Prop :=
  True

def Pre_MixInBwdIdeal_finite_mix_in_bwd [hPre_finite_mix_in_bwd : Cert.Pre_finite_mix_in_bwd.Facts] (m : (ℓ : Loc Cert.MixInBwdIdeal.nD Cert.MixInBwdIdeal.τ Cert.MixInBwdIdeal.sig) → Buf (Elt Ideal) ℓ) : Prop :=
  ∀ c : Dev Cert.MixInBwdIdeal.nD,
    (Cert.Pre_finite_mix_in_bwd.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6)) (m ((c.tc : Thread Cert.MixInBwdIdeal.nD Cert.MixInBwdIdeal.τ).loc Cert.MixInBwdIdeal.main_arg7)) (m ((c.tc : Thread Cert.MixInBwdIdeal.nD Cert.MixInBwdIdeal.τ).loc Cert.MixInBwdIdeal.main_arg8)) (m ((c.tc : Thread Cert.MixInBwdIdeal.nD Cert.MixInBwdIdeal.τ).loc Cert.MixInBwdIdeal.main_arg9))) = (fun _ => 1#1)

def Pre_MixInBwdRefIdeal (m : (ℓ : Loc Cert.MixInBwdRefIdeal.nD Cert.MixInBwdRefIdeal.τ Cert.MixInBwdRefIdeal.sig) → Buf (Elt Ideal) ℓ) : Prop :=
  True

def Pre_MixInBwdRefIdeal_finite_mix_in_bwd [hPre_finite_mix_in_bwd : Cert.Pre_finite_mix_in_bwd.Facts] (m : (ℓ : Loc Cert.MixInBwdRefIdeal.nD Cert.MixInBwdRefIdeal.τ Cert.MixInBwdRefIdeal.sig) → Buf (Elt Ideal) ℓ) : Prop :=
  ∀ c : Dev Cert.MixInBwdRefIdeal.nD,
    (Cert.Pre_finite_mix_in_bwd.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6)) (m ((c.tc : Thread Cert.MixInBwdRefIdeal.nD Cert.MixInBwdRefIdeal.τ).loc Cert.MixInBwdRefIdeal.main_arg7)) (m ((c.tc : Thread Cert.MixInBwdRefIdeal.nD Cert.MixInBwdRefIdeal.τ).loc Cert.MixInBwdRefIdeal.main_arg8)) (m ((c.tc : Thread Cert.MixInBwdRefIdeal.nD Cert.MixInBwdRefIdeal.τ).loc Cert.MixInBwdRefIdeal.main_arg9))) = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdIdeal_finite_ada_bwd [hPre_finite_ada_bwd : Cert.Pre_finite_ada_bwd.Facts] (m : (ℓ : Loc Cert.AdaBwdIdeal.nD Cert.AdaBwdIdeal.τ Cert.AdaBwdIdeal.sig) → Buf (Elt Ideal) ℓ) : Prop :=
  ∀ c : Dev Cert.AdaBwdIdeal.nD,
    (Cert.Pre_finite_ada_bwd.fn (F := Ideal) (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)) (m ((c.tc : Thread Cert.AdaBwdIdeal.nD Cert.AdaBwdIdeal.τ).loc Cert.AdaBwdIdeal.main_arg2)) (m ((c.tc : Thread Cert.AdaBwdIdeal.nD Cert.AdaBwdIdeal.τ).loc Cert.AdaBwdIdeal.main_arg3))) = (fun _ => 1#1)

def Pre_AdaBwdRefIdeal (m : (ℓ : Loc Cert.AdaBwdRefIdeal.nD Cert.AdaBwdRefIdeal.τ Cert.AdaBwdRefIdeal.sig) → Buf (Elt Ideal) ℓ) : Prop :=
  True

def Pre_AdaBwdRefIdeal_finite_ada_bwd [hPre_finite_ada_bwd : Cert.Pre_finite_ada_bwd.Facts] (m : (ℓ : Loc Cert.AdaBwdRefIdeal.nD Cert.AdaBwdRefIdeal.τ Cert.AdaBwdRefIdeal.sig) → Buf (Elt Ideal) ℓ) : Prop :=
  ∀ c : Dev Cert.AdaBwdRefIdeal.nD,
    (Cert.Pre_finite_ada_bwd.fn (F := Ideal) (m ((c.tc : Thread Cert.AdaBwdRefIdeal.nD Cert.AdaBwdRefIdeal.τ).loc Cert.AdaBwdRefIdeal.main_arg0)) (m ((c.tc : Thread Cert.AdaBwdRefIdeal.nD Cert.AdaBwdRefIdeal.τ).loc Cert.AdaBwdRefIdeal.main_arg1)) (m ((c.tc : Thread Cert.AdaBwdRefIdeal.nD Cert.AdaBwdRefIdeal.τ).loc Cert.AdaBwdRefIdeal.main_arg2)) (m ((c.tc : Thread Cert.AdaBwdRefIdeal.nD Cert.AdaBwdRefIdeal.τ).loc Cert.AdaBwdRefIdeal.main_arg3))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_out_proj [hPre_finite_out_proj : Cert.Pre_finite_out_proj.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_out_proj.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_out_proj [hPre_finite_out_proj : Cert.Pre_finite_out_proj.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_out_proj.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool_bwd [hPre_finite_pool_bwd : Cert.Pre_finite_pool_bwd.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool_bwd.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite_pool_bwd [hPre_finite_pool_bwd : Cert.Pre_finite_pool_bwd.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite_pool_bwd.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_mla_qkv_fwd [hPre_finite_mla_qkv_fwd : Cert.Pre_finite_mla_qkv_fwd.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_mla_qkv_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3)) (m ((c.tc : Thread Cert.MlaFwdIdeal.nD Cert.MlaFwdIdeal.τ).loc Cert.MlaFwdIdeal.main_arg4)) (m ((c.tc : Thread Cert.MlaFwdIdeal.nD Cert.MlaFwdIdeal.τ).loc Cert.MlaFwdIdeal.main_arg5)) (m ((c.tc : Thread Cert.MlaFwdIdeal.nD Cert.MlaFwdIdeal.τ).loc Cert.MlaFwdIdeal.main_arg6)) (m ((c.tc : Thread Cert.MlaFwdIdeal.nD Cert.MlaFwdIdeal.τ).loc Cert.MlaFwdIdeal.main_arg7)) (m ((c.tc : Thread Cert.MlaFwdIdeal.nD Cert.MlaFwdIdeal.τ).loc Cert.MlaFwdIdeal.main_arg8))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_mla_qkv_fwd [hPre_finite_mla_qkv_fwd : Cert.Pre_finite_mla_qkv_fwd.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_mla_qkv_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3)) (m ((c.tc : Thread Cert.MlaFwdRefIdeal.nD Cert.MlaFwdRefIdeal.τ).loc Cert.MlaFwdRefIdeal.main_arg4)) (m ((c.tc : Thread Cert.MlaFwdRefIdeal.nD Cert.MlaFwdRefIdeal.τ).loc Cert.MlaFwdRefIdeal.main_arg5)) (m ((c.tc : Thread Cert.MlaFwdRefIdeal.nD Cert.MlaFwdRefIdeal.τ).loc Cert.MlaFwdRefIdeal.main_arg6)) (m ((c.tc : Thread Cert.MlaFwdRefIdeal.nD Cert.MlaFwdRefIdeal.τ).loc Cert.MlaFwdRefIdeal.main_arg7)) (m ((c.tc : Thread Cert.MlaFwdRefIdeal.nD Cert.MlaFwdRefIdeal.τ).loc Cert.MlaFwdRefIdeal.main_arg8))) = (fun _ => 1#1)

def Pre_NnMm [hPre_a_chip : Cert.Pre_a_chip.Facts] (m : (ℓ : Loc Cert.NnMm.nD Cert.NnMm.τ Cert.NnMm.sig) → Buf (Elt Bits) ℓ) : Prop :=
  ∀ c : Dev Cert.NnMm.nD,
    (Cert.Pre_a_chip.fn (F := Bits) (m ((c.tc : Thread Cert.NnMm.nD Cert.NnMm.τ).loc Cert.NnMm.main_arg0)) (m ((c.tc : Thread Cert.NnMm.nD Cert.NnMm.τ).loc Cert.NnMm.main_arg1)) (m ((c.tc : Thread Cert.NnMm.nD Cert.NnMm.τ).loc Cert.NnMm.main_arg2))) = (fun _ => 1#1)

def Pre_NnMmIdeal [hPre_a_chip : Cert.Pre_a_chip.Facts] (m : (ℓ : Loc Cert.NnMmIdeal.nD Cert.NnMmIdeal.τ Cert.NnMmIdeal.sig) → Buf (Elt Ideal) ℓ) : Prop :=
  ∀ c : Dev Cert.NnMmIdeal.nD,
    (Cert.Pre_a_chip.fn (F := Ideal) (m ((c.tc : Thread Cert.NnMmIdeal.nD Cert.NnMmIdeal.τ).loc Cert.NnMmIdeal.main_arg0)) (m ((c.tc : Thread Cert.NnMmIdeal.nD Cert.NnMmIdeal.τ).loc Cert.NnMmIdeal.main_arg1)) (m ((c.tc : Thread Cert.NnMmIdeal.nD Cert.NnMmIdeal.τ).loc Cert.NnMmIdeal.main_arg2))) = (fun _ => 1#1)

def Pre_NnMmRefIdeal (m : (ℓ : Loc Cert.NnMmRefIdeal.nD Cert.NnMmRefIdeal.τ Cert.NnMmRefIdeal.sig) → Buf (Elt Ideal) ℓ) : Prop :=
  True

def Pre_NnMmRefIdeal_a_chip [hPre_a_chip : Cert.Pre_a_chip.Facts] (m : (ℓ : Loc Cert.NnMmRefIdeal.nD Cert.NnMmRefIdeal.τ Cert.NnMmRefIdeal.sig) → Buf (Elt Ideal) ℓ) : Prop :=
  ∀ c : Dev Cert.NnMmRefIdeal.nD,
    (Cert.Pre_a_chip.fn (F := Ideal) (m ((c.tc : Thread Cert.NnMmRefIdeal.nD Cert.NnMmRefIdeal.τ).loc Cert.NnMmRefIdeal.main_arg0)) (m ((c.tc : Thread Cert.NnMmRefIdeal.nD Cert.NnMmRefIdeal.τ).loc Cert.NnMmRefIdeal.main_arg1)) (m ((c.tc : Thread Cert.NnMmRefIdeal.nD Cert.NnMmRefIdeal.τ).loc Cert.NnMmRefIdeal.main_arg2))) = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn_bwd [hAttnBwdIdeal : Cert.AttnBwdIdeal.Facts] [hPre_finite_attn_bwd : Cert.Pre_finite_attn_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn_bwd m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn_bwd [hAttnBwdRefIdeal : Cert.AttnBwdRefIdeal.Facts] [hPre_finite_attn_bwd : Cert.Pre_finite_attn_bwd.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn_bwd m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5)
      ∧ r.2.mem ((c.tc : Thread Cert.MlaBwd.nD Cert.MlaBwd.τ).loc Cert.MlaBwd.main_arg6) = m ((c.tc : Thread Cert.MlaBwd.nD Cert.MlaBwd.τ).loc Cert.MlaBwd.main_arg6)
      ∧ r.2.mem ((c.tc : Thread Cert.MlaBwd.nD Cert.MlaBwd.τ).loc Cert.MlaBwd.main_arg7) = m ((c.tc : Thread Cert.MlaBwd.nD Cert.MlaBwd.τ).loc Cert.MlaBwd.main_arg7)
      ∧ r.2.mem ((c.tc : Thread Cert.MlaBwd.nD Cert.MlaBwd.τ).loc Cert.MlaBwd.main_arg8) = m ((c.tc : Thread Cert.MlaBwd.nD Cert.MlaBwd.τ).loc Cert.MlaBwd.main_arg8)
      ∧ r.2.mem ((c.tc : Thread Cert.MlaBwd.nD Cert.MlaBwd.τ).loc Cert.MlaBwd.main_arg9) = m ((c.tc : Thread Cert.MlaBwd.nD Cert.MlaBwd.τ).loc Cert.MlaBwd.main_arg9)
      ∧ r.2.mem ((c.tc : Thread Cert.MlaBwd.nD Cert.MlaBwd.τ).loc Cert.MlaBwd.main_arg10) = m ((c.tc : Thread Cert.MlaBwd.nD Cert.MlaBwd.τ).loc Cert.MlaBwd.main_arg10))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9)
      ∧ r.2.mem ((c.tc : Thread Cert.MlaBwdIdeal.nD Cert.MlaBwdIdeal.τ).loc Cert.MlaBwdIdeal.main_arg10) = m ((c.tc : Thread Cert.MlaBwdIdeal.nD Cert.MlaBwdIdeal.τ).loc Cert.MlaBwdIdeal.main_arg10))
      ∧ r.2.sem = fun _ => 0)

def quiescent_MlaBwdIdeal_pre_finite_mla_qkv_bwd [hMlaBwdIdeal : Cert.MlaBwdIdeal.Facts] [hPre_finite_mla_qkv_bwd : Cert.Pre_finite_mla_qkv_bwd.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_finite_mla_qkv_bwd m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9)
      ∧ r.2.mem ((c.tc : Thread Cert.MlaBwdIdeal.nD Cert.MlaBwdIdeal.τ).loc Cert.MlaBwdIdeal.main_arg10) = m ((c.tc : Thread Cert.MlaBwdIdeal.nD Cert.MlaBwdIdeal.τ).loc Cert.MlaBwdIdeal.main_arg10))
      ∧ r.2.sem = fun _ => 0)

def quiescent_MlaBwdRefIdeal [hMlaBwdRefIdeal : Cert.MlaBwdRefIdeal.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5)
      ∧ r.2.mem ((c.tc : Thread Cert.MlaBwdRefIdeal.nD Cert.MlaBwdRefIdeal.τ).loc Cert.MlaBwdRefIdeal.main_arg6) = m ((c.tc : Thread Cert.MlaBwdRefIdeal.nD Cert.MlaBwdRefIdeal.τ).loc Cert.MlaBwdRefIdeal.main_arg6)
      ∧ r.2.mem ((c.tc : Thread Cert.MlaBwdRefIdeal.nD Cert.MlaBwdRefIdeal.τ).loc Cert.MlaBwdRefIdeal.main_arg7) = m ((c.tc : Thread Cert.MlaBwdRefIdeal.nD Cert.MlaBwdRefIdeal.τ).loc Cert.MlaBwdRefIdeal.main_arg7)
      ∧ r.2.mem ((c.tc : Thread Cert.MlaBwdRefIdeal.nD Cert.MlaBwdRefIdeal.τ).loc Cert.MlaBwdRefIdeal.main_arg8) = m ((c.tc : Thread Cert.MlaBwdRefIdeal.nD Cert.MlaBwdRefIdeal.τ).loc Cert.MlaBwdRefIdeal.main_arg8)
      ∧ r.2.mem ((c.tc : Thread Cert.MlaBwdRefIdeal.nD Cert.MlaBwdRefIdeal.τ).loc Cert.MlaBwdRefIdeal.main_arg9) = m ((c.tc : Thread Cert.MlaBwdRefIdeal.nD Cert.MlaBwdRefIdeal.τ).loc Cert.MlaBwdRefIdeal.main_arg9)
      ∧ r.2.mem ((c.tc : Thread Cert.MlaBwdRefIdeal.nD Cert.MlaBwdRefIdeal.τ).loc Cert.MlaBwdRefIdeal.main_arg10) = m ((c.tc : Thread Cert.MlaBwdRefIdeal.nD Cert.MlaBwdRefIdeal.τ).loc Cert.MlaBwdRefIdeal.main_arg10))
      ∧ r.2.sem = fun _ => 0)

def quiescent_MlaBwdRefIdeal_pre_finite_mla_qkv_bwd [hMlaBwdRefIdeal : Cert.MlaBwdRefIdeal.Facts] [hPre_finite_mla_qkv_bwd : Cert.Pre_finite_mla_qkv_bwd.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal_finite_mla_qkv_bwd m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5)
      ∧ r.2.mem ((c.tc : Thread Cert.MlaBwdRefIdeal.nD Cert.MlaBwdRefIdeal.τ).loc Cert.MlaBwdRefIdeal.main_arg6) = m ((c.tc : Thread Cert.MlaBwdRefIdeal.nD Cert.MlaBwdRefIdeal.τ).loc Cert.MlaBwdRefIdeal.main_arg6)
      ∧ r.2.mem ((c.tc : Thread Cert.MlaBwdRefIdeal.nD Cert.MlaBwdRefIdeal.τ).loc Cert.MlaBwdRefIdeal.main_arg7) = m ((c.tc : Thread Cert.MlaBwdRefIdeal.nD Cert.MlaBwdRefIdeal.τ).loc Cert.MlaBwdRefIdeal.main_arg7)
      ∧ r.2.mem ((c.tc : Thread Cert.MlaBwdRefIdeal.nD Cert.MlaBwdRefIdeal.τ).loc Cert.MlaBwdRefIdeal.main_arg8) = m ((c.tc : Thread Cert.MlaBwdRefIdeal.nD Cert.MlaBwdRefIdeal.τ).loc Cert.MlaBwdRefIdeal.main_arg8)
      ∧ r.2.mem ((c.tc : Thread Cert.MlaBwdRefIdeal.nD Cert.MlaBwdRefIdeal.τ).loc Cert.MlaBwdRefIdeal.main_arg9) = m ((c.tc : Thread Cert.MlaBwdRefIdeal.nD Cert.MlaBwdRefIdeal.τ).loc Cert.MlaBwdRefIdeal.main_arg9)
      ∧ r.2.mem ((c.tc : Thread Cert.MlaBwdRefIdeal.nD Cert.MlaBwdRefIdeal.τ).loc Cert.MlaBwdRefIdeal.main_arg10) = m ((c.tc : Thread Cert.MlaBwdRefIdeal.nD Cert.MlaBwdRefIdeal.τ).loc Cert.MlaBwdRefIdeal.main_arg10))
      ∧ r.2.sem = fun _ => 0)

def quiescent_MixInBwd [hMixInBwd : Cert.MixInBwd.Facts] : Prop :=
  ∀ (m : (ℓ : Loc Cert.MixInBwd.nD Cert.MixInBwd.τ Cert.MixInBwd.sig) → Buf (Elt Bits) ℓ) (g : Dev Cert.MixInBwd.nD → PrngReg), Pre_MixInBwd m →
    θ_run (Cert.MixInBwd.defs (F := Bits)) (onTc (τ := Cert.MixInBwd.τ) (Cert.MixInBwd.main (F := Bits))) ⟨m, fun _ => 0, g⟩ (fun r => (∀ c : Dev Cert.MixInBwd.nD,
      r.2.mem ((c.tc : Thread Cert.MixInBwd.nD Cert.MixInBwd.τ).loc Cert.MixInBwd.main_arg0) = m ((c.tc : Thread Cert.MixInBwd.nD Cert.MixInBwd.τ).loc Cert.MixInBwd.main_arg0)
      ∧ r.2.mem ((c.tc : Thread Cert.MixInBwd.nD Cert.MixInBwd.τ).loc Cert.MixInBwd.main_arg1) = m ((c.tc : Thread Cert.MixInBwd.nD Cert.MixInBwd.τ).loc Cert.MixInBwd.main_arg1)
      ∧ r.2.mem ((c.tc : Thread Cert.MixInBwd.nD Cert.MixInBwd.τ).loc Cert.MixInBwd.main_arg2) = m ((c.tc : Thread Cert.MixInBwd.nD Cert.MixInBwd.τ).loc Cert.MixInBwd.main_arg2)
      ∧ r.2.mem ((c.tc : Thread Cert.MixInBwd.nD Cert.MixInBwd.τ).loc Cert.MixInBwd.main_arg3) = m ((c.tc : Thread Cert.MixInBwd.nD Cert.MixInBwd.τ).loc Cert.MixInBwd.main_arg3)
      ∧ r.2.mem ((c.tc : Thread Cert.MixInBwd.nD Cert.MixInBwd.τ).loc Cert.MixInBwd.main_arg4) = m ((c.tc : Thread Cert.MixInBwd.nD Cert.MixInBwd.τ).loc Cert.MixInBwd.main_arg4)
      ∧ r.2.mem ((c.tc : Thread Cert.MixInBwd.nD Cert.MixInBwd.τ).loc Cert.MixInBwd.main_arg5) = m ((c.tc : Thread Cert.MixInBwd.nD Cert.MixInBwd.τ).loc Cert.MixInBwd.main_arg5)
      ∧ r.2.mem ((c.tc : Thread Cert.MixInBwd.nD Cert.MixInBwd.τ).loc Cert.MixInBwd.main_arg6) = m ((c.tc : Thread Cert.MixInBwd.nD Cert.MixInBwd.τ).loc Cert.MixInBwd.main_arg6)
      ∧ r.2.mem ((c.tc : Thread Cert.MixInBwd.nD Cert.MixInBwd.τ).loc Cert.MixInBwd.main_arg7) = m ((c.tc : Thread Cert.MixInBwd.nD Cert.MixInBwd.τ).loc Cert.MixInBwd.main_arg7)
      ∧ r.2.mem ((c.tc : Thread Cert.MixInBwd.nD Cert.MixInBwd.τ).loc Cert.MixInBwd.main_arg8) = m ((c.tc : Thread Cert.MixInBwd.nD Cert.MixInBwd.τ).loc Cert.MixInBwd.main_arg8)
      ∧ r.2.mem ((c.tc : Thread Cert.MixInBwd.nD Cert.MixInBwd.τ).loc Cert.MixInBwd.main_arg9) = m ((c.tc : Thread Cert.MixInBwd.nD Cert.MixInBwd.τ).loc Cert.MixInBwd.main_arg9))
      ∧ r.2.sem = fun _ => 0)

def quiescent_MixInBwdIdeal [hMixInBwdIdeal : Cert.MixInBwdIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
      ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5)
      ∧ r.2.mem ((c.tc : Thread Cert.MixInBwdIdeal.nD Cert.MixInBwdIdeal.τ).loc Cert.MixInBwdIdeal.main_arg6) = m ((c.tc : Thread Cert.MixInBwdIdeal.nD Cert.MixInBwdIdeal.τ).loc Cert.MixInBwdIdeal.main_arg6)
      ∧ r.2.mem ((c.tc : Thread Cert.MixInBwdIdeal.nD Cert.MixInBwdIdeal.τ).loc Cert.MixInBwdIdeal.main_arg7) = m ((c.tc : Thread Cert.MixInBwdIdeal.nD Cert.MixInBwdIdeal.τ).loc Cert.MixInBwdIdeal.main_arg7)
      ∧ r.2.mem ((c.tc : Thread Cert.MixInBwdIdeal.nD Cert.MixInBwdIdeal.τ).loc Cert.MixInBwdIdeal.main_arg8) = m ((c.tc : Thread Cert.MixInBwdIdeal.nD Cert.MixInBwdIdeal.τ).loc Cert.MixInBwdIdeal.main_arg8)
      ∧ r.2.mem ((c.tc : Thread Cert.MixInBwdIdeal.nD Cert.MixInBwdIdeal.τ).loc Cert.MixInBwdIdeal.main_arg9) = m ((c.tc : Thread Cert.MixInBwdIdeal.nD Cert.MixInBwdIdeal.τ).loc Cert.MixInBwdIdeal.main_arg9))
      ∧ r.2.sem = fun _ => 0)

def quiescent_MixInBwdIdeal_pre_finite_mix_in_bwd [hMixInBwdIdeal : Cert.MixInBwdIdeal.Facts] [hPre_finite_mix_in_bwd : Cert.Pre_finite_mix_in_bwd.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal_finite_mix_in_bwd m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
      ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5)
      ∧ r.2.mem ((c.tc : Thread Cert.MixInBwdIdeal.nD Cert.MixInBwdIdeal.τ).loc Cert.MixInBwdIdeal.main_arg6) = m ((c.tc : Thread Cert.MixInBwdIdeal.nD Cert.MixInBwdIdeal.τ).loc Cert.MixInBwdIdeal.main_arg6)
      ∧ r.2.mem ((c.tc : Thread Cert.MixInBwdIdeal.nD Cert.MixInBwdIdeal.τ).loc Cert.MixInBwdIdeal.main_arg7) = m ((c.tc : Thread Cert.MixInBwdIdeal.nD Cert.MixInBwdIdeal.τ).loc Cert.MixInBwdIdeal.main_arg7)
      ∧ r.2.mem ((c.tc : Thread Cert.MixInBwdIdeal.nD Cert.MixInBwdIdeal.τ).loc Cert.MixInBwdIdeal.main_arg8) = m ((c.tc : Thread Cert.MixInBwdIdeal.nD Cert.MixInBwdIdeal.τ).loc Cert.MixInBwdIdeal.main_arg8)
      ∧ r.2.mem ((c.tc : Thread Cert.MixInBwdIdeal.nD Cert.MixInBwdIdeal.τ).loc Cert.MixInBwdIdeal.main_arg9) = m ((c.tc : Thread Cert.MixInBwdIdeal.nD Cert.MixInBwdIdeal.τ).loc Cert.MixInBwdIdeal.main_arg9))
      ∧ r.2.sem = fun _ => 0)

def quiescent_MixInBwdRefIdeal [hMixInBwdRefIdeal : Cert.MixInBwdRefIdeal.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4)
      ∧ r.2.mem ((c.tc : Thread Cert.MixInBwdRefIdeal.nD Cert.MixInBwdRefIdeal.τ).loc Cert.MixInBwdRefIdeal.main_arg5) = m ((c.tc : Thread Cert.MixInBwdRefIdeal.nD Cert.MixInBwdRefIdeal.τ).loc Cert.MixInBwdRefIdeal.main_arg5)
      ∧ r.2.mem ((c.tc : Thread Cert.MixInBwdRefIdeal.nD Cert.MixInBwdRefIdeal.τ).loc Cert.MixInBwdRefIdeal.main_arg6) = m ((c.tc : Thread Cert.MixInBwdRefIdeal.nD Cert.MixInBwdRefIdeal.τ).loc Cert.MixInBwdRefIdeal.main_arg6)
      ∧ r.2.mem ((c.tc : Thread Cert.MixInBwdRefIdeal.nD Cert.MixInBwdRefIdeal.τ).loc Cert.MixInBwdRefIdeal.main_arg7) = m ((c.tc : Thread Cert.MixInBwdRefIdeal.nD Cert.MixInBwdRefIdeal.τ).loc Cert.MixInBwdRefIdeal.main_arg7)
      ∧ r.2.mem ((c.tc : Thread Cert.MixInBwdRefIdeal.nD Cert.MixInBwdRefIdeal.τ).loc Cert.MixInBwdRefIdeal.main_arg8) = m ((c.tc : Thread Cert.MixInBwdRefIdeal.nD Cert.MixInBwdRefIdeal.τ).loc Cert.MixInBwdRefIdeal.main_arg8)
      ∧ r.2.mem ((c.tc : Thread Cert.MixInBwdRefIdeal.nD Cert.MixInBwdRefIdeal.τ).loc Cert.MixInBwdRefIdeal.main_arg9) = m ((c.tc : Thread Cert.MixInBwdRefIdeal.nD Cert.MixInBwdRefIdeal.τ).loc Cert.MixInBwdRefIdeal.main_arg9))
      ∧ r.2.sem = fun _ => 0)

def quiescent_MixInBwdRefIdeal_pre_finite_mix_in_bwd [hMixInBwdRefIdeal : Cert.MixInBwdRefIdeal.Facts] [hPre_finite_mix_in_bwd : Cert.Pre_finite_mix_in_bwd.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal_finite_mix_in_bwd m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4)
      ∧ r.2.mem ((c.tc : Thread Cert.MixInBwdRefIdeal.nD Cert.MixInBwdRefIdeal.τ).loc Cert.MixInBwdRefIdeal.main_arg5) = m ((c.tc : Thread Cert.MixInBwdRefIdeal.nD Cert.MixInBwdRefIdeal.τ).loc Cert.MixInBwdRefIdeal.main_arg5)
      ∧ r.2.mem ((c.tc : Thread Cert.MixInBwdRefIdeal.nD Cert.MixInBwdRefIdeal.τ).loc Cert.MixInBwdRefIdeal.main_arg6) = m ((c.tc : Thread Cert.MixInBwdRefIdeal.nD Cert.MixInBwdRefIdeal.τ).loc Cert.MixInBwdRefIdeal.main_arg6)
      ∧ r.2.mem ((c.tc : Thread Cert.MixInBwdRefIdeal.nD Cert.MixInBwdRefIdeal.τ).loc Cert.MixInBwdRefIdeal.main_arg7) = m ((c.tc : Thread Cert.MixInBwdRefIdeal.nD Cert.MixInBwdRefIdeal.τ).loc Cert.MixInBwdRefIdeal.main_arg7)
      ∧ r.2.mem ((c.tc : Thread Cert.MixInBwdRefIdeal.nD Cert.MixInBwdRefIdeal.τ).loc Cert.MixInBwdRefIdeal.main_arg8) = m ((c.tc : Thread Cert.MixInBwdRefIdeal.nD Cert.MixInBwdRefIdeal.τ).loc Cert.MixInBwdRefIdeal.main_arg8)
      ∧ r.2.mem ((c.tc : Thread Cert.MixInBwdRefIdeal.nD Cert.MixInBwdRefIdeal.τ).loc Cert.MixInBwdRefIdeal.main_arg9) = m ((c.tc : Thread Cert.MixInBwdRefIdeal.nD Cert.MixInBwdRefIdeal.τ).loc Cert.MixInBwdRefIdeal.main_arg9))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3))
      ∧ r.2.sem = fun _ => 0)

def quiescent_AdaBwdIdeal_pre_finite_ada_bwd [hAdaBwdIdeal : Cert.AdaBwdIdeal.Facts] [hPre_finite_ada_bwd : Cert.Pre_finite_ada_bwd.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal_finite_ada_bwd m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3))
      ∧ r.2.sem = fun _ => 0)

def quiescent_AdaBwdRefIdeal_pre_finite_ada_bwd [hAdaBwdRefIdeal : Cert.AdaBwdRefIdeal.Facts] [hPre_finite_ada_bwd : Cert.Pre_finite_ada_bwd.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal_finite_ada_bwd m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjIdeal_pre_finite_out_proj [hOutProjIdeal : Cert.OutProjIdeal.Facts] [hPre_finite_out_proj : Cert.Pre_finite_out_proj.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_out_proj m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutProjRefIdeal_pre_finite_out_proj [hOutProjRefIdeal : Cert.OutProjRefIdeal.Facts] [hPre_finite_out_proj : Cert.Pre_finite_out_proj.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_out_proj m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_finite_pool_bwd [hPoolBwdIdeal : Cert.PoolBwdIdeal.Facts] [hPre_finite_pool_bwd : Cert.Pre_finite_pool_bwd.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool_bwd m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_finite_pool_bwd [hPoolBwdRefIdeal : Cert.PoolBwdRefIdeal.Facts] [hPre_finite_pool_bwd : Cert.Pre_finite_pool_bwd.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite_pool_bwd m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2)
      ∧ r.2.mem ((c.tc : Thread Cert.MlaFwd.nD Cert.MlaFwd.τ).loc Cert.MlaFwd.main_arg3) = m ((c.tc : Thread Cert.MlaFwd.nD Cert.MlaFwd.τ).loc Cert.MlaFwd.main_arg3)
      ∧ r.2.mem ((c.tc : Thread Cert.MlaFwd.nD Cert.MlaFwd.τ).loc Cert.MlaFwd.main_arg4) = m ((c.tc : Thread Cert.MlaFwd.nD Cert.MlaFwd.τ).loc Cert.MlaFwd.main_arg4)
      ∧ r.2.mem ((c.tc : Thread Cert.MlaFwd.nD Cert.MlaFwd.τ).loc Cert.MlaFwd.main_arg5) = m ((c.tc : Thread Cert.MlaFwd.nD Cert.MlaFwd.τ).loc Cert.MlaFwd.main_arg5)
      ∧ r.2.mem ((c.tc : Thread Cert.MlaFwd.nD Cert.MlaFwd.τ).loc Cert.MlaFwd.main_arg6) = m ((c.tc : Thread Cert.MlaFwd.nD Cert.MlaFwd.τ).loc Cert.MlaFwd.main_arg6)
      ∧ r.2.mem ((c.tc : Thread Cert.MlaFwd.nD Cert.MlaFwd.τ).loc Cert.MlaFwd.main_arg7) = m ((c.tc : Thread Cert.MlaFwd.nD Cert.MlaFwd.τ).loc Cert.MlaFwd.main_arg7)
      ∧ r.2.mem ((c.tc : Thread Cert.MlaFwd.nD Cert.MlaFwd.τ).loc Cert.MlaFwd.main_arg8) = m ((c.tc : Thread Cert.MlaFwd.nD Cert.MlaFwd.τ).loc Cert.MlaFwd.main_arg8))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
      ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4)
      ∧ r.2.mem ((c.tc : Thread Cert.MlaFwdIdeal.nD Cert.MlaFwdIdeal.τ).loc Cert.MlaFwdIdeal.main_arg5) = m ((c.tc : Thread Cert.MlaFwdIdeal.nD Cert.MlaFwdIdeal.τ).loc Cert.MlaFwdIdeal.main_arg5)
      ∧ r.2.mem ((c.tc : Thread Cert.MlaFwdIdeal.nD Cert.MlaFwdIdeal.τ).loc Cert.MlaFwdIdeal.main_arg6) = m ((c.tc : Thread Cert.MlaFwdIdeal.nD Cert.MlaFwdIdeal.τ).loc Cert.MlaFwdIdeal.main_arg6)
      ∧ r.2.mem ((c.tc : Thread Cert.MlaFwdIdeal.nD Cert.MlaFwdIdeal.τ).loc Cert.MlaFwdIdeal.main_arg7) = m ((c.tc : Thread Cert.MlaFwdIdeal.nD Cert.MlaFwdIdeal.τ).loc Cert.MlaFwdIdeal.main_arg7)
      ∧ r.2.mem ((c.tc : Thread Cert.MlaFwdIdeal.nD Cert.MlaFwdIdeal.τ).loc Cert.MlaFwdIdeal.main_arg8) = m ((c.tc : Thread Cert.MlaFwdIdeal.nD Cert.MlaFwdIdeal.τ).loc Cert.MlaFwdIdeal.main_arg8))
      ∧ r.2.sem = fun _ => 0)

def quiescent_MlaFwdIdeal_pre_finite_mla_qkv_fwd [hMlaFwdIdeal : Cert.MlaFwdIdeal.Facts] [hPre_finite_mla_qkv_fwd : Cert.Pre_finite_mla_qkv_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_mla_qkv_fwd m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
      ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4)
      ∧ r.2.mem ((c.tc : Thread Cert.MlaFwdIdeal.nD Cert.MlaFwdIdeal.τ).loc Cert.MlaFwdIdeal.main_arg5) = m ((c.tc : Thread Cert.MlaFwdIdeal.nD Cert.MlaFwdIdeal.τ).loc Cert.MlaFwdIdeal.main_arg5)
      ∧ r.2.mem ((c.tc : Thread Cert.MlaFwdIdeal.nD Cert.MlaFwdIdeal.τ).loc Cert.MlaFwdIdeal.main_arg6) = m ((c.tc : Thread Cert.MlaFwdIdeal.nD Cert.MlaFwdIdeal.τ).loc Cert.MlaFwdIdeal.main_arg6)
      ∧ r.2.mem ((c.tc : Thread Cert.MlaFwdIdeal.nD Cert.MlaFwdIdeal.τ).loc Cert.MlaFwdIdeal.main_arg7) = m ((c.tc : Thread Cert.MlaFwdIdeal.nD Cert.MlaFwdIdeal.τ).loc Cert.MlaFwdIdeal.main_arg7)
      ∧ r.2.mem ((c.tc : Thread Cert.MlaFwdIdeal.nD Cert.MlaFwdIdeal.τ).loc Cert.MlaFwdIdeal.main_arg8) = m ((c.tc : Thread Cert.MlaFwdIdeal.nD Cert.MlaFwdIdeal.τ).loc Cert.MlaFwdIdeal.main_arg8))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4)
      ∧ r.2.mem ((c.tc : Thread Cert.MlaFwdRefIdeal.nD Cert.MlaFwdRefIdeal.τ).loc Cert.MlaFwdRefIdeal.main_arg5) = m ((c.tc : Thread Cert.MlaFwdRefIdeal.nD Cert.MlaFwdRefIdeal.τ).loc Cert.MlaFwdRefIdeal.main_arg5)
      ∧ r.2.mem ((c.tc : Thread Cert.MlaFwdRefIdeal.nD Cert.MlaFwdRefIdeal.τ).loc Cert.MlaFwdRefIdeal.main_arg6) = m ((c.tc : Thread Cert.MlaFwdRefIdeal.nD Cert.MlaFwdRefIdeal.τ).loc Cert.MlaFwdRefIdeal.main_arg6)
      ∧ r.2.mem ((c.tc : Thread Cert.MlaFwdRefIdeal.nD Cert.MlaFwdRefIdeal.τ).loc Cert.MlaFwdRefIdeal.main_arg7) = m ((c.tc : Thread Cert.MlaFwdRefIdeal.nD Cert.MlaFwdRefIdeal.τ).loc Cert.MlaFwdRefIdeal.main_arg7)
      ∧ r.2.mem ((c.tc : Thread Cert.MlaFwdRefIdeal.nD Cert.MlaFwdRefIdeal.τ).loc Cert.MlaFwdRefIdeal.main_arg8) = m ((c.tc : Thread Cert.MlaFwdRefIdeal.nD Cert.MlaFwdRefIdeal.τ).loc Cert.MlaFwdRefIdeal.main_arg8))
      ∧ r.2.sem = fun _ => 0)

def quiescent_MlaFwdRefIdeal_pre_finite_mla_qkv_fwd [hMlaFwdRefIdeal : Cert.MlaFwdRefIdeal.Facts] [hPre_finite_mla_qkv_fwd : Cert.Pre_finite_mla_qkv_fwd.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_mla_qkv_fwd m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4)
      ∧ r.2.mem ((c.tc : Thread Cert.MlaFwdRefIdeal.nD Cert.MlaFwdRefIdeal.τ).loc Cert.MlaFwdRefIdeal.main_arg5) = m ((c.tc : Thread Cert.MlaFwdRefIdeal.nD Cert.MlaFwdRefIdeal.τ).loc Cert.MlaFwdRefIdeal.main_arg5)
      ∧ r.2.mem ((c.tc : Thread Cert.MlaFwdRefIdeal.nD Cert.MlaFwdRefIdeal.τ).loc Cert.MlaFwdRefIdeal.main_arg6) = m ((c.tc : Thread Cert.MlaFwdRefIdeal.nD Cert.MlaFwdRefIdeal.τ).loc Cert.MlaFwdRefIdeal.main_arg6)
      ∧ r.2.mem ((c.tc : Thread Cert.MlaFwdRefIdeal.nD Cert.MlaFwdRefIdeal.τ).loc Cert.MlaFwdRefIdeal.main_arg7) = m ((c.tc : Thread Cert.MlaFwdRefIdeal.nD Cert.MlaFwdRefIdeal.τ).loc Cert.MlaFwdRefIdeal.main_arg7)
      ∧ r.2.mem ((c.tc : Thread Cert.MlaFwdRefIdeal.nD Cert.MlaFwdRefIdeal.τ).loc Cert.MlaFwdRefIdeal.main_arg8) = m ((c.tc : Thread Cert.MlaFwdRefIdeal.nD Cert.MlaFwdRefIdeal.τ).loc Cert.MlaFwdRefIdeal.main_arg8))
      ∧ r.2.sem = fun _ => 0)

def quiescent_NnMm [hNnMm : Cert.NnMm.Facts] [hPre_a_chip : Cert.Pre_a_chip.Facts] : Prop :=
  ∀ (m : (ℓ : Loc Cert.NnMm.nD Cert.NnMm.τ Cert.NnMm.sig) → Buf (Elt Bits) ℓ) (g : Dev Cert.NnMm.nD → PrngReg), Pre_NnMm m →
    θ_run (Cert.NnMm.defs (F := Bits)) (onTc (τ := Cert.NnMm.τ) (Cert.NnMm.main (F := Bits))) ⟨m, fun _ => 0, g⟩ (fun r => (∀ c : Dev Cert.NnMm.nD,
      r.2.mem ((c.tc : Thread Cert.NnMm.nD Cert.NnMm.τ).loc Cert.NnMm.main_arg0) = m ((c.tc : Thread Cert.NnMm.nD Cert.NnMm.τ).loc Cert.NnMm.main_arg0)
      ∧ r.2.mem ((c.tc : Thread Cert.NnMm.nD Cert.NnMm.τ).loc Cert.NnMm.main_arg1) = m ((c.tc : Thread Cert.NnMm.nD Cert.NnMm.τ).loc Cert.NnMm.main_arg1)
      ∧ r.2.mem ((c.tc : Thread Cert.NnMm.nD Cert.NnMm.τ).loc Cert.NnMm.main_arg2) = m ((c.tc : Thread Cert.NnMm.nD Cert.NnMm.τ).loc Cert.NnMm.main_arg2))
      ∧ r.2.sem = fun _ => 0)

def quiescent_NnMmIdeal [hNnMmIdeal : Cert.NnMmIdeal.Facts] [hPre_a_chip : Cert.Pre_a_chip.Facts] : Prop :=
  ∀ (m : (ℓ : Loc Cert.NnMmIdeal.nD Cert.NnMmIdeal.τ Cert.NnMmIdeal.sig) → Buf (Elt Ideal) ℓ) (g : Dev Cert.NnMmIdeal.nD → PrngReg), Pre_NnMmIdeal m →
    θ_run (Cert.NnMmIdeal.defs (F := Ideal)) (onTc (τ := Cert.NnMmIdeal.τ) (Cert.NnMmIdeal.main (F := Ideal))) ⟨m, fun _ => 0, g⟩ (fun r => (∀ c : Dev Cert.NnMmIdeal.nD,
      r.2.mem ((c.tc : Thread Cert.NnMmIdeal.nD Cert.NnMmIdeal.τ).loc Cert.NnMmIdeal.main_arg0) = m ((c.tc : Thread Cert.NnMmIdeal.nD Cert.NnMmIdeal.τ).loc Cert.NnMmIdeal.main_arg0)
      ∧ r.2.mem ((c.tc : Thread Cert.NnMmIdeal.nD Cert.NnMmIdeal.τ).loc Cert.NnMmIdeal.main_arg1) = m ((c.tc : Thread Cert.NnMmIdeal.nD Cert.NnMmIdeal.τ).loc Cert.NnMmIdeal.main_arg1)
      ∧ r.2.mem ((c.tc : Thread Cert.NnMmIdeal.nD Cert.NnMmIdeal.τ).loc Cert.NnMmIdeal.main_arg2) = m ((c.tc : Thread Cert.NnMmIdeal.nD Cert.NnMmIdeal.τ).loc Cert.NnMmIdeal.main_arg2))
      ∧ r.2.sem = fun _ => 0)

def quiescent_NnMmRefIdeal [hNnMmRefIdeal : Cert.NnMmRefIdeal.Facts] : Prop :=
  ∀ (m : (ℓ : Loc Cert.NnMmRefIdeal.nD Cert.NnMmRefIdeal.τ Cert.NnMmRefIdeal.sig) → Buf (Elt Ideal) ℓ) (g : Dev Cert.NnMmRefIdeal.nD → PrngReg), Pre_NnMmRefIdeal m →
    θ_run (Cert.NnMmRefIdeal.defs (F := Ideal)) (onTc (τ := Cert.NnMmRefIdeal.τ) (Cert.NnMmRefIdeal.main (F := Ideal))) ⟨m, fun _ => 0, g⟩ (fun r => (∀ c : Dev Cert.NnMmRefIdeal.nD,
      r.2.mem ((c.tc : Thread Cert.NnMmRefIdeal.nD Cert.NnMmRefIdeal.τ).loc Cert.NnMmRefIdeal.main_arg0) = m ((c.tc : Thread Cert.NnMmRefIdeal.nD Cert.NnMmRefIdeal.τ).loc Cert.NnMmRefIdeal.main_arg0)
      ∧ r.2.mem ((c.tc : Thread Cert.NnMmRefIdeal.nD Cert.NnMmRefIdeal.τ).loc Cert.NnMmRefIdeal.main_arg1) = m ((c.tc : Thread Cert.NnMmRefIdeal.nD Cert.NnMmRefIdeal.τ).loc Cert.NnMmRefIdeal.main_arg1)
      ∧ r.2.mem ((c.tc : Thread Cert.NnMmRefIdeal.nD Cert.NnMmRefIdeal.τ).loc Cert.NnMmRefIdeal.main_arg2) = m ((c.tc : Thread Cert.NnMmRefIdeal.nD Cert.NnMmRefIdeal.τ).loc Cert.NnMmRefIdeal.main_arg2))
      ∧ r.2.sem = fun _ => 0)

def quiescent_NnMmRefIdeal_pre_a_chip [hNnMmRefIdeal : Cert.NnMmRefIdeal.Facts] [hPre_a_chip : Cert.Pre_a_chip.Facts] : Prop :=
  ∀ (m : (ℓ : Loc Cert.NnMmRefIdeal.nD Cert.NnMmRefIdeal.τ Cert.NnMmRefIdeal.sig) → Buf (Elt Ideal) ℓ) (g : Dev Cert.NnMmRefIdeal.nD → PrngReg), Pre_NnMmRefIdeal_a_chip m →
    θ_run (Cert.NnMmRefIdeal.defs (F := Ideal)) (onTc (τ := Cert.NnMmRefIdeal.τ) (Cert.NnMmRefIdeal.main (F := Ideal))) ⟨m, fun _ => 0, g⟩ (fun r => (∀ c : Dev Cert.NnMmRefIdeal.nD,
      r.2.mem ((c.tc : Thread Cert.NnMmRefIdeal.nD Cert.NnMmRefIdeal.τ).loc Cert.NnMmRefIdeal.main_arg0) = m ((c.tc : Thread Cert.NnMmRefIdeal.nD Cert.NnMmRefIdeal.τ).loc Cert.NnMmRefIdeal.main_arg0)
      ∧ r.2.mem ((c.tc : Thread Cert.NnMmRefIdeal.nD Cert.NnMmRefIdeal.τ).loc Cert.NnMmRefIdeal.main_arg1) = m ((c.tc : Thread Cert.NnMmRefIdeal.nD Cert.NnMmRefIdeal.τ).loc Cert.NnMmRefIdeal.main_arg1)
      ∧ r.2.mem ((c.tc : Thread Cert.NnMmRefIdeal.nD Cert.NnMmRefIdeal.τ).loc Cert.NnMmRefIdeal.main_arg2) = m ((c.tc : Thread Cert.NnMmRefIdeal.nD Cert.NnMmRefIdeal.τ).loc Cert.NnMmRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AttnBwd_AttnBwdIdeal : Prop :=
  IdealRules.named_const.Statement Cert.AttnBwdIdeal.κ "mask" .f32 0xF149F2CA#32 ⊥

def algebraic_AttnBwdIdeal_AttnBwdRefIdeal_pre_finite_attn_bwd [hAttnBwdIdeal : Cert.AttnBwdIdeal.Facts] [hAttnBwdRefIdeal : Cert.AttnBwdRefIdeal.Facts] [hPre_finite_attn_bwd : Cert.Pre_finite_attn_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn_bwd m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v65) = v0 c
          ∧ r.2.mem ((c.tc : Thread Cert.AttnBwdRefIdeal.nD Cert.AttnBwdRefIdeal.τ).loc Cert.AttnBwdRefIdeal.main_v64) = v1 c
          ∧ r.2.mem ((c.tc : Thread Cert.AttnBwdRefIdeal.nD Cert.AttnBwdRefIdeal.τ).loc Cert.AttnBwdRefIdeal.main_v47) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MlaBwd_MlaBwdIdeal : Prop :=
  True

def algebraic_MlaBwdIdeal_MlaBwdRefIdeal_pre_finite_mla_qkv_bwd [hMlaBwdIdeal : Cert.MlaBwdIdeal.Facts] [hMlaBwdRefIdeal : Cert.MlaBwdRefIdeal.Facts] [hPre_finite_mla_qkv_bwd : Cert.Pre_finite_mla_qkv_bwd.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdRefIdeal.nD Cert.MlaBwdRefIdeal.τ Cert.MlaBwdRefIdeal.sig) → Buf (Elt Ideal) ℓ) (g' : Dev Cert.MlaBwdRefIdeal.nD → PrngReg), Pre_MlaBwdIdeal_finite_mla_qkv_bwd m →
    (∀ c : Dev Cert.MlaBwdIdeal.nD,
      m' ((c.tc : Thread Cert.MlaBwdRefIdeal.nD Cert.MlaBwdRefIdeal.τ).loc Cert.MlaBwdRefIdeal.main_arg0) = m ((c.tc : Thread Cert.MlaBwdIdeal.nD Cert.MlaBwdIdeal.τ).loc Cert.MlaBwdIdeal.main_arg0)
      ∧ m' ((c.tc : Thread Cert.MlaBwdRefIdeal.nD Cert.MlaBwdRefIdeal.τ).loc Cert.MlaBwdRefIdeal.main_arg1) = m ((c.tc : Thread Cert.MlaBwdIdeal.nD Cert.MlaBwdIdeal.τ).loc Cert.MlaBwdIdeal.main_arg1)
      ∧ m' ((c.tc : Thread Cert.MlaBwdRefIdeal.nD Cert.MlaBwdRefIdeal.τ).loc Cert.MlaBwdRefIdeal.main_arg2) = m ((c.tc : Thread Cert.MlaBwdIdeal.nD Cert.MlaBwdIdeal.τ).loc Cert.MlaBwdIdeal.main_arg2)
      ∧ m' ((c.tc : Thread Cert.MlaBwdRefIdeal.nD Cert.MlaBwdRefIdeal.τ).loc Cert.MlaBwdRefIdeal.main_arg3) = m ((c.tc : Thread Cert.MlaBwdIdeal.nD Cert.MlaBwdIdeal.τ).loc Cert.MlaBwdIdeal.main_arg3)
      ∧ m' ((c.tc : Thread Cert.MlaBwdRefIdeal.nD Cert.MlaBwdRefIdeal.τ).loc Cert.MlaBwdRefIdeal.main_arg4) = m ((c.tc : Thread Cert.MlaBwdIdeal.nD Cert.MlaBwdIdeal.τ).loc Cert.MlaBwdIdeal.main_arg4)
      ∧ m' ((c.tc : Thread Cert.MlaBwdRefIdeal.nD Cert.MlaBwdRefIdeal.τ).loc Cert.MlaBwdRefIdeal.main_arg5) = m ((c.tc : Thread Cert.MlaBwdIdeal.nD Cert.MlaBwdIdeal.τ).loc Cert.MlaBwdIdeal.main_arg5)
      ∧ m' ((c.tc : Thread Cert.MlaBwdRefIdeal.nD Cert.MlaBwdRefIdeal.τ).loc Cert.MlaBwdRefIdeal.main_arg6) = m ((c.tc : Thread Cert.MlaBwdIdeal.nD Cert.MlaBwdIdeal.τ).loc Cert.MlaBwdIdeal.main_arg6)
      ∧ m' ((c.tc : Thread Cert.MlaBwdRefIdeal.nD Cert.MlaBwdRefIdeal.τ).loc Cert.MlaBwdRefIdeal.main_arg7) = m ((c.tc : Thread Cert.MlaBwdIdeal.nD Cert.MlaBwdIdeal.τ).loc Cert.MlaBwdIdeal.main_arg7)
      ∧ m' ((c.tc : Thread Cert.MlaBwdRefIdeal.nD Cert.MlaBwdRefIdeal.τ).loc Cert.MlaBwdRefIdeal.main_arg8) = m ((c.tc : Thread Cert.MlaBwdIdeal.nD Cert.MlaBwdIdeal.τ).loc Cert.MlaBwdIdeal.main_arg8)
      ∧ m' ((c.tc : Thread Cert.MlaBwdRefIdeal.nD Cert.MlaBwdRefIdeal.τ).loc Cert.MlaBwdRefIdeal.main_arg9) = m ((c.tc : Thread Cert.MlaBwdIdeal.nD Cert.MlaBwdIdeal.τ).loc Cert.MlaBwdIdeal.main_arg9)
      ∧ m' ((c.tc : Thread Cert.MlaBwdRefIdeal.nD Cert.MlaBwdRefIdeal.τ).loc Cert.MlaBwdRefIdeal.main_arg10) = m ((c.tc : Thread Cert.MlaBwdIdeal.nD Cert.MlaBwdIdeal.τ).loc Cert.MlaBwdIdeal.main_arg10)) →
    ∃ (v0 : (c : Dev Cert.MlaBwdIdeal.nD) → Buf (Elt Ideal) ((c.tc : Thread Cert.MlaBwdIdeal.nD Cert.MlaBwdIdeal.τ).loc Cert.MlaBwdIdeal.main_v35_0)) (v1 : (c : Dev Cert.MlaBwdIdeal.nD) → Buf (Elt Ideal) ((c.tc : Thread Cert.MlaBwdIdeal.nD Cert.MlaBwdIdeal.τ).loc Cert.MlaBwdIdeal.main_v35_1)) (v2 : (c : Dev Cert.MlaBwdIdeal.nD) → Buf (Elt Ideal) ((c.tc : Thread Cert.MlaBwdIdeal.nD Cert.MlaBwdIdeal.τ).loc Cert.MlaBwdIdeal.main_v35_2)) (v3 : (c : Dev Cert.MlaBwdIdeal.nD) → Buf (Elt Ideal) ((c.tc : Thread Cert.MlaBwdIdeal.nD Cert.MlaBwdIdeal.τ).loc Cert.MlaBwdIdeal.main_v35_3)) (v4 : (c : Dev Cert.MlaBwdIdeal.nD) → Buf (Elt Ideal) ((c.tc : Thread Cert.MlaBwdIdeal.nD Cert.MlaBwdIdeal.τ).loc Cert.MlaBwdIdeal.main_v35_4)) (v5 : (c : Dev Cert.MlaBwdIdeal.nD) → Buf (Elt Ideal) ((c.tc : Thread Cert.MlaBwdIdeal.nD Cert.MlaBwdIdeal.τ).loc Cert.MlaBwdIdeal.main_v35_5)) (v6 : (c : Dev Cert.MlaBwdIdeal.nD) → Buf (Elt Ideal) ((c.tc : Thread Cert.MlaBwdIdeal.nD Cert.MlaBwdIdeal.τ).loc Cert.MlaBwdIdeal.main_v35_6)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v35_0) = v0 c
          ∧ r.2.mem ((c.tc : Thread Cert.MlaBwdIdeal.nD Cert.MlaBwdIdeal.τ).loc Cert.MlaBwdIdeal.main_v35_1) = v1 c
          ∧ r.2.mem ((c.tc : Thread Cert.MlaBwdIdeal.nD Cert.MlaBwdIdeal.τ).loc Cert.MlaBwdIdeal.main_v35_2) = v2 c
          ∧ r.2.mem ((c.tc : Thread Cert.MlaBwdIdeal.nD Cert.MlaBwdIdeal.τ).loc Cert.MlaBwdIdeal.main_v35_3) = v3 c
          ∧ r.2.mem ((c.tc : Thread Cert.MlaBwdIdeal.nD Cert.MlaBwdIdeal.τ).loc Cert.MlaBwdIdeal.main_v35_4) = v4 c
          ∧ r.2.mem ((c.tc : Thread Cert.MlaBwdIdeal.nD Cert.MlaBwdIdeal.τ).loc Cert.MlaBwdIdeal.main_v35_5) = v5 c
          ∧ r.2.mem ((c.tc : Thread Cert.MlaBwdIdeal.nD Cert.MlaBwdIdeal.τ).loc Cert.MlaBwdIdeal.main_v35_6) = v6 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
          ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
          ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
          ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
          ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9)
          ∧ r.2.mem ((c.tc : Thread Cert.MlaBwdIdeal.nD Cert.MlaBwdIdeal.τ).loc Cert.MlaBwdIdeal.main_arg10) = m ((c.tc : Thread Cert.MlaBwdIdeal.nD Cert.MlaBwdIdeal.τ).loc Cert.MlaBwdIdeal.main_arg10))
      ∧ θ_run (Cert.MlaBwdRefIdeal.defs (F := Ideal)) (onTc (τ := Cert.MlaBwdRefIdeal.τ) (Cert.MlaBwdRefIdeal.main (F := Ideal))) ⟨m', fun _ => 0, g'⟩ (fun r => ∀ c : Dev Cert.MlaBwdRefIdeal.nD,
          r.2.mem ((c.tc : Thread Cert.MlaBwdRefIdeal.nD Cert.MlaBwdRefIdeal.τ).loc Cert.MlaBwdRefIdeal.main_v137) = v0 c
          ∧ r.2.mem ((c.tc : Thread Cert.MlaBwdRefIdeal.nD Cert.MlaBwdRefIdeal.τ).loc Cert.MlaBwdRefIdeal.main_v117) = v1 c
          ∧ r.2.mem ((c.tc : Thread Cert.MlaBwdRefIdeal.nD Cert.MlaBwdRefIdeal.τ).loc Cert.MlaBwdRefIdeal.main_v84) = v2 c
          ∧ r.2.mem ((c.tc : Thread Cert.MlaBwdRefIdeal.nD Cert.MlaBwdRefIdeal.τ).loc Cert.MlaBwdRefIdeal.main_v140) = v3 c
          ∧ r.2.mem ((c.tc : Thread Cert.MlaBwdRefIdeal.nD Cert.MlaBwdRefIdeal.τ).loc Cert.MlaBwdRefIdeal.main_v143) = v4 c
          ∧ r.2.mem ((c.tc : Thread Cert.MlaBwdRefIdeal.nD Cert.MlaBwdRefIdeal.τ).loc Cert.MlaBwdRefIdeal.main_v121) = v5 c
          ∧ r.2.mem ((c.tc : Thread Cert.MlaBwdRefIdeal.nD Cert.MlaBwdRefIdeal.τ).loc Cert.MlaBwdRefIdeal.main_v101) = v6 c
          ∧ r.2.mem ((c.tc : Thread Cert.MlaBwdRefIdeal.nD Cert.MlaBwdRefIdeal.τ).loc Cert.MlaBwdRefIdeal.main_arg0) = m' ((c.tc : Thread Cert.MlaBwdRefIdeal.nD Cert.MlaBwdRefIdeal.τ).loc Cert.MlaBwdRefIdeal.main_arg0)
          ∧ r.2.mem ((c.tc : Thread Cert.MlaBwdRefIdeal.nD Cert.MlaBwdRefIdeal.τ).loc Cert.MlaBwdRefIdeal.main_arg1) = m' ((c.tc : Thread Cert.MlaBwdRefIdeal.nD Cert.MlaBwdRefIdeal.τ).loc Cert.MlaBwdRefIdeal.main_arg1)
          ∧ r.2.mem ((c.tc : Thread Cert.MlaBwdRefIdeal.nD Cert.MlaBwdRefIdeal.τ).loc Cert.MlaBwdRefIdeal.main_arg2) = m' ((c.tc : Thread Cert.MlaBwdRefIdeal.nD Cert.MlaBwdRefIdeal.τ).loc Cert.MlaBwdRefIdeal.main_arg2)
          ∧ r.2.mem ((c.tc : Thread Cert.MlaBwdRefIdeal.nD Cert.MlaBwdRefIdeal.τ).loc Cert.MlaBwdRefIdeal.main_arg3) = m' ((c.tc : Thread Cert.MlaBwdRefIdeal.nD Cert.MlaBwdRefIdeal.τ).loc Cert.MlaBwdRefIdeal.main_arg3)
          ∧ r.2.mem ((c.tc : Thread Cert.MlaBwdRefIdeal.nD Cert.MlaBwdRefIdeal.τ).loc Cert.MlaBwdRefIdeal.main_arg4) = m' ((c.tc : Thread Cert.MlaBwdRefIdeal.nD Cert.MlaBwdRefIdeal.τ).loc Cert.MlaBwdRefIdeal.main_arg4)
          ∧ r.2.mem ((c.tc : Thread Cert.MlaBwdRefIdeal.nD Cert.MlaBwdRefIdeal.τ).loc Cert.MlaBwdRefIdeal.main_arg5) = m' ((c.tc : Thread Cert.MlaBwdRefIdeal.nD Cert.MlaBwdRefIdeal.τ).loc Cert.MlaBwdRefIdeal.main_arg5)
          ∧ r.2.mem ((c.tc : Thread Cert.MlaBwdRefIdeal.nD Cert.MlaBwdRefIdeal.τ).loc Cert.MlaBwdRefIdeal.main_arg6) = m' ((c.tc : Thread Cert.MlaBwdRefIdeal.nD Cert.MlaBwdRefIdeal.τ).loc Cert.MlaBwdRefIdeal.main_arg6)
          ∧ r.2.mem ((c.tc : Thread Cert.MlaBwdRefIdeal.nD Cert.MlaBwdRefIdeal.τ).loc Cert.MlaBwdRefIdeal.main_arg7) = m' ((c.tc : Thread Cert.MlaBwdRefIdeal.nD Cert.MlaBwdRefIdeal.τ).loc Cert.MlaBwdRefIdeal.main_arg7)
          ∧ r.2.mem ((c.tc : Thread Cert.MlaBwdRefIdeal.nD Cert.MlaBwdRefIdeal.τ).loc Cert.MlaBwdRefIdeal.main_arg8) = m' ((c.tc : Thread Cert.MlaBwdRefIdeal.nD Cert.MlaBwdRefIdeal.τ).loc Cert.MlaBwdRefIdeal.main_arg8)
          ∧ r.2.mem ((c.tc : Thread Cert.MlaBwdRefIdeal.nD Cert.MlaBwdRefIdeal.τ).loc Cert.MlaBwdRefIdeal.main_arg9) = m' ((c.tc : Thread Cert.MlaBwdRefIdeal.nD Cert.MlaBwdRefIdeal.τ).loc Cert.MlaBwdRefIdeal.main_arg9)
          ∧ r.2.mem ((c.tc : Thread Cert.MlaBwdRefIdeal.nD Cert.MlaBwdRefIdeal.τ).loc Cert.MlaBwdRefIdeal.main_arg10) = m' ((c.tc : Thread Cert.MlaBwdRefIdeal.nD Cert.MlaBwdRefIdeal.τ).loc Cert.MlaBwdRefIdeal.main_arg10))

def preserves_MixInBwd_MixInBwdIdeal : Prop :=
  True

def algebraic_MixInBwdIdeal_MixInBwdRefIdeal_pre_finite_mix_in_bwd [hMixInBwdIdeal : Cert.MixInBwdIdeal.Facts] [hMixInBwdRefIdeal : Cert.MixInBwdRefIdeal.Facts] [hPre_finite_mix_in_bwd : Cert.Pre_finite_mix_in_bwd.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg)
    (m' : (ℓ : Loc Cert.MixInBwdRefIdeal.nD Cert.MixInBwdRefIdeal.τ Cert.MixInBwdRefIdeal.sig) → Buf (Elt Ideal) ℓ) (g' : Dev Cert.MixInBwdRefIdeal.nD → PrngReg), Pre_MixInBwdIdeal_finite_mix_in_bwd m →
    (∀ c : Dev Cert.MixInBwdIdeal.nD,
      m' ((c.tc : Thread Cert.MixInBwdRefIdeal.nD Cert.MixInBwdRefIdeal.τ).loc Cert.MixInBwdRefIdeal.main_arg0) = m ((c.tc : Thread Cert.MixInBwdIdeal.nD Cert.MixInBwdIdeal.τ).loc Cert.MixInBwdIdeal.main_arg0)
      ∧ m' ((c.tc : Thread Cert.MixInBwdRefIdeal.nD Cert.MixInBwdRefIdeal.τ).loc Cert.MixInBwdRefIdeal.main_arg1) = m ((c.tc : Thread Cert.MixInBwdIdeal.nD Cert.MixInBwdIdeal.τ).loc Cert.MixInBwdIdeal.main_arg1)
      ∧ m' ((c.tc : Thread Cert.MixInBwdRefIdeal.nD Cert.MixInBwdRefIdeal.τ).loc Cert.MixInBwdRefIdeal.main_arg2) = m ((c.tc : Thread Cert.MixInBwdIdeal.nD Cert.MixInBwdIdeal.τ).loc Cert.MixInBwdIdeal.main_arg2)
      ∧ m' ((c.tc : Thread Cert.MixInBwdRefIdeal.nD Cert.MixInBwdRefIdeal.τ).loc Cert.MixInBwdRefIdeal.main_arg3) = m ((c.tc : Thread Cert.MixInBwdIdeal.nD Cert.MixInBwdIdeal.τ).loc Cert.MixInBwdIdeal.main_arg3)
      ∧ m' ((c.tc : Thread Cert.MixInBwdRefIdeal.nD Cert.MixInBwdRefIdeal.τ).loc Cert.MixInBwdRefIdeal.main_arg4) = m ((c.tc : Thread Cert.MixInBwdIdeal.nD Cert.MixInBwdIdeal.τ).loc Cert.MixInBwdIdeal.main_arg4)
      ∧ m' ((c.tc : Thread Cert.MixInBwdRefIdeal.nD Cert.MixInBwdRefIdeal.τ).loc Cert.MixInBwdRefIdeal.main_arg5) = m ((c.tc : Thread Cert.MixInBwdIdeal.nD Cert.MixInBwdIdeal.τ).loc Cert.MixInBwdIdeal.main_arg5)
      ∧ m' ((c.tc : Thread Cert.MixInBwdRefIdeal.nD Cert.MixInBwdRefIdeal.τ).loc Cert.MixInBwdRefIdeal.main_arg6) = m ((c.tc : Thread Cert.MixInBwdIdeal.nD Cert.MixInBwdIdeal.τ).loc Cert.MixInBwdIdeal.main_arg6)
      ∧ m' ((c.tc : Thread Cert.MixInBwdRefIdeal.nD Cert.MixInBwdRefIdeal.τ).loc Cert.MixInBwdRefIdeal.main_arg7) = m ((c.tc : Thread Cert.MixInBwdIdeal.nD Cert.MixInBwdIdeal.τ).loc Cert.MixInBwdIdeal.main_arg7)
      ∧ m' ((c.tc : Thread Cert.MixInBwdRefIdeal.nD Cert.MixInBwdRefIdeal.τ).loc Cert.MixInBwdRefIdeal.main_arg8) = m ((c.tc : Thread Cert.MixInBwdIdeal.nD Cert.MixInBwdIdeal.τ).loc Cert.MixInBwdIdeal.main_arg8)
      ∧ m' ((c.tc : Thread Cert.MixInBwdRefIdeal.nD Cert.MixInBwdRefIdeal.τ).loc Cert.MixInBwdRefIdeal.main_arg9) = m ((c.tc : Thread Cert.MixInBwdIdeal.nD Cert.MixInBwdIdeal.τ).loc Cert.MixInBwdIdeal.main_arg9)) →
    ∃ (v0 : (c : Dev Cert.MixInBwdIdeal.nD) → Buf (Elt Ideal) ((c.tc : Thread Cert.MixInBwdIdeal.nD Cert.MixInBwdIdeal.τ).loc Cert.MixInBwdIdeal.main_v2_0)) (v1 : (c : Dev Cert.MixInBwdIdeal.nD) → Buf (Elt Ideal) ((c.tc : Thread Cert.MixInBwdIdeal.nD Cert.MixInBwdIdeal.τ).loc Cert.MixInBwdIdeal.main_v2_1)) (v2 : (c : Dev Cert.MixInBwdIdeal.nD) → Buf (Elt Ideal) ((c.tc : Thread Cert.MixInBwdIdeal.nD Cert.MixInBwdIdeal.τ).loc Cert.MixInBwdIdeal.main_v2_2)),
      θ_run (Cert.MixInBwdIdeal.defs (F := Ideal)) (onTc (τ := Cert.MixInBwdIdeal.τ) (Cert.MixInBwdIdeal.main (F := Ideal))) ⟨m, fun _ => 0, g⟩ (fun r => ∀ c : Dev Cert.MixInBwdIdeal.nD,
          r.2.mem ((c.tc : Thread Cert.MixInBwdIdeal.nD Cert.MixInBwdIdeal.τ).loc Cert.MixInBwdIdeal.main_v2_0) = v0 c
          ∧ r.2.mem ((c.tc : Thread Cert.MixInBwdIdeal.nD Cert.MixInBwdIdeal.τ).loc Cert.MixInBwdIdeal.main_v2_1) = v1 c
          ∧ r.2.mem ((c.tc : Thread Cert.MixInBwdIdeal.nD Cert.MixInBwdIdeal.τ).loc Cert.MixInBwdIdeal.main_v2_2) = v2 c
          ∧ r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
          ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
          ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
          ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
          ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
          ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5)
          ∧ r.2.mem ((c.tc : Thread Cert.MixInBwdIdeal.nD Cert.MixInBwdIdeal.τ).loc Cert.MixInBwdIdeal.main_arg6) = m ((c.tc : Thread Cert.MixInBwdIdeal.nD Cert.MixInBwdIdeal.τ).loc Cert.MixInBwdIdeal.main_arg6)
          ∧ r.2.mem ((c.tc : Thread Cert.MixInBwdIdeal.nD Cert.MixInBwdIdeal.τ).loc Cert.MixInBwdIdeal.main_arg7) = m ((c.tc : Thread Cert.MixInBwdIdeal.nD Cert.MixInBwdIdeal.τ).loc Cert.MixInBwdIdeal.main_arg7)
          ∧ r.2.mem ((c.tc : Thread Cert.MixInBwdIdeal.nD Cert.MixInBwdIdeal.τ).loc Cert.MixInBwdIdeal.main_arg8) = m ((c.tc : Thread Cert.MixInBwdIdeal.nD Cert.MixInBwdIdeal.τ).loc Cert.MixInBwdIdeal.main_arg8)
          ∧ r.2.mem ((c.tc : Thread Cert.MixInBwdIdeal.nD Cert.MixInBwdIdeal.τ).loc Cert.MixInBwdIdeal.main_arg9) = m ((c.tc : Thread Cert.MixInBwdIdeal.nD Cert.MixInBwdIdeal.τ).loc Cert.MixInBwdIdeal.main_arg9))
      ∧ θ_run (Cert.MixInBwdRefIdeal.defs (F := Ideal)) (onTc (τ := Cert.MixInBwdRefIdeal.τ) (Cert.MixInBwdRefIdeal.main (F := Ideal))) ⟨m', fun _ => 0, g'⟩ (fun r => ∀ c : Dev Cert.MixInBwdRefIdeal.nD,
          r.2.mem ((c.tc : Thread Cert.MixInBwdRefIdeal.nD Cert.MixInBwdRefIdeal.τ).loc Cert.MixInBwdRefIdeal.main_v60) = v0 c
          ∧ r.2.mem ((c.tc : Thread Cert.MixInBwdRefIdeal.nD Cert.MixInBwdRefIdeal.τ).loc Cert.MixInBwdRefIdeal.main_v63) = v1 c
          ∧ r.2.mem ((c.tc : Thread Cert.MixInBwdRefIdeal.nD Cert.MixInBwdRefIdeal.τ).loc Cert.MixInBwdRefIdeal.main_v64) = v2 c
          ∧ r.2.mem ((c.tc : Thread Cert.MixInBwdRefIdeal.nD Cert.MixInBwdRefIdeal.τ).loc Cert.MixInBwdRefIdeal.main_arg0) = m' ((c.tc : Thread Cert.MixInBwdRefIdeal.nD Cert.MixInBwdRefIdeal.τ).loc Cert.MixInBwdRefIdeal.main_arg0)
          ∧ r.2.mem ((c.tc : Thread Cert.MixInBwdRefIdeal.nD Cert.MixInBwdRefIdeal.τ).loc Cert.MixInBwdRefIdeal.main_arg1) = m' ((c.tc : Thread Cert.MixInBwdRefIdeal.nD Cert.MixInBwdRefIdeal.τ).loc Cert.MixInBwdRefIdeal.main_arg1)
          ∧ r.2.mem ((c.tc : Thread Cert.MixInBwdRefIdeal.nD Cert.MixInBwdRefIdeal.τ).loc Cert.MixInBwdRefIdeal.main_arg2) = m' ((c.tc : Thread Cert.MixInBwdRefIdeal.nD Cert.MixInBwdRefIdeal.τ).loc Cert.MixInBwdRefIdeal.main_arg2)
          ∧ r.2.mem ((c.tc : Thread Cert.MixInBwdRefIdeal.nD Cert.MixInBwdRefIdeal.τ).loc Cert.MixInBwdRefIdeal.main_arg3) = m' ((c.tc : Thread Cert.MixInBwdRefIdeal.nD Cert.MixInBwdRefIdeal.τ).loc Cert.MixInBwdRefIdeal.main_arg3)
          ∧ r.2.mem ((c.tc : Thread Cert.MixInBwdRefIdeal.nD Cert.MixInBwdRefIdeal.τ).loc Cert.MixInBwdRefIdeal.main_arg4) = m' ((c.tc : Thread Cert.MixInBwdRefIdeal.nD Cert.MixInBwdRefIdeal.τ).loc Cert.MixInBwdRefIdeal.main_arg4)
          ∧ r.2.mem ((c.tc : Thread Cert.MixInBwdRefIdeal.nD Cert.MixInBwdRefIdeal.τ).loc Cert.MixInBwdRefIdeal.main_arg5) = m' ((c.tc : Thread Cert.MixInBwdRefIdeal.nD Cert.MixInBwdRefIdeal.τ).loc Cert.MixInBwdRefIdeal.main_arg5)
          ∧ r.2.mem ((c.tc : Thread Cert.MixInBwdRefIdeal.nD Cert.MixInBwdRefIdeal.τ).loc Cert.MixInBwdRefIdeal.main_arg6) = m' ((c.tc : Thread Cert.MixInBwdRefIdeal.nD Cert.MixInBwdRefIdeal.τ).loc Cert.MixInBwdRefIdeal.main_arg6)
          ∧ r.2.mem ((c.tc : Thread Cert.MixInBwdRefIdeal.nD Cert.MixInBwdRefIdeal.τ).loc Cert.MixInBwdRefIdeal.main_arg7) = m' ((c.tc : Thread Cert.MixInBwdRefIdeal.nD Cert.MixInBwdRefIdeal.τ).loc Cert.MixInBwdRefIdeal.main_arg7)
          ∧ r.2.mem ((c.tc : Thread Cert.MixInBwdRefIdeal.nD Cert.MixInBwdRefIdeal.τ).loc Cert.MixInBwdRefIdeal.main_arg8) = m' ((c.tc : Thread Cert.MixInBwdRefIdeal.nD Cert.MixInBwdRefIdeal.τ).loc Cert.MixInBwdRefIdeal.main_arg8)
          ∧ r.2.mem ((c.tc : Thread Cert.MixInBwdRefIdeal.nD Cert.MixInBwdRefIdeal.τ).loc Cert.MixInBwdRefIdeal.main_arg9) = m' ((c.tc : Thread Cert.MixInBwdRefIdeal.nD Cert.MixInBwdRefIdeal.τ).loc Cert.MixInBwdRefIdeal.main_arg9))

def preserves_AdaBwd_AdaBwdIdeal : Prop :=
  True

def algebraic_AdaBwdIdeal_AdaBwdRefIdeal_pre_finite_ada_bwd [hAdaBwdIdeal : Cert.AdaBwdIdeal.Facts] [hAdaBwdRefIdeal : Cert.AdaBwdRefIdeal.Facts] [hPre_finite_ada_bwd : Cert.Pre_finite_ada_bwd.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal_finite_ada_bwd m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v7) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3))

def preserves_OutProj_OutProjIdeal : Prop :=
  True

def algebraic_OutProjIdeal_OutProjRefIdeal_pre_finite_out_proj [hOutProjIdeal : Cert.OutProjIdeal.Facts] [hOutProjRefIdeal : Cert.OutProjRefIdeal.Facts] [hPre_finite_out_proj : Cert.Pre_finite_out_proj.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_out_proj m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v3_0)) (v3 : (c : Dev Cert.OutProjIdeal.nD) → Buf (Elt Ideal) ((c.tc : Thread Cert.OutProjIdeal.nD Cert.OutProjIdeal.τ).loc Cert.OutProjIdeal.main_v3_1)) (v4 : (c : Dev Cert.OutProjIdeal.nD) → Buf (Elt Ideal) ((c.tc : Thread Cert.OutProjIdeal.nD Cert.OutProjIdeal.τ).loc Cert.OutProjIdeal.main_v3_2)) (v5 : (c : Dev Cert.OutProjIdeal.nD) → Buf (Elt Ideal) ((c.tc : Thread Cert.OutProjIdeal.nD Cert.OutProjIdeal.τ).loc Cert.OutProjIdeal.main_v3_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v3_0) = v2 c
          ∧ r.2.mem ((c.tc : Thread Cert.OutProjIdeal.nD Cert.OutProjIdeal.τ).loc Cert.OutProjIdeal.main_v3_1) = v3 c
          ∧ r.2.mem ((c.tc : Thread Cert.OutProjIdeal.nD Cert.OutProjIdeal.τ).loc Cert.OutProjIdeal.main_v3_2) = v4 c
          ∧ r.2.mem ((c.tc : Thread Cert.OutProjIdeal.nD Cert.OutProjIdeal.τ).loc Cert.OutProjIdeal.main_v3_3) = v5 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_v16) = v2 c
          ∧ r.2.mem ((c.tc : Thread Cert.OutProjRefIdeal.nD Cert.OutProjRefIdeal.τ).loc Cert.OutProjRefIdeal.main_v11) = v3 c
          ∧ r.2.mem ((c.tc : Thread Cert.OutProjRefIdeal.nD Cert.OutProjRefIdeal.τ).loc Cert.OutProjRefIdeal.main_v12) = v4 c
          ∧ r.2.mem ((c.tc : Thread Cert.OutProjRefIdeal.nD Cert.OutProjRefIdeal.τ).loc Cert.OutProjRefIdeal.main_v9) = v5 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)) (v2 : (c : Dev Cert.FfnIdeal.nD) → Buf (Elt Ideal) ((c.tc : Thread Cert.FfnIdeal.nD Cert.FfnIdeal.τ).loc Cert.FfnIdeal.main_v8_2)) (v3 : (c : Dev Cert.FfnIdeal.nD) → Buf (Elt Ideal) ((c.tc : Thread Cert.FfnIdeal.nD Cert.FfnIdeal.τ).loc Cert.FfnIdeal.main_v9_0)) (v4 : (c : Dev Cert.FfnIdeal.nD) → Buf (Elt Ideal) ((c.tc : Thread Cert.FfnIdeal.nD Cert.FfnIdeal.τ).loc Cert.FfnIdeal.main_v9_1)) (v5 : (c : Dev Cert.FfnIdeal.nD) → Buf (Elt Ideal) ((c.tc : Thread Cert.FfnIdeal.nD Cert.FfnIdeal.τ).loc Cert.FfnIdeal.main_v9_2)) (v6 : (c : Dev Cert.FfnIdeal.nD) → Buf (Elt Ideal) ((c.tc : Thread Cert.FfnIdeal.nD Cert.FfnIdeal.τ).loc Cert.FfnIdeal.main_v10_0)) (v7 : (c : Dev Cert.FfnIdeal.nD) → Buf (Elt Ideal) ((c.tc : Thread Cert.FfnIdeal.nD Cert.FfnIdeal.τ).loc Cert.FfnIdeal.main_v10_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_v8_2) = v2 c
          ∧ r.2.mem ((c.tc : Thread Cert.FfnIdeal.nD Cert.FfnIdeal.τ).loc Cert.FfnIdeal.main_v9_0) = v3 c
          ∧ r.2.mem ((c.tc : Thread Cert.FfnIdeal.nD Cert.FfnIdeal.τ).loc Cert.FfnIdeal.main_v9_1) = v4 c
          ∧ r.2.mem ((c.tc : Thread Cert.FfnIdeal.nD Cert.FfnIdeal.τ).loc Cert.FfnIdeal.main_v9_2) = v5 c
          ∧ r.2.mem ((c.tc : Thread Cert.FfnIdeal.nD Cert.FfnIdeal.τ).loc Cert.FfnIdeal.main_v10_0) = v6 c
          ∧ r.2.mem ((c.tc : Thread Cert.FfnIdeal.nD Cert.FfnIdeal.τ).loc Cert.FfnIdeal.main_v10_1) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_v73) = v1 c
          ∧ r.2.mem ((c.tc : Thread Cert.FfnRefIdeal.nD Cert.FfnRefIdeal.τ).loc Cert.FfnRefIdeal.main_v76) = v2 c
          ∧ r.2.mem ((c.tc : Thread Cert.FfnRefIdeal.nD Cert.FfnRefIdeal.τ).loc Cert.FfnRefIdeal.main_v77) = v3 c
          ∧ r.2.mem ((c.tc : Thread Cert.FfnRefIdeal.nD Cert.FfnRefIdeal.τ).loc Cert.FfnRefIdeal.main_v80) = v4 c
          ∧ r.2.mem ((c.tc : Thread Cert.FfnRefIdeal.nD Cert.FfnRefIdeal.τ).loc Cert.FfnRefIdeal.main_v83) = v5 c
          ∧ r.2.mem ((c.tc : Thread Cert.FfnRefIdeal.nD Cert.FfnRefIdeal.τ).loc Cert.FfnRefIdeal.main_v84) = v6 c
          ∧ r.2.mem ((c.tc : Thread Cert.FfnRefIdeal.nD Cert.FfnRefIdeal.τ).loc Cert.FfnRefIdeal.main_v85) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_AttnFwd_AttnFwdIdeal : Prop :=
  IdealRules.named_const.Statement Cert.AttnFwdIdeal.κ "mask" .f32 0xF149F2CA#32 ⊥

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v26) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_PoolBwd_PoolBwdIdeal : Prop :=
  True

def algebraic_PoolBwdIdeal_PoolBwdRefIdeal_pre_finite_pool_bwd [hPoolBwdIdeal : Cert.PoolBwdIdeal.Facts] [hPoolBwdRefIdeal : Cert.PoolBwdRefIdeal.Facts] [hPre_finite_pool_bwd : Cert.Pre_finite_pool_bwd.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite_pool_bwd m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v0_0)) (v1 : (c : Dev Cert.PoolBwdIdeal.nD) → Buf (Elt Ideal) ((c.tc : Thread Cert.PoolBwdIdeal.nD Cert.PoolBwdIdeal.τ).loc Cert.PoolBwdIdeal.main_v1_0)) (v2 : (c : Dev Cert.PoolBwdIdeal.nD) → Buf (Elt Ideal) ((c.tc : Thread Cert.PoolBwdIdeal.nD Cert.PoolBwdIdeal.τ).loc Cert.PoolBwdIdeal.main_v1_1)) (v3 : (c : Dev Cert.PoolBwdIdeal.nD) → Buf (Elt Ideal) ((c.tc : Thread Cert.PoolBwdIdeal.nD Cert.PoolBwdIdeal.τ).loc Cert.PoolBwdIdeal.main_v1_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v0_0) = v0 c
          ∧ r.2.mem ((c.tc : Thread Cert.PoolBwdIdeal.nD Cert.PoolBwdIdeal.τ).loc Cert.PoolBwdIdeal.main_v1_0) = v1 c
          ∧ r.2.mem ((c.tc : Thread Cert.PoolBwdIdeal.nD Cert.PoolBwdIdeal.τ).loc Cert.PoolBwdIdeal.main_v1_1) = v2 c
          ∧ r.2.mem ((c.tc : Thread Cert.PoolBwdIdeal.nD Cert.PoolBwdIdeal.τ).loc Cert.PoolBwdIdeal.main_v1_2) = v3 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v69) = v0 c
          ∧ r.2.mem ((c.tc : Thread Cert.PoolBwdRefIdeal.nD Cert.PoolBwdRefIdeal.τ).loc Cert.PoolBwdRefIdeal.main_v127) = v1 c
          ∧ r.2.mem ((c.tc : Thread Cert.PoolBwdRefIdeal.nD Cert.PoolBwdRefIdeal.τ).loc Cert.PoolBwdRefIdeal.main_v80) = v2 c
          ∧ r.2.mem ((c.tc : Thread Cert.PoolBwdRefIdeal.nD Cert.PoolBwdRefIdeal.τ).loc Cert.PoolBwdRefIdeal.main_v72) = v3 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)) (v2 : (c : Dev Cert.MixInIdeal.nD) → Buf (Elt Ideal) ((c.tc : Thread Cert.MixInIdeal.nD Cert.MixInIdeal.τ).loc Cert.MixInIdeal.main_v2_2)) (v3 : (c : Dev Cert.MixInIdeal.nD) → Buf (Elt Ideal) ((c.tc : Thread Cert.MixInIdeal.nD Cert.MixInIdeal.τ).loc Cert.MixInIdeal.main_v2_3)) (v4 : (c : Dev Cert.MixInIdeal.nD) → Buf (Elt Ideal) ((c.tc : Thread Cert.MixInIdeal.nD Cert.MixInIdeal.τ).loc Cert.MixInIdeal.main_v2_4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_v2_2) = v2 c
          ∧ r.2.mem ((c.tc : Thread Cert.MixInIdeal.nD Cert.MixInIdeal.τ).loc Cert.MixInIdeal.main_v2_3) = v3 c
          ∧ r.2.mem ((c.tc : Thread Cert.MixInIdeal.nD Cert.MixInIdeal.τ).loc Cert.MixInIdeal.main_v2_4) = v4 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v19) = v0 c
          ∧ r.2.mem ((c.tc : Thread Cert.MixInRefIdeal.nD Cert.MixInRefIdeal.τ).loc Cert.MixInRefIdeal.main_v20) = v1 c
          ∧ r.2.mem ((c.tc : Thread Cert.MixInRefIdeal.nD Cert.MixInRefIdeal.τ).loc Cert.MixInRefIdeal.main_v21) = v2 c
          ∧ r.2.mem ((c.tc : Thread Cert.MixInRefIdeal.nD Cert.MixInRefIdeal.τ).loc Cert.MixInRefIdeal.main_v22) = v3 c
          ∧ r.2.mem ((c.tc : Thread Cert.MixInRefIdeal.nD Cert.MixInRefIdeal.τ).loc Cert.MixInRefIdeal.main_v23) = v4 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_MlaFwd_MlaFwdIdeal : Prop :=
  True

def algebraic_MlaFwdIdeal_MlaFwdRefIdeal_pre_finite_mla_qkv_fwd [hMlaFwdIdeal : Cert.MlaFwdIdeal.Facts] [hMlaFwdRefIdeal : Cert.MlaFwdRefIdeal.Facts] [hPre_finite_mla_qkv_fwd : Cert.Pre_finite_mla_qkv_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_mla_qkv_fwd m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)
      ∧ m' ((c.tc : Thread Cert.MlaFwdRefIdeal.nD Cert.MlaFwdRefIdeal.τ).loc Cert.MlaFwdRefIdeal.main_arg3) = m ((c.tc : Thread Cert.MlaFwdIdeal.nD Cert.MlaFwdIdeal.τ).loc Cert.MlaFwdIdeal.main_arg3)
      ∧ m' ((c.tc : Thread Cert.MlaFwdRefIdeal.nD Cert.MlaFwdRefIdeal.τ).loc Cert.MlaFwdRefIdeal.main_arg4) = m ((c.tc : Thread Cert.MlaFwdIdeal.nD Cert.MlaFwdIdeal.τ).loc Cert.MlaFwdIdeal.main_arg4)
      ∧ m' ((c.tc : Thread Cert.MlaFwdRefIdeal.nD Cert.MlaFwdRefIdeal.τ).loc Cert.MlaFwdRefIdeal.main_arg5) = m ((c.tc : Thread Cert.MlaFwdIdeal.nD Cert.MlaFwdIdeal.τ).loc Cert.MlaFwdIdeal.main_arg5)
      ∧ m' ((c.tc : Thread Cert.MlaFwdRefIdeal.nD Cert.MlaFwdRefIdeal.τ).loc Cert.MlaFwdRefIdeal.main_arg6) = m ((c.tc : Thread Cert.MlaFwdIdeal.nD Cert.MlaFwdIdeal.τ).loc Cert.MlaFwdIdeal.main_arg6)
      ∧ m' ((c.tc : Thread Cert.MlaFwdRefIdeal.nD Cert.MlaFwdRefIdeal.τ).loc Cert.MlaFwdRefIdeal.main_arg7) = m ((c.tc : Thread Cert.MlaFwdIdeal.nD Cert.MlaFwdIdeal.τ).loc Cert.MlaFwdIdeal.main_arg7)
      ∧ m' ((c.tc : Thread Cert.MlaFwdRefIdeal.nD Cert.MlaFwdRefIdeal.τ).loc Cert.MlaFwdRefIdeal.main_arg8) = m ((c.tc : Thread Cert.MlaFwdIdeal.nD Cert.MlaFwdIdeal.τ).loc Cert.MlaFwdIdeal.main_arg8)) →
    ∃ (v0 : (c : Dev Cert.MlaFwdIdeal.nD) → Buf (Elt Ideal) ((c.tc : Thread Cert.MlaFwdIdeal.nD Cert.MlaFwdIdeal.τ).loc Cert.MlaFwdIdeal.main_v34_0)) (v1 : (c : Dev Cert.MlaFwdIdeal.nD) → Buf (Elt Ideal) ((c.tc : Thread Cert.MlaFwdIdeal.nD Cert.MlaFwdIdeal.τ).loc Cert.MlaFwdIdeal.main_v34_1)) (v2 : (c : Dev Cert.MlaFwdIdeal.nD) → Buf (Elt Ideal) ((c.tc : Thread Cert.MlaFwdIdeal.nD Cert.MlaFwdIdeal.τ).loc Cert.MlaFwdIdeal.main_v34_2)) (v3 : (c : Dev Cert.MlaFwdIdeal.nD) → Buf (Elt Ideal) ((c.tc : Thread Cert.MlaFwdIdeal.nD Cert.MlaFwdIdeal.τ).loc Cert.MlaFwdIdeal.main_v34_3)) (v4 : (c : Dev Cert.MlaFwdIdeal.nD) → Buf (Elt Ideal) ((c.tc : Thread Cert.MlaFwdIdeal.nD Cert.MlaFwdIdeal.τ).loc Cert.MlaFwdIdeal.main_v34_4)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v34_0) = v0 c
          ∧ r.2.mem ((c.tc : Thread Cert.MlaFwdIdeal.nD Cert.MlaFwdIdeal.τ).loc Cert.MlaFwdIdeal.main_v34_1) = v1 c
          ∧ r.2.mem ((c.tc : Thread Cert.MlaFwdIdeal.nD Cert.MlaFwdIdeal.τ).loc Cert.MlaFwdIdeal.main_v34_2) = v2 c
          ∧ r.2.mem ((c.tc : Thread Cert.MlaFwdIdeal.nD Cert.MlaFwdIdeal.τ).loc Cert.MlaFwdIdeal.main_v34_3) = v3 c
          ∧ r.2.mem ((c.tc : Thread Cert.MlaFwdIdeal.nD Cert.MlaFwdIdeal.τ).loc Cert.MlaFwdIdeal.main_v34_4) = v4 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
          ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3)
          ∧ r.2.mem ((c.tc : Thread Cert.MlaFwdIdeal.nD Cert.MlaFwdIdeal.τ).loc Cert.MlaFwdIdeal.main_arg4) = m ((c.tc : Thread Cert.MlaFwdIdeal.nD Cert.MlaFwdIdeal.τ).loc Cert.MlaFwdIdeal.main_arg4)
          ∧ r.2.mem ((c.tc : Thread Cert.MlaFwdIdeal.nD Cert.MlaFwdIdeal.τ).loc Cert.MlaFwdIdeal.main_arg5) = m ((c.tc : Thread Cert.MlaFwdIdeal.nD Cert.MlaFwdIdeal.τ).loc Cert.MlaFwdIdeal.main_arg5)
          ∧ r.2.mem ((c.tc : Thread Cert.MlaFwdIdeal.nD Cert.MlaFwdIdeal.τ).loc Cert.MlaFwdIdeal.main_arg6) = m ((c.tc : Thread Cert.MlaFwdIdeal.nD Cert.MlaFwdIdeal.τ).loc Cert.MlaFwdIdeal.main_arg6)
          ∧ r.2.mem ((c.tc : Thread Cert.MlaFwdIdeal.nD Cert.MlaFwdIdeal.τ).loc Cert.MlaFwdIdeal.main_arg7) = m ((c.tc : Thread Cert.MlaFwdIdeal.nD Cert.MlaFwdIdeal.τ).loc Cert.MlaFwdIdeal.main_arg7)
          ∧ r.2.mem ((c.tc : Thread Cert.MlaFwdIdeal.nD Cert.MlaFwdIdeal.τ).loc Cert.MlaFwdIdeal.main_arg8) = m ((c.tc : Thread Cert.MlaFwdIdeal.nD Cert.MlaFwdIdeal.τ).loc Cert.MlaFwdIdeal.main_arg8))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v57) = v0 c
          ∧ r.2.mem ((c.tc : Thread Cert.MlaFwdRefIdeal.nD Cert.MlaFwdRefIdeal.τ).loc Cert.MlaFwdRefIdeal.main_v58) = v1 c
          ∧ r.2.mem ((c.tc : Thread Cert.MlaFwdRefIdeal.nD Cert.MlaFwdRefIdeal.τ).loc Cert.MlaFwdRefIdeal.main_v59) = v2 c
          ∧ r.2.mem ((c.tc : Thread Cert.MlaFwdRefIdeal.nD Cert.MlaFwdRefIdeal.τ).loc Cert.MlaFwdRefIdeal.main_v60) = v3 c
          ∧ r.2.mem ((c.tc : Thread Cert.MlaFwdRefIdeal.nD Cert.MlaFwdRefIdeal.τ).loc Cert.MlaFwdRefIdeal.main_v61) = v4 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2)
          ∧ r.2.mem ((c.tc : Thread Cert.MlaFwdRefIdeal.nD Cert.MlaFwdRefIdeal.τ).loc Cert.MlaFwdRefIdeal.main_arg3) = m' ((c.tc : Thread Cert.MlaFwdRefIdeal.nD Cert.MlaFwdRefIdeal.τ).loc Cert.MlaFwdRefIdeal.main_arg3)
          ∧ r.2.mem ((c.tc : Thread Cert.MlaFwdRefIdeal.nD Cert.MlaFwdRefIdeal.τ).loc Cert.MlaFwdRefIdeal.main_arg4) = m' ((c.tc : Thread Cert.MlaFwdRefIdeal.nD Cert.MlaFwdRefIdeal.τ).loc Cert.MlaFwdRefIdeal.main_arg4)
          ∧ r.2.mem ((c.tc : Thread Cert.MlaFwdRefIdeal.nD Cert.MlaFwdRefIdeal.τ).loc Cert.MlaFwdRefIdeal.main_arg5) = m' ((c.tc : Thread Cert.MlaFwdRefIdeal.nD Cert.MlaFwdRefIdeal.τ).loc Cert.MlaFwdRefIdeal.main_arg5)
          ∧ r.2.mem ((c.tc : Thread Cert.MlaFwdRefIdeal.nD Cert.MlaFwdRefIdeal.τ).loc Cert.MlaFwdRefIdeal.main_arg6) = m' ((c.tc : Thread Cert.MlaFwdRefIdeal.nD Cert.MlaFwdRefIdeal.τ).loc Cert.MlaFwdRefIdeal.main_arg6)
          ∧ r.2.mem ((c.tc : Thread Cert.MlaFwdRefIdeal.nD Cert.MlaFwdRefIdeal.τ).loc Cert.MlaFwdRefIdeal.main_arg7) = m' ((c.tc : Thread Cert.MlaFwdRefIdeal.nD Cert.MlaFwdRefIdeal.τ).loc Cert.MlaFwdRefIdeal.main_arg7)
          ∧ r.2.mem ((c.tc : Thread Cert.MlaFwdRefIdeal.nD Cert.MlaFwdRefIdeal.τ).loc Cert.MlaFwdRefIdeal.main_arg8) = m' ((c.tc : Thread Cert.MlaFwdRefIdeal.nD Cert.MlaFwdRefIdeal.τ).loc Cert.MlaFwdRefIdeal.main_arg8))

def preserves_NnMm_NnMmIdeal : Prop :=
  True

def algebraic_NnMmIdeal_NnMmRefIdeal [hNnMmIdeal : Cert.NnMmIdeal.Facts] [hNnMmRefIdeal : Cert.NnMmRefIdeal.Facts] [hPre_a_chip : Cert.Pre_a_chip.Facts] : Prop :=
  ∀ (m : (ℓ : Loc Cert.NnMmIdeal.nD Cert.NnMmIdeal.τ Cert.NnMmIdeal.sig) → Buf (Elt Ideal) ℓ) (g : Dev Cert.NnMmIdeal.nD → PrngReg)
    (m' : (ℓ : Loc Cert.NnMmRefIdeal.nD Cert.NnMmRefIdeal.τ Cert.NnMmRefIdeal.sig) → Buf (Elt Ideal) ℓ) (g' : Dev Cert.NnMmRefIdeal.nD → PrngReg), Pre_NnMmIdeal m →
    (∀ c : Dev Cert.NnMmIdeal.nD,
      m' ((c.tc : Thread Cert.NnMmRefIdeal.nD Cert.NnMmRefIdeal.τ).loc Cert.NnMmRefIdeal.main_arg0) = m ((c.tc : Thread Cert.NnMmIdeal.nD Cert.NnMmIdeal.τ).loc Cert.NnMmIdeal.main_arg0)
      ∧ m' ((c.tc : Thread Cert.NnMmRefIdeal.nD Cert.NnMmRefIdeal.τ).loc Cert.NnMmRefIdeal.main_arg1) = m ((c.tc : Thread Cert.NnMmIdeal.nD Cert.NnMmIdeal.τ).loc Cert.NnMmIdeal.main_arg1)
      ∧ m' ((c.tc : Thread Cert.NnMmRefIdeal.nD Cert.NnMmRefIdeal.τ).loc Cert.NnMmRefIdeal.main_arg2) = m ((c.tc : Thread Cert.NnMmIdeal.nD Cert.NnMmIdeal.τ).loc Cert.NnMmIdeal.main_arg2)) →
    ∃ (v0 : (c : Dev Cert.NnMmIdeal.nD) → Buf (Elt Ideal) ((c.tc : Thread Cert.NnMmIdeal.nD Cert.NnMmIdeal.τ).loc Cert.NnMmIdeal.main_v0_0)) (v1 : (c : Dev Cert.NnMmIdeal.nD) → Buf (Elt Ideal) ((c.tc : Thread Cert.NnMmIdeal.nD Cert.NnMmIdeal.τ).loc Cert.NnMmIdeal.main_v0_1)),
      θ_run (Cert.NnMmIdeal.defs (F := Ideal)) (onTc (τ := Cert.NnMmIdeal.τ) (Cert.NnMmIdeal.main (F := Ideal))) ⟨m, fun _ => 0, g⟩ (fun r => ∀ c : Dev Cert.NnMmIdeal.nD,
          r.2.mem ((c.tc : Thread Cert.NnMmIdeal.nD Cert.NnMmIdeal.τ).loc Cert.NnMmIdeal.main_v0_0) = v0 c
          ∧ r.2.mem ((c.tc : Thread Cert.NnMmIdeal.nD Cert.NnMmIdeal.τ).loc Cert.NnMmIdeal.main_v0_1) = v1 c
          ∧ r.2.mem ((c.tc : Thread Cert.NnMmIdeal.nD Cert.NnMmIdeal.τ).loc Cert.NnMmIdeal.main_arg0) = m ((c.tc : Thread Cert.NnMmIdeal.nD Cert.NnMmIdeal.τ).loc Cert.NnMmIdeal.main_arg0)
          ∧ r.2.mem ((c.tc : Thread Cert.NnMmIdeal.nD Cert.NnMmIdeal.τ).loc Cert.NnMmIdeal.main_arg1) = m ((c.tc : Thread Cert.NnMmIdeal.nD Cert.NnMmIdeal.τ).loc Cert.NnMmIdeal.main_arg1)
          ∧ r.2.mem ((c.tc : Thread Cert.NnMmIdeal.nD Cert.NnMmIdeal.τ).loc Cert.NnMmIdeal.main_arg2) = m ((c.tc : Thread Cert.NnMmIdeal.nD Cert.NnMmIdeal.τ).loc Cert.NnMmIdeal.main_arg2))
      ∧ θ_run (Cert.NnMmRefIdeal.defs (F := Ideal)) (onTc (τ := Cert.NnMmRefIdeal.τ) (Cert.NnMmRefIdeal.main (F := Ideal))) ⟨m', fun _ => 0, g'⟩ (fun r => ∀ c : Dev Cert.NnMmRefIdeal.nD,
          r.2.mem ((c.tc : Thread Cert.NnMmRefIdeal.nD Cert.NnMmRefIdeal.τ).loc Cert.NnMmRefIdeal.main_v15) = v0 c
          ∧ r.2.mem ((c.tc : Thread Cert.NnMmRefIdeal.nD Cert.NnMmRefIdeal.τ).loc Cert.NnMmRefIdeal.main_v16) = v1 c
          ∧ r.2.mem ((c.tc : Thread Cert.NnMmRefIdeal.nD Cert.NnMmRefIdeal.τ).loc Cert.NnMmRefIdeal.main_arg0) = m' ((c.tc : Thread Cert.NnMmRefIdeal.nD Cert.NnMmRefIdeal.τ).loc Cert.NnMmRefIdeal.main_arg0)
          ∧ r.2.mem ((c.tc : Thread Cert.NnMmRefIdeal.nD Cert.NnMmRefIdeal.τ).loc Cert.NnMmRefIdeal.main_arg1) = m' ((c.tc : Thread Cert.NnMmRefIdeal.nD Cert.NnMmRefIdeal.τ).loc Cert.NnMmRefIdeal.main_arg1)
          ∧ r.2.mem ((c.tc : Thread Cert.NnMmRefIdeal.nD Cert.NnMmRefIdeal.τ).loc Cert.NnMmRefIdeal.main_arg2) = m' ((c.tc : Thread Cert.NnMmRefIdeal.nD Cert.NnMmRefIdeal.τ).loc Cert.NnMmRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hLoss : Cert.Loss.Facts) (hLossIdeal : Cert.LossIdeal.Facts) (hLossRefIdeal : Cert.LossRefIdeal.Facts) (hAttnBwd : Cert.AttnBwd.Facts) (hAttnBwdIdeal : Cert.AttnBwdIdeal.Facts) (hAttnBwdRefIdeal : Cert.AttnBwdRefIdeal.Facts) (hMlaBwd : Cert.MlaBwd.Facts) (hMlaBwdIdeal : Cert.MlaBwdIdeal.Facts) (hMlaBwdRefIdeal : Cert.MlaBwdRefIdeal.Facts) (hMixInBwd : Cert.MixInBwd.Facts) (hMixInBwdIdeal : Cert.MixInBwdIdeal.Facts) (hMixInBwdRefIdeal : Cert.MixInBwdRefIdeal.Facts) (hAdaBwd : Cert.AdaBwd.Facts) (hAdaBwdIdeal : Cert.AdaBwdIdeal.Facts) (hAdaBwdRefIdeal : Cert.AdaBwdRefIdeal.Facts) (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hAttnFwd : Cert.AttnFwd.Facts) (hAttnFwdIdeal : Cert.AttnFwdIdeal.Facts) (hAttnFwdRefIdeal : Cert.AttnFwdRefIdeal.Facts) (hPoolBwd : Cert.PoolBwd.Facts) (hPoolBwdIdeal : Cert.PoolBwdIdeal.Facts) (hPoolBwdRefIdeal : Cert.PoolBwdRefIdeal.Facts) (hMixIn : Cert.MixIn.Facts) (hMixInIdeal : Cert.MixInIdeal.Facts) (hMixInRefIdeal : Cert.MixInRefIdeal.Facts) (hAda : Cert.Ada.Facts) (hAdaIdeal : Cert.AdaIdeal.Facts) (hAdaRefIdeal : Cert.AdaRefIdeal.Facts) (hMlaFwd : Cert.MlaFwd.Facts) (hMlaFwdIdeal : Cert.MlaFwdIdeal.Facts) (hMlaFwdRefIdeal : Cert.MlaFwdRefIdeal.Facts) (hNnMm : Cert.NnMm.Facts) (hNnMmIdeal : Cert.NnMmIdeal.Facts) (hNnMmRefIdeal : Cert.NnMmRefIdeal.Facts) (hAdam : Cert.Adam.Facts) (hAdamIdeal : Cert.AdamIdeal.Facts) (hAdamRefIdeal : Cert.AdamRefIdeal.Facts) (hPre_finite_loss : Cert.Pre_finite_loss.Facts) (hPre_finite_attn_bwd : Cert.Pre_finite_attn_bwd.Facts) (hPre_finite_mla_qkv_bwd : Cert.Pre_finite_mla_qkv_bwd.Facts) (hPre_finite_mix_in_bwd : Cert.Pre_finite_mix_in_bwd.Facts) (hPre_finite_ada_bwd : Cert.Pre_finite_ada_bwd.Facts) (hPre_finite_out_proj : Cert.Pre_finite_out_proj.Facts) (hPre_finite_ffn : Cert.Pre_finite_ffn.Facts) (hPre_finite_attn_fwd : Cert.Pre_finite_attn_fwd.Facts) (hPre_finite_pool_bwd : Cert.Pre_finite_pool_bwd.Facts) (hPre_finite_mla_qkv_fwd : Cert.Pre_finite_mla_qkv_fwd.Facts) (hPre_a_chip : Cert.Pre_a_chip.Facts),
    quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_AttnBwd (hAttnBwd := hAttnBwd)
    ∧ quiescent_AttnBwdIdeal (hAttnBwdIdeal := hAttnBwdIdeal)
    ∧ quiescent_AttnBwdIdeal_pre_finite_attn_bwd (hAttnBwdIdeal := hAttnBwdIdeal) (hPre_finite_attn_bwd := hPre_finite_attn_bwd)
    ∧ quiescent_AttnBwdRefIdeal (hAttnBwdRefIdeal := hAttnBwdRefIdeal)
    ∧ quiescent_AttnBwdRefIdeal_pre_finite_attn_bwd (hAttnBwdRefIdeal := hAttnBwdRefIdeal) (hPre_finite_attn_bwd := hPre_finite_attn_bwd)
    ∧ quiescent_MlaBwd (hMlaBwd := hMlaBwd)
    ∧ quiescent_MlaBwdIdeal (hMlaBwdIdeal := hMlaBwdIdeal)
    ∧ quiescent_MlaBwdIdeal_pre_finite_mla_qkv_bwd (hMlaBwdIdeal := hMlaBwdIdeal) (hPre_finite_mla_qkv_bwd := hPre_finite_mla_qkv_bwd)
    ∧ quiescent_MlaBwdRefIdeal (hMlaBwdRefIdeal := hMlaBwdRefIdeal)
    ∧ quiescent_MlaBwdRefIdeal_pre_finite_mla_qkv_bwd (hMlaBwdRefIdeal := hMlaBwdRefIdeal) (hPre_finite_mla_qkv_bwd := hPre_finite_mla_qkv_bwd)
    ∧ quiescent_MixInBwd (hMixInBwd := hMixInBwd)
    ∧ quiescent_MixInBwdIdeal (hMixInBwdIdeal := hMixInBwdIdeal)
    ∧ quiescent_MixInBwdIdeal_pre_finite_mix_in_bwd (hMixInBwdIdeal := hMixInBwdIdeal) (hPre_finite_mix_in_bwd := hPre_finite_mix_in_bwd)
    ∧ quiescent_MixInBwdRefIdeal (hMixInBwdRefIdeal := hMixInBwdRefIdeal)
    ∧ quiescent_MixInBwdRefIdeal_pre_finite_mix_in_bwd (hMixInBwdRefIdeal := hMixInBwdRefIdeal) (hPre_finite_mix_in_bwd := hPre_finite_mix_in_bwd)
    ∧ quiescent_AdaBwd (hAdaBwd := hAdaBwd)
    ∧ quiescent_AdaBwdIdeal (hAdaBwdIdeal := hAdaBwdIdeal)
    ∧ quiescent_AdaBwdIdeal_pre_finite_ada_bwd (hAdaBwdIdeal := hAdaBwdIdeal) (hPre_finite_ada_bwd := hPre_finite_ada_bwd)
    ∧ quiescent_AdaBwdRefIdeal (hAdaBwdRefIdeal := hAdaBwdRefIdeal)
    ∧ quiescent_AdaBwdRefIdeal_pre_finite_ada_bwd (hAdaBwdRefIdeal := hAdaBwdRefIdeal) (hPre_finite_ada_bwd := hPre_finite_ada_bwd)
    ∧ quiescent_OutProj (hOutProj := hOutProj)
    ∧ quiescent_OutProjIdeal (hOutProjIdeal := hOutProjIdeal)
    ∧ quiescent_OutProjIdeal_pre_finite_out_proj (hOutProjIdeal := hOutProjIdeal) (hPre_finite_out_proj := hPre_finite_out_proj)
    ∧ quiescent_OutProjRefIdeal (hOutProjRefIdeal := hOutProjRefIdeal)
    ∧ quiescent_OutProjRefIdeal_pre_finite_out_proj (hOutProjRefIdeal := hOutProjRefIdeal) (hPre_finite_out_proj := hPre_finite_out_proj)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_PoolBwd (hPoolBwd := hPoolBwd)
    ∧ quiescent_PoolBwdIdeal (hPoolBwdIdeal := hPoolBwdIdeal)
    ∧ quiescent_PoolBwdIdeal_pre_finite_pool_bwd (hPoolBwdIdeal := hPoolBwdIdeal) (hPre_finite_pool_bwd := hPre_finite_pool_bwd)
    ∧ quiescent_PoolBwdRefIdeal (hPoolBwdRefIdeal := hPoolBwdRefIdeal)
    ∧ quiescent_PoolBwdRefIdeal_pre_finite_pool_bwd (hPoolBwdRefIdeal := hPoolBwdRefIdeal) (hPre_finite_pool_bwd := hPre_finite_pool_bwd)
    ∧ quiescent_MixIn (hMixIn := hMixIn)
    ∧ quiescent_MixInIdeal (hMixInIdeal := hMixInIdeal)
    ∧ quiescent_MixInRefIdeal (hMixInRefIdeal := hMixInRefIdeal)
    ∧ quiescent_Ada (hAda := hAda)
    ∧ quiescent_AdaIdeal (hAdaIdeal := hAdaIdeal)
    ∧ quiescent_AdaRefIdeal (hAdaRefIdeal := hAdaRefIdeal)
    ∧ quiescent_MlaFwd (hMlaFwd := hMlaFwd)
    ∧ quiescent_MlaFwdIdeal (hMlaFwdIdeal := hMlaFwdIdeal)
    ∧ quiescent_MlaFwdIdeal_pre_finite_mla_qkv_fwd (hMlaFwdIdeal := hMlaFwdIdeal) (hPre_finite_mla_qkv_fwd := hPre_finite_mla_qkv_fwd)
    ∧ quiescent_MlaFwdRefIdeal (hMlaFwdRefIdeal := hMlaFwdRefIdeal)
    ∧ quiescent_MlaFwdRefIdeal_pre_finite_mla_qkv_fwd (hMlaFwdRefIdeal := hMlaFwdRefIdeal) (hPre_finite_mla_qkv_fwd := hPre_finite_mla_qkv_fwd)
    ∧ quiescent_NnMm (hNnMm := hNnMm) (hPre_a_chip := hPre_a_chip)
    ∧ quiescent_NnMmIdeal (hNnMmIdeal := hNnMmIdeal) (hPre_a_chip := hPre_a_chip)
    ∧ quiescent_NnMmRefIdeal (hNnMmRefIdeal := hNnMmRefIdeal)
    ∧ quiescent_NnMmRefIdeal_pre_a_chip (hNnMmRefIdeal := hNnMmRefIdeal) (hPre_a_chip := hPre_a_chip)
    ∧ quiescent_Adam (hAdam := hAdam)
    ∧ quiescent_AdamIdeal (hAdamIdeal := hAdamIdeal)
    ∧ quiescent_AdamRefIdeal (hAdamRefIdeal := hAdamRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_AttnBwd_AttnBwdIdeal
    ∧ algebraic_AttnBwdIdeal_AttnBwdRefIdeal_pre_finite_attn_bwd (hAttnBwdIdeal := hAttnBwdIdeal) (hAttnBwdRefIdeal := hAttnBwdRefIdeal) (hPre_finite_attn_bwd := hPre_finite_attn_bwd)
    ∧ preserves_MlaBwd_MlaBwdIdeal
    ∧ algebraic_MlaBwdIdeal_MlaBwdRefIdeal_pre_finite_mla_qkv_bwd (hMlaBwdIdeal := hMlaBwdIdeal) (hMlaBwdRefIdeal := hMlaBwdRefIdeal) (hPre_finite_mla_qkv_bwd := hPre_finite_mla_qkv_bwd)
    ∧ preserves_MixInBwd_MixInBwdIdeal
    ∧ algebraic_MixInBwdIdeal_MixInBwdRefIdeal_pre_finite_mix_in_bwd (hMixInBwdIdeal := hMixInBwdIdeal) (hMixInBwdRefIdeal := hMixInBwdRefIdeal) (hPre_finite_mix_in_bwd := hPre_finite_mix_in_bwd)
    ∧ preserves_AdaBwd_AdaBwdIdeal
    ∧ algebraic_AdaBwdIdeal_AdaBwdRefIdeal_pre_finite_ada_bwd (hAdaBwdIdeal := hAdaBwdIdeal) (hAdaBwdRefIdeal := hAdaBwdRefIdeal) (hPre_finite_ada_bwd := hPre_finite_ada_bwd)
    ∧ preserves_OutProj_OutProjIdeal
    ∧ algebraic_OutProjIdeal_OutProjRefIdeal_pre_finite_out_proj (hOutProjIdeal := hOutProjIdeal) (hOutProjRefIdeal := hOutProjRefIdeal) (hPre_finite_out_proj := hPre_finite_out_proj)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_PoolBwd_PoolBwdIdeal
    ∧ algebraic_PoolBwdIdeal_PoolBwdRefIdeal_pre_finite_pool_bwd (hPoolBwdIdeal := hPoolBwdIdeal) (hPoolBwdRefIdeal := hPoolBwdRefIdeal) (hPre_finite_pool_bwd := hPre_finite_pool_bwd)
    ∧ preserves_MixIn_MixInIdeal
    ∧ algebraic_MixInIdeal_MixInRefIdeal (hMixInIdeal := hMixInIdeal) (hMixInRefIdeal := hMixInRefIdeal)
    ∧ preserves_Ada_AdaIdeal
    ∧ algebraic_AdaIdeal_AdaRefIdeal (hAdaIdeal := hAdaIdeal) (hAdaRefIdeal := hAdaRefIdeal)
    ∧ preserves_MlaFwd_MlaFwdIdeal
    ∧ algebraic_MlaFwdIdeal_MlaFwdRefIdeal_pre_finite_mla_qkv_fwd (hMlaFwdIdeal := hMlaFwdIdeal) (hMlaFwdRefIdeal := hMlaFwdRefIdeal) (hPre_finite_mla_qkv_fwd := hPre_finite_mla_qkv_fwd)
    ∧ preserves_NnMm_NnMmIdeal
    ∧ algebraic_NnMmIdeal_NnMmRefIdeal (hNnMmIdeal := hNnMmIdeal) (hNnMmRefIdeal := hNnMmRefIdeal) (hPre_a_chip := hPre_a_chip)
    ∧ preserves_Adam_AdamIdeal
    ∧ algebraic_AdamIdeal_AdamRefIdeal (hAdamIdeal := hAdamIdeal) (hAdamRefIdeal := hAdamRefIdeal)
-- ==== Pre_a_chip.lean ====
abbrev S1 : Shape := ⟨1, ![1]⟩
abbrev S4x704x2048 : Shape := ⟨3, ![4, 704, 2048]⟩
abbrev S2048x1024 : Shape := ⟨2, ![2048, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x704x2048 .bf16) (main_arg2 : FVec F S2048x1024 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_c_0 : IVec S_ 32 := constantI S_ 32 4#32
  let main_v2 : IVec S_ 1 := cmpi .slt main_v0 main_c_0
  let main_v3 : IVec S_ 1 := andi main_v1 main_v2
  main_v3
-- ==== Pre_finite_ada_bwd.lean ====
abbrev S16x1024 : Shape := ⟨2, ![16, 1024]⟩
abbrev S4x1024x2304 : Shape := ⟨3, ![4, 1024, 2304]⟩
abbrev S4x1x2304 : Shape := ⟨3, ![4, 1, 2304]⟩
abbrev S4x16x2304 : Shape := ⟨3, ![4, 16, 2304]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S4x16x2304 : S_.BroadcastsInDim S4x16x2304 (![] : Fin 0 → Fin S4x16x2304.rank)
  reducesTo_S4x16x2304_S_d0_1_2 : S4x16x2304.ReducesTo [0, 1, 2] S_

variable [Facts]

def fn {F : FTy → Type} [FloatOps F] (main_arg0 : FVec F S16x1024 .f32) (main_arg1 : FVec F S4x1024x2304 .f32) (main_arg2 : FVec F S4x1x2304 .f32) (main_arg3 : FVec F S4x16x2304 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S4x16x2304 .f32 := Host.absf main_arg3
  let main_cst_0 : FVec F S_ .f32 := constant S_ .f32 0x7F800000#32
  let main_v5 : FVec F S4x16x2304 .f32 := broadcastInDim S4x16x2304 ![] bcast_S_S4x16x2304 main_cst_0
  let main_v6 : IVec S4x16x2304 1 := cmpf .olt main_v4 main_v5
  let main_c_1 : IVec S_ 1 := constantI S_ 1 1#1
  let main_v7 : IVec S_ 1 := (fun x v => Host.reduce IntOp.andi x v reducesTo_S4x16x2304_S_d0_1_2 h_S_) main_v6 main_c_1
  let main_v8 : IVec S_ 1 := andi main_v3 main_v7
  main_v8
-- ==== Pre_finite_attn_bwd.lean ====
abbrev S4x2048x192 : Shape := ⟨3, ![4, 2048, 192]⟩
abbrev S4x2048x128 : Shape := ⟨3, ![4, 2048, 128]⟩
abbrev S2048x512 : Shape := ⟨2, ![2048, 512]⟩
abbrev S_ : Shape := ⟨0, ![]⟩

class Facts : Prop where
  bitsLt_bf16_f32 : FTy.bits .bf16 < FTy.bits .f32
  bcast_S_S4x2048x192 : S_.BroadcastsInDim S4x2048x192 (![] : Fin 0 → Fin S4x2048x192.rank)
  reducesTo_S4x2048x192_S_d0_1_2 : S4x2048x192.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v16 : IVec S_ 1) (main_v17 : FVec F S2048x512 .f32) : IVec S_ 1 :=
  let main_cst_4 : FVec F S_ .f32 := constant S_ .f32 0x7F800000#32
  let main_v18 : FVec F S2048x512 .f32 := broadcastInDim S2048x512 ![] bcast_S_S2048x512 main_cst_4
  let main_v19 : IVec S2048x512 1 := cmpf .olt main_v17 main_v18
  let main_c_5 : IVec S_ 1 := constantI S_ 1 1#1
  let main_v20 : IVec S_ 1 := (fun x v => Host.reduce IntOp.andi x v reducesTo_S2048x512_S_d0_1 h_S_) main_v19 main_c_5
  let main_v21 : IVec S_ 1 := andi main_v16 main_v20
  main_v21

def fn {F : FTy → Type} [FloatOps F] (main_arg0 : FVec F S4x2048x192 .bf16) (main_arg1 : FVec F S4x2048x192 .bf16) (main_arg2 : FVec F S4x2048x128 .bf16) (main_arg3 : FVec F S2048x512 .f32) : IVec S_ 1 :=
  let main_v0 : FVec F S4x2048x192 .f32 := (extf .f32 · bitsLt_bf16_f32) main_arg0
  let main_v1 : FVec F S4x2048x192 .f32 := Host.absf main_v0
  let main_cst : FVec F S_ .f32 := constant S_ .f32 0x7F800000#32
  let main_v2 : FVec F S4x2048x192 .f32 := broadcastInDim S4x2048x192 ![] bcast_S_S4x2048x192 main_cst
  let main_v3 : IVec S4x2048x192 1 := cmpf .olt main_v1 main_v2
  let main_c : IVec S_ 1 := constantI S_ 1 1#1
  let main_v4 : IVec S_ 1 := (fun x v => Host.reduce IntOp.andi x v reducesTo_S4x2048x192_S_d0_1_2 h_S_) main_v3 main_c
  let main_v5 : FVec F S4x2048x192 .f32 := (extf .f32 · bitsLt_bf16_f32) main_arg1
  let main_v6 : FVec F S4x2048x192 .f32 := Host.absf main_v5
  let main_cst_0 : FVec F S_ .f32 := constant S_ .f32 0x7F800000#32
  let main_v7 : FVec F S4x2048x192 .f32 := broadcastInDim S4x2048x192 ![] bcast_S_S4x2048x192 main_cst_0
  let main_v8 : IVec S4x2048x192 1 := cmpf .olt main_v6 main_v7
  let main_c_1 : IVec S_ 1 := constantI S_ 1 1#1
  let main_v9 : IVec S_ 1 := (fun x v => Host.reduce IntOp.andi x v reducesTo_S4x2048x192_S_d0_1_2 h_S_) main_v8 main_c_1
  let main_v10 : IVec S_ 1 := andi main_v4 main_v9
  let main_v11 : FVec F S4x2048x128 .f32 := (extf .f32 · bitsLt_bf16_f32) main_arg2
  let main_v12 : FVec F S4x2048x128 .f32 := Host.absf main_v11
  let main_cst_2 : FVec F S_ .f32 := constant S_ .f32 0x7F800000#32
  let main_v13 : FVec F S4x2048x128 .f32 := broadcastInDim S4x2048x128 ![] bcast_S_S4x2048x128 main_cst_2
  let main_v14 : IVec S4x2048x128 1 := cmpf .olt main_v12 main_v13
  let main_c_3 : IVec S_ 1 := constantI S_ 1 1#1
  let main_v15 : IVec S_ 1 := (fun x v => Host.reduce IntOp.andi x v reducesTo_S4x2048x128_S_d0_1_2 h_S_) main_v14 main_c_3
  let main_v16 : IVec S_ 1 := andi main_v10 main_v15
  let main_v17 : FVec F S2048x512 .f32 := Host.absf main_arg3
  fn_part1 (F := F) main_v16 main_v17
-- ==== Pre_finite_attn_fwd.lean ====
abbrev S4x2048x192 : Shape := ⟨3, ![4, 2048, 192]⟩
abbrev S4x2048x128 : Shape := ⟨3, ![4, 2048, 128]⟩
abbrev S_ : Shape := ⟨0, ![]⟩

class Facts : Prop where
  bitsLt_bf16_f32 : FTy.bits .bf16 < FTy.bits .f32
  bcast_S_S4x2048x192 : S_.BroadcastsInDim S4x2048x192 (![] : Fin 0 → Fin S4x2048x192.rank)
  reducesTo_S4x2048x192_S_d0_1_2 : S4x2048x192.ReducesTo [0, 1, 2] S_
  h_S_ : 0 < S_.numel

variable [Facts]

def fn {F : FTy → Type} [FloatOps F] (main_arg0 : FVec F S4x2048x192 .bf16) (main_arg1 : FVec F S4x2048x192 .bf16) (main_arg2 : FVec F S4x2048x128 .bf16) : IVec S_ 1 :=
  let main_v0 : FVec F S4x2048x192 .f32 := (extf .f32 · bitsLt_bf16_f32) main_arg0
  let main_v1 : FVec F S4x2048x192 .f32 := Host.absf main_v0
  let main_cst : FVec F S_ .f32 := constant S_ .f32 0x7F800000#32
  let main_v2 : FVec F S4x2048x192 .f32 := broadcastInDim S4x2048x192 ![] bcast_S_S4x2048x192 main_cst
  let main_v3 : IVec S4x2048x192 1 := cmpf .olt main_v1 main_v2
  let main_c : IVec S_ 1 := constantI S_ 1 1#1
  let main_v4 : IVec S_ 1 := (fun x v => Host.reduce IntOp.andi x v reducesTo_S4x2048x192_S_d0_1_2 h_S_) main_v3 main_c
  let main_v5 : FVec F S4x2048x192 .f32 := (extf .f32 · bitsLt_bf16_f32) main_arg1
  let main_v6 : FVec F S4x2048x192 .f32 := Host.absf main_v5
  let main_cst_0 : FVec F S_ .f32 := constant S_ .f32 0x7F800000#32
  let main_v7 : FVec F S4x2048x192 .f32 := broadcastInDim S4x2048x192 ![] bcast_S_S4x2048x192 main_cst_0
  let main_v8 : IVec S4x2048x192 1 := cmpf .olt main_v6 main_v7
  let main_c_1 : IVec S_ 1 := constantI S_ 1 1#1
  let main_v9 : IVec S_ 1 := (fun x v => Host.reduce IntOp.andi x v reducesTo_S4x2048x192_S_d0_1_2 h_S_) main_v8 main_c_1
  let main_v10 : IVec S_ 1 := andi main_v4 main_v9
  main_v10
-- ==== Pre_finite_ffn.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_arg8 : FVec F S2048x1024 .f32) (main_v33 : IVec S_ 1) : IVec S_ 1 :=
  let main_v34 : FVec F S2816x1024 .f32 := Host.absf main_arg7
  let main_cst_12 : FVec F S_ .f32 := constant S_ .f32 0x7F800000#32
  let main_v35 : FVec F S2816x1024 .f32 := broadcastInDim S2816x1024 ![] bcast_S_S2816x1024 main_cst_12
  let main_v36 : IVec S2816x1024 1 := cmpf .olt main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  main_v43

def fn_part1 {F : FTy → Type} [FloatOps F] (main_arg4 : FVec F S1x1024 .f32) (main_arg5 : FVec F S1024x2816 .f32) (main_arg6 : FVec F S1024x2816 .f32) (main_arg7 : FVec F S2816x1024 .f32) (main_arg8 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S1024x2816 .f32 := Host.absf main_arg6
  let main_cst_10 : FVec F S_ .f32 := constant S_ .f32 0x7F800000#32
  let main_v30 : FVec F S1024x2816 .f32 := broadcastInDim S1024x2816 ![] bcast_S_S1024x2816 main_cst_10
  let main_v31 : IVec S1024x2816 1 := cmpf .olt main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S1x1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) (main_arg8 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_finite_loss.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S2048x1024 .f32) (main_arg1 : FVec F S1x1024 .f32) (main_arg2 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_mix_in_bwd.lean ====
abbrev S2048x1024 : Shape := ⟨2, ![2048, 1024]⟩
abbrev S2048x512 : Shape := ⟨2, ![2048, 512]⟩
abbrev S2048x384 : Shape := ⟨2, ![2048, 384]⟩
abbrev S2048x256 : Shape := ⟨2, ![2048, 256]⟩
abbrev S2048x64 : Shape := ⟨2, ![2048, 64]⟩
abbrev S1x1024 : Shape := ⟨2, ![1, 1024]⟩
abbrev S1024x1216 : Shape := ⟨2, ![1024, 1216]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x384 : S_.BroadcastsInDim S2048x384 (![] : Fin 0 → Fin S2048x384.rank)
  reducesTo_S2048x384_S_d0_1 : S2048x384.ReducesTo [0, 1] S_
  bcast_S_S2048x256 : S_.BroadcastsInDim S2048x256 (![] : Fin 0 → Fin S2048x256.rank)
  reducesTo_S2048x256_S_d0_1 : S2048x256.ReducesTo [0, 1] S_
  bcast_S_S2048x64 : S_.BroadcastsInDim S2048x64 (![] : Fin 0 → Fin S2048x64.rank)
  reducesTo_S2048x64_S_d0_1 : S2048x64.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1216 : S_.BroadcastsInDim S1024x1216 (![] : Fin 0 → Fin S1024x1216.rank)
  reducesTo_S1024x1216_S_d0_1 : S1024x1216.ReducesTo [0, 1] S_

variable [Facts]

def fn_part2 {F : FTy → Type} [FloatOps F] (main_arg8 : FVec F S1x1024 .f32) (main_arg9 : FVec F S1024x1216 .f32) (main_v33 : IVec S_ 1) : IVec S_ 1 :=
  let main_v34 : FVec F S1x1024 .f32 := Host.absf main_arg8
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x1216 .f32 := Host.absf main_arg9
  let main_cst_14 : FVec F S_ .f32 := constant S_ .f32 0x7F800000#32
  let main_v40 : FVec F S1024x1216 .f32 := broadcastInDim S1024x1216 ![] bcast_S_S1024x1216 main_cst_14
  let main_v41 : IVec S1024x1216 1 := cmpf .olt main_v39 main_v40
  let main_c_15 : IVec S_ 1 := constantI S_ 1 1#1
  let main_v42 : IVec S_ 1 := (fun x v => Host.reduce IntOp.andi x v reducesTo_S1024x1216_S_d0_1 h_S_) main_v41 main_c_15
  let main_v43 : IVec S_ 1 := andi main_v38 main_v42
  main_v43

def fn_part1 {F : FTy → Type} [FloatOps F] (main_arg4 : FVec F S2048x64 .f32) (main_arg5 : FVec F S2048x1024 .f32) (main_arg6 : FVec F S1x1024 .f32) (main_arg8 : FVec F S1x1024 .f32) (main_arg9 : FVec F S1024x1216 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg8 main_arg9 main_v33

def fn {F : FTy → Type} [FloatOps F] (main_arg0 : FVec F S2048x1024 .f32) (main_arg1 : FVec F S2048x512 .f32) (main_arg2 : FVec F S2048x384 .f32) (main_arg3 : FVec F S2048x256 .f32) (main_arg4 : FVec F S2048x64 .f32) (main_arg5 : FVec F S2048x1024 .f32) (main_arg6 : FVec F S1x1024 .f32) (main_arg7 : FVec F S1x1024 .f32) (main_arg8 : FVec F S1x1024 .f32) (main_arg9 : FVec F S1024x1216 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x384 .f32 := Host.absf main_arg2
  let main_cst_2 : FVec F S_ .f32 := constant S_ .f32 0x7F800000#32
  let main_v10 : FVec F S2048x384 .f32 := broadcastInDim S2048x384 ![] bcast_S_S2048x384 main_cst_2
  let main_v11 : IVec S2048x384 1 := cmpf .olt main_v9 main_v10
  let main_c_3 : IVec S_ 1 := constantI S_ 1 1#1
  let main_v12 : IVec S_ 1 := (fun x v => Host.reduce IntOp.andi x v reducesTo_S2048x384_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg8 main_arg9 main_v13 main_v16
-- ==== Pre_finite_mla_qkv_bwd.lean ====
abbrev S4x2048x192 : Shape := ⟨3, ![4, 2048, 192]⟩
abbrev S4x2048x128 : Shape := ⟨3, ![4, 2048, 128]⟩
abbrev S2048x384 : Shape := ⟨2, ![2048, 384]⟩
abbrev S2048x256 : Shape := ⟨2, ![2048, 256]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S2048x64 : Shape := ⟨2, ![2048, 64]⟩
abbrev S_ : Shape := ⟨0, ![]⟩

class Facts : Prop where
  bcast_S_S4x2048x192 : S_.BroadcastsInDim S4x2048x192 (![] : Fin 0 → Fin S4x2048x192.rank)
  reducesTo_S4x2048x192_S_d0_1_2 : S4x2048x192.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S2048x384 : S_.BroadcastsInDim S2048x384 (![] : Fin 0 → Fin S2048x384.rank)
  reducesTo_S2048x384_S_d0_1 : S2048x384.ReducesTo [0, 1] S_
  bcast_S_S2048x256 : S_.BroadcastsInDim S2048x256 (![] : Fin 0 → Fin S2048x256.rank)
  reducesTo_S2048x256_S_d0_1 : S2048x256.ReducesTo [0, 1] S_
  bcast_S_S1x384 : S_.BroadcastsInDim S1x384 (![] : Fin 0 → Fin S1x384.rank)
  reducesTo_S1x384_S_d0_1 : S1x384.ReducesTo [0, 1] S_
  bcast_S_S1x256 : S_.BroadcastsInDim S1x256 (![] : Fin 0 → Fin S1x256.rank)
  reducesTo_S1x256_S_d0_1 : S1x256.ReducesTo [0, 1] S_
  bcast_S_S384x768 : S_.BroadcastsInDim S384x768 (![] : Fin 0 → Fin S384x768.rank)
  reducesTo_S384x768_S_d0_1 : S384x768.ReducesTo [0, 1] S_
  bcast_S_S256x1024 : S_.BroadcastsInDim S256x1024 (![] : Fin 0 → Fin S256x1024.rank)
  reducesTo_S256x1024_S_d0_1 : S256x1024.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part3 {F : FTy → Type} [FloatOps F] (main_v48 : IVec S_ 1) (main_v49 : FVec F S2048x64 .f32) (main_v50 : FVec F S2048x64 .f32) : IVec S_ 1 :=
  let main_v51 : IVec S2048x64 1 := cmpf .olt main_v49 main_v50
  let main_c_19 : IVec S_ 1 := constantI S_ 1 1#1
  let main_v52 : IVec S_ 1 := (fun x v => Host.reduce IntOp.andi x v reducesTo_S2048x64_S_d0_1 h_S_) main_v51 main_c_19
  let main_v53 : IVec S_ 1 := andi main_v48 main_v52
  main_v53

def fn_part2 {F : FTy → Type} [FloatOps F] (main_arg7 : FVec F S384x768 .f32) (main_arg8 : FVec F S256x1024 .f32) (main_arg9 : FVec F S2048x64 .f32) (main_arg10 : FVec F S2048x64 .f32) (main_v33 : IVec S_ 1) : IVec S_ 1 :=
  let main_v34 : FVec F S384x768 .f32 := Host.absf main_arg7
  let main_cst_12 : FVec F S_ .f32 := constant S_ .f32 0x7F800000#32
  let main_v35 : FVec F S384x768 .f32 := broadcastInDim S384x768 ![] bcast_S_S384x768 main_cst_12
  let main_v36 : IVec S384x768 1 := cmpf .olt main_v34 main_v35
  let main_c_13 : IVec S_ 1 := constantI S_ 1 1#1
  let main_v37 : IVec S_ 1 := (fun x v => Host.reduce IntOp.andi x v reducesTo_S384x768_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S2048x64 .f32 := Host.absf main_arg9
  let main_cst_16 : FVec F S_ .f32 := constant S_ .f32 0x7F800000#32
  let main_v45 : FVec F S2048x64 .f32 := broadcastInDim S2048x64 ![] bcast_S_S2048x64 main_cst_16
  let main_v46 : IVec S2048x64 1 := cmpf .olt main_v44 main_v45
  let main_c_17 : IVec S_ 1 := constantI S_ 1 1#1
  let main_v47 : IVec S_ 1 := (fun x v => Host.reduce IntOp.andi x v reducesTo_S2048x64_S_d0_1 h_S_) main_v46 main_c_17
  let main_v48 : IVec S_ 1 := andi main_v43 main_v47
  let main_v49 : FVec F S2048x64 .f32 := Host.absf main_arg10
  let main_cst_18 : FVec F S_ .f32 := constant S_ .f32 0x7F800000#32
  let main_v50 : FVec F S2048x64 .f32 := broadcastInDim S2048x64 ![] bcast_S_S2048x64 main_cst_18
  fn_part3 (F := F) main_v48 main_v49 main_v50

def fn_part1 {F : FTy → Type} [FloatOps F] (main_arg4 : FVec F S2048x256 .f32) (main_arg5 : FVec F S1x384 .f32) (main_arg6 : FVec F S1x256 .f32) (main_arg7 : FVec F S384x768 .f32) (main_arg8 : FVec F S256x1024 .f32) (main_arg9 : FVec F S2048x64 .f32) (main_arg10 : FVec F S2048x64 .f32) (main_v13 : IVec S_ 1) (main_v16 : IVec S2048x384 1) : IVec S_ 1 :=
  let main_c_5 : IVec S_ 1 := constantI S_ 1 1#1
  let main_v17 : IVec S_ 1 := (fun x v => Host.reduce IntOp.andi x v reducesTo_S2048x384_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S1x384 .f32 := Host.absf main_arg5
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x192 .f32) (main_arg1 : FVec F S4x2048x192 .f32) (main_arg2 : FVec F S4x2048x128 .f32) (main_arg3 : FVec F S2048x384 .f32) (main_arg4 : FVec F S2048x256 .f32) (main_arg5 : FVec F S1x384 .f32) (main_arg6 : FVec F S1x256 .f32) (main_arg7 : FVec F S384x768 .f32) (main_arg8 : FVec F S256x1024 .f32) (main_arg9 : FVec F S2048x64 .f32) (main_arg10 : FVec F S2048x64 .f32) : IVec S_ 1 :=
  let main_v0 : FVec F S4x2048x192 .f32 := Host.absf main_arg0
  let main_cst : FVec F S_ .f32 := constant S_ .f32 0x7F800000#32
  let main_v1 : FVec F S4x2048x192 .f32 := broadcastInDim S4x2048x192 ![] bcast_S_S4x2048x192 main_cst
  let main_v2 : IVec S4x2048x192 1 := cmpf .olt main_v0 main_v1
  let main_c : IVec S_ 1 := constantI S_ 1 1#1
  let main_v3 : IVec S_ 1 := (fun x v => Host.reduce IntOp.andi x v reducesTo_S4x2048x192_S_d0_1_2 h_S_) main_v2 main_c
  let main_v4 : FVec F S4x2048x192 .f32 := Host.absf main_arg1
  let main_cst_0 : FVec F S_ .f32 := constant S_ .f32 0x7F800000#32
  let main_v5 : FVec F S4x2048x192 .f32 := broadcastInDim S4x2048x192 ![] bcast_S_S4x2048x192 main_cst_0
  let main_v6 : IVec S4x2048x192 1 := cmpf .olt main_v4 main_v5
  let main_c_1 : IVec S_ 1 := constantI S_ 1 1#1
  let main_v7 : IVec S_ 1 := (fun x v => Host.reduce IntOp.andi x v reducesTo_S4x2048x192_S_d0_1_2 h_S_) main_v6 main_c_1
  let main_v8 : IVec S_ 1 := andi main_v3 main_v7
  let main_v9 : FVec F S4x2048x128 .f32 := Host.absf main_arg2
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  let main_c_3 : IVec S_ 1 := constantI S_ 1 1#1
  let main_v12 : IVec S_ 1 := (fun x v => Host.reduce IntOp.andi x v reducesTo_S4x2048x128_S_d0_1_2 h_S_) main_v11 main_c_3
  let main_v13 : IVec S_ 1 := andi main_v8 main_v12
  let main_v14 : FVec F S2048x384 .f32 := Host.absf main_arg3
  let main_cst_4 : FVec F S_ .f32 := constant S_ .f32 0x7F800000#32
  let main_v15 : FVec F S2048x384 .f32 := broadcastInDim S2048x384 ![] bcast_S_S2048x384 main_cst_4
  let main_v16 : IVec S2048x384 1 := cmpf .olt main_v14 main_v15
  fn_part1 (F := F) main_arg4 main_arg5 main_arg6 main_arg7 main_arg8 main_arg9 main_arg10 main_v13 main_v16
-- ==== Pre_finite_mla_qkv_fwd.lean ====
abbrev S2048x384 : Shape := ⟨2, ![2048, 384]⟩
abbrev S2048x256 : Shape := ⟨2, ![2048, 256]⟩
abbrev S2048x64 : Shape := ⟨2, ![2048, 64]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S1x384 : S_.BroadcastsInDim S1x384 (![] : Fin 0 → Fin S1x384.rank)
  reducesTo_S1x384_S_d0_1 : S1x384.ReducesTo [0, 1] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  main_v18

def fn {F : FTy → Type} [FloatOps F] (main_arg0 : FVec F S2048x384 .f32) (main_arg1 : FVec F S2048x256 .f32) (main_arg2 : FVec F S2048x64 .f32) (main_arg3 : FVec F S1x384 .f32) (main_arg4 : FVec F S1x256 .f32) (main_arg5 : FVec F S384x768 .f32) (main_arg6 : FVec F S256x1024 .f32) (main_arg7 : FVec F S2048x64 .f32) (main_arg8 : FVec F S2048x64 .f32) : IVec S_ 1 :=
  let main_v0 : FVec F S2048x384 .f32 := Host.absf main_arg0
  let main_cst : FVec F S_ .f32 := constant S_ .f32 0x7F800000#32
  let main_v1 : FVec F S2048x384 .f32 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S1x384 .f32 := Host.absf main_arg3
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_c_3 : IVec S_ 1 := constantI S_ 1 1#1
  let main_v12 : IVec S_ 1 := (fun x v => Host.reduce IntOp.andi x v reducesTo_S1x384_S_d0_1 h_S_) main_v11 main_c_3
  let main_v13 : IVec S_ 1 := andi main_v8 main_v12
  let main_v14 : FVec F S384x768 .f32 := Host.absf main_arg5
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_v13 main_v16
-- ==== Pre_finite_out_proj.lean ====
abbrev S2048x512 : Shape := ⟨2, ![2048, 512]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x512 .f32) (main_arg1 : FVec F S2048x512 .f32) (main_arg2 : FVec F S1024x1024 .f32) (main_arg3 : FVec F S2048x1024 .f32) (main_arg4 : FVec F S1x1024 .f32) (main_arg5 : FVec F S2048x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_finite_pool_bwd.lean ====
abbrev S2048x512 : Shape := ⟨2, ![2048, 512]⟩
abbrev S4x128x128 : Shape := ⟨3, ![4, 128, 128]⟩
abbrev S1x512 : Shape := ⟨2, ![1, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S2048x512 .f32) (main_arg1 : FVec F S2048x512 .f32) (main_arg2 : FVec F S4x128x128 .f32) (main_arg3 : FVec F S1x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Loss.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== AttnBwd.lean ====
abbrev S4x2048x192 : Shape := ⟨3, ![4, 2048, 192]⟩
abbrev S4x2048x128 : Shape := ⟨3, ![4, 2048, 128]⟩
abbrev S2048x512 : Shape := ⟨2, ![2048, 512]⟩
abbrev S1x2048x192 : Shape := ⟨3, ![1, 2048, 192]⟩
abbrev S1x2048x128 : Shape := ⟨3, ![1, 2048, 128]⟩
abbrev S2048x128 : Shape := ⟨2, ![2048, 128]⟩
abbrev S2048x192 : Shape := ⟨2, ![2048, 192]⟩
abbrev S1x512x192 : Shape := ⟨3, ![1, 512, 192]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x1024x192 : Shape := ⟨3, ![1, 1024, 192]⟩
abbrev S1024x192 : Shape := ⟨2, ![1024, 192]⟩
abbrev S512x1024 : Shape := ⟨2, ![512, 1024]⟩
abbrev S1x1024x128 : Shape := ⟨3, ![1, 1024, 128]⟩
abbrev S1024x128 : Shape := ⟨2, ![1024, 128]⟩
abbrev S1x1536x192 : Shape := ⟨3, ![1, 1536, 192]⟩
abbrev S1536x192 : Shape := ⟨2, ![1536, 192]⟩
abbrev S512x1536 : Shape := ⟨2, ![512, 1536]⟩
abbrev S1x1536x128 : Shape := ⟨3, ![1, 1536, 128]⟩
abbrev S1536x128 : Shape := ⟨2, ![1536, 128]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x192, .bf16⟩
  | .hbm, ⟨1, _⟩ => ⟨S4x2048x192, .bf16⟩
  | .hbm, ⟨2, _⟩ => ⟨S4x2048x128, .bf16⟩
  | .hbm, ⟨3, _⟩ => ⟨S2048x512, .f32⟩
  | .hbm, ⟨4, _⟩ => ⟨S4x2048x192, .f32⟩
  | .hbm, ⟨5, _⟩ => ⟨S4x2048x192, .f32⟩
  | .hbm, ⟨6, _⟩ => ⟨S4x2048x128, .f32⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x2048x192, .f32⟩
  | .local _ .vmem, ⟨9, _⟩ => ⟨S1x2048x192, .f32⟩
  | .local _ .vmem, ⟨10, _⟩ => ⟨S1x2048x192, .f32⟩
  | .local _ .vmem, ⟨11, _⟩ => ⟨S1x2048x192, .f32⟩
  | .local _ .vmem, ⟨12, _⟩ => ⟨S1x2048x128, .f32⟩
  | .local _ .vmem, ⟨13, _⟩ => ⟨S1x2048x128, .f32⟩
  | _, _ => ⟨S4x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnBwdIdeal.lean ====
variable {F : FTy → Type} [FloatOps F] [Named F]
def κ : String → Option EReal := fun
  | "mask" => some ⊥
  | _ => none
-- ==== AttnBwdRefIdeal.lean ====
abbrev S4x2048x192 : Shape := ⟨3, ![4, 2048, 192]⟩
abbrev S4x2048x128 : Shape := ⟨3, ![4, 2048, 128]⟩
abbrev S2048x512 : Shape := ⟨2, ![2048, 512]⟩
abbrev S4x2048x2048 : Shape := ⟨3, ![4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048 : Shape := ⟨2, ![4, 2048]⟩
abbrev S4x2048x1 : Shape := ⟨3, ![4, 2048, 1]⟩
abbrev S2048x4x128 : Shape := ⟨3, ![2048, 4, 128]⟩
abbrev S4x128x2048 : Shape := ⟨3, ![4, 128, 2048]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x192, .bf16⟩
  | .hbm, ⟨1, _⟩ => ⟨S4x2048x192, .bf16⟩
  | .hbm, ⟨2, _⟩ => ⟨S4x2048x128, .bf16⟩
  | .hbm, ⟨3, _⟩ => ⟨S2048x512, .f32⟩
  | .hbm, ⟨4, _⟩ => ⟨S4x2048x192, .f32⟩
  | .hbm, ⟨5, _⟩ => ⟨S4x2048x192, .f32⟩
  | .hbm, ⟨6, _⟩ => ⟨S4x2048x128, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S2048, .i32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S4x2048x2048, .i1⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S4x2048x2048, .f32⟩
  | .hbm, ⟨28, _⟩ => ⟨S4x2048x2048, .i1⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .i1⟩
  | .hbm, ⟨38, _⟩ => ⟨S_, .f32⟩
  | .hbm, ⟨39, _⟩ => ⟨S4x2048, .f32⟩
  | .hbm, ⟨40, _⟩ => ⟨S4x2048, .i1⟩
  | .hbm, ⟨41, _⟩ => ⟨S_, .f32⟩
  | .hbm, ⟨42, _⟩ => ⟨S4x2048, .f32⟩
  | .hbm, ⟨43, _⟩ => ⟨S_, .f32⟩
  | .hbm, ⟨44, _⟩ => ⟨S4x2048, .f32⟩
  | .hbm, ⟨45, _⟩ => ⟨S_, .f32⟩
  | .hbm, ⟨46, _⟩ => ⟨S4x2048, .f32⟩
  | .hbm, ⟨47, _⟩ => ⟨S4x2048, .f32⟩
  | .hbm, ⟨48, _⟩ => ⟨S4x2048, .f32⟩
  | .hbm, ⟨49, _⟩ => ⟨S4x2048x1, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S4x2048x2048, .f32⟩
  | .hbm, ⟨57, _⟩ => ⟨S4x2048x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x128, .f32⟩
  | .hbm, ⟨63, _⟩ => ⟨S2048x4x128, .f32⟩
  | .hbm, ⟨64, _⟩ => ⟨S2048x512, .f32⟩
  | .hbm, ⟨65, _⟩ => ⟨S2048x4x128, .f32⟩
  | .hbm, ⟨66, _⟩ => ⟨S4x2048x128, .f32⟩
  | .hbm, ⟨67, _⟩ => ⟨S4x128x2048, .f32⟩
  | .hbm, ⟨68, _⟩ => ⟨S4x2048x128, .f32⟩
  | .hbm, ⟨69, _⟩ => ⟨S4x2048x2048, .f32⟩
  | .hbm, ⟨70, _⟩ => ⟨S4x2048x2048, .f32⟩
  | .hbm, ⟨71, _⟩ => ⟨S4x2048x2048, .f32⟩
  | .hbm, ⟨72, _⟩ => ⟨S4x2048x2048, .f32⟩
  | .hbm, ⟨73, _⟩ => ⟨S_, .f32⟩
  | .hbm, ⟨74, _⟩ => ⟨S4x2048, .f32⟩
  | .hbm, ⟨75, _⟩ => ⟨S4x2048x1, .f32⟩
  | .hbm, ⟨76, _⟩ => ⟨S4x2048x1, .f32⟩
  | .hbm, ⟨77, _⟩ => ⟨S4x2048x2048, .f32⟩
  | .hbm, ⟨78, _⟩ => ⟨S4x2048x2048, .f32⟩
  | .hbm, ⟨79, _⟩ => ⟨S_, .f32⟩
  | .hbm, ⟨80, _⟩ => ⟨S4x2048, .f32⟩
  | .hbm, ⟨81, _⟩ => ⟨S4x2048x2048, .f32⟩
  | .hbm, ⟨82, _⟩ => ⟨S4x2048x2048, .f32⟩
  | .hbm, ⟨83, _⟩ => ⟨S4x2048x2048, .f32⟩
  | .hbm, ⟨84, _⟩ => ⟨S_, .f32⟩
  | .hbm, ⟨85, _⟩ => ⟨S4x2048x2048, .f32⟩
  | .hbm, ⟨86, _⟩ => ⟨S4x2048x2048, .f32⟩
  | .hbm, ⟨87, _⟩ => ⟨S_, .f32⟩
  | .hbm, ⟨88, _⟩ => ⟨S4x2048x2048, .f32⟩
  | .hbm, ⟨89, _⟩ => ⟨S4x2048x2048, .f32⟩
  | .hbm, ⟨90, _⟩ => ⟨S4x2048x192, .f32⟩
  | .hbm, ⟨91, _⟩ => ⟨S4x2048x192, .f32⟩
  | _, _ => ⟨S4x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== MlaBwd.lean ====
abbrev S4x2048x192 : Shape := ⟨3, ![4, 2048, 192]⟩
abbrev S4x2048x128 : Shape := ⟨3, ![4, 2048, 128]⟩
abbrev S2048x384 : Shape := ⟨2, ![2048, 384]⟩
abbrev S2048x256 : Shape := ⟨2, ![2048, 256]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S2048x64 : Shape := ⟨2, ![2048, 64]⟩
abbrev S384x4x192 : Shape := ⟨3, ![384, 4, 192]⟩
abbrev S4x192x384 : Shape := ⟨3, ![4, 192, 384]⟩
abbrev S256x4x256 : Shape := ⟨3, ![256, 4, 256]⟩
abbrev S4x256x256 : Shape := ⟨3, ![4, 256, 256]⟩
abbrev S64 : Shape := ⟨1, ![64]⟩
abbrev S_ : Shape := ⟨0, ![]⟩
abbrev S64x64 : Shape := ⟨2, ![64, 64]⟩
abbrev S64x1 : Shape := ⟨2, ![64, 1]⟩
abbrev S64x2 : Shape := ⟨2, ![64, 2]⟩
abbrev S4x2048x256 : Shape := ⟨3, ![4, 2048, 256]⟩
abbrev S4x512x192 : Shape := ⟨3, ![4, 512, 192]⟩
abbrev S4x512x128 : Shape := ⟨3, ![4, 512, 128]⟩
abbrev S512x384 : Shape := ⟨2, ![512, 384]⟩
abbrev S512x256 : Shape := ⟨2, ![512, 256]⟩
abbrev S512x64 : Shape := ⟨2, ![512, 64]⟩
abbrev S4x512x256 : Shape := ⟨3, ![4, 512, 256]⟩
abbrev S1x512x192 : Shape := ⟨3, ![1, 512, 192]⟩
abbrev S512x192 : Shape := ⟨2, ![512, 192]⟩
abbrev S512x128 : Shape := ⟨2, ![512, 128]⟩
abbrev S1x512x128 : Shape := ⟨3, ![1, 512, 128]⟩
abbrev S1x512x64 : Shape := ⟨3, ![1, 512, 64]⟩
abbrev S1x192x384 : Shape := ⟨3, ![1, 192, 384]⟩
abbrev S192x384 : Shape := ⟨2, ![192, 384]⟩
abbrev S128x384 : Shape := ⟨2, ![128, 384]⟩
abbrev S64x384 : Shape := ⟨2, ![64, 384]⟩
abbrev S1x256x256 : Shape := ⟨3, ![1, 256, 256]⟩
abbrev S256x256 : Shape := ⟨2, ![256, 256]⟩
abbrev S256x128 : Shape := ⟨2, ![256, 128]⟩
abbrev S512 : Shape := ⟨1, ![512]⟩
abbrev S512x1 : Shape := ⟨2, ![512, 1]⟩
abbrev S384 : Shape := ⟨1, ![384]⟩
abbrev S256 : Shape := ⟨1, ![256]⟩

abbrev nBuf : Space → Nat
  | .hbm => 66
  | .vmem => 31
  | .smem => 0
  | _ => 0

abbrev bufTy : (tb : Table) → Fin (tcTables nBuf tb) → BufTy
  | .hbm, ⟨0, _⟩ => ⟨S4x2048x192, .f32⟩
  | .hbm, ⟨1, _⟩ => ⟨S4x2048x192, .f32⟩
  | .hbm, ⟨2, _⟩ => ⟨S4x2048x128, .f32⟩
  | .hbm, ⟨3, _⟩ => ⟨S2048x384, .f32⟩
  | .hbm, ⟨4, _⟩ => ⟨S2048x256, .f32⟩
  | .hbm, ⟨5, _⟩ => ⟨S1x384, .f32⟩
  | .hbm, ⟨6, _⟩ => ⟨S1x256, .f32⟩
  | .hbm, ⟨7, _⟩ => ⟨S384x768, .f32⟩
  | .hbm, ⟨8, _⟩ => ⟨S256x1024, .f32⟩
  | .hbm, ⟨9, _⟩ => ⟨S2048x64, .f32⟩
  | .hbm, ⟨10, _⟩ => ⟨S2048x64, .f32⟩
  | .hbm, ⟨11, _⟩ => ⟨S384x768, .bf16⟩
  | .hbm, ⟨12, _⟩ => ⟨S384x4x192, .bf16⟩
  | .hbm, ⟨13, _⟩ => ⟨S4x192x384, .bf16⟩
  | .hbm, ⟨14, _⟩ => ⟨S256x1024, .bf16⟩
  | .hbm, ⟨15, _⟩ => ⟨S256x4x256, .bf16⟩
  | .hbm, ⟨16, _⟩ => ⟨S4x256x256, .bf16⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64x64, .f32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64x1, .i32⟩
  | .hbm, ⟨54, _⟩ => ⟨S64x2, .i32⟩
  | .hbm, ⟨55, _⟩ => ⟨S64, .f32⟩
  | .hbm, ⟨56, _⟩ => ⟨S64x64, .f32⟩
  | .hbm, ⟨57, _⟩ => ⟨S64x64, .bf16⟩
  | .hbm, ⟨58, _⟩ => ⟨S64x64, .bf16⟩
  | .hbm, ⟨59, _⟩ => ⟨S2048x384, .f32⟩
  | .hbm, ⟨60, _⟩ => ⟨S2048x256, .f32⟩
  | .hbm, ⟨61, _⟩ => ⟨S2048x64, .f32⟩
  | .hbm, ⟨62, _⟩ => ⟨S4x2048x192, .bf16⟩
  | .hbm, ⟨63, _⟩ => ⟨S4x2048x256, .bf16⟩
  | .hbm, ⟨64, _⟩ => ⟨S1x384, .f32⟩
  | .hbm, ⟨65, _⟩ => ⟨S1x256, .f32⟩
  | .local _ .vmem, ⟨0, _⟩ => ⟨S4x512x192, .f32⟩
  | .local _ .vmem, ⟨1, _⟩ => ⟨S4x512x192, .f32⟩
  | .local _ .vmem, ⟨2, _⟩ => ⟨S4x512x192, .f32⟩
  | .local _ .vmem, ⟨3, _⟩ => ⟨S4x512x192, .f32⟩
  | .local _ .vmem, ⟨4, _⟩ => ⟨S4x512x128, .f32⟩
  | .local _ .vmem, ⟨5, _⟩ => ⟨S4x512x128, .f32⟩
  | .local _ .vmem, ⟨6, _⟩ => ⟨S512x384, .f32⟩
  | .local _ .vmem, ⟨7, _⟩ => ⟨S512x384, .f32⟩
  | .local _ .vmem, ⟨8, _⟩ => ⟨S512x256, .f32⟩
  | .local _ .vmem, ⟨9, _⟩ => ⟨S512x256, .f32⟩
  | .local _ .vmem, ⟨10, _⟩ => ⟨S1x384, .f32⟩
  | .local _ .vmem, ⟨11, _⟩ => ⟨S1x256, .f32⟩
  | .local _ .vmem, ⟨12, _⟩ => ⟨S4x192x384, .bf16⟩
  | .local _ .vmem, ⟨13, _⟩ => ⟨S4x256x256, .bf16⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S64x64, .bf16⟩
  | .local _ .vmem, ⟨19, _⟩ => ⟨S512x384, .f32⟩
  | .local _ .vmem, ⟨20, _⟩ => ⟨S512x384, .f32⟩
  | .local _ .vmem, ⟨21, _⟩ => ⟨S512x256, .f32⟩
  | .local _ .vmem, ⟨22, _⟩ => ⟨S512x256, .f32⟩
  | .local _ .vmem, ⟨23, _⟩ => ⟨S512x64, .f32⟩
  | .local _ .vmem, ⟨24, _⟩ => ⟨S512x64, .f32⟩
  | .local _ .vmem, ⟨25, _⟩ => ⟨S4x512x192, .bf16⟩
  | .local _ .vmem, ⟨26, _⟩ => ⟨S4x512x192, .bf16⟩
  | .local _ .vmem, ⟨27, _⟩ => ⟨S4x512x256, .bf16⟩
  | .local _ .vmem, ⟨28, _⟩ => ⟨S4x512x256, .bf16⟩
  | .local _ .vmem, ⟨29, _⟩ => ⟨S1x384, .f32⟩
  | .local _ .vmem, ⟨30, _⟩ => ⟨S1x256, .f32⟩
  | _, _ => ⟨S4x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35_0 : Ref sig .tc := ⟨.hbm, 59, rfl⟩
abbrev main_v35_1 : Ref sig .tc := ⟨.hbm, 60, rfl⟩
abbrev main_v35_2 : Ref sig .tc := ⟨.hbm, 61, rfl⟩
abbrev main_v35_3 : Ref sig .tc := ⟨.hbm, 62, rfl⟩
abbrev main_v35_4 : Ref sig .tc := ⟨.hbm, 63, rfl⟩
abbrev main_v35_5 : Ref sig .tc := ⟨.hbm, 64, rfl⟩
abbrev main_v35_6 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x192x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512x192 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MlaBwdRefIdeal.lean ====
abbrev S4x2048x192 : Shape := ⟨3, ![4, 2048, 192]⟩
abbrev S4x2048x128 : Shape := ⟨3, ![4, 2048, 128]⟩
abbrev S2048x384 : Shape := ⟨2, ![2048, 384]⟩
abbrev S2048x256 : Shape := ⟨2, ![2048, 256]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x768 : Shape := ⟨2, ![2048, 768]⟩
abbrev S2048x1024 : Shape := ⟨2, ![2048, 1024]⟩
abbrev S2048x4x192 : Shape := ⟨3, ![2048, 4, 192]⟩
abbrev S2048x4x64 : Shape := ⟨3, ![2048, 4, 64]⟩
abbrev S2048x1x64 : Shape := ⟨3, ![2048, 1, 64]⟩
abbrev S2048x4x32 : Shape := ⟨3, ![2048, 4, 32]⟩
abbrev S2048x4x256 : Shape := ⟨3, ![2048, 4, 256]⟩
abbrev S2048x32 : Shape := ⟨2, ![2048, 32]⟩
abbrev S2048x4x128 : Shape := ⟨3, ![2048, 4, 128]⟩
abbrev S256 : Shape := ⟨1, ![256]⟩
abbrev S384 : Shape := ⟨1, ![384]⟩
abbrev S4x2048x256 : Shape := ⟨3, ![4, 2048, 256]⟩

abbrev nBuf : Space → Nat
  | .hbm => 178
  | .vmem => 0
  | .smem => 0
  | _ => 0

abbrev hbmTy0_0 (i : Nat) : BufTy := match i % 128 with
  | 0 => ⟨S4x2048x192, .f32⟩
  | 1 => ⟨S4x2048x192, .f32⟩
  | 2 => ⟨S4x2048x128, .f32⟩
  | 3 => ⟨S2048x384, .f32⟩
  | 4 => ⟨S2048x256, .f32⟩
  | 5 => ⟨S1x384, .f32⟩
  | 6 => ⟨S1x256, .f32⟩
  | 7 => ⟨S384x768, .f32⟩
  | 8 => ⟨S256x1024, .f32⟩
  | 9 => ⟨S2048x64, .f32⟩
  | 10 => ⟨S2048x64, .f32⟩
  | 11 => ⟨S2048x384, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x384, .f32⟩
  | 27 => ⟨S2048x384, .f32⟩
  | 28 => ⟨S2048x384, .f32⟩
  | 29 => ⟨S2048x384, .f32⟩
  | 30 => ⟨S2048x768, .f32⟩
  | 31 => ⟨S2048x256, .f32⟩
  | 32 => ⟨S_, .f32⟩
  | 33 => ⟨S2048, .f32⟩
  | 34 => ⟨S2048x1, .f32⟩
  | 35 => ⟨S_, .f32⟩
  | 36 => ⟨S2048x1, .f32⟩
  | 37 => ⟨S2048x1, .f32⟩
  | 38 => ⟨S_, .f32⟩
  | 39 => ⟨S2048x1, .f32⟩
  | 40 => ⟨S2048x1, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x256, .f32⟩
  | 47 => ⟨S2048x256, .f32⟩
  | 48 => ⟨S2048x256, .f32⟩
  | 49 => ⟨S2048x256, .f32⟩
  | 50 => ⟨S2048x1024, .f32⟩
  | 51 => ⟨S_, .f32⟩
  | 52 => ⟨S2048x64, .f32⟩
  | 53 => ⟨S2048x4x192, .f32⟩
  | 54 => ⟨S2048x4x64, .f32⟩
  | 55 => ⟨S2048x1x64, .f32⟩
  | 56 => ⟨S2048x1x64, .f32⟩
  | 57 => ⟨S2048x4x64, .f32⟩
  | 58 => ⟨S2048x4x64, .f32⟩
  | 59 => ⟨S2048x4x32, .f32⟩
  | 60 => ⟨S2048x4x32, .f32⟩
  | 61 => ⟨S2048x4x32, .f32⟩
  | 62 => ⟨S2048x4x64, .f32⟩
  | 63 => ⟨S2048x4x64, .f32⟩
  | 64 => ⟨S2048x4x64, .f32⟩
  | 65 => ⟨S2048x4x64, .f32⟩
  | 66 => ⟨S2048x4x256, .f32⟩
  | 67 => ⟨S2048x64, .f32⟩
  | 68 => ⟨S2048x32, .f32⟩
  | 69 => ⟨S2048x32, .f32⟩
  | 70 => ⟨S2048x32, .f32⟩
  | 71 => ⟨S2048x64, .f32⟩
  | 72 => ⟨S2048x64, .f32⟩
  | 73 => ⟨S2048x64, .f32⟩
  | 74 => ⟨S2048x1x64, .f32⟩
  | 75 => ⟨S2048x4x64, .f32⟩
  | 76 => ⟨S2048x4x128, .f32⟩
  | 77 => ⟨S2048x4x192, .f32⟩
  | 78 => ⟨S2048x4x128, .f32⟩
  | 79 => ⟨S2048x4x192, .f32⟩
  | 80 => ⟨S4x2048x192, .f32⟩
  | 81 => ⟨S4x2048x192, .f32⟩
  | 82 => ⟨S2048x4x128, .f32⟩
  | 83 => ⟨S4x2048x128, .f32⟩
  | 84 => ⟨S2048x4x128, .f32⟩
  | 85 => ⟨S_, .f32⟩
  | 86 => ⟨S2048x4x256, .f32⟩
  | 87 => ⟨S2048x4x192, .f32⟩
  | 88 => ⟨S2048x4x192, .f32⟩
  | 89 => ⟨S2048x4x128, .f32⟩
  | 90 => ⟨S2048x4x64, .f32⟩
  | 91 => ⟨S_, .f32⟩
  | 92 => ⟨S2048x4x256, .f32⟩
  | 93 => ⟨S2048x4x256, .f32⟩
  | 94 => ⟨S2048x4x128, .f32⟩
  | 95 => ⟨S2048x4x64, .f32⟩
  | 96 => ⟨S_, .f32⟩
  | 97 => ⟨S2048x4x192, .f32⟩
  | 98 => ⟨S_, .f32⟩
  | 99 => ⟨S2048x64, .f32⟩
  | 100 => ⟨S2048x1x64, .f32⟩
  | 101 => ⟨S_, .f32⟩
  | 102 => ⟨S2048x64, .f32⟩
  | 103 => ⟨S2048x64, .f32⟩
  | 104 => ⟨S2048x32, .f32⟩
  | 105 => ⟨S2048x32, .f32⟩
  | 106 => ⟨S2048x32, .f32⟩
  | 107 => ⟨S2048x64, .f32⟩
  | 108 => ⟨S2048x64, .f32⟩
  | 109 => ⟨S2048x64, .f32⟩
  | 110 => ⟨S2048x1024, .f32⟩
  | 111 => ⟨S2048x4x64, .f32⟩
  | 112 => ⟨S2048x4x64, .f32⟩
  | 113 => ⟨S2048x4x32, .f32⟩
  | 114 => ⟨S2048x4x32, .f32⟩
  | 115 => ⟨S2048x4x32, .f32⟩
  | 116 => ⟨S2048x4x64, .f32⟩
  | 117 => ⟨S2048x4x64, .f32⟩
  | 118 => ⟨S2048x4x64, .f32⟩
  | 119 => ⟨S2048x4x64, .f32⟩
  | 120 => ⟨S_, .f32⟩
  | 121 => ⟨S2048x4x192, .f32⟩
  | 122 => ⟨S2048x4x192, .f32⟩
  | 123 => ⟨S2048x768, .f32⟩
  | 124 => ⟨S2048x256, .f32⟩
  | 125 => ⟨S2048x256, .f32⟩
  | 126 => ⟨S_, .f32⟩
  | 127 => ⟨S256, .f32⟩
  | _ => ⟨S4x2048x192, .f32⟩

abbrev hbmTy0_1 (i : Nat) : BufTy := match i % 128 with
  | 0 => ⟨S1x256, .f32⟩
  | 1 => ⟨S2048x256, .f32⟩
  | 2 => ⟨S2048x256, .f32⟩
  | 3 => ⟨S2048x256, .f32⟩
  | 4 => ⟨S_, .f32⟩
  | 5 => ⟨S2048, .f32⟩
  | 6 => ⟨S2048x1, .f32⟩
  | 7 => ⟨S2048x256, .f32⟩
  | 8 => ⟨S2048x256, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048, .f32⟩
  | 15 => ⟨S2048x256, .f32⟩
  | 16 => ⟨S2048x256, .f32⟩
  | 17 => ⟨S2048x256, .f32⟩
  | 18 => ⟨S2048x256, .f32⟩
  | 19 => ⟨S2048x256, .f32⟩
  | 20 => ⟨S2048x384, .f32⟩
  | 21 => ⟨S2048x384, .f32⟩
  | 22 => ⟨S_, .f32⟩
  | 23 => ⟨S384, .f32⟩
  | 24 => ⟨S1x384, .f32⟩
  | 25 => ⟨S2048x384, .f32⟩
  | 26 => ⟨S2048x384, .f32⟩
  | 27 => ⟨S2048x384, .f32⟩
  | 28 => ⟨S_, .f32⟩
  | 29 => ⟨S2048, .f32⟩
  | 30 => ⟨S2048x1, .f32⟩
  | 31 => ⟨S2048x384, .f32⟩
  | 32 => ⟨S2048x384, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048, .f32⟩
  | 39 => ⟨S2048x384, .f32⟩
  | 40 => ⟨S2048x384, .f32⟩
  | 41 => ⟨S2048x384, .f32⟩
  | 42 => ⟨S2048x384, .f32⟩
  | 43 => ⟨S2048x384, .f32⟩
  | 44 => ⟨S2048x4x192, .f32⟩
  | 45 => ⟨S4x2048x192, .f32⟩
  | 46 => ⟨S4x2048x192, .bf16⟩
  | 47 => ⟨S2048x4x256, .f32⟩
  | 48 => ⟨S4x2048x256, .f32⟩
  | 49 => ⟨S4x2048x256, .bf16⟩
  | _ => ⟨S4x2048x192, .f32⟩

abbrev hbmTy (i : Nat) : BufTy := match i / 128 with
  | 0 => hbmTy0_0 i
  | 1 => hbmTy0_1 i
  | _ => ⟨S4x2048x192, .f32⟩

abbrev bufTy : (tb : Table) → Fin (tcTables nBuf tb) → BufTy
  | .hbm, ⟨i, _⟩ => hbmTy i
  | _, _ => ⟨S4x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_13 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_14 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_16 : Ref sig .tc := ⟨.hbm, 138, rfl⟩
abbrev main_v110 : Ref sig .tc := ⟨.hbm, 139, rfl⟩
abbrev main_v111 : Ref sig .tc := ⟨.hbm, 140, rfl⟩
abbrev main_cst_17 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_18 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_19 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_20 : Ref sig .tc := ⟨.hbm, 162, rfl⟩
abbrev main_v130 : Ref sig .tc := ⟨.hbm, 163, rfl⟩
abbrev main_v131 : Ref sig .tc := ⟨.hbm, 164, rfl⟩
abbrev main_cst_21 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩

abbrev nD : Nat := 1
abbrev τ : Topo := Topo.v7x

variable {F : FTy → Type} [FloatOps F]
-- ==== MixInBwd.lean ====
abbrev S2048x1024 : Shape := ⟨2, ![2048, 1024]⟩
abbrev S2048x512 : Shape := ⟨2, ![2048, 512]⟩
abbrev S2048x384 : Shape := ⟨2, ![2048, 384]⟩
abbrev S2048x256 : Shape := ⟨2, ![2048, 256]⟩
abbrev S2048x64 : Shape := ⟨2, ![2048, 64]⟩
abbrev S1x1024 : Shape := ⟨2, ![1, 1024]⟩
abbrev S1024x1216 : Shape := ⟨2, ![1024, 1216]⟩
abbrev S1216x1024 : Shape := ⟨2, ![1216, 1024]⟩
abbrev S1216x2048 : Shape := ⟨2, ![1216, 2048]⟩
abbrev S8x1024 : Shape := ⟨2, ![8, 1024]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x64 : Shape := ⟨2, ![512, 64]⟩
abbrev S1216x512 : Shape := ⟨2, ![1216, 512]⟩
abbrev S384x512 : Shape := ⟨2, ![384, 512]⟩
abbrev S256x512 : Shape := ⟨2, ![256, 512]⟩
abbrev S64x512 : Shape := ⟨2, ![64, 512]⟩
abbrev S384x1024 : Shape := ⟨2, ![384, 1024]⟩
abbrev S256x1024 : Shape := ⟨2, ![256, 1024]⟩
abbrev S64x1024 : Shape := ⟨2, ![64, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x384, .f32⟩
  | .hbm, ⟨3, _⟩ => ⟨S2048x256, .f32⟩
  | .hbm, ⟨4, _⟩ => ⟨S2048x64, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1216, .f32⟩
  | .hbm, ⟨10, _⟩ => ⟨S1216x1024, .f32⟩
  | .hbm, ⟨11, _⟩ => ⟨S1216x1024, .bf16⟩
  | .hbm, ⟨12, _⟩ => ⟨S2048x1024, .f32⟩
  | .hbm, ⟨13, _⟩ => ⟨S1216x2048, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S512x64, .f32⟩
  | .local _ .vmem, ⟨9, _⟩ => ⟨S512x64, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1216x1024, .bf16⟩
  | .local _ .vmem, ⟨15, _⟩ => ⟨S512x1024, .f32⟩
  | .local _ .vmem, ⟨16, _⟩ => ⟨S512x1024, .f32⟩
  | .local _ .vmem, ⟨17, _⟩ => ⟨S1216x512, .bf16⟩
  | .local _ .vmem, ⟨18, _⟩ => ⟨S1216x512, .bf16⟩
  | .local _ .vmem, ⟨19, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1216x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1216x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixInBwdRefIdeal.lean ====
abbrev S2048x1024 : Shape := ⟨2, ![2048, 1024]⟩
abbrev S2048x512 : Shape := ⟨2, ![2048, 512]⟩
abbrev S2048x384 : Shape := ⟨2, ![2048, 384]⟩
abbrev S2048x256 : Shape := ⟨2, ![2048, 256]⟩
abbrev S2048x64 : Shape := ⟨2, ![2048, 64]⟩
abbrev S1x1024 : Shape := ⟨2, ![1, 1024]⟩
abbrev S1024x1216 : Shape := ⟨2, ![1024, 1216]⟩
abbrev S_ : Shape := ⟨0, ![]⟩
abbrev S2048 : Shape := ⟨1, ![2048]⟩
abbrev S2048x1 : Shape := ⟨2, ![2048, 1]⟩
abbrev S2048x1216 : Shape := ⟨2, ![2048, 1216]⟩
abbrev S1024 : Shape := ⟨1, ![1024]⟩
abbrev S1216x2048 : Shape := ⟨2, ![1216, 2048]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x384, .f32⟩
  | .hbm, ⟨3, _⟩ => ⟨S2048x256, .f32⟩
  | .hbm, ⟨4, _⟩ => ⟨S2048x64, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1216, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1216, .f32⟩
  | .hbm, ⟨37, _⟩ => ⟨S2048x512, .f32⟩
  | .hbm, ⟨38, _⟩ => ⟨S2048x384, .f32⟩
  | .hbm, ⟨39, _⟩ => ⟨S2048x256, .f32⟩
  | .hbm, ⟨40, _⟩ => ⟨S2048x64, .f32⟩
  | .hbm, ⟨41, _⟩ => ⟨S_, .f32⟩
  | .hbm, ⟨42, _⟩ => ⟨S2048x1216, .f32⟩
  | .hbm, ⟨43, _⟩ => ⟨S_, .f32⟩
  | .hbm, ⟨44, _⟩ => ⟨S2048x1216, .f32⟩
  | .hbm, ⟨45, _⟩ => ⟨S2048x1216, .f32⟩
  | .hbm, ⟨46, _⟩ => ⟨S_, .f32⟩
  | .hbm, ⟨47, _⟩ => ⟨S2048x1216, .f32⟩
  | .hbm, ⟨48, _⟩ => ⟨S2048x1216, .f32⟩
  | .hbm, ⟨49, _⟩ => ⟨S_, .f32⟩
  | .hbm, ⟨50, _⟩ => ⟨S2048x1216, .f32⟩
  | .hbm, ⟨51, _⟩ => ⟨S2048x1216, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S1x1024, .f32⟩
  | .hbm, ⟨88, _⟩ => ⟨S1216x2048, .f32⟩
  | .hbm, ⟨89, _⟩ => ⟨S1216x2048, .bf16⟩
  | .hbm, ⟨90, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== AdaBwd.lean ====
abbrev S16x1024 : Shape := ⟨2, ![16, 1024]⟩
abbrev S4x1024x2304 : Shape := ⟨3, ![4, 1024, 2304]⟩
abbrev S4x1x2304 : Shape := ⟨3, ![4, 1, 2304]⟩
abbrev S4x16x2304 : Shape := ⟨3, ![4, 16, 2304]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x2304, .f32⟩
  | .hbm, ⟨2, _⟩ => ⟨S4x1x2304, .f32⟩
  | .hbm, ⟨3, _⟩ => ⟨S4x16x2304, .f32⟩
  | .hbm, ⟨4, _⟩ => ⟨S4x1024x2304, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaBwdRefIdeal.lean ====
abbrev S16x1024 : Shape := ⟨2, ![16, 1024]⟩
abbrev S4x1024x2304 : Shape := ⟨3, ![4, 1024, 2304]⟩
abbrev S4x1x2304 : Shape := ⟨3, ![4, 1, 2304]⟩
abbrev S4x16x2304 : Shape := ⟨3, ![4, 16, 2304]⟩
abbrev S_ : Shape := ⟨0, ![]⟩
abbrev S4x2304x16 : Shape := ⟨3, ![4, 2304, 16]⟩
abbrev S4x2304x1024 : Shape := ⟨3, ![4, 2304, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x2304, .f32⟩
  | .hbm, ⟨2, _⟩ => ⟨S4x1x2304, .f32⟩
  | .hbm, ⟨3, _⟩ => ⟨S4x16x2304, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S4x2304x16, .f32⟩
  | .hbm, ⟨14, _⟩ => ⟨S4x16x2304, .f32⟩
  | .hbm, ⟨15, _⟩ => ⟨S4x16x2304, .f32⟩
  | .hbm, ⟨16, _⟩ => ⟨S4x16x2304, .f32⟩
  | .hbm, ⟨17, _⟩ => ⟨S4x2304x16, .f32⟩
  | .hbm, ⟨18, _⟩ => ⟨S4x2304x1024, .f32⟩
  | .hbm, ⟨19, _⟩ => ⟨S4x1024x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== OutProj.lean ====
abbrev S2048x512 : Shape := ⟨2, ![2048, 512]⟩
abbrev S1024x1024 : Shape := ⟨2, ![1024, 1024]⟩
abbrev S2048x1024 : Shape := ⟨2, ![2048, 1024]⟩
abbrev S1x1024 : Shape := ⟨2, ![1, 1024]⟩
abbrev S4x256x1024 : Shape := ⟨3, ![4, 256, 1024]⟩
abbrev S4x256x2048 : Shape := ⟨3, ![4, 256, 2048]⟩
abbrev S512x512 : Shape := ⟨2, ![512, 512]⟩
abbrev S512x1024 : Shape := ⟨2, ![512, 1024]⟩
abbrev S4x256x512 : Shape := ⟨3, ![4, 256, 512]⟩
abbrev S512x256 : Shape := ⟨2, ![512, 256]⟩
abbrev S256x512 : Shape := ⟨2, ![256, 512]⟩
abbrev S1x256x512 : Shape := ⟨3, ![1, 256, 512]⟩
abbrev S1x256x1024 : Shape := ⟨3, ![1, 256, 1024]⟩
abbrev S256x1024 : Shape := ⟨2, ![256, 1024]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1024x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S4x256x1024, .f32⟩
  | .hbm, ⟨7, _⟩ => ⟨S4x256x1024, .bf16⟩
  | .hbm, ⟨8, _⟩ => ⟨S2048x1024, .f32⟩
  | .hbm, ⟨9, _⟩ => ⟨S4x256x2048, .bf16⟩
  | .hbm, ⟨10, _⟩ => ⟨S2048x1024, .bf16⟩
  | .hbm, ⟨11, _⟩ => ⟨S2048x1024, .bf16⟩
  | .hbm, ⟨12, _⟩ => ⟨S2048x512, .f32⟩
  | .hbm, ⟨13, _⟩ => ⟨S2048x512, .f32⟩
  | .hbm, ⟨14, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x256x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S4x256x512, .bf16⟩
  | .local _ .vmem, ⟨11, _⟩ => ⟨S4x256x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S4x256x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== OutProjRefIdeal.lean ====
abbrev S2048x512 : Shape := ⟨2, ![2048, 512]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S1024x2048 : Shape := ⟨2, ![1024, 2048]⟩
abbrev S4x256x2048 : Shape := ⟨3, ![4, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1024x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S2048x512, .f32⟩
  | .hbm, ⟨19, _⟩ => ⟨S2048x512, .f32⟩
  | .hbm, ⟨20, _⟩ => ⟨S1024x2048, .f32⟩
  | .hbm, ⟨21, _⟩ => ⟨S4x256x2048, .f32⟩
  | .hbm, ⟨22, _⟩ => ⟨S4x256x2048, .bf16⟩
  | .hbm, ⟨23, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Ffn.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x704x2048 : Shape := ⟨3, ![4, 704, 2048]⟩
abbrev S4x2048x704 : Shape := ⟨3, ![4, 2048, 704]⟩
abbrev S512x1024 : Shape := ⟨2, ![512, 1024]⟩
abbrev S4x704x512 : Shape := ⟨3, ![4, 704, 512]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S704x512 : Shape := ⟨2, ![704, 512]⟩
abbrev S1x704x512 : Shape := ⟨3, ![1, 704, 512]⟩
abbrev S1x512x704 : Shape := ⟨3, ![1, 512, 704]⟩
abbrev S8x1024 : Shape := ⟨2, ![8, 1024]⟩
abbrev S1024 : Shape := ⟨1, ![1024]⟩

abbrev nBuf : Space → Nat
  | .hbm => 28
  | .vmem => 52
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2048x1024, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S4x704x1024, .f32⟩
  | .hbm, ⟨16, _⟩ => ⟨S4x704x1024, .bf16⟩
  | .hbm, ⟨17, _⟩ => ⟨S2048x1024, .f32⟩
  | .hbm, ⟨18, _⟩ => ⟨S2048x1024, .bf16⟩
  | .hbm, ⟨19, _⟩ => ⟨S4x704x2048, .bf16⟩
  | .hbm, ⟨20, _⟩ => ⟨S4x2048x704, .bf16⟩
  | .hbm, ⟨21, _⟩ => ⟨S4x2048x704, .bf16⟩
  | .hbm, ⟨22, _⟩ => ⟨S2048x1024, .bf16⟩
  | .hbm, ⟨23, _⟩ => ⟨S2048x1024, .bf16⟩
  | .hbm, ⟨24, _⟩ => ⟨S4x2048x704, .bf16⟩
  | .hbm, ⟨25, _⟩ => ⟨S4x2048x704, .bf16⟩
  | .hbm, ⟨26, _⟩ => ⟨S2048x1024, .f32⟩
  | .hbm, ⟨27, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S4x704x512, .bf16⟩
  | .local _ .vmem, ⟨14, _⟩ => ⟨S4x704x512, .bf16⟩
  | .local _ .vmem, ⟨15, _⟩ => ⟨S4x512x704, .bf16⟩
  | .local _ .vmem, ⟨16, _⟩ => ⟨S4x512x704, .bf16⟩
  | .local _ .vmem, ⟨17, _⟩ => ⟨S4x512x704, .bf16⟩
  | .local _ .vmem, ⟨18, _⟩ => ⟨S4x512x704, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S4x512x704, .bf16⟩
  | .local _ .vmem, ⟨24, _⟩ => ⟨S4x512x704, .bf16⟩
  | .local _ .vmem, ⟨25, _⟩ => ⟨S4x512x704, .bf16⟩
  | .local _ .vmem, ⟨26, _⟩ => ⟨S4x512x704, .bf16⟩
  | .local _ .vmem, ⟨27, _⟩ => ⟨S1x1024, .f32⟩
  | .local _ .vmem, ⟨28, _⟩ => ⟨S4x704x1024, .bf16⟩
  | .local _ .vmem, ⟨29, _⟩ => ⟨S512x1024, .bf16⟩
  | .local _ .vmem, ⟨30, _⟩ => ⟨S512x1024, .bf16⟩
  | .local _ .vmem, ⟨31, _⟩ => ⟨S4x512x704, .bf16⟩
  | .local _ .vmem, ⟨32, _⟩ => ⟨S4x512x704, .bf16⟩
  | .local _ .vmem, ⟨33, _⟩ => ⟨S4x512x704, .bf16⟩
  | .local _ .vmem, ⟨34, _⟩ => ⟨S4x512x704, .bf16⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .bf16⟩
  | .local _ .vmem, ⟨40, _⟩ => ⟨S512x1024, .bf16⟩
  | .local _ .vmem, ⟨41, _⟩ => ⟨S4x512x704, .bf16⟩
  | .local _ .vmem, ⟨42, _⟩ => ⟨S4x512x704, .bf16⟩
  | .local _ .vmem, ⟨43, _⟩ => ⟨S4x512x704, .bf16⟩
  | .local _ .vmem, ⟨44, _⟩ => ⟨S4x512x704, .bf16⟩
  | .local _ .vmem, ⟨45, _⟩ => ⟨S1x1024, .f32⟩
  | .local _ .vmem, ⟨46, _⟩ => ⟨S1x1024, .f32⟩
  | .local _ .vmem, ⟨47, _⟩ => ⟨S4x704x1024, .bf16⟩
  | .local _ .vmem, ⟨48, _⟩ => ⟨S4x704x1024, .bf16⟩
  | .local _ .vmem, ⟨49, _⟩ => ⟨S512x1024, .f32⟩
  | .local _ .vmem, ⟨50, _⟩ => ⟨S512x1024, .f32⟩
  | .local _ .vmem, ⟨51, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v10_0 : Ref sig .tc := ⟨.hbm, 26, rfl⟩
abbrev main_v10_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg7_0 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg9_1 : Ref sig .tc := ⟨.vmem, 50, rfl⟩
abbrev cc2_stg10_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44
abbrev cc2_sem5_0 : DmaSem sig := 45
abbrev cc2_sem6_0 : DmaSem sig := 46
abbrev cc2_sem7_0 : DmaSem sig := 47
abbrev cc2_sem8_0 : DmaSem sig := 48
abbrev cc2_sem9_0 : DmaSem sig := 49
abbrev cc2_sem9_1 : DmaSem sig := 50
abbrev cc2_sem10_0 : DmaSem sig := 51

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x704x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x704x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x512x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x512x704 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4x512x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4x512x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S4x704x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S4x704x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S8x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== FfnRefIdeal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S2816x2048 : Shape := ⟨2, ![2816, 2048]⟩
abbrev S4x704x2048 : Shape := ⟨3, ![4, 704, 2048]⟩
abbrev S2048x4x704 : Shape := ⟨3, ![2048, 4, 704]⟩
abbrev S4x2048x704 : Shape := ⟨3, ![4, 2048, 704]⟩
abbrev S8x1024 : Shape := ⟨2, ![8, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S2048x2816, .f32⟩
  | .hbm, ⟨69, _⟩ => ⟨S2048x2816, .f32⟩
  | .hbm, ⟨70, _⟩ => ⟨S2048x2816, .f32⟩
  | .hbm, ⟨71, _⟩ => ⟨S2048x2816, .f32⟩
  | .hbm, ⟨72, _⟩ => ⟨S2048x2816, .f32⟩
  | .hbm, ⟨73, _⟩ => ⟨S2048x2816, .f32⟩
  | .hbm, ⟨74, _⟩ => ⟨S2048x2816, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x1024, .f32⟩
  | .hbm, ⟨98, _⟩ => ⟨S2048x1024, .f32⟩
  | .hbm, ⟨99, _⟩ => ⟨S2048x1, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S_, .f32⟩
  | .hbm, ⟨104, _⟩ => ⟨S2048, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S_, .f32⟩
  | .hbm, ⟨111, _⟩ => ⟨S1x1024, .f32⟩
  | .hbm, ⟨112, _⟩ => ⟨S2048x1024, .bf16⟩
  | .hbm, ⟨113, _⟩ => ⟨S2816x2048, .f32⟩
  | .hbm, ⟨114, _⟩ => ⟨S4x704x2048, .f32⟩
  | .hbm, ⟨115, _⟩ => ⟨S4x704x2048, .bf16⟩
  | .hbm, ⟨116, _⟩ => ⟨S2048x1024, .bf16⟩
  | .hbm, ⟨117, _⟩ => ⟨S2048x4x704, .f32⟩
  | .hbm, ⟨118, _⟩ => ⟨S4x2048x704, .f32⟩
  | .hbm, ⟨119, _⟩ => ⟨S4x2048x704, .bf16⟩
  | .hbm, ⟨120, _⟩ => ⟨S2048x4x704, .f32⟩
  | .hbm, ⟨121, _⟩ => ⟨S4x2048x704, .f32⟩
  | .hbm, ⟨122, _⟩ => ⟨S4x2048x704, .bf16⟩
  | .hbm, ⟨123, _⟩ => ⟨S2048x1024, .f32⟩
  | .hbm, ⟨124, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v23_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v23_1 : Ref sig .tc := ⟨.hbm, 48, rfl⟩
abbrev main_v23_0 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_7 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== AttnFwd.lean ====
abbrev S4x2048x192 : Shape := ⟨3, ![4, 2048, 192]⟩
abbrev S4x2048x128 : Shape := ⟨3, ![4, 2048, 128]⟩
abbrev S2048x512 : Shape := ⟨2, ![2048, 512]⟩
abbrev S1x2048x192 : Shape := ⟨3, ![1, 2048, 192]⟩
abbrev S1x2048x128 : Shape := ⟨3, ![1, 2048, 128]⟩
abbrev S2048x128 : Shape := ⟨2, ![2048, 128]⟩
abbrev S1x512x192 : Shape := ⟨3, ![1, 512, 192]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1x1024x192 : Shape := ⟨3, ![1, 1024, 192]⟩
abbrev S1024x192 : Shape := ⟨2, ![1024, 192]⟩
abbrev S512x1024 : Shape := ⟨2, ![512, 1024]⟩
abbrev S1x1024x128 : Shape := ⟨3, ![1, 1024, 128]⟩
abbrev S1024x128 : Shape := ⟨2, ![1024, 128]⟩
abbrev S1x1536x192 : Shape := ⟨3, ![1, 1536, 192]⟩
abbrev S1536x192 : Shape := ⟨2, ![1536, 192]⟩
abbrev S512x1536 : Shape := ⟨2, ![512, 1536]⟩
abbrev S1x1536x128 : Shape := ⟨3, ![1, 1536, 128]⟩
abbrev S1536x128 : Shape := ⟨2, ![1536, 128]⟩
abbrev S2048x192 : Shape := ⟨2, ![2048, 192]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x192, .bf16⟩
  | .hbm, ⟨1, _⟩ => ⟨S4x2048x192, .bf16⟩
  | .hbm, ⟨2, _⟩ => ⟨S4x2048x128, .bf16⟩
  | .hbm, ⟨3, _⟩ => ⟨S2048x512, .f32⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | _, _ => ⟨S4x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4x2048x192 : Shape := ⟨3, ![4, 2048, 192]⟩
abbrev S4x2048x128 : Shape := ⟨3, ![4, 2048, 128]⟩
abbrev S4x2048x2048 : Shape := ⟨3, ![4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2048 : Shape := ⟨2, ![4, 2048]⟩
abbrev S4x2048x1 : Shape := ⟨3, ![4, 2048, 1]⟩
abbrev S2048x4x128 : Shape := ⟨3, ![2048, 4, 128]⟩
abbrev S2048x512 : Shape := ⟨2, ![2048, 512]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x192, .bf16⟩
  | .hbm, ⟨1, _⟩ => ⟨S4x2048x192, .bf16⟩
  | .hbm, ⟨2, _⟩ => ⟨S4x2048x128, .bf16⟩
  | .hbm, ⟨3, _⟩ => ⟨S4x2048x192, .f32⟩
  | .hbm, ⟨4, _⟩ => ⟨S4x2048x192, .f32⟩
  | .hbm, ⟨5, _⟩ => ⟨S4x2048x128, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S2048, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S4x2048x2048, .i1⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x128, .f32⟩
  | .hbm, ⟨36, _⟩ => ⟨S2048x4x128, .f32⟩
  | .hbm, ⟨37, _⟩ => ⟨S2048x512, .f32⟩
  | _, _ => ⟨S4x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== PoolBwd.lean ====
abbrev S2048x512 : Shape := ⟨2, ![2048, 512]⟩
abbrev S4x128x128 : Shape := ⟨3, ![4, 128, 128]⟩
abbrev S1x512 : Shape := ⟨2, ![1, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S4x128x128, .f32⟩
  | .hbm, ⟨3, _⟩ => ⟨S1x512, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .f32⟩
  | .local _ .vmem, ⟨6, _⟩ => ⟨S2048x512, .bf16⟩
  | .local _ .vmem, ⟨7, _⟩ => ⟨S4x128x128, .f32⟩
  | .local _ .vmem, ⟨8, _⟩ => ⟨S1x512, .f32⟩
  | .local _ .vmem, ⟨9, _⟩ => ⟨S2048x512, .f32⟩
  | .local _ .vmem, ⟨10, _⟩ => ⟨S4x128x128, .f32⟩
  | .local _ .vmem, ⟨11, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== PoolBwdRefIdeal.lean ====
abbrev S2048x512 : Shape := ⟨2, ![2048, 512]⟩
abbrev S4x128x128 : Shape := ⟨3, ![4, 128, 128]⟩
abbrev S1x512 : Shape := ⟨2, ![1, 512]⟩
abbrev S_ : Shape := ⟨0, ![]⟩
abbrev S2048 : Shape := ⟨1, ![2048]⟩
abbrev S2048x128 : Shape := ⟨2, ![2048, 128]⟩
abbrev S2x128 : Shape := ⟨2, ![2, 128]⟩
abbrev S2046x128 : Shape := ⟨2, ![2046, 128]⟩
abbrev S2048x1 : Shape := ⟨2, ![2048, 1]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S2048x1x128 : Shape := ⟨3, ![2048, 1, 128]⟩
abbrev S2048x4x128 : Shape := ⟨3, ![2048, 4, 128]⟩
abbrev S4x128x2048 : Shape := ⟨3, ![4, 128, 2048]⟩
abbrev S512 : Shape := ⟨1, ![512]⟩
abbrev S4x2048x128 : Shape := ⟨3, ![4, 2048, 128]⟩

abbrev nBuf : Space → Nat
  | .hbm => 161
  | .vmem => 0
  | .smem => 0
  | _ => 0

abbrev hbmTy0_0 (i : Nat) : BufTy := match i % 128 with
  | 0 => ⟨S2048x512, .f32⟩
  | 1 => ⟨S2048x512, .f32⟩
  | 2 => ⟨S4x128x128, .f32⟩
  | 3 => ⟨S1x512, .f32⟩
  | 4 => ⟨S_, .f32⟩
  | 5 => ⟨S_, .f32⟩
  | 6 => ⟨S2048x512, .f32⟩
  | 7 => ⟨S2048, .i32⟩
  | 8 => ⟨S2048x128, .f32⟩
  | 9 => ⟨S_, .f32⟩
  | 10 => ⟨S2x128, .f32⟩
  | 11 => ⟨S2046x128, .f32⟩
  | 12 => ⟨S2048x128, .f32⟩
  | 13 => ⟨S_, .f32⟩
  | 14 => ⟨S2x128, .f32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S2048, .f32⟩
  | 22 => ⟨S2048x1, .f32⟩
  | 23 => ⟨S2048x128, .f32⟩
  | 24 => ⟨S2048x128, .f32⟩
  | 25 => ⟨S2048x128, .f32⟩
  | 26 => ⟨S2048x128, .f32⟩
  | 27 => ⟨S_, .f32⟩
  | 28 => ⟨S4x128, .f32⟩
  | 29 => ⟨S2044x128, .f32⟩
  | 30 => ⟨S2048x128, .f32⟩
  | 31 => ⟨S_, .f32⟩
  | 32 => ⟨S4x128, .f32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S2048, .f32⟩
  | 40 => ⟨S2048x1, .f32⟩
  | 41 => ⟨S2048x128, .f32⟩
  | 42 => ⟨S2048x128, .f32⟩
  | 43 => ⟨S2048x128, .f32⟩
  | 44 => ⟨S2048x128, .f32⟩
  | 45 => ⟨S_, .f32⟩
  | 46 => ⟨S8x128, .f32⟩
  | 47 => ⟨S2040x128, .f32⟩
  | 48 => ⟨S2048x128, .f32⟩
  | 49 => ⟨S_, .f32⟩
  | 50 => ⟨S8x128, .f32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S2048, .f32⟩
  | 58 => ⟨S2048x1, .f32⟩
  | 59 => ⟨S2048x128, .f32⟩
  | 60 => ⟨S2048x128, .f32⟩
  | 61 => ⟨S2048x128, .f32⟩
  | 62 => ⟨S2048x128, .f32⟩
  | 63 => ⟨S_, .f32⟩
  | 64 => ⟨S16x128, .f32⟩
  | 65 => ⟨S2032x128, .f32⟩
  | 66 => ⟨S2048x128, .f32⟩
  | 67 => ⟨S_, .f32⟩
  | 68 => ⟨S16x128, .f32⟩
  | 69 => ⟨S_, .i32⟩
  | 70 => ⟨S2048, .i32⟩
  | 71 => ⟨S2048, .i32⟩
  | 72 => ⟨S_, .i32⟩
  | 73 => ⟨S2048, .i32⟩
  | 74 => ⟨S2048, .i32⟩
  | 75 => ⟨S2048, .f32⟩
  | 76 => ⟨S2048x1, .f32⟩
  | 77 => ⟨S2048x128, .f32⟩
  | 78 => ⟨S2048x128, .f32⟩
  | 79 => ⟨S2048x128, .f32⟩
  | 80 => ⟨S2048x1x128, .f32⟩
  | 81 => ⟨S2048x1x128, .f32⟩
  | 82 => ⟨S2048x1x128, .f32⟩
  | 83 => ⟨S2048x1x128, .f32⟩
  | 84 => ⟨S2048x4x128, .f32⟩
  | 85 => ⟨S2048x4x128, .f32⟩
  | 86 => ⟨S2048x4x128, .f32⟩
  | 87 => ⟨S4x128x2048, .f32⟩
  | 88 => ⟨S2048x4x128, .f32⟩
  | 89 => ⟨S2048x512, .f32⟩
  | 90 => ⟨S2048x512, .f32⟩
  | 91 => ⟨S2048x512, .f32⟩
  | 92 => ⟨S2048x512, .f32⟩
  | 93 => ⟨S_, .f32⟩
  | 94 => ⟨S512, .f32⟩
  | 95 => ⟨S1x512, .f32⟩
  | 96 => ⟨S2048x512, .f32⟩
  | 97 => ⟨S2048x512, .f32⟩
  | 98 => ⟨S2048x4x128, .f32⟩
  | 99 => ⟨S4x128x2048, .f32⟩
  | 100 => ⟨S4x2048x128, .f32⟩
  | 101 => ⟨S2048x4x128, .f32⟩
  | 102 => ⟨S4x128x128, .f32⟩
  | 103 => ⟨S4x128x128, .f32⟩
  | 104 => ⟨S2048x4x128, .f32⟩
  | 105 => ⟨S2048x512, .f32⟩
  | 106 => ⟨S2048x1x128, .f32⟩
  | 107 => ⟨S2048x128, .f32⟩
  | 108 => ⟨S2048x1x128, .f32⟩
  | 109 => ⟨S2048x128, .f32⟩
  | 110 => ⟨S2048x1x128, .f32⟩
  | 111 => ⟨S2048x128, .f32⟩
  | 112 => ⟨S2048x1x128, .f32⟩
  | 113 => ⟨S2048x128, .f32⟩
  | 114 => ⟨S2048x128, .f32⟩
  | 115 => ⟨S2048x128, .f32⟩
  | 116 => ⟨S2048x128, .f32⟩
  | 117 => ⟨S16x128, .f32⟩
  | 118 => ⟨S2032x128, .f32⟩
  | 119 => ⟨S_, .f32⟩
  | 120 => ⟨S2048x128, .f32⟩
  | 121 => ⟨S2048x128, .f32⟩
  | 122 => ⟨S_, .f32⟩
  | 123 => ⟨S2048x512, .f32⟩
  | 124 => ⟨S2048x128, .f32⟩
  | 125 => ⟨S2048x128, .f32⟩
  | 126 => ⟨S2048x128, .f32⟩
  | 127 => ⟨S8x128, .f32⟩
  | _ => ⟨S2048x512, .f32⟩

abbrev hbmTy0_1 (i : Nat) : BufTy := match i % 128 with
  | 0 => ⟨S2040x128, .f32⟩
  | 1 => ⟨S_, .f32⟩
  | 2 => ⟨S2048x128, .f32⟩
  | 3 => ⟨S2048x128, .f32⟩
  | 4 => ⟨S_, .f32⟩
  | 5 => ⟨S2048x512, .f32⟩
  | 6 => ⟨S2048x512, .f32⟩
  | 7 => ⟨S2048x128, .f32⟩
  | 8 => ⟨S2048x128, .f32⟩
  | 9 => ⟨S2048x128, .f32⟩
  | 10 => ⟨S4x128, .f32⟩
  | 11 => ⟨S2044x128, .f32⟩
  | 12 => ⟨S_, .f32⟩
  | 13 => ⟨S2048x128, .f32⟩
  | 14 => ⟨S2048x128, .f32⟩
  | 15 => ⟨S_, .f32⟩
  | 16 => ⟨S2048x512, .f32⟩
  | 17 => ⟨S2048x512, .f32⟩
  | 18 => ⟨S2048x128, .f32⟩
  | 19 => ⟨S2048x128, .f32⟩
  | 20 => ⟨S2048x128, .f32⟩
  | 21 => ⟨S2x128, .f32⟩
  | 22 => ⟨S2046x128, .f32⟩
  | 23 => ⟨S_, .f32⟩
  | 24 => ⟨S2048x128, .f32⟩
  | 25 => ⟨S2048x128, .f32⟩
  | 26 => ⟨S_, .f32⟩
  | 27 => ⟨S2048x512, .f32⟩
  | 28 => ⟨S2048x512, .f32⟩
  | 29 => ⟨S_, .f32⟩
  | 30 => ⟨S_, .f32⟩
  | 31 => ⟨S2048x512, .f32⟩
  | 32 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_cst_18 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_21 : Ref sig .tc := ⟨.hbm, 151, rfl⟩
abbrev main_v122 : Ref sig .tc := ⟨.hbm, 152, rfl⟩
abbrev main_v123 : Ref sig .tc := ⟨.hbm, 153, rfl⟩
abbrev main_cst_22 : Ref sig .tc := ⟨.hbm, 154, rfl⟩
abbrev main_v124 : Ref sig .tc := ⟨.hbm, 155, rfl⟩
abbrev main_v125 : Ref sig .tc := ⟨.hbm, 156, rfl⟩
abbrev main_call1_call0_cst : Ref sig .tc := ⟨.hbm, 157, rfl⟩
abbrev main_call1_call0_v0 : Ref sig .tc := ⟨.hbm, 158, rfl⟩
abbrev main_v126 : Ref sig .tc := ⟨.hbm, 159, rfl⟩
abbrev main_v127 : Ref sig .tc := ⟨.hbm, 160, rfl⟩

abbrev nD : Nat := 1
abbrev τ : Topo := Topo.v7x

variable {F : FTy → Type} [FloatOps F]
-- ==== MixIn.lean ====
abbrev S2048x1024 : Shape := ⟨2, ![2048, 1024]⟩
abbrev S1x1024 : Shape := ⟨2, ![1, 1024]⟩
abbrev S1024x1216 : Shape := ⟨2, ![1024, 1216]⟩
abbrev S1216x1024 : Shape := ⟨2, ![1216, 1024]⟩
abbrev S2048x512 : Shape := ⟨2, ![2048, 512]⟩
abbrev S2048x384 : Shape := ⟨2, ![2048, 384]⟩
abbrev S2048x256 : Shape := ⟨2, ![2048, 256]⟩
abbrev S2048x64 : Shape := ⟨2, ![2048, 64]⟩
abbrev S512x1024 : Shape := ⟨2, ![512, 1024]⟩
abbrev S512x512 : Shape := ⟨2, ![512, 512]⟩
abbrev S512x384 : Shape := ⟨2, ![512, 384]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S1152x1024 : Shape := ⟨2, ![1152, 1024]⟩
abbrev S512x1152 : Shape := ⟨2, ![512, 1152]⟩
abbrev S64x1024 : Shape := ⟨2, ![64, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x1216, .f32⟩
  | .hbm, ⟨5, _⟩ => ⟨S1216x1024, .f32⟩
  | .hbm, ⟨6, _⟩ => ⟨S1216x1024, .bf16⟩
  | .hbm, ⟨7, _⟩ => ⟨S2048x1024, .bf16⟩
  | .hbm, ⟨8, _⟩ => ⟨S2048x512, .f32⟩
  | .hbm, ⟨9, _⟩ => ⟨S2048x384, .f32⟩
  | .hbm, ⟨10, _⟩ => ⟨S2048x256, .f32⟩
  | .hbm, ⟨11, _⟩ => ⟨S2048x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1216x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x384, .f32⟩
  | .local _ .vmem, ⟨11, _⟩ => ⟨S512x384, .f32⟩
  | .local _ .vmem, ⟨12, _⟩ => ⟨S512x256, .f32⟩
  | .local _ .vmem, ⟨13, _⟩ => ⟨S512x256, .f32⟩
  | .local _ .vmem, ⟨14, _⟩ => ⟨S512x64, .f32⟩
  | .local _ .vmem, ⟨15, _⟩ => ⟨S512x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1216x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixInRefIdeal.lean ====
abbrev S2048x1024 : Shape := ⟨2, ![2048, 1024]⟩
abbrev S1x1024 : Shape := ⟨2, ![1, 1024]⟩
abbrev S1024x1216 : Shape := ⟨2, ![1024, 1216]⟩
abbrev S_ : Shape := ⟨0, ![]⟩
abbrev S2048 : Shape := ⟨1, ![2048]⟩
abbrev S2048x1 : Shape := ⟨2, ![2048, 1]⟩
abbrev S2048x1216 : Shape := ⟨2, ![2048, 1216]⟩
abbrev S2048x512 : Shape := ⟨2, ![2048, 512]⟩
abbrev S2048x384 : Shape := ⟨2, ![2048, 384]⟩
abbrev S2048x256 : Shape := ⟨2, ![2048, 256]⟩
abbrev S2048x64 : Shape := ⟨2, ![2048, 64]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x1216, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1216, .f32⟩
  | .hbm, ⟨28, _⟩ => ⟨S2048x1024, .bf16⟩
  | .hbm, ⟨29, _⟩ => ⟨S2048x512, .f32⟩
  | .hbm, ⟨30, _⟩ => ⟨S2048x384, .f32⟩
  | .hbm, ⟨31, _⟩ => ⟨S2048x256, .f32⟩
  | .hbm, ⟨32, _⟩ => ⟨S2048x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Ada.lean ====
abbrev S16x1024 : Shape := ⟨2, ![16, 1024]⟩
abbrev S4x1024x2304 : Shape := ⟨3, ![4, 1024, 2304]⟩
abbrev S4x1x2304 : Shape := ⟨3, ![4, 1, 2304]⟩
abbrev S4x16x2304 : Shape := ⟨3, ![4, 16, 2304]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x2304, .f32⟩
  | .hbm, ⟨2, _⟩ => ⟨S4x1x2304, .f32⟩
  | .hbm, ⟨3, _⟩ => ⟨S4x16x2304, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x2304 : Shape := ⟨3, ![4, 1024, 2304]⟩
abbrev S4x1x2304 : Shape := ⟨3, ![4, 1, 2304]⟩
abbrev S_ : Shape := ⟨0, ![]⟩
abbrev S4x2304x16 : Shape := ⟨3, ![4, 2304, 16]⟩
abbrev S4x16x2304 : Shape := ⟨3, ![4, 16, 2304]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x2304, .f32⟩
  | .hbm, ⟨2, _⟩ => ⟨S4x1x2304, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x2304x16, .f32⟩
  | .hbm, ⟨13, _⟩ => ⟨S4x16x2304, .f32⟩
  | .hbm, ⟨14, _⟩ => ⟨S4x16x2304, .f32⟩
  | .hbm, ⟨15, _⟩ => ⟨S4x16x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== MlaFwd.lean ====
abbrev S2048x384 : Shape := ⟨2, ![2048, 384]⟩
abbrev S2048x256 : Shape := ⟨2, ![2048, 256]⟩
abbrev S2048x64 : Shape := ⟨2, ![2048, 64]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S384x4x192 : Shape := ⟨3, ![384, 4, 192]⟩
abbrev S4x192x384 : Shape := ⟨3, ![4, 192, 384]⟩
abbrev S256x4x256 : Shape := ⟨3, ![256, 4, 256]⟩
abbrev S4x256x256 : Shape := ⟨3, ![4, 256, 256]⟩
abbrev S64 : Shape := ⟨1, ![64]⟩
abbrev S_ : Shape := ⟨0, ![]⟩
abbrev S64x64 : Shape := ⟨2, ![64, 64]⟩
abbrev S64x1 : Shape := ⟨2, ![64, 1]⟩
abbrev S64x2 : Shape := ⟨2, ![64, 2]⟩
abbrev S4x2048x192 : Shape := ⟨3, ![4, 2048, 192]⟩
abbrev S4x2048x128 : Shape := ⟨3, ![4, 2048, 128]⟩
abbrev S512x384 : Shape := ⟨2, ![512, 384]⟩
abbrev S512x256 : Shape := ⟨2, ![512, 256]⟩
abbrev S512x64 : Shape := ⟨2, ![512, 64]⟩
abbrev S4x512x192 : Shape := ⟨3, ![4, 512, 192]⟩
abbrev S4x512x128 : Shape := ⟨3, ![4, 512, 128]⟩
abbrev S512 : Shape := ⟨1, ![512]⟩
abbrev S512x1 : Shape := ⟨2, ![512, 1]⟩
abbrev S1x192x384 : Shape := ⟨3, ![1, 192, 384]⟩
abbrev S192x384 : Shape := ⟨2, ![192, 384]⟩
abbrev S512x192 : Shape := ⟨2, ![512, 192]⟩
abbrev S512x128 : Shape := ⟨2, ![512, 128]⟩
abbrev S1x512x128 : Shape := ⟨3, ![1, 512, 128]⟩
abbrev S1x512x64 : Shape := ⟨3, ![1, 512, 64]⟩
abbrev S1x256x256 : Shape := ⟨3, ![1, 256, 256]⟩
abbrev S256x256 : Shape := ⟨2, ![256, 256]⟩

abbrev nBuf : Space → Nat
  | .hbm => 61
  | .vmem => 25
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x64, .f32⟩
  | .hbm, ⟨3, _⟩ => ⟨S1x384, .f32⟩
  | .hbm, ⟨4, _⟩ => ⟨S1x256, .f32⟩
  | .hbm, ⟨5, _⟩ => ⟨S384x768, .f32⟩
  | .hbm, ⟨6, _⟩ => ⟨S256x1024, .f32⟩
  | .hbm, ⟨7, _⟩ => ⟨S2048x64, .f32⟩
  | .hbm, ⟨8, _⟩ => ⟨S2048x64, .f32⟩
  | .hbm, ⟨9, _⟩ => ⟨S384x768, .bf16⟩
  | .hbm, ⟨10, _⟩ => ⟨S384x4x192, .bf16⟩
  | .hbm, ⟨11, _⟩ => ⟨S4x192x384, .bf16⟩
  | .hbm, ⟨12, _⟩ => ⟨S256x1024, .bf16⟩
  | .hbm, ⟨13, _⟩ => ⟨S256x4x256, .bf16⟩
  | .hbm, ⟨14, _⟩ => ⟨S4x256x256, .bf16⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64x64, .f32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S64x1, .i32⟩
  | .hbm, ⟨52, _⟩ => ⟨S64x2, .i32⟩
  | .hbm, ⟨53, _⟩ => ⟨S64, .f32⟩
  | .hbm, ⟨54, _⟩ => ⟨S64x64, .f32⟩
  | .hbm, ⟨55, _⟩ => ⟨S64x64, .bf16⟩
  | .hbm, ⟨56, _⟩ => ⟨S4x2048x192, .bf16⟩
  | .hbm, ⟨57, _⟩ => ⟨S4x2048x192, .bf16⟩
  | .hbm, ⟨58, _⟩ => ⟨S4x2048x128, .bf16⟩
  | .hbm, ⟨59, _⟩ => ⟨S2048x384, .bf16⟩
  | .hbm, ⟨60, _⟩ => ⟨S2048x256, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x64, .f32⟩
  | .local _ .vmem, ⟨5, _⟩ => ⟨S512x64, .f32⟩
  | .local _ .vmem, ⟨6, _⟩ => ⟨S1x384, .f32⟩
  | .local _ .vmem, ⟨7, _⟩ => ⟨S1x256, .f32⟩
  | .local _ .vmem, ⟨8, _⟩ => ⟨S4x192x384, .bf16⟩
  | .local _ .vmem, ⟨9, _⟩ => ⟨S4x256x256, .bf16⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S64x64, .bf16⟩
  | .local _ .vmem, ⟨15, _⟩ => ⟨S4x512x192, .bf16⟩
  | .local _ .vmem, ⟨16, _⟩ => ⟨S4x512x192, .bf16⟩
  | .local _ .vmem, ⟨17, _⟩ => ⟨S4x512x192, .bf16⟩
  | .local _ .vmem, ⟨18, _⟩ => ⟨S4x512x192, .bf16⟩
  | .local _ .vmem, ⟨19, _⟩ => ⟨S4x512x128, .bf16⟩
  | .local _ .vmem, ⟨20, _⟩ => ⟨S4x512x128, .bf16⟩
  | .local _ .vmem, ⟨21, _⟩ => ⟨S512x384, .bf16⟩
  | .local _ .vmem, ⟨22, _⟩ => ⟨S512x384, .bf16⟩
  | .local _ .vmem, ⟨23, _⟩ => ⟨S512x256, .bf16⟩
  | .local _ .vmem, ⟨24, _⟩ => ⟨S512x256, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev main_v34_3 : Ref sig .tc := ⟨.hbm, 59, rfl⟩
abbrev main_v34_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x192x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlaFwdRefIdeal.lean ====
abbrev S2048x384 : Shape := ⟨2, ![2048, 384]⟩
abbrev S2048x256 : Shape := ⟨2, ![2048, 256]⟩
abbrev S2048x64 : Shape := ⟨2, ![2048, 64]⟩
abbrev S1x384 : Shape := ⟨2, ![1, 384]⟩
abbrev S1x256 : Shape := ⟨2, ![1, 256]⟩
abbrev S384x768 : Shape := ⟨2, ![384, 768]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S2048x768 : Shape := ⟨2, ![2048, 768]⟩
abbrev S2048x1024 : Shape := ⟨2, ![2048, 1024]⟩
abbrev S2048x4x192 : Shape := ⟨3, ![2048, 4, 192]⟩
abbrev S2048x4x64 : Shape := ⟨3, ![2048, 4, 64]⟩
abbrev S2048x1x64 : Shape := ⟨3, ![2048, 1, 64]⟩
abbrev S2048x4x32 : Shape := ⟨3, ![2048, 4, 32]⟩
abbrev S2048x4x256 : Shape := ⟨3, ![2048, 4, 256]⟩
abbrev S2048x32 : Shape := ⟨2, ![2048, 32]⟩
abbrev S2048x4x128 : Shape := ⟨3, ![2048, 4, 128]⟩
abbrev S4x2048x192 : Shape := ⟨3, ![4, 2048, 192]⟩
abbrev S4x2048x128 : Shape := ⟨3, ![4, 2048, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x64, .f32⟩
  | .hbm, ⟨3, _⟩ => ⟨S1x384, .f32⟩
  | .hbm, ⟨4, _⟩ => ⟨S1x256, .f32⟩
  | .hbm, ⟨5, _⟩ => ⟨S384x768, .f32⟩
  | .hbm, ⟨6, _⟩ => ⟨S256x1024, .f32⟩
  | .hbm, ⟨7, _⟩ => ⟨S2048x64, .f32⟩
  | .hbm, ⟨8, _⟩ => ⟨S2048x64, .f32⟩
  | .hbm, ⟨9, _⟩ => ⟨S2048x384, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S2048x384, .f32⟩
  | .hbm, ⟨24, _⟩ => ⟨S2048x256, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x768, .f32⟩
  | .hbm, ⟨40, _⟩ => ⟨S2048x1024, .f32⟩
  | .hbm, ⟨41, _⟩ => ⟨S2048x4x192, .f32⟩
  | .hbm, ⟨42, _⟩ => ⟨S2048x4x64, .f32⟩
  | .hbm, ⟨43, _⟩ => ⟨S2048x1x64, .f32⟩
  | .hbm, ⟨44, _⟩ => ⟨S2048x1x64, .f32⟩
  | .hbm, ⟨45, _⟩ => ⟨S2048x4x64, .f32⟩
  | .hbm, ⟨46, _⟩ => ⟨S2048x4x64, .f32⟩
  | .hbm, ⟨47, _⟩ => ⟨S2048x4x32, .f32⟩
  | .hbm, ⟨48, _⟩ => ⟨S2048x4x32, .f32⟩
  | .hbm, ⟨49, _⟩ => ⟨S2048x4x32, .f32⟩
  | .hbm, ⟨50, _⟩ => ⟨S2048x4x64, .f32⟩
  | .hbm, ⟨51, _⟩ => ⟨S2048x4x64, .f32⟩
  | .hbm, ⟨52, _⟩ => ⟨S2048x4x64, .f32⟩
  | .hbm, ⟨53, _⟩ => ⟨S2048x4x64, .f32⟩
  | .hbm, ⟨54, _⟩ => ⟨S2048x4x256, .f32⟩
  | .hbm, ⟨55, _⟩ => ⟨S2048x64, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x64, .f32⟩
  | .hbm, ⟨60, _⟩ => ⟨S2048x64, .f32⟩
  | .hbm, ⟨61, _⟩ => ⟨S2048x64, .f32⟩
  | .hbm, ⟨62, _⟩ => ⟨S2048x1x64, .f32⟩
  | .hbm, ⟨63, _⟩ => ⟨S2048x4x64, .f32⟩
  | .hbm, ⟨64, _⟩ => ⟨S2048x4x128, .f32⟩
  | .hbm, ⟨65, _⟩ => ⟨S2048x4x192, .f32⟩
  | .hbm, ⟨66, _⟩ => ⟨S2048x4x128, .f32⟩
  | .hbm, ⟨67, _⟩ => ⟨S2048x4x192, .f32⟩
  | .hbm, ⟨68, _⟩ => ⟨S4x2048x192, .f32⟩
  | .hbm, ⟨69, _⟩ => ⟨S4x2048x192, .f32⟩
  | .hbm, ⟨70, _⟩ => ⟨S2048x4x128, .f32⟩
  | .hbm, ⟨71, _⟩ => ⟨S4x2048x128, .f32⟩
  | .hbm, ⟨72, _⟩ => ⟨S4x2048x192, .bf16⟩
  | .hbm, ⟨73, _⟩ => ⟨S4x2048x192, .bf16⟩
  | .hbm, ⟨74, _⟩ => ⟨S4x2048x128, .bf16⟩
  | .hbm, ⟨75, _⟩ => ⟨S2048x384, .bf16⟩
  | .hbm, ⟨76, _⟩ => ⟨S2048x256, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== NnMm.lean ====
abbrev S1 : Shape := ⟨1, ![1]⟩
abbrev S4x704x2048 : Shape := ⟨3, ![4, 704, 2048]⟩
abbrev S2048x1024 : Shape := ⟨2, ![2048, 1024]⟩
abbrev S704x1024 : Shape := ⟨2, ![704, 1024]⟩
abbrev S4x704x1024 : Shape := ⟨3, ![4, 704, 1024]⟩
abbrev S1x704x2048 : Shape := ⟨3, ![1, 704, 2048]⟩
abbrev S1x704x1024 : Shape := ⟨3, ![1, 704, 1024]⟩
abbrev S704x2048 : Shape := ⟨2, ![704, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x704x2048, .bf16⟩
  | .hbm, ⟨1, _⟩ => ⟨S2048x1024, .bf16⟩
  | .hbm, ⟨2, _⟩ => ⟨S704x1024, .f32⟩
  | .hbm, ⟨3, _⟩ => ⟨S4x704x1024, .bf16⟩
  | .local _ .vmem, ⟨0, _⟩ => ⟨S1x704x2048, .bf16⟩
  | .local _ .vmem, ⟨1, _⟩ => ⟨S1x704x2048, .bf16⟩
  | .local _ .vmem, ⟨2, _⟩ => ⟨S2048x1024, .bf16⟩
  | .local _ .vmem, ⟨3, _⟩ => ⟨S704x1024, .f32⟩
  | .local _ .vmem, ⟨4, _⟩ => ⟨S1x704x1024, .bf16⟩
  | .local _ .vmem, ⟨5, _⟩ => ⟨S1x704x1024, .bf16⟩
  | .local _ .smem, ⟨0, _⟩ => ⟨S1, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v8 : BitVec 32) : BitVec 1 :=
  let arg0 : BitVec 32 := BitVec.ofNat 32 (i 0).val
  let v9 : BitVec 1 := Scalar.cmpi .eq arg0 v8
  let v10 : BitVec 32 := Scalar.extui v9
  let c0_i32 : BitVec 32 := 0#32
  let v11 : BitVec 1 := Scalar.cmpi .ne v10 c0_i32
  v11

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NnMmRefIdeal.lean ====
abbrev S1 : Shape := ⟨1, ![1]⟩
abbrev S4x704x2048 : Shape := ⟨3, ![4, 704, 2048]⟩
abbrev S2048x1024 : Shape := ⟨2, ![2048, 1024]⟩
abbrev S2048x4x704 : Shape := ⟨3, ![2048, 4, 704]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩
abbrev S4 : Shape := ⟨1, ![4]⟩
abbrev S4x1x1 : Shape := ⟨3, ![4, 1, 1]⟩
abbrev S704x1024 : Shape := ⟨2, ![704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x704x2048, .bf16⟩
  | .hbm, ⟨2, _⟩ => ⟨S2048x1024, .bf16⟩
  | .hbm, ⟨3, _⟩ => ⟨S2048x4x704, .bf16⟩
  | .hbm, ⟨4, _⟩ => ⟨S2048x2816, .bf16⟩
  | .hbm, ⟨5, _⟩ => ⟨S2048x2816, .f32⟩
  | .hbm, ⟨6, _⟩ => ⟨S_, .f32⟩
  | .hbm, ⟨7, _⟩ => ⟨S2816x1024, .f32⟩
  | .hbm, ⟨8, _⟩ => ⟨S2048x1024, .f32⟩
  | .hbm, ⟨9, _⟩ => ⟨S2048x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4, .i32⟩
  | .hbm, ⟨14, _⟩ => ⟨S4x1x1, .i32⟩
  | .hbm, ⟨15, _⟩ => ⟨S_, .i32⟩
  | .hbm, ⟨16, _⟩ => ⟨S4x1x1, .i32⟩
  | .hbm, ⟨17, _⟩ => ⟨S4x1x1, .i1⟩
  | .hbm, ⟨18, _⟩ => ⟨S_, .f32⟩
  | .hbm, ⟨19, _⟩ => ⟨S_, .f32⟩
  | .hbm, ⟨20, _⟩ => ⟨S4x704x1024, .i1⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S704x1024, .f32⟩
  | .hbm, ⟨25, _⟩ => ⟨S4x704x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Adam.lean ====
abbrev S4x1024x2304 : Shape := ⟨3, ![4, 1024, 2304]⟩
abbrev S4096x2304 : Shape := ⟨2, ![4096, 2304]⟩
abbrev S256x2304 : Shape := ⟨2, ![256, 2304]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .hbm, ⟨8, _⟩ => ⟨S4096x2304, .f32⟩
  | .hbm, ⟨9, _⟩ => ⟨S4096x2304, .f32⟩
  | .hbm, ⟨10, _⟩ => ⟨S4096x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x1024x2304 : Shape := ⟨3, ![4, 1024, 2304]⟩
abbrev S_ : Shape := ⟨0, ![]⟩
abbrev S4096x2304 : Shape := ⟨2, ![4096, 2304]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S_, .f32⟩
  | .hbm, ⟨5, _⟩ => ⟨S4x1024x2304, .f32⟩
  | .hbm, ⟨6, _⟩ => ⟨S4x1024x2304, .f32⟩
  | .hbm, ⟨7, _⟩ => ⟨S_, .f32⟩
  | .hbm, ⟨8, _⟩ => ⟨S4x1024x2304, .f32⟩
  | .hbm, ⟨9, _⟩ => ⟨S4x1024x2304, .f32⟩
  | .hbm, ⟨10, _⟩ => ⟨S4x1024x2304, .f32⟩
  | .hbm, ⟨11, _⟩ => ⟨S_, .f32⟩
  | .hbm, ⟨12, _⟩ => ⟨S4x1024x2304, .f32⟩
  | .hbm, ⟨13, _⟩ => ⟨S4x1024x2304, .f32⟩
  | .hbm, ⟨14, _⟩ => ⟨S4x1024x2304, .f32⟩
  | .hbm, ⟨15, _⟩ => ⟨S_, .f32⟩
  | .hbm, ⟨16, _⟩ => ⟨S4x1024x2304, .f32⟩
  | .hbm, ⟨17, _⟩ => ⟨S4x1024x2304, .f32⟩
  | .hbm, ⟨18, _⟩ => ⟨S4x1024x2304, .f32⟩
  | .hbm, ⟨19, _⟩ => ⟨S_, .f32⟩
  | .hbm, ⟨20, _⟩ => ⟨S4x1024x2304, .f32⟩
  | .hbm, ⟨21, _⟩ => ⟨S4x1024x2304, .f32⟩
  | .hbm, ⟨22, _⟩ => ⟨S_, .f32⟩
  | .hbm, ⟨23, _⟩ => ⟨S4x1024x2304, .f32⟩
  | .hbm, ⟨24, _⟩ => ⟨S4x1024x2304, .f32⟩
  | .hbm, ⟨25, _⟩ => ⟨S4x1024x2304, .f32⟩
  | .hbm, ⟨26, _⟩ => ⟨S_, .f32⟩
  | .hbm, ⟨27, _⟩ => ⟨S4x1024x2304, .f32⟩
  | .hbm, ⟨28, _⟩ => ⟨S4x1024x2304, .f32⟩
  | .hbm, ⟨29, _⟩ => ⟨S4x1024x2304, .f32⟩
  | .hbm, ⟨30, _⟩ => ⟨S_, .f32⟩
  | .hbm, ⟨31, _⟩ => ⟨S4x1024x2304, .f32⟩
  | .hbm, ⟨32, _⟩ => ⟨S4x1024x2304, .f32⟩
  | .hbm, ⟨33, _⟩ => ⟨S4x1024x2304, .f32⟩
  | .hbm, ⟨34, _⟩ => ⟨S_, .f32⟩
  | .hbm, ⟨35, _⟩ => ⟨S4x1024x2304, .f32⟩
  | .hbm, ⟨36, _⟩ => ⟨S4x1024x2304, .f32⟩
  | .hbm, ⟨37, _⟩ => ⟨S4096x2304, .f32⟩
  | .hbm, ⟨38, _⟩ => ⟨S4096x2304, .f32⟩
  | .hbm, ⟨39, _⟩ => ⟨S4096x2304, .f32⟩
  | _, _ => ⟨S4x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Reals.lean ====
/-
  Arithmetic on extended reals that are all real numbers: each operation of the ideal instance, applied to coercions of
  real numbers, is the coercion of the real operation. A value proof under a precondition that the arguments are finite
  turns both programs' results into coercions of real expressions by these lemmas, and compares those in ℝ.
  Also: what a printed precondition "every element is below infinity in absolute value" says of an array.
-/
module

public import Idealize.ShloMosaic.Lib.Pointwise
public import Idealize.ShloMosaic.Lib.ReduceAll
public import Mathlib.Tactic.Ring
public import Mathlib.Tactic.FieldSimp
public import Mathlib.Tactic.Linarith
public import Mathlib.Tactic.Positivity

@[expose] public section

noncomputable section

namespace Cert.Reals

open Idealize.ShloMosaic

/-- An array of real numbers, as an array of extended reals. -/
abbrev up {s : Shape} (X : s.Idx → ℝ) : FVec Ideal s .f32 := fun i => ((X i : ℝ) : EReal)
/-- The same at the narrow format, whose ideal values are the same. -/
abbrev upb {s : Shape} (X : s.Idx → ℝ) : FVec Ideal s .bf16 := fun i => ((X i : ℝ) : EReal)

/-- A sum of coercions is the coercion of the sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A product of coercions is the coercion of the product. -/
theorem mul_coe (a b : ℝ) : ((a : EReal) * (b : EReal)) = ((a * b : ℝ) : EReal) := (EReal.coe_mul a b).symm
/-- A sum of two coercions is the coercion of the sum. -/
theorem add_coe (a b : ℝ) : ((a : EReal) + (b : EReal)) = ((a + b : ℝ) : EReal) := (EReal.coe_add a b).symm
/-- A difference of coercions is the coercion of the difference. -/
theorem sub_coe (a b : ℝ) : ((a : EReal) - (b : EReal)) = ((a - b : ℝ) : EReal) := (EReal.coe_sub a b).symm
/-- The negative of a coercion is the coercion of the negative. -/
theorem neg_coe (a : ℝ) : (-(a : EReal)) = ((-a : ℝ) : EReal) := (EReal.coe_neg a).symm
/-- A quotient of coercions by a nonzero number is the coercion of the quotient. -/
theorem div_coe (a : ℝ) {b : ℝ} (hb : b ≠ 0) : Ideal.div (a : EReal) (b : EReal) = ((a / b : ℝ) : EReal) := by
  rw [Ideal.div_coe hb, mul_coe, mul_one_div]
/-- The inverse square root of a positive number. -/
theorem rsqrt_coe {a : ℝ} (ha : 0 < a) : Ideal.rsqrt (a : EReal) = (((Real.sqrt a)⁻¹ : ℝ) : EReal) := by
  rw [Ideal.rsqrt_coe, if_neg (not_lt.2 ha.le), if_neg ha.ne']

/-- The words of the constants that the programs of this certificate read, as real numbers. -/
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_384 : Ideal.ofBits .f32 0x43C00000#32 = ((384 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num

/-- The ε of the norms: the rational number of the float word nearest 10⁻⁶. -/
def eps : ℝ := 8796093 / 8796093022208

theorem eps_pos : 0 < eps := by unfold eps; norm_num

theorem lit_eps : Ideal.ofBits .f32 0x358637BD#32 = ((eps : ℝ) : EReal) := by
  unfold eps
  simp [Ideal.ofBits, Ideal.ieee, -EReal.coe_mul]; norm_num

/-- The word of +∞ is the top element. -/
theorem lit_inf : Ideal.ofBits .f32 0x7F800000#32 = (⊤ : EReal) := by
  simp [Ideal.ofBits, Ideal.ieee]

/-- An extended real whose absolute value is below ⊤ is a real number. -/
theorem exists_coe {a : EReal} (h : Ideal.cmp .olt (max a (-a)) ⊤ = 1#1) : ∃ r : ℝ, a = (r : EReal) := by
  induction a with
  | bot => simp [Ideal.cmp] at h
  | coe r => exact ⟨r, rfl⟩
  | top => simp [Ideal.cmp] at h

/-- An array all of whose elements are below ⊤ in absolute value, as a printed precondition says it, is the coercion of
    an array of real numbers. -/
theorem array_real {s t u : Shape} {φ : FTy} {axes : List (Fin s.rank)} [Subsingleton t.Idx] (x b : FVec Ideal s φ)
    (hb : ∀ i, b i = (⊤ : EReal)) (init : u.Idx → BitVec 1) (h : s.ReducesTo axes t) (hu : 0 < u.numel) (j : t.Idx)
    (e : Host.reduce IntOp.andi (cmpf .olt (Host.absf x) b) init h hu j = 1#1) :
    ∃ X : s.Idx → ℝ, x = fun i => ((X i : ℝ) : EReal) := by
  have hx : ∀ i, ∃ r : ℝ, x i = (r : EReal) := fun i => by
    have h1 := Host.reduce_andi_all _ init h hu j e i
    have h2 : Ideal.cmp .olt (max (x i) (-(x i))) (b i) = 1#1 := h1
    rw [hb i] at h2
    exact exists_coe h2
  choose X hX using hx
  exact ⟨X, funext hX⟩

instance : Subsingleton (⟨0, ![]⟩ : Shape).Idx := ⟨fun a b => funext fun k => k.elim0⟩

end Cert.Reals

end
-- ==== Proof.Norm.lean ====
/-
  The root-mean-square norm of the rows of a real array, and the one identity that its derivative needs: the derivative
  that runs through the inverse root (the reference's form) is the form that a kernel writes by hand.
-/
module

public import proofs.«01_k».proof.Proof.Reals

@[expose] public section

noncomputable section

namespace Cert.Norm

open Idealize.ShloMosaic Reals

variable {n d : Nat}

/-- The mean square of a row plus ε; `w` is the row's length. -/
def ms (w : ℝ) (X : (⟨2, ![n, d]⟩ : Shape).Idx → ℝ) (r : Fin n) : ℝ := (∑ k : Fin d, X (ix2 r k) * X (ix2 r k)) / w + eps

theorem ms_pos {w : ℝ} (hw : 0 < w) (X : (⟨2, ![n, d]⟩ : Shape).Idx → ℝ) (r : Fin n) : 0 < ms w X r := by
  have := eps_pos
  unfold ms
  have : 0 ≤ ∑ k : Fin d, X (ix2 r k) * X (ix2 r k) := Finset.sum_nonneg fun k _ => mul_self_nonneg _
  positivity

/-- The inverse root of a row's mean square. -/
def rs (w : ℝ) (X : (⟨2, ![n, d]⟩ : Shape).Idx → ℝ) (r : Fin n) : ℝ := (Real.sqrt (ms w X r))⁻¹

/-- The inverse root as the programs compute it. -/
theorem rsqrt_ms {w : ℝ} (hw : 0 < w) (X : (⟨2, ![n, d]⟩ : Shape).Idx → ℝ) (r : Fin n) :
    Ideal.rsqrt (((∑ k : Fin d, X (ix2 r k) * X (ix2 r k)) / w + eps : ℝ) : EReal) = ((rs w X r : ℝ) : EReal) :=
  rsqrt_coe (ms_pos hw X r)

/-- The inverse root over the mean square is the inverse root's cube. -/
theorem rs_div_ms {w : ℝ} (hw : 0 < w) (X : (⟨2, ![n, d]⟩ : Shape).Idx → ℝ) (r : Fin n) :
    rs w X r / ms w X r = rs w X r * rs w X r * rs w X r := by
  have h := ms_pos hw X r
  have hs : Real.sqrt (ms w X r) * Real.sqrt (ms w X r) = ms w X r := Real.mul_self_sqrt h.le
  have h0 : Real.sqrt (ms w X r) ≠ 0 := (Real.sqrt_pos.2 h).ne'
  unfold rs
  rw [div_eq_mul_inv]
  nth_rewrite 2 [← hs]
  rw [mul_inv]; ring

/-- The derivative of the norm, the two ways: `D` is the cotangent of the normalised element, `S` the row's sum of
    cotangent times element. -/
theorem back {w : ℝ} (hw : 0 < w) (X : (⟨2, ![n, d]⟩ : Shape).Idx → ℝ) (r : Fin n) (D x S : ℝ) :
    D * rs w X r + x * (S * (-(1 / 2) * (rs w X r / ms w X r)) / w) + S * (-(1 / 2) * (rs w X r / ms w X r)) / w * x
      = rs w X r * (D - x * rs w X r * (S * rs w X r / w)) := by
  rw [rs_div_ms hw]; ring

/-- Row `r` of the `t`-th of four tiles of 512 rows. -/
def row (t : Fin 4) (r : Fin 512) : Fin 2048 := ⟨512 * t.val + r.val, by omega⟩

/-- The `t`-th tile of 512 rows. -/
def tile (X : (⟨2, ![2048, d]⟩ : Shape).Idx → ℝ) (t : Fin 4) : (⟨2, ![512, d]⟩ : Shape).Idx → ℝ :=
  fun i => X (ix2 (row t (i 0)) (i 1))

/-- A sum over 2048 rows, tile by tile. -/
theorem sum_rows (f : Fin 2048 → ℝ) : ∑ t : Fin 4, ∑ r : Fin 512, f (row t r) = ∑ r : Fin 2048, f r := by
  rw [← Finset.sum_product', Finset.univ_product_univ, ← Equiv.sum_comp (finProdFinEquiv (m := 4) (n := 512)) f]
  refine Finset.sum_congr rfl fun p _ => congrArg f (Fin.ext ?_)
  show 512 * p.1.val + p.2.val = p.2.val + 512 * p.1.val
  omega

/-- A sum over the tiles below the next one. -/
theorem sum_next {N : Nat} (f : Fin N → ℝ) (n : Nat) (h : n < N) :
    ∑ t ∈ Finset.univ.filter (fun t : Fin N => t.val < n + 1), f t
      = ∑ t ∈ Finset.univ.filter (fun t : Fin N => t.val < n), f t + f ⟨n, h⟩ := by
  rw [show Finset.univ.filter (fun t : Fin N => t.val < n + 1)
      = insert ⟨n, h⟩ (Finset.univ.filter (fun t : Fin N => t.val < n)) from by
    ext t; simp [Fin.ext_iff]; omega]
  rw [Finset.sum_insert (by simp), add_comm]

/-- The tiles below the number of tiles are all tiles. -/
theorem sum_all {N : Nat} (f : Fin N → ℝ) : ∑ t ∈ Finset.univ.filter (fun t : Fin N => t.val < N), f t = ∑ t, f t := by
  rw [Finset.filter_true_of_mem fun t _ => t.isLt]

end Cert.Norm

namespace Cert

/-- The offsets of a load of all. -/
theorem off2 : (![0, 0] : Fin 2 → Nat) = fun _ => 0 := funext fun a => match a with | ⟨0, _⟩ => rfl | ⟨1, _⟩ => rfl
theorem off3 : (![0, 0, 0] : Fin 3 → Nat) = fun _ => 0 := funext fun a => match a with | ⟨0, _⟩ => rfl | ⟨1, _⟩ => rfl | ⟨2, _⟩ => rfl

end Cert

end
-- ==== Proof.Blocks.lean ====
/-
  Windows of an array: the window whose block is the whole array, the windows whose blocks are runs of 512 rows along one of
  the axes, and those whose blocks are one of four heads. Where an entry of a block lies in the array, and that an index of the array is in its block.
-/
module

public import proofs.«01_k».proof.Proof.Norm

@[expose] public section

namespace Cert.Blocks

open Idealize.ShloMosaic
open Norm

variable {N d w h : Nat} {b : Fin d} {f : Fin N → Fin d → Nat}

/-- The block index is 0 at each point; it is the point's number along one axis, and 0 along the others. -/
abbrev Whole (f : Fin N → Fin d → Nat) : Prop := ∀ t a, f t a = 0
abbrev Along (b : Fin d) (f : Fin N → Fin d → Nat) : Prop := ∀ t a, f t a = if a = b then t.val else 0

/-- An entry of the whole array's block, in the array. -/
theorem whole_at {D : Fin d → Nat} (hf : Whole f) (t : Fin N) (e j : (⟨d, D⟩ : Shape).Idx) (he : ∀ a, (e a).val = f t a * D a + 1 * (j a).val) : e = j := by
  funext a
  apply Fin.ext
  rw [he a, hf t a]
  omega
theorem whole_has {D : Fin d → Nat} (hf : Whole f) (t : Fin N) (x : (⟨d, D⟩ : Shape).Idx) (a : Fin d) : f t a * D a ≤ (x a).val ∧ (x a).val < f t a * D a + D a := by
  rw [hf t a]
  have : (x a).val < D a := (x a).isLt
  omega

/-- An index whose coordinates are in a block's ranges is in the block. -/
theorem in_block {sig : RefSig} {κ : Kind} {b : Ref sig κ} {o n : Fin b.ty.shape.rank → Nat} {inb} {x : b.ty.shape.Idx}
    (hx : ∀ a, o a ≤ (x a).val ∧ (x a).val < o a + n a) : x ∈ ((View.whole b).slice (Rect.unit o n inb)).set := by
  rw [View.set_slice_whole, Rect.mem_set_unit]
  exact hx

/-- Block `t` of an array's rows. -/
def rowsOf {α : Type} (X : (⟨2, ![2048, w]⟩ : Shape).Idx → α) (t : Fin 4) : (⟨2, ![512, w]⟩ : Shape).Idx → α := fun i => X (ix2 (row t (i 0)) (i 1))

/-- The block that a row is in. -/
def blockOf (hN : N = 4) (r : Fin 2048) : Fin N := ⟨r.val / 512, by omega⟩

/-- An index lies in the window that its row is in. -/
theorem along_has {D n : Fin d → Nat} (hf : Along b f) (t : Fin N) (x : (⟨d, D⟩ : Shape).Idx) (ht : t.val = (x b).val / n b) (hb : 0 < n b)
    (hn : ∀ a, a ≠ b → n a = D a) (a : Fin d) : f t a * n a ≤ (x a).val ∧ (x a).val < f t a * n a + n a := by
  rw [hf t a]
  by_cases hab : a = b
  · subst hab
    rw [if_pos rfl, ht]
    exact ⟨Nat.div_mul_le_self _ _, Nat.lt_div_mul_add hb⟩
  · rw [if_neg hab, hn a hab]
    have : (x a).val < D a := (x a).isLt
    omega

/-- A block's row and a block's other coordinate, in the array. -/
theorem at_row {j t v : Nat} (hv : v = t * 512 + 1 * j) : v = 512 * t + j := by omega
theorem at_rest {j n v : Nat} (hv : v = 0 * n + 1 * j) : v = j := by omega

/-- An entry of a block of rows, in the array. -/
theorem rows_at {f : Fin N → Fin 2 → Nat} (hN : N = 4) (hf : Along 0 f) (t : Fin N) (e : (⟨2, ![2048, w]⟩ : Shape).Idx) (j : (⟨2, ![512, w]⟩ : Shape).Idx)
    (he : ∀ a, (e a).val = f t a * (![512, w] : Fin 2 → Nat) a + 1 * (j a).val) : e = ix2 (row (t.cast hN) (j 0)) (j 1) := by
  funext a
  apply Fin.ext
  have h := he a
  rw [hf t a] at h
  match a with
  | ⟨0, _⟩ => exact at_row h
  | ⟨1, _⟩ => exact at_rest h

/-- An entry of a block of columns. -/
theorem cols_at {f : Fin N → Fin 2 → Nat} (hN : N = 4) (hf : Along 1 f) (t : Fin N) (e : (⟨2, ![w, 2048]⟩ : Shape).Idx) (j : (⟨2, ![w, 512]⟩ : Shape).Idx)
    (he : ∀ a, (e a).val = f t a * (![w, 512] : Fin 2 → Nat) a + 1 * (j a).val) : e = ix2 (j 0) (row (t.cast hN) (j 1)) := by
  funext a
  apply Fin.ext
  have h := he a
  rw [hf t a] at h
  match a with
  | ⟨0, _⟩ => exact at_rest h
  | ⟨1, _⟩ => exact at_row h

/-- An entry of a block along the second axis of three. -/
theorem mid_at {f : Fin N → Fin 3 → Nat} (hN : N = 4) (hf : Along 1 f) (t : Fin N) (e : (⟨3, ![h, 2048, w]⟩ : Shape).Idx) (j : (⟨3, ![h, 512, w]⟩ : Shape).Idx)
    (he : ∀ a, (e a).val = f t a * (![h, 512, w] : Fin 3 → Nat) a + 1 * (j a).val) : e = ix3 (j 0) (row (t.cast hN) (j 1)) (j 2) := by
  funext a
  apply Fin.ext
  have h := he a
  rw [hf t a] at h
  match a with
  | ⟨0, _⟩ => exact at_rest h
  | ⟨1, _⟩ => exact at_row h
  | ⟨2, _⟩ => exact at_rest h

/-- An entry of a block along the last axis of three. -/
theorem last_at {f : Fin N → Fin 3 → Nat} (hN : N = 4) (hf : Along 2 f) (t : Fin N) (e : (⟨3, ![h, w, 2048]⟩ : Shape).Idx) (j : (⟨3, ![h, w, 512]⟩ : Shape).Idx)
    (he : ∀ a, (e a).val = f t a * (![h, w, 512] : Fin 3 → Nat) a + 1 * (j a).val) : e = ix3 (j 0) (j 1) (row (t.cast hN) (j 2)) := by
  funext a
  apply Fin.ext
  have h := he a
  rw [hf t a] at h
  match a with
  | ⟨0, _⟩ => exact at_rest h
  | ⟨1, _⟩ => exact at_rest h
  | ⟨2, _⟩ => exact at_row h

/-- An entry of the block that is one of four heads, and of a block of one head's 128 columns. -/
theorem head_at {f : Fin N → Fin 3 → Nat} (hN : N = 4) (hf : Along 0 f) (t : Fin N) (e : (⟨3, ![4, h, w]⟩ : Shape).Idx) (j : (⟨3, ![1, h, w]⟩ : Shape).Idx)
    (he : ∀ a, (e a).val = f t a * (![1, h, w] : Fin 3 → Nat) a + 1 * (j a).val) : e = ix3 (t.cast hN) (j 1) (j 2) := by
  funext a
  apply Fin.ext
  have h := he a
  rw [hf t a] at h
  match a with
  | ⟨0, _⟩ => have h : (e 0).val = t.val * 1 + 1 * (j 0).val := h
              have hj : (j 0).val < 1 := (j 0).isLt
              show (e 0).val = t.val
              omega
  | ⟨1, _⟩ => exact at_rest h
  | ⟨2, _⟩ => exact at_rest h
theorem head_cols_at {f : Fin N → Fin 2 → Nat} (hN : N = 4) (hf : Along 1 f) (t : Fin N) (e : (⟨2, ![h, 512]⟩ : Shape).Idx) (j : (⟨2, ![h, 128]⟩ : Shape).Idx)
    (he : ∀ a, (e a).val = f t a * (![h, 128] : Fin 2 → Nat) a + 1 * (j a).val) (hc : t.val * 128 + (j 1).val < 512) : e = ix2 (j 0) ⟨t.val * 128 + (j 1).val, hc⟩ := by
  funext a
  apply Fin.ext
  have h := he a
  rw [hf t a] at h
  match a with
  | ⟨0, _⟩ => exact at_rest h
  | ⟨1, _⟩ => exact h.trans (congrArg _ (Nat.one_mul _))

end Cert.Blocks
-- ==== Proof.LossRef.lean ====
/-
  What the loss call's reference computes, over the reals: the host operations of the printed reference, stage by stage,
  on arguments that are arrays of real numbers — the loss, its gradient with respect to the rows, and with respect to
  the gain.
-/
module

public import proofs.«01_k».proof.Proof.Norm
public import proofs.«01_k».proof.Proof.Gen.LossRefIdeal.Read

@[expose] public section

set_option maxRecDepth 16384
set_option backward.isDefEq.respectTransparency false

noncomputable section

namespace Cert.LossMath

open Idealize.ShloMosaic Reals Norm LossRefIdeal LossRefIdeal.Read

variable (X T : S2048x1024.Idx → ℝ) (G : S1x1024.Idx → ℝ)

/-- The difference of the normalised row and the target. -/
def err {n : Nat} (X T : (⟨2, ![n, 1024]⟩ : Shape).Idx → ℝ) (G : S1x1024.Idx → ℝ) (r : Fin n) (c : Fin 1024) : ℝ := X (ix2 r c) * rs 1024 X r * G (ix2 0 c) - T (ix2 r c)

/-- The mean square plus ε, in the reference's host operations. -/
theorem v6 : val_main_v6 (F := Ideal) (up X) = up fun i => ms 1024 X (i 0) := by
  funext i
  pointwise [val_main_v6, val_main_v5, val_main_v4, val_main_v3, val_main_v2, val_main_v1, val_main_v0, val_main_cst,
    val_main_cst_0, val_main_cst_1, up, lit_1024, lit_eps, mul_coe, coe_sum]
  rw [div_coe _ (by norm_num), add_coe]
  rfl

/-- Its inverse root. -/
theorem v7 : val_main_v7 (F := Ideal) (up X) = up fun i => rs 1024 X (i 0) := by
  funext i
  pointwise [val_main_v7, v6, up]
  rw [rsqrt_coe (ms_pos (by norm_num) X _)]
  rfl

/-- The derivative of the inverse root. -/
theorem v10 : val_main_v10 (F := Ideal) (up X) = up fun i => -(1 / 2) * (rs 1024 X (i 0) / ms 1024 X (i 0)) := by
  funext i
  pointwise [val_main_v10, val_main_v9, val_main_v8, val_main_cst_2, v6, v7, up, lit_neg_half]
  rw [div_coe _ (ms_pos (by norm_num) X _).ne', mul_coe]

/-- The normalised rows. -/
theorem v12 : val_main_v12 (F := Ideal) (up X) = up fun i => X i * rs 1024 X (i 0) := by
  funext i
  pointwise [val_main_v12, val_main_v11, v7, up, mul_coe, ix2_eta]

/-- The error of the normalised and scaled rows. -/
theorem v15 : val_main_v15 (F := Ideal) (up X) (up G) (up T) = up fun i => err X T G (i 0) (i 1) := by
  funext i
  pointwise [val_main_v15, val_main_v14, val_main_v13, v12, up, mul_coe, sub_coe]
  simp only [err, ix2_eta]

/-- The cotangent of the normalised and scaled rows. -/
theorem v29 : val_main_v29 (F := Ideal) (up X) (up G) (up T) = up fun i => err X T G (i 0) (i 1) / 1024 := by
  funext i
  pointwise [val_main_v29, val_main_v28, val_main_v27, val_main_v26, val_main_v25, val_main_v24, val_main_v18, val_main_v17, val_main_cst_3,
    val_main_cst_8, val_main_cst_9, val_main_cst_10, v15, up, lit_half, lit_1024, lit_two]
  rw [div_coe _ (by norm_num), mul_coe, mul_coe]
  congr 1; ring

/-- The sum over a row that the derivative of the row's inverse root reads. -/
def rowSum (r : Fin 2048) : ℝ := ∑ k : Fin 1024, X (ix2 r k) * (err X T G r k / 1024 * G (ix2 0 k))

/-- The row's share of the gradient that goes through the inverse root. -/
theorem v43 : val_main_v43 (F := Ideal) (up X) (up G) (up T)
    = up fun i => rowSum X T G (i 0) * (-(1 / 2) * (rs 1024 X (i 0) / ms 1024 X (i 0))) / 1024 := by
  funext i
  pointwise [val_main_v43, val_main_v42, val_main_v41, val_main_v40, val_main_v37, val_main_v36, val_main_v35, val_main_v34, val_main_v33,
    val_main_cst_12, val_main_cst_13, val_main_cst_14, v29, v10, up, lit_1024, mul_coe, coe_sum]
  rw [div_coe _ (by norm_num)]
  simp only [Finset.univ_unique, Finset.sum_singleton]
  rfl

/-- THE REFERENCE'S LOSS. -/
theorem v49 : val_main_v49 (F := Ideal) (up X) (up G) (up T)
    = up fun _ => 1 / 2 * ∑ r : Fin 2048, (∑ k : Fin 1024, err X T G r k * err X T G r k) / 1024 := by
  funext i
  pointwise [val_main_v49, val_main_v23, val_main_v22, val_main_v21, val_main_v20, val_main_v19, val_main_v16,
    val_main_cst_4, val_main_cst_5, val_main_cst_6, val_main_cst_7, v15, up, lit_1024, lit_half, mul_coe, coe_sum]
  simp only [div_coe _ (show (1024 : ℝ) ≠ 0 by norm_num), coe_sum, mul_coe]

/-- THE REFERENCE'S GRADIENT of the rows. -/
theorem v48 : val_main_v48 (F := Ideal) (up X) (up G) (up T)
    = up fun i => err X T G (i 0) (i 1) / 1024 * G (ix2 0 (i 1)) * rs 1024 X (i 0)
        + X i * (rowSum X T G (i 0) * (-(1 / 2) * (rs 1024 X (i 0) / ms 1024 X (i 0))) / 1024)
        + rowSum X T G (i 0) * (-(1 / 2) * (rs 1024 X (i 0) / ms 1024 X (i 0))) / 1024 * X i := by
  funext i
  pointwise [val_main_v48, val_main_v47, val_main_v46, val_main_v45, val_main_v44, val_main_v39, val_main_v38, val_main_v34, val_main_v33,
    v43, v29, v7, up, mul_coe, add_coe, ix2_eta]

/-- THE REFERENCE'S GRADIENT of the gain. -/
theorem v32 : val_main_v32 (F := Ideal) (up X) (up G) (up T)
    = up fun i => ∑ r : Fin 2048, X (ix2 r (i 1)) * rs 1024 X r * (err X T G r (i 1) / 1024) := by
  funext i
  pointwise [val_main_v32, val_main_v31, val_main_v30, val_main_cst_11, v29, v12, up, mul_coe, coe_sum]

end Cert.LossMath
end
-- ==== Proof.LossKernel.lean ====
/-
  What one grid point of the loss call computes: the three results that the body leaves, as the printed payloads of the
  point's blocks — at the first point (where the two sums start from zero) and at the later ones.
-/
module

public import proofs.«01_k».proof.Proof.LossRef
public import proofs.«01_k».proof.Proof.Gen.LossIdeal.Value

@[expose] public section

set_option maxRecDepth 16384
set_option backward.isDefEq.respectTransparency false

noncomputable section

namespace Cert.LossKernel

open LossIdeal LossIdeal.Gen Idealize.ShloMosaic TcCoe Idealize.SL.Sem

section Points

variable {F : FTy → Type} [FloatOps F]

/-- The offsets of a whole read. -/
theorem hz : (![0, 0] : Fin 2 → Nat) = fun _ => 0 := funext fun a => by fin_cases a <;> rfl

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S1x128 .f32) (h4 : a4.IsWhole) (a5 : Memref sig .tc .vmem S512x1024 .f32) (h5 : a5.IsWhole)
  (a6 : Memref sig .tc .vmem S1x1024 .f32) (h6 : a6.IsWhole)
  (x : Vec F S512x1024 .f32) (g : Vec F S1x1024 .f32) (t : Vec F S512x1024 .f32)

/-- The loss row at the first point. -/
theorem out_A_3 (hc : cond0_0 i) :
    out0_A_3 c i a1 h1 a2 h2 a3 h3 a4 h4 a5 h5 a6 h6 hc x g t = k0_pay8 x g t k0_pay5 := by
  unfold out0_A_3
  rw [View.read_writes_eq_canon _ _ _ (fun _ => cover0_A_3 ..)]
  unfold kernelRun0_A
  dsimp only
  sl_unfold_words
  simp only [View.canon_cons_unit_zero (S := S1x128) hz, View.readCov_unit_zero (S := S1x128) _ hz,
    View.readAt_eq_ld, Memref.IsWhole.read_unread, View.ld_unit_zero (S := S512x1024) hz,
    View.ld_unit_zero (S := S1x1024) hz]

/-- The gradient of the rows at the first point. -/
theorem out_A_4 (hc : cond0_0 i) :
    out0_A_4 c i a1 h1 a2 h2 a3 h3 a4 h4 a5 h5 a6 h6 hc x g t = k0_pay3 x g (k0_pay9 x g t) (k0_pay10 x) := by
  unfold out0_A_4
  rw [View.read_writes_eq_canon _ _ _ (fun _ => cover0_A_4 ..)]
  unfold kernelRun0_A
  dsimp only
  sl_unfold_words
  simp only [View.canon_unit_zero (S := S512x1024) hz,
    View.readAt_eq_ld, Memref.IsWhole.read_unread, View.ld_unit_zero (S := S512x1024) hz,
    View.ld_unit_zero (S := S1x1024) hz]

/-- The gradient of the gain at the first point. -/
theorem out_A_5 (hc : cond0_0 i) :
    out0_A_5 c i a1 h1 a2 h2 a3 h3 a4 h4 a5 h5 a6 h6 hc x g t = k0_pay4 x (k0_pay9 x g t) (k0_pay10 x) k0_pay6 := by
  unfold out0_A_5
  rw [View.read_writes_eq_canon _ _ _ (fun _ => cover0_A_5 ..)]
  unfold kernelRun0_A
  dsimp only
  sl_unfold_words
  simp only [View.canon_cons_unit_zero (S := S1x1024) hz, View.readCov_unit_zero (S := S1x1024) _ hz,
    View.readAt_eq_ld, Memref.IsWhole.read_unread, View.ld_unit_zero (S := S512x1024) hz,
    View.ld_unit_zero (S := S1x1024) hz]

variable (l : Vec F S1x128 .f32) (d : Vec F S1x1024 .f32)

/-- The loss row at a later point. -/
theorem out_B_3 (hc : ¬cond0_0 i) :
    out0_B_3 c i a1 h1 a2 h2 a3 h3 a4 h4 a5 h5 a6 h6 hc x g t l d = k0_pay8 x g t l := by
  unfold out0_B_3
  rw [View.read_writes_eq_canon _ _ _ (fun _ => cover0_B_3 ..)]
  unfold kernelRun0_B
  dsimp only
  sl_unfold_words
  simp only [View.canon_unit_zero (S := S1x128) hz,
    View.readAt_eq_ld, Memref.IsWhole.read_unread, View.ld_unit_zero (S := S512x1024) hz,
    View.ld_unit_zero (S := S1x1024) hz, View.ld_unit_zero (S := S1x128) hz]

/-- The gradient of the rows at a later point. -/
theorem out_B_4 (hc : ¬cond0_0 i) :
    out0_B_4 c i a1 h1 a2 h2 a3 h3 a4 h4 a5 h5 a6 h6 hc x g t l d = k0_pay3 x g (k0_pay9 x g t) (k0_pay10 x) := by
  unfold out0_B_4
  rw [View.read_writes_eq_canon _ _ _ (fun _ => cover0_B_4 ..)]
  unfold kernelRun0_B
  dsimp only
  sl_unfold_words
  simp only [View.canon_unit_zero (S := S512x1024) hz,
    View.readAt_eq_ld, Memref.IsWhole.read_unread, View.ld_unit_zero (S := S512x1024) hz,
    View.ld_unit_zero (S := S1x1024) hz]

/-- The gradient of the gain at a later point. -/
theorem out_B_5 (hc : ¬cond0_0 i) :
    out0_B_5 c i a1 h1 a2 h2 a3 h3 a4 h4 a5 h5 a6 h6 hc x g t l d = k0_pay4 x (k0_pay9 x g t) (k0_pay10 x) d := by
  unfold out0_B_5
  rw [View.read_writes_eq_canon _ _ _ (fun _ => cover0_B_5 ..)]
  unfold kernelRun0_B
  dsimp only
  sl_unfold_words
  simp only [View.canon_unit_zero (S := S1x1024) hz,
    View.readAt_eq_ld, Memref.IsWhole.read_unread, View.ld_unit_zero (S := S512x1024) hz,
    View.ld_unit_zero (S := S1x1024) hz]

end Points

end Cert.LossKernel

end
-- ==== Proof.LossBlock.lean ====
/-
  What one grid point of the loss call computes, over the reals: each payload of the kernel's body on blocks that are
  arrays of real numbers.
-/
module

public import proofs.«01_k».proof.Proof.LossKernel

@[expose] public section

set_option maxRecDepth 16384
set_option backward.isDefEq.respectTransparency false

noncomputable section

namespace Cert.LossBlock

open LossIdeal LossIdeal.Gen Idealize.ShloMosaic Reals Norm LossMath

variable (Y Z : S512x1024.Idx → ℝ) (G : S1x1024.Idx → ℝ)

/-- The squares. -/
theorem pay10 : k0_pay10 (F := Ideal) (up Y) = up fun i => Y i * Y i := by
  funext i
  unfold_payloads
  pointwise [up, mul_coe]

/-- The rows' inverse roots. -/
theorem pay1 : k0_pay1 (F := Ideal) (up fun i => Y i * Y i) = up fun i => rs 1024 Y (i 0) := by
  funext i
  unfold_payloads
  pointwise [up, lit_1024, lit_eps, coe_sum]
  rw [div_coe _ (by norm_num), add_coe]
  exact rsqrt_coe (ms_pos (by norm_num) Y _)

/-- The normalised rows. -/
theorem pay2 : k0_pay2 (F := Ideal) (up Y) (up fun i => Y i * Y i) = up fun i => Y i * rs 1024 Y (i 0) := by
  funext i
  unfold k0_pay2
  pointwise [pay1, up, mul_coe]

/-- The errors. -/
theorem pay7 : k0_pay7 (F := Ideal) (up Y) (up G) (up Z) = up fun i => err Y Z G (i 0) (i 1) := by
  funext i
  unfold k0_pay7
  pointwise [up, lit_1024, lit_eps, mul_coe, coe_sum]
  rw [div_coe _ (by norm_num), add_coe, rsqrt_ms (by norm_num) Y (i 0), mul_coe, mul_coe, sub_coe]
  simp only [err, ix2_eta]

/-- The cotangent of the normalised and scaled rows. -/
theorem pay9 : k0_pay9 (F := Ideal) (up Y) (up G) (up Z) = up fun i => err Y Z G (i 0) (i 1) / 1024 := by
  funext i
  unfold k0_pay9
  pointwise [pay7, up, lit_inv_1024, mul_coe]
  congr 1; ring

/-- The block's part of the loss, added to what was there. -/
theorem pay8 (l : ℝ) : k0_pay8 (F := Ideal) (up Y) (up G) (up Z) (up fun _ => l)
    = up fun _ => l + 1 / 2 * ∑ r : Fin 512, (∑ k : Fin 1024, err Y Z G r k * err Y Z G r k) / 1024 := by
  funext i
  unfold k0_pay8
  pointwise [pay7, up, lit_1024, lit_half, mul_coe, coe_sum]
  simp only [div_coe _ (show (1024 : ℝ) ≠ 0 by norm_num), coe_sum, mul_coe, add_coe]

/-- The gradient of the rows. -/
theorem pay3 : k0_pay3 (F := Ideal) (up Y) (up G) (up fun i => err Y Z G (i 0) (i 1) / 1024) (up fun i => Y i * Y i)
    = up fun i => rs 1024 Y (i 0) * (err Y Z G (i 0) (i 1) / 1024 * G (ix2 0 (i 1)) - Y i * rs 1024 Y (i 0)
        * ((∑ k : Fin 1024, err Y Z G (i 0) k / 1024 * G (ix2 0 k) * (Y (ix2 (i 0) k) * rs 1024 Y (i 0))) / 1024)) := by
  funext i
  unfold k0_pay3
  pointwise [pay2, pay1, up, lit_1024, mul_coe, coe_sum]
  rw [div_coe _ (by norm_num), mul_coe, sub_coe, mul_coe]

/-- The block's part of the gain's gradient, added to what was there. -/
theorem pay4 (d : Fin 1024 → ℝ) :
    k0_pay4 (F := Ideal) (up Y) (up fun i => err Y Z G (i 0) (i 1) / 1024) (up fun i => Y i * Y i) (up fun i => d (i 1))
    = up fun i => d (i 1) + ∑ r : Fin 512, err Y Z G r (i 1) / 1024 * (Y (ix2 r (i 1)) * rs 1024 Y r) := by
  funext i
  unfold k0_pay4
  pointwise [pay2, up, mul_coe, add_coe, coe_sum]

/-- The sums start from zero. -/
theorem pay5 : k0_pay5 (F := Ideal) = up fun _ => (0 : ℝ) := by
  funext i
  unfold k0_pay5
  pointwise [up, EReal.coe_zero]

theorem pay6 : k0_pay6 (F := Ideal) = up fun _ => (0 : ℝ) := by
  funext i
  unfold k0_pay6
  pointwise [up, EReal.coe_zero]

end Cert.LossBlock

end
-- ==== Proof.LossValue.lean ====
/-
  What the loss call's three result arrays hold after the run, over the reals: the two sums by induction over the grid's
  four points, the gradient of the rows block by block; and that these are the reference's results.
-/
module

public import proofs.«01_k».proof.Proof.Blocks
public import proofs.«01_k».proof.Proof.LossBlock

@[expose] public section

set_option maxRecDepth 16384
set_option backward.isDefEq.respectTransparency false

noncomputable section

namespace Cert.LossValue

open LossIdeal LossIdeal.Gen Idealize.ShloMosaic TcCoe Idealize.SL.Sem
open Blocks Reals Norm LossMath LossBlock LossKernel
open Idealize.ShloMosaic.Pipeline (Dat)

variable (m : (ℓ : Loc nD τ sig) → Buf (Elt Ideal) ℓ) (c : Dev nD)
variable (X T : S2048x1024.Idx → ℝ) (G : S1x1024.Idx → ℝ)

/-- A grid point as a tile number. -/
abbrev pt (t : Fin cfg0.N) : Fin 4 := t.cast N_0

/-- The block indices of the row windows and of the whole windows. -/
theorem idx0 : Along 0 win0_0.index := by decide +kernel
theorem idx1 : Whole win0_1.index := by decide +kernel
theorem idx2 : Along 0 win0_2.index := by decide +kernel
theorem idx3 : Whole win0_3.index := by decide +kernel
theorem idx4 : Along 0 win0_4.index := by decide +kernel
theorem idx5 : Whole win0_5.index := by decide +kernel

/-- A point's block of the rows is the tile. -/
theorem iblk0 (hX : m ((c : Thread nD τ).loc main_arg0) = up X) (t : Fin cfg0.N) :
    (iblk m c 0 t : Vec Ideal S512x1024 .f32) = up (tile X (pt t)) := funext fun j => (congrFun hX _).trans (congrArg (up X) (rows_at N_0 idx0 t _ j fun _ => rfl))

theorem iblk2 (hT : m ((c : Thread nD τ).loc main_arg2) = up T) (t : Fin cfg0.N) :
    (iblk m c 2 t : Vec Ideal S512x1024 .f32) = up (tile T (pt t)) := funext fun j => (congrFun hT _).trans (congrArg (up T) (rows_at N_0 idx2 t _ j fun _ => rfl))

/-- The gain's block is the gain. -/
theorem iblk1 (hG : m ((c : Thread nD τ).loc main_arg1) = up G) (t : Fin cfg0.N) :
    (iblk m c 1 t : Vec Ideal S1x1024 .f32) = up G := funext fun j => (congrFun hG _).trans (congrArg (up G) (whole_at idx1 t _ j fun _ => rfl))

/-- The loss of the rows below a tile. -/
def lossTo (n : Nat) : ℝ := ∑ t ∈ Finset.univ.filter (fun t : Fin 4 => t.val < n),
  1 / 2 * ∑ r : Fin 512, (∑ k : Fin 1024, err (tile X t) (tile T t) G r k * err (tile X t) (tile T t) G r k) / 1024

/-- The gain's gradient from the rows below a tile. -/
def gainTo (n : Nat) (j : Fin 1024) : ℝ := ∑ t ∈ Finset.univ.filter (fun t : Fin 4 => t.val < n),
  ∑ r : Fin 512, err (tile X t) (tile T t) G r j / 1024 * (tile X t (ix2 r j) * rs 1024 (tile X t) r)

/-- The block of the gradient of the rows. -/
def dxBlock (t : Fin 4) : FVec Ideal S512x1024 .f32 := k0_pay3 (F := Ideal) (up (tile X t)) (up G)
  (k0_pay9 (up (tile X t)) (up G) (up (tile T t))) (k0_pay10 (up (tile X t)))

/-- What the three staging buffers hold after a point. -/
theorem outs (hX : m ((c : Thread nD τ).loc main_arg0) = up X) (hG : m ((c : Thread nD τ).loc main_arg1) = up G)
    (hT : m ((c : Thread nD τ).loc main_arg2) = up T) : ∀ (n : Nat) (h : n < cfg0.N), outsAt0 m c n h
    = (up fun _ => lossTo X T G (n + 1), dxBlock X T G (pt ⟨n, h⟩), up fun i => gainTo X T G (n + 1) (i 1)) := by
  intro n
  induction n with
  | zero =>
    intro h
    refine (outsAt0_A m c ⟨0, h⟩ rfl).trans ?_
    rw [out_A_3, out_A_4, out_A_5, iblk0 m c X hX, iblk1 m c G hG, iblk2 m c T hT]
    refine Prod.ext ?_ (Prod.ext rfl ?_)
    · dsimp only
      rw [pay5, pay8]
      simp only [lossTo, sum_next (N := 4) _ 0 (by norm_num)]
      simp
    · dsimp only
      rw [pay6, pay9, pay10]
      refine (pay4 _ _ _ fun _ => 0).trans ?_
      simp only [gainTo, sum_next (N := 4) _ 0 (by norm_num)]
      simp
  | succ n ih =>
    intro h
    have hN : cfg0.N = 4 := N_0
    have hB : ¬(⟨n + 1, h⟩ : Fin cfg0.N).val % 4 = 0 := by dsimp only; omega
    refine (outsAt0_B m c ⟨n + 1, h⟩ hB).trans ?_
    rw [out_B_3, out_B_4, out_B_5, iblk0 m c X hX, iblk1 m c G hG, iblk2 m c T hT]
    have e : outsAt0 m c ((⟨n + 1, h⟩ : Fin cfg0.N).val - 1) (Nat.lt_of_le_of_lt (Nat.sub_le _ _) h) = _ :=
      ih (Nat.lt_of_succ_lt h)
    rw [e]
    refine Prod.ext ?_ (Prod.ext rfl ?_)
    · dsimp only
      rw [pay8]
      simp only [lossTo]
      rw [sum_next _ (n + 1) (by omega)]
      rfl
    · dsimp only
      rw [pay9, pay10, pay4]
      simp only [gainTo]
      rw [show (fun i : S1x1024.Idx => ∑ t ∈ Finset.univ.filter (fun t : Fin 4 => t.val < n + 1 + 1), ∑ r : Fin 512,
        err (tile X t) (tile T t) G r (i 1) / 1024 * (tile X t (ix2 r (i 1)) * rs 1024 (tile X t) r)) = _ from
          funext fun i => sum_next _ (n + 1) (by omega)]
      rfl

/-- THE LOSS ARRAY after the run is the reference's. -/
theorem final3 (hX : m ((c : Thread nD τ).loc main_arg0) = up X) (hG : m ((c : Thread nD τ).loc main_arg1) = up G)
    (hT : m ((c : Thread nD τ).loc main_arg2) = up T) : (dats m 0 c).arrAt 3 cfg0.N
      = (up fun _ => 1 / 2 * ∑ r : Fin 2048, (∑ k : Fin 1024, err X T G r k * err X T G r k) / 1024 : Vec Ideal S1x128 .f32) := by
  refine (dats m 0 c).arrAt_eq_of_cover 3 _ (fun t hf => ?_) fun i => ⟨t0_3, (flush0_3 t0_3).mpr rfl, ?_⟩
  · have h3 : t.val % 4 = 3 := (flush0_3 t).mp hf
    have hN : cfg0.N = 4 := N_0
    have e : t.val = 3 := by have := lt_of_lt_of_eq t.isLt N_0; omega
    rw [LossIdeal.Value.flushed3, outs m c X T G hX hG hT]
    funext j
    rw [View.read_apply]
    show ((lossTo X T G (t.val + 1) : ℝ) : EReal) = ((_ : ℝ) : EReal)
    rw [e, ← sum_rows, Finset.mul_sum]
    congr 1
  · exact in_block (whole_has idx3 _ i)

/-- THE GAIN'S GRADIENT after the run is the reference's. -/
theorem final5 (hX : m ((c : Thread nD τ).loc main_arg0) = up X) (hG : m ((c : Thread nD τ).loc main_arg1) = up G)
    (hT : m ((c : Thread nD τ).loc main_arg2) = up T) : (dats m 0 c).arrAt 5 cfg0.N
      = (up fun i => ∑ r : Fin 2048, X (ix2 r (i 1)) * rs 1024 X r * (err X T G r (i 1) / 1024) : Vec Ideal S1x1024 .f32) := by
  refine (dats m 0 c).arrAt_eq_of_cover 5 _ (fun t hf => ?_) fun i => ⟨t0_3, (flush0_5 t0_3).mpr rfl, ?_⟩
  · have h3 : t.val % 4 = 3 := (flush0_5 t).mp hf
    have hN : cfg0.N = 4 := N_0
    have e : t.val = 3 := by have := lt_of_lt_of_eq t.isLt N_0; omega
    rw [LossIdeal.Value.flushed5, outs m c X T G hX hG hT]
    funext j
    rw [View.read_apply]
    have ej : (((cfg0.win 5).blk t).view.emb j : S1x1024.Idx) 1 = j 1 := congrFun (whole_at idx5 t _ j fun _ => rfl) 1
    show ((gainTo X T G (t.val + 1) (j 1) : ℝ) : EReal) = ((∑ r : Fin 2048, X (ix2 r ((((cfg0.win 5).blk t).view.emb j : S1x1024.Idx) 1)) * rs 1024 X r
      * (err X T G r ((((cfg0.win 5).blk t).view.emb j : S1x1024.Idx) 1) / 1024) : ℝ) : EReal)
    rw [ej, e, ← sum_rows]
    congr 1
    refine (sum_all _).trans (Finset.sum_congr rfl fun t _ => Finset.sum_congr rfl fun r _ => ?_)
    exact mul_comm _ _
  · exact in_block (whole_has idx5 _ i)

/-- The reference's gradient of the rows. -/
def dx (i : S2048x1024.Idx) : ℝ := err X T G (i 0) (i 1) / 1024 * G (ix2 0 (i 1)) * rs 1024 X (i 0)
        + X i * (rowSum X T G (i 0) * (-(1 / 2) * (rs 1024 X (i 0) / ms 1024 X (i 0))) / 1024)
        + rowSum X T G (i 0) * (-(1 / 2) * (rs 1024 X (i 0) / ms 1024 X (i 0))) / 1024 * X i

/-- A point's block of the gradient of the rows is the tile of the reference's. -/
theorem dxBlock_eq (t : Fin 4) : dxBlock X T G t = up (tile (dx X T G) t) := by
  unfold dxBlock
  rw [pay9, pay10, pay3]
  funext i
  show ((_ : ℝ) : EReal) = ((_ : ℝ) : EReal)
  congr 1
  unfold tile dx
  rw [back (by norm_num)]
  show rs 1024 X (row t (i 0)) * (err X T G (row t (i 0)) (i 1) / 1024 * G (ix2 0 (i 1)) - X (ix2 (row t (i 0)) (i 1)) * rs 1024 X (row t (i 0))
        * ((∑ k : Fin 1024, err X T G (row t (i 0)) k / 1024 * G (ix2 0 k) * (X (ix2 (row t (i 0)) k) * rs 1024 X (row t (i 0)))) / 1024)) = _
  congr 5
  unfold rowSum
  rw [Finset.sum_mul]
  exact Finset.sum_congr rfl fun k _ => by show _ = X (ix2 (row t (i 0)) k) * (err X T G (row t (i 0)) k / 1024 * G (ix2 0 k)) * rs 1024 X (row t (i 0)); ring

/-- THE GRADIENT OF THE ROWS after the run is the reference's. -/
theorem final4 (hX : m ((c : Thread nD τ).loc main_arg0) = up X) (hG : m ((c : Thread nD τ).loc main_arg1) = up G)
    (hT : m ((c : Thread nD τ).loc main_arg2) = up T) : (dats m 0 c).arrAt 4 cfg0.N
      = (up (dx X T G) : Vec Ideal S2048x1024 .f32) := by
  refine (dats m 0 c).arrAt_eq_of_cover 4 _ (fun t hf => ?_) fun i => ⟨blockOf N_0 (i 0), flush0_4 _, ?_⟩
  · rw [LossIdeal.Value.flushed4, outs m c X T G hX hG hT]
    funext j
    rw [View.read_apply]
    show dxBlock X T G (pt t) j = _
    rw [dxBlock_eq]
    exact congrArg (up (dx X T G)) (rows_at N_0 idx4 t _ j fun _ => rfl).symm
  · exact in_block (along_has idx4 _ i rfl (by decide) (by decide))

end Cert.LossValue

end
-- ==== Proof.LossClaims.lean ====
/-
  The claims about the loss call: both programs' frames, and the equality of the results over the reals, for finite
  arguments.
-/
module

public import proofs.«01_k».proof.Defs
public import proofs.«01_k».proof.Proof.LossValue
public import proofs.«01_k».proof.Proof.Gen.Loss.Frame
public import proofs.«01_k».proof.Proof.Gen.Pre_finite_loss

@[expose] public section

noncomputable section

namespace Cert.LossClaims

open Idealize.ShloMosaic TcCoe Idealize.SL.Sem Reals

/-- Arguments that meet the precondition are arrays of real numbers. -/
theorem reals (x : FVec Ideal Pre_finite_loss.S2048x1024 .f32) (g : FVec Ideal Pre_finite_loss.S1x1024 .f32) (t : FVec Ideal Pre_finite_loss.S2048x1024 .f32)
    (h : Pre_finite_loss.fn (F := Ideal) x g t = fun _ => 1#1) :
    (∃ X : Pre_finite_loss.S2048x1024.Idx → ℝ, x = up X) ∧ (∃ G : Pre_finite_loss.S1x1024.Idx → ℝ, g = up G)
      ∧ ∃ T : Pre_finite_loss.S2048x1024.Idx → ℝ, t = up T := by
  have h0 := congrFun h ix0
  unfold Pre_finite_loss.fn at h0
  obtain ⟨h1, h2⟩ := IntOp.andi_eq_one.1 h0
  obtain ⟨h3, h4⟩ := IntOp.andi_eq_one.1 h1
  exact ⟨array_real _ _ (fun _ => lit_inf) _ _ _ _ h3, array_real _ _ (fun _ => lit_inf) _ _ _ _ h4,
    array_real _ _ (fun _ => lit_inf) _ _ _ _ h2⟩

/-- The reference runs and leaves its arguments. -/
theorem quiescent_ref : quiescent_LossRefIdeal := fun m g _ =>
  (θ_run LossRefIdeal.defs _ _).mono (fun r h => ⟨fun c => ⟨(h c).2.2.2.1, (h c).2.2.2.2.1, (h c).2.2.2.2.2⟩,
    Idealize.ShloMosaic.sem_eq_zero_of_no_sems (by decide) r.2⟩) (LossRefIdeal.Value.run (F := Ideal) m g)

/-- The three results are the reference's, for finite arguments. -/
theorem algebraic : algebraic_LossIdeal_LossRefIdeal_pre_finite_loss := by
  intro m g m' g' hpre hagree
  refine ⟨fun c => LossRefIdeal.Read.val_main_v49 (F := Ideal) (m ((c.tc : Thread LossIdeal.nD LossIdeal.τ).loc LossIdeal.main_arg0))
      (m ((c.tc : Thread LossIdeal.nD LossIdeal.τ).loc LossIdeal.main_arg1)) (m ((c.tc : Thread LossIdeal.nD LossIdeal.τ).loc LossIdeal.main_arg2)),
    fun c => LossRefIdeal.Read.val_main_v48 (F := Ideal) (m ((c.tc : Thread LossIdeal.nD LossIdeal.τ).loc LossIdeal.main_arg0))
      (m ((c.tc : Thread LossIdeal.nD LossIdeal.τ).loc LossIdeal.main_arg1)) (m ((c.tc : Thread LossIdeal.nD LossIdeal.τ).loc LossIdeal.main_arg2)),
    fun c => LossRefIdeal.Read.val_main_v32 (F := Ideal) (m ((c.tc : Thread LossIdeal.nD LossIdeal.τ).loc LossIdeal.main_arg0))
      (m ((c.tc : Thread LossIdeal.nD LossIdeal.τ).loc LossIdeal.main_arg1)) (m ((c.tc : Thread LossIdeal.nD LossIdeal.τ).loc LossIdeal.main_arg2)), ?_, ?_⟩
  · refine (θ_run LossIdeal.defs _ _).mono (fun r h c => ?_) (LossIdeal.Value.run_blocks m g)
    obtain ⟨e0, e1, e2, e3⟩ := h c
    obtain ⟨⟨X, hX⟩, ⟨G, hG⟩, ⟨T, hT⟩⟩ := reals _ _ _ (hpre c)
    refine ⟨e0.trans ?_, e1.trans ?_, e2.trans ?_, e3⟩
    · rw [LossValue.final3 m c X T G hX hG hT]
      beta_reduce
      rw [hX, hG, hT]
      exact (LossMath.v49 X T G).symm
    · rw [LossValue.final4 m c X T G hX hG hT]
      beta_reduce
      rw [hX, hG, hT]
      exact (LossMath.v48 X T G).symm
    · rw [LossValue.final5 m c X T G hX hG hT]
      beta_reduce
      rw [hX, hG, hT]
      exact (LossMath.v32 X T G).symm
  · refine (θ_run LossRefIdeal.defs _ _).mono (fun r h c => ?_) (LossRefIdeal.Value.run (F := Ideal) m' g')
    obtain ⟨e0, e1, e2, e3⟩ := h c
    obtain ⟨a0, a1, a2⟩ := hagree c
    refine ⟨e0.trans ?_, e1.trans ?_, e2.trans ?_, e3⟩
    · beta_reduce
      rw [← a0, ← a1, ← a2]
      exact LossRefIdeal.Read.val_main_v49_eq _ _ _
    · beta_reduce
      rw [← a0, ← a1, ← a2]
      exact LossRefIdeal.Read.val_main_v48_eq _ _
    · beta_reduce
      rw [← a0, ← a1, ← a2]
      exact LossRefIdeal.Read.val_main_v32_eq _ _ _

end Cert.LossClaims

end
-- ==== Proof.Attn.lean ====
/-
  Causal attention of one head over the real numbers, and its three gradients: the definitions that the attention calls'
  values are stated by, the row maximum that the programs subtract before they exponentiate (any real number in its
  place gives the same probabilities), and sums that stop at the last key a row tile can see.
-/
module

public import proofs.«01_k».proof.Proof.Norm
public import Idealize.ShloMosaic.Lib.WordCmp

@[expose] public section

noncomputable section

namespace Cert.Attn

open Idealize.ShloMosaic Reals

/-- The scale of the scores: the rational number of the float word nearest 1/√192. -/
def scale : ℝ := 4843165 / 67108864

theorem lit_scale : Ideal.ofBits .f32 0x3D93CD3A#32 = ((scale : ℝ) : EReal) := by
  unfold scale
  simp [Ideal.ofBits, Ideal.ieee, -EReal.coe_mul]; norm_num

/-- The word of −∞ is the bottom element. -/
theorem lit_ninf : Ideal.ofBits .f32 0xFF800000#32 = (⊥ : EReal) := by
  simp [Ideal.ofBits, Ideal.ieee]

section Row

variable {n : Nat}

/-- The maximum of a row as a real number. -/
def top (f : Fin n → EReal) : ℝ := (Finset.univ.fold max ⊥ f).toReal

/-- The fold of the maximum is the supremum. -/
theorem fold_max (f : Fin n → EReal) : Finset.univ.fold max ⊥ f = Finset.univ.sup f := rfl

/-- A row's maximum is a real number when no element is ⊤ and one is not ⊥. -/
theorem fold_top (f : Fin n → EReal) (hT : ∀ j, f j ≠ ⊤) (j0 : Fin n) (h0 : f j0 ≠ ⊥) :
    Finset.univ.fold max ⊥ f = ((top f : ℝ) : EReal) := by
  unfold top
  rw [fold_max]
  refine (EReal.coe_toReal ?_ ?_).symm
  · refine ((Finset.sup_lt_iff (bot_lt_top)).2 fun j _ => lt_top_iff_ne_top.2 (hT j)).ne
  · intro h
    exact h0 (le_bot_iff.1 (h ▸ Finset.le_sup (f := f) (Finset.mem_univ j0)))

end Row

/-- A choice by the comparison of two positions. -/
theorem select_sge {a b : Nat} (ha : a < 2048) (hb : b < 2048) (x y : EReal) :
    Scalar.select (IntOp.cmpi .sge (BitVec.ofNat 32 a) (BitVec.ofNat 32 b)) x y = if b ≤ a then x else y := by
  rw [WordCmp.cmpi_sge_ofNat (by omega) (by omega)]
  by_cases h : b ≤ a
  · rw [if_pos h, decide_eq_true h]; rfl
  · rw [if_neg h, decide_eq_false h]; rfl

/-- A sum over all positions of terms that are zero from `n` on is the sum over the first `n`. -/
theorem sum_prefix {n N : Nat} (hn : n ≤ N) (f : Fin N → ℝ) (h : ∀ j : Fin N, n ≤ j.val → f j = 0) :
    (∑ j : Fin n, f (Fin.castLE hn j)) = ∑ j, f j := by
  refine Finset.sum_of_injOn (Fin.castLE hn) (fun a _ b _ h => Fin.castLE_injective hn h) (fun _ _ => Finset.mem_coe.2 (Finset.mem_univ _))
    (fun j _ hj => h j ?_) (fun _ _ => rfl)
  by_contra hlt
  exact hj ⟨⟨j.val, not_le.1 hlt⟩, Finset.mem_coe.2 (Finset.mem_univ _), Fin.ext rfl⟩

variable (Q K : Fin 2048 → Fin 192 → ℝ) (V D : Fin 2048 → Fin 128 → ℝ)

/-- The scaled score of query `r` and key `j`. -/
def score (r j : Fin 2048) : ℝ := (∑ d : Fin 192, Q r d * K j d) * scale
/-- The exponential of a score that the query may see, less a number `M`; zero for the others. -/
def ex (M : ℝ) (r j : Fin 2048) : ℝ := if j.val ≤ r.val then Real.exp (score Q K r j - M) else 0
/-- A query's sum of exponentials. -/
def Z (M : ℝ) (r : Fin 2048) : ℝ := ∑ j, ex Q K M r j
/-- The probability that query `r` gives key `j`. -/
def pr (r j : Fin 2048) : ℝ := ex Q K 0 r j / Z Q K 0 r

/-- The number subtracted is a common factor of a row's exponentials. -/
theorem ex_shift (M : ℝ) (r j : Fin 2048) : ex Q K M r j = Real.exp (-M) * ex Q K 0 r j := by
  unfold ex
  split
  · rw [← Real.exp_add]; congr 1; ring
  · rw [mul_zero]

theorem Z_shift (M : ℝ) (r : Fin 2048) : Z Q K M r = Real.exp (-M) * Z Q K 0 r := by
  unfold Z
  rw [Finset.mul_sum]
  exact Finset.sum_congr rfl fun j _ => ex_shift Q K M r j

theorem Z_pos (M : ℝ) (r : Fin 2048) : 0 < Z Q K M r := by
  unfold Z ex
  refine Finset.sum_pos' (fun j _ => by split <;> positivity) ⟨r, Finset.mem_univ _, ?_⟩
  rw [if_pos le_rfl]; positivity

/-- The probabilities do not depend on the number subtracted. -/
theorem ex_div (M : ℝ) (r j : Fin 2048) : ex Q K M r j / Z Q K M r = pr Q K r j := by
  rw [ex_shift, Z_shift, pr, mul_div_mul_left _ _ (Real.exp_pos _).ne']

/-- A key after the query has no probability. -/
theorem pr_zero {r j : Fin 2048} (h : r.val < j.val) : pr Q K r j = 0 := by
  unfold pr ex
  rw [if_neg (not_le.2 h), zero_div]

/-- The cotangent of a probability. -/
def dp (r j : Fin 2048) : ℝ := ∑ e : Fin 128, D r e * V j e
/-- A row's sum of probabilities times their cotangents. -/
def dot (r : Fin 2048) : ℝ := ∑ j, pr Q K r j * dp V D r j
/-- The cotangent of an unscaled score. -/
def ds (r j : Fin 2048) : ℝ := pr Q K r j * (dp V D r j - dot Q K V D r) * scale
/-- The cotangent of a masked score as the derivative of the quotient of exponentials writes it. -/
theorem quot_grad (M : ℝ) (r j : Fin 2048) :
    (dp V D r j / Z Q K M r + -∑ x, dp V D r x * (1 / (Z Q K M r * Z Q K M r)) * ex Q K M r x) * ex Q K M r j
      = pr Q K r j * (dp V D r j - dot Q K V D r) := by
  have hZ := (Z_pos Q K M r).ne'
  have hx : ∀ x, ex Q K M r x = pr Q K r x * Z Q K M r := fun x => by rw [← ex_div Q K M, div_mul_cancel₀ _ hZ]
  have hs : (∑ x, dp V D r x * (1 / (Z Q K M r * Z Q K M r)) * ex Q K M r x) = dot Q K V D r / Z Q K M r := by
    unfold dot
    rw [Finset.sum_div]
    refine Finset.sum_congr rfl fun x _ => ?_
    rw [hx]; field_simp
  rw [hs, hx]; field_simp; ring

/-- The gradient of the queries. -/
def dq (r : Fin 2048) (d : Fin 192) : ℝ := ∑ j, ds Q K V D r j * K j d
/-- The gradient of the keys. -/
def dk (j : Fin 2048) (d : Fin 192) : ℝ := ∑ r, ds Q K V D r j * Q r d
/-- The gradient of the values. -/
def dv (j : Fin 2048) (e : Fin 128) : ℝ := ∑ r, pr Q K r j * D r e
/-- The output. -/
def out (r : Fin 2048) (e : Fin 128) : ℝ := ∑ j, pr Q K r j * V j e

theorem ds_zero {r j : Fin 2048} (h : r.val < j.val) : ds Q K V D r j = 0 := by
  unfold ds
  rw [pr_zero Q K h, zero_mul, zero_mul]

/-- The column of element `e` of head `h` in an array of rows. -/
def col (h : Fin 4) (e : Fin 128) : Fin 512 := ⟨h.val * 128 + e.val, by omega⟩
/-- One head of an array of heads. -/
def head {w : Nat} (X : (⟨3, ![4, 2048, w]⟩ : Shape).Idx → ℝ) (h : Fin 4) : Fin 2048 → Fin w → ℝ := fun r d => X (ix3 h r d)
/-- One head of an array of rows. -/
def headRow (X : (⟨2, ![2048, 512]⟩ : Shape).Idx → ℝ) (h : Fin 4) : Fin 2048 → Fin 128 → ℝ := fun r e => X (ix2 r (col h e))

/-- A score that the query may see, −∞ for the others: what the programs take the row maximum and the exponentials of. -/
def masked (r j : Fin 2048) : EReal := if j.val ≤ r.val then ((score Q K r j : ℝ) : EReal) else ⊥

theorem masked_ne_top (r j : Fin 2048) : masked Q K r j ≠ ⊤ := by
  unfold masked; split
  · exact EReal.coe_ne_top _
  · exact bot_ne_top

theorem masked_diag (r : Fin 2048) : masked Q K r r ≠ ⊥ := by
  unfold masked; rw [if_pos le_rfl]; exact EReal.coe_ne_bot _

/-- The exponential of a masked score less a real number. -/
theorem exp_masked (M : ℝ) (r j : Fin 2048) : Ideal.exp (masked Q K r j - (M : EReal)) = ((ex Q K M r j : ℝ) : EReal) := by
  unfold masked ex
  split
  · rw [sub_coe, Ideal.exp_coe]
  · rw [EReal.bot_sub, Ideal.exp_bot, EReal.coe_zero]

/-- The probability that a row tile computes from its own keys alone, the first `n`: the query is one of them, so the
    keys left out are keys that it may not see. The word `w` is the query's position, and `b` what the mask writes. -/
theorem softmax_tile {n : Nat} (hn : n ≤ 2048) (r : Fin 2048) (hr : r.val < n) (w : BitVec 32) (hw : w = BitVec.ofNat 32 r.val)
    (b : EReal) (hb : b = ⊥) (j : Fin n) :
    Ideal.exp (Scalar.select (IntOp.cmpi .sge w (BitVec.ofNat 32 j.val))
          (((∑ d, Q r d * K (Fin.castLE hn j) d) * scale : ℝ) : EReal) b
        - Finset.fold max ⊥ (fun x : Fin n => Scalar.select (IntOp.cmpi .sge w (BitVec.ofNat 32 x.val))
            (((∑ d, Q r d * K (Fin.castLE hn x) d) * scale : ℝ) : EReal) b) Finset.univ)
      * Ideal.div 1 (∑ y : Fin n, Ideal.exp (Scalar.select (IntOp.cmpi .sge w (BitVec.ofNat 32 y.val))
          (((∑ d, Q r d * K (Fin.castLE hn y) d) * scale : ℝ) : EReal) b
        - Finset.fold max ⊥ (fun x : Fin n => Scalar.select (IntOp.cmpi .sge w (BitVec.ofNat 32 x.val))
            (((∑ d, Q r d * K (Fin.castLE hn x) d) * scale : ℝ) : EReal) b) Finset.univ))
      = ((pr Q K r (Fin.castLE hn j) : ℝ) : EReal) := by
  have hs : ∀ x : Fin n, Scalar.select (IntOp.cmpi .sge w (BitVec.ofNat 32 x.val))
      (((∑ d, Q r d * K (Fin.castLE hn x) d) * scale : ℝ) : EReal) b = masked Q K r (Fin.castLE hn x) := fun x => by
    rw [hw, hb, select_sge r.isLt (Nat.lt_of_lt_of_le x.isLt hn)]; rfl
  simp only [hs]
  rw [fold_top (fun x : Fin n => masked Q K r (Fin.castLE hn x)) (fun x => masked_ne_top Q K r _) ⟨r.val, hr⟩ (masked_diag Q K r)]
  simp only [exp_masked, coe_sum]
  rw [sum_prefix hn (fun y => ex Q K _ r y) fun y hy => if_neg (by omega), ← EReal.coe_one]
  show _ * Ideal.div _ ((Z Q K _ r : ℝ) : EReal) = _
  rw [div_coe _ (Z_pos Q K _ r).ne', mul_coe, mul_one_div, ex_div]

/-- Sums over a tile's own keys are sums over all keys. -/
theorem dot_prefix {n : Nat} (hn : n ≤ 2048) (r : Fin 2048) (hr : r.val < n) :
    (∑ x : Fin n, pr Q K r (Fin.castLE hn x) * dp V D r (Fin.castLE hn x)) = dot Q K V D r :=
  sum_prefix hn (fun x => pr Q K r x * dp V D r x) fun x hx => by rw [pr_zero Q K (by omega), zero_mul]

/-- The cotangent of a score from the tile's own keys. -/
theorem ds_tile {n : Nat} (hn : n ≤ 2048) (r : Fin 2048) (hr : r.val < n) (j : Fin n) :
    pr Q K r (Fin.castLE hn j) * ((∑ e, D r e * V (Fin.castLE hn j) e)
        - ∑ x : Fin n, pr Q K r (Fin.castLE hn x) * ∑ e, D r e * V (Fin.castLE hn x) e) * scale
      = ds Q K V D r (Fin.castLE hn j) := by
  unfold ds
  rw [← dot_prefix Q K V D hn r hr]
  rfl

theorem dq_prefix {n : Nat} (hn : n ≤ 2048) (r : Fin 2048) (hr : r.val < n) (d : Fin 192) :
    (∑ x : Fin n, ds Q K V D r (Fin.castLE hn x) * K (Fin.castLE hn x) d) = dq Q K V D r d :=
  sum_prefix hn (fun x => ds Q K V D r x * K x d) fun x hx => by rw [ds_zero Q K V D (by omega), zero_mul]

/-- Row tile `t`'s share of the gradient of the keys. -/
def dkt (t : Fin 4) (j : Fin 2048) (d : Fin 192) : ℝ := ∑ r : Fin 512, ds Q K V D (Norm.row t r) j * Q (Norm.row t r) d
/-- Row tile `t`'s share of the gradient of the values. -/
def dvt (t : Fin 4) (j : Fin 2048) (e : Fin 128) : ℝ := ∑ r : Fin 512, pr Q K (Norm.row t r) j * D (Norm.row t r) e

/-- A tile gives nothing to the keys after its last query. -/
theorem dkt_zero (t : Fin 4) (j : Fin 2048) (d : Fin 192) (h : 512 * (t.val + 1) ≤ j.val) : dkt Q K V D t j d = 0 :=
  Finset.sum_eq_zero fun r _ => by
    have := r.isLt
    rw [ds_zero Q K V D (show 512 * t.val + r.val < j.val by omega), zero_mul]

theorem dvt_zero (t : Fin 4) (j : Fin 2048) (e : Fin 128) (h : 512 * (t.val + 1) ≤ j.val) : dvt Q K D t j e = 0 :=
  Finset.sum_eq_zero fun r _ => by
    have := r.isLt
    rw [pr_zero Q K (show 512 * t.val + r.val < j.val by omega), zero_mul]

/-- The four tiles' shares make the gradients. -/
theorem dk_tiles (j : Fin 2048) (d : Fin 192) : dk Q K V D j d = ∑ t : Fin 4, dkt Q K V D t j d :=
  (Norm.sum_rows fun r => ds Q K V D r j * Q r d).symm

theorem dv_tiles (j : Fin 2048) (e : Fin 128) : dv Q K D j e = ∑ t : Fin 4, dvt Q K D t j e :=
  (Norm.sum_rows fun r => pr Q K r j * D r e).symm

end Cert.Attn

end
-- ==== Proof.AttnTile.lean ====
/-
  What one row tile of the attention backward call computes, over the reals: the payloads of the printed kernel's body —
  the probabilities of 512 queries and the keys up to the last of them, the cotangents of their scores, and the tile's
  contributions to the three gradients.
-/
module

public import proofs.«01_k».proof.Proof.Attn
public import proofs.«01_k».proof.Proof.Gen.AttnBwdIdeal.Value

@[expose] public section

set_option maxRecDepth 16384
set_option backward.isDefEq.respectTransparency false

noncomputable section

namespace Cert.AttnTile

open Idealize.ShloMosaic Reals Norm Attn AttnBwdIdeal AttnBwdIdeal.Gen

variable (Q K : Fin 2048 → Fin 192 → ℝ) (V D : Fin 2048 → Fin 128 → ℝ)

/-- Tile `t` of an array's rows, as the body loads it. -/
def tileOf {w : Nat} (X : Fin 2048 → Fin w → ℝ) (t : Fin 4) (i : (⟨3, ![1, 512, w]⟩ : Shape).Idx) : ℝ := X (row t (i 1)) (i 2)
/-- The first `n` rows of an array, as the body loads them. -/
def pre {w : Nat} (n : Nat) (hn : n ≤ 2048) (X : Fin 2048 → Fin w → ℝ) (i : (⟨3, ![1, n, w]⟩ : Shape).Idx) : ℝ := X (Fin.castLE hn (show Fin n from i 1)) (i 2)

/-- A tile's query is one of the tile's keys. -/
theorem row_lt (t : Fin 4) (r : Fin 512) : (row t r).val < 512 * (t.val + 1) := by
  have := r.isLt
  show 512 * t.val + r.val < _
  omega

/-- The mask's constant is −∞. -/
theorem mask : (Named.named (F := Ideal) (φ := .f32) κ "mask" 0xF149F2CA#32) = (⊥ : EReal) := rfl

/-- The word of a query's position. -/
theorem pos (t : Fin 4) (r : Fin 512) (a : Nat) (ha : a = 512 * t.val) :
    IntOp.addi (BitVec.ofNat 32 a) (BitVec.ofNat 32 r.val) = BitVec.ofNat 32 (row t r).val := by
  rw [ha, WordCmp.addi_ofNat]; rfl

/-- The probabilities of a tile, the cotangents of its scores, and its rows of the output's cotangent. -/
def prT (t : Fin 4) {n : Nat} (hn : n ≤ 2048) (i : (⟨2, ![512, n]⟩ : Shape).Idx) : ℝ := pr Q K (row t (i 0)) (Fin.castLE (n := n) hn (i 1))
def dsT (t : Fin 4) {n : Nat} (hn : n ≤ 2048) (i : (⟨2, ![512, n]⟩ : Shape).Idx) : ℝ := ds Q K V D (row t (i 0)) (Fin.castLE (n := n) hn (i 1))
def doT (t : Fin 4) (i : (⟨2, ![512, 128]⟩ : Shape).Idx) : ℝ := D (row t (i 0)) (i 1)

/-- The probabilities of the four tiles' queries and their keys. -/
theorem pay6 : k0_pay6 (F := Ideal) (upb (tileOf Q 0)) (upb (pre 512 (by decide) K))
    = up (prT Q K 0 (n := 512) (by decide)) := by
  funext i
  unfold k0_pay6
  pointwise [up, upb, tileOf, pre, mul_coe, coe_sum, lit_scale, lit_ninf]
  exact softmax_tile Q K _ _ (row_lt 0 (i 0)) _ (pos 0 (i 0) _ rfl) _ mask _

theorem pay14 : k0_pay14 (F := Ideal) (upb (tileOf Q 1)) (upb (pre 1024 (by decide) K))
    = up (prT Q K 1 (n := 1024) (by decide)) := by
  funext i
  unfold k0_pay14
  pointwise [up, upb, tileOf, pre, mul_coe, coe_sum, lit_scale, lit_ninf]
  exact softmax_tile Q K _ _ (row_lt 1 (i 0)) _ (pos 1 (i 0) _ rfl) _ mask _

theorem pay22 : k0_pay22 (F := Ideal) (upb (tileOf Q 2)) (upb (pre 1536 (by decide) K))
    = up (prT Q K 2 (n := 1536) (by decide)) := by
  funext i
  unfold k0_pay22
  pointwise [up, upb, tileOf, pre, mul_coe, coe_sum, lit_scale, lit_ninf]
  exact softmax_tile Q K _ _ (row_lt 2 (i 0)) _ (pos 2 (i 0) _ rfl) _ mask _

theorem pay30 : k0_pay30 (F := Ideal) (k0_pay28 (upb (tileOf Q 3))) (k0_pay29 (upb (pre 2048 (by decide) K))) (constant S512x2048 .f32 0x00000000#32)
    = up (prT Q K 3 (n := 2048) (by decide)) := by
  funext i
  unfold k0_pay30 k0_pay28 k0_pay29
  pointwise [up, upb, tileOf, pre, mul_coe, coe_sum, lit_scale, lit_ninf]
  exact softmax_tile Q K _ _ (row_lt 3 (i 0)) _ (pos 3 (i 0) _ rfl) _ mask _

/-- The cotangents of the first tile's scores. -/
theorem pay8 : k0_pay8 (F := Ideal) (up (prT Q K 0 (n := 512) (by decide))) (up (doT D 0)) (upb (pre 512 (by decide) V))
    = upb (dsT Q K V D 0 (n := 512) (by decide)) := by
  funext i
  unfold k0_pay8 k0_pay7
  pointwise [up, upb, prT, dsT, doT, pre, mul_coe, coe_sum, lit_scale, sub_coe]
  exact congrArg _ (ds_tile Q K V D _ _ (row_lt 0 (i 0)) _)

/-- The first tile's rows of the queries' gradient. -/
theorem pay9 : k0_pay9 (F := Ideal) (up (prT Q K 0 (n := 512) (by decide))) (up (doT D 0)) (upb (pre 512 (by decide) V)) (upb (pre 512 (by decide) K))
    = up (tileOf (dq Q K V D) 0) := by
  funext i
  unfold k0_pay9
  pointwise [pay8, up, upb, dsT, pre, mul_coe, coe_sum]
  exact congrArg _ (dq_prefix Q K V D _ _ (row_lt 0 (i 1)) _)

/-- The keys' gradient after the first tile. -/
theorem pay10 (A : S1x512x192.Idx → ℝ) : k0_pay10 (F := Ideal) (up (prT Q K 0 (n := 512) (by decide))) (up (doT D 0)) (upb (pre 512 (by decide) V)) (up A) (upb (tileOf Q 0))
    = up fun i => A i + pre 512 (by decide) (dkt Q K V D 0) i := by
  funext i
  unfold k0_pay10
  pointwise [pay8, up, upb, dsT, tileOf, pre, mul_coe, coe_sum, add_coe]
  rfl

/-- The values' gradient after the first tile. -/
theorem pay13 (A : S1x512x128.Idx → ℝ) : k0_pay13 (F := Ideal) (k0_pay7 (up (doT D 0))) (k0_pay11 (up A)) (k0_pay12 (up (prT Q K 0 (n := 512) (by decide)))) (constant S512x128 .f32 0x00000000#32)
    = up fun i => A i + pre 512 (by decide) (dvt Q K D 0) i := by
  funext i
  unfold k0_pay13 k0_pay7 k0_pay11 k0_pay12
  pointwise [up, upb, prT, doT, pre, mul_coe, coe_sum, add_coe]
  rfl

/-- The cotangents of the second tile's probabilities, and their products with the probabilities. -/
theorem pay16 : k0_pay16 (F := Ideal) (up (doT D 1)) (upb (pre 1024 (by decide) V))
    = up fun i : S512x1024.Idx => ∑ e, D (row 1 (i 0)) e * V (Fin.castLE (n := 1024) (by decide) (i 1)) e := by
  funext i
  unfold k0_pay16 k0_pay15
  pointwise [up, upb, doT, pre, mul_coe, coe_sum]

theorem pay17 : k0_pay17 (F := Ideal) (upb (tileOf Q 1)) (upb (pre 1024 (by decide) K)) (up (doT D 1)) (upb (pre 1024 (by decide) V))
    = up fun i : S512x1024.Idx => prT Q K 1 (n := 1024) (by decide) i * ∑ e, D (row 1 (i 0)) e * V (Fin.castLE (n := 1024) (by decide) (i 1)) e := by
  funext i
  unfold k0_pay17
  pointwise [pay14, pay16, up, prT, mul_coe]

/-- The cotangents of the second tile's scores. -/
theorem pay18 : k0_pay18 (F := Ideal) (up (prT Q K 1 (n := 1024) (by decide))) (k0_pay16 (F := Ideal) (up (doT D 1)) (upb (pre 1024 (by decide) V)))
      (k0_pay17 (F := Ideal) (upb (tileOf Q 1)) (upb (pre 1024 (by decide) K)) (up (doT D 1)) (upb (pre 1024 (by decide) V)))
    = upb (dsT Q K V D 1 (n := 1024) (by decide)) := by
  funext i
  unfold k0_pay18
  pointwise [pay16, pay17, up, upb, prT, dsT, mul_coe, coe_sum, lit_scale, sub_coe]
  exact congrArg _ (ds_tile Q K V D _ _ (row_lt 1 (i 0)) _)

/-- The second tile's rows of the queries' gradient. -/
theorem pay19 : k0_pay19 (F := Ideal) (up (prT Q K 1 (n := 1024) (by decide))) (k0_pay16 (F := Ideal) (up (doT D 1)) (upb (pre 1024 (by decide) V)))
      (k0_pay17 (F := Ideal) (upb (tileOf Q 1)) (upb (pre 1024 (by decide) K)) (up (doT D 1)) (upb (pre 1024 (by decide) V))) (upb (pre 1024 (by decide) K))
    = up (tileOf (dq Q K V D) 1) := by
  funext i
  unfold k0_pay19
  pointwise [pay18, up, upb, dsT, pre, mul_coe, coe_sum]
  exact congrArg _ (dq_prefix Q K V D _ _ (row_lt 1 (i 1)) _)

/-- The keys' gradient after the second tile. -/
theorem pay20 (A : S1x1024x192.Idx → ℝ) : k0_pay20 (F := Ideal) (up (prT Q K 1 (n := 1024) (by decide))) (k0_pay16 (F := Ideal) (up (doT D 1)) (upb (pre 1024 (by decide) V)))
      (k0_pay17 (F := Ideal) (upb (tileOf Q 1)) (upb (pre 1024 (by decide) K)) (up (doT D 1)) (upb (pre 1024 (by decide) V))) (up A) (upb (tileOf Q 1))
    = up fun i => A i + pre 1024 (by decide) (dkt Q K V D 1) i := by
  funext i
  unfold k0_pay20
  pointwise [pay18, up, upb, dsT, tileOf, pre, mul_coe, coe_sum, add_coe]
  rfl

/-- The values' gradient after the second tile. -/
theorem pay21 (A : S1x1024x128.Idx → ℝ) : k0_pay21 (F := Ideal) (up (prT Q K 1 (n := 1024) (by decide))) (k0_pay15 (up (doT D 1))) (up A)
    = up fun i => A i + pre 1024 (by decide) (dvt Q K D 1) i := by
  funext i
  unfold k0_pay21 k0_pay15
  pointwise [up, upb, prT, doT, pre, mul_coe, coe_sum, add_coe]
  rfl

/-- The cotangents of the third tile's scores. -/
theorem pay24 : k0_pay24 (F := Ideal) (upb (tileOf Q 2)) (upb (pre 1536 (by decide) K)) (up (doT D 2)) (upb (pre 1536 (by decide) V))
    = upb (dsT Q K V D 2 (n := 1536) (by decide)) := by
  funext i
  unfold k0_pay24 k0_pay23
  pointwise [pay22, up, upb, dsT, doT, pre, mul_coe, coe_sum, lit_scale, sub_coe]
  exact congrArg _ (ds_tile Q K V D _ _ (row_lt 2 (i 0)) _)

/-- The third tile's rows of the queries' gradient. -/
theorem pay25 : k0_pay25 (F := Ideal) (upb (dsT Q K V D 2 (n := 1536) (by decide))) (upb (pre 1536 (by decide) K))
    = up (tileOf (dq Q K V D) 2) := by
  funext i
  unfold k0_pay25
  pointwise [up, upb, dsT, pre, mul_coe, coe_sum]
  exact congrArg _ (dq_prefix Q K V D _ _ (row_lt 2 (i 1)) _)

/-- The keys' gradient after the third tile. -/
theorem pay26 (A : S1x1536x192.Idx → ℝ) : k0_pay26 (F := Ideal) (upb (dsT Q K V D 2 (n := 1536) (by decide))) (up A) (upb (tileOf Q 2))
    = up fun i => A i + pre 1536 (by decide) (dkt Q K V D 2) i := by
  funext i
  unfold k0_pay26
  pointwise [up, upb, dsT, tileOf, pre, mul_coe, coe_sum, add_coe]
  rfl

/-- The values' gradient after the third tile. -/
theorem pay27 (A : S1x1536x128.Idx → ℝ) : k0_pay27 (F := Ideal) (up (prT Q K 2 (n := 1536) (by decide))) (k0_pay23 (up (doT D 2))) (up A)
    = up fun i => A i + pre 1536 (by decide) (dvt Q K D 2) i := by
  funext i
  unfold k0_pay27 k0_pay23
  pointwise [up, upb, prT, doT, pre, mul_coe, coe_sum, add_coe]
  rfl

/-- The cotangents of the last tile's scores. -/
theorem pay32 : k0_pay32 (F := Ideal) (k0_pay28 (upb (tileOf Q 3))) (k0_pay29 (upb (pre 2048 (by decide) K))) (constant S512x2048 .f32 0x00000000#32)
      (up (doT D 3)) (upb (pre 2048 (by decide) V))
    = upb (dsT Q K V D 3 (n := 2048) (by decide)) := by
  funext i
  unfold k0_pay32 k0_pay31
  pointwise [pay30, up, upb, dsT, doT, pre, mul_coe, coe_sum, lit_scale, sub_coe]
  exact congrArg _ (ds_tile Q K V D _ _ (row_lt 3 (i 0)) _)

/-- The last tile's rows of the queries' gradient. -/
theorem pay33 : k0_pay1 (F := Ideal) (k0_pay33 (k0_pay28 (upb (tileOf Q 3))) (k0_pay29 (upb (pre 2048 (by decide) K))) (constant S512x2048 .f32 0x00000000#32)
      (up (doT D 3)) (upb (pre 2048 (by decide) V)) (upb (pre 2048 (by decide) K)))
    = up (tileOf (dq Q K V D) 3) := by
  funext i
  unfold k0_pay1 k0_pay33
  pointwise [pay32, up, upb, dsT, pre, mul_coe, coe_sum]
  exact congrArg _ (dq_prefix Q K V D _ _ (row_lt 3 (i 1)) _)

/-- The keys' gradient after the last tile. -/
theorem pay2 (A : S1x2048x192.Idx → ℝ) : k0_pay2 (F := Ideal) (upb (dsT Q K V D 3 (n := 2048) (by decide))) (up A) (upb (tileOf Q 3))
    = up fun i => A i + pre 2048 (by decide) (dkt Q K V D 3) i := by
  funext i
  unfold k0_pay2
  pointwise [up, upb, dsT, tileOf, pre, mul_coe, coe_sum, add_coe]
  rfl

/-- The values' gradient after the last tile. -/
theorem pay3 (A : S1x2048x128.Idx → ℝ) : k0_pay3 (F := Ideal) (up (prT Q K 3 (n := 2048) (by decide))) (k0_pay31 (up (doT D 3))) (up A)
    = up fun i => A i + pre 2048 (by decide) (dvt Q K D 3) i := by
  funext i
  unfold k0_pay3 k0_pay31
  pointwise [up, upb, prT, doT, pre, mul_coe, coe_sum, add_coe]
  rfl

/-- Both accumulated gradients start from zero. -/
theorem pay4 : k0_pay4 (F := Ideal) = up fun _ => 0 := by
  funext i
  unfold k0_pay4
  pointwise [up, EReal.coe_zero]

theorem pay5 : k0_pay5 (F := Ideal) = up fun _ => 0 := by
  funext i
  unfold k0_pay5
  pointwise [up, EReal.coe_zero]

end Cert.AttnTile

end
-- ==== Proof.AttnKernel.lean ====
/-
  What one grid point of the attention backward call leaves in its three result blocks, over the reals: the four row
  tiles' stores put together — the queries' gradient row tile by row tile, the keys' and the values' gradients as sums
  that each tile adds to on the keys it can see.
-/
module

public import proofs.«01_k».proof.Proof.AttnTile
public import Idealize.ShloMosaic.Lib.Pipeline.ValueKit.Tiles
public import Idealize.ShloMosaic.Lib.Pipeline.ReadBack

@[expose] public section

set_option maxRecDepth 16384
set_option backward.isDefEq.respectTransparency false

noncomputable section

namespace Cert.AttnKernel

open AttnBwdIdeal AttnBwdIdeal.Gen Idealize.ShloMosaic TcCoe Idealize.SL.Sem Reals Norm Attn AttnTile

/-- The offsets of a whole store. -/
theorem off0 : (![0, 0, 0] : Fin 3 → Nat) = fun _ => 0 := funext fun a => match a with | ⟨0, _⟩ => rfl | ⟨1, _⟩ => rfl | ⟨2, _⟩ => rfl

section Reads

variable {w : Nat}

/-- One head's block. -/
def block (X : Fin 2048 → Fin w → ℝ) (i : (⟨3, ![1, 2048, w]⟩ : Shape).Idx) : ℝ := X (i 1) (i 2)
/-- One head's columns of the output's cotangent. -/
def cols (D : Fin 2048 → Fin w → ℝ) (i : (⟨2, ![2048, w]⟩ : Shape).Idx) : ℝ := D (i 0) (i 1)

/-- A load of a row tile. -/
theorem ld_tile (X : Fin 2048 → Fin w → ℝ) (t : Fin 4) (o : Nat) (ho : o = 512 * t.val)
    (inb : ∀ a : Fin 3, (![0, o, 0] : Fin 3 → Nat) a + (![1, 512, w] : Fin 3 → Nat) a ≤ (![1, 2048, w] : Fin 3 → Nat) a) :
    View.ld (Val := Elt Ideal) (e' := .bf16) (upb (block X)) (Rect.unit ![0, o, 0] ![1, 512, w] inb) = upb (tileOf X t) := by
  subst ho
  funext i
  refine View.ld_unit_apply_of (Val := Elt Ideal) (e := .bf16) (upb (block X)) _ _ inb i (ix3 0 (row t (i 1)) (i 2)) fun a => ?_
  match a with
  | ⟨0, _⟩ => exact (Nat.lt_one_iff.1 (i 0).isLt).symm ▸ rfl
  | ⟨1, _⟩ => rfl
  | ⟨2, _⟩ => exact (Nat.zero_add _).symm

/-- A load of the first `n` rows. -/
theorem ld_pre (X : Fin 2048 → Fin w → ℝ) (n : Nat) (hn : n ≤ 2048) (inb : ∀ a : Fin 3, (![0, 0, 0] : Fin 3 → Nat) a + (![1, n, w] : Fin 3 → Nat) a ≤ (![1, 2048, w] : Fin 3 → Nat) a) :
    View.ld (Val := Elt Ideal) (e' := .bf16) (upb (block X)) (Rect.unit ![0, 0, 0] ![1, n, w] inb) = upb (pre n hn X) := by
  funext i
  refine View.ld_unit_apply_of (Val := Elt Ideal) (e := .bf16) (upb (block X)) _ _ inb i (ix3 0 (Fin.castLE hn (i 1)) (i 2)) fun a => ?_
  match a with
  | ⟨0, _⟩ => exact (Nat.lt_one_iff.1 (i 0).isLt).symm ▸ rfl
  | ⟨1, _⟩ => exact (Nat.zero_add _).symm
  | ⟨2, _⟩ => exact (Nat.zero_add _).symm

/-- A load of a row tile of the output's cotangent. -/
theorem ld_do (D : Fin 2048 → Fin 128 → ℝ) (t : Fin 4) (o : Nat) (ho : o = 512 * t.val)
    (inb : ∀ a : Fin 2, (![o, 0] : Fin 2 → Nat) a + (![512, 128] : Fin 2 → Nat) a ≤ (![2048, 128] : Fin 2 → Nat) a) :
    View.ld (Val := Elt Ideal) (e' := .f32) (up (cols D)) (Rect.unit ![o, 0] ![512, 128] inb) = up (doT D t) := by
  subst ho
  funext i
  refine View.ld_unit_apply_of (Val := Elt Ideal) (e := .f32) (up (cols D)) _ _ inb i (ix2 (row t (i 0)) (i 1)) fun a => ?_
  match a with
  | ⟨0, _⟩ => rfl
  | ⟨1, _⟩ => exact (Nat.zero_add _).symm

variable {sig : RefSig} {κ : Kind} {sp : Space} (v : View sig κ sp (⟨3, ![1, 2048, w]⟩ : Shape) .f32)

/-- The first `n` rows of what the stores so far leave. -/
theorem read_pre (L : List (View.Piece (Elt Ideal) (⟨3, ![1, 2048, w]⟩ : Shape) .f32)) (A : Fin 2048 → Fin w → ℝ)
    (hL : View.canon L = up (block A)) (n : Nat) (hn : n ≤ 2048) (inb) :
    v.readCov L (Rect.unit ![0, 0, 0] ![1, n, w] inb).toLoadRect = up (pre n hn A) := by
  rw [View.readCov_eq_canon', hL]
  funext i
  refine View.ld_unit_apply_of (Val := Elt Ideal) (e := .f32) (up (block A)) _ _ inb i (ix3 0 (Fin.castLE hn (i 1)) (i 2)) fun a => ?_
  match a with
  | ⟨0, _⟩ => exact (Nat.lt_one_iff.1 (i 0).isLt).symm ▸ rfl
  | ⟨1, _⟩ => exact (Nat.zero_add _).symm
  | ⟨2, _⟩ => exact (Nat.zero_add _).symm

/-- A store of the first `n` rows over what is there. -/
theorem store_pre (L : List (View.Piece (Elt Ideal) (⟨3, ![1, 2048, w]⟩ : Shape) .f32)) (A B : Fin 2048 → Fin w → ℝ)
    (hL : View.canon L = up (block A)) (n : Nat) (hn : n ≤ 2048) (hB : ∀ (j : Fin 2048) d, n ≤ j.val → B j d = 0) (inb) :
    View.canon (⟨Rect.unit ![0, 0, 0] ![1, n, w] inb, up fun i => pre n hn A i + pre n hn B i⟩ :: L)
      = up (block fun j d => A j d + B j d) := by
  funext y
  by_cases hy : (y 1).val < n
  · have e : (Rect.unit (s := (⟨3, ![1, 2048, w]⟩ : Shape)) ![0, 0, 0] ![1, n, w] inb).emb (ix3 0 ⟨(y 1).val, hy⟩ (y 2)) = y := by
      funext a; apply Fin.ext
      match a with
      | ⟨0, _⟩ => exact (Nat.lt_one_iff.1 (y 0).isLt).symm ▸ rfl
      | ⟨1, _⟩ => exact (Nat.zero_add _).trans (Nat.one_mul _)
      | ⟨2, _⟩ => exact (Nat.zero_add _).trans (Nat.one_mul _)
    conv_lhs => rw [← e]
    rw [View.canon_cons_emb]
    rfl
  · rw [View.canon_cons_of_not_mem _ _ ?_, hL]
    · show ((A (y 1) (y 2) : ℝ) : EReal) = ((A (y 1) (y 2) + B (y 1) (y 2) : ℝ) : EReal)
      rw [hB _ _ (not_lt.1 hy), add_zero]
    · intro hm
      rw [Rect.mem_set_unit] at hm
      have := (hm 1).2
      exact hy (by simpa using this)

/-- The first `n` rows of a block. -/
abbrev pieceRect (n : Nat) (inb : ∀ a : Fin 3, (![0, 0, 0] : Fin 3 → Nat) a + (![1, n, w] : Fin 3 → Nat) a ≤ (![1, 2048, w] : Fin 3 → Nat) a) :
    Rect (⟨3, ![1, 2048, w]⟩ : Shape) :=
  Rect.unit ![0, 0, 0] ![1, n, w] inb

/-- Four additions to a block that starts from zero, each on the rows that its tile can see: what the block holds after. -/
theorem chain {sig : RefSig} {κ : Kind} {sp : Space} (v : View sig κ sp (⟨3, ![1, 2048, w]⟩ : Shape) .f32) (z : FVec Ideal (⟨3, ![1, 2048, w]⟩ : Shape) .f32) (hz : z = up fun _ => 0) (B0 B1 B2 B3 : Fin 2048 → Fin w → ℝ)
    (f0 : FVec Ideal (⟨3, ![1, 512, w]⟩ : Shape) .f32 → FVec Ideal (⟨3, ![1, 512, w]⟩ : Shape) .f32)
    (f1 : FVec Ideal (⟨3, ![1, 1024, w]⟩ : Shape) .f32 → FVec Ideal (⟨3, ![1, 1024, w]⟩ : Shape) .f32)
    (f2 : FVec Ideal (⟨3, ![1, 1536, w]⟩ : Shape) .f32 → FVec Ideal (⟨3, ![1, 1536, w]⟩ : Shape) .f32)
    (f3 : FVec Ideal (⟨3, ![1, 2048, w]⟩ : Shape) .f32 → FVec Ideal (⟨3, ![1, 2048, w]⟩ : Shape) .f32)
    (h0 : ∀ A, f0 (up A) = up fun i => A i + pre 512 (by decide) B0 i) (z0 : ∀ (j : Fin 2048) d, 512 ≤ j.val → B0 j d = 0)
    (h1 : ∀ A, f1 (up A) = up fun i => A i + pre 1024 (by decide) B1 i) (z1 : ∀ (j : Fin 2048) d, 1024 ≤ j.val → B1 j d = 0)
    (h2 : ∀ A, f2 (up A) = up fun i => A i + pre 1536 (by decide) B2 i) (z2 : ∀ (j : Fin 2048) d, 1536 ≤ j.val → B2 j d = 0)
    (h3 : ∀ A, f3 (up A) = up fun i => A i + pre 2048 (by decide) B3 i)
    (L0 L1 L2 L3 : List (View.Piece (Elt Ideal) (⟨3, ![1, 2048, w]⟩ : Shape) .f32)) (ib0) (ib1) (ib2) (ib3)
    (e0 : L0 = [⟨pieceRect 2048 ib3, z⟩])
    (e1 : L1 = ⟨pieceRect 512 ib0, f0 (v.readCov L0 (pieceRect 512 ib0).toLoadRect)⟩ :: L0)
    (e2 : L2 = ⟨pieceRect 1024 ib1, f1 (v.readCov L1 (pieceRect 1024 ib1).toLoadRect)⟩ :: L1)
    (e3 : L3 = ⟨pieceRect 1536 ib2, f2 (v.readCov L2 (pieceRect 1536 ib2).toLoadRect)⟩ :: L2) :
    View.canon (⟨pieceRect 2048 ib3, f3 (v.readCov L3 (pieceRect 2048 ib3).toLoadRect)⟩ :: L3)
      = up (block fun j d => B0 j d + B1 j d + B2 j d + B3 j d) := by
  have c0 : View.canon L0 = up (block fun (_ : Fin 2048) (_ : Fin w) => 0) := by
    rw [e0, View.canon_unit_zero (S := (⟨3, ![1, 2048, w]⟩ : Shape)) off0 _ _, hz]
    rfl
  have c1 := store_pre L0 _ B0 c0 512 (by decide) z0 ib0
  rw [← h0, ← read_pre v L0 _ c0 512 (by decide) ib0, ← e1] at c1
  have c2 := store_pre L1 _ B1 c1 1024 (by decide) z1 ib1
  rw [← h1, ← read_pre v L1 _ c1 1024 (by decide) ib1, ← e2] at c2
  have c3 := store_pre L2 _ B2 c2 1536 (by decide) z2 ib2
  rw [← h2, ← read_pre v L2 _ c2 1536 (by decide) ib2, ← e3] at c3
  have c4 := store_pre L3 _ B3 c3 2048 (by decide) (fun j _ h => absurd j.isLt (not_lt.2 h)) ib3
  rw [← h3, ← read_pre v L3 _ c3 2048 (by decide) ib3] at c4
  exact c4.trans (congrArg (fun A => up (block A)) (funext fun j => funext fun d => by
    rw [zero_add]))

end Reads

section Point

variable (c : Dev nD) (i : grid0.Coords) (a1 : Memref sig .tc .vmem S1x2048x192 .bf16) (h1 : a1.IsWhole)
  (a2 : Memref sig .tc .vmem S1x2048x192 .bf16) (h2 : a2.IsWhole) (a3 : Memref sig .tc .vmem S1x2048x128 .bf16) (h3 : a3.IsWhole)
  (a4 : Memref sig .tc .vmem S2048x128 .f32) (h4 : a4.IsWhole) (a5 : Memref sig .tc .vmem S1x2048x192 .f32) (h5 : a5.IsWhole)
  (a6 : Memref sig .tc .vmem S1x2048x192 .f32) (h6 : a6.IsWhole) (a7 : Memref sig .tc .vmem S1x2048x128 .f32) (h7 : a7.IsWhole)
  (Q K : Fin 2048 → Fin 192 → ℝ) (V D : Fin 2048 → Fin 128 → ℝ)

/-- A stored row tile is the tile of the block. -/
theorem piece {w : Nat} (X : Fin 2048 → Fin w → ℝ) (t : Fin 4) (o : Nat) (ho : o = 512 * t.val) (inb)
    (x : (Rect.unit (s := (⟨3, ![1, 2048, w]⟩ : Shape)) ![0, o, 0] ![1, 512, w] inb).shape.Idx) :
    (up (tileOf X t) : FVec Ideal _ .f32) x = up (block X) ((Rect.unit (s := (⟨3, ![1, 2048, w]⟩ : Shape)) ![0, o, 0] ![1, 512, w] inb).emb x) := by
  subst ho
  show ((X (row t (x 1)) (x 2) : ℝ) : EReal) = ((X _ _ : ℝ) : EReal)
  congr 2
  · exact Fin.ext (congrArg (512 * t.val + ·) (Nat.one_mul _).symm)
  · exact Fin.ext ((Nat.zero_add _).trans (Nat.one_mul _)).symm

/-- The queries' gradient. -/
theorem out4 : out0_A_4 (F := Ideal) c i a1 h1 a2 h2 a3 h3 a4 h4 a5 h5 a6 h6 a7 h7 (upb (block Q)) (upb (block K)) (upb (block V)) (up (cols D))
    = up (block (dq Q K V D)) := by
  unfold out0_A_4
  rw [View.read_writes_eq_canon _ _ _ (fun _ => cover0_A_4 ..)]
  funext y
  refine View.canon_apply_of_pieces (Val := Elt Ideal) (S := S1x2048x192) (e := .f32) (up (block (dq Q K V D))) _ (View.PiecesOf.mem ?_) y (cover0_A_4 ..)
  unfold kernelRun0_A; dsimp only; sl_unfold_words
  simp only [View.readAt_eq_ld, Memref.IsWhole.read_unread,
    ld_tile Q 0 0 rfl, ld_tile Q 1 512 rfl, ld_tile Q 2 1024 rfl, ld_tile Q 3 1536 rfl,
    ld_pre K 512 (by decide), ld_pre K 1024 (by decide), ld_pre K 1536 (by decide), ld_pre K 2048 (by decide),
    ld_pre V 512 (by decide), ld_pre V 1024 (by decide), ld_pre V 1536 (by decide), ld_pre V 2048 (by decide),
    ld_do D 0 0 rfl, ld_do D 1 512 rfl, ld_do D 2 1024 rfl, ld_do D 3 1536 rfl]
  rw [pay6 Q K, pay14 Q K, pay9, pay19, pay24, pay25, pay33]
  exact ⟨piece _ 3 1536 rfl inb_S1x2048x192_S1x512x192_0_1536_0, piece _ 2 1024 rfl inb_S1x2048x192_S1x512x192_0_1024_0, piece _ 1 512 rfl inb_S1x2048x192_S1x512x192_0_512_0, piece _ 0 0 rfl inb_S1x2048x192_S1x512x192_0_0_0, trivial⟩

/-- The keys' gradient. -/
theorem out5 : out0_A_5 (F := Ideal) c i a1 h1 a2 h2 a3 h3 a4 h4 a5 h5 a6 h6 a7 h7 (upb (block Q)) (upb (block K)) (upb (block V)) (up (cols D))
    = up (block (dk Q K V D)) := by
  unfold out0_A_5
  rw [View.read_writes_eq_canon _ _ _ (fun _ => cover0_A_5 ..)]
  unfold kernelRun0_A; dsimp only; sl_unfold_words
  simp only [View.readAt_eq_ld, Memref.IsWhole.read_unread,
    ld_tile Q 0 0 rfl, ld_tile Q 1 512 rfl, ld_tile Q 2 1024 rfl, ld_tile Q 3 1536 rfl,
    ld_pre K 512 (by decide), ld_pre K 1024 (by decide), ld_pre K 1536 (by decide), ld_pre K 2048 (by decide),
    ld_pre V 512 (by decide), ld_pre V 1024 (by decide), ld_pre V 1536 (by decide), ld_pre V 2048 (by decide),
    ld_do D 0 0 rfl, ld_do D 1 512 rfl, ld_do D 2 1024 rfl, ld_do D 3 1536 rfl, pay6 Q K, pay14 Q K, pay24 Q K, pay32 Q K]
  refine (chain a6.view k0_pay4 pay4 (dkt Q K V D 0) (dkt Q K V D 1) (dkt Q K V D 2) (dkt Q K V D 3)
    (fun A => k0_pay10 (F := Ideal) (up (prT Q K 0 (n := 512) (by decide))) (up (doT D 0)) (upb (pre 512 (by decide) V)) A (upb (tileOf Q 0)))
    (fun A => k0_pay20 (F := Ideal) (up (prT Q K 1 (n := 1024) (by decide))) (k0_pay16 (up (doT D 1)) (upb (pre 1024 (by decide) V)))
      (k0_pay17 (upb (tileOf Q 1)) (upb (pre 1024 (by decide) K)) (up (doT D 1)) (upb (pre 1024 (by decide) V))) A (upb (tileOf Q 1)))
    (fun A => k0_pay26 (F := Ideal) (upb (dsT Q K V D 2 (n := 1536) (by decide))) A (upb (tileOf Q 2)))
    (fun A => k0_pay2 (F := Ideal) (upb (dsT Q K V D 3 (n := 2048) (by decide))) A (upb (tileOf Q 3)))
    (pay10 Q K V D) (fun j d h => dkt_zero Q K V D 0 j d (le_trans (by decide) h))
    (pay20 Q K V D) (fun j d h => dkt_zero Q K V D 1 j d (le_trans (by decide) h))
    (pay26 Q K V D) (fun j d h => dkt_zero Q K V D 2 j d (le_trans (by decide) h))
    (pay2 Q K V D) _ _ _ _ _ _ _ _ rfl rfl rfl rfl).trans ?_
  exact congrArg (fun A => up (block A)) (funext fun j => funext fun d => by
    rw [dk_tiles, Fin.sum_univ_four])

/-- The values' gradient. -/
theorem out6 : out0_A_6 (F := Ideal) c i a1 h1 a2 h2 a3 h3 a4 h4 a5 h5 a6 h6 a7 h7 (upb (block Q)) (upb (block K)) (upb (block V)) (up (cols D))
    = up (block (dv Q K D)) := by
  unfold out0_A_6
  rw [View.read_writes_eq_canon _ _ _ (fun _ => cover0_A_6 ..)]
  unfold kernelRun0_A; dsimp only; sl_unfold_words
  simp only [View.readAt_eq_ld, Memref.IsWhole.read_unread,
    ld_tile Q 0 0 rfl, ld_tile Q 1 512 rfl, ld_tile Q 2 1024 rfl, ld_tile Q 3 1536 rfl,
    ld_pre K 512 (by decide), ld_pre K 1024 (by decide), ld_pre K 1536 (by decide), ld_pre K 2048 (by decide),
    ld_pre V 512 (by decide), ld_pre V 1024 (by decide), ld_pre V 1536 (by decide), ld_pre V 2048 (by decide),
    ld_do D 0 0 rfl, ld_do D 1 512 rfl, ld_do D 2 1024 rfl, ld_do D 3 1536 rfl, pay6 Q K, pay14 Q K, pay22 Q K, pay30 Q K]
  refine (chain a7.view k0_pay5 pay5 (dvt Q K D 0) (dvt Q K D 1) (dvt Q K D 2) (dvt Q K D 3)
    (fun A => k0_pay13 (F := Ideal) (k0_pay7 (up (doT D 0))) (k0_pay11 A) (k0_pay12 (up (prT Q K 0 (n := 512) (by decide)))) (constant S512x128 .f32 0x00000000#32))
    (fun A => k0_pay21 (F := Ideal) (up (prT Q K 1 (n := 1024) (by decide))) (k0_pay15 (up (doT D 1))) A)
    (fun A => k0_pay27 (F := Ideal) (up (prT Q K 2 (n := 1536) (by decide))) (k0_pay23 (up (doT D 2))) A)
    (fun A => k0_pay3 (F := Ideal) (up (prT Q K 3 (n := 2048) (by decide))) (k0_pay31 (up (doT D 3))) A)
    (pay13 Q K D) (fun j d h => dvt_zero Q K D 0 j d (le_trans (by decide) h))
    (pay21 Q K D) (fun j d h => dvt_zero Q K D 1 j d (le_trans (by decide) h))
    (pay27 Q K D) (fun j d h => dvt_zero Q K D 2 j d (le_trans (by decide) h))
    (pay3 Q K D) _ _ _ _ _ _ _ _ rfl rfl rfl rfl).trans ?_
  exact congrArg (fun A => up (block A)) (funext fun j => funext fun d => by
    rw [dv_tiles, Fin.sum_univ_four])

end Point

end Cert.AttnKernel

end
-- ==== Proof.AttnBwdValue.lean ====
/-
  What the three result arrays of the attention's backward call hold after the run, over the reals: grid point `h` reads
  head `h` of the queries, the keys and the values and its columns of the output's cotangent, and writes head `h` of the
  three gradients.
-/
module

public import proofs.«01_k».proof.Proof.Blocks
public import proofs.«01_k».proof.Proof.AttnKernel

@[expose] public section

set_option maxRecDepth 16384
set_option backward.isDefEq.respectTransparency false

noncomputable section

namespace Cert.AttnBwdValue

open AttnBwdIdeal AttnBwdIdeal.Gen Idealize.ShloMosaic TcCoe Idealize.SL.Sem
open Blocks Reals Attn AttnKernel
open Idealize.ShloMosaic.Pipeline (Dat)

variable (m : (ℓ : Loc nD τ sig) → Buf (Elt Ideal) ℓ) (c : Dev nD)
variable (Q K : S4x2048x192.Idx → ℝ) (V : S4x2048x128.Idx → ℝ) (D : S2048x512.Idx → ℝ)

/-- A grid point as a head. -/
abbrev pt (t : Fin cfg0.N) : Fin 4 := t.cast N_0

/-- The block indices: head `t` of an array of heads, and its columns of the cotangent. -/
theorem idx0 : Along 0 win0_0.index := by decide +kernel
theorem idx1 : Along 0 win0_1.index := by decide +kernel
theorem idx2 : Along 0 win0_2.index := by decide +kernel
theorem idx3 : Along 1 win0_3.index := by decide +kernel
theorem idx4 : Along 0 win0_4.index := by decide +kernel
theorem idx5 : Along 0 win0_5.index := by decide +kernel
theorem idx6 : Along 0 win0_6.index := by decide +kernel

/-- The queries' block at a point: one head. -/
theorem iblk0 (h : m ((c : Thread nD τ).loc main_arg0) = upb Q) (t : Fin cfg0.N) :
    (iblk m c 0 t : Vec Ideal S1x2048x192 .bf16) = upb (block (head Q (pt t))) := funext fun j => (congrFun h _).trans (congrArg (upb Q) (head_at N_0 idx0 t _ j fun _ => rfl))

/-- The keys' block at a point: one head. -/
theorem iblk1 (h : m ((c : Thread nD τ).loc main_arg1) = upb K) (t : Fin cfg0.N) :
    (iblk m c 1 t : Vec Ideal S1x2048x192 .bf16) = upb (block (head K (pt t))) := funext fun j => (congrFun h _).trans (congrArg (upb K) (head_at N_0 idx1 t _ j fun _ => rfl))

/-- The values' block at a point: one head. -/
theorem iblk2 (h : m ((c : Thread nD τ).loc main_arg2) = upb V) (t : Fin cfg0.N) :
    (iblk m c 2 t : Vec Ideal S1x2048x128 .bf16) = upb (block (head V (pt t))) := funext fun j => (congrFun h _).trans (congrArg (upb V) (head_at N_0 idx2 t _ j fun _ => rfl))

/-- The cotangent's block at a point: one head's columns. -/
theorem iblk3 (h : m ((c : Thread nD τ).loc main_arg3) = up D) (t : Fin cfg0.N) :
    (iblk m c 3 t : Vec Ideal S2048x128 .f32) = up (cols (headRow D (pt t))) := funext fun j => (congrFun h _).trans (congrArg (up D) (head_cols_at N_0 idx3 t _ j (fun _ => rfl) (col (pt t) (j 1)).isLt))

section Results

variable (hQ : m ((c : Thread nD τ).loc main_arg0) = upb Q) (hK : m ((c : Thread nD τ).loc main_arg1) = upb K)
  (hV : m ((c : Thread nD τ).loc main_arg2) = upb V) (hD : m ((c : Thread nD τ).loc main_arg3) = up D)
include hQ hK hV hD

/-- The queries' gradient. -/
theorem final4 : (dats m 0 c).arrAt 4 cfg0.N
    = (up (fun i => dq (head Q (i 0)) (head K (i 0)) (head V (i 0)) (headRow D (i 0)) (i 1) (i 2)) : Vec Ideal S4x2048x192 .f32) := by
  refine (dats m 0 c).arrAt_eq_of_cover 4 _ (fun t hf => ?_) fun i => ⟨Fin.cast N_0.symm (i 0), flush0_4 _, ?_⟩
  · rw [AttnBwdIdeal.Value.flushed4_A, iblk0 m c Q hQ, iblk1 m c K hK, iblk2 m c V hV, iblk3 m c D hD, out4]
    funext j; rw [View.read_apply]
    have e : ((cfg0.win 4).blk t).view.emb j = (ix3 (pt t) (j 1) (j 2) : S4x2048x192.Idx) := head_at N_0 idx4 t _ j fun _ => rfl
    rw [e]; rfl
  · exact in_block (along_has idx4 _ i (Nat.div_one _).symm (by decide) (by decide))

/-- The keys' gradient. -/
theorem final5 : (dats m 0 c).arrAt 5 cfg0.N
    = (up (fun i => dk (head Q (i 0)) (head K (i 0)) (head V (i 0)) (headRow D (i 0)) (i 1) (i 2)) : Vec Ideal S4x2048x192 .f32) := by
  refine (dats m 0 c).arrAt_eq_of_cover 5 _ (fun t hf => ?_) fun i => ⟨Fin.cast N_0.symm (i 0), flush0_5 _, ?_⟩
  · rw [AttnBwdIdeal.Value.flushed5_A, iblk0 m c Q hQ, iblk1 m c K hK, iblk2 m c V hV, iblk3 m c D hD, out5]
    funext j; rw [View.read_apply]
    have e : ((cfg0.win 5).blk t).view.emb j = (ix3 (pt t) (j 1) (j 2) : S4x2048x192.Idx) := head_at N_0 idx5 t _ j fun _ => rfl
    rw [e]; rfl
  · exact in_block (along_has idx5 _ i (Nat.div_one _).symm (by decide) (by decide))

/-- The values' gradient. -/
theorem final6 : (dats m 0 c).arrAt 6 cfg0.N
    = (up (fun i => dv (head Q (i 0)) (head K (i 0)) (headRow D (i 0)) (i 1) (i 2)) : Vec Ideal S4x2048x128 .f32) := by
  refine (dats m 0 c).arrAt_eq_of_cover 6 _ (fun t hf => ?_) fun i => ⟨Fin.cast N_0.symm (i 0), flush0_6 _, ?_⟩
  · rw [AttnBwdIdeal.Value.flushed6_A, iblk0 m c Q hQ, iblk1 m c K hK, iblk2 m c V hV, iblk3 m c D hD, out6]
    funext j; rw [View.read_apply]
    have e : ((cfg0.win 6).blk t).view.emb j = (ix3 (pt t) (j 1) (j 2) : S4x2048x128.Idx) := head_at N_0 idx6 t _ j fun _ => rfl
    rw [e]; rfl
  · exact in_block (along_has idx6 _ i (Nat.div_one _).symm (by decide) (by decide))

end Results

end Cert.AttnBwdValue

end
-- ==== Proof.AttnRef.lean ====
/-
  What the attention's reference computes, over the reals: the host operations of the printed derivative, stage by stage,
  on arguments that are arrays of real numbers — the gradients of queries, keys and values.
-/
module

public import proofs.«01_k».proof.Proof.Attn
public import proofs.«01_k».proof.Proof.Gen.AttnBwdRefIdeal.Read

@[expose] public section

set_option maxRecDepth 16384
set_option backward.isDefEq.respectTransparency false

noncomputable section

namespace Cert.AttnRef

open Idealize.ShloMosaic Reals Attn AttnBwdRefIdeal AttnBwdRefIdeal.Read

variable (Q K : S4x2048x192.Idx → ℝ) (V : S4x2048x128.Idx → ℝ) (D : S2048x512.Idx → ℝ)

/-- The masked scores. -/
theorem v12 : val_main_v12_0 (F := Ideal) (upb Q) (upb K) = fun i => masked (head Q (i 0)) (head K (i 0)) (i 1) (i 2) := by
  funext i
  pointwise [val_main_v12_0, val_main_v12_1, val_main_v11, val_main_v10, val_main_v9, val_main_v8, val_main_v7, val_main_v6, val_main_v5,
    val_main_v4, val_main_v3, val_main_v1, val_main_v0, val_main_cst, val_main_call0_v2, val_main_call0_v0, val_main_cst_0, up, upb, lit_scale,
    lit_ninf, mul_coe, coe_sum]
  rw [select_sge (i 1).isLt (i 2).isLt]
  simp only [masked, score, head, id, constant_apply, Ideal.ofBits_def, lit_ninf]

/-- The row maximum that the exponentials are taken against. -/
def mx (h : Fin 4) (r : Fin 2048) : ℝ := top fun j => masked (head Q h) (head K h) r j

/-- The row maximum is a real number. -/
theorem v13 : val_main_v13 (F := Ideal) (upb Q) (upb K) = up fun i => mx Q K (i 0) (i 1) := by
  funext i
  pointwise [val_main_v13, v12, val_main_cst_1, lit_ninf]
  exact fold_top _ (fun j => masked_ne_top _ _ _ j) (i 1) (masked_diag _ _ _)

/-- The exponentials. -/
theorem v33 : val_main_v33 (F := Ideal) (upb Q) (upb K)
    = up fun i => ex (head Q (i 0)) (head K (i 0)) (mx Q K (i 0) (i 1)) (i 1) (i 2) := by
  funext i
  pointwise [val_main_v33, val_main_v32, val_main_v31, val_main_v30, val_main_v20, val_main_v19, val_main_cst_3, v12, v13, lit_ninf, up]
  rw [max_bot_left]
  exact exp_masked _ _ _ _ _

/-- The row sums. -/
theorem v35 : val_main_v35 (F := Ideal) (upb Q) (upb K)
    = up fun i => Z (head Q (i 0)) (head K (i 0)) (mx Q K (i 0) (i 1)) (i 1) := by
  funext i
  pointwise [val_main_v35, val_main_v34, val_main_cst_9, v33, up, coe_sum, EReal.coe_zero]
  rfl

/-- The probabilities. -/
theorem v37 : val_main_v37 (F := Ideal) (upb Q) (upb K) = up fun i => pr (head Q (i 0)) (head K (i 0)) (i 1) (i 2) := by
  funext i
  pointwise [val_main_v37, val_main_v36, v33, v35, up]
  rw [div_coe _ (Z_pos _ _ _ _).ne', ex_div]

/-- The cotangent of the output, by heads. -/
theorem v45 : val_main_v45 (F := Ideal) (up D) = up fun i => headRow D (i 0) (i 1) (i 2) := by
  funext i
  pointwise [val_main_v45, val_main_v44, up]
  rfl

/-- THE REFERENCE'S GRADIENT of the values. -/
theorem v47 : val_main_v47 (F := Ideal) (upb Q) (upb K) (up D)
    = up fun i => dv (head Q (i 0)) (head K (i 0)) (headRow D (i 0)) (i 1) (i 2) := by
  funext i
  pointwise [val_main_v47, val_main_v46, v37, v45, up, mul_coe, coe_sum]
  unfold dv
  simp only [mul_comm]

/-- The cotangents of the probabilities. -/
theorem v48 : val_main_v48 (F := Ideal) (upb V) (up D)
    = up fun i => dp (head V (i 0)) (headRow D (i 0)) (i 1) (i 2) := by
  funext i
  pointwise [val_main_v48, val_main_v2, v45, up, upb, mul_coe, coe_sum]
  rfl

/-- The cotangents of the masked scores. -/
theorem v60 : val_main_v60 (F := Ideal) (upb Q) (upb K) (upb V) (up D)
    = up fun i => pr (head Q (i 0)) (head K (i 0)) (i 1) (i 2) * (dp (head V (i 0)) (headRow D (i 0)) (i 1) (i 2)
        - dot (head Q (i 0)) (head K (i 0)) (head V (i 0)) (headRow D (i 0)) (i 1)) := by
  funext i
  pointwise [val_main_v60, val_main_v59, val_main_v58, val_main_v57, val_main_v56, val_main_v55, val_main_v54, val_main_v53, val_main_v52,
    val_main_v51, val_main_v50, val_main_v49, val_main_v40, val_main_v39, val_main_v38, val_main_cst_10, val_main_cst_11, val_main_cst_12,
    v33, v35, v48, up, mul_coe, lit_one]
  have hZ := (Z_pos (head Q (i 0)) (head K (i 0)) (mx Q K (i 0) (i 1)) (i 1)).ne'
  rw [div_coe _ hZ, div_coe _ (mul_ne_zero hZ hZ)]
  simp only [mul_coe, coe_sum, neg_coe, add_coe, Finset.univ_unique, Finset.sum_singleton]
  exact congrArg _ (quot_grad _ _ _ _ _ _ _)

/-- The cotangents of the scores before they are scaled: zero where the mask is. -/
theorem v63 : val_main_v63 (F := Ideal) (upb Q) (upb K) (upb V) (up D)
    = up fun i => ds (head Q (i 0)) (head K (i 0)) (head V (i 0)) (headRow D (i 0)) (i 1) (i 2) := by
  funext i
  pointwise [val_main_v63, val_main_v61, val_main_v62, val_main_cst_13, val_main_v12_1, val_main_v11, val_main_v10, val_main_v9,
    val_main_v8, val_main_v7, val_main_v6, val_main_call1_v0, val_main_call1_cst, v60, up, lit_scale]
  rw [select_sge (i 1).isLt (i 2).isLt]
  split
  · rw [mul_coe]; rfl
  · rw [ds_zero _ _ _ _ (not_le.1 (by assumption)), EReal.coe_zero]

/-- THE REFERENCE'S GRADIENT of the queries. -/
theorem v65 : val_main_v65 (F := Ideal) (upb Q) (upb K) (upb V) (up D)
    = up fun i => dq (head Q (i 0)) (head K (i 0)) (head V (i 0)) (headRow D (i 0)) (i 1) (i 2) := by
  funext i
  pointwise [val_main_v65, val_main_v1, v63, up, upb, mul_coe, coe_sum]
  rfl

/-- THE REFERENCE'S GRADIENT of the keys. -/
theorem v64 : val_main_v64 (F := Ideal) (upb Q) (upb K) (upb V) (up D)
    = up fun i => dk (head Q (i 0)) (head K (i 0)) (head V (i 0)) (headRow D (i 0)) (i 1) (i 2) := by
  funext i
  pointwise [val_main_v64, val_main_v0, v63, up, upb, mul_coe, coe_sum]
  rfl

end Cert.AttnRef

end
-- ==== Proof.AttnBwdClaims.lean ====
/-
  The claims about the attention's backward call: the reference's frame, the named constant, and the equality of the three
  gradients over the reals, for finite arguments.
-/
module

public import proofs.«01_k».proof.Defs
public import proofs.«01_k».proof.Proof.AttnBwdValue
public import proofs.«01_k».proof.Proof.AttnRef
public import proofs.«01_k».proof.Proof.Gen.AttnBwd.Frame
public import proofs.«01_k».proof.Proof.Gen.Pre_finite_attn_bwd

@[expose] public section

noncomputable section

namespace Cert.AttnBwdClaims

open Idealize.ShloMosaic TcCoe Idealize.SL.Sem Reals

/-- Arguments that meet the precondition are arrays of real numbers. -/
theorem reals (q k : FVec Ideal Pre_finite_attn_bwd.S4x2048x192 .bf16) (v : FVec Ideal Pre_finite_attn_bwd.S4x2048x128 .bf16)
    (d : FVec Ideal Pre_finite_attn_bwd.S2048x512 .f32) (h : Pre_finite_attn_bwd.fn (F := Ideal) q k v d = fun _ => 1#1) :
    (∃ Q : Pre_finite_attn_bwd.S4x2048x192.Idx → ℝ, q = upb Q) ∧ (∃ K : Pre_finite_attn_bwd.S4x2048x192.Idx → ℝ, k = upb K)
      ∧ (∃ V : Pre_finite_attn_bwd.S4x2048x128.Idx → ℝ, v = upb V) ∧ ∃ D : Pre_finite_attn_bwd.S2048x512.Idx → ℝ, d = up D := by
  have h0 := congrFun h ix0
  unfold Pre_finite_attn_bwd.fn at h0
  obtain ⟨h1, h2⟩ := IntOp.andi_eq_one.1 h0
  obtain ⟨h3, h4⟩ := IntOp.andi_eq_one.1 h1
  obtain ⟨h5, h6⟩ := IntOp.andi_eq_one.1 h3
  exact ⟨array_real (φ := .f32) _ _ (fun _ => lit_inf) _ _ _ _ h5, array_real (φ := .f32) _ _ (fun _ => lit_inf) _ _ _ _ h6,
    array_real (φ := .f32) _ _ (fun _ => lit_inf) _ _ _ _ h4, array_real _ _ (fun _ => lit_inf) _ _ _ _ h2⟩

/-- The reference runs and leaves its arguments. -/
theorem quiescent_ref : quiescent_AttnBwdRefIdeal := fun m g _ =>
  (θ_run AttnBwdRefIdeal.defs _ _).mono (fun r h => ⟨fun c => (h c).2.2.2,
    Idealize.ShloMosaic.sem_eq_zero_of_no_sems (by decide) r.2⟩) (AttnBwdRefIdeal.Value.run (F := Ideal) m g)

/-- The mask −1e30 read as −∞. -/
theorem preserves : preserves_AttnBwd_AttnBwdIdeal :=
  IdealRules.named_const.statement AttnBwdIdeal.κ "mask" .f32 0xF149F2CA#32 ⊥ rfl

/-- The three gradients are the reference's, for finite arguments. -/
theorem algebraic : algebraic_AttnBwdIdeal_AttnBwdRefIdeal_pre_finite_attn_bwd := by
  intro m g m' g' hpre hagree
  refine ⟨fun c => AttnBwdRefIdeal.Read.val_main_v65 (F := Ideal) (m ((c.tc : Thread AttnBwdIdeal.nD AttnBwdIdeal.τ).loc AttnBwdIdeal.main_arg0))
      (m ((c.tc : Thread AttnBwdIdeal.nD AttnBwdIdeal.τ).loc AttnBwdIdeal.main_arg1)) (m ((c.tc : Thread AttnBwdIdeal.nD AttnBwdIdeal.τ).loc AttnBwdIdeal.main_arg2))
      (m ((c.tc : Thread AttnBwdIdeal.nD AttnBwdIdeal.τ).loc AttnBwdIdeal.main_arg3)),
    fun c => AttnBwdRefIdeal.Read.val_main_v64 (F := Ideal) (m ((c.tc : Thread AttnBwdIdeal.nD AttnBwdIdeal.τ).loc AttnBwdIdeal.main_arg0))
      (m ((c.tc : Thread AttnBwdIdeal.nD AttnBwdIdeal.τ).loc AttnBwdIdeal.main_arg1)) (m ((c.tc : Thread AttnBwdIdeal.nD AttnBwdIdeal.τ).loc AttnBwdIdeal.main_arg2))
      (m ((c.tc : Thread AttnBwdIdeal.nD AttnBwdIdeal.τ).loc AttnBwdIdeal.main_arg3)),
    fun c => AttnBwdRefIdeal.Read.val_main_v47 (F := Ideal) (m ((c.tc : Thread AttnBwdIdeal.nD AttnBwdIdeal.τ).loc AttnBwdIdeal.main_arg0))
      (m ((c.tc : Thread AttnBwdIdeal.nD AttnBwdIdeal.τ).loc AttnBwdIdeal.main_arg1))
      (m ((c.tc : Thread AttnBwdIdeal.nD AttnBwdIdeal.τ).loc AttnBwdIdeal.main_arg3)), ?_, ?_⟩
  · refine (θ_run AttnBwdIdeal.defs _ _).mono (fun r h c => ?_) (AttnBwdIdeal.Value.run_blocks m g)
    obtain ⟨e0, e1, e2, e3⟩ := h c
    obtain ⟨⟨Q, hQ⟩, ⟨K, hK⟩, ⟨V, hV⟩, ⟨D, hD⟩⟩ := reals _ _ _ _ (hpre c)
    refine ⟨e0.trans ?_, e1.trans ?_, e2.trans ?_, e3⟩
    · rw [AttnBwdValue.final4 m c Q K V D hQ hK hV hD]
      beta_reduce
      rw [hQ, hK, hV, hD]
      exact (AttnRef.v65 Q K V D).symm
    · rw [AttnBwdValue.final5 m c Q K V D hQ hK hV hD]
      beta_reduce
      rw [hQ, hK, hV, hD]
      exact (AttnRef.v64 Q K V D).symm
    · rw [AttnBwdValue.final6 m c Q K V D hQ hK hV hD]
      beta_reduce
      rw [hQ, hK, hD]
      exact (AttnRef.v47 Q K D).symm
  · refine (θ_run AttnBwdRefIdeal.defs _ _).mono (fun r h c => ?_) (AttnBwdRefIdeal.Value.run (F := Ideal) m' g')
    obtain ⟨e0, e1, e2, e3⟩ := h c
    obtain ⟨a0, a1, a2, a3⟩ := hagree c
    refine ⟨e0.trans ?_, e1.trans ?_, e2.trans ?_, e3⟩
    · beta_reduce
      rw [← a0, ← a1, ← a2, ← a3]
      exact AttnBwdRefIdeal.Read.val_main_v65_eq _ _
    · beta_reduce
      rw [← a0, ← a1, ← a2, ← a3]
      exact AttnBwdRefIdeal.Read.val_main_v64_eq _ _
    · beta_reduce
      rw [← a0, ← a1, ← a3]
      exact AttnBwdRefIdeal.Read.val_main_v47_eq _ _

end Cert.AttnBwdClaims

end
-- ==== Proof.Mla.lean ====
/-
  The backward pass of the multi-head projections over the reals, on any number of rows: the rotary embedding's adjoint, the
  cotangents of the two projections' results, the shared rotary key's gradient, the cotangents of the two normalised rows,
  and the gradients of the two norms and of their gains.
-/
module

public import proofs.«01_k».proof.Proof.Norm

@[expose] public section

noncomputable section

namespace Cert.Mla

open Idealize.ShloMosaic Reals Norm

/-- A real matrix. -/
abbrev A2 (n w : Nat) : Type := (⟨2, ![n, w]⟩ : Shape).Idx → ℝ
/-- A real array of three axes. -/
abbrev A3 (a n w : Nat) : Type := (⟨3, ![a, n, w]⟩ : Shape).Idx → ℝ

/-- The adjoint of "rotate half": the second half first, then the first half's negative. -/
def turn (f : Fin 64 → ℝ) (j : Fin 64) : ℝ :=
  if h : j.val < 32 then f ⟨32 + j.val, by omega⟩ else -f ⟨j.val - 32, by omega⟩

/-- The matrix of the adjoint: row `a` is sent to the columns that `turn` reads it at. -/
def sgn (a j : Fin 64) : ℝ := if 32 + j.val = a.val then 1 else if a.val + 32 = j.val then -1 else 0

/-- The adjoint as a product with that matrix. -/
theorem sum_sgn (f : Fin 64 → ℝ) (j : Fin 64) : ∑ a : Fin 64, f a * sgn a j = turn f j := by
  unfold turn
  split
  · next h =>
    rw [Finset.sum_eq_single ⟨32 + j.val, by omega⟩ (fun b _ hb => ?_) (fun h' => absurd (Finset.mem_univ _) h')]
    · unfold sgn; rw [if_pos rfl, mul_one]
    · unfold sgn
      rw [if_neg (fun e => hb (Fin.ext e.symm)), if_neg (by omega), mul_zero]
  · next h =>
    rw [Finset.sum_eq_single ⟨j.val - 32, by omega⟩ (fun b _ hb => ?_) (fun h' => absurd (Finset.mem_univ _) h')]
    · unfold sgn
      rw [if_neg (show ¬32 + j.val = j.val - 32 by omega), if_pos (show j.val - 32 + 32 = j.val by omega), mul_neg, mul_one]
    · unfold sgn
      rw [if_neg (by omega), if_neg (fun e => hb (Fin.ext (show b.val = j.val - 32 by omega))), mul_zero]

variable {n : Nat}

/-- The rotary embedding's adjoint, row by row. -/
def unrope (T C S : A2 n 64) : A2 n 64 := fun i => T i * C i + turn (fun j => T (ix2 (i 0) j) * S (ix2 (i 0) j)) (i 1)

/-- One head's rotary columns. -/
def rope (X : A3 4 n 192) (h : Fin 4) : A2 n 64 := fun i => X (ix3 h (i 0) ⟨128 + (i 1).val, by have : (i 1).val < 64 := (i 1).isLt; omega⟩)

/-- One head's other columns. -/
def nope (X : A3 4 n 192) (h : Fin 4) : A2 n 128 := fun i => X (ix3 h (i 0) ⟨(i 1).val, by have : (i 1).val < 128 := (i 1).isLt; omega⟩)

/-- One head's values. -/
def vals (V : A3 4 n 128) (h : Fin 4) : A2 n 128 := fun i => V (ix3 h (i 0) (i 1))

/-- The cotangent of the queries' projection, of head `h` at row `r` and column `k`. -/
def gqAt (Q : A3 4 n 192) (C S : A2 n 64) (h : Fin 4) (r : Fin n) (k : Fin 192) : ℝ :=
  if hk : k.val < 128 then nope Q h (ix2 r ⟨k.val, hk⟩) else unrope (rope Q h) C S (ix2 r ⟨k.val - 128, by omega⟩)

theorem gqAt_nope (Q : A3 4 n 192) (C S : A2 n 64) (h : Fin 4) (r : Fin n) (k : Fin 192) (hk : k.val < 128) :
    gqAt Q C S h r k = Q (ix3 h r k) := dif_pos hk
theorem gqAt_fst (Q : A3 4 n 192) (C S : A2 n 64) (h : Fin 4) (r : Fin n) (k : Fin 192) (hk : ¬k.val < 128) (h' : k.val - 128 < 32) :
    gqAt Q C S h r k = Q (ix3 h r ⟨128 + (32 + (k.val - 128)), by omega⟩) * S (ix2 r ⟨32 + (k.val - 128), by omega⟩)
      + Q (ix3 h r ⟨128 + (k.val - 128), by omega⟩) * C (ix2 r ⟨k.val - 128, by omega⟩) := by
  unfold gqAt
  rw [dif_neg hk, add_comm]
  unfold unrope turn
  exact congrArg (_ + ·) (dif_pos h')
theorem gqAt_snd (Q : A3 4 n 192) (C S : A2 n 64) (h : Fin 4) (r : Fin n) (k : Fin 192) (hk : ¬k.val < 128) (h' : ¬k.val - 128 < 32) :
    gqAt Q C S h r k = -(Q (ix3 h r ⟨128 + (k.val - 128 - 32), by omega⟩) * S (ix2 r ⟨k.val - 128 - 32, by omega⟩))
      + Q (ix3 h r ⟨128 + (k.val - 128), by omega⟩) * C (ix2 r ⟨k.val - 128, by omega⟩) := by
  unfold gqAt
  rw [dif_neg hk, add_comm]
  unfold unrope turn
  exact congrArg (_ + ·) (dif_neg h')

/-- The cotangent of the keys' and values' projection. -/
def gkvAt (K : A3 4 n 192) (V : A3 4 n 128) (h : Fin 4) (r : Fin n) (k : Fin 256) : ℝ :=
  if hk : k.val < 128 then nope K h (ix2 r ⟨k.val, hk⟩) else vals V h (ix2 r ⟨k.val - 128, by omega⟩)

/-- The cotangent of the queries' projection. -/
def gq (Q : A3 4 n 192) (C S : A2 n 64) : A3 4 n 192 := fun i => gqAt Q C S (i 0) (i 1) (i 2)
/-- The cotangent of the keys' and values' projection. -/
def gkv (K : A3 4 n 192) (V : A3 4 n 128) : A3 4 n 256 := fun i => gkvAt K V (i 0) (i 1) (i 2)

/-- The gradient of the shared rotary key: the adjoint of the rotary embedding, of the sum over the heads. -/
def dkr (K : A3 4 n 192) (C S : A2 n 64) : A2 n 64 := unrope (fun i => ∑ h : Fin 4, rope K h i) C S

/-- Column `k` of head `h` among the queries' columns. -/
def colq (h : Fin 4) (k : Fin 192) : Fin 768 := ⟨192 * h.val + k.val, by omega⟩
/-- Column `k` of head `h` among the keys' and values' columns. -/
def colkv (h : Fin 4) (k : Fin 256) : Fin 1024 := ⟨256 * h.val + k.val, by omega⟩

/-- The cotangent of the normalised rows that the queries' projection reads. -/
def accq (Q : A3 4 n 192) (C S : A2 n 64) (W : A2 384 768) : A2 n 384 :=
  fun i => ∑ h : Fin 4, ∑ k : Fin 192, gqAt Q C S h (i 0) k * W (ix2 (i 1) (colq h k))
/-- The cotangent of the normalised rows that the keys' and values' projection reads. -/
def acckv (K : A3 4 n 192) (V : A3 4 n 128) (W : A2 256 1024) : A2 n 256 :=
  fun i => ∑ h : Fin 4, ∑ k : Fin 256, gkvAt K V h (i 0) k * W (ix2 (i 1) (colkv h k))

/-- The gradient of the rows of a norm: `Z` is the cotangent of the normalised and scaled rows, `w` the rows' length. -/
def drms {d : Nat} (w : ℝ) (Z X : A2 n d) (g : A2 1 d) : A2 n d := fun i =>
  rs w X (i 0) * (Z i * g (ix2 0 (i 1)) - X i * rs w X (i 0) * ((∑ k : Fin d, Z (ix2 (i 0) k) * g (ix2 0 k) * (X (ix2 (i 0) k) * rs w X (i 0))) / w))
/-- The gradient of its gain. -/
def dgain {d : Nat} (w : ℝ) (Z X : A2 n d) : A2 1 d := fun i => ∑ r : Fin n, Z (ix2 r (i 1)) * (X (ix2 r (i 1)) * rs w X r)

/-- A sum over the queries' columns, head by head. -/
theorem sum_colq (f : Fin 768 → ℝ) : ∑ k : Fin 768, f k = ∑ h : Fin 4, ∑ k : Fin 192, f (colq h k) := by
  rw [← Finset.sum_product', Finset.univ_product_univ, ← Equiv.sum_comp (finProdFinEquiv (m := 4) (n := 192)) f]
  refine Finset.sum_congr rfl fun p _ => congrArg f (Fin.ext ?_)
  show p.2.val + 192 * p.1.val = 192 * p.1.val + p.2.val
  omega
/-- A sum over the keys' and values' columns, head by head. -/
theorem sum_colkv (f : Fin 1024 → ℝ) : ∑ k : Fin 1024, f k = ∑ h : Fin 4, ∑ k : Fin 256, f (colkv h k) := by
  rw [← Finset.sum_product', Finset.univ_product_univ, ← Equiv.sum_comp (finProdFinEquiv (m := 4) (n := 256)) f]
  refine Finset.sum_congr rfl fun p _ => congrArg f (Fin.ext ?_)
  show p.2.val + 256 * p.1.val = 256 * p.1.val + p.2.val
  omega

/-- One head's part of the queries' product: the rotary columns apart. -/
theorem sum_gq (Q : A3 4 n 192) (C S : A2 n 64) (h : Fin 4) (r : Fin n) (f : Fin 192 → ℝ) :
    ∑ k : Fin 192, gqAt Q C S h r k * f k
      = ∑ k : Fin 128, nope Q h (ix2 r k) * f (Fin.castAdd 64 k) + ∑ k : Fin 64, unrope (rope Q h) C S (ix2 r k) * f (Fin.natAdd 128 k) := by
  refine (Fin.sum_univ_add (M := ℝ) (a := 128) (b := 64) fun k => gqAt Q C S h r k * f k).trans ?_
  refine congrArg₂ (· + ·) (Finset.sum_congr rfl fun k _ => ?_) (Finset.sum_congr rfl fun k _ => ?_)
  · unfold gqAt; rw [dif_pos (show (Fin.castAdd 64 k).val < 128 from k.isLt)]; rfl
  · unfold gqAt; rw [dif_neg (show ¬(Fin.natAdd 128 k).val < 128 from not_lt.2 (Nat.le_add_right _ _))]
    refine congrArg (fun q : Fin 64 => unrope (rope Q h) C S (ix2 r q) * f (Fin.natAdd 128 k)) (Fin.ext ?_)
    exact Nat.add_sub_cancel_left (n := 128) (m := k.val)
/-- One head's part of the keys' and values' product: the values apart. -/
theorem sum_gkv (K : A3 4 n 192) (V : A3 4 n 128) (h : Fin 4) (r : Fin n) (f : Fin 256 → ℝ) :
    ∑ k : Fin 256, gkvAt K V h r k * f k
      = ∑ k : Fin 128, nope K h (ix2 r k) * f (Fin.castAdd 128 k) + ∑ k : Fin 128, vals V h (ix2 r k) * f (Fin.natAdd 128 k) := by
  refine (Fin.sum_univ_add (M := ℝ) (a := 128) (b := 128) fun k => gkvAt K V h r k * f k).trans ?_
  refine congrArg₂ (· + ·) (Finset.sum_congr rfl fun k _ => ?_) (Finset.sum_congr rfl fun k _ => ?_)
  · unfold gkvAt; rw [dif_pos (show (Fin.castAdd 128 k).val < 128 from k.isLt)]; rfl
  · unfold gkvAt; rw [dif_neg (show ¬(Fin.natAdd 128 k).val < 128 from not_lt.2 (Nat.le_add_right _ _))]
    refine congrArg (fun q : Fin 128 => vals V h (ix2 r q) * f (Fin.natAdd 128 k)) (Fin.ext ?_)
    exact Nat.add_sub_cancel_left (n := 128) (m := k.val)

/-- The norm's gradient in the form in which the derivative runs through the inverse root. -/
theorem drms_eq {d : Nat} {w : ℝ} (hw : 0 < w) (Z X : A2 n d) (g : A2 1 d) (i : (⟨2, ![n, d]⟩ : Shape).Idx) (D S : ℝ)
    (hD : D = Z i * g (ix2 0 (i 1))) (hS : S = ∑ k : Fin d, X (ix2 (i 0) k) * (Z (ix2 (i 0) k) * g (ix2 0 k))) :
    D * rs w X (i 0) + X i * (S * (-(1 / 2) * (rs w X (i 0) / ms w X (i 0))) / w)
        + S * (-(1 / 2) * (rs w X (i 0) / ms w X (i 0))) / w * X i = drms w Z X g i := by
  refine (back hw X (i 0) D (X i) S).trans ?_
  rw [hD, hS]
  unfold drms
  rw [Finset.sum_mul]
  congr 5
  exact funext fun k => by ring

end Cert.Mla
end
-- ==== Proof.MlaKernel.lean ====
/-
  What one block of 512 rows of the projections' backward kernel computes, over the reals: the values that the kernel's body
  forms from its blocks, one lemma for each of its steps. The body repeats its steps for the four heads; a repeated step is
  the same function, so one lemma serves the four.
-/
module

public import proofs.«01_k».proof.Proof.Mla
public import proofs.«01_k».proof.Proof.Gen.MlaBwdIdeal.Skeleton

@[expose] public section

set_option maxRecDepth 16384
set_option backward.isDefEq.respectTransparency false

noncomputable section

namespace Cert.MlaKernel

open MlaBwdIdeal MlaBwdIdeal.Gen Idealize.ShloMosaic Reals Norm Mla

/-- One head of an array, as a load of it leaves it. -/
def headOf {n w : Nat} (X : A3 4 n w) (h : Fin 4) : A3 1 n w := fun i => X (ix3 h (i 1) (i 2))
/-- The queries' weights by heads: head, column, row. -/
def wqT (W : A2 384 768) : A3 4 192 384 := fun i => W (ix2 (i 2) (colq (i 0) (i 1)))
/-- The keys' and values' weights by heads: head, row, column. -/
def wkvT (W : A2 256 1024) : A3 4 256 256 := fun i => W (ix2 (i 1) (colkv (i 0) (i 2)))
/-- The adjoint's matrix. -/
def rot : A2 64 64 := fun i => sgn (i 0) (i 1)

variable (Q K : A3 4 512 192) (V : A3 4 512 128) (X : A2 512 384) (Y : A2 512 256) (g : A2 1 384) (g' : A2 1 256)
  (W : A2 384 768) (W' : A2 256 1024) (C S : A2 512 64) (h : Fin 4)

/-- The adjoint's matrix, unchanged. -/
theorem pay7 : k0_pay7 (upb rot) = upb rot := by
  funext i
  unfold k0_pay7
  pointwise [upb]

/-- The zero blocks. -/
theorem pay8 : k0_pay8 (F := Ideal) = up fun _ => 0 := by
  funext i
  unfold k0_pay8
  pointwise [up]
  rfl
theorem pay9 : k0_pay9 (F := Ideal) = up fun _ => 0 := by
  funext i
  unfold k0_pay9
  pointwise [up]
  rfl
theorem pay10 : k0_pay10 (F := Ideal) = up fun _ => 0 := by
  funext i
  unfold k0_pay10
  pointwise [up]
  rfl
theorem pay5 : k0_pay5 (F := Ideal) = up fun _ => 0 := by
  funext i
  unfold k0_pay5
  pointwise [up]
  rfl
theorem pay6 : k0_pay6 (F := Ideal) = up fun _ => 0 := by
  funext i
  unfold k0_pay6
  pointwise [up]
  rfl

/-- One head's columns that the embedding leaves alone. -/
theorem pay12 : k0_pay12 (up (headOf Q h)) = upb (nope Q h) := by
  funext i
  unfold k0_pay12 k0_pay11
  pointwise [up]
  rfl

/-- One head's values. -/
theorem pay19 : k0_pay19 (up (headOf V h)) = upb (vals V h) := by
  funext i
  unfold k0_pay19
  pointwise [up]
  rfl

/-- One head's rotary columns, through the embedding's adjoint. -/
theorem pay26 : k0_pay26 (up C) (up S) (upb rot) (up (headOf Q h)) = upb (unrope (rope Q h) C S) := by
  funext i
  unfold k0_pay26 k0_pay24
  pointwise [up, mul_coe, sub_coe, coe_sum, add_coe]
  simp only [sub_self, zero_mul, Finset.sum_const_zero, add_zero]
  exact congrArg _ (congrArg (_ + ·) (sum_sgn (fun j => rope Q h (ix2 (i 0) j) * S (ix2 (i 0) j)) (i 1)))

/-- The queries' product of one head, added to what was there. -/
theorem pay16 (A : A2 512 384) (N : A2 512 128) (R : A2 512 64) :
    k0_pay16 (up A) (upb N) (upb R) (upb (headOf (wqT W) h))
      = up fun i => A i + (∑ k : Fin 128, N (ix2 (i 0) k) * W (ix2 (i 1) (colq h (Fin.castAdd 64 k)))
          + ∑ k : Fin 64, R (ix2 (i 0) k) * W (ix2 (i 1) (colq h (Fin.natAdd 128 k)))) := by
  funext i
  unfold k0_pay16
  pointwise [up, mul_coe, sub_coe, coe_sum, add_coe]
  rfl

/-- The keys' and values' product of one head, added to what was there. -/
theorem pay51 (A : A2 512 256) (N M : A2 512 128) :
    k0_pay51 (up A) (upb N) (upb M) (upb (headOf (wkvT W') h))
      = up fun i => A i + (∑ k : Fin 128, N (ix2 (i 0) k) * W' (ix2 (i 1) (colkv h (Fin.castAdd 128 k)))
          + ∑ k : Fin 128, M (ix2 (i 0) k) * W' (ix2 (i 1) (colkv h (Fin.natAdd 128 k)))) := by
  funext i
  unfold k0_pay51
  pointwise [up, mul_coe, sub_coe, coe_sum, add_coe]
  rfl

/-- One head's rotary columns of the keys, added to what was there. -/
theorem pay23 (A : A2 512 64) : k0_pay23 (up A) (up (headOf K h)) = up fun i => A i + rope K h i := by
  funext i
  unfold k0_pay23 k0_pay17
  pointwise [up, add_coe]
  rfl

/-- What one head adds to the cotangent of the queries' normalised rows. -/
def addq (A : A2 512 384) (h : Fin 4) : A2 512 384 := fun i => A i + ∑ k : Fin 192, gqAt Q C S h (i 0) k * W (ix2 (i 1) (colq h k))
/-- What one head adds to the cotangent of the keys' and values' normalised rows. -/
def addkv (A : A2 512 256) (h : Fin 4) : A2 512 256 := fun i => A i + ∑ k : Fin 256, gkvAt K V h (i 0) k * W' (ix2 (i 1) (colkv h k))
/-- What one head adds to the shared rotary key. -/
def addr (A : A2 512 64) (h : Fin 4) : A2 512 64 := fun i => A i + rope K h i

/-- The four heads' parts together. -/
theorem addq_all : addq Q W C S (addq Q W C S (addq Q W C S (addq Q W C S (fun _ => 0) 0) 1) 2) 3 = accq Q C S W := by
  funext i
  simp only [addq, accq, Fin.sum_univ_four, zero_add]
theorem addkv_all : addkv K V W' (addkv K V W' (addkv K V W' (addkv K V W' (fun _ => 0) 0) 1) 2) 3 = acckv K V W' := by
  funext i
  simp only [addkv, acckv, Fin.sum_univ_four, zero_add]
theorem addr_all : addr K (addr K (addr K (addr K (fun _ => 0) 0) 1) 2) 3 = fun i => ∑ h : Fin 4, rope K h i := by
  funext i
  simp only [addr, Fin.sum_univ_four, zero_add]

/-- One head's queries' product. -/
theorem headq (A : A2 512 384) :
    k0_pay16 (up A) (k0_pay12 (up (headOf Q h))) (k0_pay26 (up C) (up S) (upb rot) (up (headOf Q h))) (upb (headOf (wqT W) h))
      = up (addq Q W C S A h) := by
  rw [pay12, pay26, pay16]
  exact congrArg up (funext fun i => congrArg (A i + ·) (sum_gq Q C S h (i 0) fun k => W (ix2 (i 1) (colq h k))).symm)
/-- One head's keys' and values' product. -/
theorem headkv (A : A2 512 256) :
    k0_pay51 (up A) (k0_pay12 (up (headOf K h))) (k0_pay19 (up (headOf V h))) (upb (headOf (wkvT W') h)) = up (addkv K V W' A h) := by
  rw [pay12, pay19, pay51]
  exact congrArg up (funext fun i => congrArg (A i + ·) (sum_gkv K V h (i 0) fun k => W' (ix2 (i 1) (colkv h k))).symm)

/-- The body's steps for the second, third and fourth head are those of the first. -/
theorem pay25 : k0_pay25 (up (headOf Q h)) = upb (nope Q h) := pay12 Q h
theorem pay18 : k0_pay18 (up (headOf Q h)) = upb (nope Q h) := pay12 Q h
theorem pay31 : k0_pay31 (up (headOf Q h)) = upb (nope Q h) := pay12 Q h
theorem pay38 : k0_pay38 (up (headOf Q h)) = upb (nope Q h) := pay12 Q h
theorem pay13 : k0_pay13 (up C) (up S) (upb rot) (up (headOf Q h)) = upb (unrope (rope Q h) C S) :=
  Eq.trans (show _ = k0_pay26 (up C) (up S) (k0_pay7 (upb rot)) (up (headOf Q h)) from rfl) (by rw [pay7, pay26])
theorem pay42 : k0_pay42 (k0_pay40 (up C) (up (headOf Q h))) (k0_pay41 (up S) (upb rot) (up (headOf Q h))) = upb (unrope (rope Q h) C S) :=
  pay26 Q C S h

theorem pay16_0 (A : A2 512 384) : k0_pay16 (up A) (k0_pay12 (up (headOf Q h))) (k0_pay13 (up C) (up S) (upb rot) (up (headOf Q h))) (upb (headOf (wqT W) h))
      = up (addq Q W C S A h) := by
  rw [pay13, ← pay26]; exact headq Q W C S h A
theorem pay29 (A : A2 512 384) : k0_pay29 (up C) (up S) (upb rot) (up A) (up (headOf Q h)) (upb (headOf (wqT W) h)) = up (addq Q W C S A h) :=
  headq Q W C S h A
theorem pay45 (A : A2 512 384) : k0_pay45 (up A) (k0_pay38 (up (headOf Q h))) (k0_pay40 (up C) (up (headOf Q h))) (k0_pay41 (up S) (upb rot) (up (headOf Q h)))
      (upb (headOf (wqT W) h)) = up (addq Q W C S A h) := headq Q W C S h A
theorem pay60 (A : A2 512 384) : k0_pay60 (up A) (k0_pay55 (up C) (up S) (upb rot) (up (headOf Q h))) (k0_pay58 (upb (headOf (wqT W) h)))
      (k0_pay59 (up (headOf Q h)) (upb (headOf (wqT W) h))) = up (addq Q W C S A h) := headq Q W C S h A
theorem pay22 (A : A2 512 256) : k0_pay22 (up A) (up (headOf K h)) (up (headOf V h)) (upb (headOf (wkvT W') h)) = up (addkv K V W' A h) :=
  headkv K V W' h A
theorem pay35 (A : A2 512 256) : k0_pay35 (up A) (k0_pay31 (up (headOf K h))) (up (headOf V h)) (upb (headOf (wkvT W') h)) = up (addkv K V W' A h) :=
  headkv K V W' h A
theorem pay51_2 (A : A2 512 256) : k0_pay51 (up A) (k0_pay47 (up (headOf K h))) (k0_pay48 (up (headOf V h))) (upb (headOf (wkvT W') h)) = up (addkv K V W' A h) :=
  headkv K V W' h A
theorem pay66 (A : A2 512 256) : k0_pay66 (up A) (up (headOf K h)) (up (headOf V h)) (upb (headOf (wkvT W') h)) = up (addkv K V W' A h) :=
  headkv K V W' h A
theorem pay23_0 (A : A2 512 64) : k0_pay23 (up A) (up (headOf K h)) = up (addr K A h) := pay23 K h A
theorem pay36 (A : A2 512 64) : k0_pay36 (up A) (k0_pay30 (up (headOf K h))) = up (addr K A h) := pay23 K h A
theorem pay52 (A : A2 512 64) : k0_pay52 (up A) (k0_pay46 (up (headOf K h))) = up (addr K A h) := pay23 K h A
theorem pay67 (A : A2 512 64) : k0_pay67 (up A) (up (headOf K h)) = up (addr K A h) := pay23 K h A

/-- The shared rotary key's sum, through the embedding's adjoint. -/
theorem pay76 (A : A2 512 64) : k0_pay76 (upb rot) (k0_pay68 (up C) (up A) (up (headOf K h))) (k0_pay73 (up S) (up A) (up (headOf K h)))
    (k0_pay74 (up S) (upb rot) (up A) (up (headOf K h))) (k0_pay75 (up S) (upb rot) (up A) (up (headOf K h))) = up (unrope (addr K A h) C S) := by
  funext i
  unfold k0_pay76 k0_pay75 k0_pay74 k0_pay73 k0_pay72 k0_pay71 k0_pay70 k0_pay69 k0_pay68
  pointwise [pay67, up, mul_coe, sub_coe, coe_sum, add_coe]
  simp only [sub_self, zero_mul, Finset.sum_const_zero, add_zero]
  exact congrArg _ (congrArg₂ (· + ·) rfl (sum_sgn (fun j => addr K A h (ix2 (i 0) j) * S (ix2 (i 0) j)) (i 1)))

/-- The rows' inverse roots. -/
theorem pay77 : k0_pay77 (up X) = up fun i => rs 384 X (i 0) := by
  funext i
  unfold k0_pay77
  pointwise [up, lit_384, lit_eps, coe_sum, mul_coe]
  rw [div_coe _ (by norm_num), add_coe]
  exact rsqrt_coe (ms_pos (by norm_num) X _)
theorem pay1 : k0_pay1 (up Y) = up fun i => rs 256 Y (i 0) := by
  funext i
  unfold k0_pay1
  pointwise [up, lit_256, lit_eps, coe_sum, mul_coe]
  rw [div_coe _ (by norm_num), add_coe]
  exact rsqrt_coe (ms_pos (by norm_num) Y _)

/-- The normalised rows. -/
theorem pay78 : k0_pay78 (up X) = up fun i => X i * rs 384 X (i 0) := by
  funext i
  unfold k0_pay78
  pointwise [pay77, up, mul_coe]
theorem pay2 : k0_pay2 (up Y) = up fun i => Y i * rs 256 Y (i 0) := by
  funext i
  unfold k0_pay2
  pointwise [pay1, up, mul_coe]

/-- The gradients of the rows. -/
theorem pay79 (Z : A2 512 384) : k0_pay79 (up Z) (up X) (up g) = up (drms 384 Z X g) := by
  funext i
  unfold k0_pay79
  pointwise [pay77, pay78, up, lit_384, mul_coe, coe_sum]
  rw [div_coe _ (by norm_num)]
  simp only [mul_coe, sub_coe, ix2_eta]
  rfl
theorem pay3 (Z : A2 512 256) : k0_pay3 (up Z) (up Y) (up g') = up (drms 256 Z Y g') := by
  funext i
  unfold k0_pay3
  pointwise [pay1, pay2, up, lit_256, mul_coe, coe_sum]
  rw [div_coe _ (by norm_num)]
  simp only [mul_coe, sub_coe, ix2_eta]
  rfl

/-- The block's part of the gradients of the gains, added to what was there. -/
theorem pay80 (Z : A2 512 384) (A : A2 1 384) : k0_pay80 (up Z) (up X) (up A) = up fun i => A i + dgain 384 Z X i := by
  funext i
  unfold k0_pay80
  pointwise [pay78, up, mul_coe, coe_sum, add_coe]
  rfl
theorem pay4 (Z : A2 512 256) (A : A2 1 256) : k0_pay4 (up Z) (up Y) (up A) = up fun i => A i + dgain 256 Z Y i := by
  funext i
  unfold k0_pay4
  pointwise [pay2, up, mul_coe, coe_sum, add_coe]
  rfl

end Cert.MlaKernel
end
-- ==== Proof.MlaBlock.lean ====
/-
  What one grid point of the projections' backward call leaves in its seven result blocks, over the reals: the loads of the
  four heads, the stores of the two cotangents head by head, and the sums that the heads add to. The first point starts the
  two gains' gradients from zero; a later one adds to what the point before left.
-/
module

public import proofs.«01_k».proof.Proof.MlaKernel
public import proofs.«01_k».proof.Proof.Gen.MlaBwdIdeal.Value
public import Idealize.ShloMosaic.Lib.Pipeline.ValueKit.Tiles
public import Idealize.ShloMosaic.Lib.Pipeline.ReadBack

@[expose] public section

set_option maxRecDepth 16384
set_option backward.isDefEq.respectTransparency false

noncomputable section

namespace Cert.MlaBlock

open MlaBwdIdeal MlaBwdIdeal.Gen Idealize.ShloMosaic TcCoe Idealize.SL.Sem Reals Norm Mla MlaKernel

/-- A load of the whole array. -/
theorem ld_whole {n w : Nat} (X : A2 n w) (inb) :
    View.ld (Val := Elt Ideal) (e' := .f32) (up X) (Rect.unit (s := (⟨2, ![n, w]⟩ : Shape)) ![0, 0] ![n, w] inb) = up X := by
  exact View.ld_unit_zero (Val := Elt Ideal) (e := .f32) (S := (⟨2, ![n, w]⟩ : Shape)) off2 inb _
theorem ld_wholeb {n w : Nat} (X : A2 n w) (inb) :
    View.ld (Val := Elt Ideal) (e' := .bf16) (upb X) (Rect.unit (s := (⟨2, ![n, w]⟩ : Shape)) ![0, 0] ![n, w] inb) = upb X := by
  exact View.ld_unit_zero (Val := Elt Ideal) (e := .bf16) (S := (⟨2, ![n, w]⟩ : Shape)) off2 inb _

/-- A load of one head of an array. -/
theorem ld_head {n w : Nat} (X : A3 4 n w) (h : Fin 4) (o : Nat) (ho : o = h.val) (inb) :
    View.ld (Val := Elt Ideal) (e' := .f32) (up X) (Rect.unit (s := (⟨3, ![4, n, w]⟩ : Shape)) ![o, 0, 0] ![1, n, w] inb) = up (headOf X h) := by
  subst ho
  funext i
  refine View.ld_unit_apply_of (Val := Elt Ideal) (e := .f32) (up X) _ _ inb i (ix3 h (i 1) (i 2)) fun a => ?_
  match a with
  | ⟨0, _⟩ => exact ((Nat.lt_one_iff.1 (i 0).isLt).symm ▸ rfl)
  | ⟨1, _⟩ => exact (Nat.zero_add _).symm
  | ⟨2, _⟩ => exact (Nat.zero_add _).symm
theorem ld_headb {n w : Nat} (X : A3 4 n w) (h : Fin 4) (o : Nat) (ho : o = h.val) (inb) :
    View.ld (Val := Elt Ideal) (e' := .bf16) (upb X) (Rect.unit (s := (⟨3, ![4, n, w]⟩ : Shape)) ![o, 0, 0] ![1, n, w] inb) = upb (headOf X h) := ld_head X h o ho inb

/-- The loads of the four heads. -/
theorem ld_heads {n w : Nat} (X : A3 4 n w) :
    (∀ inb, View.ld (Val := Elt Ideal) (e' := .f32) (up X) (Rect.unit (s := (⟨3, ![4, n, w]⟩ : Shape)) ![0, 0, 0] ![1, n, w] inb) = up (headOf X 0))
    ∧ (∀ inb, View.ld (Val := Elt Ideal) (e' := .f32) (up X) (Rect.unit (s := (⟨3, ![4, n, w]⟩ : Shape)) ![1, 0, 0] ![1, n, w] inb) = up (headOf X 1))
    ∧ (∀ inb, View.ld (Val := Elt Ideal) (e' := .f32) (up X) (Rect.unit (s := (⟨3, ![4, n, w]⟩ : Shape)) ![2, 0, 0] ![1, n, w] inb) = up (headOf X 2))
    ∧ ∀ inb, View.ld (Val := Elt Ideal) (e' := .f32) (up X) (Rect.unit (s := (⟨3, ![4, n, w]⟩ : Shape)) ![3, 0, 0] ![1, n, w] inb) = up (headOf X 3) :=
  ⟨ld_head X 0 0 rfl, ld_head X 1 _ rfl, ld_head X 2 _ rfl, ld_head X 3 _ rfl⟩
theorem ld_headsb {n w : Nat} (X : A3 4 n w) :
    (∀ inb, View.ld (Val := Elt Ideal) (e' := .bf16) (upb X) (Rect.unit (s := (⟨3, ![4, n, w]⟩ : Shape)) ![0, 0, 0] ![1, n, w] inb) = upb (headOf X 0))
    ∧ (∀ inb, View.ld (Val := Elt Ideal) (e' := .bf16) (upb X) (Rect.unit (s := (⟨3, ![4, n, w]⟩ : Shape)) ![1, 0, 0] ![1, n, w] inb) = upb (headOf X 1))
    ∧ (∀ inb, View.ld (Val := Elt Ideal) (e' := .bf16) (upb X) (Rect.unit (s := (⟨3, ![4, n, w]⟩ : Shape)) ![2, 0, 0] ![1, n, w] inb) = upb (headOf X 2))
    ∧ ∀ inb, View.ld (Val := Elt Ideal) (e' := .bf16) (upb X) (Rect.unit (s := (⟨3, ![4, n, w]⟩ : Shape)) ![3, 0, 0] ![1, n, w] inb) = upb (headOf X 3) :=
  ⟨ld_headb X 0 0 rfl, ld_headb X 1 _ rfl, ld_headb X 2 _ rfl, ld_headb X 3 _ rfl⟩

/-- A matrix as a block of one head. -/
def one3 {n w : Nat} (A : A2 n w) : A3 1 n w := fun x => A (ix2 (x 1) (x 2))

/-- Columns `o`, `o + 1`, … of a stored head are the whole's. -/
theorem piece {n w w' : Nat} (Z : A3 4 n w') (A : A2 n w) (h : Fin 4) (a o : Nat) (ha : a = h.val)
    (inb : ∀ b : Fin 3, (![a, 0, o] : Fin 3 → Nat) b + (![1, n, w] : Fin 3 → Nat) b ≤ (![4, n, w'] : Fin 3 → Nat) b)
    (hZ : ∀ (r : Fin n) (k : Fin w) (k' : Fin w'), k'.val = o + k.val → A (ix2 r k) = Z (ix3 h r k'))
    (x : (Rect.unit (s := (⟨3, ![4, n, w']⟩ : Shape)) ![a, 0, o] ![1, n, w] inb).shape.Idx) :
    (upb (one3 A) : FVec Ideal _ .bf16) x = upb Z ((Rect.unit (s := (⟨3, ![4, n, w']⟩ : Shape)) ![a, 0, o] ![1, n, w] inb).emb x) := by
  subst ha
  have e : (Rect.unit (s := (⟨3, ![4, n, w']⟩ : Shape)) ![h.val, 0, o] ![1, n, w] inb).emb x
      = ix3 h (x 1) ⟨o + (x 2).val, lt_of_lt_of_le (Nat.add_lt_add_left (x 2).isLt o) (inb 2)⟩ := by
    funext b; apply Fin.ext
    match b with
    | ⟨0, _⟩ => have := Nat.lt_one_iff.1 (x 0).isLt; show h.val + 1 * (x 0).val = h.val; omega
    | ⟨1, _⟩ => exact (Nat.zero_add _).trans (Nat.one_mul _)
    | ⟨2, _⟩ => exact congrArg (o + ·) (Nat.one_mul _)
  rw [e]
  exact congrArg (fun z : ℝ => (z : EReal)) (hZ (x 1) (x 2) _ rfl)

section Point

variable (Q K : A3 4 512 192) (V : A3 4 512 128) (X : A2 512 384) (Y : A2 512 256) (g : A2 1 384) (g' : A2 1 256)
  (W : A2 384 768) (W' : A2 256 1024) (C S : A2 512 64) (h : Fin 4)

/-- The stored heads. -/
theorem st14 : k0_pay14 (F := Ideal) (up (headOf Q h)) = upb (one3 (nope Q h)) := by
  unfold k0_pay14
  rw [pay12]
  funext i
  pointwise [upb]
  rfl
theorem st21 : k0_pay21 (F := Ideal) (up (headOf V h)) = upb (one3 (vals V h)) := by
  unfold k0_pay21
  rw [pay19]
  funext i
  pointwise [upb]
  rfl
theorem st28 : k0_pay28 (F := Ideal) (up C) (up S) (upb rot) (up (headOf Q h)) = upb (one3 (unrope (rope Q h) C S)) := by
  unfold k0_pay28
  rw [pay26]
  funext i
  pointwise [upb]
  rfl
theorem st15 : k0_pay15 (F := Ideal) (k0_pay13 (up C) (up S) (upb rot) (up (headOf Q h))) = upb (one3 (unrope (rope Q h) C S)) := by
  unfold k0_pay15
  rw [pay13]
  funext i
  pointwise [upb]
  rfl
theorem st57 : k0_pay57 (F := Ideal) (up C) (up S) (upb rot) (up (headOf Q h)) = upb (one3 (unrope (rope Q h) C S)) := st28 Q C S h
theorem st44 : k0_pay44 (F := Ideal) (k0_pay40 (up C) (up (headOf Q h))) (k0_pay41 (up S) (upb rot) (up (headOf Q h)))
    = upb (one3 (unrope (rope Q h) C S)) := st28 Q C S h
theorem st27 : k0_pay27 (F := Ideal) (up (headOf Q h)) = upb (one3 (nope Q h)) := st14 Q h
theorem st43 : k0_pay43 (F := Ideal) (k0_pay38 (up (headOf Q h))) = upb (one3 (nope Q h)) := st14 Q h
theorem st56 : k0_pay56 (F := Ideal) (up (headOf Q h)) = upb (one3 (nope Q h)) := st14 Q h
theorem st20 : k0_pay20 (F := Ideal) (up (headOf Q h)) = upb (one3 (nope Q h)) := st14 Q h
theorem st33 : k0_pay33 (F := Ideal) (k0_pay31 (up (headOf Q h))) = upb (one3 (nope Q h)) := st14 Q h
theorem st49 : k0_pay49 (F := Ideal) (up (headOf Q h)) = upb (one3 (nope Q h)) := st14 Q h
theorem st64 : k0_pay64 (F := Ideal) (up (headOf Q h)) = upb (one3 (nope Q h)) := st14 Q h
theorem st34 : k0_pay34 (F := Ideal) (up (headOf V h)) = upb (one3 (vals V h)) := st21 V h
theorem st50 : k0_pay50 (F := Ideal) (up (headOf V h)) = upb (one3 (vals V h)) := st21 V h
theorem st65 : k0_pay65 (F := Ideal) (up (headOf V h)) = upb (one3 (vals V h)) := st21 V h

/-- The two parts of a head of each cotangent. -/
theorem gq_fst (r : Fin 512) (k : Fin 128) (k' : Fin 192) (e : k'.val = 0 + k.val) : nope Q h (ix2 r k) = gq Q C S (ix3 h r k') := by
  have hk : k'.val < 128 := by omega
  have hf : k = ⟨k'.val, hk⟩ := Fin.ext (show k.val = k'.val by omega)
  show _ = gqAt Q C S h r k'
  unfold gqAt
  rw [dif_pos hk]
  exact congrArg (fun z => nope Q h (ix2 r z)) hf
theorem gq_snd (r : Fin 512) (k : Fin 64) (k' : Fin 192) (e : k'.val = 128 + k.val) : unrope (rope Q h) C S (ix2 r k) = gq Q C S (ix3 h r k') := by
  have hk : ¬k'.val < 128 := by omega
  have hf : k = ⟨k'.val - 128, by omega⟩ := Fin.ext (by show k.val = k'.val - 128; omega)
  show _ = gqAt Q C S h r k'
  unfold gqAt
  rw [dif_neg hk]
  exact congrArg (fun z => unrope (rope Q h) C S (ix2 r z)) hf
theorem gkv_fst (r : Fin 512) (k : Fin 128) (k' : Fin 256) (e : k'.val = 0 + k.val) : nope K h (ix2 r k) = gkv K V (ix3 h r k') := by
  have hk : k'.val < 128 := by omega
  have hf : k = ⟨k'.val, hk⟩ := Fin.ext (show k.val = k'.val by omega)
  show _ = gkvAt K V h r k'
  unfold gkvAt
  rw [dif_pos hk]
  exact congrArg (fun z => nope K h (ix2 r z)) hf
theorem gkv_snd (r : Fin 512) (k : Fin 128) (k' : Fin 256) (e : k'.val = 128 + k.val) : vals V h (ix2 r k) = gkv K V (ix3 h r k') := by
  have hk : ¬k'.val < 128 := by omega
  have hf : k = ⟨k'.val - 128, by omega⟩ := Fin.ext (by show k.val = k'.val - 128; omega)
  show _ = gkvAt K V h r k'
  unfold gkvAt
  rw [dif_neg hk]
  exact congrArg (fun z => vals V h (ix2 r z)) hf

variable (c : Dev nD) (i : grid0.Coords) (a1 : Memref sig .tc .vmem S4x512x192 .f32) (h1 : a1.IsWhole) (a2 : Memref sig .tc .vmem S4x512x192 .f32) (h2 : a2.IsWhole)
  (a3 : Memref sig .tc .vmem S4x512x128 .f32) (h3 : a3.IsWhole) (a4 : Memref sig .tc .vmem S512x384 .f32) (h4 : a4.IsWhole) (a5 : Memref sig .tc .vmem S512x256 .f32) (h5 : a5.IsWhole)
  (a6 : Memref sig .tc .vmem S1x384 .f32) (h6 : a6.IsWhole) (a7 : Memref sig .tc .vmem S1x256 .f32) (h7 : a7.IsWhole) (a8 : Memref sig .tc .vmem S4x192x384 .bf16) (h8 : a8.IsWhole)
  (a9 : Memref sig .tc .vmem S4x256x256 .bf16) (h9 : a9.IsWhole) (a10 : Memref sig .tc .vmem S512x64 .f32) (h10 : a10.IsWhole) (a11 : Memref sig .tc .vmem S512x64 .f32) (h11 : a11.IsWhole)
  (a12 : Memref sig .tc .vmem S64x64 .bf16) (h12 : a12.IsWhole) (a13 : Memref sig .tc .vmem S512x384 .f32) (h13 : a13.IsWhole) (a14 : Memref sig .tc .vmem S512x256 .f32) (h14 : a14.IsWhole)
  (a15 : Memref sig .tc .vmem S512x64 .f32) (h15 : a15.IsWhole) (a16 : Memref sig .tc .vmem S4x512x192 .bf16) (h16 : a16.IsWhole) (a17 : Memref sig .tc .vmem S4x512x256 .bf16) (h17 : a17.IsWhole)
  (a18 : Memref sig .tc .vmem S1x384 .f32) (h18 : a18.IsWhole) (a19 : Memref sig .tc .vmem S1x256 .f32) (h19 : a19.IsWhole)

/-- The gradient of the queries' latent rows. -/
theorem out12 : (∀ hc : cond0_0 i, out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = up (drms 384 (accq Q C S W) X g))
    ∧ ∀ (hc : ¬cond0_0 i) (D : A2 1 384) (D' : A2 1 256), out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = up (drms 384 (accq Q C S W) X g) := by
  refine ⟨fun hc => ?_, fun hc D D' => ?_⟩
  on_goal 1 =>
    unfold out0_A_12
    rw [View.read_writes_eq_canon _ _ _ (fun _ => cover0_A_12 ..)]
    unfold kernelRun0_A; dsimp only; sl_unfold_words
  on_goal 2 =>
    unfold out0_B_12
    rw [View.read_writes_eq_canon _ _ _ (fun _ => cover0_B_12 ..)]
    unfold kernelRun0_B; dsimp only; sl_unfold_words
  all_goals simp only [View.canon_unit_zero (S := S512x384) off2, View.readAt_eq_ld, Memref.IsWhole.read_unread,
    ld_whole, ld_wholeb, ld_heads, ld_headsb,
    pay8, pay7, pay16_0 Q W C S 0, pay29 Q W C S 1, pay45 Q W C S 2, pay60 Q W C S 3, addq_all, pay79]

/-- The gradient of the keys' and values' latent rows. -/
theorem out13 : (∀ hc : cond0_0 i, out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = up (drms 256 (acckv K V W') Y g'))
    ∧ ∀ (hc : ¬cond0_0 i) (D : A2 1 384) (D' : A2 1 256), out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = up (drms 256 (acckv K V W') Y g') := by
  refine ⟨fun hc => ?_, fun hc D D' => ?_⟩
  on_goal 1 =>
    unfold out0_A_13
    rw [View.read_writes_eq_canon _ _ _ (fun _ => cover0_A_13 ..)]
    unfold kernelRun0_A; dsimp only; sl_unfold_words
  on_goal 2 =>
    unfold out0_B_13
    rw [View.read_writes_eq_canon _ _ _ (fun _ => cover0_B_13 ..)]
    unfold kernelRun0_B; dsimp only; sl_unfold_words
  all_goals simp only [View.canon_unit_zero (S := S512x256) off2, View.readAt_eq_ld, Memref.IsWhole.read_unread,
    ld_whole, ld_wholeb, ld_heads, ld_headsb,
    pay9, pay22 K V W' 0, pay35 K V W' 1, pay51_2 K V W' 2, pay66 K V W' 3, addkv_all, pay3]

/-- The shared rotary key's gradient. -/
theorem out14 : (∀ hc : cond0_0 i, out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = up (dkr K C S))
    ∧ ∀ (hc : ¬cond0_0 i) (D : A2 1 384) (D' : A2 1 256), out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = up (dkr K C S) := by
  refine ⟨fun hc => ?_, fun hc D D' => ?_⟩
  on_goal 1 =>
    unfold out0_A_14
    rw [View.read_writes_eq_canon _ _ _ (fun _ => cover0_A_14 ..)]
    unfold kernelRun0_A; dsimp only; sl_unfold_words
  on_goal 2 =>
    unfold out0_B_14
    rw [View.read_writes_eq_canon _ _ _ (fun _ => cover0_B_14 ..)]
    unfold kernelRun0_B; dsimp only; sl_unfold_words
  all_goals simp only [View.canon_unit_zero (S := S512x64) off2, View.readAt_eq_ld, Memref.IsWhole.read_unread,
    ld_whole, ld_wholeb, ld_heads, pay7, pay10, pay23_0 K 0, pay36 K 1, pay52 K 2, pay76 K C S 3, addr_all]
  all_goals rfl

/-- The cotangent of the queries' projection. -/
theorem out15 : (∀ hc : cond0_0 i, out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = upb (gq Q C S))
    ∧ ∀ (hc : ¬cond0_0 i) (D : A2 1 384) (D' : A2 1 256), out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = upb (gq Q C S) := by
  refine ⟨fun hc => ?_, fun hc D D' => ?_⟩
  on_goal 1 =>
    unfold out0_A_15
    rw [View.read_writes_eq_canon _ _ _ (fun _ => cover0_A_15 ..)]
    funext y
    refine View.canon_apply_of_pieces (Val := Elt Ideal) (S := S4x512x192) (e := .bf16) (upb (gq Q C S)) _ (View.PiecesOf.mem ?_) y (cover0_A_15 ..)
    unfold kernelRun0_A; dsimp only; sl_unfold_words
  on_goal 2 =>
    unfold out0_B_15
    rw [View.read_writes_eq_canon _ _ _ (fun _ => cover0_B_15 ..)]
    funext y
    refine View.canon_apply_of_pieces (Val := Elt Ideal) (S := S4x512x192) (e := .bf16) (upb (gq Q C S)) _ (View.PiecesOf.mem ?_) y (cover0_B_15 ..)
    unfold kernelRun0_B; dsimp only; sl_unfold_words
  all_goals simp only [View.readAt_eq_ld, Memref.IsWhole.read_unread,
    ld_whole, ld_wholeb, ld_heads,
    pay7, st14 Q 0, st15 Q C S 0, st27 Q 1, st28 Q C S 1, st43 Q 2, st44 Q C S 2, st56 Q 3, st57 Q C S 3]
  all_goals exact ⟨piece _ _ 3 3 128 rfl inb_S4x512x192_S1x512x64_3_0_128 (gq_snd Q C S 3), piece _ _ 3 3 0 rfl inb_S4x512x192_S1x512x128_3_0_0 (gq_fst Q C S 3), piece _ _ 2 2 128 rfl inb_S4x512x192_S1x512x64_2_0_128 (gq_snd Q C S 2), piece _ _ 2 2 0 rfl inb_S4x512x192_S1x512x128_2_0_0 (gq_fst Q C S 2), piece _ _ 1 1 128 rfl inb_S4x512x192_S1x512x64_1_0_128 (gq_snd Q C S 1), piece _ _ 1 1 0 rfl inb_S4x512x192_S1x512x128_1_0_0 (gq_fst Q C S 1), piece _ _ 0 0 128 rfl inb_S4x512x192_S1x512x64_0_0_128 (gq_snd Q C S 0), piece _ _ 0 0 0 rfl inb_S4x512x192_S1x512x128_0_0_0 (gq_fst Q C S 0), trivial⟩

/-- The cotangent of the keys' and values' projection. -/
theorem out16 : (∀ hc : cond0_0 i, out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = upb (gkv K V))
    ∧ ∀ (hc : ¬cond0_0 i) (D : A2 1 384) (D' : A2 1 256), out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = upb (gkv K V) := by
  refine ⟨fun hc => ?_, fun hc D D' => ?_⟩
  on_goal 1 =>
    unfold out0_A_16
    rw [View.read_writes_eq_canon _ _ _ (fun _ => cover0_A_16 ..)]
    funext y
    refine View.canon_apply_of_pieces (Val := Elt Ideal) (S := S4x512x256) (e := .bf16) (upb (gkv K V)) _ (View.PiecesOf.mem ?_) y (cover0_A_16 ..)
    unfold kernelRun0_A; dsimp only; sl_unfold_words
  on_goal 2 =>
    unfold out0_B_16
    rw [View.read_writes_eq_canon _ _ _ (fun _ => cover0_B_16 ..)]
    funext y
    refine View.canon_apply_of_pieces (Val := Elt Ideal) (S := S4x512x256) (e := .bf16) (upb (gkv K V)) _ (View.PiecesOf.mem ?_) y (cover0_B_16 ..)
    unfold kernelRun0_B; dsimp only; sl_unfold_words
  all_goals simp only [View.readAt_eq_ld, Memref.IsWhole.read_unread,
    ld_whole, ld_wholeb, ld_heads, st20 K 0, st21 V 0, st33 K 1, st34 V 1, st49 K 2, st50 V 2, st64 K 3, st65 V 3]
  all_goals exact ⟨piece _ _ 3 3 128 rfl inb_S4x512x256_S1x512x128_3_0_128 (gkv_snd K V 3), piece _ _ 3 3 0 rfl inb_S4x512x256_S1x512x128_3_0_0 (gkv_fst K V 3), piece _ _ 2 2 128 rfl inb_S4x512x256_S1x512x128_2_0_128 (gkv_snd K V 2), piece _ _ 2 2 0 rfl inb_S4x512x256_S1x512x128_2_0_0 (gkv_fst K V 2), piece _ _ 1 1 128 rfl inb_S4x512x256_S1x512x128_1_0_128 (gkv_snd K V 1), piece _ _ 1 1 0 rfl inb_S4x512x256_S1x512x128_1_0_0 (gkv_fst K V 1), piece _ _ 0 0 128 rfl inb_S4x512x256_S1x512x128_0_0_128 (gkv_snd K V 0), piece _ _ 0 0 0 rfl inb_S4x512x256_S1x512x128_0_0_0 (gkv_fst K V 0), trivial⟩

/-- The part of the first gain's gradient. -/
theorem out17 : (∀ hc : cond0_0 i, out0_A_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = up fun j => 0 + dgain 384 (accq Q C S W) X j)
    ∧ ∀ (hc : ¬cond0_0 i) (D : A2 1 384) (D' : A2 1 256), out0_B_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = up fun j => D j + dgain 384 (accq Q C S W) X j := by
  refine ⟨fun hc => ?_, fun hc D D' => ?_⟩
  on_goal 1 =>
    unfold out0_A_17
    rw [View.read_writes_eq_canon _ _ _ (fun _ => cover0_A_17 ..)]
    unfold kernelRun0_A; dsimp only; sl_unfold_words
    simp only [View.canon_cons_unit_zero (S := S1x384) off2, View.readCov_unit_zero (S := S1x384) _ off2, pay5, pay6]
  on_goal 2 =>
    unfold out0_B_17
    rw [View.read_writes_eq_canon _ _ _ (fun _ => cover0_B_17 ..)]
    unfold kernelRun0_B; dsimp only; sl_unfold_words
    simp only [View.canon_unit_zero (S := S1x384) off2]
  all_goals simp only [View.readAt_eq_ld, Memref.IsWhole.read_unread,
    ld_whole, ld_wholeb, ld_heads, ld_headsb,
    pay8, pay7, pay16_0 Q W C S 0, pay29 Q W C S 1, pay45 Q W C S 2, pay60 Q W C S 3, addq_all, pay80]

/-- The part of the second gain's gradient. -/
theorem out18 : (∀ hc : cond0_0 i, out0_A_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) = up fun j => 0 + dgain 256 (acckv K V W') Y j)
    ∧ ∀ (hc : ¬cond0_0 i) (D : A2 1 384) (D' : A2 1 256), out0_B_18 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc
    (up Q) (up K) (up V) (up X) (up Y) (up g) (up g') (upb (wqT W)) (upb (wkvT W')) (up C) (up S) (upb rot) (up D) (up D') = up fun j => D' j + dgain 256 (acckv K V W') Y j := by
  refine ⟨fun hc => ?_, fun hc D D' => ?_⟩
  on_goal 1 =>
    unfold out0_A_18
    rw [View.read_writes_eq_canon _ _ _ (fun _ => cover0_A_18 ..)]
    unfold kernelRun0_A; dsimp only; sl_unfold_words
    simp only [View.canon_cons_unit_zero (S := S1x256) off2, View.readCov_unit_zero (S := S1x256) _ off2, pay5, pay6]
  on_goal 2 =>
    unfold out0_B_18
    rw [View.read_writes_eq_canon _ _ _ (fun _ => cover0_B_18 ..)]
    unfold kernelRun0_B; dsimp only; sl_unfold_words
    simp only [View.canon_unit_zero (S := S1x256) off2]
  all_goals simp only [View.readAt_eq_ld, Memref.IsWhole.read_unread,
    ld_whole, ld_wholeb, ld_heads, ld_headsb,
    pay9, pay22 K V W' 0, pay35 K V W' 1, pay51_2 K V W' 2, pay66 K V W' 3, addkv_all, pay4]

end Point

end Cert.MlaBlock

end
-- ==== Proof.MlaHost.lean ====
/-
  What the projections' backward call is launched on besides its arguments, over the reals: the two weights cut into heads,
  and the matrix of the rotary embedding's adjoint, which the host writes sign by sign into zeros.
-/
module

public import proofs.«01_k».proof.Proof.MlaKernel
public import proofs.«01_k».proof.Proof.Gen.MlaBwdIdeal.Frame
public import Idealize.ShloMosaic.Lib.StableHlo.ReadAt
public import Idealize.ShloMosaic.Lib.Routing.OpsSet

@[expose] public section

set_option maxRecDepth 16384
set_option backward.isDefEq.respectTransparency false

noncomputable section

namespace Cert.MlaHost

open MlaBwdIdeal MlaBwdIdeal.Gen Idealize.ShloMosaic TcCoe Idealize.SL.Sem Reals Norm Mla MlaKernel

/-- The word of minus one. -/
theorem lit_neg_one : Ideal.ofBits .f32 0xBF800000#32 = ((-1 : ℝ) : EReal) := by
  simp [Ideal.ofBits, Ideal.ieee, -EReal.coe_mul]; norm_num

variable (m : (ℓ : Loc nD τ sig) → Buf (Elt Ideal) ℓ) (c : Dev nD)

/-- The queries' weights by heads. -/
theorem v2 (W : A2 384 768) (hW : m ((c : Thread nD τ).loc main_arg7) = up W) : V m c main_v2 = upb (wqT W) := by
  unfold V
  simp only [List.flatten_cons, List.flatten_nil, List.cons_append, List.nil_append, List.append_nil, hostOps0, hostOps0_1, hostOps0_2, hostOps0_3, hostOps0_4]
  after_reads_simp
  rw [hW]
  funext i
  pointwise [up, upb, wqT]
  exact congrArg (fun z : Fin 768 => ((W (ix2 (i 2) z) : ℝ) : EReal)) (Fin.ext (by show (i 0).val * 192 + (i 1).val = 192 * (i 0).val + (i 1).val; omega))
/-- The keys' and values' weights by heads. -/
theorem v5 (W : A2 256 1024) (hW : m ((c : Thread nD τ).loc main_arg8) = up W) : V m c main_v5 = upb (wkvT W) := by
  unfold V
  simp only [List.flatten_cons, List.flatten_nil, List.cons_append, List.nil_append, List.append_nil, hostOps0, hostOps0_1, hostOps0_2, hostOps0_3, hostOps0_4]
  after_reads_simp
  rw [hW]
  funext i
  pointwise [up, upb, wkvT]
  exact congrArg (fun z : Fin 1024 => ((W (ix2 (i 1) z) : ℝ) : EReal)) (Fin.ext (by show (i 0).val * 256 + (i 2).val = 256 * (i 0).val + (i 2).val; omega))
/-- Where entry `j` of the signs goes. -/
def src (j : Fin 64) : Fin 64 := if h : j.val < 32 then ⟨j.val + 32, by omega⟩ else ⟨j.val - 32, by omega⟩
/-- The places that the signs are written at: row and column. -/
def idx : IVec S64x2 32 := fun i => if (i 1).val = 0 then BitVec.ofNat 32 (src (i 0)).val else BitVec.ofNat 32 (i 0).val

/-- The two words of a place. -/
theorem row_word : ∀ j : Fin 64,
    Scalar.select (IntOp.cmpi .slt (Scalar.select (IntOp.cmpi .slt (BitVec.ofNat 32 j.val) 32#32) (IntOp.addi (BitVec.ofNat 32 j.val) 32#32) (IntOp.subi (BitVec.ofNat 32 j.val) 32#32)) 0#32)
      (IntOp.addi (Scalar.select (IntOp.cmpi .slt (BitVec.ofNat 32 j.val) 32#32) (IntOp.addi (BitVec.ofNat 32 j.val) 32#32) (IntOp.subi (BitVec.ofNat 32 j.val) 32#32)) 64#32)
      (Scalar.select (IntOp.cmpi .slt (BitVec.ofNat 32 j.val) 32#32) (IntOp.addi (BitVec.ofNat 32 j.val) 32#32) (IntOp.subi (BitVec.ofNat 32 j.val) 32#32)) = BitVec.ofNat 32 (src j).val := by
  decide +kernel
theorem col_word : ∀ j : Fin 64, Scalar.select (IntOp.cmpi .slt (BitVec.ofNat 32 j.val) 0#32) (IntOp.addi (BitVec.ofNat 32 j.val) 64#32) (BitVec.ofNat 32 j.val) = BitVec.ofNat 32 j.val := by
  decide +kernel
theorem half_word : ∀ j : Fin 64, IntOp.cmpi .slt (BitVec.ofNat 32 j.val) 32#32 = if j.val < 32 then 1#1 else 0#1 := by
  decide +kernel

/-- Each sign's place. -/
theorem lands : ∀ k : Fin 64, scatter_S64x64_S64x2_S64_n_01_01_1.resultIdx? (ix1 k) idx = some (ix2 (src k) k) := by
  decide +kernel

/-- Signs written at those places over zeros: the transposed matrix of the adjoint. -/
theorem scattered (d : ScatterDims S64x64 S64x2 S64) (hd : ∀ k : Fin 64, d.resultIdx? (ix1 k) idx = some (ix2 (src k) k))
    (x0 : S64x64.Idx → EReal) (u : S64.Idx → EReal) (hx : ∀ i, x0 i = 0) (hu : ∀ k : S64.Idx, u k = ((if (k 0).val < 32 then (-1 : ℝ) else 1 : ℝ) : EReal))
    (r q : Fin 64) : Host.scatter d (fun _ b => b) x0 idx u (ix2 r q) = ((sgn q r : ℝ) : EReal) := by
  have hj : ∀ k : S64.Idx, d.resultIdx? k idx = some (ix2 r q : S64x64.Idx) → k 0 = q ∧ src q = r := by
    intro k hk
    have e : (ix2 (src (k 0)) (k 0) : S64x64.Idx) = ix2 r q :=
      Option.some.inj ((hd (k 0)).symm.trans ((congrArg (fun z => d.resultIdx? z idx) (ix1_eta k)).trans hk))
    have e1 : k 0 = q := congrFun e 1
    exact ⟨e1, e1 ▸ (congrFun e 0 : src (k 0) = r)⟩
  by_cases h : src q = r
  · refine (Idealize.ShloMosaic.Routing.scatter_set_hit _ _ _ _ _ ((if q.val < 32 then (-1 : ℝ) else 1 : ℝ) : EReal) (fun k hk => ?_) (ix1 q) ((hd q).trans (by rw [h]))).trans ?_
    · rw [hu k, (hj k hk).1]
    · have hv : (src q).val = r.val := congrArg Fin.val h
      unfold src at hv
      unfold sgn
      by_cases h32 : q.val < 32
      · simp only [dif_pos h32] at hv
        rw [if_pos h32, if_neg (by omega), if_pos (by omega)]
      · simp only [dif_neg h32] at hv
        rw [if_neg h32, if_pos (by omega)]
  · refine ((Idealize.ShloMosaic.Routing.scatter_set_miss _ _ _ _ _ fun k hk => h (hj k hk).2).trans (hx _)).trans ?_
    have hv : (src q).val ≠ r.val := fun e => h (Fin.ext e)
    unfold src at hv
    unfold sgn
    by_cases h32 : q.val < 32
    · simp only [dif_pos h32] at hv
      rw [if_neg (by omega), if_neg (by omega)]
      rfl
    · simp only [dif_neg h32] at hv
      rw [if_neg (by omega), if_neg (by omega)]
      rfl

/-- The signs. -/
theorem signs (k : Fin 64) : (Scalar.select (IntOp.cmpi .slt (BitVec.ofNat 32 k.val) 32#32) (Ideal.ofBits .f32 0xBF800000#32) (Ideal.ofBits .f32 0x3F800000#32) : EReal)
    = ((if k.val < 32 then (-1 : ℝ) else 1 : ℝ) : EReal) := by
  rw [half_word]
  split
  · exact lit_neg_one
  · exact lit_one

/-- The adjoint's matrix. -/
theorem v34 : V m c main_v34 = upb rot := by
  unfold V
  simp only [List.flatten_cons, List.flatten_nil, List.cons_append, List.nil_append, List.append_nil, hostOps0, hostOps0_1, hostOps0_2, hostOps0_3, hostOps0_4]
  after_reads_simp
  generalize hI : concatenate S64x2 1 _ _ = I
  have hI' : I = idx := by
    rw [← hI]
    funext i
    pointwise []
    after_reads_simp
    clean_types
    pointwise []
    show _ = if (i 1).val = 0 then BitVec.ofNat 32 (src (i 0)).val else BitVec.ofNat 32 (i 0).val
    by_cases h : (i 1).val = 0
    · rw [if_pos h, dif_pos (by omega)]
      exact row_word (i 0)
    · rw [if_neg h, dif_neg (by omega)]
      exact col_word (i 0)
  funext i
  clean_types
  pointwise []
  clear hI
  subst hI'
  exact scattered _ lands _ _ (fun _ => Ideal.ofBits_zero .f32) (fun k => signs (k 0)) (i 1) (i 0)

end Cert.MlaHost

end
-- ==== Proof.MlaValue.lean ====
/-
  What the projections' backward call's seven result arrays hold after the run, over the reals: each grid point's blocks are
  the tiles of 512 rows of the gradients of the whole arrays, and the two gains' gradients are sums over the four tiles.
-/
module

public import proofs.«01_k».proof.Proof.Blocks
public import proofs.«01_k».proof.Proof.MlaBlock
public import proofs.«01_k».proof.Proof.MlaHost

@[expose] public section

set_option maxRecDepth 16384
set_option backward.isDefEq.respectTransparency false

noncomputable section

namespace Cert.MlaValue

open MlaBwdIdeal MlaBwdIdeal.Gen Idealize.ShloMosaic TcCoe Idealize.SL.Sem
open Blocks Reals Norm Mla MlaKernel MlaBlock
open Idealize.ShloMosaic.Pipeline (Dat)

variable (m : (ℓ : Loc nD τ sig) → Buf (Elt Ideal) ℓ) (c : Dev nD)

/-- A grid point as a tile number. -/
abbrev pt (t : Fin cfg0.N) : Fin 4 := t.cast N_0

/-- The `t`-th tile of 512 rows of each head. -/
def tile3 {w : Nat} (X : A3 4 2048 w) (t : Fin 4) : A3 4 512 w := fun i => X (ix3 (i 0) (row t (i 1)) (i 2))

/-- The block indices: a tile of rows at each point, or the whole array. -/
theorem idx0 : Along 1 win0_0.index := by decide +kernel
theorem idx1 : Along 1 win0_1.index := by decide +kernel
theorem idx2 : Along 1 win0_2.index := by decide +kernel
theorem idx3 : Along 0 win0_3.index := by decide +kernel
theorem idx4 : Along 0 win0_4.index := by decide +kernel
theorem idx5 : Whole win0_5.index := by decide +kernel
theorem idx6 : Whole win0_6.index := by decide +kernel
theorem idx7 : Whole win0_7.index := by decide +kernel
theorem idx8 : Whole win0_8.index := by decide +kernel
theorem idx9 : Along 0 win0_9.index := by decide +kernel
theorem idx10 : Along 0 win0_10.index := by decide +kernel
theorem idx11 : Whole win0_11.index := by decide +kernel
theorem idx12 : Along 0 win0_12.index := by decide +kernel
theorem idx13 : Along 0 win0_13.index := by decide +kernel
theorem idx14 : Along 0 win0_14.index := by decide +kernel
theorem idx15 : Along 1 win0_15.index := by decide +kernel
theorem idx16 : Along 1 win0_16.index := by decide +kernel
theorem idx17 : Whole win0_17.index := by decide +kernel
theorem idx18 : Whole win0_18.index := by decide +kernel

/-- The points' blocks of the arguments. -/
theorem iblk0 (X : A3 4 2048 192) (hX : m ((c : Thread nD τ).loc main_arg0) = up X) (t : Fin cfg0.N) :
    (iblk m c 0 t : Vec Ideal S4x512x192 .f32) = up (tile3 X (pt t)) := funext fun j => (congrFun hX _).trans (congrArg (up X) (mid_at N_0 idx0 t _ j fun _ => rfl))
theorem iblk1 (X : A3 4 2048 192) (hX : m ((c : Thread nD τ).loc main_arg1) = up X) (t : Fin cfg0.N) :
    (iblk m c 1 t : Vec Ideal S4x512x192 .f32) = up (tile3 X (pt t)) := funext fun j => (congrFun hX _).trans (congrArg (up X) (mid_at N_0 idx1 t _ j fun _ => rfl))
theorem iblk2 (X : A3 4 2048 128) (hX : m ((c : Thread nD τ).loc main_arg2) = up X) (t : Fin cfg0.N) :
    (iblk m c 2 t : Vec Ideal S4x512x128 .f32) = up (tile3 X (pt t)) := funext fun j => (congrFun hX _).trans (congrArg (up X) (mid_at N_0 idx2 t _ j fun _ => rfl))
theorem iblk3 (X : A2 2048 384) (hX : m ((c : Thread nD τ).loc main_arg3) = up X) (t : Fin cfg0.N) :
    (iblk m c 3 t : Vec Ideal S512x384 .f32) = up (tile X (pt t)) := funext fun j => (congrFun hX _).trans (congrArg (up X) (rows_at N_0 idx3 t _ j fun _ => rfl))
theorem iblk4 (X : A2 2048 256) (hX : m ((c : Thread nD τ).loc main_arg4) = up X) (t : Fin cfg0.N) :
    (iblk m c 4 t : Vec Ideal S512x256 .f32) = up (tile X (pt t)) := funext fun j => (congrFun hX _).trans (congrArg (up X) (rows_at N_0 idx4 t _ j fun _ => rfl))
theorem iblk5 (X : A2 1 384) (hX : m ((c : Thread nD τ).loc main_arg5) = up X) (t : Fin cfg0.N) :
    (iblk m c 5 t : Vec Ideal S1x384 .f32) = up X := funext fun j => (congrFun hX _).trans (congrArg (up X) (whole_at idx5 t _ j fun _ => rfl))
theorem iblk6 (X : A2 1 256) (hX : m ((c : Thread nD τ).loc main_arg6) = up X) (t : Fin cfg0.N) :
    (iblk m c 6 t : Vec Ideal S1x256 .f32) = up X := funext fun j => (congrFun hX _).trans (congrArg (up X) (whole_at idx6 t _ j fun _ => rfl))
theorem iblk7 (X : A2 384 768) (hX : m ((c : Thread nD τ).loc main_arg7) = up X) (t : Fin cfg0.N) :
    (iblk m c 7 t : Vec Ideal S4x192x384 .bf16) = upb (wqT X) := funext fun j => (congrFun (MlaHost.v2 m c X hX) _).trans (congrArg (upb (wqT X)) (whole_at idx7 t _ j fun _ => rfl))
theorem iblk8 (X : A2 256 1024) (hX : m ((c : Thread nD τ).loc main_arg8) = up X) (t : Fin cfg0.N) :
    (iblk m c 8 t : Vec Ideal S4x256x256 .bf16) = upb (wkvT X) := funext fun j => (congrFun (MlaHost.v5 m c X hX) _).trans (congrArg (upb (wkvT X)) (whole_at idx8 t _ j fun _ => rfl))
theorem iblk9 (X : A2 2048 64) (hX : m ((c : Thread nD τ).loc main_arg9) = up X) (t : Fin cfg0.N) :
    (iblk m c 9 t : Vec Ideal S512x64 .f32) = up (tile X (pt t)) := funext fun j => (congrFun hX _).trans (congrArg (up X) (rows_at N_0 idx9 t _ j fun _ => rfl))
theorem iblk10 (X : A2 2048 64) (hX : m ((c : Thread nD τ).loc main_arg10) = up X) (t : Fin cfg0.N) :
    (iblk m c 10 t : Vec Ideal S512x64 .f32) = up (tile X (pt t)) := funext fun j => (congrFun hX _).trans (congrArg (up X) (rows_at N_0 idx10 t _ j fun _ => rfl))
theorem iblk11 (t : Fin cfg0.N) :
    (iblk m c 11 t : Vec Ideal S64x64 .bf16) = upb rot := funext fun j => (congrFun (MlaHost.v34 m c) _).trans (congrArg (upb rot) (whole_at idx11 t _ j fun _ => rfl))

variable (Q K : A3 4 2048 192) (Vv : A3 4 2048 128) (X : A2 2048 384) (Y : A2 2048 256) (g : A2 1 384) (g' : A2 1 256)
  (W : A2 384 768) (W' : A2 256 1024) (C S : A2 2048 64)

/-- The gains' gradients from the rows below a tile. -/
def dgTo (n : Nat) (j : (⟨2, ![1, 384]⟩ : Shape).Idx) : ℝ := ∑ t ∈ Finset.univ.filter (fun t : Fin 4 => t.val < n),
  dgain 384 (accq (tile3 Q t) (tile C t) (tile S t) W) (tile X t) j
def dgTo' (n : Nat) (j : (⟨2, ![1, 256]⟩ : Shape).Idx) : ℝ := ∑ t ∈ Finset.univ.filter (fun t : Fin 4 => t.val < n),
  dgain 256 (acckv (tile3 K t) (tile3 Vv t) W') (tile Y t) j

/-- The arguments are real arrays. -/
structure Args : Prop where
  h0 : m ((c : Thread nD τ).loc main_arg0) = up Q
  h1 : m ((c : Thread nD τ).loc main_arg1) = up K
  h2 : m ((c : Thread nD τ).loc main_arg2) = up Vv
  h3 : m ((c : Thread nD τ).loc main_arg3) = up X
  h4 : m ((c : Thread nD τ).loc main_arg4) = up Y
  h5 : m ((c : Thread nD τ).loc main_arg5) = up g
  h6 : m ((c : Thread nD τ).loc main_arg6) = up g'
  h7 : m ((c : Thread nD τ).loc main_arg7) = up W
  h8 : m ((c : Thread nD τ).loc main_arg8) = up W'
  h9 : m ((c : Thread nD τ).loc main_arg9) = up C
  h10 : m ((c : Thread nD τ).loc main_arg10) = up S

variable (H : Args m c Q K Vv X Y g g' W W' C S)

include H in
/-- What the seven staging buffers hold after a point. -/
theorem outs : ∀ (n : Nat) (h : n < cfg0.N), outsAt0 m c n h
    = (up (drms 384 (accq (tile3 Q (pt ⟨n, h⟩)) (tile C (pt ⟨n, h⟩)) (tile S (pt ⟨n, h⟩)) W) (tile X (pt ⟨n, h⟩)) g),
       up (drms 256 (acckv (tile3 K (pt ⟨n, h⟩)) (tile3 Vv (pt ⟨n, h⟩)) W') (tile Y (pt ⟨n, h⟩)) g'),
       up (dkr (tile3 K (pt ⟨n, h⟩)) (tile C (pt ⟨n, h⟩)) (tile S (pt ⟨n, h⟩))),
       upb (gq (tile3 Q (pt ⟨n, h⟩)) (tile C (pt ⟨n, h⟩)) (tile S (pt ⟨n, h⟩))),
       upb (gkv (tile3 K (pt ⟨n, h⟩)) (tile3 Vv (pt ⟨n, h⟩))),
       up (dgTo Q X W C S (n + 1)), up (dgTo' K Vv Y W' (n + 1))) := by
  intro n
  induction n with
  | zero =>
    intro h
    refine (outsAt0_A m c ⟨0, h⟩ rfl).trans ?_
    rw [iblk0 m c Q H.h0, iblk1 m c K H.h1, iblk2 m c Vv H.h2, iblk3 m c X H.h3, iblk4 m c Y H.h4, iblk5 m c g H.h5, iblk6 m c g' H.h6,
      iblk7 m c W H.h7, iblk8 m c W' H.h8, iblk9 m c C H.h9, iblk10 m c S H.h10, iblk11 m c,
      (out12 ..).1, (out13 ..).1, (out14 ..).1, (out15 ..).1, (out16 ..).1, (out17 ..).1, (out18 ..).1]
    refine Prod.ext rfl (Prod.ext rfl (Prod.ext rfl (Prod.ext rfl (Prod.ext rfl (Prod.ext ?_ ?_)))))
    · refine congrArg up (funext fun j => ?_)
      simp only [dgTo, sum_next (N := 4) _ 0 (by norm_num)]
      simp
    · refine congrArg up (funext fun j => ?_)
      simp only [dgTo', sum_next (N := 4) _ 0 (by norm_num)]
      simp
  | succ n ih =>
    intro h
    have hN : cfg0.N = 4 := N_0
    have hB : ¬(⟨n + 1, h⟩ : Fin cfg0.N).val % 4 = 0 := by dsimp only; omega
    refine (outsAt0_B m c ⟨n + 1, h⟩ hB).trans ?_
    have e : outsAt0 m c ((⟨n + 1, h⟩ : Fin cfg0.N).val - 1) (Nat.lt_of_le_of_lt (Nat.sub_le _ _) h) = _ :=
      ih (Nat.lt_of_succ_lt h)
    rw [e, iblk0 m c Q H.h0, iblk1 m c K H.h1, iblk2 m c Vv H.h2, iblk3 m c X H.h3, iblk4 m c Y H.h4, iblk5 m c g H.h5, iblk6 m c g' H.h6,
      iblk7 m c W H.h7, iblk8 m c W' H.h8, iblk9 m c C H.h9, iblk10 m c S H.h10, iblk11 m c,
      (out12 ..).2, (out13 ..).2, (out14 ..).2, (out15 ..).2, (out16 ..).2, (out17 ..).2, (out18 ..).2]
    refine Prod.ext rfl (Prod.ext rfl (Prod.ext rfl (Prod.ext rfl (Prod.ext rfl (Prod.ext ?_ ?_)))))
    · exact congrArg up (funext fun j => (sum_next (fun t => dgain 384 (accq (tile3 Q t) (tile C t) (tile S t) W) (tile X t) j) (n + 1) (by omega)).symm)
    · exact congrArg up (funext fun j => (sum_next (fun t => dgain 256 (acckv (tile3 K t) (tile3 Vv t) W') (tile Y t) j) (n + 1) (by omega)).symm)

include H in
/-- The gradient of the queries' latent rows after the run. -/
theorem final12 : (dats m 0 c).arrAt 12 cfg0.N = (up (drms 384 (accq Q C S W) X g) : Vec Ideal S2048x384 .f32) := by
  refine (dats m 0 c).arrAt_eq_of_cover 12 _ (fun t hf => ?_) fun i => ⟨blockOf N_0 (i 0), flush0_12 _, ?_⟩
  · rw [MlaBwdIdeal.Value.flushed12, outs m c Q K Vv X Y g g' W W' C S H]
    funext j; rw [View.read_apply]
    have e : ((cfg0.win 12).blk t).view.emb j = (ix2 (row (pt t) (j 0)) (j 1) : S2048x384.Idx) := rows_at N_0 idx12 t _ j fun _ => rfl
    rw [e]; rfl
  · exact in_block (along_has idx12 _ i rfl (by decide) (by decide))

include H in
/-- The gradient of the keys' and values' latent rows after the run. -/
theorem final13 : (dats m 0 c).arrAt 13 cfg0.N = (up (drms 256 (acckv K Vv W') Y g') : Vec Ideal S2048x256 .f32) := by
  refine (dats m 0 c).arrAt_eq_of_cover 13 _ (fun t hf => ?_) fun i => ⟨blockOf N_0 (i 0), flush0_13 _, ?_⟩
  · rw [MlaBwdIdeal.Value.flushed13, outs m c Q K Vv X Y g g' W W' C S H]
    funext j; rw [View.read_apply]
    have e : ((cfg0.win 13).blk t).view.emb j = (ix2 (row (pt t) (j 0)) (j 1) : S2048x256.Idx) := rows_at N_0 idx13 t _ j fun _ => rfl
    rw [e]; rfl
  · exact in_block (along_has idx13 _ i rfl (by decide) (by decide))

include H in
/-- The shared rotary key's gradient after the run. -/
theorem final14 : (dats m 0 c).arrAt 14 cfg0.N = (up (dkr K C S) : Vec Ideal S2048x64 .f32) := by
  refine (dats m 0 c).arrAt_eq_of_cover 14 _ (fun t hf => ?_) fun i => ⟨blockOf N_0 (i 0), flush0_14 _, ?_⟩
  · rw [MlaBwdIdeal.Value.flushed14, outs m c Q K Vv X Y g g' W W' C S H]
    funext j; rw [View.read_apply]
    have e : ((cfg0.win 14).blk t).view.emb j = (ix2 (row (pt t) (j 0)) (j 1) : S2048x64.Idx) := rows_at N_0 idx14 t _ j fun _ => rfl
    rw [e]; rfl
  · exact in_block (along_has idx14 _ i rfl (by decide) (by decide))

include H in
/-- The cotangent of the queries' projection after the run. -/
theorem final15 : (dats m 0 c).arrAt 15 cfg0.N = (upb (gq Q C S) : Vec Ideal S4x2048x192 .bf16) := by
  refine (dats m 0 c).arrAt_eq_of_cover 15 _ (fun t hf => ?_) fun i => ⟨blockOf N_0 (i 1), flush0_15 _, ?_⟩
  · rw [MlaBwdIdeal.Value.flushed15, outs m c Q K Vv X Y g g' W W' C S H]
    funext j; rw [View.read_apply]
    have e : ((cfg0.win 15).blk t).view.emb j = (ix3 (j 0) (row (pt t) (j 1)) (j 2) : S4x2048x192.Idx) := mid_at N_0 idx15 t _ j fun _ => rfl
    rw [e]; rfl
  · exact in_block (along_has idx15 _ i rfl (by decide) (by decide))

include H in
/-- The cotangent of the keys' and values' projection after the run. -/
theorem final16 : (dats m 0 c).arrAt 16 cfg0.N = (upb (gkv K Vv) : Vec Ideal S4x2048x256 .bf16) := by
  refine (dats m 0 c).arrAt_eq_of_cover 16 _ (fun t hf => ?_) fun i => ⟨blockOf N_0 (i 1), flush0_16 _, ?_⟩
  · rw [MlaBwdIdeal.Value.flushed16, outs m c Q K Vv X Y g g' W W' C S H]
    funext j; rw [View.read_apply]
    have e : ((cfg0.win 16).blk t).view.emb j = (ix3 (j 0) (row (pt t) (j 1)) (j 2) : S4x2048x256.Idx) := mid_at N_0 idx16 t _ j fun _ => rfl
    rw [e]; rfl
  · exact in_block (along_has idx16 _ i rfl (by decide) (by decide))

include H in
/-- The first gain's gradient after the run. -/
theorem final17 : (dats m 0 c).arrAt 17 cfg0.N = (up (dgain 384 (accq Q C S W) X) : Vec Ideal S1x384 .f32) := by
  refine (dats m 0 c).arrAt_eq_of_cover 17 _ (fun t hf => ?_) fun i => ⟨t0_3, (flush0_17 t0_3).mpr rfl, ?_⟩
  · have h3 : t.val % 4 = 3 := (flush0_17 t).mp hf
    have hN : cfg0.N = 4 := N_0
    have e : t.val = 3 := by have := lt_of_lt_of_eq t.isLt N_0; omega
    rw [MlaBwdIdeal.Value.flushed17, outs m c Q K Vv X Y g g' W W' C S H]
    funext j
    rw [View.read_apply]
    have ej : ((cfg0.win 17).blk t).view.emb j = (j : S1x384.Idx) := whole_at idx17 t _ j fun _ => rfl
    rw [ej]
    show ((dgTo Q X W C S (t.val + 1) j : ℝ) : EReal) = ((dgain 384 (accq Q C S W) X j : ℝ) : EReal)
    rw [e]
    refine congrArg (fun z : ℝ => (z : EReal)) ((sum_all _).trans ?_)
    exact sum_rows fun r => ((accq Q C S W)) (ix2 r (j 1)) * (X (ix2 r (j 1)) * rs 384 X r)
  · exact in_block (whole_has idx17 _ i)

include H in
/-- The second gain's gradient after the run. -/
theorem final18 : (dats m 0 c).arrAt 18 cfg0.N = (up (dgain 256 (acckv K Vv W') Y) : Vec Ideal S1x256 .f32) := by
  refine (dats m 0 c).arrAt_eq_of_cover 18 _ (fun t hf => ?_) fun i => ⟨t0_3, (flush0_18 t0_3).mpr rfl, ?_⟩
  · have h3 : t.val % 4 = 3 := (flush0_18 t).mp hf
    have hN : cfg0.N = 4 := N_0
    have e : t.val = 3 := by have := lt_of_lt_of_eq t.isLt N_0; omega
    rw [MlaBwdIdeal.Value.flushed18, outs m c Q K Vv X Y g g' W W' C S H]
    funext j
    rw [View.read_apply]
    have ej : ((cfg0.win 18).blk t).view.emb j = (j : S1x256.Idx) := whole_at idx18 t _ j fun _ => rfl
    rw [ej]
    show ((dgTo' K Vv Y W' (t.val + 1) j : ℝ) : EReal) = ((dgain 256 (acckv K Vv W') Y j : ℝ) : EReal)
    rw [e]
    refine congrArg (fun z : ℝ => (z : EReal)) ((sum_all _).trans ?_)
    exact sum_rows fun r => ((acckv K Vv W')) (ix2 r (j 1)) * (Y (ix2 r (j 1)) * rs 256 Y r)
  · exact in_block (whole_has idx18 _ i)

end Cert.MlaValue

end
-- ==== Proof.MlaRef.lean ====
/-
  What the reference of the multi-head projections' backward pass computes, over the reals: the host operations of the
  printed reference, stage by stage, on arguments that are arrays of real numbers.
-/
module

public import proofs.«01_k».proof.Proof.Mla
public import proofs.«01_k».proof.Proof.Gen.MlaBwdRefIdeal.Read

@[expose] public section

set_option maxRecDepth 16384
set_option backward.isDefEq.respectTransparency false

noncomputable section

namespace Cert.MlaRef

open Idealize.ShloMosaic Reals Norm Mla MlaBwdRefIdeal MlaBwdRefIdeal.Read

variable (Q K : A3 4 2048 192) (V : A3 4 2048 128) (X : A2 2048 384) (Y : A2 2048 256) (g : A2 1 384) (g' : A2 1 256)
  (W : A2 384 768) (W' : A2 256 1024) (C S : A2 2048 64)

theorem v6 : val_main_v6 (F := Ideal) (up X) = up fun i => ms 384 X (i 0) := by
  funext i
  pointwise [val_main_v6, val_main_v5, val_main_v4, val_main_v3, val_main_v2, val_main_v1, val_main_v0, val_main_cst,
    val_main_cst_0, val_main_cst_1, up, lit_384, lit_eps, mul_coe, coe_sum]
  rw [div_coe _ (by norm_num), add_coe]
  rfl

theorem v22 : val_main_v22 (F := Ideal) (up Y) = up fun i => ms 256 Y (i 0) := by
  funext i
  pointwise [val_main_v22, val_main_v21, val_main_v20, val_main_v19, val_main_v18, val_main_v17, val_main_v16, val_main_cst_3,
    val_main_cst_4, val_main_cst_5, up, lit_256, lit_eps, mul_coe, coe_sum]
  rw [div_coe _ (by norm_num), add_coe]
  rfl

theorem v7 : val_main_v7 (F := Ideal) (up X) = up fun i => rs 384 X (i 0) := by
  funext i
  pointwise [val_main_v7, v6, up]
  rw [rsqrt_coe (ms_pos (by norm_num) X _)]
  rfl

theorem v23 : val_main_v23 (F := Ideal) (up Y) = up fun i => rs 256 Y (i 0) := by
  funext i
  pointwise [val_main_v23, v22, up]
  rw [rsqrt_coe (ms_pos (by norm_num) Y _)]
  rfl

theorem v10 : val_main_v10 (F := Ideal) (up X) = up fun i => -(1 / 2) * (rs 384 X (i 0) / ms 384 X (i 0)) := by
  funext i
  pointwise [val_main_v10, val_main_v9, val_main_v8, val_main_cst_2, v6, v7, up, lit_neg_half]
  rw [div_coe _ (ms_pos (by norm_num) X _).ne', mul_coe]

theorem v26 : val_main_v26 (F := Ideal) (up Y) = up fun i => -(1 / 2) * (rs 256 Y (i 0) / ms 256 Y (i 0)) := by
  funext i
  pointwise [val_main_v26, val_main_v25, val_main_v24, val_main_cst_6, v22, v23, up, lit_neg_half]
  rw [div_coe _ (ms_pos (by norm_num) Y _).ne', mul_coe]

/-- The cotangent of the keys' and values' projection, by heads within a row. -/
theorem v71 : val_main_v71 (F := Ideal) (up K) (up V) = up fun i => gkvAt K V (i 1) (i 0) (i 2) := by
  funext i
  have h2 : (i 2).val < 256 := (i 2).isLt
  pointwise [val_main_v71, val_main_v70, val_main_v65, val_main_v64, val_main_v66, val_main_v68, val_main_cst_8, val_main_cst_9, up]
  by_cases hk : (i 2).val < 128
  · rw [dif_neg (by omega), dif_pos hk, zero_add]
    unfold gkvAt
    rw [dif_pos hk]; rfl
  · rw [dif_pos (by omega), dif_neg hk, add_zero]
    unfold gkvAt
    rw [dif_neg hk]; rfl

/-- The cotangent of the queries' projection, by heads within a row. -/
theorem v96 : val_main_v96 (F := Ideal) (up Q) (up C) (up S) = up fun i => gqAt Q C S (i 1) (i 0) (i 2) := by
  funext i
  have h2 : (i 2).val < 192 := (i 2).isLt
  pointwise [val_main_v96, val_main_v95, val_main_v94, val_main_v93, val_main_v92, val_main_v91, val_main_v90, val_main_v89,
    val_main_v88, val_main_v87, val_main_v86, val_main_v74, val_main_v73, val_main_v72, val_main_v67, val_main_v36, val_main_v35,
    val_main_cst_10, val_main_cst_13, up]
  by_cases hk : (i 2).val < 128
  · have hn : ¬(128 ≤ (i 2).val ∧ (i 2).val - 128 < 64) := by omega
    simp only [dif_pos hk, dif_neg hn, add_zero]
    exact congrArg _ (gqAt_nope Q C S (i 1) (i 0) (i 2) hk).symm
  · have hn : 128 ≤ (i 2).val ∧ (i 2).val - 128 < 64 := by omega
    simp only [dif_neg hk, dif_pos hn, zero_add]
    by_cases h : (i 2).val - 128 < 32
    · simp only [dif_pos h, mul_coe, add_coe]
      exact congrArg _ (gqAt_fst Q C S (i 1) (i 0) (i 2) hk h).symm
    · simp only [dif_neg h, mul_coe, neg_coe, add_coe]
      exact congrArg _ (gqAt_snd Q C S (i 1) (i 0) (i 2) hk h).symm

/-- THE SHARED ROTARY KEY'S GRADIENT. -/
theorem v84 : val_main_v84 (F := Ideal) (up K) (up C) (up S) = up (dkr K C S) := by
  funext i
  pointwise [val_main_v84, val_main_v83, val_main_v82, val_main_v81, val_main_v80, val_main_v79, val_main_v78, val_main_v77,
    val_main_v76, val_main_v75, val_main_v69, val_main_v66, val_main_cst_11, val_main_cst_12, up]
  simp only [Finset.univ_unique, Finset.sum_singleton, coe_sum, mul_coe, neg_coe]
  unfold dkr unrope turn
  by_cases h : (i 1).val < 32
  · rw [dif_pos h, dif_pos h, add_coe, add_comm]; rfl
  · rw [dif_neg h, dif_neg h, add_coe, add_comm]; rfl

/-- THE COTANGENT of the queries' projection. -/
theorem v140 : val_main_v140 (F := Ideal) (up Q) (up C) (up S) = upb (gq Q C S) := by
  funext i
  have h0 : (i 0).val < 4 := (i 0).isLt
  have h1 : (i 1).val < 2048 := (i 1).isLt
  have h2 : (i 2).val < 192 := (i 2).isLt
  pointwise [val_main_v140, val_main_v139, val_main_v138, val_main_v97, v96, up]
  rfl

/-- THE COTANGENT of the keys' and values' projection. -/
theorem v143 : val_main_v143 (F := Ideal) (up K) (up V) = upb (gkv K V) := by
  funext i
  have h0 : (i 0).val < 4 := (i 0).isLt
  have h1 : (i 1).val < 2048 := (i 1).isLt
  have h2 : (i 2).val < 256 := (i 2).isLt
  pointwise [val_main_v143, val_main_v142, val_main_v141, val_main_v85, v71, up]
  rfl

/-- The cotangent of the normalised rows that the keys' and values' projection reads. -/
theorem v98 : val_main_v98 (F := Ideal) (up K) (up V) (up W') = up (acckv K V W') := by
  funext i
  rw [val_main_v98_apply]
  simp only [val_main_v85_apply, v71, mul_coe, coe_sum]
  refine congrArg _ ((sum_colkv _).trans (Finset.sum_congr rfl fun h _ => Finset.sum_congr rfl fun k _ => ?_))
  have e1 : idx_main_v85 (lidx_main_v98 i (colkv h k)) = ix3 (i 0) h k := by
    have h0 : (i 0).val < 2048 := (i 0).isLt
    funext a; apply Fin.ext
    match a with
    | ⟨0, _⟩ => show ((i 0).val * 1024 + (256 * h.val + k.val)) / 1024 = (i 0).val; omega
    | ⟨1, _⟩ => show ((i 0).val * 1024 + (256 * h.val + k.val)) / 256 % 4 = h.val; omega
    | ⟨2, _⟩ => show ((i 0).val * 1024 + (256 * h.val + k.val)) % 256 = k.val; omega
  have e2 : ridx_main_v98 i (colkv h k) = ix2 (i 1) (colkv h k) := by
    funext a
    match a with
    | ⟨0, _⟩ => rfl
    | ⟨1, _⟩ => rfl
  rw [e1, e2]
  rfl

/-- The cotangent of the normalised rows that the queries' projection reads. -/
theorem v118 : val_main_v118 (F := Ideal) (up Q) (up W) (up C) (up S) = up (accq Q C S W) := by
  funext i
  rw [val_main_v118_apply]
  simp only [val_main_v97_apply, v96, mul_coe, coe_sum]
  refine congrArg _ ((sum_colq _).trans (Finset.sum_congr rfl fun h _ => Finset.sum_congr rfl fun k _ => ?_))
  have e1 : idx_main_v97 (lidx_main_v118 i (colq h k)) = ix3 (i 0) h k := by
    have h0 : (i 0).val < 2048 := (i 0).isLt
    funext a; apply Fin.ext
    match a with
    | ⟨0, _⟩ => show ((i 0).val * 768 + (192 * h.val + k.val)) / 768 = (i 0).val; omega
    | ⟨1, _⟩ => show ((i 0).val * 768 + (192 * h.val + k.val)) / 192 % 4 = h.val; omega
    | ⟨2, _⟩ => show ((i 0).val * 768 + (192 * h.val + k.val)) % 192 = k.val; omega
  have e2 : ridx_main_v118 i (colq h k) = ix2 (i 1) (colq h k) := by
    funext a
    match a with
    | ⟨0, _⟩ => rfl
    | ⟨1, _⟩ => rfl
  rw [e1, e2]
  rfl

/-- THE GRADIENT of the keys' and values' rows. -/
theorem v117 : val_main_v117 (F := Ideal) (up K) (up V) (up Y) (up g') (up W') = up (drms 256 (acckv K V W') Y g') := by
  funext i
  pointwise [val_main_v117, val_main_v116, val_main_v115, val_main_v114, val_main_v113, val_main_v112, val_main_v111,
    val_main_v110, val_main_v109, val_main_v108, val_main_v107, val_main_v106, val_main_v105, val_main_v104, val_main_v103,
    val_main_v102, val_main_cst_15, val_main_cst_16, val_main_cst_17, v98, v23, v26, up, lit_256, mul_coe, coe_sum, ix2_eta]
  rw [div_coe _ (by norm_num)]
  simp only [Finset.univ_unique, Finset.sum_singleton, mul_coe, add_coe]
  exact congrArg _ (drms_eq (by norm_num) (acckv K V W') Y g' i _ _ rfl rfl)

/-- THE GRADIENT of the queries' rows. -/
theorem v137 : val_main_v137 (F := Ideal) (up Q) (up X) (up g) (up W) (up C) (up S) = up (drms 384 (accq Q C S W) X g) := by
  funext i
  pointwise [val_main_v137, val_main_v136, val_main_v135, val_main_v134, val_main_v133, val_main_v132, val_main_v131,
    val_main_v130, val_main_v129, val_main_v128, val_main_v127, val_main_v126, val_main_v125, val_main_v124, val_main_v123,
    val_main_v122, val_main_cst_19, val_main_cst_20, val_main_cst_21, v118, v7, v10, up, lit_384, mul_coe, coe_sum, ix2_eta]
  rw [div_coe _ (by norm_num)]
  simp only [Finset.univ_unique, Finset.sum_singleton, mul_coe, add_coe]
  exact congrArg _ (drms_eq (by norm_num) (accq Q C S W) X g i _ _ rfl rfl)

/-- THE GRADIENT of the keys' and values' gain. -/
theorem v101 : val_main_v101 (F := Ideal) (up K) (up V) (up Y) (up W') = up (dgain 256 (acckv K V W') Y) := by
  funext i
  pointwise [val_main_v101, val_main_v100, val_main_v99, val_main_v28, val_main_v27, val_main_cst_14, v98, v23, up, mul_coe, coe_sum]
  exact congrArg _ (Finset.sum_congr rfl fun k _ => mul_comm _ _)

/-- THE GRADIENT of the queries' gain. -/
theorem v121 : val_main_v121 (F := Ideal) (up Q) (up X) (up W) (up C) (up S) = up (dgain 384 (accq Q C S W) X) := by
  funext i
  pointwise [val_main_v121, val_main_v120, val_main_v119, val_main_v12, val_main_v11, val_main_cst_18, v118, v7, up, mul_coe, coe_sum]
  exact congrArg _ (Finset.sum_congr rfl fun k _ => mul_comm _ _)

end Cert.MlaRef
end
-- ==== Proof.MlaClaims.lean ====
/-
  The claims about the projections' backward call: the reference's frame, and the equality of the results over the reals, for finite arguments.
-/
module

public import proofs.«01_k».proof.Defs
public import proofs.«01_k».proof.Proof.MlaValue
public import proofs.«01_k».proof.Proof.MlaRef
public import proofs.«01_k».proof.Proof.Gen.MlaBwd.Frame
public import proofs.«01_k».proof.Proof.Gen.Pre_finite_mla_qkv_bwd

@[expose] public section

noncomputable section

namespace Cert.MlaClaims

open Idealize.ShloMosaic TcCoe Idealize.SL.Sem Reals

/-- Arguments that meet the precondition are arrays of real numbers. -/
theorem reals
    (x0 : FVec Ideal Pre_finite_mla_qkv_bwd.S4x2048x192 .f32)
    (x1 : FVec Ideal Pre_finite_mla_qkv_bwd.S4x2048x192 .f32)
    (x2 : FVec Ideal Pre_finite_mla_qkv_bwd.S4x2048x128 .f32)
    (x3 : FVec Ideal Pre_finite_mla_qkv_bwd.S2048x384 .f32)
    (x4 : FVec Ideal Pre_finite_mla_qkv_bwd.S2048x256 .f32)
    (x5 : FVec Ideal Pre_finite_mla_qkv_bwd.S1x384 .f32)
    (x6 : FVec Ideal Pre_finite_mla_qkv_bwd.S1x256 .f32)
    (x7 : FVec Ideal Pre_finite_mla_qkv_bwd.S384x768 .f32)
    (x8 : FVec Ideal Pre_finite_mla_qkv_bwd.S256x1024 .f32)
    (x9 : FVec Ideal Pre_finite_mla_qkv_bwd.S2048x64 .f32)
    (x10 : FVec Ideal Pre_finite_mla_qkv_bwd.S2048x64 .f32)
    (h : Pre_finite_mla_qkv_bwd.fn (F := Ideal) x0 x1 x2 x3 x4 x5 x6 x7 x8 x9 x10 = fun _ => 1#1) :
    (∃ Q : Pre_finite_mla_qkv_bwd.S4x2048x192.Idx → ℝ, x0 = up Q)
      ∧ (∃ K : Pre_finite_mla_qkv_bwd.S4x2048x192.Idx → ℝ, x1 = up K)
      ∧ (∃ V : Pre_finite_mla_qkv_bwd.S4x2048x128.Idx → ℝ, x2 = up V)
      ∧ (∃ X : Pre_finite_mla_qkv_bwd.S2048x384.Idx → ℝ, x3 = up X)
      ∧ (∃ Y : Pre_finite_mla_qkv_bwd.S2048x256.Idx → ℝ, x4 = up Y)
      ∧ (∃ γ : Pre_finite_mla_qkv_bwd.S1x384.Idx → ℝ, x5 = up γ)
      ∧ (∃ γ' : Pre_finite_mla_qkv_bwd.S1x256.Idx → ℝ, x6 = up γ')
      ∧ (∃ W : Pre_finite_mla_qkv_bwd.S384x768.Idx → ℝ, x7 = up W)
      ∧ (∃ W' : Pre_finite_mla_qkv_bwd.S256x1024.Idx → ℝ, x8 = up W')
      ∧ (∃ C : Pre_finite_mla_qkv_bwd.S2048x64.Idx → ℝ, x9 = up C)
      ∧ (∃ S : Pre_finite_mla_qkv_bwd.S2048x64.Idx → ℝ, x10 = up S) := by
  have h0 := congrFun h ix0
  unfold Pre_finite_mla_qkv_bwd.fn Pre_finite_mla_qkv_bwd.fn_part1 Pre_finite_mla_qkv_bwd.fn_part2 Pre_finite_mla_qkv_bwd.fn_part3 at h0
  obtain ⟨h1, p10⟩ := IntOp.andi_eq_one.1 h0
  obtain ⟨h2, p9⟩ := IntOp.andi_eq_one.1 h1
  obtain ⟨h3, p8⟩ := IntOp.andi_eq_one.1 h2
  obtain ⟨h4, p7⟩ := IntOp.andi_eq_one.1 h3
  obtain ⟨h5, p6⟩ := IntOp.andi_eq_one.1 h4
  obtain ⟨h6, p5⟩ := IntOp.andi_eq_one.1 h5
  obtain ⟨h7, p4⟩ := IntOp.andi_eq_one.1 h6
  obtain ⟨h8, p3⟩ := IntOp.andi_eq_one.1 h7
  obtain ⟨h9, p2⟩ := IntOp.andi_eq_one.1 h8
  obtain ⟨p0, p1⟩ := IntOp.andi_eq_one.1 h9
  exact ⟨array_real (φ := .f32) _ _ (fun _ => lit_inf) _ _ _ _ p0,
    array_real (φ := .f32) _ _ (fun _ => lit_inf) _ _ _ _ p1,
    array_real (φ := .f32) _ _ (fun _ => lit_inf) _ _ _ _ p2,
    array_real (φ := .f32) _ _ (fun _ => lit_inf) _ _ _ _ p3,
    array_real (φ := .f32) _ _ (fun _ => lit_inf) _ _ _ _ p4,
    array_real (φ := .f32) _ _ (fun _ => lit_inf) _ _ _ _ p5,
    array_real (φ := .f32) _ _ (fun _ => lit_inf) _ _ _ _ p6,
    array_real (φ := .f32) _ _ (fun _ => lit_inf) _ _ _ _ p7,
    array_real (φ := .f32) _ _ (fun _ => lit_inf) _ _ _ _ p8,
    array_real (φ := .f32) _ _ (fun _ => lit_inf) _ _ _ _ p9,
    array_real (φ := .f32) _ _ (fun _ => lit_inf) _ _ _ _ p10⟩

/-- The reference runs and leaves its arguments. -/
theorem quiescent_ref : quiescent_MlaBwdRefIdeal := fun m g _ =>
  (θ_run MlaBwdRefIdeal.defs _ _).mono (fun r h => ⟨fun c => (h c).2.2.2.2.2.2.2,
    Idealize.ShloMosaic.sem_eq_zero_of_no_sems (by decide) r.2⟩) (MlaBwdRefIdeal.Value.run (F := Ideal) m g)

set_option maxHeartbeats 2000000 in
/-- The results are the reference's, for finite arguments. -/
theorem algebraic : algebraic_MlaBwdIdeal_MlaBwdRefIdeal_pre_finite_mla_qkv_bwd := by
  intro m g m' g' hpre hagree
  refine ⟨fun c => MlaBwdRefIdeal.Read.val_main_v137 (F := Ideal) (m ((c.tc : Thread MlaBwdIdeal.nD MlaBwdIdeal.τ).loc MlaBwdIdeal.main_arg0)) (m ((c.tc : Thread MlaBwdIdeal.nD MlaBwdIdeal.τ).loc MlaBwdIdeal.main_arg3)) (m ((c.tc : Thread MlaBwdIdeal.nD MlaBwdIdeal.τ).loc MlaBwdIdeal.main_arg5)) (m ((c.tc : Thread MlaBwdIdeal.nD MlaBwdIdeal.τ).loc MlaBwdIdeal.main_arg7)) (m ((c.tc : Thread MlaBwdIdeal.nD MlaBwdIdeal.τ).loc MlaBwdIdeal.main_arg9)) (m ((c.tc : Thread MlaBwdIdeal.nD MlaBwdIdeal.τ).loc MlaBwdIdeal.main_arg10)),
    fun c => MlaBwdRefIdeal.Read.val_main_v117 (F := Ideal) (m ((c.tc : Thread MlaBwdIdeal.nD MlaBwdIdeal.τ).loc MlaBwdIdeal.main_arg1)) (m ((c.tc : Thread MlaBwdIdeal.nD MlaBwdIdeal.τ).loc MlaBwdIdeal.main_arg2)) (m ((c.tc : Thread MlaBwdIdeal.nD MlaBwdIdeal.τ).loc MlaBwdIdeal.main_arg4)) (m ((c.tc : Thread MlaBwdIdeal.nD MlaBwdIdeal.τ).loc MlaBwdIdeal.main_arg6)) (m ((c.tc : Thread MlaBwdIdeal.nD MlaBwdIdeal.τ).loc MlaBwdIdeal.main_arg8)),
    fun c => MlaBwdRefIdeal.Read.val_main_v84 (F := Ideal) (m ((c.tc : Thread MlaBwdIdeal.nD MlaBwdIdeal.τ).loc MlaBwdIdeal.main_arg1)) (m ((c.tc : Thread MlaBwdIdeal.nD MlaBwdIdeal.τ).loc MlaBwdIdeal.main_arg9)) (m ((c.tc : Thread MlaBwdIdeal.nD MlaBwdIdeal.τ).loc MlaBwdIdeal.main_arg10)),
    fun c => MlaBwdRefIdeal.Read.val_main_v140 (F := Ideal) (m ((c.tc : Thread MlaBwdIdeal.nD MlaBwdIdeal.τ).loc MlaBwdIdeal.main_arg0)) (m ((c.tc : Thread MlaBwdIdeal.nD MlaBwdIdeal.τ).loc MlaBwdIdeal.main_arg9)) (m ((c.tc : Thread MlaBwdIdeal.nD MlaBwdIdeal.τ).loc MlaBwdIdeal.main_arg10)),
    fun c => MlaBwdRefIdeal.Read.val_main_v143 (F := Ideal) (m ((c.tc : Thread MlaBwdIdeal.nD MlaBwdIdeal.τ).loc MlaBwdIdeal.main_arg1)) (m ((c.tc : Thread MlaBwdIdeal.nD MlaBwdIdeal.τ).loc MlaBwdIdeal.main_arg2)),
    fun c => MlaBwdRefIdeal.Read.val_main_v121 (F := Ideal) (m ((c.tc : Thread MlaBwdIdeal.nD MlaBwdIdeal.τ).loc MlaBwdIdeal.main_arg0)) (m ((c.tc : Thread MlaBwdIdeal.nD MlaBwdIdeal.τ).loc MlaBwdIdeal.main_arg3)) (m ((c.tc : Thread MlaBwdIdeal.nD MlaBwdIdeal.τ).loc MlaBwdIdeal.main_arg7)) (m ((c.tc : Thread MlaBwdIdeal.nD MlaBwdIdeal.τ).loc MlaBwdIdeal.main_arg9)) (m ((c.tc : Thread MlaBwdIdeal.nD MlaBwdIdeal.τ).loc MlaBwdIdeal.main_arg10)),
    fun c => MlaBwdRefIdeal.Read.val_main_v101 (F := Ideal) (m ((c.tc : Thread MlaBwdIdeal.nD MlaBwdIdeal.τ).loc MlaBwdIdeal.main_arg1)) (m ((c.tc : Thread MlaBwdIdeal.nD MlaBwdIdeal.τ).loc MlaBwdIdeal.main_arg2)) (m ((c.tc : Thread MlaBwdIdeal.nD MlaBwdIdeal.τ).loc MlaBwdIdeal.main_arg4)) (m ((c.tc : Thread MlaBwdIdeal.nD MlaBwdIdeal.τ).loc MlaBwdIdeal.main_arg8)), ?_, ?_⟩
  · refine (θ_run MlaBwdIdeal.defs _ _).mono (fun r h c => ?_) (MlaBwdIdeal.Value.run_blocks m g)
    obtain ⟨e0, e1, e2, e3, e4, e5, e6, e7⟩ := h c
    obtain ⟨⟨Q, q0⟩, ⟨K, q1⟩, ⟨V, q2⟩, ⟨X, q3⟩, ⟨Y, q4⟩, ⟨γ, q5⟩, ⟨γ', q6⟩, ⟨W, q7⟩, ⟨W', q8⟩, ⟨C, q9⟩, ⟨S, q10⟩⟩ := reals _ _ _ _ _ _ _ _ _ _ _ (hpre c)
    have H : MlaValue.Args m c Q K V X Y γ γ' W W' C S := ⟨q0, q1, q2, q3, q4, q5, q6, q7, q8, q9, q10⟩
    refine ⟨e0.trans ?_, e1.trans ?_, e2.trans ?_, e3.trans ?_, e4.trans ?_, e5.trans ?_, e6.trans ?_, e7⟩
    · rw [MlaValue.final12 m c Q K V X Y γ γ' W W' C S H]
      beta_reduce
      rw [q0, q3, q5, q7, q9, q10]
      exact (MlaRef.v137 _ _ _ _ _ _).symm
    · rw [MlaValue.final13 m c Q K V X Y γ γ' W W' C S H]
      beta_reduce
      rw [q1, q2, q4, q6, q8]
      exact (MlaRef.v117 _ _ _ _ _).symm
    · rw [MlaValue.final14 m c Q K V X Y γ γ' W W' C S H]
      beta_reduce
      rw [q1, q9, q10]
      exact (MlaRef.v84 _ _ _).symm
    · rw [MlaValue.final15 m c Q K V X Y γ γ' W W' C S H]
      beta_reduce
      rw [q0, q9, q10]
      exact (MlaRef.v140 _ _ _).symm
    · rw [MlaValue.final16 m c Q K V X Y γ γ' W W' C S H]
      beta_reduce
      rw [q1, q2]
      exact (MlaRef.v143 _ _).symm
    · rw [MlaValue.final17 m c Q K V X Y γ γ' W W' C S H]
      beta_reduce
      rw [q0, q3, q7, q9, q10]
      exact (MlaRef.v121 _ _ _ _ _).symm
    · rw [MlaValue.final18 m c Q K V X Y γ γ' W W' C S H]
      beta_reduce
      rw [q1, q2, q4, q8]
      exact (MlaRef.v101 _ _ _ _).symm
  · refine (θ_run MlaBwdRefIdeal.defs _ _).mono (fun r h c => ?_) (MlaBwdRefIdeal.Value.run (F := Ideal) m' g')
    obtain ⟨e0, e1, e2, e3, e4, e5, e6, e7⟩ := h c
    obtain ⟨a0, a1, a2, a3, a4, a5, a6, a7, a8, a9, a10⟩ := hagree c
    refine ⟨e0.trans ?_, e1.trans ?_, e2.trans ?_, e3.trans ?_, e4.trans ?_, e5.trans ?_, e6.trans ?_, e7⟩
    · beta_reduce
      rw [← a0, ← a3, ← a5, ← a7, ← a9, ← a10]
      exact MlaBwdRefIdeal.Read.val_main_v137_eq _ _
    · beta_reduce
      rw [← a1, ← a2, ← a4, ← a6, ← a8]
      exact MlaBwdRefIdeal.Read.val_main_v117_eq _ _
    · beta_reduce
      rw [← a1, ← a9, ← a10]
      exact MlaBwdRefIdeal.Read.val_main_v84_eq _ _ _
    · beta_reduce
      rw [← a0, ← a9, ← a10]
      exact MlaBwdRefIdeal.Read.val_main_v140_eq _ _ _
    · beta_reduce
      rw [← a1, ← a2]
      exact MlaBwdRefIdeal.Read.val_main_v143_eq _ _
    · beta_reduce
      rw [← a0, ← a3, ← a7, ← a9, ← a10]
      exact MlaBwdRefIdeal.Read.val_main_v121_eq _ _ _ _ _
    · beta_reduce
      rw [← a1, ← a2, ← a4, ← a8]
      exact MlaBwdRefIdeal.Read.val_main_v101_eq _ _ _ _

end Cert.MlaClaims

end
-- ==== Proof.NormMod.lean ====
/-
  The gradients of a normalised, scaled and shifted row over the reals, on any number of rows: from the cotangent of the
  result, the cotangent of the normalised row, the sums that are the shift's and the scale's gradients, and the small array
  that the calls pack them in. With it the cotangent that the four parts of a wide row and one weight matrix give.
-/
module

public import proofs.«01_k».proof.Proof.Mla

@[expose] public section

noncomputable section

namespace Cert.NormMod

open Idealize.ShloMosaic Reals Norm Mla

variable {n : Nat}

/-- The cotangent of the normalised row: the result's, times one plus the scale. -/
def scaled {d : Nat} (Z : A2 n d) (s : A2 1 d) : A2 n d := fun i => Z i * (1 + s (ix2 0 (i 1)))
/-- The shift's gradient: the sum of the cotangent over the rows. -/
def dshift {d : Nat} (Z : A2 n d) : A2 1 d := fun i => ∑ r : Fin n, Z (ix2 r (i 1))
/-- The scale's gradient: the sum over the rows of the cotangent times the normalised row with its gain. -/
def dscale {d : Nat} (w : ℝ) (Z X : A2 n d) (g : A2 1 d) : A2 1 d :=
  fun i => ∑ r : Fin n, Z (ix2 r (i 1)) * (X (ix2 r (i 1)) * rs w X r * g (ix2 0 (i 1)))

/-- Four rows packed into eight, the others zero. -/
def pack (a b c d : A2 1 1024) : A2 8 1024 := fun i =>
  if (i 0).val = 0 then a (ix2 0 (i 1)) else if (i 0).val = 1 then b (ix2 0 (i 1)) else if (i 0).val = 2 then c (ix2 0 (i 1))
  else if (i 0).val = 3 then d (ix2 0 (i 1)) else 0

/-- The first row, or one of the next three, or a later one. -/
theorem rows8 (r : Fin 8) : r.val = 0 ∨ r.val = 1 ∨ r.val = 2 ∨ r.val = 3 ∨ 4 ≤ r.val := by omega
theorem at0 {d : Nat} (f : A2 1 d) (q : Fin 1) (k : Fin d) : f (ix2 q k) = f (ix2 0 k) := by rw [Subsingleton.elim q 0]
section Pack
variable (a b c d : A2 1 1024) (i : (⟨2, ![8, 1024]⟩ : Shape).Idx)
theorem pack_0 (h : (i 0).val = 0) : pack a b c d i = a (ix2 0 (i 1)) := if_pos h
theorem pack_1 (h : (i 0).val = 1) : pack a b c d i = b (ix2 0 (i 1)) := by
  unfold pack
  rw [if_neg (by omega), if_pos h]
theorem pack_2 (h : (i 0).val = 2) : pack a b c d i = c (ix2 0 (i 1)) := by
  unfold pack
  rw [if_neg (by omega), if_neg (by omega), if_pos h]
theorem pack_3 (h : (i 0).val = 3) : pack a b c d i = d (ix2 0 (i 1)) := by
  unfold pack
  rw [if_neg (by omega), if_neg (by omega), if_neg (by omega), if_pos h]
theorem pack_4 (h : 4 ≤ (i 0).val) : pack a b c d i = 0 := by
  unfold pack
  rw [if_neg (by omega), if_neg (by omega), if_neg (by omega), if_neg (by omega)]
/-- A sum of packed rows, row by row. -/
theorem pack_sum {ι : Type} (T : Finset ι) (a b c d : ι → A2 1 1024) :
    ∑ t ∈ T, pack (a t) (b t) (c t) (d t) i = pack (fun j => ∑ t ∈ T, a t j) (fun j => ∑ t ∈ T, b t j) (fun j => ∑ t ∈ T, c t j) (fun j => ∑ t ∈ T, d t j) i := by
  rcases rows8 (i 0) with h | h | h | h | h
  · rw [pack_0 _ _ _ _ _ h]; exact Finset.sum_congr rfl fun t _ => pack_0 _ _ _ _ _ h
  · rw [pack_1 _ _ _ _ _ h]; exact Finset.sum_congr rfl fun t _ => pack_1 _ _ _ _ _ h
  · rw [pack_2 _ _ _ _ _ h]; exact Finset.sum_congr rfl fun t _ => pack_2 _ _ _ _ _ h
  · rw [pack_3 _ _ _ _ _ h]; exact Finset.sum_congr rfl fun t _ => pack_3 _ _ _ _ _ h
  · rw [pack_4 _ _ _ _ _ h]; exact (Finset.sum_congr rfl fun t _ => pack_4 _ _ _ _ _ h).trans Finset.sum_const_zero
end Pack

/-- Row `r` and column `k` of the four parts side by side. -/
def zAt (U : A2 n 512) (P : A2 n 384) (K : A2 n 256) (R : A2 n 64) (r : Fin n) (k : Fin 1216) : ℝ :=
  if h : k.val < 512 then U (ix2 r ⟨k.val, h⟩) else if h' : k.val < 896 then P (ix2 r ⟨k.val - 512, by omega⟩)
  else if h'' : k.val < 1152 then K (ix2 r ⟨k.val - 896, by omega⟩) else R (ix2 r ⟨k.val - 1152, by omega⟩)
/-- The four parts side by side, transposed. -/
def zT (U : A2 n 512) (P : A2 n 384) (K : A2 n 256) (R : A2 n 64) : A2 1216 n := fun i => zAt U P K R (i 1) (i 0)
/-- The cotangent of the rows that the wide projection reads. -/
def dh (U : A2 n 512) (P : A2 n 384) (K : A2 n 256) (R : A2 n 64) (W : A2 1024 1216) : A2 n 1024 :=
  fun i => ∑ k : Fin 1216, zAt U P K R (i 0) k * W (ix2 (i 1) k)

theorem zAt_0 (U : A2 n 512) (P : A2 n 384) (K : A2 n 256) (R : A2 n 64) (r : Fin n) (k : Fin 512) (k' : Fin 1216) (e : k'.val = 0 + k.val) :
    U (ix2 r k) = zAt U P K R r k' := by
  have h : k'.val < 512 := by omega
  have f : k = ⟨k'.val, h⟩ := Fin.ext (by show k.val = k'.val; omega)
  unfold zAt
  rw [dif_pos h, f]
theorem zAt_1 (U : A2 n 512) (P : A2 n 384) (K : A2 n 256) (R : A2 n 64) (r : Fin n) (k : Fin 384) (k' : Fin 1216) (e : k'.val = 512 + k.val) :
    P (ix2 r k) = zAt U P K R r k' := by
  have h : ¬k'.val < 512 := by omega
  have h' : k'.val < 896 := by omega
  have f : k = ⟨k'.val - 512, by omega⟩ := Fin.ext (by show k.val = k'.val - 512; omega)
  unfold zAt
  rw [dif_neg h, dif_pos h', ← f]
theorem zAt_2 (U : A2 n 512) (P : A2 n 384) (K : A2 n 256) (R : A2 n 64) (r : Fin n) (k : Fin 256) (k' : Fin 1216) (e : k'.val = 896 + k.val) :
    K (ix2 r k) = zAt U P K R r k' := by
  have h : ¬k'.val < 512 := by omega
  have h' : ¬k'.val < 896 := by omega
  have h'' : k'.val < 1152 := by omega
  have f : k = ⟨k'.val - 896, by omega⟩ := Fin.ext (by show k.val = k'.val - 896; omega)
  unfold zAt
  rw [dif_neg h, dif_neg h', dif_pos h'', ← f]
theorem zAt_3 (U : A2 n 512) (P : A2 n 384) (K : A2 n 256) (R : A2 n 64) (r : Fin n) (k : Fin 64) (k' : Fin 1216) (e : k'.val = 1152 + k.val) :
    R (ix2 r k) = zAt U P K R r k' := by
  have h : ¬k'.val < 512 := by omega
  have h' : ¬k'.val < 896 := by omega
  have h'' : ¬k'.val < 1152 := by omega
  have f : k = ⟨k'.val - 1152, by omega⟩ := Fin.ext (by show k.val = k'.val - 1152; omega)
  unfold zAt
  rw [dif_neg h, dif_neg h', dif_neg h'', ← f]

/-- A sum over the wide row's columns, part by part. -/
theorem sum_wide (f : Fin 1216 → ℝ) : ∑ k : Fin 1216, f k
    = ((∑ k : Fin 512, f ⟨k.val, by omega⟩ + ∑ k : Fin 384, f ⟨512 + k.val, by omega⟩) + ∑ k : Fin 256, f ⟨896 + k.val, by omega⟩)
      + ∑ k : Fin 64, f ⟨1152 + k.val, by omega⟩ := by
  rw [Fin.sum_univ_add (M := ℝ) (a := 1152) (b := 64) f]
  rw [Fin.sum_univ_add (M := ℝ) (a := 896) (b := 256) fun k => f (Fin.castAdd 64 k)]
  rw [Fin.sum_univ_add (M := ℝ) (a := 512) (b := 384) fun k => f (Fin.castAdd 64 (Fin.castAdd 256 k))]
  rfl

/-- The cotangent of the rows that the wide projection reads, part by part. -/
theorem dh_parts (U : A2 n 512) (P : A2 n 384) (K : A2 n 256) (R : A2 n 64) (W : A2 1024 1216) (r : Fin n) (c : Fin 1024) :
    ((∑ k : Fin 512, U (ix2 r k) * W (ix2 c ⟨k.val, by omega⟩) + ∑ k : Fin 384, P (ix2 r k) * W (ix2 c ⟨512 + k.val, by omega⟩))
        + ∑ k : Fin 256, K (ix2 r k) * W (ix2 c ⟨896 + k.val, by omega⟩)) + ∑ k : Fin 64, R (ix2 r k) * W (ix2 c ⟨1152 + k.val, by omega⟩)
      = dh U P K R W (ix2 r c) := by
  refine Eq.trans ?_ (sum_wide fun k => zAt U P K R r k * W (ix2 c k)).symm
  refine congrArg₂ (· + ·) (congrArg₂ (· + ·) (congrArg₂ (· + ·) ?_ ?_) ?_) ?_
  · exact Finset.sum_congr rfl fun k _ => congrArg (· * _) (zAt_0 U P K R r k _ (Nat.zero_add _).symm)
  · exact Finset.sum_congr rfl fun k _ => congrArg (· * _) (zAt_1 U P K R r k _ rfl)
  · exact Finset.sum_congr rfl fun k _ => congrArg (· * _) (zAt_2 U P K R r k _ rfl)
  · exact Finset.sum_congr rfl fun k _ => congrArg (· * _) (zAt_3 U P K R r k _ rfl)

/-- The rows' gradient with another cotangent added first, in the form in which the derivative runs through the inverse root. -/
theorem drms_add {d : Nat} {w : ℝ} (hw : 0 < w) (Z X : A2 n d) (g : A2 1 d) (i : (⟨2, ![n, d]⟩ : Shape).Idx) (a D S : ℝ)
    (hD : D = Z i * g (ix2 0 (i 1))) (hS : S = ∑ k : Fin d, X (ix2 (i 0) k) * (Z (ix2 (i 0) k) * g (ix2 0 k))) :
    a + D * rs w X (i 0) + X i * (S * (-(1 / 2) * (rs w X (i 0) / ms w X (i 0))) / w)
      + S * (-(1 / 2) * (rs w X (i 0) / ms w X (i 0))) / w * X i = drms w Z X g i + a := by
  rw [← drms_eq hw Z X g i D S hD hS]
  ring

end Cert.NormMod
end
-- ==== Proof.MixKernel.lean ====
/-
  What one block of 512 rows of the wide projection's backward kernel computes, over the reals: the values that the kernel's
  body forms from its blocks, one lemma for each of its steps.
-/
module

public import proofs.«01_k».proof.Proof.NormMod
public import proofs.«01_k».proof.Proof.Gen.MixInBwdIdeal.Skeleton

@[expose] public section

set_option maxRecDepth 16384
set_option backward.isDefEq.respectTransparency false

noncomputable section

namespace Cert.MixKernel

open MixInBwdIdeal MixInBwdIdeal.Gen Idealize.ShloMosaic Reals Norm Mla NormMod

/-- The weights transposed. -/
def wT (W : A2 1024 1216) : A2 1216 1024 := fun i => W (ix2 (i 1) (i 0))
/-- Rows `o`, `o + 1`, … of the transposed weights. -/
def rowsT (W : A2 1024 1216) (o m : Nat) (h : o + m ≤ 1216) : A2 m 1024 := fun i => W (ix2 (i 1) ⟨o + (i 0).val, by have : (i 0).val < m := (i 0).isLt; omega⟩)

variable (D : A2 512 1024) (U : A2 512 512) (P : A2 512 384) (K : A2 512 256) (R : A2 512 64) (X : A2 512 1024)
  (g s : A2 1 1024) (W : A2 1024 1216)

/-- The zero block. -/
theorem pay5 : k0_pay5 (F := Ideal) = up fun _ => 0 := by
  funext i
  unfold k0_pay5
  pointwise [up]
  rfl
/-- The four parts transposed. -/
theorem pay10 : k0_pay10 (up U) = upb (fun i => U (ix2 (i 1) (i 0))) := by
  funext i
  unfold k0_pay10 k0_pay6
  pointwise [up, upb]
theorem pay11 : k0_pay11 (up P) = upb (fun i => P (ix2 (i 1) (i 0))) := by
  funext i
  unfold k0_pay11 k0_pay7
  pointwise [up, upb]
theorem pay12 : k0_pay12 (up K) = upb (fun i => K (ix2 (i 1) (i 0))) := by
  funext i
  unfold k0_pay12 k0_pay8
  pointwise [up, upb]
theorem pay13 : k0_pay13 (up R) = upb (fun i => R (ix2 (i 1) (i 0))) := by
  funext i
  unfold k0_pay13 k0_pay9
  pointwise [up, upb]

/-- The first two parts' products. -/
theorem pay14 : k0_pay14 (up U) (up P) (upb (rowsT W 0 512 (by omega))) (upb (rowsT W 512 384 (by omega)))
    = up fun i => ∑ k : Fin 512, U (ix2 (i 0) k) * W (ix2 (i 1) ⟨k.val, by omega⟩) + ∑ k : Fin 384, P (ix2 (i 0) k) * W (ix2 (i 1) ⟨512 + k.val, by omega⟩) := by
  funext i
  unfold k0_pay14 k0_pay6 k0_pay7
  pointwise [up, upb, mul_coe, coe_sum, add_coe]
  simp only [rowsT, Nat.zero_add]
  rfl
/-- The cotangent of the rows that the projection reads. -/
theorem pay16 : k0_pay16 (k0_pay8 (up K)) (k0_pay9 (up R))
      (k0_pay14 (up U) (up P) (upb (rowsT W 0 512 (by omega))) (upb (rowsT W 512 384 (by omega))))
      (k0_pay15 (upb (rowsT W 896 256 (by omega)))) (upb (rowsT W 1152 64 (by omega)))
    = up (dh U P K R W) := by
  rw [pay14]
  funext i
  unfold k0_pay16 k0_pay15 k0_pay8 k0_pay9
  pointwise [up, upb, mul_coe, coe_sum, add_coe]
  exact congrArg _ (dh_parts U P K R W (i 0) (i 1))

theorem pay19 : k0_pay19 (up X) = up fun i => rs 1024 X (i 0) := by
  funext i
  unfold k0_pay19
  pointwise [up, lit_1024, lit_eps, coe_sum, mul_coe]
  rw [div_coe _ (by norm_num), add_coe]
  exact rsqrt_coe (ms_pos (by norm_num) X _)
theorem pay20 : k0_pay20 (up X) = up fun i => X i * rs 1024 X (i 0) := by
  funext i
  unfold k0_pay20
  pointwise [pay19, up, mul_coe]
theorem pay17 : k0_pay17 (up X) = up fun i => X i * rs 1024 X (i 0) := pay20 X

/-- The cotangent of the normalised row. -/
theorem pay18 : k0_pay18 (k0_pay8 (up K)) (k0_pay9 (up R))
      (k0_pay14 (up U) (up P) (upb (rowsT W 0 512 (by omega))) (upb (rowsT W 512 384 (by omega))))
      (k0_pay15 (upb (rowsT W 896 256 (by omega)))) (upb (rowsT W 1152 64 (by omega))) (up s)
    = up (scaled (dh U P K R W) s) := by
  unfold k0_pay18
  rw [pay16]
  funext i
  pointwise [up, lit_one, add_coe, mul_coe]
  rfl
theorem pay21 : k0_pay21 (k0_pay8 (up K)) (k0_pay9 (up R))
      (k0_pay14 (up U) (up P) (upb (rowsT W 0 512 (by omega))) (upb (rowsT W 512 384 (by omega))))
      (k0_pay15 (upb (rowsT W 896 256 (by omega)))) (upb (rowsT W 1152 64 (by omega))) (up g) (up s)
    = up fun i => scaled (dh U P K R W) s i * g (ix2 0 (i 1)) := by
  unfold k0_pay21
  rw [pay18]
  funext i
  pointwise [up, mul_coe]
/-- The row's mean of that cotangent, its gain and the normalised row. -/
theorem pay22 : k0_pay22 (k0_pay8 (up K)) (k0_pay9 (up R))
      (k0_pay14 (up U) (up P) (upb (rowsT W 0 512 (by omega))) (upb (rowsT W 512 384 (by omega))))
      (k0_pay15 (upb (rowsT W 896 256 (by omega)))) (upb (rowsT W 1152 64 (by omega))) (up X) (up g) (up s)
    = up fun i => (∑ k : Fin 1024, scaled (dh U P K R W) s (ix2 (i 0) k) * g (ix2 0 k) * (X (ix2 (i 0) k) * rs 1024 X (i 0))) / 1024 := by
  unfold k0_pay22
  rw [pay21, pay20]
  funext i
  pointwise [up, lit_1024, mul_coe, coe_sum]
  rw [div_coe _ (by norm_num)]

/-- THE BLOCK OF THE ROWS' GRADIENT. -/
theorem pay1 (Z : A2 512 1024) : k0_pay1 (up fun i => rs 1024 X (i 0)) (up fun i => X i * rs 1024 X (i 0))
      (up fun i => Z i * g (ix2 0 (i 1))) (up fun i => (∑ k : Fin 1024, Z (ix2 (i 0) k) * g (ix2 0 k) * (X (ix2 (i 0) k) * rs 1024 X (i 0))) / 1024) (up D)
    = up fun i => drms 1024 Z X g i + D i := by
  funext i
  unfold k0_pay1
  pointwise [up, mul_coe, sub_coe, add_coe, ix2_eta]
  rfl

/-- The block's part of the three gradients, added to what was there. -/
theorem pay2 (Z : A2 512 1024) (A : A2 1 1024) : k0_pay2 (up Z) (up A) = up fun i => A i + dshift Z i := by
  funext i
  unfold k0_pay2
  pointwise [up, coe_sum, add_coe]
  rfl
theorem pay3 (Z : A2 512 1024) (A : A2 1 1024) : k0_pay3 (up Z) (up g) (up fun i => X i * rs 1024 X (i 0)) (up A)
    = up fun i => A i + dscale 1024 Z X g i := by
  funext i
  unfold k0_pay3
  pointwise [up, mul_coe, coe_sum, add_coe]
  rfl
theorem pay4 (Z : A2 512 1024) (A : A2 1 1024) : k0_pay4 (up Z) (up fun i => X i * rs 1024 X (i 0)) (up A)
    = up fun i => A i + dgain 1024 Z X i := by
  funext i
  unfold k0_pay4
  pointwise [up, mul_coe, coe_sum, add_coe]
  rfl

end Cert.MixKernel
end
-- ==== Proof.Pieces.lean ====
/-
  Loads and stores of a rectangle of an array of real numbers: what a load reads, and that a stored rectangle is the
  whole's.
-/
module

public import proofs.«01_k».proof.Proof.Mla
public import Idealize.ShloMosaic.Lib.Pipeline.ValueKit.Tiles
public import Idealize.ShloMosaic.Lib.Pipeline.ReadBack

@[expose] public section

set_option maxRecDepth 16384
set_option backward.isDefEq.respectTransparency false

noncomputable section

namespace Cert.Pieces

open Idealize.ShloMosaic TcCoe Idealize.SL.Sem Reals Mla

/-- Columns `o`, `o + 1`, … of a matrix. -/
def colsOf {n w : Nat} (X : A2 n w) (o k : Nat) (h : o + k ≤ w) : A2 n k := fun i =>
  X (ix2 (i 0) ⟨o + (i 1).val, by have : (i 1).val < k := (i 1).isLt; omega⟩)
/-- One of a stack of matrices. -/
def oneOf {a n w : Nat} (X : A3 a n w) (h : Fin a) : A3 1 n w := fun i => X (ix3 h (i 1) (i 2))

/-- A load of columns. -/
theorem ld_cols {n w : Nat} (X : A2 n w) (o k : Nat) (h : o + k ≤ w) (inb) :
    View.ld (Val := Elt Ideal) (e' := .f32) (up X) (Rect.unit (s := (⟨2, ![n, w]⟩ : Shape)) ![0, o] ![n, k] inb) = up (colsOf X o k h) := by
  funext i
  have hk : (i 1).val < k := (i 1).isLt
  refine View.ld_unit_apply_of (Val := Elt Ideal) (e := .f32) (up X) _ _ inb i (ix2 (i 0) ⟨o + (i 1).val, by omega⟩) fun a => ?_
  match a with
  | ⟨0, _⟩ => exact (Nat.zero_add _).symm
  | ⟨1, _⟩ => rfl
theorem ld_colsb {n w : Nat} (X : A2 n w) (o k : Nat) (h : o + k ≤ w) (inb) :
    View.ld (Val := Elt Ideal) (e' := .bf16) (upb X) (Rect.unit (s := (⟨2, ![n, w]⟩ : Shape)) ![0, o] ![n, k] inb) = upb (colsOf X o k h) := by
  funext i
  have hk : (i 1).val < k := (i 1).isLt
  refine View.ld_unit_apply_of (Val := Elt Ideal) (e := .bf16) (upb X) _ _ inb i (ix2 (i 0) ⟨o + (i 1).val, by omega⟩) fun a => ?_
  match a with
  | ⟨0, _⟩ => exact (Nat.zero_add _).symm
  | ⟨1, _⟩ => rfl

/-- A load of one of a stack. -/
theorem ld_one {p n w : Nat} (X : A3 p n w) (h : Fin p) (o : Nat) (ho : o = h.val) (inb) :
    View.ld (Val := Elt Ideal) (e' := .f32) (up X) (Rect.unit (s := (⟨3, ![p, n, w]⟩ : Shape)) ![o, 0, 0] ![1, n, w] inb) = up (oneOf X h) := by
  subst ho
  funext i
  refine View.ld_unit_apply_of (Val := Elt Ideal) (e := .f32) (up X) _ _ inb i (ix3 h (i 1) (i 2)) fun a => ?_
  match a with
  | ⟨0, _⟩ => exact ((Nat.lt_one_iff.1 (i 0).isLt).symm ▸ rfl)
  | ⟨1, _⟩ => exact (Nat.zero_add _).symm
  | ⟨2, _⟩ => exact (Nat.zero_add _).symm
theorem ld_oneb {p n w : Nat} (X : A3 p n w) (h : Fin p) (o : Nat) (ho : o = h.val) (inb) :
    View.ld (Val := Elt Ideal) (e' := .bf16) (upb X) (Rect.unit (s := (⟨3, ![p, n, w]⟩ : Shape)) ![o, 0, 0] ![1, n, w] inb) = upb (oneOf X h) := ld_one X h o ho inb

/-- The loads of four matrices, one after another. -/
theorem ld_fourb {n w : Nat} (X : A3 4 n w) :
    (∀ inb, View.ld (Val := Elt Ideal) (e' := .bf16) (upb X) (Rect.unit (s := (⟨3, ![4, n, w]⟩ : Shape)) ![0, 0, 0] ![1, n, w] inb) = upb (oneOf X 0))
    ∧ (∀ inb, View.ld (Val := Elt Ideal) (e' := .bf16) (upb X) (Rect.unit (s := (⟨3, ![4, n, w]⟩ : Shape)) ![1, 0, 0] ![1, n, w] inb) = upb (oneOf X 1))
    ∧ (∀ inb, View.ld (Val := Elt Ideal) (e' := .bf16) (upb X) (Rect.unit (s := (⟨3, ![4, n, w]⟩ : Shape)) ![2, 0, 0] ![1, n, w] inb) = upb (oneOf X 2))
    ∧ ∀ inb, View.ld (Val := Elt Ideal) (e' := .bf16) (upb X) (Rect.unit (s := (⟨3, ![4, n, w]⟩ : Shape)) ![3, 0, 0] ![1, n, w] inb) = upb (oneOf X 3) :=
  ⟨ld_oneb X 0 _ rfl, ld_oneb X 1 _ rfl, ld_oneb X 2 _ rfl, ld_oneb X 3 _ rfl⟩

/-- A stored rectangle of columns is the whole's, if its entries are. -/
theorem piece_cols {n w k : Nat} (Z : A2 n w) (A : A2 n k) (o : Nat)
    (inb : ∀ b : Fin 2, (![0, o] : Fin 2 → Nat) b + (![n, k] : Fin 2 → Nat) b ≤ (![n, w] : Fin 2 → Nat) b)
    (hZ : ∀ (r : Fin n) (q : Fin k) (q' : Fin w), q'.val = o + q.val → A (ix2 r q) = Z (ix2 r q'))
    (x : (Rect.unit (s := (⟨2, ![n, w]⟩ : Shape)) ![0, o] ![n, k] inb).shape.Idx) :
    ((A x : ℝ) : EReal) = ((Z ((Rect.unit (s := (⟨2, ![n, w]⟩ : Shape)) ![0, o] ![n, k] inb).emb x) : ℝ) : EReal) := by
  have e : (Rect.unit (s := (⟨2, ![n, w]⟩ : Shape)) ![0, o] ![n, k] inb).emb x
      = ix2 (x 0) ⟨o + (x 1).val, lt_of_lt_of_le (Nat.add_lt_add_left (x 1).isLt o) (inb 1)⟩ := by
    funext b; apply Fin.ext
    match b with
    | ⟨0, _⟩ => exact (Nat.zero_add _).trans (Nat.one_mul _)
    | ⟨1, _⟩ => exact congrArg (o + ·) (Nat.one_mul _)
  rw [e]
  have ex : x = ix2 (x 0) (x 1) := (ix2_eta x).symm
  rw [ex]
  exact congrArg (fun z : ℝ => (z : EReal)) (hZ (x 0) (x 1) _ rfl)

/-- A stored one of a stack is the whole's, if its entries are. -/
theorem piece_one {p n w : Nat} (Z : A3 p n w) (A : A3 1 n w) (h : Fin p) (o : Nat) (ho : o = h.val)
    (inb : ∀ b : Fin 3, (![o, 0, 0] : Fin 3 → Nat) b + (![1, n, w] : Fin 3 → Nat) b ≤ (![p, n, w] : Fin 3 → Nat) b)
    (hZ : ∀ (r : Fin n) (q : Fin w), A (ix3 0 r q) = Z (ix3 h r q))
    (x : (Rect.unit (s := (⟨3, ![p, n, w]⟩ : Shape)) ![o, 0, 0] ![1, n, w] inb).shape.Idx) :
    ((A x : ℝ) : EReal) = ((Z ((Rect.unit (s := (⟨3, ![p, n, w]⟩ : Shape)) ![o, 0, 0] ![1, n, w] inb).emb x) : ℝ) : EReal) := by
  subst ho
  have h0 : (x 0).val = 0 := Nat.lt_one_iff.1 (x 0).isLt
  have e : (Rect.unit (s := (⟨3, ![p, n, w]⟩ : Shape)) ![h.val, 0, 0] ![1, n, w] inb).emb x = ix3 h (x 1) (x 2) := by
    funext b; apply Fin.ext
    match b with
    | ⟨0, _⟩ => show h.val + 1 * (x 0).val = h.val; omega
    | ⟨1, _⟩ => exact (Nat.zero_add _).trans (Nat.one_mul _)
    | ⟨2, _⟩ => exact (Nat.zero_add _).trans (Nat.one_mul _)
  rw [e]
  have ex : x = ix3 0 (x 1) (x 2) := by
    refine (ix3_eta x).symm.trans ?_
    rw [show x 0 = (0 : Fin 1) from Fin.ext h0]
  rw [ex]
  exact congrArg (fun z : ℝ => (z : EReal)) (hZ (x 1) (x 2))

end Cert.Pieces

end
-- ==== Proof.RowSums.lean ====
/-
  Four rows of sums in an array of eight rows: each is read, added to and stored, over zeros or over what was there.
-/
module

public import proofs.«01_k».proof.Proof.Pieces
public import proofs.«01_k».proof.Proof.NormMod
public import Idealize.ShloMosaic.Lib.WritesUnit

@[expose] public section

set_option maxRecDepth 16384
set_option backward.isDefEq.respectTransparency false

noncomputable section

namespace Cert.RowSums

open Idealize.ShloMosaic TcCoe Idealize.SL.Sem Reals Mla NormMod Pieces

/-- The array's shape, and a row's. -/
abbrev S8 : Shape := ⟨2, ![8, 1024]⟩
abbrev S1 : Shape := ⟨2, ![1, 1024]⟩

variable {σ : RefSig}

/-- A load of one row of eight. -/
theorem ld_row (D : A2 8 1024) (o : Fin 8) (a : Nat) (ha : a = o.val) (inb) :
    View.ld (Val := Elt Ideal) (e' := .f32) (up D) (Rect.unit (s := S8) ![a, 0] ![1, 1024] inb) = up fun i => D (ix2 o (i 1)) := by
  subst ha
  funext i
  refine View.ld_unit_apply_of (Val := Elt Ideal) (e := .f32) (up D) _ _ inb i (ix2 o (i 1)) fun a => ?_
  match a with
  | ⟨0, _⟩ => exact ((Nat.lt_one_iff.1 (i 0).isLt).symm ▸ rfl)
  | ⟨1, _⟩ => exact (Nat.zero_add _).symm

/-- Four rows of sums stored over what was there. -/
theorem acc (v : View σ .tc .vmem S8 .f32) (f : v.ty.Contents (Elt Ideal)) (L : List (View.Piece (Elt Ideal) S8 .f32)) (E : A2 8 1024)
    (hE : v.read (Elt Ideal) (v.writes (Elt Ideal) f L) = up E) (a b e d : A2 1 1024) (inb0 : ∀ b : Fin 2, (![0, 0] : Fin 2 → Nat) b + (![1, 1024] : Fin 2 → Nat) b ≤ (![8, 1024] : Fin 2 → Nat) b)
    (inb1 : ∀ b : Fin 2, (![1, 0] : Fin 2 → Nat) b + (![1, 1024] : Fin 2 → Nat) b ≤ (![8, 1024] : Fin 2 → Nat) b)
    (inb2 : ∀ b : Fin 2, (![2, 0] : Fin 2 → Nat) b + (![1, 1024] : Fin 2 → Nat) b ≤ (![8, 1024] : Fin 2 → Nat) b)
    (inb3 : ∀ b : Fin 2, (![3, 0] : Fin 2 → Nat) b + (![1, 1024] : Fin 2 → Nat) b ≤ (![8, 1024] : Fin 2 → Nat) b) (y : S8.Idx) :
    v.read (Elt Ideal) (v.writes (Elt Ideal) f
      ((⟨Rect.unit (s := S8) ![3, 0] ![1, 1024] inb3, up fun j => E (ix2 3 (j 1)) + d j⟩ : View.Piece (Elt Ideal) S8 .f32)
        :: ⟨Rect.unit (s := S8) ![2, 0] ![1, 1024] inb2, up fun j => E (ix2 2 (j 1)) + e j⟩
        :: ⟨Rect.unit (s := S8) ![1, 0] ![1, 1024] inb1, up fun j => E (ix2 1 (j 1)) + b j⟩
        :: ⟨Rect.unit (s := S8) ![0, 0] ![1, 1024] inb0, up fun j => E (ix2 0 (j 1)) + a j⟩ :: L)) y
      = up (fun j => E j + pack a b e d j) y := by
  have h8 : (y 0).val < 8 := (y 0).isLt
  have ey : ∀ k : Fin 8, (y 0).val = k.val → ix2 k (y 1) = y := fun k h => by
    have : k = y 0 := Fin.ext h.symm
    rw [this]; exact ix2_eta y
  rcases rows8 (y 0) with h | h | h | h | h
  · rw [View.read_writes_cons_rows_of_not_mem v f (o := 3) (W := 1) inb3 _ _ y rfl rfl (by omega),
      View.read_writes_cons_rows_of_not_mem v f (o := 2) (W := 1) inb2 _ _ y rfl rfl (by omega),
      View.read_writes_cons_rows_of_not_mem v f (o := 1) (W := 1) inb1 _ _ y rfl rfl (by omega),
      View.read_writes_cons_rows_of_mem v f (o := 0) inb0 _ _ y (ix2 0 (y 1)) rfl h rfl]
    show ((E (ix2 0 (y 1)) + a (ix2 0 (y 1)) : ℝ) : EReal) = ((E y + pack a b e d y : ℝ) : EReal)
    rw [pack_0 _ _ _ _ _ h, ey 0 h]
  · rw [View.read_writes_cons_rows_of_not_mem v f (o := 3) (W := 1) inb3 _ _ y rfl rfl (by omega),
      View.read_writes_cons_rows_of_not_mem v f (o := 2) (W := 1) inb2 _ _ y rfl rfl (by omega),
      View.read_writes_cons_rows_of_mem v f (o := 1) inb1 _ _ y (ix2 0 (y 1)) rfl h rfl]
    show ((E (ix2 1 (y 1)) + b (ix2 0 (y 1)) : ℝ) : EReal) = ((E y + pack a b e d y : ℝ) : EReal)
    rw [pack_1 _ _ _ _ _ h, ey 1 h]
  · rw [View.read_writes_cons_rows_of_not_mem v f (o := 3) (W := 1) inb3 _ _ y rfl rfl (by omega),
      View.read_writes_cons_rows_of_mem v f (o := 2) inb2 _ _ y (ix2 0 (y 1)) rfl h rfl]
    show ((E (ix2 2 (y 1)) + e (ix2 0 (y 1)) : ℝ) : EReal) = ((E y + pack a b e d y : ℝ) : EReal)
    rw [pack_2 _ _ _ _ _ h, ey 2 h]
  · rw [View.read_writes_cons_rows_of_mem v f (o := 3) inb3 _ _ y (ix2 0 (y 1)) rfl h rfl]
    show ((E (ix2 3 (y 1)) + d (ix2 0 (y 1)) : ℝ) : EReal) = ((E y + pack a b e d y : ℝ) : EReal)
    rw [pack_3 _ _ _ _ _ h, ey 3 h]
  · rw [View.read_writes_cons_rows_of_not_mem v f (o := 3) (W := 1) inb3 _ _ y rfl rfl (by omega),
      View.read_writes_cons_rows_of_not_mem v f (o := 2) (W := 1) inb2 _ _ y rfl rfl (by omega),
      View.read_writes_cons_rows_of_not_mem v f (o := 1) (W := 1) inb1 _ _ y rfl rfl (by omega),
      View.read_writes_cons_rows_of_not_mem v f (o := 0) (W := 1) inb0 _ _ y rfl rfl (by omega), hE]
    show ((E y : ℝ) : EReal) = ((E y + pack a b e d y : ℝ) : EReal)
    rw [pack_4 _ _ _ _ _ h, add_zero]

theorem off8 : ∀ a : Fin 2, (![0, 0] : Fin 2 → Nat) a = 0 := fun a => congrFun off2 a

/-- A load of one row after another row's store. -/
theorem skip (v : View σ .tc .vmem S8 .f32) (o o' : Nat) (h : o ≠ o') (w : FVec Ideal S1 .f32) (L : List (View.Piece (Elt Ideal) S8 .f32))
    (inb : ∀ b : Fin 2, (![o, 0] : Fin 2 → Nat) b + (![1, 1024] : Fin 2 → Nat) b ≤ (![8, 1024] : Fin 2 → Nat) b)
    (inb' : ∀ b : Fin 2, (![o', 0] : Fin 2 → Nat) b + (![1, 1024] : Fin 2 → Nat) b ≤ (![8, 1024] : Fin 2 → Nat) b) :
    v.readCov ((⟨Rect.unit (s := S8) ![o, 0] ![1, 1024] inb, w⟩ : View.Piece (Elt Ideal) S8 .f32) :: L)
      (Rect.unit (s := S8) ![o', 0] ![1, 1024] inb').toLoadRect
      = v.readCov L (Rect.unit (s := S8) ![o', 0] ![1, 1024] inb').toLoadRect := by
  rw [View.readCov_eq_canon', View.readCov_eq_canon']
  funext x
  refine View.canon_cons_of_not_mem _ L fun hm => ?_
  have hx : (x 0).val < 1 := (x 0).isLt
  have h2 := (Rect.mem_set_unit (inb := inb)).mp hm 0
  have h3 : o ≤ o' + 1 * (x 0).val ∧ o' + 1 * (x 0).val < o + 1 := h2
  omega
/-- A load of one row after zeros were stored. -/
theorem cov (v : View σ .tc .vmem S8 .f32) (o : Nat) (inb) (inb') :
    v.readCov [(⟨Rect.unit (s := S8) ![0, 0] ![8, 1024] inb, (up fun _ => 0 : FVec Ideal S8 .f32)⟩ : View.Piece (Elt Ideal) S8 .f32)]
      (Rect.unit (s := S8) ![o, 0] ![1, 1024] inb').toLoadRect = up fun _ => 0 :=
  (View.readCov_fill v inb _ [] (Rect.unit (s := S8) ![o, 0] ![1, 1024] inb') off8).trans rfl

/-- The rows stored over zeros read zeros before. -/
theorem zeros (v : View σ .tc .vmem S8 .f32) (f : v.ty.Contents (Elt Ideal)) (inb) :
    v.read (Elt Ideal) (v.writes (Elt Ideal) f [(⟨Rect.unit (s := S8) ![0, 0] ![8, 1024] inb, (up fun _ => 0 : FVec Ideal S8 .f32)⟩ : View.Piece (Elt Ideal) S8 .f32)])
      = up fun _ => 0 := by
  funext y
  exact View.read_writes_cons_rows_of_mem v f (o := 0) inb _ _ y y rfl (Nat.zero_add _).symm rfl

end Cert.RowSums

end
-- ==== Proof.MixBlock.lean ====
/-
  What one grid point of the wide projection's backward call leaves in its three result blocks, over the reals: the block of
  the rows' gradient, the four parts of the transposed cotangent, and the three rows of sums. The first point starts the sums
  from zero; a later one adds to what the point before left.
-/
module

public import proofs.«01_k».proof.Proof.MixKernel
public import proofs.«01_k».proof.Proof.RowSums
public import proofs.«01_k».proof.Proof.Gen.MixInBwdIdeal.Value
public import Idealize.ShloMosaic.Lib.Pipeline.ValueKit.Tiles
public import Idealize.ShloMosaic.Lib.Pipeline.ReadBack

@[expose] public section

set_option maxRecDepth 16384
set_option backward.isDefEq.respectTransparency false

noncomputable section

namespace Cert.MixBlock

open MixInBwdIdeal MixInBwdIdeal.Gen Idealize.ShloMosaic TcCoe Idealize.SL.Sem Reals Norm Mla NormMod Pieces MixKernel RowSums

/-- A load of some rows of the transposed weights. -/
theorem ld_rowsT (W : A2 1024 1216) (o m : Nat) (h : o + m ≤ 1216) (inb) :
    View.ld (Val := Elt Ideal) (e' := .bf16) (upb (wT W)) (Rect.unit (s := (⟨2, ![1216, 1024]⟩ : Shape)) ![o, 0] ![m, 1024] inb) = upb (rowsT W o m h) := by
  funext i
  have hm : (i 0).val < m := (i 0).isLt
  refine View.ld_unit_apply_of (Val := Elt Ideal) (e := .bf16) (upb (wT W)) _ _ inb i (ix2 ⟨o + (i 0).val, by omega⟩ (i 1)) fun a => ?_
  match a with
  | ⟨0, _⟩ => rfl
  | ⟨1, _⟩ => exact (Nat.zero_add _).symm

/-- Rows `o`, `o + 1`, … of a stored part are the whole's. -/
theorem piece {m : Nat} (Z : A2 1216 512) (A : A2 m 512) (o : Nat)
    (inb : ∀ b : Fin 2, (![o, 0] : Fin 2 → Nat) b + (![m, 512] : Fin 2 → Nat) b ≤ (![1216, 512] : Fin 2 → Nat) b)
    (hZ : ∀ (k : Fin m) (r : Fin 512) (k' : Fin 1216), k'.val = o + k.val → A (ix2 k r) = Z (ix2 k' r))
    (x : (Rect.unit (s := (⟨2, ![1216, 512]⟩ : Shape)) ![o, 0] ![m, 512] inb).shape.Idx) :
    (upb A : FVec Ideal _ .bf16) x = upb Z ((Rect.unit (s := (⟨2, ![1216, 512]⟩ : Shape)) ![o, 0] ![m, 512] inb).emb x) := by
  have e : (Rect.unit (s := (⟨2, ![1216, 512]⟩ : Shape)) ![o, 0] ![m, 512] inb).emb x
      = ix2 ⟨o + (x 0).val, lt_of_lt_of_le (Nat.add_lt_add_left (x 0).isLt o) (inb 0)⟩ (x 1) := by
    funext b; apply Fin.ext
    match b with
    | ⟨0, _⟩ => exact congrArg (o + ·) (Nat.one_mul _)
    | ⟨1, _⟩ => exact (Nat.zero_add _).trans (Nat.one_mul _)
  rw [e]
  have ex : x = ix2 (x 0) (x 1) := (ix2_eta x).symm
  show ((A x : ℝ) : EReal) = _
  rw [ex]
  exact congrArg (fun z : ℝ => (z : EReal)) (hZ (x 0) (x 1) _ rfl)

/-- Three rows of sums stored over what was there. -/
theorem three (v : View sig .tc .vmem S8x1024 .f32) (f : v.ty.Contents (Elt Ideal)) (L : List (View.Piece (Elt Ideal) S8x1024 .f32)) (E : A2 8 1024)
    (hE : v.read (Elt Ideal) (v.writes (Elt Ideal) f L) = up E) (a b d : A2 1 1024) (inb0 : ∀ b : Fin 2, (![0, 0] : Fin 2 → Nat) b + (![1, 1024] : Fin 2 → Nat) b ≤ (![8, 1024] : Fin 2 → Nat) b)
    (inb1 : ∀ b : Fin 2, (![1, 0] : Fin 2 → Nat) b + (![1, 1024] : Fin 2 → Nat) b ≤ (![8, 1024] : Fin 2 → Nat) b)
    (inb3 : ∀ b : Fin 2, (![3, 0] : Fin 2 → Nat) b + (![1, 1024] : Fin 2 → Nat) b ≤ (![8, 1024] : Fin 2 → Nat) b) (y : S8x1024.Idx) :
    v.read (Elt Ideal) (v.writes (Elt Ideal) f
      ((⟨Rect.unit (s := (⟨2, ![8, 1024]⟩ : Shape)) ![3, 0] ![1, 1024] inb3, up fun j => E (ix2 3 (j 1)) + d j⟩ : View.Piece (Elt Ideal) S8x1024 .f32)
        :: ⟨Rect.unit (s := (⟨2, ![8, 1024]⟩ : Shape)) ![1, 0] ![1, 1024] inb1, up fun j => E (ix2 1 (j 1)) + b j⟩
        :: ⟨Rect.unit (s := (⟨2, ![8, 1024]⟩ : Shape)) ![0, 0] ![1, 1024] inb0, up fun j => E (ix2 0 (j 1)) + a j⟩ :: L)) y
      = up (fun j => E j + pack a b (fun _ => 0) d j) y := by
  have h8 : (y 0).val < 8 := (y 0).isLt
  have e : ∀ k : Fin 8, (y 0).val = k.val → ix2 k (y 1) = y := fun k h => by
    have : k = y 0 := Fin.ext h.symm
    rw [this]; exact ix2_eta y
  rcases rows8 (y 0) with h | h | h | h | h
  · rw [View.read_writes_cons_rows_of_not_mem v f (o := 3) (W := 1) inb3 _ _ y rfl rfl (by omega),
      View.read_writes_cons_rows_of_not_mem v f (o := 1) (W := 1) inb1 _ _ y rfl rfl (by omega),
      View.read_writes_cons_rows_of_mem v f (o := 0) inb0 _ _ y (ix2 0 (y 1)) rfl h rfl]
    show ((E (ix2 0 (y 1)) + a (ix2 0 (y 1)) : ℝ) : EReal) = ((E y + pack a b (fun _ => 0) d y : ℝ) : EReal)
    rw [pack_0 _ _ _ _ _ h, e 0 h]
  · rw [View.read_writes_cons_rows_of_not_mem v f (o := 3) (W := 1) inb3 _ _ y rfl rfl (by omega),
      View.read_writes_cons_rows_of_mem v f (o := 1) inb1 _ _ y (ix2 0 (y 1)) rfl h rfl]
    show ((E (ix2 1 (y 1)) + b (ix2 0 (y 1)) : ℝ) : EReal) = ((E y + pack a b (fun _ => 0) d y : ℝ) : EReal)
    rw [pack_1 _ _ _ _ _ h, e 1 h]
  · rw [View.read_writes_cons_rows_of_not_mem v f (o := 3) (W := 1) inb3 _ _ y rfl rfl (by omega),
      View.read_writes_cons_rows_of_not_mem v f (o := 1) (W := 1) inb1 _ _ y rfl rfl (by omega),
      View.read_writes_cons_rows_of_not_mem v f (o := 0) (W := 1) inb0 _ _ y rfl rfl (by omega), hE]
    show ((E y : ℝ) : EReal) = ((E y + pack a b (fun _ => 0) d y : ℝ) : EReal)
    rw [pack_2 _ _ _ _ _ h, add_zero]
  · rw [View.read_writes_cons_rows_of_mem v f (o := 3) inb3 _ _ y (ix2 0 (y 1)) rfl h rfl]
    show ((E (ix2 3 (y 1)) + d (ix2 0 (y 1)) : ℝ) : EReal) = ((E y + pack a b (fun _ => 0) d y : ℝ) : EReal)
    rw [pack_3 _ _ _ _ _ h, e 3 h]
  · rw [View.read_writes_cons_rows_of_not_mem v f (o := 3) (W := 1) inb3 _ _ y rfl rfl (by omega),
      View.read_writes_cons_rows_of_not_mem v f (o := 1) (W := 1) inb1 _ _ y rfl rfl (by omega),
      View.read_writes_cons_rows_of_not_mem v f (o := 0) (W := 1) inb0 _ _ y rfl rfl (by omega), hE]
    show ((E y : ℝ) : EReal) = ((E y + pack a b (fun _ => 0) d y : ℝ) : EReal)
    rw [pack_4 _ _ _ _ _ h, add_zero]

section Point

variable (D : A2 512 1024) (U : A2 512 512) (P : A2 512 384) (K : A2 512 256) (R : A2 512 64) (X : A2 512 1024)
  (g s : A2 1 1024) (W : A2 1024 1216)
variable (c : Dev nD) (i : grid0.Coords)
  (a1 : Memref sig .tc .vmem S512x1024 .f32) (h1 : a1.IsWhole) (a2 : Memref sig .tc .vmem S512x512 .f32) (h2 : a2.IsWhole)
  (a3 : Memref sig .tc .vmem S512x384 .f32) (h3 : a3.IsWhole) (a4 : Memref sig .tc .vmem S512x256 .f32) (h4 : a4.IsWhole)
  (a5 : Memref sig .tc .vmem S512x64 .f32) (h5 : a5.IsWhole) (a6 : Memref sig .tc .vmem S512x1024 .f32) (h6 : a6.IsWhole)
  (a7 : Memref sig .tc .vmem S1x1024 .f32) (h7 : a7.IsWhole) (a8 : Memref sig .tc .vmem S1x1024 .f32) (h8 : a8.IsWhole)
  (a9 : Memref sig .tc .vmem S1216x1024 .bf16) (h9 : a9.IsWhole) (a10 : Memref sig .tc .vmem S512x1024 .f32) (h10 : a10.IsWhole)
  (a11 : Memref sig .tc .vmem S1216x512 .bf16) (h11 : a11.IsWhole) (a12 : Memref sig .tc .vmem S8x1024 .f32) (h12 : a12.IsWhole)

/-- THE BLOCK of the rows' gradient, at the first point. -/
theorem out9A (hc : cond0_0 i) : out0_A_9 (F := Ideal) c i a1 h1 a2 h2 a3 h3 a4 h4 a5 h5 a6 h6 a7 h7 a8 h8 a9 h9 a10 h10 a11 h11 a12 h12 hc
    (up D) (up U) (up P) (up K) (up R) (up X) (up g) (up s) (upb (wT W)) = up fun j => drms 1024 (scaled (dh U P K R W) s) X g j + D j := by
  unfold out0_A_9
  rw [View.read_writes_eq_canon _ _ _ (fun _ => cover0_A_9 ..)]
  unfold kernelRun0_A; dsimp only; sl_unfold_words
  simp only [View.canon_unit_zero (S := S512x1024) off2, View.readAt_eq_ld, Memref.IsWhole.read_unread,
    View.ld_unit_zero (S := S512x1024) off2, View.ld_unit_zero (S := S512x512) off2, View.ld_unit_zero (S := S512x384) off2, View.ld_unit_zero (S := S512x256) off2, View.ld_unit_zero (S := S512x64) off2, View.ld_unit_zero (S := S1x1024) off2,
    ld_rowsT W 0 512 (by omega), ld_rowsT W 512 384 (by omega), ld_rowsT W 896 256 (by omega), ld_rowsT W 1152 64 (by omega),
    pay16 U P K R W, pay18 U P K R s W, pay21 U P K R g s W, pay22 U P K R X g s W, pay17, pay19, pay20, pay1]

/-- THE BLOCK of the transposed cotangent, at the first point. -/
theorem out10A (hc : cond0_0 i) : out0_A_10 (F := Ideal) c i a1 h1 a2 h2 a3 h3 a4 h4 a5 h5 a6 h6 a7 h7 a8 h8 a9 h9 a10 h10 a11 h11 a12 h12 hc
    (up D) (up U) (up P) (up K) (up R) (up X) (up g) (up s) (upb (wT W)) = upb (zT U P K R) := by
  unfold out0_A_10
  rw [View.read_writes_eq_canon _ _ _ (fun _ => cover0_A_10 ..)]
  funext y
  refine View.canon_apply_of_pieces (Val := Elt Ideal) (S := S1216x512) (e := .bf16) (upb (zT U P K R)) _ (View.PiecesOf.mem ?_) y (cover0_A_10 ..)
  unfold kernelRun0_A; dsimp only; sl_unfold_words
  simp only [View.readAt_eq_ld, Memref.IsWhole.read_unread,
    View.ld_unit_zero (S := S512x1024) off2, View.ld_unit_zero (S := S512x512) off2, View.ld_unit_zero (S := S512x384) off2, View.ld_unit_zero (S := S512x256) off2, View.ld_unit_zero (S := S512x64) off2, View.ld_unit_zero (S := S1x1024) off2, pay10, pay11, pay12, pay13]
  exact ⟨piece _ _ 1152 inb_S1216x512_S64x512_1152_0 fun k r k' e => zAt_3 U P K R r k k' e,
    piece _ _ 896 inb_S1216x512_S256x512_896_0 fun k r k' e => zAt_2 U P K R r k k' e,
    piece _ _ 512 inb_S1216x512_S384x512_512_0 fun k r k' e => zAt_1 U P K R r k k' e,
    piece _ _ 0 inb_S1216x512_S512x512_0_0 fun k r k' e => zAt_0 U P K R r k k' e, trivial⟩

/-- THE SUMS, at the first point. -/
theorem out11A (hc : cond0_0 i) : out0_A_11 (F := Ideal) c i a1 h1 a2 h2 a3 h3 a4 h4 a5 h5 a6 h6 a7 h7 a8 h8 a9 h9 a10 h10 a11 h11 a12 h12 hc
    (up D) (up U) (up P) (up K) (up R) (up X) (up g) (up s) (upb (wT W)) = up fun j => 0 + pack (dshift (dh U P K R W)) (dscale 1024 (dh U P K R W) X g) (fun _ => 0) (dgain 1024 (scaled (dh U P K R W) s) X) j := by
  funext y
  unfold out0_A_11
  unfold kernelRun0_A; dsimp only; sl_unfold_words
  simp only [View.readAt_eq_ld, Memref.IsWhole.read_unread,
    View.ld_unit_zero (S := S512x1024) off2, View.ld_unit_zero (S := S512x512) off2, View.ld_unit_zero (S := S512x384) off2, View.ld_unit_zero (S := S512x256) off2, View.ld_unit_zero (S := S512x64) off2, View.ld_unit_zero (S := S1x1024) off2,
    ld_rowsT W 0 512 (by omega), ld_rowsT W 512 384 (by omega), ld_rowsT W 896 256 (by omega), ld_rowsT W 1152 64 (by omega),
    pay16 U P K R W, pay18 U P K R s W, pay21 U P K R g s W, pay22 U P K R X g s W, pay17, pay19, pay20,
    pay5, skip _ 1 3 (by norm_num), skip _ 0 3 (by norm_num), skip _ 0 1 (by norm_num), cov, pay2, pay3, pay4]
  exact three VO0_11 _ _ (fun _ => 0) (zeros VO0_11 _ _) (dshift (dh U P K R W)) (dscale 1024 (dh U P K R W) X g) (dgain 1024 (scaled (dh U P K R W) s) X) _ _ _ y

/-- THE BLOCK of the rows' gradient, at a later point. -/
theorem out9B (hc : ¬cond0_0 i) (E : A2 8 1024) : out0_B_9 (F := Ideal) c i a1 h1 a2 h2 a3 h3 a4 h4 a5 h5 a6 h6 a7 h7 a8 h8 a9 h9 a10 h10 a11 h11 a12 h12 hc
    (up D) (up U) (up P) (up K) (up R) (up X) (up g) (up s) (upb (wT W)) (up E) = up fun j => drms 1024 (scaled (dh U P K R W) s) X g j + D j := by
  unfold out0_B_9
  rw [View.read_writes_eq_canon _ _ _ (fun _ => cover0_B_9 ..)]
  unfold kernelRun0_B; dsimp only; sl_unfold_words
  simp only [View.canon_unit_zero (S := S512x1024) off2, View.readAt_eq_ld, Memref.IsWhole.read_unread,
    View.ld_unit_zero (S := S512x1024) off2, View.ld_unit_zero (S := S512x512) off2, View.ld_unit_zero (S := S512x384) off2, View.ld_unit_zero (S := S512x256) off2, View.ld_unit_zero (S := S512x64) off2, View.ld_unit_zero (S := S1x1024) off2,
    ld_rowsT W 0 512 (by omega), ld_rowsT W 512 384 (by omega), ld_rowsT W 896 256 (by omega), ld_rowsT W 1152 64 (by omega),
    pay16 U P K R W, pay18 U P K R s W, pay21 U P K R g s W, pay22 U P K R X g s W, pay17, pay19, pay20, pay1]

/-- THE BLOCK of the transposed cotangent, at a later point. -/
theorem out10B (hc : ¬cond0_0 i) (E : A2 8 1024) : out0_B_10 (F := Ideal) c i a1 h1 a2 h2 a3 h3 a4 h4 a5 h5 a6 h6 a7 h7 a8 h8 a9 h9 a10 h10 a11 h11 a12 h12 hc
    (up D) (up U) (up P) (up K) (up R) (up X) (up g) (up s) (upb (wT W)) (up E) = upb (zT U P K R) := by
  unfold out0_B_10
  rw [View.read_writes_eq_canon _ _ _ (fun _ => cover0_B_10 ..)]
  funext y
  refine View.canon_apply_of_pieces (Val := Elt Ideal) (S := S1216x512) (e := .bf16) (upb (zT U P K R)) _ (View.PiecesOf.mem ?_) y (cover0_B_10 ..)
  unfold kernelRun0_B; dsimp only; sl_unfold_words
  simp only [View.readAt_eq_ld, Memref.IsWhole.read_unread,
    View.ld_unit_zero (S := S512x1024) off2, View.ld_unit_zero (S := S512x512) off2, View.ld_unit_zero (S := S512x384) off2, View.ld_unit_zero (S := S512x256) off2, View.ld_unit_zero (S := S512x64) off2, View.ld_unit_zero (S := S1x1024) off2, pay10, pay11, pay12, pay13]
  exact ⟨piece _ _ 1152 inb_S1216x512_S64x512_1152_0 fun k r k' e => zAt_3 U P K R r k k' e,
    piece _ _ 896 inb_S1216x512_S256x512_896_0 fun k r k' e => zAt_2 U P K R r k k' e,
    piece _ _ 512 inb_S1216x512_S384x512_512_0 fun k r k' e => zAt_1 U P K R r k k' e,
    piece _ _ 0 inb_S1216x512_S512x512_0_0 fun k r k' e => zAt_0 U P K R r k k' e, trivial⟩

/-- THE SUMS, at a later point. -/
theorem out11B (hc : ¬cond0_0 i) (E : A2 8 1024) : out0_B_11 (F := Ideal) c i a1 h1 a2 h2 a3 h3 a4 h4 a5 h5 a6 h6 a7 h7 a8 h8 a9 h9 a10 h10 a11 h11 a12 h12 hc
    (up D) (up U) (up P) (up K) (up R) (up X) (up g) (up s) (upb (wT W)) (up E) = up fun j => E j + pack (dshift (dh U P K R W)) (dscale 1024 (dh U P K R W) X g) (fun _ => 0) (dgain 1024 (scaled (dh U P K R W) s) X) j := by
  funext y
  unfold out0_B_11
  unfold kernelRun0_B; dsimp only; sl_unfold_words
  simp only [View.readAt_eq_ld, Memref.IsWhole.read_unread,
    View.ld_unit_zero (S := S512x1024) off2, View.ld_unit_zero (S := S512x512) off2, View.ld_unit_zero (S := S512x384) off2, View.ld_unit_zero (S := S512x256) off2, View.ld_unit_zero (S := S512x64) off2, View.ld_unit_zero (S := S1x1024) off2,
    ld_rowsT W 0 512 (by omega), ld_rowsT W 512 384 (by omega), ld_rowsT W 896 256 (by omega), ld_rowsT W 1152 64 (by omega),
    pay16 U P K R W, pay18 U P K R s W, pay21 U P K R g s W, pay22 U P K R X g s W, pay17, pay19, pay20,
    ld_row E 0 0 rfl, ld_row E 1 1 rfl, ld_row E 3 3 rfl, pay2, pay3, pay4]
  exact three _ _ [] E (h12.read_unread _) _ _ _ _ _ _ _

end Point

end Cert.MixBlock
end
-- ==== Proof.MixHost.lean ====
/-
  What the wide projection's backward call is launched on besides its arguments, over the reals: the transposed weights.
-/
module

public import proofs.«01_k».proof.Proof.MixKernel
public import proofs.«01_k».proof.Proof.Gen.MixInBwdIdeal.Frame
public import Idealize.ShloMosaic.Lib.StableHlo.ReadAt

@[expose] public section

set_option maxRecDepth 16384
set_option backward.isDefEq.respectTransparency false

noncomputable section

namespace Cert.MixHost

open MixInBwdIdeal MixInBwdIdeal.Gen Idealize.ShloMosaic TcCoe Idealize.SL.Sem Reals Norm Mla MixKernel

variable (m : (ℓ : Loc nD τ sig) → Buf (Elt Ideal) ℓ) (c : Dev nD)

/-- The weights transposed. -/
theorem v1 (W : A2 1024 1216) (hW : m ((c : Thread nD τ).loc main_arg9) = up W) : V m c main_v1 = upb (wT W) := by
  unfold V
  simp only [List.flatten_cons, List.flatten_nil, List.cons_append, List.nil_append, List.append_nil, hostOps0]
  after_reads_simp
  rw [hW]
  funext i
  pointwise [up, upb, wT]

end Cert.MixHost
end
-- ==== Proof.MixValue.lean ====
/-
  What the wide projection's backward call's three result arrays hold after the run, over the reals: each grid point's blocks
  are the tiles of 512 rows of the gradient and of the cotangent, and the small array's rows are sums over the four tiles.
-/
module

public import proofs.«01_k».proof.Proof.Blocks
public import proofs.«01_k».proof.Proof.MixBlock
public import proofs.«01_k».proof.Proof.MixHost

@[expose] public section

set_option maxRecDepth 16384
set_option backward.isDefEq.respectTransparency false

noncomputable section

namespace Cert.MixValue

open MixInBwdIdeal MixInBwdIdeal.Gen Idealize.ShloMosaic TcCoe Idealize.SL.Sem
open Blocks Reals Norm Mla NormMod MixKernel MixBlock
open Idealize.ShloMosaic.Pipeline (Dat)

variable (m : (ℓ : Loc nD τ sig) → Buf (Elt Ideal) ℓ) (c : Dev nD)

/-- A grid point as a tile number. -/
abbrev pt (t : Fin cfg0.N) : Fin 4 := t.cast N_0

/-- The block indices: a tile of rows (or of columns) at each point, or the whole array. -/
theorem idx0 : Along 0 win0_0.index := by decide +kernel
theorem idx1 : Along 0 win0_1.index := by decide +kernel
theorem idx2 : Along 0 win0_2.index := by decide +kernel
theorem idx3 : Along 0 win0_3.index := by decide +kernel
theorem idx4 : Along 0 win0_4.index := by decide +kernel
theorem idx5 : Along 0 win0_5.index := by decide +kernel
theorem idx6 : Whole win0_6.index := by decide +kernel
theorem idx7 : Whole win0_7.index := by decide +kernel
theorem idx8 : Whole win0_8.index := by decide +kernel
theorem idx9 : Along 0 win0_9.index := by decide +kernel
theorem idx10 : Along 1 win0_10.index := by decide +kernel
theorem idx11 : Whole win0_11.index := by decide +kernel

/-- The points' blocks of the arguments. -/
theorem iblk0 (X : A2 2048 1024) (hX : m ((c : Thread nD τ).loc main_arg0) = up X) (t : Fin cfg0.N) :
    (iblk m c 0 t : Vec Ideal S512x1024 .f32) = up (tile X (pt t)) := funext fun j => (congrFun hX _).trans (congrArg (up X) (rows_at N_0 idx0 t _ j fun _ => rfl))
theorem iblk1 (X : A2 2048 512) (hX : m ((c : Thread nD τ).loc main_arg1) = up X) (t : Fin cfg0.N) :
    (iblk m c 1 t : Vec Ideal S512x512 .f32) = up (tile X (pt t)) := funext fun j => (congrFun hX _).trans (congrArg (up X) (rows_at N_0 idx1 t _ j fun _ => rfl))
theorem iblk2 (X : A2 2048 384) (hX : m ((c : Thread nD τ).loc main_arg2) = up X) (t : Fin cfg0.N) :
    (iblk m c 2 t : Vec Ideal S512x384 .f32) = up (tile X (pt t)) := funext fun j => (congrFun hX _).trans (congrArg (up X) (rows_at N_0 idx2 t _ j fun _ => rfl))
theorem iblk3 (X : A2 2048 256) (hX : m ((c : Thread nD τ).loc main_arg3) = up X) (t : Fin cfg0.N) :
    (iblk m c 3 t : Vec Ideal S512x256 .f32) = up (tile X (pt t)) := funext fun j => (congrFun hX _).trans (congrArg (up X) (rows_at N_0 idx3 t _ j fun _ => rfl))
theorem iblk4 (X : A2 2048 64) (hX : m ((c : Thread nD τ).loc main_arg4) = up X) (t : Fin cfg0.N) :
    (iblk m c 4 t : Vec Ideal S512x64 .f32) = up (tile X (pt t)) := funext fun j => (congrFun hX _).trans (congrArg (up X) (rows_at N_0 idx4 t _ j fun _ => rfl))
theorem iblk5 (X : A2 2048 1024) (hX : m ((c : Thread nD τ).loc main_arg5) = up X) (t : Fin cfg0.N) :
    (iblk m c 5 t : Vec Ideal S512x1024 .f32) = up (tile X (pt t)) := funext fun j => (congrFun hX _).trans (congrArg (up X) (rows_at N_0 idx5 t _ j fun _ => rfl))
theorem iblk6 (X : A2 1 1024) (hX : m ((c : Thread nD τ).loc main_arg6) = up X) (t : Fin cfg0.N) :
    (iblk m c 6 t : Vec Ideal S1x1024 .f32) = up X := funext fun j => (congrFun hX _).trans (congrArg (up X) (whole_at idx6 t _ j fun _ => rfl))
theorem iblk7 (X : A2 1 1024) (hX : m ((c : Thread nD τ).loc main_arg8) = up X) (t : Fin cfg0.N) :
    (iblk m c 7 t : Vec Ideal S1x1024 .f32) = up X := funext fun j => (congrFun hX _).trans (congrArg (up X) (whole_at idx7 t _ j fun _ => rfl))
theorem iblk8 (X : A2 1024 1216) (hX : m ((c : Thread nD τ).loc main_arg9) = up X) (t : Fin cfg0.N) :
    (iblk m c 8 t : Vec Ideal S1216x1024 .bf16) = upb (wT X) := funext fun j => (congrFun (MixHost.v1 m c X hX) _).trans (congrArg (upb (wT X)) (whole_at idx8 t _ j fun _ => rfl))

variable (D : A2 2048 1024) (U : A2 2048 512) (P : A2 2048 384) (K : A2 2048 256) (R : A2 2048 64) (X : A2 2048 1024)
  (g s : A2 1 1024) (W : A2 1024 1216)

/-- The small array from the rows below a tile. -/
def dvTo (n : Nat) (j : (⟨2, ![8, 1024]⟩ : Shape).Idx) : ℝ := ∑ t ∈ Finset.univ.filter (fun t : Fin 4 => t.val < n),
  pack (dshift (dh (tile U t) (tile P t) (tile K t) (tile R t) W)) (dscale 1024 (dh (tile U t) (tile P t) (tile K t) (tile R t) W) (tile X t) g) (fun _ => 0) (dgain 1024 (scaled (dh (tile U t) (tile P t) (tile K t) (tile R t) W) s) (tile X t)) j

/-- The arguments are real arrays. -/
structure Args : Prop where
  h0 : m ((c : Thread nD τ).loc main_arg0) = up D
  h1 : m ((c : Thread nD τ).loc main_arg1) = up U
  h2 : m ((c : Thread nD τ).loc main_arg2) = up P
  h3 : m ((c : Thread nD τ).loc main_arg3) = up K
  h4 : m ((c : Thread nD τ).loc main_arg4) = up R
  h5 : m ((c : Thread nD τ).loc main_arg5) = up X
  h6 : m ((c : Thread nD τ).loc main_arg6) = up g
  h8 : m ((c : Thread nD τ).loc main_arg8) = up s
  h9 : m ((c : Thread nD τ).loc main_arg9) = up W

variable (H : Args m c D U P K R X g s W)

include H in
/-- What the three staging buffers hold after a point. -/
theorem outs : ∀ (n : Nat) (h : n < cfg0.N), outsAt0 m c n h
    = (up (fun j => drms 1024 (scaled (dh (tile U (pt ⟨n, h⟩)) (tile P (pt ⟨n, h⟩)) (tile K (pt ⟨n, h⟩)) (tile R (pt ⟨n, h⟩)) W) s) (tile X (pt ⟨n, h⟩)) g j + tile D (pt ⟨n, h⟩) j),
       upb (zT (tile U (pt ⟨n, h⟩)) (tile P (pt ⟨n, h⟩)) (tile K (pt ⟨n, h⟩)) (tile R (pt ⟨n, h⟩))),
       up (dvTo U P K R X g s W (n + 1))) := by
  intro n
  induction n with
  | zero =>
    intro h
    refine (outsAt0_A m c ⟨0, h⟩ rfl).trans ?_
    rw [iblk0 m c D H.h0, iblk1 m c U H.h1, iblk2 m c P H.h2, iblk3 m c K H.h3, iblk4 m c R H.h4, iblk5 m c X H.h5, iblk6 m c g H.h6, iblk7 m c s H.h8, iblk8 m c W H.h9,
      out9A, out10A, out11A]
    refine Prod.ext rfl (Prod.ext rfl ?_)
    refine congrArg up (funext fun j => ?_)
    simp only [dvTo, sum_next (N := 4) _ 0 (by norm_num)]
    simp
  | succ n ih =>
    intro h
    have hN : cfg0.N = 4 := N_0
    have hB : ¬(⟨n + 1, h⟩ : Fin cfg0.N).val % 4 = 0 := by dsimp only; omega
    refine (outsAt0_B m c ⟨n + 1, h⟩ hB).trans ?_
    have e : outsAt0 m c ((⟨n + 1, h⟩ : Fin cfg0.N).val - 1) (Nat.lt_of_le_of_lt (Nat.sub_le _ _) h) = _ :=
      ih (Nat.lt_of_succ_lt h)
    rw [e, iblk0 m c D H.h0, iblk1 m c U H.h1, iblk2 m c P H.h2, iblk3 m c K H.h3, iblk4 m c R H.h4, iblk5 m c X H.h5, iblk6 m c g H.h6, iblk7 m c s H.h8, iblk8 m c W H.h9,
      out9B, out10B, out11B]
    refine Prod.ext rfl (Prod.ext rfl ?_)
    exact congrArg up (funext fun j => (sum_next (fun t => pack (dshift (dh (tile U t) (tile P t) (tile K t) (tile R t) W)) (dscale 1024 (dh (tile U t) (tile P t) (tile K t) (tile R t) W) (tile X t) g) (fun _ => 0) (dgain 1024 (scaled (dh (tile U t) (tile P t) (tile K t) (tile R t) W) s) (tile X t)) j) (n + 1) (by omega)).symm)

include H in
/-- The rows' gradient after the run. -/
theorem final9 : (dats m 0 c).arrAt 9 cfg0.N = (up (fun j => drms 1024 (scaled (dh U P K R W) s) X g j + D j) : Vec Ideal S2048x1024 .f32) := by
  refine (dats m 0 c).arrAt_eq_of_cover 9 _ (fun t hf => ?_) fun i => ⟨blockOf N_0 (i 0), flush0_9 _, ?_⟩
  · rw [MixInBwdIdeal.Value.flushed9, outs m c D U P K R X g s W H]
    funext j; rw [View.read_apply]
    have e : ((cfg0.win 9).blk t).view.emb j = (ix2 (row (pt t) (j 0)) (j 1) : S2048x1024.Idx) := rows_at N_0 idx9 t _ j fun _ => rfl
    rw [e]; rfl
  · exact in_block (along_has idx9 _ i rfl (by decide) (by decide))

include H in
/-- The transposed cotangent after the run. -/
theorem final10 : (dats m 0 c).arrAt 10 cfg0.N = (upb (zT U P K R) : Vec Ideal S1216x2048 .bf16) := by
  refine (dats m 0 c).arrAt_eq_of_cover 10 _ (fun t hf => ?_) fun i => ⟨blockOf N_0 (i 1), flush0_10 _, ?_⟩
  · rw [MixInBwdIdeal.Value.flushed10, outs m c D U P K R X g s W H]
    funext j; rw [View.read_apply]
    have e : ((cfg0.win 10).blk t).view.emb j = (ix2 (j 0) (row (pt t) (j 1)) : S1216x2048.Idx) := cols_at N_0 idx10 t _ j fun _ => rfl
    rw [e]; rfl
  · exact in_block (along_has idx10 _ i rfl (by decide) (by decide))

include H in
/-- The small array after the run. -/
theorem final11 : (dats m 0 c).arrAt 11 cfg0.N
    = (up (pack (dshift (dh U P K R W)) (dscale 1024 (dh U P K R W) X g) (fun _ => 0) (dgain 1024 (scaled (dh U P K R W) s) X)) : Vec Ideal S8x1024 .f32) := by
  refine (dats m 0 c).arrAt_eq_of_cover 11 _ (fun t hf => ?_) fun i => ⟨t0_3, (flush0_11 t0_3).mpr rfl, ?_⟩
  · have h3 : t.val % 4 = 3 := (flush0_11 t).mp hf
    have hN : cfg0.N = 4 := N_0
    have e : t.val = 3 := by have := lt_of_lt_of_eq t.isLt N_0; omega
    rw [MixInBwdIdeal.Value.flushed11, outs m c D U P K R X g s W H]
    funext j
    rw [View.read_apply]
    have ej : ((cfg0.win 11).blk t).view.emb j = (j : S8x1024.Idx) := whole_at idx11 t _ j fun _ => rfl
    rw [ej]
    show ((dvTo U P K R X g s W (t.val + 1) j : ℝ) : EReal) = ((pack (dshift (dh U P K R W)) (dscale 1024 (dh U P K R W) X g) (fun _ => 0) (dgain 1024 (scaled (dh U P K R W) s) X) j : ℝ) : EReal)
    rw [e]
    refine congrArg (fun z : ℝ => (z : EReal)) ((sum_all _).trans ((pack_sum _ _ _ _ _ _).trans ?_))
    rw [show (fun i => ∑ t : Fin 4, dshift (dh (tile U t) (tile P t) (tile K t) (tile R t) W) i) = dshift (dh U P K R W) from
        funext fun i => sum_rows fun r => dh U P K R W (ix2 r (i 1)),
      show (fun i => ∑ t : Fin 4, dscale 1024 (dh (tile U t) (tile P t) (tile K t) (tile R t) W) (tile X t) g i) = dscale 1024 (dh U P K R W) X g from
        funext fun i => sum_rows fun r => dh U P K R W (ix2 r (i 1)) * (X (ix2 r (i 1)) * rs 1024 X r * g (ix2 0 (i 1))),
      show (fun i => ∑ t : Fin 4, dgain 1024 (scaled (dh (tile U t) (tile P t) (tile K t) (tile R t) W) s) (tile X t) i) = dgain 1024 (scaled (dh U P K R W) s) X from
        funext fun i => sum_rows fun r => scaled (dh U P K R W) s (ix2 r (i 1)) * (X (ix2 r (i 1)) * rs 1024 X r)]
    simp only [Finset.sum_const_zero]
  · exact in_block (whole_has idx11 _ i)

end Cert.MixValue

end
-- ==== Proof.MixRef.lean ====
/-
  What the reference of the wide projection's and its norm's backward pass computes, over the reals: the host operations of
  the printed reference, stage by stage, on arguments that are arrays of real numbers.
-/
module

public import proofs.«01_k».proof.Proof.NormMod
public import proofs.«01_k».proof.Proof.Gen.MixInBwdRefIdeal.Read

@[expose] public section

set_option maxRecDepth 16384
set_option backward.isDefEq.respectTransparency false

noncomputable section

namespace Cert.MixRef

open Idealize.ShloMosaic Reals Norm Mla NormMod MixInBwdRefIdeal MixInBwdRefIdeal.Read

variable (D : A2 2048 1024) (U : A2 2048 512) (P : A2 2048 384) (K : A2 2048 256) (R : A2 2048 64) (X : A2 2048 1024)
  (g s : A2 1 1024) (W : A2 1024 1216)

theorem v6 : val_main_v6 (F := Ideal) (up X) = up fun i => ms 1024 X (i 0) := by
  funext i
  pointwise [val_main_v6, val_main_v5, val_main_v4, val_main_v3, val_main_v2, val_main_v1, val_main_v0, val_main_cst,
    val_main_cst_0, val_main_cst_1, up, lit_1024, lit_eps, mul_coe, coe_sum]
  rw [div_coe _ (by norm_num), add_coe]
  rfl

theorem v7 : val_main_v7 (F := Ideal) (up X) = up fun i => rs 1024 X (i 0) := by
  funext i
  pointwise [val_main_v7, v6, up]
  rw [rsqrt_coe (ms_pos (by norm_num) X _)]
  rfl

theorem v10 : val_main_v10 (F := Ideal) (up X) = up fun i => -(1 / 2) * (rs 1024 X (i 0) / ms 1024 X (i 0)) := by
  funext i
  pointwise [val_main_v10, val_main_v9, val_main_v8, val_main_cst_2, v6, v7, up, lit_neg_half]
  rw [div_coe _ (ms_pos (by norm_num) X _).ne', mul_coe]

/-- The four parts side by side. -/
theorem v32 : val_main_v32 (F := Ideal) (up U) (up P) (up K) (up R) = up fun i => zAt U P K R (i 0) (i 1) := by
  funext i
  have h1 : (i 1).val < 1216 := (i 1).isLt
  pointwise [val_main_v32, val_main_v31, val_main_v30, val_main_v29, val_main_v28, val_main_v27, val_main_v26, val_main_cst_4,
    val_main_cst_5, val_main_cst_6, val_main_cst_7, up]
  unfold zAt
  by_cases a : (i 1).val < 512
  · rw [dif_neg (by omega), dif_neg (by omega), dif_neg (by omega), dif_pos (by omega), dif_pos a, zero_add, zero_add, zero_add]
  by_cases b : (i 1).val < 896
  · rw [dif_neg (by omega), dif_neg (by omega), dif_pos (by omega), dif_neg (by omega), dif_neg a, dif_pos b, zero_add, zero_add, add_zero]
  by_cases c : (i 1).val < 1152
  · rw [dif_neg (by omega), dif_pos (by omega), dif_neg (by omega), dif_neg (by omega), dif_neg a, dif_neg b, dif_pos c, zero_add, add_zero, add_zero]
  · rw [dif_pos (by omega), dif_neg (by omega), dif_neg (by omega), dif_neg (by omega), dif_neg a, dif_neg b, dif_neg c, add_zero, add_zero, add_zero]

/-- THE COTANGENT of the wide row, transposed. -/
theorem v63 : val_main_v63 (F := Ideal) (up U) (up P) (up K) (up R) = upb (zT U P K R) := by
  funext i
  pointwise [val_main_v63, val_main_v62, v32, up]
  rfl

/-- The cotangent of the rows that the projection reads. -/
theorem v33 : val_main_v33 (F := Ideal) (up U) (up P) (up K) (up R) (up W) = up (dh U P K R W) := by
  funext i
  pointwise [val_main_v33, v32, up, mul_coe, coe_sum]
  rfl

theorem v40 : val_main_v40 (F := Ideal) (up U) (up P) (up K) (up R) (up s) (up W) = up (scaled (dh U P K R W) s) := by
  funext i
  pointwise [val_main_v40, val_main_v39, val_main_v16, val_main_v15, val_main_cst_3, v33, up, lit_one, add_coe, mul_coe]
  rfl

/-- THE GRADIENT of the rows, with the cotangent that comes beside added. -/
theorem v60 : val_main_v60 (F := Ideal) (up D) (up U) (up P) (up K) (up R) (up X) (up g) (up s) (up W)
    = up fun i => drms 1024 (scaled (dh U P K R W) s) X g i + D i := by
  funext i
  pointwise [val_main_v60, val_main_v59, val_main_v58, val_main_v57, val_main_v56, val_main_v55, val_main_v54, val_main_v53,
    val_main_v52, val_main_v51, val_main_v50, val_main_v49, val_main_v48, val_main_v47, val_main_v46, val_main_v45,
    val_main_v44, val_main_cst_11, val_main_cst_12, val_main_cst_13, v40, v7, v10, up, lit_1024, mul_coe, coe_sum, ix2_eta]
  rw [div_coe _ (by norm_num)]
  simp only [Finset.univ_unique, Finset.sum_singleton, mul_coe, add_coe]
  exact congrArg _ (drms_add (by norm_num) (scaled (dh U P K R W) s) X g i (D i) _ _ rfl rfl)

theorem v35 : val_main_v35 (F := Ideal) (up U) (up P) (up K) (up R) (up W) = up (dshift (dh U P K R W)) := by
  funext i
  pointwise [val_main_v35, val_main_v34, val_main_cst_8, v33, up, coe_sum]
  rfl

theorem v38 : val_main_v38 (F := Ideal) (up U) (up P) (up K) (up R) (up X) (up g) (up W) = up (dscale 1024 (dh U P K R W) X g) := by
  funext i
  pointwise [val_main_v38, val_main_v37, val_main_v36, val_main_v14, val_main_v13, val_main_v12, val_main_v11, val_main_cst_9, v33, v7, up,
    mul_coe, coe_sum]
  exact congrArg _ (Finset.sum_congr rfl fun k _ => mul_comm _ _)

theorem v43 : val_main_v43 (F := Ideal) (up U) (up P) (up K) (up R) (up X) (up s) (up W) = up (dgain 1024 (scaled (dh U P K R W) s) X) := by
  funext i
  pointwise [val_main_v43, val_main_v42, val_main_v41, val_main_v12, val_main_v11, val_main_cst_10, v40, v7, up, mul_coe, coe_sum]
  exact congrArg _ (Finset.sum_congr rfl fun k _ => mul_comm _ _)

/-- THE SMALL ARRAY of the gradients of the shift, the scale and the gain. -/
theorem v64 : val_main_v64 (F := Ideal) (up U) (up P) (up K) (up R) (up X) (up g) (up s) (up W)
    = up (pack (dshift (dh U P K R W)) (dscale 1024 (dh U P K R W) X g) (fun _ => 0) (dgain 1024 (scaled (dh U P K R W) s) X)) := by
  funext i
  have h0 : (i 0).val < 8 := (i 0).isLt
  pointwise [val_main_v64, val_main_v61, val_main_cst_14, v35, v38, v43, up]
  rcases rows8 (i 0) with h | h | h | h | h
  · rw [dif_pos (by omega), pack_0 _ _ _ _ _ h]; exact congrArg (fun z : ℝ => (z : EReal)) (at0 _ _ _)
  · rw [dif_neg (by omega), dif_pos (by omega), pack_1 _ _ _ _ _ h]; exact congrArg (fun z : ℝ => (z : EReal)) (at0 _ _ _)
  · rw [dif_neg (by omega), dif_neg (by omega), dif_pos (by omega), pack_2 _ _ _ _ _ h]; rfl
  · rw [dif_neg (by omega), dif_neg (by omega), dif_neg (by omega), dif_pos (by omega), pack_3 _ _ _ _ _ h]; exact congrArg (fun z : ℝ => (z : EReal)) (at0 _ _ _)
  · rw [pack_4 _ _ _ _ _ h]
    simp only [dif_neg (show ¬(i 0).val < 1 by omega), dif_neg (show ¬(i 0).val - 1 < 1 by omega),
      dif_neg (show ¬(i 0).val - 1 - 1 < 1 by omega), dif_neg (show ¬(i 0).val - 1 - 1 - 1 < 1 by omega), dite_eq_ite, ite_self]
    rfl

end Cert.MixRef
end
-- ==== Proof.MixClaims.lean ====
/-
  The claims about the wide projection's backward call: the reference's frame, and the equality of the results over the reals, for finite arguments.
-/
module

public import proofs.«01_k».proof.Defs
public import proofs.«01_k».proof.Proof.MixValue
public import proofs.«01_k».proof.Proof.MixRef
public import proofs.«01_k».proof.Proof.Gen.MixInBwd.Frame
public import proofs.«01_k».proof.Proof.Gen.Pre_finite_mix_in_bwd

@[expose] public section

noncomputable section

namespace Cert.MixClaims

open Idealize.ShloMosaic TcCoe Idealize.SL.Sem Reals

/-- Arguments that meet the precondition are arrays of real numbers. -/
theorem reals
    (x0 : FVec Ideal Pre_finite_mix_in_bwd.S2048x1024 .f32)
    (x1 : FVec Ideal Pre_finite_mix_in_bwd.S2048x512 .f32)
    (x2 : FVec Ideal Pre_finite_mix_in_bwd.S2048x384 .f32)
    (x3 : FVec Ideal Pre_finite_mix_in_bwd.S2048x256 .f32)
    (x4 : FVec Ideal Pre_finite_mix_in_bwd.S2048x64 .f32)
    (x5 : FVec Ideal Pre_finite_mix_in_bwd.S2048x1024 .f32)
    (x6 : FVec Ideal Pre_finite_mix_in_bwd.S1x1024 .f32)
    (x7 : FVec Ideal Pre_finite_mix_in_bwd.S1x1024 .f32)
    (x8 : FVec Ideal Pre_finite_mix_in_bwd.S1x1024 .f32)
    (x9 : FVec Ideal Pre_finite_mix_in_bwd.S1024x1216 .f32)
    (h : Pre_finite_mix_in_bwd.fn (F := Ideal) x0 x1 x2 x3 x4 x5 x6 x7 x8 x9 = fun _ => 1#1) :
    (∃ D : Pre_finite_mix_in_bwd.S2048x1024.Idx → ℝ, x0 = up D)
      ∧ (∃ U : Pre_finite_mix_in_bwd.S2048x512.Idx → ℝ, x1 = up U)
      ∧ (∃ P : Pre_finite_mix_in_bwd.S2048x384.Idx → ℝ, x2 = up P)
      ∧ (∃ K : Pre_finite_mix_in_bwd.S2048x256.Idx → ℝ, x3 = up K)
      ∧ (∃ R : Pre_finite_mix_in_bwd.S2048x64.Idx → ℝ, x4 = up R)
      ∧ (∃ X : Pre_finite_mix_in_bwd.S2048x1024.Idx → ℝ, x5 = up X)
      ∧ (∃ γ : Pre_finite_mix_in_bwd.S1x1024.Idx → ℝ, x6 = up γ)
      ∧ (∃ S : Pre_finite_mix_in_bwd.S1x1024.Idx → ℝ, x8 = up S)
      ∧ (∃ W : Pre_finite_mix_in_bwd.S1024x1216.Idx → ℝ, x9 = up W) := by
  have h0 := congrFun h ix0
  unfold Pre_finite_mix_in_bwd.fn Pre_finite_mix_in_bwd.fn_part1 Pre_finite_mix_in_bwd.fn_part2 at h0
  obtain ⟨h1, p9⟩ := IntOp.andi_eq_one.1 h0
  obtain ⟨h2, p8⟩ := IntOp.andi_eq_one.1 h1
  obtain ⟨h3, p6⟩ := IntOp.andi_eq_one.1 h2
  obtain ⟨h4, p5⟩ := IntOp.andi_eq_one.1 h3
  obtain ⟨h5, p4⟩ := IntOp.andi_eq_one.1 h4
  obtain ⟨h6, p3⟩ := IntOp.andi_eq_one.1 h5
  obtain ⟨h7, p2⟩ := IntOp.andi_eq_one.1 h6
  obtain ⟨p0, p1⟩ := IntOp.andi_eq_one.1 h7
  exact ⟨array_real (φ := .f32) _ _ (fun _ => lit_inf) _ _ _ _ p0,
    array_real (φ := .f32) _ _ (fun _ => lit_inf) _ _ _ _ p1,
    array_real (φ := .f32) _ _ (fun _ => lit_inf) _ _ _ _ p2,
    array_real (φ := .f32) _ _ (fun _ => lit_inf) _ _ _ _ p3,
    array_real (φ := .f32) _ _ (fun _ => lit_inf) _ _ _ _ p4,
    array_real (φ := .f32) _ _ (fun _ => lit_inf) _ _ _ _ p5,
    array_real (φ := .f32) _ _ (fun _ => lit_inf) _ _ _ _ p6,
    array_real (φ := .f32) _ _ (fun _ => lit_inf) _ _ _ _ p8,
    array_real (φ := .f32) _ _ (fun _ => lit_inf) _ _ _ _ p9⟩

/-- The reference runs and leaves its arguments. -/
theorem quiescent_ref : quiescent_MixInBwdRefIdeal := fun m g _ =>
  (θ_run MixInBwdRefIdeal.defs _ _).mono (fun r h => ⟨fun c => (h c).2.2.2,
    Idealize.ShloMosaic.sem_eq_zero_of_no_sems (by decide) r.2⟩) (MixInBwdRefIdeal.Value.run (F := Ideal) m g)

set_option maxHeartbeats 2000000 in
/-- The results are the reference's, for finite arguments. -/
theorem algebraic : algebraic_MixInBwdIdeal_MixInBwdRefIdeal_pre_finite_mix_in_bwd := by
  intro m g m' g' hpre hagree
  refine ⟨fun c => MixInBwdRefIdeal.Read.val_main_v60 (F := Ideal) (m ((c.tc : Thread MixInBwdIdeal.nD MixInBwdIdeal.τ).loc MixInBwdIdeal.main_arg0)) (m ((c.tc : Thread MixInBwdIdeal.nD MixInBwdIdeal.τ).loc MixInBwdIdeal.main_arg1)) (m ((c.tc : Thread MixInBwdIdeal.nD MixInBwdIdeal.τ).loc MixInBwdIdeal.main_arg2)) (m ((c.tc : Thread MixInBwdIdeal.nD MixInBwdIdeal.τ).loc MixInBwdIdeal.main_arg3)) (m ((c.tc : Thread MixInBwdIdeal.nD MixInBwdIdeal.τ).loc MixInBwdIdeal.main_arg4)) (m ((c.tc : Thread MixInBwdIdeal.nD MixInBwdIdeal.τ).loc MixInBwdIdeal.main_arg5)) (m ((c.tc : Thread MixInBwdIdeal.nD MixInBwdIdeal.τ).loc MixInBwdIdeal.main_arg6)) (m ((c.tc : Thread MixInBwdIdeal.nD MixInBwdIdeal.τ).loc MixInBwdIdeal.main_arg8)) (m ((c.tc : Thread MixInBwdIdeal.nD MixInBwdIdeal.τ).loc MixInBwdIdeal.main_arg9)),
    fun c => MixInBwdRefIdeal.Read.val_main_v63 (F := Ideal) (m ((c.tc : Thread MixInBwdIdeal.nD MixInBwdIdeal.τ).loc MixInBwdIdeal.main_arg1)) (m ((c.tc : Thread MixInBwdIdeal.nD MixInBwdIdeal.τ).loc MixInBwdIdeal.main_arg2)) (m ((c.tc : Thread MixInBwdIdeal.nD MixInBwdIdeal.τ).loc MixInBwdIdeal.main_arg3)) (m ((c.tc : Thread MixInBwdIdeal.nD MixInBwdIdeal.τ).loc MixInBwdIdeal.main_arg4)),
    fun c => MixInBwdRefIdeal.Read.val_main_v64 (F := Ideal) (m ((c.tc : Thread MixInBwdIdeal.nD MixInBwdIdeal.τ).loc MixInBwdIdeal.main_arg1)) (m ((c.tc : Thread MixInBwdIdeal.nD MixInBwdIdeal.τ).loc MixInBwdIdeal.main_arg2)) (m ((c.tc : Thread MixInBwdIdeal.nD MixInBwdIdeal.τ).loc MixInBwdIdeal.main_arg3)) (m ((c.tc : Thread MixInBwdIdeal.nD MixInBwdIdeal.τ).loc MixInBwdIdeal.main_arg4)) (m ((c.tc : Thread MixInBwdIdeal.nD MixInBwdIdeal.τ).loc MixInBwdIdeal.main_arg5)) (m ((c.tc : Thread MixInBwdIdeal.nD MixInBwdIdeal.τ).loc MixInBwdIdeal.main_arg6)) (m ((c.tc : Thread MixInBwdIdeal.nD MixInBwdIdeal.τ).loc MixInBwdIdeal.main_arg8)) (m ((c.tc : Thread MixInBwdIdeal.nD MixInBwdIdeal.τ).loc MixInBwdIdeal.main_arg9)), ?_, ?_⟩
  · refine (θ_run MixInBwdIdeal.defs _ _).mono (fun r h c => ?_) (MixInBwdIdeal.Value.run_blocks m g)
    obtain ⟨e0, e1, e2, e3⟩ := h c
    obtain ⟨⟨D, q0⟩, ⟨U, q1⟩, ⟨P, q2⟩, ⟨K, q3⟩, ⟨R, q4⟩, ⟨X, q5⟩, ⟨γ, q6⟩, ⟨S, q8⟩, ⟨W, q9⟩⟩ := reals _ _ _ _ _ _ _ _ _ _ (hpre c)
    have H : MixValue.Args m c D U P K R X γ S W := ⟨q0, q1, q2, q3, q4, q5, q6, q8, q9⟩
    refine ⟨e0.trans ?_, e1.trans ?_, e2.trans ?_, e3⟩
    · rw [MixValue.final9 m c D U P K R X γ S W H]
      beta_reduce
      rw [q0, q1, q2, q3, q4, q5, q6, q8, q9]
      exact (MixRef.v60 _ _ _ _ _ _ _ _ _).symm
    · rw [MixValue.final10 m c D U P K R X γ S W H]
      beta_reduce
      rw [q1, q2, q3, q4]
      exact (MixRef.v63 _ _ _ _).symm
    · rw [MixValue.final11 m c D U P K R X γ S W H]
      beta_reduce
      rw [q1, q2, q3, q4, q5, q6, q8, q9]
      exact (MixRef.v64 _ _ _ _ _ _ _ _).symm
  · refine (θ_run MixInBwdRefIdeal.defs _ _).mono (fun r h c => ?_) (MixInBwdRefIdeal.Value.run (F := Ideal) m' g')
    obtain ⟨e0, e1, e2, e3⟩ := h c
    obtain ⟨a0, a1, a2, a3, a4, a5, a6, a7, a8, a9⟩ := hagree c
    refine ⟨e0.trans ?_, e1.trans ?_, e2.trans ?_, e3⟩
    · beta_reduce
      rw [← a0, ← a1, ← a2, ← a3, ← a4, ← a5, ← a6, ← a8, ← a9]
      exact MixInBwdRefIdeal.Read.val_main_v60_eq _ _
    · beta_reduce
      rw [← a1, ← a2, ← a3, ← a4]
      exact MixInBwdRefIdeal.Read.val_main_v63_eq _ _ _ _
    · beta_reduce
      rw [← a1, ← a2, ← a3, ← a4, ← a5, ← a6, ← a8, ← a9]
      exact MixInBwdRefIdeal.Read.val_main_v64_eq _ _

end Cert.MixClaims

end
-- ==== Proof.Silu.lean ====
/-
  The gate `x · σ(x)` over the real numbers, `σ` the logistic function, and how the two programs' operations read there.
-/
module

public import proofs.«01_k».proof.Proof.Reals

@[expose] public section

noncomputable section

namespace Cert.Silu

open Idealize.ShloMosaic Reals

/-- The logistic function. -/
def sig (x : ℝ) : ℝ := (1 + Real.exp (-x))⁻¹
/-- The gate. -/
def silu (x : ℝ) : ℝ := x * sig x

theorem den_pos (x : ℝ) : 0 < 1 + Real.exp (-x) := by positivity

/-- The kernel's logistic operation on a real number. -/
theorem logistic_coe (x : ℝ) : Ideal.logistic (x : EReal) = ((sig x : ℝ) : EReal) := Ideal.logistic_coe x

/-- The reference's spelling of it: one over one plus the exponential of the negative. -/
theorem spelled (x : ℝ) : Ideal.div ((1 : ℝ) : EReal) (((1 : ℝ) : EReal) + Ideal.exp (-(x : EReal))) = ((sig x : ℝ) : EReal) := by
  rw [neg_coe, Ideal.exp_coe, add_coe, div_coe _ (den_pos x).ne', one_div]
  rfl

end Cert.Silu

end
-- ==== Proof.AdaRef.lean ====
/-
  What the reference of the modulation's backward pass computes, over the reals: per layer, the product of the gated
  condition's transpose and the cotangent.
-/
module

public import proofs.«01_k».proof.Proof.Mla
public import proofs.«01_k».proof.Proof.Silu
public import proofs.«01_k».proof.Proof.Gen.AdaBwdRefIdeal.Read

@[expose] public section

set_option maxRecDepth 16384
set_option backward.isDefEq.respectTransparency false

noncomputable section

namespace Cert.AdaRef

open Idealize.ShloMosaic TcCoe Reals Mla Silu AdaBwdRefIdeal AdaBwdRefIdeal.Read

variable (C : A2 16 1024) (M : A3 4 16 2304)

/-- The weight's gradient: over the conditions, the gate of the condition times the cotangent. -/
def dw : A3 4 1024 2304 := fun i => ∑ r : Fin 16, silu (C (ix2 r (i 1))) * M (ix3 (i 0) r (i 2))

theorem v0 : val_main_v0 (F := Ideal) (up C) = up fun i => silu (C i) := by
  funext i
  pointwise [val_main_v0, val_main_call0_v5, val_main_call0_v4, val_main_call0_v3, val_main_call0_v2, val_main_call0_v1,
    val_main_call0_v0, val_main_call0_cst, val_main_call0_cst_0, up, lit_one, spelled, mul_coe]
  rfl

/-- The result. -/
theorem v7 : val_main_v7 (F := Ideal) (up C) (up M) = up (dw C M) := by
  funext i
  pointwise [val_main_v7, val_main_v6, val_main_v5, v0, up, mul_coe, coe_sum]
  exact congrArg (fun z : ℝ => (z : EReal)) (Finset.sum_congr rfl fun _ _ => mul_comm _ _)

end Cert.AdaRef

end
-- ==== Proof.AdaValue.lean ====
/-
  What the modulation's backward call's result array holds after the run, over the reals: a grid point is a layer and a third
  of the columns, and its block is the product of the gated condition's transpose with the cotangent's block.
-/
module

public import proofs.«01_k».proof.Proof.AdaRef
public import proofs.«01_k».proof.Proof.Gen.AdaBwdIdeal.Value
public import Idealize.ShloMosaic.Lib.Pipeline.ValueKit.Tiles
public import Idealize.ShloMosaic.Lib.Pipeline.ReadBack

@[expose] public section

set_option maxRecDepth 16384
set_option backward.isDefEq.respectTransparency false

noncomputable section

namespace Cert.AdaValue

open AdaBwdIdeal AdaBwdIdeal.Gen Idealize.ShloMosaic TcCoe Idealize.SL.Sem
open Reals Mla Silu AdaRef
open Idealize.ShloMosaic.Pipeline (Dat)

/-- The block's product: the gate of the condition, transposed, times the cotangent's block. -/
theorem pay (C : A2 16 1024) (M : A3 1 16 768) : k0_pay1 (F := Ideal) (up C) (up M)
    = (up (fun i => ∑ r : Fin 16, silu (C (ix2 r (i 1))) * M (ix3 0 r (i 2))) : Vec Ideal S1x1024x768 .f32) := by
  funext i
  unfold k0_pay1
  pointwise [up, logistic_coe, mul_coe, coe_sum]
  rfl

/-- What a point stores. -/
theorem out (C : A2 16 1024) (M : A3 1 16 768) : out0_2 (F := Ideal) (up C) (up M)
    = (up (fun i => ∑ r : Fin 16, silu (C (ix2 r (i 1))) * M (ix3 0 r (i 2))) : Vec Ideal S1x1024x768 .f32) := by
  unfold out0_2 r0_0 r0_1 r0_2
  rw [View.canon_unit_zero (S := S1x1024x768) off3, View.ld_unit_zero (S := S16x1024) off2,
    View.ld_unit_zero (S := S1x16x768) off3, pay]

variable (m : (ℓ : Loc nD τ sig) → Buf (Elt Ideal) ℓ) (c : Dev nD)

/-- The block indices of a point. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val / 3 ∧ win0_1.index t 1 = 0 ∧ win0_1.index t 2 = t.val % 3 :=
  (by decide +kernel : ∀ t : Fin grid0.N, win0_1.index t 0 = t.val / 3 ∧ win0_1.index t 1 = 0 ∧ win0_1.index t 2 = t.val % 3)
theorem idx2 : ∀ t : Fin cfg0.N, win0_2.index t 0 = t.val / 3 ∧ win0_2.index t 1 = 0 ∧ win0_2.index t 2 = t.val % 3 :=
  (by decide +kernel : ∀ t : Fin grid0.N, win0_2.index t 0 = t.val / 3 ∧ win0_2.index t 1 = 0 ∧ win0_2.index t 2 = t.val % 3)

theorem pt_lt (t : Fin cfg0.N) : t.val < 12 := lt_of_lt_of_eq t.isLt N_0

/-- A block of the per-layer arrays: one layer, one third of the columns. -/
def third {n : Nat} (M : A3 4 n 2304) (t : Fin cfg0.N) : A3 1 n 768 := fun j =>
  M (ix3 ⟨t.val / 3, by have := pt_lt t; omega⟩ (j 1) ⟨t.val % 3 * 768 + (j 2).val, by have : (j 2).val < 768 := (j 2).isLt; omega⟩)

variable (C : A2 16 1024) (M : A3 4 16 2304)

structure Args : Prop where
  h0 : m ((c : Thread nD τ).loc main_arg0) = up C
  h3 : m ((c : Thread nD τ).loc main_arg3) = up M

theorem iblk0 (h : m ((c : Thread nD τ).loc main_arg0) = up C) (t : Fin cfg0.N) :
    (iblk m c 0 t : Vec Ideal S16x1024 .f32) = up C := by
  funext j
  unfold iblk
  rw [View.read_apply]
  show m ((c : Thread nD τ).loc main_arg0) _ = _
  rw [h]
  refine congrArg (fun z => ((C z : ℝ) : EReal)) ?_
  funext a
  apply Fin.ext
  match a with
  | ⟨0, _⟩ => show win0_0.index t 0 * 16 + 1 * (j 0).val = (j 0).val; rw [(idx0 t).1]; omega
  | ⟨1, _⟩ => show win0_0.index t 1 * 1024 + 1 * (j 1).val = (j 1).val; rw [(idx0 t).2]; omega

theorem iblk1 (h : m ((c : Thread nD τ).loc main_arg3) = up M) (t : Fin cfg0.N) :
    (iblk m c 1 t : Vec Ideal S1x16x768 .f32) = up (third M t) := by
  funext j
  have hj : (j 0).val < 1 := (j 0).isLt
  unfold iblk
  rw [View.read_apply]
  show m ((c : Thread nD τ).loc main_arg3) _ = _
  rw [h]
  refine congrArg (fun z => ((M z : ℝ) : EReal)) ?_
  funext a
  apply Fin.ext
  match a with
  | ⟨0, _⟩ => show win0_1.index t 0 * 1 + 1 * (j 0).val = t.val / 3; rw [(idx1 t).1]; omega
  | ⟨1, _⟩ => show win0_1.index t 1 * 16 + 1 * (j 1).val = (j 1).val; rw [(idx1 t).2.1]; omega
  | ⟨2, _⟩ => show win0_1.index t 2 * 768 + 1 * (j 2).val = t.val % 3 * 768 + (j 2).val; rw [(idx1 t).2.2]; omega

variable (H : Args m c C M)
include H in
/-- The result array: the weight's gradient. -/
theorem final2 : (dats m 0 c).arrAt 2 cfg0.N = (up (dw C M) : Vec Ideal S4x1024x2304 .f32) := by
  refine (dats m 0 c).arrAt_eq_of_cover 2 _ (fun t hf => ?_) fun i => ?_
  · rw [AdaBwdIdeal.Value.flushed2, iblk0 m c C H.h0, iblk1 m c M H.h3, out]
    funext j
    rw [View.read_apply]
    have hj : (j 0).val < 1 := (j 0).isLt
    have h2 : (j 2).val < 768 := (j 2).isLt
    have ht := pt_lt t
    have e : ((cfg0.win 2).blk t).view.emb j = (ix3 ⟨t.val / 3, by omega⟩ (j 1) ⟨t.val % 3 * 768 + (j 2).val, by omega⟩ : S4x1024x2304.Idx) := by
      funext a; apply Fin.ext
      match a with
      | ⟨0, _⟩ => show win0_2.index t 0 * 1 + 1 * (j 0).val = t.val / 3; rw [(idx2 t).1]; omega
      | ⟨1, _⟩ => show win0_2.index t 1 * 1024 + 1 * (j 1).val = (j 1).val; rw [(idx2 t).2.1]; omega
      | ⟨2, _⟩ => show win0_2.index t 2 * 768 + 1 * (j 2).val = t.val % 3 * 768 + (j 2).val; rw [(idx2 t).2.2]; omega
    rw [e]
    rfl
  · have h0 : (i 0 : Nat) < 4 := (i 0).isLt
    have h1 : (i 1 : Nat) < 1024 := (i 1).isLt
    have h2 : (i 2 : Nat) < 2304 := (i 2).isLt
    have hN : cfg0.N = 12 := N_0
    obtain ⟨t, ht⟩ : ∃ t : Fin cfg0.N, t.val = (i 0).val * 3 + (i 2).val / 768 := ⟨⟨(i 0).val * 3 + (i 2).val / 768, by omega⟩, rfl⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(idx2 t).1]; omega
    | ⟨1, _⟩ => show win0_2.index t 1 * 1024 ≤ (i 1 : Nat) ∧ (i 1 : Nat) < win0_2.index t 1 * 1024 + 1024
                rw [(idx2 t).2.1]; omega
    | ⟨2, _⟩ => show win0_2.index t 2 * 768 ≤ (i 2 : Nat) ∧ (i 2 : Nat) < win0_2.index t 2 * 768 + 768
                rw [(idx2 t).2.2]; omega

end Cert.AdaValue

end
-- ==== Proof.AdaClaims.lean ====
/-
  The claims about the modulation's backward call: the reference's frame, and the equality of the results over the reals, for finite arguments.
-/
module

public import proofs.«01_k».proof.Defs
public import proofs.«01_k».proof.Proof.AdaValue
public import proofs.«01_k».proof.Proof.Gen.AdaBwd.Frame
public import proofs.«01_k».proof.Proof.Gen.Pre_finite_ada_bwd

@[expose] public section

noncomputable section

namespace Cert.AdaClaims

open Idealize.ShloMosaic TcCoe Idealize.SL.Sem Reals

/-- Arguments that meet the precondition are arrays of real numbers. -/
theorem reals
    (x0 : FVec Ideal Pre_finite_ada_bwd.S16x1024 .f32)
    (x1 : FVec Ideal Pre_finite_ada_bwd.S4x1024x2304 .f32)
    (x2 : FVec Ideal Pre_finite_ada_bwd.S4x1x2304 .f32)
    (x3 : FVec Ideal Pre_finite_ada_bwd.S4x16x2304 .f32)
    (h : Pre_finite_ada_bwd.fn (F := Ideal) x0 x1 x2 x3 = fun _ => 1#1) :
    (∃ C : Pre_finite_ada_bwd.S16x1024.Idx → ℝ, x0 = up C)
      ∧ (∃ M : Pre_finite_ada_bwd.S4x16x2304.Idx → ℝ, x3 = up M) := by
  have h0 := congrFun h ix0
  unfold Pre_finite_ada_bwd.fn at h0
  obtain ⟨p0, p3⟩ := IntOp.andi_eq_one.1 h0
  exact ⟨array_real (φ := .f32) _ _ (fun _ => lit_inf) _ _ _ _ p0,
    array_real (φ := .f32) _ _ (fun _ => lit_inf) _ _ _ _ p3⟩

/-- The reference runs and leaves its arguments. -/
theorem quiescent_ref : quiescent_AdaBwdRefIdeal := fun m g _ =>
  (θ_run AdaBwdRefIdeal.defs _ _).mono (fun r h => ⟨fun c => (h c).2,
    Idealize.ShloMosaic.sem_eq_zero_of_no_sems (by decide) r.2⟩) (AdaBwdRefIdeal.Value.run (F := Ideal) m g)

set_option maxHeartbeats 2000000 in
/-- The results are the reference's, for finite arguments. -/
theorem algebraic : algebraic_AdaBwdIdeal_AdaBwdRefIdeal_pre_finite_ada_bwd := by
  intro m g m' g' hpre hagree
  refine ⟨fun c => AdaBwdRefIdeal.Read.val_main_v7 (F := Ideal) (m ((c.tc : Thread AdaBwdIdeal.nD AdaBwdIdeal.τ).loc AdaBwdIdeal.main_arg0)) (m ((c.tc : Thread AdaBwdIdeal.nD AdaBwdIdeal.τ).loc AdaBwdIdeal.main_arg3)), ?_, ?_⟩
  · refine (θ_run AdaBwdIdeal.defs _ _).mono (fun r h c => ?_) (AdaBwdIdeal.Value.run_blocks m g)
    obtain ⟨e0, e1⟩ := h c
    obtain ⟨⟨C, q0⟩, ⟨M, q3⟩⟩ := reals _ _ _ _ (hpre c)
    have H : AdaValue.Args m c C M := ⟨q0, q3⟩
    refine ⟨e0.trans ?_, e1⟩
    · rw [AdaValue.final2 m c C M H]
      beta_reduce
      rw [q0, q3]
      exact (AdaRef.v7 C M).symm
  · refine (θ_run AdaBwdRefIdeal.defs _ _).mono (fun r h c => ?_) (AdaBwdRefIdeal.Value.run (F := Ideal) m' g')
    obtain ⟨e0, e1⟩ := h c
    obtain ⟨a0, a1, a2, a3⟩ := hagree c
    refine ⟨e0.trans ?_, e1⟩
    · beta_reduce
      rw [← a0, ← a3]
      exact AdaBwdRefIdeal.Read.val_main_v7_eq _ _

end Cert.AdaClaims

end
-- ==== Proof.OutProj.lean ====
/-
  The mixers' output projection over the real numbers: the two mixers' rows side by side, their product with the weight, the
  gated sum, and the gradients.
-/
module

public import proofs.«01_k».proof.Proof.Pieces

@[expose] public section

set_option maxRecDepth 16384
set_option backward.isDefEq.respectTransparency false

noncomputable section

namespace Cert.OutProj

open Idealize.ShloMosaic TcCoe Reals Norm Mla Pieces

variable {n : Nat}

/-- The two mixers' rows side by side. -/
def cat (P M : A2 n 512) : A2 n 1024 := fun i =>
  if h : (i 1).val < 512 then P (ix2 (i 0) ⟨(i 1).val, h⟩) else M (ix2 (i 0) ⟨(i 1).val - 512, by have : (i 1).val < 1024 := (i 1).isLt; omega⟩)
/-- The projection. -/
def proj (P M : A2 n 512) (W : A2 1024 1024) : A2 n 1024 := fun i => ∑ k : Fin 1024, cat P M (ix2 (i 0) k) * W (ix2 k (i 1))
/-- The rows, transposed and cut into four stripes of columns. -/
def stripes (P M : A2 n 512) : A3 4 256 n := fun i =>
  cat P M (ix2 (i 2) ⟨(i 0).val * 256 + (i 1).val, by have : (i 0).val < 4 := (i 0).isLt; have : (i 1).val < 256 := (i 1).isLt; omega⟩)
/-- The weight, cut into four stripes of rows. -/
def shards (W : A2 1024 1024) : A3 4 256 1024 := fun i =>
  W (ix2 ⟨(i 0).val * 256 + (i 1).val, by have : (i 0).val < 4 := (i 0).isLt; have : (i 1).val < 256 := (i 1).isLt; omega⟩ (i 2))
/-- The gated cotangent. -/
def gated (D : A2 n 1024) (G : A2 1 1024) : A2 n 1024 := fun i => G (ix2 0 (i 1)) * D i
/-- The cotangent of the rows. -/
def dcat (D : A2 n 1024) (G : A2 1 1024) (W : A2 1024 1024) : A2 n 1024 := fun i => ∑ k : Fin 1024, gated D G (ix2 (i 0) k) * W (ix2 (i 1) k)
/-- The first mixer's part of it. -/
def dfirst (D : A2 n 1024) (G : A2 1 1024) (W : A2 1024 1024) : A2 n 512 := fun i =>
  dcat D G W (ix2 (i 0) ⟨(i 1).val, by have : (i 1).val < 512 := (i 1).isLt; omega⟩)
/-- The second mixer's. -/
def dsecond (D : A2 n 1024) (G : A2 1 1024) (W : A2 1024 1024) : A2 n 512 := fun i =>
  dcat D G W (ix2 (i 0) ⟨512 + (i 1).val, by have : (i 1).val < 512 := (i 1).isLt; omega⟩)
/-- The gate's gradient. -/
def dgate (D Y : A2 n 1024) : A2 1 1024 := fun i => ∑ r : Fin n, D (ix2 r (i 1)) * Y (ix2 r (i 1))

/-- A sum over 1024 columns, in four stripes. -/
theorem sum_stripes (f : Fin 1024 → ℝ) : ∑ k : Fin 1024, f k
    = ∑ k : Fin 256, f ⟨k.val, by omega⟩ + ∑ k : Fin 256, f ⟨256 + k.val, by omega⟩
      + ∑ k : Fin 256, f ⟨512 + k.val, by omega⟩ + ∑ k : Fin 256, f ⟨768 + k.val, by omega⟩ := by
  rw [Fin.sum_univ_add (a := 768) (b := 256) (f := f), Fin.sum_univ_add (a := 512) (b := 256), Fin.sum_univ_add (a := 256) (b := 256)]
  rfl

/-- A product of a stripe of columns with a stripe of the weight. -/
def mm (X : A2 n 256) (W : A3 1 256 1024) : A2 n 1024 := fun i => ∑ k : Fin 256, X (ix2 (i 0) k) * W (ix3 0 k (i 1))

/-- The projection, stripe by stripe. -/
theorem proj_stripes (P M : A2 n 512) (W : A2 1024 1024) (i) : proj P M W i
    = mm (colsOf P 0 256 (by omega)) (oneOf (shards W) 0) i + mm (colsOf P 256 256 (by omega)) (oneOf (shards W) 1) i
      + mm (colsOf M 0 256 (by omega)) (oneOf (shards W) 2) i + mm (colsOf M 256 256 (by omega)) (oneOf (shards W) 3) i := by
  unfold proj
  rw [sum_stripes]
  refine congrArg₂ (· + ·) (congrArg₂ (· + ·) (congrArg₂ (· + ·) ?_ ?_) ?_) ?_
  all_goals refine Finset.sum_congr rfl fun k _ => ?_
  · refine congrArg₂ (· * ·) ((dif_pos (show k.val < 512 by omega)).trans ?_) ?_
    · exact congrArg (fun z => P (ix2 (i 0) z)) (Fin.ext (show k.val = 0 + k.val by omega))
    · exact congrArg (fun z => W (ix2 z (i 1))) (Fin.ext (show k.val = 0 * 256 + k.val by omega))
  · refine congrArg₂ (· * ·) ((dif_pos (show 256 + k.val < 512 by omega)).trans rfl) rfl
  · refine congrArg₂ (· * ·) ((dif_neg (show ¬512 + k.val < 512 by omega)).trans ?_) rfl
    exact congrArg (fun z => M (ix2 (i 0) z)) (Fin.ext (show 512 + k.val - 512 = 0 + k.val by omega))
  · refine congrArg₂ (· * ·) ((dif_neg (show ¬768 + k.val < 512 by omega)).trans ?_) rfl
    exact congrArg (fun z => M (ix2 (i 0) z)) (Fin.ext (show 768 + k.val - 512 = 256 + k.val by omega))

end Cert.OutProj

end
-- ==== Proof.OutProjKernel.lean ====
/-
  What one grid point of the output projection's two calls computes, over the reals: the values its body stores.
-/
module

public import proofs.«01_k».proof.Proof.OutProj
public import proofs.«01_k».proof.Proof.Gen.OutProjIdeal.Skeleton

@[expose] public section

set_option maxRecDepth 16384
set_option backward.isDefEq.respectTransparency false

noncomputable section

namespace Cert.OutProjKernel

open Idealize.ShloMosaic TcCoe Reals Norm Mla OutProj OutProjIdeal OutProjIdeal.Gen

/-- A stripe of columns, transposed. -/
def flip (X : A2 512 256) : A3 1 256 512 := fun i => X (ix2 (i 2) (i 1))

theorem pay1 (X : A2 512 256) : k0_pay1 (up X) = upb X := by
  funext i; unfold k0_pay1; pointwise [up, upb]
theorem pay6 (X : A2 512 256) : k0_pay6 (up X) = upb X := by
  funext i; unfold k0_pay6; pointwise [up, upb]
theorem pay8 (X : A2 512 256) : k0_pay8 (up X) = upb X := by
  funext i; unfold k0_pay8; pointwise [up, upb]
theorem pay11 (X : A2 512 256) : k0_pay11 (up X) = upb X := by
  funext i; unfold k0_pay11; pointwise [up, upb]
theorem pay2 (X : A2 512 256) : k0_pay2 (up X) = upb (flip X) := by
  funext i; unfold k0_pay2; pointwise [pay1, up, upb]; rfl
theorem pay7 (X : A2 512 256) : k0_pay7 (up X) = upb (flip X) := by
  funext i; unfold k0_pay7; pointwise [pay6, up, upb]; rfl
theorem pay9 (X : A2 512 256) : k0_pay9 (up X) = upb (flip X) := by
  funext i; unfold k0_pay9; pointwise [pay8, up, upb]; rfl
theorem pay12 (X : A2 512 256) : k0_pay12 (up X) = upb (flip X) := by
  funext i; unfold k0_pay12; pointwise [pay11, up, upb]; rfl
theorem pay13 (W : A3 1 256 1024) : k0_pay13 (upb W) = upb fun i => W (ix3 0 (i 0) (i 1)) := by
  funext i; unfold k0_pay13; pointwise [up, upb]

/-- The first two stripes' products. -/
theorem pay10 (X Z : A2 512 256) (W U : A3 1 256 1024) : k0_pay10 (up X) (upb W) (up Z) (upb U) = up fun i => mm X W i + mm Z U i := by
  funext i
  unfold k0_pay10
  pointwise [pay6, pay8, up, upb, mul_coe, coe_sum, add_coe]
  rfl

/-- All four stripes' products. -/
theorem pay3 (Y : A2 512 1024) (X Z : A2 512 256) (W U : A3 1 256 1024) :
    k0_pay3 (up Y) (upb X) (upb fun i => W (ix3 0 (i 0) (i 1))) (up Z) (upb U) = up fun i => Y i + mm X W i + mm Z U i := by
  funext i
  unfold k0_pay3
  pointwise [pay1, up, upb, mul_coe, coe_sum, add_coe]
  rfl
theorem pay4 (Y : A2 512 1024) (X Z : A2 512 256) (W U : A3 1 256 1024) :
    k0_pay4 (up Y) (upb X) (upb fun i => W (ix3 0 (i 0) (i 1))) (up Z) (upb U) = upb fun i => Y i + mm X W i + mm Z U i := by
  funext i
  unfold k0_pay4
  pointwise [pay3 Y X Z W U, up, upb]
theorem pay5 (Y : A2 512 1024) (X Z : A2 512 256) (W U : A3 1 256 1024) (R : A2 512 1024) (G : A2 1 1024) :
    k0_pay5 (up Y) (upb X) (upb fun i => W (ix3 0 (i 0) (i 1))) (up Z) (upb U) (up R) (up G)
      = up fun i => R i + gated (fun i => Y i + mm X W i + mm Z U i) G i := by
  funext i
  unfold k0_pay5
  pointwise [pay3 Y X Z W U, up, upb, mul_coe, add_coe]
  rfl

/-- A product of the gated cotangent with a stripe of the weight, transposed. -/
def mmt (D : A2 512 1024) (W : A3 1 256 1024) : A2 512 256 := fun i => ∑ k : Fin 1024, D (ix2 (i 0) k) * W (ix3 0 (i 1) k)

theorem bpay1 (D : A2 512 1024) (W : A3 1 256 1024) : k1_pay1 (upb D) (upb W) = up (mmt D W) := by
  funext i; unfold k1_pay1; pointwise [up, upb, mul_coe, coe_sum]; rfl
theorem bpay2 (D : A2 512 1024) (W : A3 1 256 1024) : k1_pay2 (upb D) (upb W) = up (mmt D W) := by
  funext i; unfold k1_pay2; pointwise [up, upb, mul_coe, coe_sum]; rfl
theorem bpay3 : k1_pay3 (F := Ideal) = up fun _ => 0 := by
  funext i; unfold k1_pay3; pointwise [up]; rfl
theorem bpay4 (D : A2 512 1024) (G : A2 1 1024) : k1_pay4 (up D) (up G) = upb (gated D G) := by
  funext i; unfold k1_pay4; pointwise [up, upb, mul_coe]; rfl
theorem bpay5 (D : A2 512 1024) (E : A2 1 1024) (Y : A2 512 1024) : k1_pay5 (up D) (up E) (upb Y) = up fun i => E i + dgate D Y i := by
  funext i
  unfold k1_pay5
  pointwise [up, upb, mul_coe, coe_sum, add_coe]
  rfl
theorem bpay6 (D : A2 512 1024) (G : A2 1 1024) (W : A3 1 256 1024) : k1_pay6 (up D) (up G) (upb W) = up (mmt (gated D G) W) := by
  funext i; unfold k1_pay6; pointwise [bpay4, up, upb, mul_coe, coe_sum]; rfl
theorem bpay7 (D : A2 512 1024) (G : A2 1 1024) (W : A3 1 256 1024) : k1_pay7 (up D) (up G) (upb W) = up (mmt (gated D G) W) := by
  funext i; unfold k1_pay7; pointwise [bpay4, up, upb, mul_coe, coe_sum]; rfl

end Cert.OutProjKernel

end
-- ==== Proof.OutProjBlock.lean ====
/-
  What one grid point of the output projection's two calls leaves in its result blocks, over the reals. Of the second call
  the first point starts the gate's gradient from zero; a later one adds to what the point before left.
-/
module

public import proofs.«01_k».proof.Proof.OutProjKernel
public import proofs.«01_k».proof.Proof.Gen.OutProjIdeal.Frame

@[expose] public section

set_option maxRecDepth 16384
set_option backward.isDefEq.respectTransparency false

noncomputable section

namespace Cert.OutProjBlock

open Idealize.ShloMosaic TcCoe Idealize.SL.Sem Reals Norm Mla OutProj Pieces OutProjKernel OutProjIdeal OutProjIdeal.Gen

section First

variable (P M : A2 512 512) (W : A2 1024 1024) (X : A2 512 1024) (G : A2 1 1024)

theorem proj_sum : (fun i => mm (colsOf P 0 256 (by omega)) (oneOf (shards W) 0) i + mm (colsOf P 256 256 (by omega)) (oneOf (shards W) 1) i
      + mm (colsOf M 0 256 (by omega)) (oneOf (shards W) 2) i + mm (colsOf M 256 256 (by omega)) (oneOf (shards W) 3) i) = proj P M W :=
  funext fun i => (proj_stripes P M W i).symm

/-- THE BLOCK of the rows after the projection. -/
theorem out5 : out0_5 (F := Ideal) (up P) (up M) (upb (shards W)) (up X) (up G) = up fun i => X i + gated (proj P M W) G i := by
  unfold out0_5 k0_pay16 k0_pay15 k0_pay14 r0_0 r0_2 r0_3 r0_5 r0_7 r0_9 r0_10 r0_11
  simp only [View.canon_unit_zero (S := S512x1024) off2, View.ld_unit_zero (S := S512x1024) off2, View.ld_unit_zero (S := S1x1024) off2,
    ld_cols P 0 256 (by omega), ld_cols P 256 256 (by omega), ld_cols M 0 256 (by omega), ld_cols M 256 256 (by omega),
    ld_fourb, pay10, pay11, pay13, pay5]
  exact congrArg (fun Z : A2 512 1024 => up fun i => X i + gated Z G i) (proj_sum P M W)

/-- THE BLOCK of the projection kept for the second call. -/
theorem out7 : out0_7 (F := Ideal) (up P) (up M) (upb (shards W)) (up X) (up G) = upb (proj P M W) := by
  unfold out0_7 k0_pay16 k0_pay15 k0_pay14 r0_0 r0_2 r0_3 r0_5 r0_7 r0_9 r0_10
  simp only [View.canon_unit_zero (S := S512x1024) off2,
    ld_cols P 0 256 (by omega), ld_cols P 256 256 (by omega), ld_cols M 0 256 (by omega), ld_cols M 256 256 (by omega),
    ld_fourb, pay10, pay11, pay13, pay4]
  exact congrArg (fun Z : A2 512 1024 => upb Z) (proj_sum P M W)

/-- THE BLOCK of the transposed rows. -/
theorem out6 : out0_6 (F := Ideal) (up P) (up M) (upb (shards W)) (up X) (up G) = upb (stripes P M) := by
  unfold out0_6
  funext y
  refine View.canon_apply_of_pieces (Val := Elt Ideal) (S := S4x256x512) (e := .bf16) (upb (stripes P M)) _ (View.PiecesOf.mem ?_) y (cover0_6 _ _ _ _ y)
  unfold r0_8 r0_6 r0_4 r0_1 r0_0 r0_3
  simp only [ld_cols P 0 256 (by omega), ld_cols P 256 256 (by omega), ld_cols M 0 256 (by omega), ld_cols M 256 256 (by omega), pay7, pay9, pay12, pay2]
  refine ⟨piece_one _ _ 3 3 rfl inb_S4x256x512_S1x256x512_3_0_0 fun r q => ?_, piece_one _ _ 2 2 rfl inb_S4x256x512_S1x256x512_2_0_0 fun r q => ?_,
    piece_one _ _ 1 1 rfl inb_S4x256x512_S1x256x512_1_0_0 fun r q => ?_, piece_one _ _ 0 0 rfl inb_S4x256x512_S1x256x512_0_0_0 fun r q => ?_, trivial⟩
  · refine Eq.trans ?_ (dif_neg (show ¬3 * 256 + r.val < 512 by omega)).symm
    exact congrArg (fun z => M (ix2 q z)) (Fin.ext (show 256 + r.val = 3 * 256 + r.val - 512 by omega))
  · refine Eq.trans ?_ (dif_neg (show ¬2 * 256 + r.val < 512 by omega)).symm
    exact congrArg (fun z => M (ix2 q z)) (Fin.ext (show 0 + r.val = 2 * 256 + r.val - 512 by omega))
  · refine Eq.trans ?_ (dif_pos (show 1 * 256 + r.val < 512 by omega)).symm
    exact congrArg (fun z => P (ix2 q z)) (Fin.ext (show 256 + r.val = 1 * 256 + r.val by omega))
  · refine Eq.trans ?_ (dif_pos (show 0 * 256 + r.val < 512 by omega)).symm
    exact congrArg (fun z => P (ix2 q z)) (Fin.ext (show 0 + r.val = 0 * 256 + r.val by omega))

end First

section Second

variable (D Y : A2 512 1024) (G : A2 1 1024) (W : A2 1024 1024)
variable (c : Dev nD) (i : grid1.Coords)
  (a1 : Memref sig .tc .vmem S512x1024 .f32) (h1 : a1.IsWhole) (a2 : Memref sig .tc .vmem S512x1024 .bf16) (h2 : a2.IsWhole) (a3 : Memref sig .tc .vmem S1x1024 .f32) (h3 : a3.IsWhole) (a4 : Memref sig .tc .vmem S4x256x1024 .bf16) (h4 : a4.IsWhole) (a5 : Memref sig .tc .vmem S512x1024 .bf16) (h5 : a5.IsWhole) (a6 : Memref sig .tc .vmem S512x512 .f32) (h6 : a6.IsWhole) (a7 : Memref sig .tc .vmem S512x512 .f32) (h7 : a7.IsWhole) (a8 : Memref sig .tc .vmem S1x1024 .f32) (h8 : a8.IsWhole)

theorem first_0 (r : Fin 512) (q : Fin 256) (q' : Fin 512) (e : q'.val = 0 + q.val) : mmt (gated D G) (oneOf (shards W) 0) (ix2 r q) = dfirst D G W (ix2 r q') :=
  Finset.sum_congr rfl fun k _ => congrArg (fun z => gated D G (ix2 r k) * W (ix2 z k)) (Fin.ext (show 0 * 256 + q.val = q'.val by omega))
theorem first_1 (r : Fin 512) (q : Fin 256) (q' : Fin 512) (e : q'.val = 256 + q.val) : mmt (gated D G) (oneOf (shards W) 1) (ix2 r q) = dfirst D G W (ix2 r q') :=
  Finset.sum_congr rfl fun k _ => congrArg (fun z => gated D G (ix2 r k) * W (ix2 z k)) (Fin.ext (show 1 * 256 + q.val = q'.val by omega))
theorem second_0 (r : Fin 512) (q : Fin 256) (q' : Fin 512) (e : q'.val = 0 + q.val) : mmt (gated D G) (oneOf (shards W) 2) (ix2 r q) = dsecond D G W (ix2 r q') :=
  Finset.sum_congr rfl fun k _ => congrArg (fun z => gated D G (ix2 r k) * W (ix2 z k)) (Fin.ext (show 2 * 256 + q.val = 512 + q'.val by omega))
theorem second_1 (r : Fin 512) (q : Fin 256) (q' : Fin 512) (e : q'.val = 256 + q.val) : mmt (gated D G) (oneOf (shards W) 3) (ix2 r q) = dsecond D G W (ix2 r q') :=
  Finset.sum_congr rfl fun k _ => congrArg (fun z => gated D G (ix2 r k) * W (ix2 z k)) (Fin.ext (show 3 * 256 + q.val = 512 + q'.val by omega))

/-- THE BLOCK of the gated cotangent, at the first point. -/
theorem out4A (hc : cond1_0 i) : out1_A_4 (F := Ideal) c i a1 h1 a2 h2 a3 h3 a4 h4 a5 h5 a6 h6 a7 h7 a8 h8 hc
    (up D) (upb Y) (up G) (upb (shards W)) = upb (gated D G) := by
  unfold out1_A_4
  rw [View.read_writes_eq_canon _ _ _ (fun _ => cover1_A_4 ..)]
  unfold kernelRun1_A; dsimp only; sl_unfold_words
  simp only [View.canon_unit_zero (S := S512x1024) off2, View.readAt_eq_ld, Memref.IsWhole.read_unread, View.ld_unit_zero (S := S512x1024) off2, View.ld_unit_zero (S := S1x1024) off2,
    ld_fourb, bpay4, bpay6, bpay7, bpay1, bpay2]

/-- THE BLOCK of the first mixer's cotangent, at the first point. -/
theorem out5A' (hc : cond1_0 i) : out1_A_5 (F := Ideal) c i a1 h1 a2 h2 a3 h3 a4 h4 a5 h5 a6 h6 a7 h7 a8 h8 hc
    (up D) (upb Y) (up G) (upb (shards W)) = up (dfirst D G W) := by
  unfold out1_A_5
  rw [View.read_writes_eq_canon _ _ _ (fun _ => cover1_A_5 ..)]
  funext y
  refine View.canon_apply_of_pieces (Val := Elt Ideal) (S := S512x512) (e := .f32) (up (dfirst D G W)) _ (View.PiecesOf.mem ?_) y (cover1_A_5 ..)
  unfold kernelRun1_A; dsimp only; sl_unfold_words
  simp only [View.readAt_eq_ld, Memref.IsWhole.read_unread, View.ld_unit_zero (S := S512x1024) off2, View.ld_unit_zero (S := S1x1024) off2,
    ld_fourb, bpay4, bpay6, bpay7, bpay1, bpay2]
  exact ⟨piece_cols _ _ 256 inb_S512x512_S512x256_0_256 (first_1 D G W), piece_cols _ _ 0 inb_S512x512_S512x256_0_0 (first_0 D G W), trivial⟩

/-- THE BLOCK of the second mixer's cotangent, at the first point. -/
theorem out6A' (hc : cond1_0 i) : out1_A_6 (F := Ideal) c i a1 h1 a2 h2 a3 h3 a4 h4 a5 h5 a6 h6 a7 h7 a8 h8 hc
    (up D) (upb Y) (up G) (upb (shards W)) = up (dsecond D G W) := by
  unfold out1_A_6
  rw [View.read_writes_eq_canon _ _ _ (fun _ => cover1_A_6 ..)]
  funext y
  refine View.canon_apply_of_pieces (Val := Elt Ideal) (S := S512x512) (e := .f32) (up (dsecond D G W)) _ (View.PiecesOf.mem ?_) y (cover1_A_6 ..)
  unfold kernelRun1_A; dsimp only; sl_unfold_words
  simp only [View.readAt_eq_ld, Memref.IsWhole.read_unread, View.ld_unit_zero (S := S512x1024) off2, View.ld_unit_zero (S := S1x1024) off2,
    ld_fourb, bpay4, bpay6, bpay7, bpay1, bpay2]
  exact ⟨piece_cols _ _ 256 inb_S512x512_S512x256_0_256 (second_1 D G W), piece_cols _ _ 0 inb_S512x512_S512x256_0_0 (second_0 D G W), trivial⟩

/-- THE GATE'S GRADIENT, at the first point. -/
theorem out7A (hc : cond1_0 i) : out1_A_7 (F := Ideal) c i a1 h1 a2 h2 a3 h3 a4 h4 a5 h5 a6 h6 a7 h7 a8 h8 hc
    (up D) (upb Y) (up G) (upb (shards W)) = up fun j => 0 + dgate D Y j := by
  unfold out1_A_7
  rw [View.read_writes_eq_canon _ _ _ (fun _ => cover1_A_7 ..)]
  unfold kernelRun1_A; dsimp only; sl_unfold_words
  simp only [View.canon_cons_unit_zero (S := S1x1024) off2, View.readAt_eq_ld, Memref.IsWhole.read_unread, View.ld_unit_zero (S := S512x1024) off2, View.ld_unit_zero (S := S1x1024) off2,
    ld_fourb, bpay4, bpay6, bpay7, bpay1, bpay2, View.readCov_unit_zero (S := S1x1024) _ off2, bpay3, bpay5]

/-- THE BLOCK of the gated cotangent, at a later point. -/
theorem out4B (hc : ¬cond1_0 i) (E : A2 1 1024) : out1_B_4 (F := Ideal) c i a1 h1 a2 h2 a3 h3 a4 h4 a5 h5 a6 h6 a7 h7 a8 h8 hc
    (up D) (upb Y) (up G) (upb (shards W)) (up E) = upb (gated D G) := by
  unfold out1_B_4
  rw [View.read_writes_eq_canon _ _ _ (fun _ => cover1_B_4 ..)]
  unfold kernelRun1_B; dsimp only; sl_unfold_words
  simp only [View.canon_unit_zero (S := S512x1024) off2, View.readAt_eq_ld, Memref.IsWhole.read_unread, View.ld_unit_zero (S := S512x1024) off2, View.ld_unit_zero (S := S1x1024) off2,
    ld_fourb, bpay4, bpay6, bpay7, bpay1, bpay2]

/-- THE BLOCK of the first mixer's cotangent, at a later point. -/
theorem out5B' (hc : ¬cond1_0 i) (E : A2 1 1024) : out1_B_5 (F := Ideal) c i a1 h1 a2 h2 a3 h3 a4 h4 a5 h5 a6 h6 a7 h7 a8 h8 hc
    (up D) (upb Y) (up G) (upb (shards W)) (up E) = up (dfirst D G W) := by
  unfold out1_B_5
  rw [View.read_writes_eq_canon _ _ _ (fun _ => cover1_B_5 ..)]
  funext y
  refine View.canon_apply_of_pieces (Val := Elt Ideal) (S := S512x512) (e := .f32) (up (dfirst D G W)) _ (View.PiecesOf.mem ?_) y (cover1_B_5 ..)
  unfold kernelRun1_B; dsimp only; sl_unfold_words
  simp only [View.readAt_eq_ld, Memref.IsWhole.read_unread, View.ld_unit_zero (S := S512x1024) off2, View.ld_unit_zero (S := S1x1024) off2,
    ld_fourb, bpay4, bpay6, bpay7, bpay1, bpay2]
  exact ⟨piece_cols _ _ 256 inb_S512x512_S512x256_0_256 (first_1 D G W), piece_cols _ _ 0 inb_S512x512_S512x256_0_0 (first_0 D G W), trivial⟩

/-- THE BLOCK of the second mixer's cotangent, at a later point. -/
theorem out6B' (hc : ¬cond1_0 i) (E : A2 1 1024) : out1_B_6 (F := Ideal) c i a1 h1 a2 h2 a3 h3 a4 h4 a5 h5 a6 h6 a7 h7 a8 h8 hc
    (up D) (upb Y) (up G) (upb (shards W)) (up E) = up (dsecond D G W) := by
  unfold out1_B_6
  rw [View.read_writes_eq_canon _ _ _ (fun _ => cover1_B_6 ..)]
  funext y
  refine View.canon_apply_of_pieces (Val := Elt Ideal) (S := S512x512) (e := .f32) (up (dsecond D G W)) _ (View.PiecesOf.mem ?_) y (cover1_B_6 ..)
  unfold kernelRun1_B; dsimp only; sl_unfold_words
  simp only [View.readAt_eq_ld, Memref.IsWhole.read_unread, View.ld_unit_zero (S := S512x1024) off2, View.ld_unit_zero (S := S1x1024) off2,
    ld_fourb, bpay4, bpay6, bpay7, bpay1, bpay2]
  exact ⟨piece_cols _ _ 256 inb_S512x512_S512x256_0_256 (second_1 D G W), piece_cols _ _ 0 inb_S512x512_S512x256_0_0 (second_0 D G W), trivial⟩

/-- THE GATE'S GRADIENT, at a later point. -/
theorem out7B (hc : ¬cond1_0 i) (E : A2 1 1024) : out1_B_7 (F := Ideal) c i a1 h1 a2 h2 a3 h3 a4 h4 a5 h5 a6 h6 a7 h7 a8 h8 hc
    (up D) (upb Y) (up G) (upb (shards W)) (up E) = up fun j => E j + dgate D Y j := by
  unfold out1_B_7
  rw [View.read_writes_eq_canon _ _ _ (fun _ => cover1_B_7 ..)]
  unfold kernelRun1_B; dsimp only; sl_unfold_words
  simp only [View.canon_unit_zero (S := S1x1024) off2, View.readAt_eq_ld, Memref.IsWhole.read_unread, View.ld_unit_zero (S := S512x1024) off2, View.ld_unit_zero (S := S1x1024) off2,
    ld_fourb, bpay4, bpay6, bpay7, bpay1, bpay2, Memref.IsWhole.read_unread, bpay5]

end Second

end Cert.OutProjBlock

end
-- ==== Proof.OutProjValue.lean ====
/-
  What the arrays of the output projection's two calls hold after the run, over the reals: each grid point's blocks are tiles
  of 512 rows, and the gate's gradient is a sum over the four tiles.
-/
module

public import proofs.«01_k».proof.Proof.Blocks
public import proofs.«01_k».proof.Proof.OutProjBlock
public import Idealize.ShloMosaic.Lib.Claim
public import Idealize.ShloMosaic.Lib.StableHlo.ReadAt

@[expose] public section

set_option maxRecDepth 16384
set_option backward.isDefEq.respectTransparency false

noncomputable section

namespace Cert.OutProjValue

open OutProjIdeal OutProjIdeal.Gen Idealize.ShloMosaic TcCoe Idealize.SL.Sem
open Blocks Reals Norm Mla OutProj OutProjKernel OutProjBlock
open Idealize.ShloMosaic.Pipeline (Dat)

section Regions

variable (V : (c : Dev nD) → (b : Ref sig .tc) → Buf (Elt Ideal) ((c : Thread nD τ).loc b)) (c : Dev nD)

/-- A grid point of the first call as a tile number. -/
abbrev pt0 (t : Fin cfg0.N) : Fin 4 := t.cast N_0
/-- A grid point of the second call as a tile number. -/
abbrev pt1 (t : Fin cfg1.N) : Fin 4 := t.cast N_1

/-- The block indices: a tile of rows (or of columns) at each point, or the whole array. -/
theorem idx0_0 : Along 0 win0_0.index := by decide +kernel
theorem idx0_1 : Along 0 win0_1.index := by decide +kernel
theorem idx0_2 : Whole win0_2.index := by decide +kernel
theorem idx0_3 : Along 0 win0_3.index := by decide +kernel
theorem idx0_4 : Whole win0_4.index := by decide +kernel
theorem idx0_5 : Along 0 win0_5.index := by decide +kernel
theorem idx0_6 : Along 2 win0_6.index := by decide +kernel
theorem idx0_7 : Along 0 win0_7.index := by decide +kernel
theorem idx1_0 : Along 0 win1_0.index := by decide +kernel
theorem idx1_1 : Along 0 win1_1.index := by decide +kernel
theorem idx1_2 : Whole win1_2.index := by decide +kernel
theorem idx1_3 : Whole win1_3.index := by decide +kernel
theorem idx1_4 : Along 0 win1_4.index := by decide +kernel
theorem idx1_5 : Along 0 win1_5.index := by decide +kernel
theorem idx1_6 : Along 0 win1_6.index := by decide +kernel
theorem idx1_7 : Whole win1_7.index := by decide +kernel

/-- The points' blocks of the first call's arguments. -/
theorem iblk0_0 (X : A2 2048 512) (hX : V c main_arg0 = up X) (t : Fin cfg0.N) :
    (iblk0 V c 0 t : Vec Ideal S512x512 .f32) = up (tile X (pt0 t)) := funext fun j => (congrFun hX _).trans (congrArg (up X) (rows_at N_0 idx0_0 t _ j fun _ => rfl))
theorem iblk0_1 (X : A2 2048 512) (hX : V c main_arg1 = up X) (t : Fin cfg0.N) :
    (iblk0 V c 1 t : Vec Ideal S512x512 .f32) = up (tile X (pt0 t)) := funext fun j => (congrFun hX _).trans (congrArg (up X) (rows_at N_0 idx0_1 t _ j fun _ => rfl))
theorem iblk0_2 (X : A2 1024 1024) (hX : V c main_v1 = upb (shards X)) (t : Fin cfg0.N) :
    (iblk0 V c 2 t : Vec Ideal S4x256x1024 .bf16) = upb (shards X) := funext fun j => (congrFun hX _).trans (congrArg (upb (shards X)) (whole_at idx0_2 t _ j fun _ => rfl))
theorem iblk0_3 (X : A2 2048 1024) (hX : V c main_arg3 = up X) (t : Fin cfg0.N) :
    (iblk0 V c 3 t : Vec Ideal S512x1024 .f32) = up (tile X (pt0 t)) := funext fun j => (congrFun hX _).trans (congrArg (up X) (rows_at N_0 idx0_3 t _ j fun _ => rfl))
theorem iblk0_4 (X : A2 1 1024) (hX : V c main_arg4 = up X) (t : Fin cfg0.N) :
    (iblk0 V c 4 t : Vec Ideal S1x1024 .f32) = up X := funext fun j => (congrFun hX _).trans (congrArg (up X) (whole_at idx0_4 t _ j fun _ => rfl))
/-- The points' blocks of the second call's arguments. -/
theorem iblk1_0 (X : A2 2048 1024) (hX : V c main_arg5 = up X) (t : Fin cfg1.N) :
    (iblk1 V c 0 t : Vec Ideal S512x1024 .f32) = up (tile X (pt1 t)) := funext fun j => (congrFun hX _).trans (congrArg (up X) (rows_at N_1 idx1_0 t _ j fun _ => rfl))
theorem iblk1_1 (X : A2 2048 1024) (hX : V c main_v2_2 = upb X) (t : Fin cfg1.N) :
    (iblk1 V c 1 t : Vec Ideal S512x1024 .bf16) = upb (tile X (pt1 t)) := funext fun j => (congrFun hX _).trans (congrArg (upb X) (rows_at N_1 idx1_1 t _ j fun _ => rfl))
theorem iblk1_2 (X : A2 1 1024) (hX : V c main_arg4 = up X) (t : Fin cfg1.N) :
    (iblk1 V c 2 t : Vec Ideal S1x1024 .f32) = up X := funext fun j => (congrFun hX _).trans (congrArg (up X) (whole_at idx1_2 t _ j fun _ => rfl))
theorem iblk1_3 (X : A2 1024 1024) (hX : V c main_v1 = upb (shards X)) (t : Fin cfg1.N) :
    (iblk1 V c 3 t : Vec Ideal S4x256x1024 .bf16) = upb (shards X) := funext fun j => (congrFun hX _).trans (congrArg (upb (shards X)) (whole_at idx1_3 t _ j fun _ => rfl))

section First

variable (P M : A2 2048 512) (W : A2 1024 1024) (X : A2 2048 1024) (G : A2 1 1024)
variable (hP : V c main_arg0 = up P) (hM : V c main_arg1 = up M) (hW : V c main_v1 = upb (shards W)) (hX : V c main_arg3 = up X) (hG : V c main_arg4 = up G)
include hP hM hW hX hG

/-- The rows after the projection. -/
theorem final0_5 : (dat0 V c).arrAt 5 cfg0.N = (up (fun i => X i + gated (proj P M W) G i) : Vec Ideal S2048x1024 .f32) := by
  refine (dat0 V c).arrAt_eq_of_cover 5 _ (fun t hf => ?_) fun i => ⟨blockOf N_0 (i 0), flush0_5 _, ?_⟩
  · show (cfg0.win 5).cut (grid0.coords t) ((dat0 V c).after 5 t) = _
    rw [after0_5, iblk0_0 V c P hP, iblk0_1 V c M hM, iblk0_2 V c W hW, iblk0_3 V c X hX, iblk0_4 V c G hG, out5]
    funext j; rw [View.read_apply]
    have e : ((cfg0.win 5).blk t).view.emb j = (ix2 (row (pt0 t) (j 0)) (j 1) : S2048x1024.Idx) := rows_at N_0 idx0_5 t _ j fun _ => rfl
    rw [e]; rfl
  · exact in_block (along_has idx0_5 _ i rfl (by decide) (by decide))

/-- The transposed rows. -/
theorem final0_6 : (dat0 V c).arrAt 6 cfg0.N = (upb (stripes P M) : Vec Ideal S4x256x2048 .bf16) := by
  refine (dat0 V c).arrAt_eq_of_cover 6 _ (fun t hf => ?_) fun i => ⟨blockOf N_0 (i 2), flush0_6 _, ?_⟩
  · show (cfg0.win 6).cut (grid0.coords t) ((dat0 V c).after 6 t) = _
    rw [after0_6, iblk0_0 V c P hP, iblk0_1 V c M hM, iblk0_2 V c W hW, iblk0_3 V c X hX, iblk0_4 V c G hG, out6]
    funext j; rw [View.read_apply]
    have e : ((cfg0.win 6).blk t).view.emb j = (ix3 (j 0) (j 1) (row (pt0 t) (j 2)) : S4x256x2048.Idx) := last_at N_0 idx0_6 t _ j fun _ => rfl
    rw [e]; rfl
  · exact in_block (along_has idx0_6 _ i rfl (by decide) (by decide))

/-- The projection. -/
theorem final0_7 : (dat0 V c).arrAt 7 cfg0.N = (upb (proj P M W) : Vec Ideal S2048x1024 .bf16) := by
  refine (dat0 V c).arrAt_eq_of_cover 7 _ (fun t hf => ?_) fun i => ⟨blockOf N_0 (i 0), flush0_7 _, ?_⟩
  · show (cfg0.win 7).cut (grid0.coords t) ((dat0 V c).after 7 t) = _
    rw [after0_7, iblk0_0 V c P hP, iblk0_1 V c M hM, iblk0_2 V c W hW, iblk0_3 V c X hX, iblk0_4 V c G hG, out7]
    funext j; rw [View.read_apply]
    have e : ((cfg0.win 7).blk t).view.emb j = (ix2 (row (pt0 t) (j 0)) (j 1) : S2048x1024.Idx) := rows_at N_0 idx0_7 t _ j fun _ => rfl
    rw [e]; rfl
  · exact in_block (along_has idx0_7 _ i rfl (by decide) (by decide))

end First

section Second

variable (D Y : A2 2048 1024) (G : A2 1 1024) (W : A2 1024 1024)

/-- The gate's gradient from the rows below a tile. -/
def dgateTo (n : Nat) (j : (⟨2, ![1, 1024]⟩ : Shape).Idx) : ℝ := ∑ t ∈ Finset.univ.filter (fun t : Fin 4 => t.val < n), dgate (tile D t) (tile Y t) j

variable (hD : V c main_arg5 = up D) (hY : V c main_v2_2 = upb Y) (hG : V c main_arg4 = up G) (hW : V c main_v1 = upb (shards W))
include hD hY hG hW

/-- What the staging buffers hold after a point. -/
theorem outs : ∀ (n : Nat) (h : n < cfg1.N), outsAt1 V c n h
    = (upb (gated (tile D (pt1 ⟨n, h⟩)) G), up (dfirst (tile D (pt1 ⟨n, h⟩)) G W), up (dsecond (tile D (pt1 ⟨n, h⟩)) G W), up (dgateTo D Y (n + 1))) := by
  intro n
  induction n with
  | zero =>
    intro h
    refine (outsAt1_A V c ⟨0, h⟩ rfl).trans ?_
    rw [iblk1_0 V c D hD, iblk1_1 V c Y hY, iblk1_2 V c G hG, iblk1_3 V c W hW, out4A, out5A', out6A', out7A]
    refine Prod.ext rfl (Prod.ext rfl (Prod.ext rfl ?_))
    refine congrArg up (funext fun j => ?_)
    simp only [dgateTo, sum_next (N := 4) _ 0 (by norm_num)]
    simp
  | succ n ih =>
    intro h
    have hN : cfg1.N = 4 := N_1
    have hB : ¬(⟨n + 1, h⟩ : Fin cfg1.N).val % 4 = 0 := by dsimp only; omega
    refine (outsAt1_B V c ⟨n + 1, h⟩ hB).trans ?_
    have e : outsAt1 V c ((⟨n + 1, h⟩ : Fin cfg1.N).val - 1) (Nat.lt_of_le_of_lt (Nat.sub_le _ _) h) = _ :=
      ih (Nat.lt_of_succ_lt h)
    rw [e, iblk1_0 V c D hD, iblk1_1 V c Y hY, iblk1_2 V c G hG, iblk1_3 V c W hW, out4B, out5B', out6B', out7B]
    refine Prod.ext rfl (Prod.ext rfl (Prod.ext rfl ?_))
    exact congrArg up (funext fun j => (sum_next (fun t => dgate (tile D t) (tile Y t) j) (n + 1) (by omega)).symm)

/-- The projection's cotangent. -/
theorem final1_4 : (dat1 V c).arrAt 4 cfg1.N = (upb (gated D G) : Vec Ideal S2048x1024 .bf16) := by
  refine (dat1 V c).arrAt_eq_of_cover 4 _ (fun t hf => ?_) fun i => ⟨blockOf N_1 (i 0), flush1_4 _, ?_⟩
  · show (cfg1.win 4).cut (grid1.coords t) ((dat1 V c).after 4 t) = _
    rw [after1_4, outs V c D Y G W hD hY hG hW]
    funext j; rw [View.read_apply]
    have e : ((cfg1.win 4).blk t).view.emb j = (ix2 (row (pt1 t) (j 0)) (j 1) : S2048x1024.Idx) := rows_at N_1 idx1_4 t _ j fun _ => rfl
    rw [e]; rfl
  · exact in_block (along_has idx1_4 _ i rfl (by decide) (by decide))

/-- The first mixer's cotangent. -/
theorem final1_5 : (dat1 V c).arrAt 5 cfg1.N = (up (dfirst D G W) : Vec Ideal S2048x512 .f32) := by
  refine (dat1 V c).arrAt_eq_of_cover 5 _ (fun t hf => ?_) fun i => ⟨blockOf N_1 (i 0), flush1_5 _, ?_⟩
  · show (cfg1.win 5).cut (grid1.coords t) ((dat1 V c).after 5 t) = _
    rw [after1_5, outs V c D Y G W hD hY hG hW]
    funext j; rw [View.read_apply]
    have e : ((cfg1.win 5).blk t).view.emb j = (ix2 (row (pt1 t) (j 0)) (j 1) : S2048x512.Idx) := rows_at N_1 idx1_5 t _ j fun _ => rfl
    rw [e]; rfl
  · exact in_block (along_has idx1_5 _ i rfl (by decide) (by decide))

/-- The second mixer's cotangent. -/
theorem final1_6 : (dat1 V c).arrAt 6 cfg1.N = (up (dsecond D G W) : Vec Ideal S2048x512 .f32) := by
  refine (dat1 V c).arrAt_eq_of_cover 6 _ (fun t hf => ?_) fun i => ⟨blockOf N_1 (i 0), flush1_6 _, ?_⟩
  · show (cfg1.win 6).cut (grid1.coords t) ((dat1 V c).after 6 t) = _
    rw [after1_6, outs V c D Y G W hD hY hG hW]
    funext j; rw [View.read_apply]
    have e : ((cfg1.win 6).blk t).view.emb j = (ix2 (row (pt1 t) (j 0)) (j 1) : S2048x512.Idx) := rows_at N_1 idx1_6 t _ j fun _ => rfl
    rw [e]; rfl
  · exact in_block (along_has idx1_6 _ i rfl (by decide) (by decide))

/-- The gate's gradient. -/
theorem final1_7 : (dat1 V c).arrAt 7 cfg1.N = (up (dgate D Y) : Vec Ideal S1x1024 .f32) := by
  refine (dat1 V c).arrAt_eq_of_cover 7 _ (fun t hf => ?_) fun i => ⟨t1_3, (flush1_7 t1_3).mpr rfl, ?_⟩
  · have h3 : t.val % 4 = 3 := (flush1_7 t).mp hf
    have e : t.val = 3 := by have := lt_of_lt_of_eq t.isLt N_1; omega
    show (cfg1.win 7).cut (grid1.coords t) ((dat1 V c).after 7 t) = _
    rw [after1_7, outs V c D Y G W hD hY hG hW]
    funext j
    rw [View.read_apply]
    have ej : ((cfg1.win 7).blk t).view.emb j = (j : S1x1024.Idx) := whole_at idx1_7 t _ j fun _ => rfl
    rw [ej]
    show ((dgateTo D Y (t.val + 1) j : ℝ) : EReal) = ((dgate D Y j : ℝ) : EReal)
    rw [e]
    exact congrArg (fun z : ℝ => (z : EReal)) ((sum_all _).trans (sum_rows fun r => D (ix2 r (j 1)) * Y (ix2 r (j 1))))
  · exact in_block (whole_has idx1_7 _ i)

end Second

end Regions

section Launch

variable (m : (ℓ : Loc nD τ sig) → Buf (Elt Ideal) ℓ) (ρ : Dev nD → PrngReg) (c : Dev nD)

/-- The weight, cut into four. -/
theorem v1 (W : A2 1024 1024) (hW : m ((c : Thread nD τ).loc main_arg2) = up W) : V1 m ρ c main_v1 = upb (shards W) := by
  show StableHlo.after hostOps0 (W0 m ρ c) (Proc.devRef .tc main_v1) = _
  simp only [hostOps0]
  after_reads_simp
  rw [show W0 m ρ c (Proc.devRef .tc main_arg2) = up W from hW]
  funext i
  pointwise [up, upb, shards]

variable (P M : A2 2048 512) (W : A2 1024 1024) (X : A2 2048 1024) (G : A2 1 1024) (D : A2 2048 1024)

/-- The arguments are real arrays. -/
structure Args : Prop where
  h0 : m ((c : Thread nD τ).loc main_arg0) = up P
  h1 : m ((c : Thread nD τ).loc main_arg1) = up M
  h2 : m ((c : Thread nD τ).loc main_arg2) = up W
  h3 : m ((c : Thread nD τ).loc main_arg3) = up X
  h4 : m ((c : Thread nD τ).loc main_arg4) = up G
  h5 : m ((c : Thread nD τ).loc main_arg5) = up D

variable (H : Args m c P M W X G D)
include H

theorem a0 : V1 m ρ c main_arg0 = up P := (W1_args m ρ c _ (by decide)).trans H.h0
theorem a1 : V1 m ρ c main_arg1 = up M := (W1_args m ρ c _ (by decide)).trans H.h1
theorem a3 : V1 m ρ c main_arg3 = up X := (W1_args m ρ c _ (by decide)).trans H.h3
theorem a4 : V1 m ρ c main_arg4 = up G := (W1_args m ρ c _ (by decide)).trans H.h4
theorem b4 : V2 m ρ c main_arg4 = up G := (W2_args m ρ c _ (by decide)).trans H.h4
theorem b5 : V2 m ρ c main_arg5 = up D := (W2_args m ρ c _ (by decide)).trans H.h5
theorem b1 : V2 m ρ c main_v1 = upb (shards W) := (W2_of m ρ c main_v1 (by decide)).trans (v1 m ρ c W H.h2)
theorem bY : V2 m ρ c main_v2_2 = upb (proj P M W) :=
  (W2_arr m ρ c 7).trans (final0_7 (V1 m ρ) c P M W X G (a0 m ρ c P M W X G D H) (a1 m ρ c P M W X G D H) (v1 m ρ c W H.h2) (a3 m ρ c P M W X G D H) (a4 m ρ c P M W X G D H))

/-- The rows after the projection. -/
theorem res0 : W3 m ρ c (Proc.devRef .tc main_v2_0) = up fun i => X i + gated (proj P M W) G i :=
  (W3_of_ne m ρ c main_v2_0 (by decide)).trans ((W2_arr m ρ c 5).trans (final0_5 (V1 m ρ) c P M W X G (a0 m ρ c P M W X G D H) (a1 m ρ c P M W X G D H) (v1 m ρ c W H.h2) (a3 m ρ c P M W X G D H) (a4 m ρ c P M W X G D H)))
/-- The transposed rows. -/
theorem res1 : W3 m ρ c (Proc.devRef .tc main_v2_1) = upb (stripes P M) :=
  (W3_of_ne m ρ c main_v2_1 (by decide)).trans ((W2_arr m ρ c 6).trans (final0_6 (V1 m ρ) c P M W X G (a0 m ρ c P M W X G D H) (a1 m ρ c P M W X G D H) (v1 m ρ c W H.h2) (a3 m ρ c P M W X G D H) (a4 m ρ c P M W X G D H)))
/-- The projection's cotangent. -/
theorem res2 : W3 m ρ c (Proc.devRef .tc main_v3_0) = upb (gated D G) :=
  (W3_arr m ρ c 4).trans (final1_4 (V2 m ρ) c D (proj P M W) G W (b5 m ρ c P M W X G D H) (bY m ρ c P M W X G D H) (b4 m ρ c P M W X G D H) (b1 m ρ c P M W X G D H))
/-- The first mixer's cotangent. -/
theorem res3 : W3 m ρ c (Proc.devRef .tc main_v3_1) = up (dfirst D G W) :=
  (W3_arr m ρ c 5).trans (final1_5 (V2 m ρ) c D (proj P M W) G W (b5 m ρ c P M W X G D H) (bY m ρ c P M W X G D H) (b4 m ρ c P M W X G D H) (b1 m ρ c P M W X G D H))
/-- The second mixer's cotangent. -/
theorem res4 : W3 m ρ c (Proc.devRef .tc main_v3_2) = up (dsecond D G W) :=
  (W3_arr m ρ c 6).trans (final1_6 (V2 m ρ) c D (proj P M W) G W (b5 m ρ c P M W X G D H) (bY m ρ c P M W X G D H) (b4 m ρ c P M W X G D H) (b1 m ρ c P M W X G D H))
/-- The gate's gradient. -/
theorem res5 : W3 m ρ c (Proc.devRef .tc main_v3_3) = up (dgate D (proj P M W)) :=
  (W3_arr m ρ c 7).trans (final1_7 (V2 m ρ) c D (proj P M W) G W (b5 m ρ c P M W X G D H) (bY m ρ c P M W X G D H) (b4 m ρ c P M W X G D H) (b1 m ρ c P M W X G D H))

end Launch

end Cert.OutProjValue

end
-- ==== Proof.OutProjRef.lean ====
/-
  What the reference of the output projection computes, over the reals.
-/
module

public import proofs.«01_k».proof.Proof.OutProj
public import proofs.«01_k».proof.Proof.Gen.OutProjRefIdeal.Read

@[expose] public section

set_option maxRecDepth 16384
set_option backward.isDefEq.respectTransparency false

noncomputable section

namespace Cert.OutProjRef

open Idealize.ShloMosaic TcCoe Reals Norm Mla OutProj OutProjRefIdeal OutProjRefIdeal.Read

variable (P M : A2 2048 512) (W : A2 1024 1024) (X : A2 2048 1024) (G : A2 1 1024) (D : A2 2048 1024)

theorem v0 : val_main_v0 (F := Ideal) (up P) (up M) = up (cat P M) := by
  funext i
  have h1 : (i 1).val < 1024 := (i 1).isLt
  pointwise [val_main_v0, up]
  unfold cat
  by_cases h : (i 1).val < 512
  · rw [dif_pos h, dif_pos h]
  · rw [dif_neg h, dif_neg h]

theorem v1 : val_main_v1 (F := Ideal) (up P) (up M) (up W) = up (proj P M W) := by
  funext i
  pointwise [val_main_v1, v0, up, mul_coe, coe_sum]
  rfl

/-- The rows after the projection. -/
theorem v4 : val_main_v4 (F := Ideal) (up P) (up M) (up W) (up X) (up G) = up fun i => X i + gated (proj P M W) G i := by
  funext i
  pointwise [val_main_v4, val_main_v3, val_main_v2, v1, up, mul_coe, add_coe]
  rfl

theorem v6 : val_main_v6 (F := Ideal) (up G) (up D) = up (gated D G) := by
  funext i
  pointwise [val_main_v6, val_main_v5, up, mul_coe]
  rfl

/-- The projection's cotangent. -/
theorem v16 : val_main_v16 (F := Ideal) (up G) (up D) = upb (gated D G) := by
  funext i
  pointwise [val_main_v16, v6, up, upb]

/-- The gate's gradient. -/
theorem v9 : val_main_v9 (F := Ideal) (up P) (up M) (up W) (up D) = up (dgate D (proj P M W)) := by
  funext i
  pointwise [val_main_v9, val_main_v8, val_main_v7, val_main_cst, v1, up, mul_coe, coe_sum]
  rfl

theorem v10 : val_main_v10 (F := Ideal) (up W) (up G) (up D) = up (dcat D G W) := by
  funext i
  pointwise [val_main_v10, v6, up, mul_coe, coe_sum]
  rfl

/-- The first mixer's cotangent. -/
theorem v11 : val_main_v11 (F := Ideal) (up W) (up G) (up D) = up (dfirst D G W) := by
  funext i
  pointwise [val_main_v11, v10, up]
  rfl

/-- The second mixer's cotangent. -/
theorem v12 : val_main_v12 (F := Ideal) (up W) (up G) (up D) = up (dsecond D G W) := by
  funext i
  pointwise [val_main_v12, v10, up]
  rfl

/-- The rows, transposed and cut. -/
theorem v15 : val_main_v15 (F := Ideal) (up P) (up M) = upb (stripes P M) := by
  funext i
  pointwise [val_main_v15, val_main_v14, val_main_v13, v0, up, upb]
  rfl

end Cert.OutProjRef

end
-- ==== Proof.OutProjRun.lean ====
/-
  The run of the output projection's two calls: what every result array holds at its end.
-/
module

public import proofs.«01_k».proof.Proof.Reals
public import proofs.«01_k».proof.Proof.Gen.OutProjIdeal.Frame

@[expose] public section

set_option maxRecDepth 16384
set_option backward.isDefEq.respectTransparency false

noncomputable section

namespace Cert.OutProjRun

open OutProjIdeal OutProjIdeal.Gen Idealize.ShloMosaic TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable (m : (ℓ : Loc nD τ sig) → Buf (Elt Ideal) ℓ) (ρ : Dev nD → PrngReg)

set_option backward.isDefEq.respectTransparency.types false in
/-- The run ends with each result array as the calls leave it, and every argument as launched. -/
theorem run : θ_run defs (onTc (τ := τ) (main (F := Ideal))) ⟨m, fun _ => 0, ρ⟩ (fun r => ∀ c : Dev nD,
      r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_v3_2) = W3 m ρ c (Proc.devRef .tc main_v3_2)
      ∧ r.2.mem ((c.tc : Thread nD τ).loc main_v3_3) = W3 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v2_0 (by decide)),
       h c _ (mem_uc main_v2_1 (by decide)),
       h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.OutProjRun

end
-- ==== Proof.OutProjClaims.lean ====
/-
  The claims about the output projection: the reference's frame, and the equality of the results over the reals, for finite arguments.
-/
module

public import proofs.«01_k».proof.Defs
public import proofs.«01_k».proof.Proof.OutProjValue
public import proofs.«01_k».proof.Proof.OutProjRef
public import proofs.«01_k».proof.Proof.OutProjRun
public import proofs.«01_k».proof.Proof.Gen.OutProj.Frame
public import proofs.«01_k».proof.Proof.Gen.Pre_finite_out_proj

@[expose] public section

noncomputable section

namespace Cert.OutProjClaims

open Idealize.ShloMosaic TcCoe Idealize.SL.Sem Reals

/-- Arguments that meet the precondition are arrays of real numbers. -/
theorem reals
    (x0 : FVec Ideal Pre_finite_out_proj.S2048x512 .f32)
    (x1 : FVec Ideal Pre_finite_out_proj.S2048x512 .f32)
    (x2 : FVec Ideal Pre_finite_out_proj.S1024x1024 .f32)
    (x3 : FVec Ideal Pre_finite_out_proj.S2048x1024 .f32)
    (x4 : FVec Ideal Pre_finite_out_proj.S1x1024 .f32)
    (x5 : FVec Ideal Pre_finite_out_proj.S2048x1024 .f32)
    (h : Pre_finite_out_proj.fn (F := Ideal) x0 x1 x2 x3 x4 x5 = fun _ => 1#1) :
    (∃ P : Pre_finite_out_proj.S2048x512.Idx → ℝ, x0 = up P)
      ∧ (∃ M : Pre_finite_out_proj.S2048x512.Idx → ℝ, x1 = up M)
      ∧ (∃ W : Pre_finite_out_proj.S1024x1024.Idx → ℝ, x2 = up W)
      ∧ (∃ X : Pre_finite_out_proj.S2048x1024.Idx → ℝ, x3 = up X)
      ∧ (∃ G : Pre_finite_out_proj.S1x1024.Idx → ℝ, x4 = up G)
      ∧ (∃ D : Pre_finite_out_proj.S2048x1024.Idx → ℝ, x5 = up D) := by
  have h0 := congrFun h ix0
  unfold Pre_finite_out_proj.fn Pre_finite_out_proj.fn_part1 at h0
  obtain ⟨h1, p5⟩ := IntOp.andi_eq_one.1 h0
  obtain ⟨h2, p4⟩ := IntOp.andi_eq_one.1 h1
  obtain ⟨h3, p3⟩ := IntOp.andi_eq_one.1 h2
  obtain ⟨h4, p2⟩ := IntOp.andi_eq_one.1 h3
  obtain ⟨p0, p1⟩ := IntOp.andi_eq_one.1 h4
  exact ⟨array_real (φ := .f32) _ _ (fun _ => lit_inf) _ _ _ _ p0,
    array_real (φ := .f32) _ _ (fun _ => lit_inf) _ _ _ _ p1,
    array_real (φ := .f32) _ _ (fun _ => lit_inf) _ _ _ _ p2,
    array_real (φ := .f32) _ _ (fun _ => lit_inf) _ _ _ _ p3,
    array_real (φ := .f32) _ _ (fun _ => lit_inf) _ _ _ _ p4,
    array_real (φ := .f32) _ _ (fun _ => lit_inf) _ _ _ _ p5⟩

/-- The reference runs and leaves its arguments. -/
theorem quiescent_ref : quiescent_OutProjRefIdeal := fun m g _ =>
  (θ_run OutProjRefIdeal.defs _ _).mono (fun r h => ⟨fun c => (h c).2.2.2.2.2.2,
    Idealize.ShloMosaic.sem_eq_zero_of_no_sems (by decide) r.2⟩) (OutProjRefIdeal.Value.run (F := Ideal) m g)

set_option maxHeartbeats 2000000 in
/-- The results are the reference's, for finite arguments. -/
theorem algebraic : algebraic_OutProjIdeal_OutProjRefIdeal_pre_finite_out_proj := by
  intro m g m' g' hpre hagree
  refine ⟨fun c => OutProjRefIdeal.Read.val_main_v4 (F := Ideal) (m ((c.tc : Thread OutProjIdeal.nD OutProjIdeal.τ).loc OutProjIdeal.main_arg0)) (m ((c.tc : Thread OutProjIdeal.nD OutProjIdeal.τ).loc OutProjIdeal.main_arg1)) (m ((c.tc : Thread OutProjIdeal.nD OutProjIdeal.τ).loc OutProjIdeal.main_arg2)) (m ((c.tc : Thread OutProjIdeal.nD OutProjIdeal.τ).loc OutProjIdeal.main_arg3)) (m ((c.tc : Thread OutProjIdeal.nD OutProjIdeal.τ).loc OutProjIdeal.main_arg4)),
    fun c => OutProjRefIdeal.Read.val_main_v15 (F := Ideal) (m ((c.tc : Thread OutProjIdeal.nD OutProjIdeal.τ).loc OutProjIdeal.main_arg0)) (m ((c.tc : Thread OutProjIdeal.nD OutProjIdeal.τ).loc OutProjIdeal.main_arg1)),
    fun c => OutProjRefIdeal.Read.val_main_v16 (F := Ideal) (m ((c.tc : Thread OutProjIdeal.nD OutProjIdeal.τ).loc OutProjIdeal.main_arg4)) (m ((c.tc : Thread OutProjIdeal.nD OutProjIdeal.τ).loc OutProjIdeal.main_arg5)),
    fun c => OutProjRefIdeal.Read.val_main_v11 (F := Ideal) (m ((c.tc : Thread OutProjIdeal.nD OutProjIdeal.τ).loc OutProjIdeal.main_arg2)) (m ((c.tc : Thread OutProjIdeal.nD OutProjIdeal.τ).loc OutProjIdeal.main_arg4)) (m ((c.tc : Thread OutProjIdeal.nD OutProjIdeal.τ).loc OutProjIdeal.main_arg5)),
    fun c => OutProjRefIdeal.Read.val_main_v12 (F := Ideal) (m ((c.tc : Thread OutProjIdeal.nD OutProjIdeal.τ).loc OutProjIdeal.main_arg2)) (m ((c.tc : Thread OutProjIdeal.nD OutProjIdeal.τ).loc OutProjIdeal.main_arg4)) (m ((c.tc : Thread OutProjIdeal.nD OutProjIdeal.τ).loc OutProjIdeal.main_arg5)),
    fun c => OutProjRefIdeal.Read.val_main_v9 (F := Ideal) (m ((c.tc : Thread OutProjIdeal.nD OutProjIdeal.τ).loc OutProjIdeal.main_arg0)) (m ((c.tc : Thread OutProjIdeal.nD OutProjIdeal.τ).loc OutProjIdeal.main_arg1)) (m ((c.tc : Thread OutProjIdeal.nD OutProjIdeal.τ).loc OutProjIdeal.main_arg2)) (m ((c.tc : Thread OutProjIdeal.nD OutProjIdeal.τ).loc OutProjIdeal.main_arg5)), ?_, ?_⟩
  · refine (θ_run OutProjIdeal.defs _ _).mono (fun r h c => ?_) (OutProjRun.run m g)
    obtain ⟨e0, e1, e2, e3, e4, e5, e6⟩ := h c
    obtain ⟨⟨P, q0⟩, ⟨M, q1⟩, ⟨W, q2⟩, ⟨X, q3⟩, ⟨G, q4⟩, ⟨D, q5⟩⟩ := reals _ _ _ _ _ _ (hpre c)
    have H : OutProjValue.Args m c P M W X G D := ⟨q0, q1, q2, q3, q4, q5⟩
    refine ⟨e0.trans ?_, e1.trans ?_, e2.trans ?_, e3.trans ?_, e4.trans ?_, e5.trans ?_, e6⟩
    · rw [OutProjValue.res0 m g c P M W X G D H]
      beta_reduce
      rw [q0, q1, q2, q3, q4]
      exact (OutProjRef.v4 _ _ _ _ _).symm
    · rw [OutProjValue.res1 m g c P M W X G D H]
      beta_reduce
      rw [q0, q1]
      exact (OutProjRef.v15 _ _).symm
    · rw [OutProjValue.res2 m g c P M W X G D H]
      beta_reduce
      rw [q4, q5]
      exact (OutProjRef.v16 _ _).symm
    · rw [OutProjValue.res3 m g c P M W X G D H]
      beta_reduce
      rw [q2, q4, q5]
      exact (OutProjRef.v11 _ _ _).symm
    · rw [OutProjValue.res4 m g c P M W X G D H]
      beta_reduce
      rw [q2, q4, q5]
      exact (OutProjRef.v12 _ _ _).symm
    · rw [OutProjValue.res5 m g c P M W X G D H]
      beta_reduce
      rw [q0, q1, q2, q5]
      exact (OutProjRef.v9 _ _ _ _).symm
  · refine (θ_run OutProjRefIdeal.defs _ _).mono (fun r h c => ?_) (OutProjRefIdeal.Value.run (F := Ideal) m' g')
    obtain ⟨e0, e1, e2, e3, e4, e5, e6⟩ := h c
    obtain ⟨a0, a1, a2, a3, a4, a5⟩ := hagree c
    refine ⟨e0.trans ?_, e1.trans ?_, e2.trans ?_, e3.trans ?_, e4.trans ?_, e5.trans ?_, e6⟩
    · beta_reduce
      rw [← a0, ← a1, ← a2, ← a3, ← a4]
      exact OutProjRefIdeal.Read.val_main_v4_eq _ _ _ _ _
    · beta_reduce
      rw [← a0, ← a1]
      exact OutProjRefIdeal.Read.val_main_v15_eq _ _
    · beta_reduce
      rw [← a4, ← a5]
      exact OutProjRefIdeal.Read.val_main_v16_eq _ _
    · beta_reduce
      rw [← a2, ← a4, ← a5]
      exact OutProjRefIdeal.Read.val_main_v11_eq _ _ _
    · beta_reduce
      rw [← a2, ← a4, ← a5]
      exact OutProjRefIdeal.Read.val_main_v12_eq _ _ _
    · beta_reduce
      rw [← a0, ← a1, ← a2, ← a5]
      exact OutProjRefIdeal.Read.val_main_v9_eq _ _ _ _

end Cert.OutProjClaims

end
-- ==== Proof.Ffn.lean ====
/-
  The gated feed-forward block over the real numbers, on any number of rows: the normalised, scaled and shifted row, its two
  products, the gate, the product back, the gated sum with the row, and the cotangents. The 2816 inner columns are cut into
  four chunks of 704 columns, and the products are split accordingly.
-/
module

public import proofs.«01_k».proof.Proof.Pieces
public import proofs.«01_k».proof.Proof.NormMod
public import proofs.«01_k».proof.Proof.Silu

@[expose] public section

set_option maxRecDepth 16384
set_option backward.isDefEq.respectTransparency false

noncomputable section

namespace Cert.Ffn

open Idealize.ShloMosaic TcCoe Reals Norm Mla NormMod Silu Pieces

variable {n m : Nat}

/-- The normalised row with its gain, scaled and shifted. -/
def nm (X : A2 n 1024) (g s b : A2 1 1024) : A2 n 1024 := fun i =>
  X i * rs 1024 X (i 0) * g (ix2 0 (i 1)) * (1 + s (ix2 0 (i 1))) + b (ix2 0 (i 1))
/-- A product into the inner columns. -/
def lin (H : A2 n 1024) (W : A2 1024 2816) : A2 n 2816 := fun i => ∑ k : Fin 1024, H (ix2 (i 0) k) * W (ix2 k (i 1))
/-- The gate times the other product. -/
def act (G U : A2 n m) : A2 n m := fun i => silu (G i) * U i
/-- The product back. -/
def down (A : A2 n 2816) (W : A2 2816 1024) : A2 n 1024 := fun i => ∑ k : Fin 2816, A (ix2 (i 0) k) * W (ix2 k (i 1))
/-- Half the row's gate times the rows. -/
def half (T : A2 1 1024) (D : A2 n 1024) : A2 n 1024 := fun i => 1 / 2 * T (ix2 0 (i 1)) * D i
/-- The cotangent of the inner columns. -/
def dact (D : A2 n 1024) (W : A2 2816 1024) : A2 n 2816 := fun i => ∑ k : Fin 1024, D (ix2 (i 0) k) * W (ix2 (i 1) k)
/-- The derivative of the gated inner column by its gate. -/
def dsu (G U : A2 n m) : A2 n m := fun i => U i * (sig (G i) * (1 + G i * (1 - sig (G i))))
/-- A product, entry by entry. -/
def times (A B : A2 n m) : A2 n m := fun i => A i * B i
/-- The gate, entry by entry. -/
def slu (G : A2 n m) : A2 n m := fun i => silu (G i)
/-- The cotangent of the scaled and shifted rows. -/
def dh (P Q : A2 n 2816) (Wg Wu : A2 1024 2816) : A2 n 1024 := fun i =>
  ∑ k : Fin 2816, P (ix2 (i 0) k) * Wg (ix2 (i 1) k) + ∑ k : Fin 2816, Q (ix2 (i 0) k) * Wu (ix2 (i 1) k)
/-- The gradient of the row's gate. -/
def dgt (D Y : A2 n 1024) : A2 1 1024 := fun i => ∑ r : Fin n, 1 / 2 * D (ix2 r (i 1)) * Y (ix2 r (i 1))

/-- The gate's cotangent. -/
def dP (X : A2 n 1024) (g b s T : A2 1 1024) (Wg Wu : A2 1024 2816) (Wd : A2 2816 1024) (D : A2 n 1024) : A2 n 2816 :=
  times (dact (half T D) Wd) (dsu (lin (nm X g s b) Wg) (lin (nm X g s b) Wu))
/-- The other product's cotangent. -/
def dQ (X : A2 n 1024) (g b s T : A2 1 1024) (Wg : A2 1024 2816) (Wd : A2 2816 1024) (D : A2 n 1024) : A2 n 2816 :=
  times (dact (half T D) Wd) (slu (lin (nm X g s b) Wg))
/-- The cotangent of the scaled and shifted rows. -/
def dN (X : A2 n 1024) (g b s T : A2 1 1024) (Wg Wu : A2 1024 2816) (Wd : A2 2816 1024) (D : A2 n 1024) : A2 n 1024 :=
  dh (dP X g b s T Wg Wu Wd D) (dQ X g b s T Wg Wd D) Wg Wu
/-- The product back. -/
def yy (X : A2 n 1024) (g b s : A2 1 1024) (Wg Wu : A2 1024 2816) (Wd : A2 2816 1024) : A2 n 1024 :=
  down (act (lin (nm X g s b) Wg) (lin (nm X g s b) Wu)) Wd

/-- Column `k` of chunk `h`. -/
def at4 (h : Fin 4) (k : Fin 704) : Fin 2816 := ⟨h.val * 704 + k.val, by omega⟩
/-- The chunks, transposed. -/
def chunkT (Z : A2 m 2816) : A3 4 704 m := fun i => Z (ix2 (i 2) (at4 (i 0) (i 1)))
/-- The chunks. -/
def chunk (Z : A2 m 2816) : A3 4 m 704 := fun i => Z (ix2 (i 1) (at4 (i 0) (i 2)))
/-- The chunks of rows. -/
def rowsD (W : A2 2816 m) : A3 4 704 m := fun i => W (ix2 (at4 (i 0) (i 1)) (i 2))
/-- One chunk. -/
def part (Z : A2 n 2816) (h : Fin 4) : A2 n 704 := fun i => Z (ix2 (i 0) (at4 h (i 1)))
/-- A chunk transposed, as one of a stack. -/
def flip (Z : A2 n 704) : A3 1 704 n := fun i => Z (ix2 (i 2) (i 1))
/-- A chunk as one of a stack. -/
def lift (Z : A2 n 704) : A3 1 n 704 := fun i => Z (ix2 (i 1) (i 2))

/-- A product with a transposed chunk. -/
def linc (H : A2 n 1024) (V : A3 1 704 1024) : A2 n 704 := fun i => ∑ k : Fin 1024, H (ix2 (i 0) k) * V (ix3 0 (i 1) k)
/-- A chunk's product back. -/
def downc (A : A2 n 704) (V : A3 1 704 1024) : A2 n 1024 := fun i => ∑ k : Fin 704, A (ix2 (i 0) k) * V (ix3 0 k (i 1))

/-- A sum over the inner columns, in four chunks. -/
theorem sum_chunks (f : Fin 2816 → ℝ) : ∑ k : Fin 2816, f k
    = ∑ k : Fin 704, f (at4 0 k) + ∑ k : Fin 704, f (at4 1 k) + ∑ k : Fin 704, f (at4 2 k) + ∑ k : Fin 704, f (at4 3 k) := by
  rw [Fin.sum_univ_add (a := 2112) (b := 704) (f := f), Fin.sum_univ_add (a := 1408) (b := 704), Fin.sum_univ_add (a := 704) (b := 704)]
  refine congrArg₂ (· + ·) (congrArg₂ (· + ·) (congrArg₂ (· + ·) ?_ ?_) ?_) ?_
  all_goals refine Finset.sum_congr rfl fun k _ => congrArg f (Fin.ext ?_)
  · show k.val = 0 * 704 + k.val
    omega
  all_goals rfl

/-- The product back, chunk by chunk. -/
theorem down_parts (A : A2 n 2816) (W : A2 2816 1024) (i) : down A W i
    = downc (part A 0) (oneOf (rowsD W) 0) i + downc (part A 1) (oneOf (rowsD W) 1) i
      + downc (part A 2) (oneOf (rowsD W) 2) i + downc (part A 3) (oneOf (rowsD W) 3) i := by
  unfold down
  rw [sum_chunks]
  rfl

/-- The cotangent of the scaled and shifted rows, chunk by chunk. -/
theorem dh_parts (P Q : A2 n 2816) (Wg Wu : A2 1024 2816) (i) : dh P Q Wg Wu i
    = downc (part P 0) (oneOf (chunkT Wg) 0) i + downc (part Q 0) (oneOf (chunkT Wu) 0) i
      + (downc (part P 1) (oneOf (chunkT Wg) 1) i + downc (part Q 1) (oneOf (chunkT Wu) 1) i)
      + (downc (part P 2) (oneOf (chunkT Wg) 2) i + downc (part Q 2) (oneOf (chunkT Wu) 2) i)
      + (downc (part P 3) (oneOf (chunkT Wg) 3) i + downc (part Q 3) (oneOf (chunkT Wu) 3) i) := by
  unfold dh
  rw [sum_chunks, sum_chunks]
  show _ + _ + _ + _ + (_ + _ + _ + _) = (_ + _) + (_ + _) + (_ + _) + (_ + _)
  ring!

end Cert.Ffn

end
-- ==== Proof.FfnKernel.lean ====
/-
  What one grid point of the gated feed-forward block's three calls computes, over the reals: the values its body stores.
-/
module

public import proofs.«01_k».proof.Proof.Ffn
public import proofs.«01_k».proof.Proof.Gen.FfnIdeal.Skeleton

@[expose] public section

set_option maxRecDepth 16384
set_option backward.isDefEq.respectTransparency false

noncomputable section

namespace Cert.FfnKernel

open Idealize.ShloMosaic TcCoe Reals Norm Mla NormMod Silu Ffn FfnIdeal FfnIdeal.Gen

/-! The forward call. -/

section Forward
variable (X H : A2 512 1024) (g b s : A2 1 1024) (V U : A3 1 704 1024) (G M S : A2 512 704) (Y : A2 512 1024)

/-- The inverse root of the row's mean square. -/
theorem root (i : Fin 512) : Ideal.rsqrt (((∑ k : Fin 1024, X (ix2 i k) * X (ix2 i k)) / 1024 : ℝ) + (eps : ℝ) : EReal) = ((rs 1024 X i : ℝ) : EReal) := by
  rw [add_coe]
  exact rsqrt_coe (ms_pos (by norm_num) X _)

theorem pay1 : k0_pay1 (up X) (up g) (up s) (up b) = upb (nm X g s b) := by
  funext i; unfold k0_pay1; pointwise [up, upb, lit_1024, lit_eps, lit_one, coe_sum, mul_coe]
  rw [div_coe _ (by norm_num), root]
  simp only [mul_coe, add_coe]
  rfl
theorem pay2 : k0_pay2 (F := Ideal) = up fun _ => 0 := by
  funext i; unfold k0_pay2; pointwise [up]; rfl
theorem pay3 : k0_pay3 (up X) (up g) (up s) (up b) (upb V) = up (linc (nm X g s b) V) := by
  funext i; unfold k0_pay3; pointwise [pay1, up, upb, mul_coe, coe_sum]; rfl
theorem pay4 : k0_pay4 (up X) (up g) (up s) (up b) (upb V) = up (linc (nm X g s b) V) := by
  funext i; unfold k0_pay4; pointwise [pay1, up, upb, mul_coe, coe_sum]; rfl
theorem pay5 : k0_pay5 (up X) (up g) (up s) (up b) (upb V) = up fun i => sig (linc (nm X g s b) V i) := by
  funext i; unfold k0_pay5; pointwise [pay3, logistic_coe, up]
theorem pay6 : k0_pay6 (up X) (up g) (up s) (up b) (upb V) = up (slu (linc (nm X g s b) V)) := by
  funext i; unfold k0_pay6; pointwise [pay3, pay5, up, mul_coe]; rfl
theorem pay7 : k0_pay7 (up X) (up g) (up s) (up b) (upb V) (upb U) = upb (act (linc (nm X g s b) V) (linc (nm X g s b) U)) := by
  funext i; unfold k0_pay7; pointwise [pay4, pay6, up, upb, mul_coe]; rfl
theorem pay12 : k0_pay12 (upb H) (upb V) = up (linc H V) := by
  funext i; unfold k0_pay12; pointwise [up, upb, mul_coe, coe_sum]; rfl
theorem pay13 : k0_pay13 (upb H) (upb V) = up (linc H V) := by
  funext i; unfold k0_pay13; pointwise [up, upb, mul_coe, coe_sum]; rfl
theorem pay14 : k0_pay14 (upb H) (upb V) = up fun i => sig (linc H V i) := by
  funext i; unfold k0_pay14; pointwise [pay12, logistic_coe, up]
theorem pay15 : k0_pay15 (upb H) (upb V) = up (slu (linc H V)) := by
  funext i; unfold k0_pay15; pointwise [pay12, pay14, up, mul_coe]; rfl
theorem pay16 : k0_pay16 (upb H) (upb V) (upb U) = upb (act (linc H V) (linc H U)) := by
  funext i; unfold k0_pay16; pointwise [pay13, pay15, up, upb, mul_coe]; rfl
theorem pay17 : k0_pay17 (upb H) (upb V) (upb U) = upb fun i => act (linc H V) (linc H U) (ix2 (i 1) (i 0)) := by
  funext i; unfold k0_pay17; pointwise [pay16, up, upb]
theorem pay22 : k0_pay22 (upb H) (upb V) = up (linc H V) := by
  funext i; unfold k0_pay22; pointwise [up, upb, mul_coe, coe_sum]; rfl
theorem pay23 : k0_pay23 (upb H) (upb V) = up (linc H V) := by
  funext i; unfold k0_pay23; pointwise [up, upb, mul_coe, coe_sum]; rfl
theorem pay24 : k0_pay24 (upb H) (upb V) = up fun i => sig (linc H V i) := by
  funext i; unfold k0_pay24; pointwise [pay22, logistic_coe, up]
theorem pay25 : k0_pay25 (upb H) (upb V) = up (slu (linc H V)) := by
  funext i; unfold k0_pay25; pointwise [pay22, pay24, up, mul_coe]; rfl
theorem pay26 : k0_pay26 (upb H) (upb V) (upb U) = upb (act (linc H V) (linc H U)) := by
  funext i; unfold k0_pay26; pointwise [pay23, pay25, up, upb, mul_coe]; rfl
theorem pay27 : k0_pay27 (upb H) (upb V) (upb U) = upb fun i => act (linc H V) (linc H U) (ix2 (i 1) (i 0)) := by
  funext i; unfold k0_pay27; pointwise [pay26, up, upb]
theorem pay32 : k0_pay32 (upb H) (upb V) = up (linc H V) := by
  funext i; unfold k0_pay32; pointwise [up, upb, mul_coe, coe_sum]; rfl
theorem pay33 : k0_pay33 (upb H) (upb V) = up (linc H V) := by
  funext i; unfold k0_pay33; pointwise [up, upb, mul_coe, coe_sum]; rfl
theorem pay34 : k0_pay34 (upb H) (upb V) = up fun i => sig (linc H V i) := by
  funext i; unfold k0_pay34; pointwise [pay32, logistic_coe, up]
theorem pay35 : k0_pay35 (upb H) (upb V) = up (slu (linc H V)) := by
  funext i; unfold k0_pay35; pointwise [pay32, pay34, up, mul_coe]; rfl
theorem pay36 : k0_pay36 (upb H) (upb V) (upb U) = upb (act (linc H V) (linc H U)) := by
  funext i; unfold k0_pay36; pointwise [pay33, pay35, up, upb, mul_coe]; rfl
theorem pay37 : k0_pay37 (upb H) (upb V) (upb U) = upb fun i => act (linc H V) (linc H U) (ix2 (i 1) (i 0)) := by
  funext i; unfold k0_pay37; pointwise [pay36, up, upb]
theorem pay8 : k0_pay8 (upb G) = upb (flip G) := by
  funext i; unfold k0_pay8; pointwise [up, upb]; rfl
theorem pay18 : k0_pay18 (upb fun i => G (ix2 (i 1) (i 0))) = upb (flip G) := by
  funext i; unfold k0_pay18; pointwise [up, upb]; rfl
theorem pay28 : k0_pay28 (upb fun i => G (ix2 (i 1) (i 0))) = upb (flip G) := by
  funext i; unfold k0_pay28; pointwise [up, upb]; rfl
theorem pay38 : k0_pay38 (upb fun i => G (ix2 (i 1) (i 0))) = upb (flip G) := by
  funext i; unfold k0_pay38; pointwise [up, upb]; rfl
theorem pay9 : k0_pay9 (up G) = upb (lift G) := by
  funext i; unfold k0_pay9; pointwise [up, upb]; rfl
theorem pay19 : k0_pay19 (up G) = upb (lift G) := by
  funext i; unfold k0_pay19; pointwise [up, upb]; rfl
theorem pay29 : k0_pay29 (up G) = upb (lift G) := by
  funext i; unfold k0_pay29; pointwise [up, upb]; rfl
theorem pay39 : k0_pay39 (up G) = upb (lift G) := by
  funext i; unfold k0_pay39; pointwise [up, upb]; rfl
theorem pay10 : k0_pay10 (up G) (up M) (up fun i => sig (G i)) = upb (lift (dsu G M)) := by
  funext i; unfold k0_pay10; pointwise [up, upb, lit_one, mul_coe, sub_coe, add_coe]; rfl
theorem pay20 : k0_pay20 (up G) (up M) (up fun i => sig (G i)) = upb (lift (dsu G M)) := by
  funext i; unfold k0_pay20; pointwise [up, upb, lit_one, mul_coe, sub_coe, add_coe]; rfl
theorem pay30 : k0_pay30 (up G) (up M) (up fun i => sig (G i)) = upb (lift (dsu G M)) := by
  funext i; unfold k0_pay30; pointwise [up, upb, lit_one, mul_coe, sub_coe, add_coe]; rfl
theorem pay40 : k0_pay40 (up G) (up M) (up fun i => sig (G i)) = upb (lift (dsu G M)) := by
  funext i; unfold k0_pay40; pointwise [up, upb, lit_one, mul_coe, sub_coe, add_coe]; rfl
theorem pay11 : k0_pay11 (up Y) (upb G) (upb V) = up fun i => Y i + downc G V i := by
  funext i; unfold k0_pay11; pointwise [up, upb, coe_sum, mul_coe, add_coe]; rfl
theorem pay21 : k0_pay21 (up Y) (upb G) (upb V) = up fun i => Y i + downc G V i := by
  funext i; unfold k0_pay21; pointwise [up, upb, coe_sum, mul_coe, add_coe]; rfl
theorem pay31 : k0_pay31 (up Y) (upb G) (upb V) = up fun i => Y i + downc G V i := by
  funext i; unfold k0_pay31; pointwise [up, upb, coe_sum, mul_coe, add_coe]; rfl
theorem pay41 : k0_pay41 (up Y) (upb G) (upb V) = up fun i => Y i + downc G V i := by
  funext i; unfold k0_pay41; pointwise [up, upb, coe_sum, mul_coe, add_coe]; rfl
theorem pay42 : k0_pay42 (up Y) (upb G) (upb V) = upb fun i => Y i + downc G V i := by
  funext i; unfold k0_pay42; pointwise [pay41, up, upb]
theorem pay43 : k0_pay43 (up X) (up Y) (upb G) (upb V) (up g) = up fun i => X i + half g (fun i => Y i + downc G V i) i := by
  funext i; unfold k0_pay43; pointwise [pay41, up, upb, lit_half, mul_coe, add_coe]; rfl
end Forward

/-! The backward call's first half: the inner columns' cotangents. -/

section Inner
variable (D E : A2 512 1024) (T : A2 1 1024) (V : A3 1 704 1024) (S : A3 1 512 704) (G : A2 512 704)

/-- A product of a chunk with a saved one. -/
def timesc (G : A2 512 704) (S : A3 1 512 704) : A3 1 512 704 := fun i => G (ix2 (i 1) (i 2)) * S i

theorem bpay1 : k1_pay1 (up G) = upb (lift G) := by
  funext i; unfold k1_pay1; pointwise [up, upb]; rfl
theorem bpay2 : k1_pay2 (upb E) (upb V) = up (linc E V) := by
  funext i; unfold k1_pay2; pointwise [up, upb, coe_sum, mul_coe]; rfl
theorem bpay3 : k1_pay3 (upb E) (upb V) (upb S) = upb (timesc (linc E V) S) := by
  funext i; unfold k1_pay3; pointwise [bpay2, up, upb, mul_coe]; rfl
theorem bpay4 : k1_pay4 (upb E) (upb V) (upb S) = upb (timesc (linc E V) S) := by
  funext i; unfold k1_pay4; pointwise [bpay2, up, upb, mul_coe]; rfl
theorem bpay5 : k1_pay5 (up T) (up D) = upb (half T D) := by
  funext i; unfold k1_pay5; pointwise [up, upb, lit_half, mul_coe]; rfl
theorem bpay6 : k1_pay6 (up T) (up D) (upb V) = up (linc (half T D) V) := by
  funext i; unfold k1_pay6; pointwise [bpay5, up, upb, coe_sum, mul_coe]; rfl
theorem bpay7 : k1_pay7 (up T) (up D) (upb V) (upb S) = upb (timesc (linc (half T D) V) S) := by
  funext i; unfold k1_pay7; pointwise [bpay6, up, upb, mul_coe]; rfl
theorem bpay8 : k1_pay8 (up T) (up D) (upb V) (upb S) = upb (timesc (linc (half T D) V) S) := by
  funext i; unfold k1_pay8; pointwise [bpay6, up, upb, mul_coe]; rfl
theorem bpay9 : k1_pay9 (upb V) = upb fun i => V (ix3 0 (i 0) (i 1)) := by
  funext i; unfold k1_pay9; pointwise [up, upb]
theorem bpay10 : k1_pay10 (upb E) (upb fun i => V (ix3 0 (i 0) (i 1))) (constant S512x704 .f32 0x00000000#32) = up (linc E V) := by
  funext i; unfold k1_pay10; pointwise [up, upb, coe_sum, mul_coe]; rfl
theorem bpay11 : k1_pay11 (upb E) (upb fun i => V (ix3 0 (i 0) (i 1))) (constant S512x704 .f32 0x00000000#32) (upb S) = upb (timesc (linc E V) S) := by
  funext i; unfold k1_pay11; pointwise [bpay10, up, upb, mul_coe]; rfl
theorem bpay12 : k1_pay12 (upb E) (upb fun i => V (ix3 0 (i 0) (i 1))) (constant S512x704 .f32 0x00000000#32) (upb S) = upb (timesc (linc E V) S) := by
  funext i; unfold k1_pay12; pointwise [bpay10, up, upb, mul_coe]; rfl
theorem bpay13 : k1_pay13 (upb E) (upb V) = up (linc E V) := by
  funext i; unfold k1_pay13; pointwise [up, upb, coe_sum, mul_coe]; rfl
theorem bpay14 : k1_pay14 (upb E) (upb V) (upb S) = upb (timesc (linc E V) S) := by
  funext i; unfold k1_pay14; pointwise [bpay13, up, upb, mul_coe]; rfl
theorem bpay15 : k1_pay15 (upb E) (upb V) (upb S) = up fun i => linc E V i * S (ix3 0 (i 0) (i 1)) := by
  funext i; unfold k1_pay15; pointwise [bpay13, up, upb, mul_coe]
end Inner

/-! The backward call's second half: the rows' gradient and the four rows of sums. -/

section Rows
variable (Z D X Y : A2 512 1024) (g s A : A2 1 1024) (P Q P' Q' P'' Q'' : A3 1 512 704) (V U V' U' V'' U'' : A3 1 704 1024)

/-- A chunk of a stack, times a chunk of the weight. -/
def stackc (P : A3 1 512 704) (V : A3 1 704 1024) : A2 512 1024 := fun i => ∑ k : Fin 704, P (ix3 0 (i 0) k) * V (ix3 0 k (i 1))

theorem cpay6 : k2_pay6 (F := Ideal) = up fun _ => 0 := by
  funext i; unfold k2_pay6; pointwise [up]; rfl
theorem cpay7 : k2_pay7 (upb P) (upb V) (upb Q) (upb U) = up fun i => stackc P V i + stackc Q U i := by
  funext i; unfold k2_pay7; pointwise [up, upb, coe_sum, mul_coe, add_coe]; rfl
theorem cpay8 : k2_pay8 (upb P) (upb V) (upb Q) (upb U) = up fun i => stackc P V i + stackc Q U i := by
  funext i; unfold k2_pay8; pointwise [up, upb, coe_sum, mul_coe, add_coe]; rfl
theorem cpay9 : k2_pay9 (up Z) (up X) (upb P) (upb V) (upb Q) (upb U) (upb P') (upb V') (upb Q') (upb U') = up fun i => Z i + X i + (stackc P V i + stackc Q U i) + (stackc P' V' i + stackc Q' U' i) := by
  funext i; unfold k2_pay9; pointwise [up, upb, coe_sum, mul_coe, add_coe]; rfl
theorem cpay10 : k2_pay10 (up Z) (up s) = up (scaled Z s) := by
  funext i; unfold k2_pay10; pointwise [up, lit_one, add_coe, mul_coe]; rfl
theorem cpay11 : k2_pay11 (up X) = up fun i => rs 1024 X (i 0) := by
  funext i; unfold k2_pay11; pointwise [up, lit_1024, lit_eps, coe_sum, mul_coe]
  rw [div_coe _ (by norm_num), root]
theorem cpay12 : k2_pay12 (up X) = up fun i => X i * rs 1024 X (i 0) := by
  funext i; unfold k2_pay12; pointwise [cpay11, up, mul_coe]
theorem cpay13 : k2_pay13 (up Z) (up X) (up g) (up s) = up (drms 1024 (scaled Z s) X g) := by
  funext i; unfold k2_pay13; pointwise [cpay10, cpay11, cpay12, up, lit_1024, mul_coe, coe_sum, ix2_eta]
  rw [div_coe _ (by norm_num)]
  simp only [mul_coe, sub_coe]
  rfl
theorem cpay14 : k2_pay14 (up Z) (up X) (up s) = up (dgain 1024 (scaled Z s) X) := by
  funext i; unfold k2_pay14; pointwise [cpay10, cpay12, up, mul_coe, coe_sum]; rfl
theorem cpay15 : k2_pay15 (up Z) = up (dshift Z) := by
  funext i; unfold k2_pay15; pointwise [up, coe_sum]; rfl
theorem cpay16 : k2_pay16 (up Z) (up X) (up g) = up fun i => Z i * (X i * rs 1024 X (i 0) * g (ix2 0 (i 1))) := by
  funext i; unfold k2_pay16; pointwise [up, lit_1024, lit_eps, coe_sum, mul_coe]
  rw [div_coe _ (by norm_num), root]
  simp only [mul_coe]
theorem cpay1 : k2_pay1 (up D) (up Z) = up fun i => Z i + D i := by
  funext i; unfold k2_pay1; pointwise [up, add_coe]
theorem cpay2 : k2_pay2 (up g) (up A) = up fun i => A i + g i := by
  funext i; unfold k2_pay2; pointwise [up, add_coe]
theorem cpay3 : k2_pay3 (up fun i => Z i * (X i * rs 1024 X (i 0) * g (ix2 0 (i 1)))) (up A) = up fun i => A i + dscale 1024 Z X g i := by
  funext i; unfold k2_pay3; pointwise [up, coe_sum, add_coe]; rfl
theorem cpay4 : k2_pay4 (up D) (up A) (upb Y) = up fun i => A i + dgt D Y i := by
  funext i; unfold k2_pay4; pointwise [up, upb, lit_half, mul_coe, coe_sum, add_coe]; rfl
theorem cpay5 : k2_pay5 (up g) (up A) = up fun i => A i + g i := by
  funext i; unfold k2_pay5; pointwise [up, add_coe]
end Rows

end Cert.FfnKernel

end
-- ==== Proof.FfnBlock.lean ====
/-
  What one grid point of the gated feed-forward block's three calls leaves in its result blocks, over the reals. Of the third
  call the first point starts the four rows of sums from zero; a later one adds to what the point before left.
-/
module

public import proofs.«01_k».proof.Proof.FfnKernel
public import proofs.«01_k».proof.Proof.RowSums
public import proofs.«01_k».proof.Proof.Gen.FfnIdeal.Frame

@[expose] public section

set_option maxRecDepth 16384
set_option backward.isDefEq.respectTransparency false

noncomputable section

namespace Cert.FfnBlock

open Idealize.ShloMosaic TcCoe Idealize.SL.Sem Reals Norm Mla NormMod Silu Ffn Pieces RowSums FfnKernel FfnIdeal FfnIdeal.Gen

section First

variable (X : A2 512 1024) (g b s T : A2 1 1024) (Wg Wu : A2 1024 2816) (Wd : A2 2816 1024)

/-- The product back, as the four chunks add up from zero. -/
theorem down_sum (A : A2 512 2816) : (fun i => 0 + downc (part A 0) (oneOf (rowsD Wd) 0) i + downc (part A 1) (oneOf (rowsD Wd) 1) i
      + downc (part A 2) (oneOf (rowsD Wd) 2) i + downc (part A 3) (oneOf (rowsD Wd) 3) i) = down A Wd :=
  funext fun i => by rw [down_parts, zero_add]

/-- THE BLOCK of the rows after the feed-forward block. -/
theorem out8 : out0_8 (F := Ideal) (up X) (up g) (up b) (up s) (up T) (upb (chunkT Wg)) (upb (chunkT Wu)) (upb (rowsD Wd)) = up fun i => X i + half T (yy X g b s Wg Wu Wd) i := by
  unfold out0_8 k0_pay47 k0_pay46 k0_pay45 k0_pay44 r0_0 r0_1 r0_2 r0_5 r0_8 r0_11
  rw [View.canon_unit_zero (S := S512x1024) off2]
  simp only [View.ld_unit_zero (S := S512x1024) off2, View.ld_unit_zero (S := S1x1024) off2, ld_fourb, pay1, pay2, pay3, pay4, pay5, pay6, pay7, pay11, pay12, pay13, pay14, pay15, pay16, pay17, pay21, pay22, pay23, pay24, pay25, pay26, pay27, pay31, pay32, pay33, pay34, pay35, pay36, pay37, pay41, pay42, pay43]
  exact congrArg (fun Z : A2 512 1024 => up fun i => X i + half T Z i) (down_sum Wd (act (lin (nm X g s b) Wg) (lin (nm X g s b) Wu)))

/-- THE BLOCK of the normalised, scaled and shifted rows. -/
theorem out9 : out0_9 (F := Ideal) (up X) (up g) (up b) (up s) (up T) (upb (chunkT Wg)) (upb (chunkT Wu)) (upb (rowsD Wd)) = upb (nm X g s b) := by
  unfold out0_9 r0_0 r0_1
  rw [View.canon_unit_zero (S := S512x1024) off2]
  simp only [View.ld_unit_zero (S := S512x1024) off2, View.ld_unit_zero (S := S1x1024) off2, pay1]

/-- THE BLOCK of the product back, kept for the backward calls. -/
theorem out13 : out0_13 (F := Ideal) (up X) (up g) (up b) (up s) (up T) (upb (chunkT Wg)) (upb (chunkT Wu)) (upb (rowsD Wd)) = upb (yy X g b s Wg Wu Wd) := by
  unfold out0_13 k0_pay47 k0_pay46 k0_pay45 k0_pay44 r0_0 r0_1 r0_2 r0_5 r0_8 r0_11
  rw [View.canon_unit_zero (S := S512x1024) off2]
  simp only [View.ld_unit_zero (S := S512x1024) off2, View.ld_unit_zero (S := S1x1024) off2, ld_fourb, pay1, pay2, pay3, pay4, pay5, pay6, pay7, pay11, pay12, pay13, pay14, pay15, pay16, pay17, pay21, pay22, pay23, pay24, pay25, pay26, pay27, pay31, pay32, pay33, pay34, pay35, pay36, pay37, pay41, pay42, pay43]
  exact congrArg (fun Z : A2 512 1024 => upb Z) (down_sum Wd (act (lin (nm X g s b) Wg) (lin (nm X g s b) Wu)))

/-- THE BLOCK of the inner columns, transposed. -/
theorem out10 : out0_10 (F := Ideal) (up X) (up g) (up b) (up s) (up T) (upb (chunkT Wg)) (upb (chunkT Wu)) (upb (rowsD Wd)) = upb (chunkT (act (lin (nm X g s b) Wg) (lin (nm X g s b) Wu))) := by
  unfold out0_10 k0_pay45 k0_pay44 r0_0 r0_1 r0_2 r0_3 r0_5 r0_6 r0_8 r0_9 r0_11 r0_12
  funext y
  refine View.canon_apply_of_pieces (Val := Elt Ideal) (S := S4x704x512) (e := .bf16) (upb (chunkT (act (lin (nm X g s b) Wg) (lin (nm X g s b) Wu)))) _ (View.PiecesOf.mem ?_) y (cover0_10 _ _ _ _ y)
  simp only [View.ld_unit_zero (S := S512x1024) off2, View.ld_unit_zero (S := S1x1024) off2, ld_fourb, pay1, pay3, pay4, pay5, pay6, pay7, pay8, pay12, pay13, pay14, pay15, pay16, pay17, pay18, pay22, pay23, pay24, pay25, pay26, pay27, pay28, pay32, pay33, pay34, pay35, pay36, pay37, pay38]
  exact ⟨piece_one _ _ 3 3 rfl inb_S4x704x512_S1x704x512_3_0_0 (fun _ _ => rfl),
    piece_one _ _ 2 2 rfl inb_S4x704x512_S1x704x512_2_0_0 (fun _ _ => rfl),
    piece_one _ _ 1 1 rfl inb_S4x704x512_S1x704x512_1_0_0 (fun _ _ => rfl),
    piece_one _ _ 0 0 rfl inb_S4x704x512_S1x704x512_0_0_0 (fun _ _ => rfl), trivial⟩

/-- THE BLOCK of the gates, kept for the backward calls. -/
theorem out11 : out0_11 (F := Ideal) (up X) (up g) (up b) (up s) (up T) (upb (chunkT Wg)) (upb (chunkT Wu)) (upb (rowsD Wd)) = upb (chunk (slu (lin (nm X g s b) Wg))) := by
  unfold out0_11 k0_pay44 r0_0 r0_1 r0_2 r0_4 r0_5 r0_7 r0_8 r0_10 r0_11 r0_13
  funext y
  refine View.canon_apply_of_pieces (Val := Elt Ideal) (S := S4x512x704) (e := .bf16) (upb (chunk (slu (lin (nm X g s b) Wg)))) _ (View.PiecesOf.mem ?_) y (cover0_11 _ _ _ _ y)
  simp only [View.ld_unit_zero (S := S512x1024) off2, View.ld_unit_zero (S := S1x1024) off2, ld_fourb, pay1, pay3, pay4, pay5, pay6, pay9, pay12, pay13, pay14, pay15, pay19, pay22, pay23, pay24, pay25, pay29, pay32, pay33, pay34, pay35, pay39]
  exact ⟨piece_one _ _ 3 3 rfl inb_S4x512x704_S1x512x704_3_0_0 (fun _ _ => rfl),
    piece_one _ _ 2 2 rfl inb_S4x512x704_S1x512x704_2_0_0 (fun _ _ => rfl),
    piece_one _ _ 1 1 rfl inb_S4x512x704_S1x512x704_1_0_0 (fun _ _ => rfl),
    piece_one _ _ 0 0 rfl inb_S4x512x704_S1x512x704_0_0_0 (fun _ _ => rfl), trivial⟩

/-- THE BLOCK of the derivatives by the gates, kept for the backward calls. -/
theorem out12 : out0_12 (F := Ideal) (up X) (up g) (up b) (up s) (up T) (upb (chunkT Wg)) (upb (chunkT Wu)) (upb (rowsD Wd)) = upb (chunk (dsu (lin (nm X g s b) Wg) (lin (nm X g s b) Wu))) := by
  unfold out0_12 k0_pay44 r0_0 r0_1 r0_2 r0_4 r0_5 r0_7 r0_8 r0_10 r0_11 r0_13
  funext y
  refine View.canon_apply_of_pieces (Val := Elt Ideal) (S := S4x512x704) (e := .bf16) (upb (chunk (dsu (lin (nm X g s b) Wg) (lin (nm X g s b) Wu)))) _ (View.PiecesOf.mem ?_) y (cover0_12 _ _ _ _ y)
  simp only [View.ld_unit_zero (S := S512x1024) off2, View.ld_unit_zero (S := S1x1024) off2, ld_fourb, pay1, pay3, pay4, pay5, pay6, pay10, pay12, pay13, pay14, pay15, pay20, pay22, pay23, pay24, pay25, pay30, pay32, pay33, pay34, pay35, pay40]
  exact ⟨piece_one _ _ 3 3 rfl inb_S4x512x704_S1x512x704_3_0_0 (fun _ _ => rfl),
    piece_one _ _ 2 2 rfl inb_S4x512x704_S1x512x704_2_0_0 (fun _ _ => rfl),
    piece_one _ _ 1 1 rfl inb_S4x512x704_S1x512x704_1_0_0 (fun _ _ => rfl),
    piece_one _ _ 0 0 rfl inb_S4x512x704_S1x512x704_0_0_0 (fun _ _ => rfl), trivial⟩

end First

section Second

variable (D : A2 512 1024) (L M : A2 512 2816) (T : A2 1 1024) (Wd : A2 2816 1024)

/-- THE BLOCK of the product's cotangent. -/
theorem out5 : out1_5 (F := Ideal) (up D) (upb (chunk L)) (upb (chunk M)) (up T) (upb (rowsD Wd)) = upb (half T D) := by
  unfold out1_5 r1_0 r1_1
  rw [View.canon_unit_zero (S := S512x1024) off2]
  simp only [View.ld_unit_zero (S := S512x1024) off2, View.ld_unit_zero (S := S1x1024) off2, bpay5]

/-- THE BLOCK of the gates' cotangents. -/
theorem out6 : out1_6 (F := Ideal) (up D) (upb (chunk L)) (upb (chunk M)) (up T) (upb (rowsD Wd)) = upb (chunk (times (dact (half T D) Wd) M)) := by
  unfold out1_6 k1_pay18 k1_pay17 k1_pay16 r1_0 r1_1 r1_2 r1_3 r1_4 r1_5 r1_6 r1_7 r1_8 r1_9
  funext y
  refine View.canon_apply_of_pieces (Val := Elt Ideal) (S := S4x512x704) (e := .bf16) (upb (chunk (times (dact (half T D) Wd) M))) _ (View.PiecesOf.mem ?_) y (cover1_6 _ _ _ _ y)
  simp only [View.ld_unit_zero (S := S512x1024) off2, View.ld_unit_zero (S := S1x1024) off2, ld_fourb, bpay1, bpay2, bpay3, bpay4, bpay5, bpay6, bpay7, bpay8, bpay9, bpay10, bpay11, bpay12, bpay13, bpay14, bpay15]
  exact ⟨piece_one _ _ 3 3 rfl inb_S4x512x704_S1x512x704_3_0_0 (fun _ _ => rfl),
    piece_one _ _ 2 2 rfl inb_S4x512x704_S1x512x704_2_0_0 (fun _ _ => rfl),
    piece_one _ _ 1 1 rfl inb_S4x512x704_S1x512x704_1_0_0 (fun _ _ => rfl),
    piece_one _ _ 0 0 rfl inb_S4x512x704_S1x512x704_0_0_0 (fun _ _ => rfl), trivial⟩

/-- THE BLOCK of the other product's cotangents. -/
theorem out7 : out1_7 (F := Ideal) (up D) (upb (chunk L)) (upb (chunk M)) (up T) (upb (rowsD Wd)) = upb (chunk (times (dact (half T D) Wd) L)) := by
  unfold out1_7 k1_pay18 k1_pay17 k1_pay16 r1_0 r1_1 r1_2 r1_3 r1_4 r1_5 r1_6 r1_7 r1_8 r1_9
  funext y
  refine View.canon_apply_of_pieces (Val := Elt Ideal) (S := S4x512x704) (e := .bf16) (upb (chunk (times (dact (half T D) Wd) L))) _ (View.PiecesOf.mem ?_) y (cover1_7 _ _ _ _ y)
  simp only [View.ld_unit_zero (S := S512x1024) off2, View.ld_unit_zero (S := S1x1024) off2, ld_fourb, bpay1, bpay2, bpay3, bpay4, bpay5, bpay6, bpay7, bpay8, bpay9, bpay10, bpay11, bpay12, bpay13, bpay14, bpay15]
  exact ⟨piece_one _ _ 3 3 rfl inb_S4x512x704_S1x512x704_3_0_0 (fun _ _ => rfl),
    piece_one _ _ 2 2 rfl inb_S4x512x704_S1x512x704_2_0_0 (fun _ _ => rfl),
    piece_one _ _ 1 1 rfl inb_S4x512x704_S1x512x704_1_0_0 (fun _ _ => rfl),
    piece_one _ _ 0 0 rfl inb_S4x512x704_S1x512x704_0_0_0 (fun _ _ => rfl), trivial⟩

end Second

section Third

variable (D X Y : A2 512 1024) (P Q : A2 512 2816) (g s : A2 1 1024) (Wg Wu : A2 1024 2816)
variable (c : Dev nD) (i : grid2.Coords)
  (a1 : Memref sig .tc .vmem S512x1024 .f32) (h1 : a1.IsWhole) (a2 : Memref sig .tc .vmem S512x1024 .f32) (h2 : a2.IsWhole) (a3 : Memref sig .tc .vmem S512x1024 .bf16) (h3 : a3.IsWhole) (a4 : Memref sig .tc .vmem S4x512x704 .bf16) (h4 : a4.IsWhole) (a5 : Memref sig .tc .vmem S4x512x704 .bf16) (h5 : a5.IsWhole) (a6 : Memref sig .tc .vmem S1x1024 .f32) (h6 : a6.IsWhole) (a7 : Memref sig .tc .vmem S1x1024 .f32) (h7 : a7.IsWhole) (a8 : Memref sig .tc .vmem S4x704x1024 .bf16) (h8 : a8.IsWhole) (a9 : Memref sig .tc .vmem S4x704x1024 .bf16) (h9 : a9.IsWhole) (a10 : Memref sig .tc .vmem S512x1024 .f32) (h10 : a10.IsWhole) (a11 : Memref sig .tc .vmem S8x1024 .f32) (h11 : a11.IsWhole)

/-- The four chunks' products added up. -/
theorem dsum : k2_pay9 (F := Ideal) (k2_pay7 (F := Ideal) (upb (oneOf (chunk P) 0)) (upb (oneOf (chunkT Wg) 0)) (upb (oneOf (chunk Q) 0)) (upb (oneOf (chunkT Wu) 0)))
      (k2_pay8 (F := Ideal) (upb (oneOf (chunk P) 1)) (upb (oneOf (chunkT Wg) 1)) (upb (oneOf (chunk Q) 1)) (upb (oneOf (chunkT Wu) 1)))
      (upb (oneOf (chunk P) 2)) (upb (oneOf (chunkT Wg) 2)) (upb (oneOf (chunk Q) 2)) (upb (oneOf (chunkT Wu) 2))
      (upb (oneOf (chunk P) 3)) (upb (oneOf (chunkT Wg) 3)) (upb (oneOf (chunk Q) 3)) (upb (oneOf (chunkT Wu) 3)) = up (dh P Q Wg Wu) := by
  rw [cpay7, cpay8, cpay9]
  exact congrArg (fun Z : A2 512 1024 => up Z) (funext fun i => (dh_parts P Q Wg Wu i).symm)

/-- THE BLOCK of the rows' gradient, at the first point. -/
theorem out9A (hc : cond2_0 i) : out2_A_9 (F := Ideal) c i a1 h1 a2 h2 a3 h3 a4 h4 a5 h5 a6 h6 a7 h7 a8 h8 a9 h9 a10 h10 a11 h11 hc
    (up D) (up X) (upb Y) (upb (chunk P)) (upb (chunk Q)) (up g) (up s) (upb (chunkT Wg)) (upb (chunkT Wu)) = up fun j => drms 1024 (scaled (dh P Q Wg Wu) s) X g j + D j := by
  unfold out2_A_9
  rw [View.read_writes_eq_canon _ _ _ (fun _ => cover2_A_9 ..)]
  unfold kernelRun2_A; dsimp only; sl_unfold_words
  simp only [View.canon_unit_zero (S := S512x1024) off2, View.readAt_eq_ld, Memref.IsWhole.read_unread, View.ld_unit_zero (S := S512x1024) off2, View.ld_unit_zero (S := S1x1024) off2, ld_fourb, dsum P Q Wg Wu, cpay10, cpay11, cpay12, cpay13, cpay14, cpay15, cpay16, cpay1, cpay2, cpay3, cpay4, cpay5, cpay6]

/-- THE SUMS, at the first point. -/
theorem out10A (hc : cond2_0 i) : out2_A_10 (F := Ideal) c i a1 h1 a2 h2 a3 h3 a4 h4 a5 h5 a6 h6 a7 h7 a8 h8 a9 h9 a10 h10 a11 h11 hc
    (up D) (up X) (upb Y) (upb (chunk P)) (upb (chunk Q)) (up g) (up s) (upb (chunkT Wg)) (upb (chunkT Wu)) = up fun j => 0 + pack (dshift (dh P Q Wg Wu)) (dscale 1024 (dh P Q Wg Wu) X g) (dgt D Y) (dgain 1024 (scaled (dh P Q Wg Wu) s) X) j := by
  funext y
  unfold out2_A_10
  unfold kernelRun2_A; dsimp only; sl_unfold_words
  simp only [View.readAt_eq_ld, Memref.IsWhole.read_unread, View.ld_unit_zero (S := S512x1024) off2, View.ld_unit_zero (S := S1x1024) off2, ld_fourb, dsum P Q Wg Wu, cpay10, cpay11, cpay12, cpay13, cpay14, cpay15, cpay16, cpay1, cpay2, cpay3, cpay4, cpay5, cpay6, skip _ 2 3 (by norm_num), skip _ 1 3 (by norm_num), skip _ 0 3 (by norm_num), skip _ 1 2 (by norm_num), skip _ 0 2 (by norm_num), skip _ 0 1 (by norm_num), cov]
  exact acc VO2_10 _ _ (fun _ => 0) (zeros VO2_10 _ _) _ _ _ _ _ _ _ _ y

/-- THE BLOCK of the rows' gradient, at a later point. -/
theorem out9B (hc : ¬cond2_0 i) (E : A2 8 1024) : out2_B_9 (F := Ideal) c i a1 h1 a2 h2 a3 h3 a4 h4 a5 h5 a6 h6 a7 h7 a8 h8 a9 h9 a10 h10 a11 h11 hc
    (up D) (up X) (upb Y) (upb (chunk P)) (upb (chunk Q)) (up g) (up s) (upb (chunkT Wg)) (upb (chunkT Wu)) (up E) = up fun j => drms 1024 (scaled (dh P Q Wg Wu) s) X g j + D j := by
  unfold out2_B_9
  rw [View.read_writes_eq_canon _ _ _ (fun _ => cover2_B_9 ..)]
  unfold kernelRun2_B; dsimp only; sl_unfold_words
  simp only [View.canon_unit_zero (S := S512x1024) off2, View.readAt_eq_ld, Memref.IsWhole.read_unread, View.ld_unit_zero (S := S512x1024) off2, View.ld_unit_zero (S := S1x1024) off2, ld_fourb, dsum P Q Wg Wu, cpay10, cpay11, cpay12, cpay13, cpay14, cpay15, cpay16, cpay1, cpay2, cpay3, cpay4, cpay5, cpay6]

/-- THE SUMS, at a later point. -/
theorem out10B (hc : ¬cond2_0 i) (E : A2 8 1024) : out2_B_10 (F := Ideal) c i a1 h1 a2 h2 a3 h3 a4 h4 a5 h5 a6 h6 a7 h7 a8 h8 a9 h9 a10 h10 a11 h11 hc
    (up D) (up X) (upb Y) (upb (chunk P)) (upb (chunk Q)) (up g) (up s) (upb (chunkT Wg)) (upb (chunkT Wu)) (up E) = up fun j => E j + pack (dshift (dh P Q Wg Wu)) (dscale 1024 (dh P Q Wg Wu) X g) (dgt D Y) (dgain 1024 (scaled (dh P Q Wg Wu) s) X) j := by
  funext y
  unfold out2_B_10
  unfold kernelRun2_B; dsimp only; sl_unfold_words
  simp only [View.readAt_eq_ld, Memref.IsWhole.read_unread, View.ld_unit_zero (S := S512x1024) off2, View.ld_unit_zero (S := S1x1024) off2, ld_fourb, ld_row E 0 0 rfl, ld_row E 1 1 rfl, ld_row E 2 2 rfl, ld_row E 3 3 rfl, dsum P Q Wg Wu, cpay10, cpay11, cpay12, cpay13, cpay14, cpay15, cpay16, cpay1, cpay2, cpay3, cpay4, cpay5, cpay6]
  exact acc _ _ [] E (h11.read_unread _) _ _ _ _ _ _ _ _ _

end Third

end Cert.FfnBlock

end
-- ==== Proof.FfnFirst.lean ====
/-
  What the arrays of the gated feed-forward block's forward call hold after the run, over the reals: each grid point's blocks are
  tiles of 512 rows.
-/
module

public import proofs.«01_k».proof.Proof.Blocks
public import proofs.«01_k».proof.Proof.FfnBlock

@[expose] public section

set_option maxRecDepth 16384
set_option backward.isDefEq.respectTransparency false

noncomputable section

namespace Cert.FfnFirst

open FfnIdeal FfnIdeal.Gen Idealize.ShloMosaic TcCoe Idealize.SL.Sem
open Blocks Reals Norm Mla NormMod Silu Ffn FfnKernel FfnBlock
open Idealize.ShloMosaic.Pipeline (Dat)

variable (V : (c : Dev nD) → (b : Ref sig .tc) → Buf (Elt Ideal) ((c : Thread nD τ).loc b)) (c : Dev nD)

/-- A grid point of the call as a tile number. -/
abbrev pt0 (t : Fin cfg0.N) : Fin 4 := t.cast N_0

/-- The block indices: a tile of rows (or of columns) at each point, or the whole array. -/
theorem idx0_0 : Along 0 win0_0.index := by decide +kernel
theorem idx0_1 : Whole win0_1.index := by decide +kernel
theorem idx0_2 : Whole win0_2.index := by decide +kernel
theorem idx0_3 : Whole win0_3.index := by decide +kernel
theorem idx0_4 : Whole win0_4.index := by decide +kernel
theorem idx0_5 : Whole win0_5.index := by decide +kernel
theorem idx0_6 : Whole win0_6.index := by decide +kernel
theorem idx0_7 : Whole win0_7.index := by decide +kernel
theorem idx0_8 : Along 0 win0_8.index := by decide +kernel
theorem idx0_9 : Along 0 win0_9.index := by decide +kernel
theorem idx0_10 : Along 2 win0_10.index := by decide +kernel
theorem idx0_11 : Along 1 win0_11.index := by decide +kernel
theorem idx0_12 : Along 1 win0_12.index := by decide +kernel
theorem idx0_13 : Along 0 win0_13.index := by decide +kernel

/-- The points' blocks of the arguments. -/
theorem iblk0_0 (X : A2 2048 1024) (hX : V c main_arg0 = up X) (t : Fin cfg0.N) :
    (iblk0 V c 0 t : Vec Ideal S512x1024 .f32) = up (tile X (pt0 t)) := funext fun j => (congrFun hX _).trans (congrArg (up X) (rows_at N_0 idx0_0 t _ j fun _ => rfl))
theorem iblk0_1 (X : A2 1 1024) (hX : V c main_arg1 = up X) (t : Fin cfg0.N) :
    (iblk0 V c 1 t : Vec Ideal S1x1024 .f32) = up X := funext fun j => (congrFun hX _).trans (congrArg (up X) (whole_at idx0_1 t _ j fun _ => rfl))
theorem iblk0_2 (X : A2 1 1024) (hX : V c main_arg2 = up X) (t : Fin cfg0.N) :
    (iblk0 V c 2 t : Vec Ideal S1x1024 .f32) = up X := funext fun j => (congrFun hX _).trans (congrArg (up X) (whole_at idx0_2 t _ j fun _ => rfl))
theorem iblk0_3 (X : A2 1 1024) (hX : V c main_arg3 = up X) (t : Fin cfg0.N) :
    (iblk0 V c 3 t : Vec Ideal S1x1024 .f32) = up X := funext fun j => (congrFun hX _).trans (congrArg (up X) (whole_at idx0_3 t _ j fun _ => rfl))
theorem iblk0_4 (X : A2 1 1024) (hX : V c main_arg4 = up X) (t : Fin cfg0.N) :
    (iblk0 V c 4 t : Vec Ideal S1x1024 .f32) = up X := funext fun j => (congrFun hX _).trans (congrArg (up X) (whole_at idx0_4 t _ j fun _ => rfl))
theorem iblk0_5 (X : A2 1024 2816) (hX : V c main_v2 = upb (chunkT X)) (t : Fin cfg0.N) :
    (iblk0 V c 5 t : Vec Ideal S4x704x1024 .bf16) = upb (chunkT X) := funext fun j => (congrFun hX _).trans (congrArg (upb (chunkT X)) (whole_at idx0_5 t _ j fun _ => rfl))
theorem iblk0_6 (X : A2 1024 2816) (hX : V c main_v5 = upb (chunkT X)) (t : Fin cfg0.N) :
    (iblk0 V c 6 t : Vec Ideal S4x704x1024 .bf16) = upb (chunkT X) := funext fun j => (congrFun hX _).trans (congrArg (upb (chunkT X)) (whole_at idx0_6 t _ j fun _ => rfl))
theorem iblk0_7 (X : A2 2816 1024) (hX : V c main_v7 = upb (rowsD X)) (t : Fin cfg0.N) :
    (iblk0 V c 7 t : Vec Ideal S4x704x1024 .bf16) = upb (rowsD X) := funext fun j => (congrFun hX _).trans (congrArg (upb (rowsD X)) (whole_at idx0_7 t _ j fun _ => rfl))

variable (X : A2 2048 1024) (g b s T : A2 1 1024) (Wg Wu : A2 1024 2816) (Wd : A2 2816 1024)
variable (hX : V c main_arg0 = up X) (hg : V c main_arg1 = up g) (hb : V c main_arg2 = up b) (hs : V c main_arg3 = up s) (hT : V c main_arg4 = up T)
  (hG : V c main_v2 = upb (chunkT Wg)) (hU : V c main_v5 = upb (chunkT Wu)) (hW : V c main_v7 = upb (rowsD Wd))
include hX hg hb hs hT hG hU hW

/-- The rows after the block. -/
theorem final0_8 : (dat0 V c).arrAt 8 cfg0.N = (up (fun i => X i + half T (yy X g b s Wg Wu Wd) i) : Vec Ideal S2048x1024 .f32) := by
  refine (dat0 V c).arrAt_eq_of_cover 8 _ (fun t hf => ?_) fun i => ⟨blockOf N_0 (i 0), flush0_8 _, ?_⟩
  · show (cfg0.win 8).cut (grid0.coords t) ((dat0 V c).after 8 t) = _
    rw [after0_8, iblk0_0 V c X hX, iblk0_1 V c g hg, iblk0_2 V c b hb, iblk0_3 V c s hs, iblk0_4 V c T hT, iblk0_5 V c Wg hG, iblk0_6 V c Wu hU, iblk0_7 V c Wd hW, out8]
    funext j; rw [View.read_apply]
    have e : ((cfg0.win 8).blk t).view.emb j = (ix2 (row (pt0 t) (j 0)) (j 1) : S2048x1024.Idx) := rows_at N_0 idx0_8 t _ j fun _ => rfl
    rw [e]; rfl
  · exact in_block (along_has idx0_8 _ i rfl (by decide) (by decide))

/-- The normalised, scaled and shifted rows. -/
theorem final0_9 : (dat0 V c).arrAt 9 cfg0.N = (upb (nm X g s b) : Vec Ideal S2048x1024 .bf16) := by
  refine (dat0 V c).arrAt_eq_of_cover 9 _ (fun t hf => ?_) fun i => ⟨blockOf N_0 (i 0), flush0_9 _, ?_⟩
  · show (cfg0.win 9).cut (grid0.coords t) ((dat0 V c).after 9 t) = _
    rw [after0_9, iblk0_0 V c X hX, iblk0_1 V c g hg, iblk0_2 V c b hb, iblk0_3 V c s hs, iblk0_4 V c T hT, iblk0_5 V c Wg hG, iblk0_6 V c Wu hU, iblk0_7 V c Wd hW, out9]
    funext j; rw [View.read_apply]
    have e : ((cfg0.win 9).blk t).view.emb j = (ix2 (row (pt0 t) (j 0)) (j 1) : S2048x1024.Idx) := rows_at N_0 idx0_9 t _ j fun _ => rfl
    rw [e]; rfl
  · exact in_block (along_has idx0_9 _ i rfl (by decide) (by decide))

/-- The inner columns, transposed. -/
theorem final0_10 : (dat0 V c).arrAt 10 cfg0.N = (upb (chunkT (act (lin (nm X g s b) Wg) (lin (nm X g s b) Wu))) : Vec Ideal S4x704x2048 .bf16) := by
  refine (dat0 V c).arrAt_eq_of_cover 10 _ (fun t hf => ?_) fun i => ⟨blockOf N_0 (i 2), flush0_10 _, ?_⟩
  · show (cfg0.win 10).cut (grid0.coords t) ((dat0 V c).after 10 t) = _
    rw [after0_10, iblk0_0 V c X hX, iblk0_1 V c g hg, iblk0_2 V c b hb, iblk0_3 V c s hs, iblk0_4 V c T hT, iblk0_5 V c Wg hG, iblk0_6 V c Wu hU, iblk0_7 V c Wd hW, out10]
    funext j; rw [View.read_apply]
    have e : ((cfg0.win 10).blk t).view.emb j = (ix3 (j 0) (j 1) (row (pt0 t) (j 2)) : S4x704x2048.Idx) := last_at N_0 idx0_10 t _ j fun _ => rfl
    rw [e]; rfl
  · exact in_block (along_has idx0_10 _ i rfl (by decide) (by decide))

/-- The gates. -/
theorem final0_11 : (dat0 V c).arrAt 11 cfg0.N = (upb (chunk (slu (lin (nm X g s b) Wg))) : Vec Ideal S4x2048x704 .bf16) := by
  refine (dat0 V c).arrAt_eq_of_cover 11 _ (fun t hf => ?_) fun i => ⟨blockOf N_0 (i 1), flush0_11 _, ?_⟩
  · show (cfg0.win 11).cut (grid0.coords t) ((dat0 V c).after 11 t) = _
    rw [after0_11, iblk0_0 V c X hX, iblk0_1 V c g hg, iblk0_2 V c b hb, iblk0_3 V c s hs, iblk0_4 V c T hT, iblk0_5 V c Wg hG, iblk0_6 V c Wu hU, iblk0_7 V c Wd hW, out11]
    funext j; rw [View.read_apply]
    have e : ((cfg0.win 11).blk t).view.emb j = (ix3 (j 0) (row (pt0 t) (j 1)) (j 2) : S4x2048x704.Idx) := mid_at N_0 idx0_11 t _ j fun _ => rfl
    rw [e]; rfl
  · exact in_block (along_has idx0_11 _ i rfl (by decide) (by decide))

/-- The derivatives by the gates. -/
theorem final0_12 : (dat0 V c).arrAt 12 cfg0.N = (upb (chunk (dsu (lin (nm X g s b) Wg) (lin (nm X g s b) Wu))) : Vec Ideal S4x2048x704 .bf16) := by
  refine (dat0 V c).arrAt_eq_of_cover 12 _ (fun t hf => ?_) fun i => ⟨blockOf N_0 (i 1), flush0_12 _, ?_⟩
  · show (cfg0.win 12).cut (grid0.coords t) ((dat0 V c).after 12 t) = _
    rw [after0_12, iblk0_0 V c X hX, iblk0_1 V c g hg, iblk0_2 V c b hb, iblk0_3 V c s hs, iblk0_4 V c T hT, iblk0_5 V c Wg hG, iblk0_6 V c Wu hU, iblk0_7 V c Wd hW, out12]
    funext j; rw [View.read_apply]
    have e : ((cfg0.win 12).blk t).view.emb j = (ix3 (j 0) (row (pt0 t) (j 1)) (j 2) : S4x2048x704.Idx) := mid_at N_0 idx0_12 t _ j fun _ => rfl
    rw [e]; rfl
  · exact in_block (along_has idx0_12 _ i rfl (by decide) (by decide))

/-- The product back. -/
theorem final0_13 : (dat0 V c).arrAt 13 cfg0.N = (upb (yy X g b s Wg Wu Wd) : Vec Ideal S2048x1024 .bf16) := by
  refine (dat0 V c).arrAt_eq_of_cover 13 _ (fun t hf => ?_) fun i => ⟨blockOf N_0 (i 0), flush0_13 _, ?_⟩
  · show (cfg0.win 13).cut (grid0.coords t) ((dat0 V c).after 13 t) = _
    rw [after0_13, iblk0_0 V c X hX, iblk0_1 V c g hg, iblk0_2 V c b hb, iblk0_3 V c s hs, iblk0_4 V c T hT, iblk0_5 V c Wg hG, iblk0_6 V c Wu hU, iblk0_7 V c Wd hW, out13]
    funext j; rw [View.read_apply]
    have e : ((cfg0.win 13).blk t).view.emb j = (ix2 (row (pt0 t) (j 0)) (j 1) : S2048x1024.Idx) := rows_at N_0 idx0_13 t _ j fun _ => rfl
    rw [e]; rfl
  · exact in_block (along_has idx0_13 _ i rfl (by decide) (by decide))

end Cert.FfnFirst

end
-- ==== Proof.FfnSecond.lean ====
/-
  What the arrays of the gated feed-forward block's first backward call hold after the run, over the reals.
-/
module

public import proofs.«01_k».proof.Proof.Blocks
public import proofs.«01_k».proof.Proof.FfnBlock

@[expose] public section

set_option maxRecDepth 16384
set_option backward.isDefEq.respectTransparency false

noncomputable section

namespace Cert.FfnSecond

open FfnIdeal FfnIdeal.Gen Idealize.ShloMosaic TcCoe Idealize.SL.Sem
open Blocks Reals Norm Mla NormMod Silu Ffn FfnKernel FfnBlock
open Idealize.ShloMosaic.Pipeline (Dat)

variable (V : (c : Dev nD) → (b : Ref sig .tc) → Buf (Elt Ideal) ((c : Thread nD τ).loc b)) (c : Dev nD)

/-- A grid point of the call as a tile number. -/
abbrev pt1 (t : Fin cfg1.N) : Fin 4 := t.cast N_1

/-- The block indices: a tile of rows (or of columns) at each point, or the whole array. -/
theorem idx1_0 : Along 0 win1_0.index := by decide +kernel
theorem idx1_1 : Along 1 win1_1.index := by decide +kernel
theorem idx1_2 : Along 1 win1_2.index := by decide +kernel
theorem idx1_3 : Whole win1_3.index := by decide +kernel
theorem idx1_4 : Whole win1_4.index := by decide +kernel
theorem idx1_5 : Along 0 win1_5.index := by decide +kernel
theorem idx1_6 : Along 1 win1_6.index := by decide +kernel
theorem idx1_7 : Along 1 win1_7.index := by decide +kernel

/-- The points' blocks of the arguments. -/
theorem iblk1_0 (X : A2 2048 1024) (hX : V c main_arg8 = up X) (t : Fin cfg1.N) :
    (iblk1 V c 0 t : Vec Ideal S512x1024 .f32) = up (tile X (pt1 t)) := funext fun j => (congrFun hX _).trans (congrArg (up X) (rows_at N_0 idx1_0 t _ j fun _ => rfl))
theorem iblk1_1 (X : A2 2048 2816) (hX : V c main_v8_3 = upb (chunk X)) (t : Fin cfg1.N) :
    (iblk1 V c 1 t : Vec Ideal S4x512x704 .bf16) = upb (chunk (tile X (pt1 t))) := funext fun j => (congrFun hX _).trans (congrArg (upb (chunk X)) (mid_at N_0 idx1_1 t _ j fun _ => rfl))
theorem iblk1_2 (X : A2 2048 2816) (hX : V c main_v8_4 = upb (chunk X)) (t : Fin cfg1.N) :
    (iblk1 V c 2 t : Vec Ideal S4x512x704 .bf16) = upb (chunk (tile X (pt1 t))) := funext fun j => (congrFun hX _).trans (congrArg (upb (chunk X)) (mid_at N_0 idx1_2 t _ j fun _ => rfl))
theorem iblk1_3 (X : A2 1 1024) (hX : V c main_arg4 = up X) (t : Fin cfg1.N) :
    (iblk1 V c 3 t : Vec Ideal S1x1024 .f32) = up X := funext fun j => (congrFun hX _).trans (congrArg (up X) (whole_at idx1_3 t _ j fun _ => rfl))
theorem iblk1_4 (X : A2 2816 1024) (hX : V c main_v7 = upb (rowsD X)) (t : Fin cfg1.N) :
    (iblk1 V c 4 t : Vec Ideal S4x704x1024 .bf16) = upb (rowsD X) := funext fun j => (congrFun hX _).trans (congrArg (upb (rowsD X)) (whole_at idx1_4 t _ j fun _ => rfl))

variable (D : A2 2048 1024) (L M : A2 2048 2816) (T : A2 1 1024) (Wd : A2 2816 1024)
variable (hD : V c main_arg8 = up D) (hL : V c main_v8_3 = upb (chunk L)) (hM : V c main_v8_4 = upb (chunk M)) (hT : V c main_arg4 = up T) (hW : V c main_v7 = upb (rowsD Wd))
include hD hL hM hT hW

/-- The product's cotangent. -/
theorem final1_5 : (dat1 V c).arrAt 5 cfg1.N = (upb (half T D) : Vec Ideal S2048x1024 .bf16) := by
  refine (dat1 V c).arrAt_eq_of_cover 5 _ (fun t hf => ?_) fun i => ⟨blockOf N_0 (i 0), flush1_5 _, ?_⟩
  · show (cfg1.win 5).cut (grid1.coords t) ((dat1 V c).after 5 t) = _
    rw [after1_5, iblk1_0 V c D hD, iblk1_1 V c L hL, iblk1_2 V c M hM, iblk1_3 V c T hT, iblk1_4 V c Wd hW, out5]
    funext j; rw [View.read_apply]
    have e : ((cfg1.win 5).blk t).view.emb j = (ix2 (row (pt1 t) (j 0)) (j 1) : S2048x1024.Idx) := rows_at N_0 idx1_5 t _ j fun _ => rfl
    rw [e]; rfl
  · exact in_block (along_has idx1_5 _ i rfl (by decide) (by decide))

/-- The gates' cotangents. -/
theorem final1_6 : (dat1 V c).arrAt 6 cfg1.N = (upb (chunk (times (dact (half T D) Wd) M)) : Vec Ideal S4x2048x704 .bf16) := by
  refine (dat1 V c).arrAt_eq_of_cover 6 _ (fun t hf => ?_) fun i => ⟨blockOf N_0 (i 1), flush1_6 _, ?_⟩
  · show (cfg1.win 6).cut (grid1.coords t) ((dat1 V c).after 6 t) = _
    rw [after1_6, iblk1_0 V c D hD, iblk1_1 V c L hL, iblk1_2 V c M hM, iblk1_3 V c T hT, iblk1_4 V c Wd hW, out6]
    funext j; rw [View.read_apply]
    have e : ((cfg1.win 6).blk t).view.emb j = (ix3 (j 0) (row (pt1 t) (j 1)) (j 2) : S4x2048x704.Idx) := mid_at N_0 idx1_6 t _ j fun _ => rfl
    rw [e]; rfl
  · exact in_block (along_has idx1_6 _ i rfl (by decide) (by decide))

/-- The other product's cotangents. -/
theorem final1_7 : (dat1 V c).arrAt 7 cfg1.N = (upb (chunk (times (dact (half T D) Wd) L)) : Vec Ideal S4x2048x704 .bf16) := by
  refine (dat1 V c).arrAt_eq_of_cover 7 _ (fun t hf => ?_) fun i => ⟨blockOf N_0 (i 1), flush1_7 _, ?_⟩
  · show (cfg1.win 7).cut (grid1.coords t) ((dat1 V c).after 7 t) = _
    rw [after1_7, iblk1_0 V c D hD, iblk1_1 V c L hL, iblk1_2 V c M hM, iblk1_3 V c T hT, iblk1_4 V c Wd hW, out7]
    funext j; rw [View.read_apply]
    have e : ((cfg1.win 7).blk t).view.emb j = (ix3 (j 0) (row (pt1 t) (j 1)) (j 2) : S4x2048x704.Idx) := mid_at N_0 idx1_7 t _ j fun _ => rfl
    rw [e]; rfl
  · exact in_block (along_has idx1_7 _ i rfl (by decide) (by decide))

end Cert.FfnSecond

end
-- ==== Proof.FfnThird.lean ====
/-
  What the arrays of the gated feed-forward block's second backward call hold after the run, over the reals: the rows' gradient
  tile by tile, and the four rows of sums over the four tiles.
-/
module

public import proofs.«01_k».proof.Proof.Blocks
public import proofs.«01_k».proof.Proof.FfnBlock

@[expose] public section

set_option maxRecDepth 16384
set_option backward.isDefEq.respectTransparency false

noncomputable section

namespace Cert.FfnThird

open FfnIdeal FfnIdeal.Gen Idealize.ShloMosaic TcCoe Idealize.SL.Sem
open Blocks Reals Norm Mla NormMod Silu Ffn FfnKernel FfnBlock
open Idealize.ShloMosaic.Pipeline (Dat)

variable (V : (c : Dev nD) → (b : Ref sig .tc) → Buf (Elt Ideal) ((c : Thread nD τ).loc b)) (c : Dev nD)

/-- A grid point of the call as a tile number. -/
abbrev pt2 (t : Fin cfg2.N) : Fin 4 := t.cast N_2

/-- The block indices: a tile of rows (or of columns) at each point, or the whole array. -/
theorem idx2_0 : Along 0 win2_0.index := by decide +kernel
theorem idx2_1 : Along 0 win2_1.index := by decide +kernel
theorem idx2_2 : Along 0 win2_2.index := by decide +kernel
theorem idx2_3 : Along 1 win2_3.index := by decide +kernel
theorem idx2_4 : Along 1 win2_4.index := by decide +kernel
theorem idx2_5 : Whole win2_5.index := by decide +kernel
theorem idx2_6 : Whole win2_6.index := by decide +kernel
theorem idx2_7 : Whole win2_7.index := by decide +kernel
theorem idx2_8 : Whole win2_8.index := by decide +kernel
theorem idx2_9 : Along 0 win2_9.index := by decide +kernel
theorem idx2_10 : Whole win2_10.index := by decide +kernel

/-- The points' blocks of the arguments. -/
theorem iblk2_0 (X : A2 2048 1024) (hX : V c main_arg8 = up X) (t : Fin cfg2.N) :
    (iblk2 V c 0 t : Vec Ideal S512x1024 .f32) = up (tile X (pt2 t)) := funext fun j => (congrFun hX _).trans (congrArg (up X) (rows_at N_2 idx2_0 t _ j fun _ => rfl))
theorem iblk2_1 (X : A2 2048 1024) (hX : V c main_arg0 = up X) (t : Fin cfg2.N) :
    (iblk2 V c 1 t : Vec Ideal S512x1024 .f32) = up (tile X (pt2 t)) := funext fun j => (congrFun hX _).trans (congrArg (up X) (rows_at N_2 idx2_1 t _ j fun _ => rfl))
theorem iblk2_2 (X : A2 2048 1024) (hX : V c main_v8_5 = upb X) (t : Fin cfg2.N) :
    (iblk2 V c 2 t : Vec Ideal S512x1024 .bf16) = upb (tile X (pt2 t)) := funext fun j => (congrFun hX _).trans (congrArg (upb X) (rows_at N_2 idx2_2 t _ j fun _ => rfl))
theorem iblk2_3 (X : A2 2048 2816) (hX : V c main_v9_1 = upb (chunk X)) (t : Fin cfg2.N) :
    (iblk2 V c 3 t : Vec Ideal S4x512x704 .bf16) = upb (chunk (tile X (pt2 t))) := funext fun j => (congrFun hX _).trans (congrArg (upb (chunk X)) (mid_at N_2 idx2_3 t _ j fun _ => rfl))
theorem iblk2_4 (X : A2 2048 2816) (hX : V c main_v9_2 = upb (chunk X)) (t : Fin cfg2.N) :
    (iblk2 V c 4 t : Vec Ideal S4x512x704 .bf16) = upb (chunk (tile X (pt2 t))) := funext fun j => (congrFun hX _).trans (congrArg (upb (chunk X)) (mid_at N_2 idx2_4 t _ j fun _ => rfl))
theorem iblk2_5 (X : A2 1 1024) (hX : V c main_arg1 = up X) (t : Fin cfg2.N) :
    (iblk2 V c 5 t : Vec Ideal S1x1024 .f32) = up X := funext fun j => (congrFun hX _).trans (congrArg (up X) (whole_at idx2_5 t _ j fun _ => rfl))
theorem iblk2_6 (X : A2 1 1024) (hX : V c main_arg3 = up X) (t : Fin cfg2.N) :
    (iblk2 V c 6 t : Vec Ideal S1x1024 .f32) = up X := funext fun j => (congrFun hX _).trans (congrArg (up X) (whole_at idx2_6 t _ j fun _ => rfl))
theorem iblk2_7 (X : A2 1024 2816) (hX : V c main_v2 = upb (chunkT X)) (t : Fin cfg2.N) :
    (iblk2 V c 7 t : Vec Ideal S4x704x1024 .bf16) = upb (chunkT X) := funext fun j => (congrFun hX _).trans (congrArg (upb (chunkT X)) (whole_at idx2_7 t _ j fun _ => rfl))
theorem iblk2_8 (X : A2 1024 2816) (hX : V c main_v5 = upb (chunkT X)) (t : Fin cfg2.N) :
    (iblk2 V c 8 t : Vec Ideal S4x704x1024 .bf16) = upb (chunkT X) := funext fun j => (congrFun hX _).trans (congrArg (upb (chunkT X)) (whole_at idx2_8 t _ j fun _ => rfl))

variable (D X Y : A2 2048 1024) (P Q : A2 2048 2816) (g s : A2 1 1024) (Wg Wu : A2 1024 2816)

/-- One tile's four rows of sums. -/
def sums (t : Fin 4) : A2 8 1024 :=
  pack (dshift (dh (tile P t) (tile Q t) Wg Wu)) (dscale 1024 (dh (tile P t) (tile Q t) Wg Wu) (tile X t) g) (dgt (tile D t) (tile Y t))
    (dgain 1024 (scaled (dh (tile P t) (tile Q t) Wg Wu) s) (tile X t))
/-- The sums of the tiles below a tile. -/
def sumsTo (n : Nat) (j : (⟨2, ![8, 1024]⟩ : Shape).Idx) : ℝ := ∑ t ∈ Finset.univ.filter (fun t : Fin 4 => t.val < n), sums D X Y P Q g s Wg Wu t j

variable (hD : V c main_arg8 = up D) (hX : V c main_arg0 = up X) (hY : V c main_v8_5 = upb Y) (hP : V c main_v9_1 = upb (chunk P)) (hQ : V c main_v9_2 = upb (chunk Q))
  (hg : V c main_arg1 = up g) (hs : V c main_arg3 = up s) (hG : V c main_v2 = upb (chunkT Wg)) (hU : V c main_v5 = upb (chunkT Wu))
include hD hX hY hP hQ hg hs hG hU

/-- What the staging buffers hold after a point. -/
theorem outs : ∀ (n : Nat) (h : n < cfg2.N), outsAt2 V c n h
    = (up fun j => drms 1024 (scaled (dh (tile P (pt2 ⟨n, h⟩)) (tile Q (pt2 ⟨n, h⟩)) Wg Wu) s) (tile X (pt2 ⟨n, h⟩)) g j + tile D (pt2 ⟨n, h⟩) j, up (sumsTo D X Y P Q g s Wg Wu (n + 1))) := by
  intro n
  induction n with
  | zero =>
    intro h
    refine (outsAt2_A V c ⟨0, h⟩ rfl).trans ?_
    rw [iblk2_0 V c D hD, iblk2_1 V c X hX, iblk2_2 V c Y hY, iblk2_3 V c P hP, iblk2_4 V c Q hQ, iblk2_5 V c g hg, iblk2_6 V c s hs, iblk2_7 V c Wg hG, iblk2_8 V c Wu hU, out9A, out10A]
    refine Prod.ext rfl ?_
    refine congrArg up (funext fun j => ?_)
    simp only [sumsTo, sum_next (N := 4) _ 0 (by norm_num)]
    simp [sums]
  | succ n ih =>
    intro h
    have hN : cfg2.N = 4 := N_2
    have hB : ¬(⟨n + 1, h⟩ : Fin cfg2.N).val % 4 = 0 := by dsimp only; omega
    refine (outsAt2_B V c ⟨n + 1, h⟩ hB).trans ?_
    have e : outsAt2 V c ((⟨n + 1, h⟩ : Fin cfg2.N).val - 1) (Nat.lt_of_le_of_lt (Nat.sub_le _ _) h) = _ :=
      ih (Nat.lt_of_succ_lt h)
    rw [e, iblk2_0 V c D hD, iblk2_1 V c X hX, iblk2_2 V c Y hY, iblk2_3 V c P hP, iblk2_4 V c Q hQ, iblk2_5 V c g hg, iblk2_6 V c s hs, iblk2_7 V c Wg hG, iblk2_8 V c Wu hU, out9B, out10B]
    refine Prod.ext rfl ?_
    exact congrArg up (funext fun j => (sum_next (fun t => sums D X Y P Q g s Wg Wu t j) (n + 1) (by omega)).symm)

/-- The rows' gradient. -/
theorem final2_9 : (dat2 V c).arrAt 9 cfg2.N = (up (fun i => drms 1024 (scaled (dh P Q Wg Wu) s) X g i + D i) : Vec Ideal S2048x1024 .f32) := by
  refine (dat2 V c).arrAt_eq_of_cover 9 _ (fun t hf => ?_) fun i => ⟨blockOf N_2 (i 0), flush2_9 _, ?_⟩
  · show (cfg2.win 9).cut (grid2.coords t) ((dat2 V c).after 9 t) = _
    rw [after2_9, outs V c D X Y P Q g s Wg Wu hD hX hY hP hQ hg hs hG hU]
    funext j; rw [View.read_apply]
    have e : ((cfg2.win 9).blk t).view.emb j = (ix2 (row (pt2 t) (j 0)) (j 1) : S2048x1024.Idx) := rows_at N_2 idx2_9 t _ j fun _ => rfl
    rw [e]; rfl
  · exact in_block (along_has idx2_9 _ i rfl (by decide) (by decide))

omit hD hX hY hP hQ hg hs hG hU in
/-- The tiles' sums are the whole's. -/
theorem sums_all (j : (⟨2, ![8, 1024]⟩ : Shape).Idx) : sumsTo D X Y P Q g s Wg Wu 4 j = pack (dshift (dh P Q Wg Wu)) (dscale 1024 (dh P Q Wg Wu) X g) (dgt D Y) (dgain 1024 (scaled (dh P Q Wg Wu) s) X) j := by
  unfold sumsTo sums
  rw [sum_all, pack_sum]
  refine congrFun ?_ j
  refine congr (congr (congr (congrArg pack ?_) ?_) ?_) ?_ <;> funext k
  · exact sum_rows fun r => dh P Q Wg Wu (ix2 r (k 1))
  · exact sum_rows fun r => dh P Q Wg Wu (ix2 r (k 1)) * (X (ix2 r (k 1)) * rs 1024 X r * g (ix2 0 (k 1)))
  · exact sum_rows fun r => 1 / 2 * D (ix2 r (k 1)) * Y (ix2 r (k 1))
  · exact sum_rows fun r => scaled (dh P Q Wg Wu) s (ix2 r (k 1)) * (X (ix2 r (k 1)) * rs 1024 X r)

/-- The four rows of sums. -/
theorem final2_10 : (dat2 V c).arrAt 10 cfg2.N = (up (pack (dshift (dh P Q Wg Wu)) (dscale 1024 (dh P Q Wg Wu) X g) (dgt D Y) (dgain 1024 (scaled (dh P Q Wg Wu) s) X)) : Vec Ideal S8x1024 .f32) := by
  refine (dat2 V c).arrAt_eq_of_cover 10 _ (fun t hf => ?_) fun i => ⟨t2_3, (flush2_10 t2_3).mpr rfl, ?_⟩
  · have h3 : t.val % 4 = 3 := (flush2_10 t).mp hf
    have e : t.val = 3 := by have := lt_of_lt_of_eq t.isLt N_2; omega
    show (cfg2.win 10).cut (grid2.coords t) ((dat2 V c).after 10 t) = _
    rw [after2_10, outs V c D X Y P Q g s Wg Wu hD hX hY hP hQ hg hs hG hU]
    funext j
    rw [View.read_apply]
    have ej : ((cfg2.win 10).blk t).view.emb j = (j : S8x1024.Idx) := whole_at idx2_10 t _ j fun _ => rfl
    rw [ej]
    show ((sumsTo D X Y P Q g s Wg Wu (t.val + 1) j : ℝ) : EReal) = ((pack (dshift (dh P Q Wg Wu)) (dscale 1024 (dh P Q Wg Wu) X g) (dgt D Y) (dgain 1024 (scaled (dh P Q Wg Wu) s) X) j : ℝ) : EReal)
    rw [e]
    exact congrArg (fun z : ℝ => (z : EReal)) (sums_all D X Y P Q g s Wg Wu j)
  · exact in_block (whole_has idx2_10 _ i)

end Cert.FfnThird

end
-- ==== Proof.FfnValue.lean ====
/-
  What the gated feed-forward block's result arrays hold at the end, over the reals: the three calls one after another, each reading
  what the one before left.
-/
module

public import proofs.«01_k».proof.Proof.FfnFirst
public import proofs.«01_k».proof.Proof.FfnSecond
public import proofs.«01_k».proof.Proof.FfnThird
public import Idealize.ShloMosaic.Lib.Claim
public import Idealize.ShloMosaic.Lib.StableHlo.ReadAt

@[expose] public section

set_option maxRecDepth 16384
set_option backward.isDefEq.respectTransparency false

noncomputable section

namespace Cert.FfnValue

open FfnIdeal FfnIdeal.Gen Idealize.ShloMosaic TcCoe Idealize.SL.Sem
open Reals Norm Mla NormMod Silu Ffn FfnKernel FfnBlock FfnFirst FfnSecond FfnThird
open Idealize.ShloMosaic.Pipeline (Dat)

variable (m : (ℓ : Loc nD τ sig) → Buf (Elt Ideal) ℓ) (ρ : Dev nD → PrngReg) (c : Dev nD)

/-- A weight, cut into four. -/
theorem v2 (W : A2 1024 2816) (hW : m ((c : Thread nD τ).loc main_arg5) = up W) : V1 m ρ c main_v2 = upb (chunkT W) := by
  show StableHlo.after hostOps0 (W0 m ρ c) (Proc.devRef .tc main_v2) = _
  simp only [hostOps0]
  after_reads_simp
  rw [show W0 m ρ c (Proc.devRef .tc main_arg5) = up W from hW]
  funext i
  pointwise [up, upb, chunkT, at4]

/-- A weight, cut into four. -/
theorem v5 (W : A2 1024 2816) (hW : m ((c : Thread nD τ).loc main_arg6) = up W) : V1 m ρ c main_v5 = upb (chunkT W) := by
  show StableHlo.after hostOps0 (W0 m ρ c) (Proc.devRef .tc main_v5) = _
  simp only [hostOps0]
  after_reads_simp
  rw [show W0 m ρ c (Proc.devRef .tc main_arg6) = up W from hW]
  funext i
  pointwise [up, upb, chunkT, at4]

/-- A weight, cut into four. -/
theorem v7 (W : A2 2816 1024) (hW : m ((c : Thread nD τ).loc main_arg7) = up W) : V1 m ρ c main_v7 = upb (rowsD W) := by
  show StableHlo.after hostOps0 (W0 m ρ c) (Proc.devRef .tc main_v7) = _
  simp only [hostOps0]
  after_reads_simp
  rw [show W0 m ρ c (Proc.devRef .tc main_arg7) = up W from hW]
  funext i
  pointwise [up, upb, rowsD, at4]

variable (X : A2 2048 1024) (g b s T : A2 1 1024) (Wg Wu : A2 1024 2816) (Wd : A2 2816 1024) (D : A2 2048 1024)

/-- The arguments are real arrays. -/
structure Args : Prop where
  h0 : m ((c : Thread nD τ).loc main_arg0) = up X
  h1 : m ((c : Thread nD τ).loc main_arg1) = up g
  h2 : m ((c : Thread nD τ).loc main_arg2) = up b
  h3 : m ((c : Thread nD τ).loc main_arg3) = up s
  h4 : m ((c : Thread nD τ).loc main_arg4) = up T
  h5 : m ((c : Thread nD τ).loc main_arg5) = up Wg
  h6 : m ((c : Thread nD τ).loc main_arg6) = up Wu
  h7 : m ((c : Thread nD τ).loc main_arg7) = up Wd
  h8 : m ((c : Thread nD τ).loc main_arg8) = up D

variable (H : Args m c X g b s T Wg Wu Wd D)
include H

/-! What the calls read. -/

theorem a0 : V1 m ρ c main_arg0 = up X :=
  (W1_args m ρ c _ (by decide)).trans H.h0
theorem a1 : V1 m ρ c main_arg1 = up g :=
  (W1_args m ρ c _ (by decide)).trans H.h1
theorem a2 : V1 m ρ c main_arg2 = up b :=
  (W1_args m ρ c _ (by decide)).trans H.h2
theorem a3 : V1 m ρ c main_arg3 = up s :=
  (W1_args m ρ c _ (by decide)).trans H.h3
theorem a4 : V1 m ρ c main_arg4 = up T :=
  (W1_args m ρ c _ (by decide)).trans H.h4
theorem b4 : V2 m ρ c main_arg4 = up T :=
  (W2_args m ρ c _ (by decide)).trans H.h4
theorem b8 : V2 m ρ c main_arg8 = up D :=
  (W2_args m ρ c _ (by decide)).trans H.h8
theorem bW : V2 m ρ c main_v7 = upb (rowsD Wd) :=
  (W2_of m ρ c main_v7 (by decide)).trans (v7 m ρ c Wd H.h7)
theorem bL : V2 m ρ c main_v8_3 = upb (chunk (slu (lin (nm X g s b) Wg))) :=
  (W2_arr m ρ c 11).trans (final0_11 (V1 m ρ) c X g b s T Wg Wu Wd (a0 m ρ c X g b s T Wg Wu Wd D H) (a1 m ρ c X g b s T Wg Wu Wd D H) (a2 m ρ c X g b s T Wg Wu Wd D H) (a3 m ρ c X g b s T Wg Wu Wd D H) (a4 m ρ c X g b s T Wg Wu Wd D H) (v2 m ρ c Wg H.h5) (v5 m ρ c Wu H.h6) (v7 m ρ c Wd H.h7))
theorem bM : V2 m ρ c main_v8_4 = upb (chunk (dsu (lin (nm X g s b) Wg) (lin (nm X g s b) Wu))) :=
  (W2_arr m ρ c 12).trans (final0_12 (V1 m ρ) c X g b s T Wg Wu Wd (a0 m ρ c X g b s T Wg Wu Wd D H) (a1 m ρ c X g b s T Wg Wu Wd D H) (a2 m ρ c X g b s T Wg Wu Wd D H) (a3 m ρ c X g b s T Wg Wu Wd D H) (a4 m ρ c X g b s T Wg Wu Wd D H) (v2 m ρ c Wg H.h5) (v5 m ρ c Wu H.h6) (v7 m ρ c Wd H.h7))
theorem c0 : V3 m ρ c main_arg0 = up X :=
  (W3_args m ρ c _ (by decide)).trans H.h0
theorem c1 : V3 m ρ c main_arg1 = up g :=
  (W3_args m ρ c _ (by decide)).trans H.h1
theorem c3 : V3 m ρ c main_arg3 = up s :=
  (W3_args m ρ c _ (by decide)).trans H.h3
theorem c8 : V3 m ρ c main_arg8 = up D :=
  (W3_args m ρ c _ (by decide)).trans H.h8
theorem cY : V3 m ρ c main_v8_5 = upb (yy X g b s Wg Wu Wd) :=
  (W3_of_ne m ρ c main_v8_5 (by decide)).trans ((W2_arr m ρ c 13).trans (final0_13 (V1 m ρ) c X g b s T Wg Wu Wd (a0 m ρ c X g b s T Wg Wu Wd D H) (a1 m ρ c X g b s T Wg Wu Wd D H) (a2 m ρ c X g b s T Wg Wu Wd D H) (a3 m ρ c X g b s T Wg Wu Wd D H) (a4 m ρ c X g b s T Wg Wu Wd D H) (v2 m ρ c Wg H.h5) (v5 m ρ c Wu H.h6) (v7 m ρ c Wd H.h7)))
theorem cP : V3 m ρ c main_v9_1 = upb (chunk (dP X g b s T Wg Wu Wd D)) :=
  (W3_arr m ρ c 6).trans (final1_6 (V2 m ρ) c D (slu (lin (nm X g s b) Wg)) (dsu (lin (nm X g s b) Wg) (lin (nm X g s b) Wu)) T Wd (b8 m ρ c X g b s T Wg Wu Wd D H) (bL m ρ c X g b s T Wg Wu Wd D H) (bM m ρ c X g b s T Wg Wu Wd D H) (b4 m ρ c X g b s T Wg Wu Wd D H) (bW m ρ c X g b s T Wg Wu Wd D H))
theorem cQ : V3 m ρ c main_v9_2 = upb (chunk (dQ X g b s T Wg Wd D)) :=
  (W3_arr m ρ c 7).trans (final1_7 (V2 m ρ) c D (slu (lin (nm X g s b) Wg)) (dsu (lin (nm X g s b) Wg) (lin (nm X g s b) Wu)) T Wd (b8 m ρ c X g b s T Wg Wu Wd D H) (bL m ρ c X g b s T Wg Wu Wd D H) (bM m ρ c X g b s T Wg Wu Wd D H) (b4 m ρ c X g b s T Wg Wu Wd D H) (bW m ρ c X g b s T Wg Wu Wd D H))
theorem cv2 : V3 m ρ c main_v2 = upb (chunkT Wg) :=
  (W3_of_ne m ρ c main_v2 (by decide)).trans ((W2_of m ρ c main_v2 (by decide)).trans (v2 m ρ c Wg H.h5))
theorem cv5 : V3 m ρ c main_v5 = upb (chunkT Wu) :=
  (W3_of_ne m ρ c main_v5 (by decide)).trans ((W2_of m ρ c main_v5 (by decide)).trans (v5 m ρ c Wu H.h6))

/-! The results. -/

/-- The rows after the block. -/
theorem res0 : W4 m ρ c (Proc.devRef .tc main_v8_0) = up fun i => X i + half T (yy X g b s Wg Wu Wd) i :=
  (W4_of_ne m ρ c main_v8_0 (by decide)).trans ((W3_of_ne m ρ c main_v8_0 (by decide)).trans ((W2_arr m ρ c 8).trans (final0_8 (V1 m ρ) c X g b s T Wg Wu Wd (a0 m ρ c X g b s T Wg Wu Wd D H) (a1 m ρ c X g b s T Wg Wu Wd D H) (a2 m ρ c X g b s T Wg Wu Wd D H) (a3 m ρ c X g b s T Wg Wu Wd D H) (a4 m ρ c X g b s T Wg Wu Wd D H) (v2 m ρ c Wg H.h5) (v5 m ρ c Wu H.h6) (v7 m ρ c Wd H.h7))))
/-- The normalised, scaled and shifted rows. -/
theorem res1 : W4 m ρ c (Proc.devRef .tc main_v8_1) = upb (nm X g s b) :=
  (W4_of_ne m ρ c main_v8_1 (by decide)).trans ((W3_of_ne m ρ c main_v8_1 (by decide)).trans ((W2_arr m ρ c 9).trans (final0_9 (V1 m ρ) c X g b s T Wg Wu Wd (a0 m ρ c X g b s T Wg Wu Wd D H) (a1 m ρ c X g b s T Wg Wu Wd D H) (a2 m ρ c X g b s T Wg Wu Wd D H) (a3 m ρ c X g b s T Wg Wu Wd D H) (a4 m ρ c X g b s T Wg Wu Wd D H) (v2 m ρ c Wg H.h5) (v5 m ρ c Wu H.h6) (v7 m ρ c Wd H.h7))))
/-- The inner columns, transposed. -/
theorem res2 : W4 m ρ c (Proc.devRef .tc main_v8_2) = upb (chunkT (act (lin (nm X g s b) Wg) (lin (nm X g s b) Wu))) :=
  (W4_of_ne m ρ c main_v8_2 (by decide)).trans ((W3_of_ne m ρ c main_v8_2 (by decide)).trans ((W2_arr m ρ c 10).trans (final0_10 (V1 m ρ) c X g b s T Wg Wu Wd (a0 m ρ c X g b s T Wg Wu Wd D H) (a1 m ρ c X g b s T Wg Wu Wd D H) (a2 m ρ c X g b s T Wg Wu Wd D H) (a3 m ρ c X g b s T Wg Wu Wd D H) (a4 m ρ c X g b s T Wg Wu Wd D H) (v2 m ρ c Wg H.h5) (v5 m ρ c Wu H.h6) (v7 m ρ c Wd H.h7))))
/-- The product's cotangent. -/
theorem res3 : W4 m ρ c (Proc.devRef .tc main_v9_0) = upb (half T D) :=
  (W4_of_ne m ρ c main_v9_0 (by decide)).trans ((W3_arr m ρ c 5).trans (final1_5 (V2 m ρ) c D (slu (lin (nm X g s b) Wg)) (dsu (lin (nm X g s b) Wg) (lin (nm X g s b) Wu)) T Wd (b8 m ρ c X g b s T Wg Wu Wd D H) (bL m ρ c X g b s T Wg Wu Wd D H) (bM m ρ c X g b s T Wg Wu Wd D H) (b4 m ρ c X g b s T Wg Wu Wd D H) (bW m ρ c X g b s T Wg Wu Wd D H)))
/-- The gates' cotangents. -/
theorem res4 : W4 m ρ c (Proc.devRef .tc main_v9_1) = upb (chunk (dP X g b s T Wg Wu Wd D)) :=
  (W4_of m ρ c main_v9_1 (by decide)).trans ((W3_arr m ρ c 6).trans (final1_6 (V2 m ρ) c D (slu (lin (nm X g s b) Wg)) (dsu (lin (nm X g s b) Wg) (lin (nm X g s b) Wu)) T Wd (b8 m ρ c X g b s T Wg Wu Wd D H) (bL m ρ c X g b s T Wg Wu Wd D H) (bM m ρ c X g b s T Wg Wu Wd D H) (b4 m ρ c X g b s T Wg Wu Wd D H) (bW m ρ c X g b s T Wg Wu Wd D H)))
/-- The other product's cotangents. -/
theorem res5 : W4 m ρ c (Proc.devRef .tc main_v9_2) = upb (chunk (dQ X g b s T Wg Wd D)) :=
  (W4_of m ρ c main_v9_2 (by decide)).trans ((W3_arr m ρ c 7).trans (final1_7 (V2 m ρ) c D (slu (lin (nm X g s b) Wg)) (dsu (lin (nm X g s b) Wg) (lin (nm X g s b) Wu)) T Wd (b8 m ρ c X g b s T Wg Wu Wd D H) (bL m ρ c X g b s T Wg Wu Wd D H) (bM m ρ c X g b s T Wg Wu Wd D H) (b4 m ρ c X g b s T Wg Wu Wd D H) (bW m ρ c X g b s T Wg Wu Wd D H)))
/-- The rows' gradient. -/
theorem res6 : W4 m ρ c (Proc.devRef .tc main_v10_0) = up fun i => drms 1024 (scaled (dN X g b s T Wg Wu Wd D) s) X g i + D i :=
  (W4_arr m ρ c 9).trans (final2_9 (V3 m ρ) c D X (yy X g b s Wg Wu Wd) (dP X g b s T Wg Wu Wd D) (dQ X g b s T Wg Wd D) g s Wg Wu (c8 m ρ c X g b s T Wg Wu Wd D H) (c0 m ρ c X g b s T Wg Wu Wd D H) (cY m ρ c X g b s T Wg Wu Wd D H) (cP m ρ c X g b s T Wg Wu Wd D H) (cQ m ρ c X g b s T Wg Wu Wd D H) (c1 m ρ c X g b s T Wg Wu Wd D H) (c3 m ρ c X g b s T Wg Wu Wd D H) (cv2 m ρ c X g b s T Wg Wu Wd D H) (cv5 m ρ c X g b s T Wg Wu Wd D H))
/-- The four rows of sums. -/
theorem res7 : W4 m ρ c (Proc.devRef .tc main_v10_1) = up (pack (dshift (dN X g b s T Wg Wu Wd D)) (dscale 1024 (dN X g b s T Wg Wu Wd D) X g) (dgt D (yy X g b s Wg Wu Wd)) (dgain 1024 (scaled (dN X g b s T Wg Wu Wd D) s) X)) :=
  (W4_arr m ρ c 10).trans (final2_10 (V3 m ρ) c D X (yy X g b s Wg Wu Wd) (dP X g b s T Wg Wu Wd D) (dQ X g b s T Wg Wd D) g s Wg Wu (c8 m ρ c X g b s T Wg Wu Wd D H) (c0 m ρ c X g b s T Wg Wu Wd D H) (cY m ρ c X g b s T Wg Wu Wd D H) (cP m ρ c X g b s T Wg Wu Wd D H) (cQ m ρ c X g b s T Wg Wu Wd D H) (c1 m ρ c X g b s T Wg Wu Wd D H) (c3 m ρ c X g b s T Wg Wu Wd D H) (cv2 m ρ c X g b s T Wg Wu Wd D H) (cv5 m ρ c X g b s T Wg Wu Wd D H))

end Cert.FfnValue

end
-- ==== Proof.FfnRef.lean ====
/-
  What the reference of the gated feed-forward block computes, over the reals.
-/
module

public import proofs.«01_k».proof.Proof.Ffn
public import proofs.«01_k».proof.Proof.Gen.FfnRefIdeal.Read

@[expose] public section

set_option maxRecDepth 16384
set_option backward.isDefEq.respectTransparency false

noncomputable section

namespace Cert.FfnRef

open Idealize.ShloMosaic TcCoe Reals Norm Mla NormMod Silu Ffn FfnRefIdeal FfnRefIdeal.Read

variable (X : A2 2048 1024) (g b s T : A2 1 1024) (Wg Wu : A2 1024 2816) (Wd : A2 2816 1024) (D : A2 2048 1024)

theorem v6 : val_main_v6 (F := Ideal) (up X) = up fun i => ms 1024 X (i 0) := by
  funext i
  pointwise [val_main_v6, val_main_v5, val_main_v4, val_main_v3, val_main_v2, val_main_v1, val_main_v0, val_main_cst,
    val_main_cst_0, val_main_cst_1, up, lit_1024, lit_eps, mul_coe, coe_sum]
  rw [div_coe _ (by norm_num), add_coe]
  rfl

theorem v7 : val_main_v7 (F := Ideal) (up X) = up fun i => rs 1024 X (i 0) := by
  funext i
  pointwise [val_main_v7, v6, up]
  rw [rsqrt_coe (ms_pos (by norm_num) X _)]
  rfl

theorem v10 : val_main_v10 (F := Ideal) (up X) = up fun i => -(1 / 2) * (rs 1024 X (i 0) / ms 1024 X (i 0)) := by
  funext i
  pointwise [val_main_v10, val_main_v9, val_main_v8, val_main_cst_2, v6, v7, up, lit_neg_half]
  rw [div_coe _ (ms_pos (by norm_num) X _).ne', mul_coe]

/-- The normalised, scaled and shifted rows. -/
theorem v20 : val_main_v20 (F := Ideal) (up X) (up g) (up b) (up s) = up (nm X g s b) := by
  funext i
  pointwise [val_main_v20, val_main_v19, val_main_v18, val_main_v17, val_main_v16, val_main_v15, val_main_v14, val_main_v13, val_main_v12, val_main_v11, val_main_cst_3, v7, up, lit_one, mul_coe, add_coe]
  rfl

theorem v21 : val_main_v21 (F := Ideal) (up X) (up g) (up b) (up s) (up Wg) = up (lin (nm X g s b) Wg) := by
  funext i
  pointwise [val_main_v21, v20, up, mul_coe, coe_sum]
  rfl

theorem v22 : val_main_v22 (F := Ideal) (up X) (up g) (up b) (up s) (up Wu) = up (lin (nm X g s b) Wu) := by
  funext i
  pointwise [val_main_v22, v20, up, mul_coe, coe_sum]
  rfl

theorem v23_2 : val_main_v23_2 (F := Ideal) (up X) (up g) (up b) (up s) (up Wg) = up fun i => sig (lin (nm X g s b) Wg i) := by
  funext i
  pointwise [val_main_v23_2, val_main_call0_v4, val_main_call0_v3, val_main_call0_v2, val_main_call0_v1, val_main_call0_v0, val_main_call0_cst, val_main_call0_cst_0, v21, up, lit_one]
  exact spelled _

theorem v23_1 : val_main_v23_1 (F := Ideal) (up X) (up g) (up b) (up s) (up Wg) = up fun i => sig (lin (nm X g s b) Wg i) * (1 - sig (lin (nm X g s b) Wg i)) := by
  funext i
  pointwise [val_main_v23_1, val_main_call0_v7, val_main_call0_v6, val_main_call0_cst_1, v23_2, up, lit_one, sub_coe, mul_coe]

theorem v23_0 : val_main_v23_0 (F := Ideal) (up X) (up g) (up b) (up s) (up Wg) = up (slu (lin (nm X g s b) Wg)) := by
  funext i
  pointwise [val_main_v23_0, v23_2, v21, up, mul_coe]
  rfl

theorem v24 : val_main_v24 (F := Ideal) (up X) (up g) (up b) (up s) (up Wg) (up Wu) = up (act (lin (nm X g s b) Wg) (lin (nm X g s b) Wu)) := by
  funext i
  pointwise [val_main_v24, v23_0, v22, up, mul_coe]
  rfl

theorem v25 : val_main_v25 (F := Ideal) (up X) (up g) (up b) (up s) (up Wg) (up Wu) (up Wd) = up (yy X g b s Wg Wu Wd) := by
  funext i
  pointwise [val_main_v25, v24, up, mul_coe, coe_sum]
  rfl

/-- THE ROWS after the block. -/
theorem v30 : val_main_v30 (F := Ideal) (up X) (up g) (up b) (up s) (up T) (up Wg) (up Wu) (up Wd) = up fun i => X i + half T (yy X g b s Wg Wu Wd) i := by
  funext i
  pointwise [val_main_v30, val_main_v29, val_main_v28, val_main_v27, val_main_v26, val_main_cst_4, v25, up, lit_half, mul_coe, add_coe]
  rfl

theorem v33 : val_main_v33 (F := Ideal) (up T) (up D) = up (half T D) := by
  funext i
  pointwise [val_main_v33, val_main_v32, val_main_v31, val_main_v27, val_main_v26, val_main_cst_4, up, lit_half, mul_coe, ix2_eta]
  rfl

/-- The gradient of the row's gate. -/
theorem v38 : val_main_v38 (F := Ideal) (up X) (up g) (up b) (up s) (up Wg) (up Wu) (up Wd) (up D) = up (dgt D (yy X g b s Wg Wu Wd)) := by
  funext i
  pointwise [val_main_v38, val_main_v37, val_main_v36, val_main_v35, val_main_v34, val_main_v31, val_main_cst_5, val_main_cst_6, v25, up, lit_half, mul_coe, coe_sum]
  refine congrArg (fun z : ℝ => (z : EReal)) ?_
  unfold dgt
  rw [Finset.mul_sum]
  exact Finset.sum_congr rfl fun k _ => (mul_assoc _ _ _).symm

theorem v39 : val_main_v39 (F := Ideal) (up T) (up Wd) (up D) = up (dact (half T D) Wd) := by
  funext i
  pointwise [val_main_v39, v33, up, mul_coe, coe_sum]
  rfl

theorem v40 : val_main_v40 (F := Ideal) (up X) (up g) (up b) (up s) (up T) (up Wg) (up Wd) (up D) = up (dQ X g b s T Wg Wd D) := by
  funext i
  pointwise [val_main_v40, v23_0, v39, up, mul_coe]
  exact congrArg (fun z : ℝ => (z : EReal)) (mul_comm _ _)

theorem v42 : val_main_v42 (F := Ideal) (up X) (up g) (up b) (up s) (up T) (up Wg) (up Wu) (up Wd) (up D) = up (dP X g b s T Wg Wu Wd D) := by
  funext i
  pointwise [val_main_v42, val_main_call1_v2, val_main_call1_v1, val_main_call1_v0, val_main_v41, v39, v23_1, v23_2, v22, v21, up, mul_coe, add_coe]
  refine congrArg (fun z : ℝ => (z : EReal)) ?_
  unfold dP times dsu
  ring

theorem v45 : val_main_v45 (F := Ideal) (up X) (up g) (up b) (up s) (up T) (up Wg) (up Wu) (up Wd) (up D) = up (dN X g b s T Wg Wu Wd D) := by
  funext i
  pointwise [val_main_v45, val_main_v44, val_main_v43, v40, v42, up, mul_coe, add_coe, coe_sum]
  exact congrArg (fun z : ℝ => (z : EReal)) (add_comm _ _)

theorem v47 : val_main_v47 (F := Ideal) (up X) (up g) (up b) (up s) (up T) (up Wg) (up Wu) (up Wd) (up D) = up (dshift (dN X g b s T Wg Wu Wd D)) := by
  funext i
  pointwise [val_main_v47, val_main_v46, val_main_cst_7, v45, up, coe_sum]
  rfl

theorem v50 : val_main_v50 (F := Ideal) (up X) (up g) (up b) (up s) (up T) (up Wg) (up Wu) (up Wd) (up D) = up (dscale 1024 (dN X g b s T Wg Wu Wd D) X g) := by
  funext i
  pointwise [val_main_v50, val_main_v49, val_main_v48, val_main_v14, val_main_v13, val_main_v12, val_main_v11, val_main_cst_8, v45, v7, up, mul_coe, coe_sum]
  exact congrArg _ (Finset.sum_congr rfl fun k _ => mul_comm _ _)

theorem v52 : val_main_v52 (F := Ideal) (up X) (up g) (up b) (up s) (up T) (up Wg) (up Wu) (up Wd) (up D) = up (scaled (dN X g b s T Wg Wu Wd D) s) := by
  funext i
  pointwise [val_main_v52, val_main_v51, val_main_v16, val_main_v15, val_main_cst_3, v45, up, lit_one, add_coe, mul_coe]
  rfl

theorem v55 : val_main_v55 (F := Ideal) (up X) (up g) (up b) (up s) (up T) (up Wg) (up Wu) (up Wd) (up D) = up (dgain 1024 (scaled (dN X g b s T Wg Wu Wd D) s) X) := by
  funext i
  pointwise [val_main_v55, val_main_v54, val_main_v53, val_main_v12, val_main_v11, val_main_cst_9, v52, v7, up, mul_coe, coe_sum]
  exact congrArg _ (Finset.sum_congr rfl fun k _ => mul_comm _ _)

/-- THE GRADIENT of the rows, with the cotangent that comes beside added. -/
theorem v84 : val_main_v84 (F := Ideal) (up X) (up g) (up b) (up s) (up T) (up Wg) (up Wu) (up Wd) (up D) = up fun i => drms 1024 (scaled (dN X g b s T Wg Wu Wd D) s) X g i + D i := by
  funext i
  pointwise [val_main_v84, val_main_v71, val_main_v70, val_main_v69, val_main_v68, val_main_v67, val_main_v66, val_main_v65, val_main_v64, val_main_v63, val_main_v62, val_main_v61, val_main_v60, val_main_v59, val_main_v58, val_main_v57, val_main_v56, val_main_cst_10, val_main_cst_11, val_main_cst_12, v52, v7, v10, up, lit_1024, mul_coe, coe_sum, ix2_eta]
  rw [div_coe _ (by norm_num)]
  simp only [Finset.univ_unique, Finset.sum_singleton, mul_coe, add_coe]
  refine congrArg (fun z : ℝ => (z : EReal)) ?_
  rw [← drms_add (by norm_num) (scaled (dN X g b s T Wg Wu Wd D) s) X g i (D i) _ _ rfl rfl]
  ring

/-- THE SMALL ARRAY of the gradients of the shift, the scale, the row's gate and the gain. -/
theorem v85 : val_main_v85 (F := Ideal) (up X) (up g) (up b) (up s) (up T) (up Wg) (up Wu) (up Wd) (up D)
    = up (pack (dshift (dN X g b s T Wg Wu Wd D)) (dscale 1024 (dN X g b s T Wg Wu Wd D) X g) (dgt D (yy X g b s Wg Wu Wd)) (dgain 1024 (scaled (dN X g b s T Wg Wu Wd D) s) X)) := by
  funext i
  have h0 : (i 0).val < 8 := (i 0).isLt
  pointwise [val_main_v85, val_main_v72, val_main_cst_13, v47, v50, v38, v55, up]
  rcases rows8 (i 0) with h | h | h | h | h
  · rw [dif_pos (by omega), pack_0 _ _ _ _ _ h]; exact congrArg (fun z : ℝ => (z : EReal)) (at0 _ _ _)
  · rw [dif_neg (by omega), dif_pos (by omega), pack_1 _ _ _ _ _ h]; exact congrArg (fun z : ℝ => (z : EReal)) (at0 _ _ _)
  · rw [dif_neg (by omega), dif_neg (by omega), dif_pos (by omega), pack_2 _ _ _ _ _ h]; exact congrArg (fun z : ℝ => (z : EReal)) (at0 _ _ _)
  · rw [dif_neg (by omega), dif_neg (by omega), dif_neg (by omega), dif_pos (by omega), pack_3 _ _ _ _ _ h]; exact congrArg (fun z : ℝ => (z : EReal)) (at0 _ _ _)
  · rw [pack_4 _ _ _ _ _ h]
    simp only [dif_neg (show ¬(i 0).val < 1 by omega), dif_neg (show ¬(i 0).val - 1 < 1 by omega),
      dif_neg (show ¬(i 0).val - 1 - 1 < 1 by omega), dif_neg (show ¬(i 0).val - 1 - 1 - 1 < 1 by omega), dite_eq_ite, ite_self]
    rfl

theorem v73 : val_main_v73 (F := Ideal) (up X) (up g) (up b) (up s) = upb (nm X g s b) := by
  funext i
  pointwise [val_main_v73, v20, up, upb]

theorem v76 : val_main_v76 (F := Ideal) (up X) (up g) (up b) (up s) (up Wg) (up Wu) = upb (chunkT (act (lin (nm X g s b) Wg) (lin (nm X g s b) Wu))) := by
  funext i
  pointwise [val_main_v76, val_main_v75, val_main_v74, v24, up, upb]
  rfl

theorem v77 : val_main_v77 (F := Ideal) (up T) (up D) = upb (half T D) := by
  funext i
  pointwise [val_main_v77, v33, up, upb]

theorem v80 : val_main_v80 (F := Ideal) (up X) (up g) (up b) (up s) (up T) (up Wg) (up Wu) (up Wd) (up D) = upb (chunk (dP X g b s T Wg Wu Wd D)) := by
  funext i
  pointwise [val_main_v80, val_main_v79, val_main_v78, v42, up, upb]
  rfl

theorem v83 : val_main_v83 (F := Ideal) (up X) (up g) (up b) (up s) (up T) (up Wg) (up Wd) (up D) = upb (chunk (dQ X g b s T Wg Wd D)) := by
  funext i
  pointwise [val_main_v83, val_main_v82, val_main_v81, v40, up, upb]
  rfl

end Cert.FfnRef

end
-- ==== Proof.FfnRun.lean ====
/-
  The run of the gated feed-forward block's three calls: what the memory holds at its end.
-/
module

public import proofs.«01_k».proof.Proof.Reals
public import proofs.«01_k».proof.Proof.Gen.FfnIdeal.Frame

@[expose] public section

set_option maxRecDepth 16384
set_option backward.isDefEq.respectTransparency false

noncomputable section

namespace Cert.FfnRun

open FfnIdeal FfnIdeal.Gen Idealize.ShloMosaic TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable (m : (ℓ : Loc nD τ sig) → Buf (Elt Ideal) ℓ) (ρ : Dev nD → PrngReg)

set_option backward.isDefEq.respectTransparency.types false in
/-- The run ends with each result array as the calls leave it, and every argument as launched. -/
theorem run : θ_run defs (onTc (τ := τ) (main (F := Ideal))) ⟨m, fun _ => 0, ρ⟩ (fun r => ∀ c : Dev nD,
      r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_v8_2) = W4 m ρ c (Proc.devRef .tc main_v8_2)
      ∧ r.2.mem ((c.tc : Thread nD τ).loc main_v9_0) = W4 m ρ c (Proc.devRef .tc main_v9_0)
      ∧ r.2.mem ((c.tc : Thread nD τ).loc main_v9_1) = W4 m ρ c (Proc.devRef .tc main_v9_1)
      ∧ r.2.mem ((c.tc : Thread nD τ).loc main_v9_2) = W4 m ρ c (Proc.devRef .tc main_v9_2)
      ∧ r.2.mem ((c.tc : Thread nD τ).loc main_v10_0) = W4 m ρ c (Proc.devRef .tc main_v10_0)
      ∧ r.2.mem ((c.tc : Thread nD τ).loc main_v10_1) = W4 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v8_0 (by decide)),
       h c _ (mem_uc main_v8_1 (by decide)),
       h c _ (mem_uc main_v8_2 (by decide)),
       h c _ (mem_uc main_v9_0 (by decide)),
       h c _ (mem_uc main_v9_1 (by decide)),
       h c _ (mem_uc main_v9_2 (by decide)),
       h c _ (mem_uc main_v10_0 (by decide)),
       h c _ (mem_uc main_v10_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.FfnRun

end
-- ==== Proof.FfnClaims.lean ====
/-
  The claims about the gated feed-forward block: the reference's frame, and the equality of the results over the reals, for finite arguments.
-/
module

public import proofs.«01_k».proof.Defs
public import proofs.«01_k».proof.Proof.FfnValue
public import proofs.«01_k».proof.Proof.FfnRef
public import proofs.«01_k».proof.Proof.FfnRun
public import proofs.«01_k».proof.Proof.Gen.Ffn.Frame
public import proofs.«01_k».proof.Proof.Gen.Pre_finite_ffn

@[expose] public section

noncomputable section

namespace Cert.FfnClaims

open Idealize.ShloMosaic TcCoe Idealize.SL.Sem Reals

/-- Arguments that meet the precondition are arrays of real numbers. -/
theorem reals
    (x0 : FVec Ideal Pre_finite_ffn.S2048x1024 .f32)
    (x1 : FVec Ideal Pre_finite_ffn.S1x1024 .f32)
    (x2 : FVec Ideal Pre_finite_ffn.S1x1024 .f32)
    (x3 : FVec Ideal Pre_finite_ffn.S1x1024 .f32)
    (x4 : FVec Ideal Pre_finite_ffn.S1x1024 .f32)
    (x5 : FVec Ideal Pre_finite_ffn.S1024x2816 .f32)
    (x6 : FVec Ideal Pre_finite_ffn.S1024x2816 .f32)
    (x7 : FVec Ideal Pre_finite_ffn.S2816x1024 .f32)
    (x8 : FVec Ideal Pre_finite_ffn.S2048x1024 .f32)
    (h : Pre_finite_ffn.fn (F := Ideal) x0 x1 x2 x3 x4 x5 x6 x7 x8 = fun _ => 1#1) :
    (∃ X : Pre_finite_ffn.S2048x1024.Idx → ℝ, x0 = up X)
      ∧ (∃ gn : Pre_finite_ffn.S1x1024.Idx → ℝ, x1 = up gn)
      ∧ (∃ b : Pre_finite_ffn.S1x1024.Idx → ℝ, x2 = up b)
      ∧ (∃ sc : Pre_finite_ffn.S1x1024.Idx → ℝ, x3 = up sc)
      ∧ (∃ T : Pre_finite_ffn.S1x1024.Idx → ℝ, x4 = up T)
      ∧ (∃ Wg : Pre_finite_ffn.S1024x2816.Idx → ℝ, x5 = up Wg)
      ∧ (∃ Wu : Pre_finite_ffn.S1024x2816.Idx → ℝ, x6 = up Wu)
      ∧ (∃ Wd : Pre_finite_ffn.S2816x1024.Idx → ℝ, x7 = up Wd)
      ∧ (∃ D : Pre_finite_ffn.S2048x1024.Idx → ℝ, x8 = up D) := by
  have h0 := congrFun h ix0
  unfold Pre_finite_ffn.fn Pre_finite_ffn.fn_part1 Pre_finite_ffn.fn_part2 at h0
  obtain ⟨h1, p8⟩ := IntOp.andi_eq_one.1 h0
  obtain ⟨h2, p7⟩ := IntOp.andi_eq_one.1 h1
  obtain ⟨h3, p6⟩ := IntOp.andi_eq_one.1 h2
  obtain ⟨h4, p5⟩ := IntOp.andi_eq_one.1 h3
  obtain ⟨h5, p4⟩ := IntOp.andi_eq_one.1 h4
  obtain ⟨h6, p3⟩ := IntOp.andi_eq_one.1 h5
  obtain ⟨h7, p2⟩ := IntOp.andi_eq_one.1 h6
  obtain ⟨p0, p1⟩ := IntOp.andi_eq_one.1 h7
  exact ⟨array_real (φ := .f32) _ _ (fun _ => lit_inf) _ _ _ _ p0,
    array_real (φ := .f32) _ _ (fun _ => lit_inf) _ _ _ _ p1,
    array_real (φ := .f32) _ _ (fun _ => lit_inf) _ _ _ _ p2,
    array_real (φ := .f32) _ _ (fun _ => lit_inf) _ _ _ _ p3,
    array_real (φ := .f32) _ _ (fun _ => lit_inf) _ _ _ _ p4,
    array_real (φ := .f32) _ _ (fun _ => lit_inf) _ _ _ _ p5,
    array_real (φ := .f32) _ _ (fun _ => lit_inf) _ _ _ _ p6,
    array_real (φ := .f32) _ _ (fun _ => lit_inf) _ _ _ _ p7,
    array_real (φ := .f32) _ _ (fun _ => lit_inf) _ _ _ _ p8⟩

/-- The reference runs and leaves its arguments. -/
theorem quiescent_ref : quiescent_FfnRefIdeal := fun m g _ =>
  (θ_run FfnRefIdeal.defs _ _).mono (fun r h => ⟨fun c => (h c).2.2.2.2.2.2.2.2,
    Idealize.ShloMosaic.sem_eq_zero_of_no_sems (by decide) r.2⟩) (FfnRefIdeal.Value.run (F := Ideal) m g)

set_option maxHeartbeats 2000000 in
/-- The results are the reference's, for finite arguments. -/
theorem algebraic : algebraic_FfnIdeal_FfnRefIdeal_pre_finite_ffn := by
  intro m g m' g' hpre hagree
  refine ⟨fun c => FfnRefIdeal.Read.val_main_v30 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg4)) (m ((c.tc : Thread FfnIdeal.nD FfnIdeal.τ).loc FfnIdeal.main_arg5)) (m ((c.tc : Thread FfnIdeal.nD FfnIdeal.τ).loc FfnIdeal.main_arg6)) (m ((c.tc : Thread FfnIdeal.nD FfnIdeal.τ).loc FfnIdeal.main_arg7)),
    fun c => FfnRefIdeal.Read.val_main_v73 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)),
    fun c => FfnRefIdeal.Read.val_main_v76 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg5)) (m ((c.tc : Thread FfnIdeal.nD FfnIdeal.τ).loc FfnIdeal.main_arg6)),
    fun c => FfnRefIdeal.Read.val_main_v77 (F := Ideal) (m ((c.tc : Thread FfnIdeal.nD FfnIdeal.τ).loc FfnIdeal.main_arg4)) (m ((c.tc : Thread FfnIdeal.nD FfnIdeal.τ).loc FfnIdeal.main_arg8)),
    fun c => FfnRefIdeal.Read.val_main_v80 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg4)) (m ((c.tc : Thread FfnIdeal.nD FfnIdeal.τ).loc FfnIdeal.main_arg5)) (m ((c.tc : Thread FfnIdeal.nD FfnIdeal.τ).loc FfnIdeal.main_arg6)) (m ((c.tc : Thread FfnIdeal.nD FfnIdeal.τ).loc FfnIdeal.main_arg7)) (m ((c.tc : Thread FfnIdeal.nD FfnIdeal.τ).loc FfnIdeal.main_arg8)),
    fun c => FfnRefIdeal.Read.val_main_v83 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg4)) (m ((c.tc : Thread FfnIdeal.nD FfnIdeal.τ).loc FfnIdeal.main_arg5)) (m ((c.tc : Thread FfnIdeal.nD FfnIdeal.τ).loc FfnIdeal.main_arg7)) (m ((c.tc : Thread FfnIdeal.nD FfnIdeal.τ).loc FfnIdeal.main_arg8)),
    fun c => FfnRefIdeal.Read.val_main_v84 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg4)) (m ((c.tc : Thread FfnIdeal.nD FfnIdeal.τ).loc FfnIdeal.main_arg5)) (m ((c.tc : Thread FfnIdeal.nD FfnIdeal.τ).loc FfnIdeal.main_arg6)) (m ((c.tc : Thread FfnIdeal.nD FfnIdeal.τ).loc FfnIdeal.main_arg7)) (m ((c.tc : Thread FfnIdeal.nD FfnIdeal.τ).loc FfnIdeal.main_arg8)),
    fun c => FfnRefIdeal.Read.val_main_v85 (F := Ideal) (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2)) (m ((c.tc : Thread FfnIdeal.nD FfnIdeal.τ).loc FfnIdeal.main_arg3)) (m ((c.tc : Thread FfnIdeal.nD FfnIdeal.τ).loc FfnIdeal.main_arg4)) (m ((c.tc : Thread FfnIdeal.nD FfnIdeal.τ).loc FfnIdeal.main_arg5)) (m ((c.tc : Thread FfnIdeal.nD FfnIdeal.τ).loc FfnIdeal.main_arg6)) (m ((c.tc : Thread FfnIdeal.nD FfnIdeal.τ).loc FfnIdeal.main_arg7)) (m ((c.tc : Thread FfnIdeal.nD FfnIdeal.τ).loc FfnIdeal.main_arg8)), ?_, ?_⟩
  · refine (θ_run FfnIdeal.defs _ _).mono (fun r h c => ?_) (FfnRun.run m g)
    obtain ⟨e0, e1, e2, e3, e4, e5, e6, e7, e8⟩ := h c
    obtain ⟨⟨X, q0⟩, ⟨gn, q1⟩, ⟨b, q2⟩, ⟨sc, q3⟩, ⟨T, q4⟩, ⟨Wg, q5⟩, ⟨Wu, q6⟩, ⟨Wd, q7⟩, ⟨D, q8⟩⟩ := reals _ _ _ _ _ _ _ _ _ (hpre c)
    have H : FfnValue.Args m c X gn b sc T Wg Wu Wd D := ⟨q0, q1, q2, q3, q4, q5, q6, q7, q8⟩
    refine ⟨e0.trans ?_, e1.trans ?_, e2.trans ?_, e3.trans ?_, e4.trans ?_, e5.trans ?_, e6.trans ?_, e7.trans ?_, e8⟩
    · rw [FfnValue.res0 m g c X gn b sc T Wg Wu Wd D H]
      beta_reduce
      rw [q0, q1, q2, q3, q4, q5, q6, q7]
      exact (FfnRef.v30 _ _ _ _ _ _ _ _).symm
    · rw [FfnValue.res1 m g c X gn b sc T Wg Wu Wd D H]
      beta_reduce
      rw [q0, q1, q2, q3]
      exact (FfnRef.v73 _ _ _ _).symm
    · rw [FfnValue.res2 m g c X gn b sc T Wg Wu Wd D H]
      beta_reduce
      rw [q0, q1, q2, q3, q5, q6]
      exact (FfnRef.v76 _ _ _ _ _ _).symm
    · rw [FfnValue.res3 m g c X gn b sc T Wg Wu Wd D H]
      beta_reduce
      rw [q4, q8]
      exact (FfnRef.v77 _ _).symm
    · rw [FfnValue.res4 m g c X gn b sc T Wg Wu Wd D H]
      beta_reduce
      rw [q0, q1, q2, q3, q4, q5, q6, q7, q8]
      exact (FfnRef.v80 _ _ _ _ _ _ _ _ _).symm
    · rw [FfnValue.res5 m g c X gn b sc T Wg Wu Wd D H]
      beta_reduce
      rw [q0, q1, q2, q3, q4, q5, q7, q8]
      exact (FfnRef.v83 _ _ _ _ _ _ _ _).symm
    · rw [FfnValue.res6 m g c X gn b sc T Wg Wu Wd D H]
      beta_reduce
      rw [q0, q1, q2, q3, q4, q5, q6, q7, q8]
      exact (FfnRef.v84 _ _ _ _ _ _ _ _ _).symm
    · rw [FfnValue.res7 m g c X gn b sc T Wg Wu Wd D H]
      beta_reduce
      rw [q0, q1, q2, q3, q4, q5, q6, q7, q8]
      exact (FfnRef.v85 _ _ _ _ _ _ _ _ _).symm
  · refine (θ_run FfnRefIdeal.defs _ _).mono (fun r h c => ?_) (FfnRefIdeal.Value.run (F := Ideal) m' g')
    obtain ⟨e0, e1, e2, e3, e4, e5, e6, e7, e8⟩ := h c
    obtain ⟨a0, a1, a2, a3, a4, a5, a6, a7, a8⟩ := hagree c
    refine ⟨e0.trans ?_, e1.trans ?_, e2.trans ?_, e3.trans ?_, e4.trans ?_, e5.trans ?_, e6.trans ?_, e7.trans ?_, e8⟩
    · beta_reduce
      rw [← a0, ← a1, ← a2, ← a3, ← a4, ← a5, ← a6, ← a7]
      exact FfnRefIdeal.Read.val_main_v30_eq _ _ _ _ _ _ _ _
    · beta_reduce
      rw [← a0, ← a1, ← a2, ← a3]
      exact FfnRefIdeal.Read.val_main_v73_eq _ _ _ _
    · beta_reduce
      rw [← a0, ← a1, ← a2, ← a3, ← a5, ← a6]
      exact FfnRefIdeal.Read.val_main_v76_eq _ _ _ _ _ _
    · beta_reduce
      rw [← a4, ← a8]
      exact FfnRefIdeal.Read.val_main_v77_eq _ _
    · beta_reduce
      rw [← a0, ← a1, ← a2, ← a3, ← a4, ← a5, ← a6, ← a7, ← a8]
      exact FfnRefIdeal.Read.val_main_v80_eq _ _
    · beta_reduce
      rw [← a0, ← a1, ← a2, ← a3, ← a4, ← a5, ← a7, ← a8]
      exact FfnRefIdeal.Read.val_main_v83_eq _ _ _ _ _ _ _ _
    · beta_reduce
      rw [← a0, ← a1, ← a2, ← a3, ← a4, ← a5, ← a6, ← a7, ← a8]
      exact FfnRefIdeal.Read.val_main_v84_eq _ _
    · beta_reduce
      rw [← a0, ← a1, ← a2, ← a3, ← a4, ← a5, ← a6, ← a7, ← a8]
      exact FfnRefIdeal.Read.val_main_v85_eq _ _

end Cert.FfnClaims

end
-- ==== Proof.AttnOut.lean ====
/-
  The attention's output over the reals, with values that may be infinite: a row's sum of its probabilities times the
  values, over all keys or over the keys up to the last that a row tile can see.
-/
module

public import proofs.«01_k».proof.Proof.Attn

@[expose] public section

noncomputable section

namespace Cert.Attn

open Idealize.ShloMosaic Reals

variable (Q K : Fin 2048 → Fin 192 → ℝ) (V : Fin 2048 → Fin 128 → EReal)

/-- Element `e` of the output of query `r`. -/
def outv (r : Fin 2048) (e : Fin 128) : EReal := ∑ j, ((pr Q K r j : ℝ) : EReal) * V j e

/-- The output from the first `n` keys alone, the query being one of them: the keys left out have probability zero, and
    zero times an infinite value is zero. -/
theorem outv_prefix {n : Nat} (hn : n ≤ 2048) (r : Fin 2048) (hr : r.val < n) (e : Fin 128) (p : Fin n → EReal)
    (hp : ∀ j, p j = ((pr Q K r (Fin.castLE hn j) : ℝ) : EReal)) :
    (∑ j : Fin n, p j * V (Fin.castLE hn j) e) = outv Q K V r e := by
  simp only [hp]
  refine Finset.sum_of_injOn (Fin.castLE hn) (fun a _ b _ h => Fin.castLE_injective hn h) (fun _ _ => Finset.mem_coe.2 (Finset.mem_univ _))
    (fun j _ hj => ?_) (fun _ _ => rfl)
  have h : r.val < j.val := by
    by_contra hlt
    exact hj ⟨⟨j.val, by omega⟩, Finset.mem_coe.2 (Finset.mem_univ _), Fin.ext rfl⟩
  rw [pr_zero Q K h, EReal.coe_zero, zero_mul]

/-- One head of the values. -/
def headv (X : (⟨3, ![4, 2048, 128]⟩ : Shape).Idx → EReal) (h : Fin 4) : Fin 2048 → Fin 128 → EReal := fun r e => X (ix3 h r e)

end Cert.Attn

end
-- ==== Proof.AttnFwdTile.lean ====
/-
  What one grid point of the attention's forward call leaves in its result block, over the reals: the payloads of the four
  row tiles — the probabilities of 512 queries and the keys up to the last of them, times the values — put together.
-/
module

public import proofs.«01_k».proof.Proof.AttnOut
public import proofs.«01_k».proof.Proof.Gen.AttnFwdIdeal.Value
public import Idealize.ShloMosaic.Lib.Pipeline.ValueKit.Tiles
public import Idealize.ShloMosaic.Lib.Pipeline.ReadBack

@[expose] public section

set_option maxRecDepth 16384
set_option backward.isDefEq.respectTransparency false

noncomputable section

namespace Cert.AttnFwdTile

open Idealize.ShloMosaic TcCoe Idealize.SL.Sem Reals Norm Attn AttnFwdIdeal AttnFwdIdeal.Gen

section Blocks

variable {w : Nat} {E : Type}

/-- Tile `t` of a head's rows, its first `n` rows, and its block, as the body loads them. -/
def tileOf (X : Fin 2048 → Fin w → E) (t : Fin 4) (i : (⟨3, ![1, 512, w]⟩ : Shape).Idx) : E := X (row t (i 1)) (i 2)
def pre (n : Nat) (hn : n ≤ 2048) (X : Fin 2048 → Fin w → E) (i : (⟨3, ![1, n, w]⟩ : Shape).Idx) : E := X (Fin.castLE hn (show Fin n from i 1)) (i 2)
def block (X : Fin 2048 → Fin w → E) (i : (⟨3, ![1, 2048, w]⟩ : Shape).Idx) : E := X (i 1) (i 2)

/-- A load of a row tile. -/
theorem ld_tile (X : Fin 2048 → Fin w → ℝ) (t : Fin 4) (o : Nat) (ho : o = 512 * t.val)
    (inb : ∀ a : Fin 3, (![0, o, 0] : Fin 3 → Nat) a + (![1, 512, w] : Fin 3 → Nat) a ≤ (![1, 2048, w] : Fin 3 → Nat) a) :
    View.ld (Val := Elt Ideal) (e' := .bf16) (upb (block X)) (Rect.unit ![0, o, 0] ![1, 512, w] inb) = upb (tileOf X t) := by
  subst ho
  funext i
  refine View.ld_unit_apply_of (Val := Elt Ideal) (e := .bf16) (upb (block X)) _ _ inb i (ix3 0 (row t (i 1)) (i 2)) fun a => ?_
  match a with
  | ⟨0, _⟩ => exact (Nat.lt_one_iff.1 (i 0).isLt).symm ▸ rfl
  | ⟨1, _⟩ => rfl
  | ⟨2, _⟩ => exact (Nat.zero_add _).symm

/-- A load of the first `n` rows, of any values. -/
theorem ld_prev (X : Fin 2048 → Fin w → EReal) (n : Nat) (hn : n ≤ 2048)
    (inb : ∀ a : Fin 3, (![0, 0, 0] : Fin 3 → Nat) a + (![1, n, w] : Fin 3 → Nat) a ≤ (![1, 2048, w] : Fin 3 → Nat) a) :
    View.ld (Val := Elt Ideal) (e' := .bf16) (block X) (Rect.unit ![0, 0, 0] ![1, n, w] inb) = pre n hn X := by
  funext i
  refine View.ld_unit_apply_of (Val := Elt Ideal) (e := .bf16) (block X) _ _ inb i (ix3 0 (Fin.castLE hn (i 1)) (i 2)) fun a => ?_
  match a with
  | ⟨0, _⟩ => exact (Nat.lt_one_iff.1 (i 0).isLt).symm ▸ rfl
  | ⟨1, _⟩ => exact (Nat.zero_add _).symm
  | ⟨2, _⟩ => exact (Nat.zero_add _).symm

/-- A load of the first `n` rows, of real numbers. -/
theorem ld_pre (X : Fin 2048 → Fin w → ℝ) (n : Nat) (hn : n ≤ 2048)
    (inb : ∀ a : Fin 3, (![0, 0, 0] : Fin 3 → Nat) a + (![1, n, w] : Fin 3 → Nat) a ≤ (![1, 2048, w] : Fin 3 → Nat) a) :
    View.ld (Val := Elt Ideal) (e' := .bf16) (upb (block X)) (Rect.unit ![0, 0, 0] ![1, n, w] inb) = upb (pre n hn X) :=
  ld_prev (fun r d => ((X r d : ℝ) : EReal)) n hn inb

end Blocks

variable (Q K : Fin 2048 → Fin 192 → ℝ) (V : Fin 2048 → Fin 128 → EReal)

/-- A tile's query is one of the tile's keys. -/
theorem row_lt (t : Fin 4) (r : Fin 512) : (row t r).val < 512 * (t.val + 1) := by
  have := r.isLt
  show 512 * t.val + r.val < _
  omega

/-- The mask's constant is −∞. -/
theorem mask : (Named.named (F := Ideal) (φ := .f32) κ "mask" 0xF149F2CA#32) = (⊥ : EReal) := rfl

/-- The word of a query's position. -/
theorem pos (t : Fin 4) (r : Fin 512) (a : Nat) (ha : a = 512 * t.val) :
    IntOp.addi (BitVec.ofNat 32 a) (BitVec.ofNat 32 r.val) = BitVec.ofNat 32 (row t r).val := by
  rw [ha, WordCmp.addi_ofNat]; rfl

/-- A head's output, and a tile of it. -/
def outB (i : S2048x128.Idx) : EReal := outv Q K V (i 0) (i 1)
def outT (t : Fin 4) (i : S512x128.Idx) : EReal := outv Q K V (row t (i 0)) (i 1)

/-- The outputs of the four tiles. -/
theorem pay2 : k0_pay2 (F := Ideal) (upb (tileOf Q 0)) (upb (pre 512 (by decide) K)) (pre 512 (by decide) V) = outT Q K V 0 := by
  funext i
  unfold k0_pay2
  pointwise [upb, tileOf, pre, mul_coe, coe_sum, lit_scale, lit_ninf]
  exact outv_prefix Q K V _ _ (row_lt 0 (i 0)) _ _ fun j => softmax_tile Q K _ _ (row_lt 0 (i 0)) _ (pos 0 (i 0) _ rfl) _ mask j

theorem pay4 : k0_pay4 (F := Ideal) (k0_pay3 (upb (tileOf Q 1))) (upb (pre 1024 (by decide) K)) (pre 1024 (by decide) V) = outT Q K V 1 := by
  funext i
  unfold k0_pay4 k0_pay3
  pointwise [upb, tileOf, pre, mul_coe, coe_sum, lit_scale, lit_ninf]
  exact outv_prefix Q K V _ _ (row_lt 1 (i 0)) _ _ fun j => softmax_tile Q K _ _ (row_lt 1 (i 0)) _ (pos 1 (i 0) _ rfl) _ mask j

theorem pay7 : k0_pay7 (F := Ideal) (k0_pay5 (upb (tileOf Q 2)) (upb (pre 1536 (by decide) K))) k0_pay6 (pre 1536 (by decide) V) = outT Q K V 2 := by
  funext i
  unfold k0_pay7 k0_pay5 k0_pay6
  pointwise [upb, tileOf, pre, mul_coe, coe_sum, lit_scale, lit_ninf]
  exact outv_prefix Q K V _ _ (row_lt 2 (i 0)) _ _ fun j => softmax_tile Q K _ _ (row_lt 2 (i 0)) _ (pos 2 (i 0) _ rfl) _ mask j

theorem pay1 : k0_pay1 (F := Ideal) (k0_pay8 (upb (tileOf Q 3)) (upb (pre 2048 (by decide) K))) (pre 2048 (by decide) V) = outT Q K V 3 := by
  funext i
  unfold k0_pay1 k0_pay8
  pointwise [upb, tileOf, pre, mul_coe, coe_sum, lit_scale, lit_ninf]
  exact outv_prefix Q K V _ _ (row_lt 3 (i 0)) _ _ fun j => softmax_tile Q K _ _ (row_lt 3 (i 0)) _ (pos 3 (i 0) _ rfl) _ mask j

/-- A stored row tile is the tile of the block. -/
theorem piece (t : Fin 4) (o : Nat) (ho : o = 512 * t.val) (inb)
    (x : (Rect.unit (s := S2048x128) ![o, 0] ![512, 128] inb).shape.Idx) :
    outT Q K V t x = outB Q K V ((Rect.unit (s := S2048x128) ![o, 0] ![512, 128] inb).emb x) := by
  subst ho
  show outv Q K V (row t (x 0)) (x 1) = outv Q K V _ _
  congr 1
  · exact Fin.ext (congrArg (512 * t.val + ·) (Nat.one_mul _).symm)
  · exact Fin.ext ((Nat.zero_add _).trans (Nat.one_mul _)).symm

/-- THE BLOCK after a grid point: the head's output. -/
theorem out3 : out0_3 (F := Ideal) (upb (block Q)) (upb (block K)) (block V) = outB Q K V := by
  funext y
  unfold out0_3 r0_0 r0_1 r0_2 r0_3 r0_4 r0_5 r0_6 r0_7 r0_8 r0_9 r0_10 r0_11 r0_12 r0_13 r0_14
  refine View.canon_apply_of_pieces (Val := Elt Ideal) (S := S2048x128) (e := .f32) (outB Q K V) _ (View.PiecesOf.mem ?_) y ?_
  · rw [ld_tile Q 0 0 rfl, ld_tile Q 1 512 rfl, ld_tile Q 2 1024 rfl, ld_tile Q 3 1536 rfl,
      ld_pre K 512 (by decide), ld_pre K 1024 (by decide), ld_pre K 1536 (by decide), ld_pre K 2048 (by decide),
      ld_prev V 512 (by decide), ld_prev V 1024 (by decide), ld_prev V 1536 (by decide), ld_prev V 2048 (by decide),
      pay2, pay4, pay7, pay1]
    exact ⟨piece Q K V 3 1536 rfl inb_S2048x128_S512x128_1536_0, piece Q K V 2 1024 rfl inb_S2048x128_S512x128_1024_0, piece Q K V 1 512 rfl inb_S2048x128_S512x128_512_0, piece Q K V 0 0 rfl inb_S2048x128_S512x128_0_0, trivial⟩
  · exact cover0_3 _ _ _ _ y

end Cert.AttnFwdTile

end
-- ==== Proof.AttnFwdValue.lean ====
/-
  What the result array of the attention's forward call holds after the run, over the reals: grid point `h` reads head `h`
  of the queries, the keys and the values, and writes its columns of the output.
-/
module

public import proofs.«01_k».proof.Proof.Blocks
public import proofs.«01_k».proof.Proof.AttnFwdTile

@[expose] public section

set_option maxRecDepth 16384
set_option backward.isDefEq.respectTransparency false

noncomputable section

namespace Cert.AttnFwdValue

open AttnFwdIdeal AttnFwdIdeal.Gen Idealize.ShloMosaic TcCoe Idealize.SL.Sem
open Blocks Reals Attn AttnFwdTile
open Idealize.ShloMosaic.Pipeline (Dat)

variable (m : (ℓ : Loc nD τ sig) → Buf (Elt Ideal) ℓ) (c : Dev nD)

/-- A grid point as a head. -/
abbrev pt (t : Fin cfg0.N) : Fin 4 := t.cast N_0

/-- The block indices: head `t` of an array of heads, and its columns of the output. -/
theorem idx0 : Along 0 win0_0.index := by decide +kernel
theorem idx1 : Along 0 win0_1.index := by decide +kernel
theorem idx2 : Along 0 win0_2.index := by decide +kernel
theorem idx3 : Along 1 win0_3.index := by decide +kernel

/-- The queries' block at a point: one head. -/
theorem iblk0 (Q : S4x2048x192.Idx → ℝ) (h : m ((c : Thread nD τ).loc main_arg0) = upb Q) (t : Fin cfg0.N) :
    (iblk m c 0 t : Vec Ideal S1x2048x192 .bf16) = upb (block (head Q (pt t))) := funext fun j => (congrFun h _).trans (congrArg (upb Q) (head_at N_0 idx0 t _ j fun _ => rfl))

/-- The keys' block at a point: one head. -/
theorem iblk1 (K : S4x2048x192.Idx → ℝ) (h : m ((c : Thread nD τ).loc main_arg1) = upb K) (t : Fin cfg0.N) :
    (iblk m c 1 t : Vec Ideal S1x2048x192 .bf16) = upb (block (head K (pt t))) := funext fun j => (congrFun h _).trans (congrArg (upb K) (head_at N_0 idx1 t _ j fun _ => rfl))

/-- The values' block at a point: one head. -/
theorem iblk2 (V : S4x2048x128.Idx → EReal) (h : m ((c : Thread nD τ).loc main_arg2) = V) (t : Fin cfg0.N) :
    (iblk m c 2 t : Vec Ideal S1x2048x128 .bf16) = block (headv V (pt t)) := funext fun j => (congrFun h _).trans (congrArg V (head_at N_0 idx2 t _ j fun _ => rfl))

/-- The head of a column of the output, and the column in the head. -/
def hd (n : Fin 512) : Fin 4 := ⟨n.val / 128, by omega⟩
def at0 (n : Fin 512) : Fin 128 := ⟨n.val % 128, by omega⟩

/-- The output of all heads. -/
def outA (Q K : S4x2048x192.Idx → ℝ) (V : S4x2048x128.Idx → EReal) (i : S2048x512.Idx) : EReal :=
  outv (head Q (hd (i 1))) (head K (hd (i 1))) (headv V (hd (i 1))) (i 0) (at0 (i 1))

/-- THE RESULT ARRAY. -/
theorem final3 (Q K : S4x2048x192.Idx → ℝ) (V : S4x2048x128.Idx → EReal) (hQ : m ((c : Thread nD τ).loc main_arg0) = upb Q)
    (hK : m ((c : Thread nD τ).loc main_arg1) = upb K) (hV : m ((c : Thread nD τ).loc main_arg2) = V) :
    (dats m 0 c).arrAt 3 cfg0.N = (outA Q K V : Vec Ideal S2048x512 .f32) := by
  refine (dats m 0 c).arrAt_eq_of_cover 3 _ (fun t hf => ?_) fun i => ⟨Fin.cast N_0.symm (hd (i 1)), flush0_3 _, ?_⟩
  · rw [AttnFwdIdeal.Value.flushed3, iblk0 m c Q hQ, iblk1 m c K hK, iblk2 m c V hV, out3]
    funext j
    rw [View.read_apply]
    have h1 : (j 1).val < 128 := (j 1).isLt
    have e : ((cfg0.win 3).blk t).view.emb j = (ix2 (j 0) (col (pt t) (j 1)) : S2048x512.Idx) := head_cols_at N_0 idx3 t _ j (fun _ => rfl) (col (pt t) (j 1)).isLt
    rw [e]
    have eh : hd (col (pt t) (j 1)) = pt t := Fin.ext (by show (t.val * 128 + (j 1).val) / 128 = t.val; omega)
    have ec : at0 (col (pt t) (j 1)) = j 1 := Fin.ext (by show (t.val * 128 + (j 1).val) % 128 = (j 1).val; omega)
    show outv _ _ _ (j 0) (j 1) = outv (head Q (hd (col (pt t) (j 1)))) (head K (hd (col (pt t) (j 1)))) (headv V (hd (col (pt t) (j 1)))) (j 0) (at0 (col (pt t) (j 1)))
    rw [eh, ec]
  · exact in_block (along_has idx3 _ i rfl (by decide) (by decide))

end Cert.AttnFwdValue

end
-- ==== Proof.AttnFwdRef.lean ====
/-
  What the attention's forward reference computes, over the reals, for queries and keys that are arrays of real numbers
  and values that are anything: the host operations of the printed program, stage by stage.
-/
module

public import proofs.«01_k».proof.Proof.AttnFwdValue
public import proofs.«01_k».proof.Proof.Gen.AttnFwdRefIdeal.Read

@[expose] public section

set_option maxRecDepth 16384
set_option backward.isDefEq.respectTransparency false

noncomputable section

namespace Cert.AttnFwdRef

open Idealize.ShloMosaic Reals Attn AttnFwdRefIdeal AttnFwdRefIdeal.Read

variable (Q K : S4x2048x192.Idx → ℝ) (V : S4x2048x128.Idx → EReal)

/-- The masked scores. -/
theorem v12 : val_main_v12 (F := Ideal) (upb Q) (upb K) = fun i => masked (head Q (i 0)) (head K (i 0)) (i 1) (i 2) := by
  funext i
  pointwise [val_main_v12, val_main_v11, val_main_v10, val_main_v9, val_main_v8, val_main_v7, val_main_v6, val_main_v5,
    val_main_v4, val_main_v3, val_main_v1, val_main_v0, val_main_cst, val_main_call0_v2, val_main_call0_v1, val_main_call0_v0, val_main_cst_0, up, upb, lit_scale,
    lit_ninf, mul_coe, coe_sum]
  rw [select_sge (i 1).isLt (i 2).isLt]
  simp only [masked, score, head, id, constant_apply, Ideal.ofBits_def, lit_ninf]

/-- The row maximum that the exponentials are taken against. -/
def mx (h : Fin 4) (r : Fin 2048) : ℝ := top fun j => masked (head Q h) (head K h) r j

/-- The row maximum is a real number. -/
theorem v13 : val_main_v13 (F := Ideal) (upb Q) (upb K) = up fun i => mx Q K (i 0) (i 1) := by
  funext i
  pointwise [val_main_v13, v12, val_main_cst_1, lit_ninf]
  exact fold_top _ (fun j => masked_ne_top _ _ _ j) (i 1) (masked_diag _ _ _)

/-- The exponentials. -/
theorem v19 : val_main_v19 (F := Ideal) (upb Q) (upb K)
    = up fun i => ex (head Q (i 0)) (head K (i 0)) (mx Q K (i 0) (i 1)) (i 1) (i 2) := by
  funext i
  pointwise [val_main_v19, val_main_v18, val_main_v17, val_main_v16, val_main_v15, val_main_v14, val_main_cst_2, v12, v13, lit_ninf, up]
  rw [max_bot_left]
  exact exp_masked _ _ _ _ _

/-- The row sums. -/
theorem v20 : val_main_v20 (F := Ideal) (upb Q) (upb K)
    = up fun i => Z (head Q (i 0)) (head K (i 0)) (mx Q K (i 0) (i 1)) (i 1) := by
  funext i
  pointwise [val_main_v20, val_main_cst_3, v19, up, coe_sum, EReal.coe_zero]
  rfl

/-- The probabilities. -/
theorem v23 : val_main_v23 (F := Ideal) (upb Q) (upb K) = up fun i => pr (head Q (i 0)) (head K (i 0)) (i 1) (i 2) := by
  funext i
  pointwise [val_main_v23, val_main_v22, val_main_v21, v19, v20, up]
  rw [div_coe _ (Z_pos _ _ _ _).ne', ex_div]

/-- THE REFERENCE'S OUTPUT. -/
theorem v26 : val_main_v26 (F := Ideal) (upb Q) (upb K) V = AttnFwdValue.outA Q K V := by
  funext i
  pointwise [val_main_v26, val_main_v25, val_main_v24, val_main_v2, v23, up]
  rfl

end Cert.AttnFwdRef

end
-- ==== Proof.AttnFwdClaims.lean ====
/-
  The claims about the attention's forward call: the reference's frame, the named constant, and the equality of the output
  over the reals, for finite queries and keys.
-/
module

public import proofs.«01_k».proof.Defs
public import proofs.«01_k».proof.Proof.AttnFwdRef
public import proofs.«01_k».proof.Proof.Gen.AttnFwd.Frame
public import proofs.«01_k».proof.Proof.Gen.Pre_finite_attn_fwd

@[expose] public section

noncomputable section

namespace Cert.AttnFwdClaims

open Idealize.ShloMosaic TcCoe Idealize.SL.Sem Reals

/-- Queries and keys that meet the precondition are arrays of real numbers. -/
theorem reals (q k : FVec Ideal Pre_finite_attn_fwd.S4x2048x192 .bf16) (v : FVec Ideal Pre_finite_attn_fwd.S4x2048x128 .bf16)
    (h : Pre_finite_attn_fwd.fn (F := Ideal) q k v = fun _ => 1#1) :
    (∃ Q : Pre_finite_attn_fwd.S4x2048x192.Idx → ℝ, q = upb Q) ∧ ∃ K : Pre_finite_attn_fwd.S4x2048x192.Idx → ℝ, k = upb K := by
  have h0 := congrFun h ix0
  unfold Pre_finite_attn_fwd.fn at h0
  obtain ⟨h1, h2⟩ := IntOp.andi_eq_one.1 h0
  exact ⟨array_real (φ := .f32) _ _ (fun _ => lit_inf) _ _ _ _ h1, array_real (φ := .f32) _ _ (fun _ => lit_inf) _ _ _ _ h2⟩

/-- The reference runs and leaves its arguments. -/
theorem quiescent_ref : quiescent_AttnFwdRefIdeal := fun m g _ =>
  (θ_run AttnFwdRefIdeal.defs _ _).mono (fun r h => ⟨fun c => (h c).2,
    Idealize.ShloMosaic.sem_eq_zero_of_no_sems (by decide) r.2⟩) (AttnFwdRefIdeal.Value.run (F := Ideal) m g)

/-- The mask −1e30 read as −∞. -/
theorem preserves : preserves_AttnFwd_AttnFwdIdeal :=
  IdealRules.named_const.statement AttnFwdIdeal.κ "mask" .f32 0xF149F2CA#32 ⊥ rfl

/-- The output is the reference's, for finite queries and keys. -/
theorem algebraic : algebraic_AttnFwdIdeal_AttnFwdRefIdeal_pre_finite_attn_fwd := by
  intro m g m' g' hpre hagree
  refine ⟨fun c => AttnFwdRefIdeal.Read.val_main_v26 (F := Ideal) (m ((c.tc : Thread AttnFwdIdeal.nD AttnFwdIdeal.τ).loc AttnFwdIdeal.main_arg0))
      (m ((c.tc : Thread AttnFwdIdeal.nD AttnFwdIdeal.τ).loc AttnFwdIdeal.main_arg1)) (m ((c.tc : Thread AttnFwdIdeal.nD AttnFwdIdeal.τ).loc AttnFwdIdeal.main_arg2)), ?_, ?_⟩
  · refine (θ_run AttnFwdIdeal.defs _ _).mono (fun r h c => ?_) (AttnFwdIdeal.Value.run_blocks m g)
    obtain ⟨e0, e1⟩ := h c
    obtain ⟨⟨Q, hQ⟩, ⟨K, hK⟩⟩ := reals _ _ _ (hpre c)
    refine ⟨e0.trans ?_, e1⟩
    rw [AttnFwdValue.final3 m c Q K _ hQ hK rfl]
    beta_reduce
    rw [hQ, hK]
    exact (AttnFwdRef.v26 Q K _).symm
  · refine (θ_run AttnFwdRefIdeal.defs _ _).mono (fun r h c => ?_) (AttnFwdRefIdeal.Value.run (F := Ideal) m' g')
    obtain ⟨e0, e1⟩ := h c
    obtain ⟨a0, a1, a2⟩ := hagree c
    refine ⟨e0.trans ?_, e1⟩
    beta_reduce
    rw [← a0, ← a1, ← a2]
    exact AttnFwdRefIdeal.Read.val_main_v26_eq _ _

end Cert.AttnFwdClaims

end
-- ==== Proof.PoolSum.lean ====
/-
  Sums over a window of consecutive positions, over the real numbers: the window that ends at a position and the one that
  starts there, the doubling steps that build them, and the same sums as differences of two running sums.
-/
module

public import Mathlib.Algebra.BigOperators.Intervals
public import Mathlib.Algebra.BigOperators.Fin
public import Mathlib.Data.Real.Basic
public import Mathlib.Tactic.Ring
public import Mathlib.Tactic.Linarith

@[expose] public section

noncomputable section

namespace Cert.Pool

open Finset

/-- A column of 2048 numbers, zero outside. -/
def ext (f : Fin 2048 → ℝ) (n : Nat) : ℝ := if h : n < 2048 then f ⟨n, h⟩ else 0

theorem ext_val (f : Fin 2048 → ℝ) (s : Fin 2048) : ext f s.val = f s := dif_pos s.isLt
theorem ext_zero (f : Fin 2048 → ℝ) {n : Nat} (h : 2048 ≤ n) : ext f n = 0 := dif_neg (by omega)

/-- The sum of the `w` numbers that end at position `s`, of those that there are. -/
def past (w : Nat) (f : Fin 2048 → ℝ) (s : Nat) : ℝ := ∑ k ∈ range w, if k ≤ s then ext f (s - k) else 0
/-- The sum of the `w` numbers that start at position `s`. -/
def next (w : Nat) (f : Fin 2048 → ℝ) (s : Nat) : ℝ := ∑ k ∈ range w, ext f (s + k)

theorem past_one (f : Fin 2048 → ℝ) (s : Fin 2048) : past 1 f s.val = f s := by simp [past, ext_val]
theorem next_one (f : Fin 2048 → ℝ) (s : Fin 2048) : next 1 f s.val = f s := by simp [next, ext_val]

/-- A window twice as long is the window and the one before it. -/
theorem past_double (w v : Nat) (hv : v = w + w) (f : Fin 2048 → ℝ) (s : Nat) : past v f s = past w f s + if w ≤ s then past w f (s - w) else 0 := by
  subst hv
  unfold past
  rw [sum_range_add]
  congr 1
  split
  · refine sum_congr rfl fun k _ => ?_
    by_cases h : k ≤ s - w
    · rw [if_pos h, if_pos (by omega)]; congr 1; omega
    · rw [if_neg h, if_neg (by omega)]
  · exact sum_eq_zero fun k _ => if_neg (by omega)

/-- A window twice as long is the window and the one after it. -/
theorem next_double (w v : Nat) (hv : v = w + w) (f : Fin 2048 → ℝ) (s : Nat) : next v f s = next w f s + if s + w < 2048 then next w f (s + w) else 0 := by
  subst hv
  unfold next
  rw [sum_range_add]
  congr 1
  split
  · exact sum_congr rfl fun k _ => congrArg _ (by omega)
  · exact sum_eq_zero fun k _ => ext_zero f (by omega)

/-- The sum of the numbers up to position `s`, and from position `s` on. -/
def upto (f : Fin 2048 → ℝ) (s : Nat) : ℝ := ∑ k ∈ range (s + 1), ext f k
def tail (f : Fin 2048 → ℝ) (s : Nat) : ℝ := ∑ k ∈ range 2048, ext f (s + k)

/-- A window is the difference of two running sums. -/
theorem past_eq (w : Nat) (f : Fin 2048 → ℝ) (s : Nat) : upto f s - (if w ≤ s then upto f (s - w) else 0) = past w f s := by
  induction w with
  | zero => simp [past]
  | succ w ih =>
    have e : past (w + 1) f s = past w f s + if w ≤ s then ext f (s - w) else 0 := sum_range_succ _ _
    rw [e, ← ih]
    by_cases h : w + 1 ≤ s
    · have hu : upto f (s - w) = upto f (s - (w + 1)) + ext f (s - w) := by
        have hs : s - w = s - (w + 1) + 1 := by omega
        unfold upto
        rw [hs, sum_range_succ]
      rw [if_pos h, if_pos (by omega), if_pos (by omega), hu]; ring
    · by_cases h' : w ≤ s
      · have hu : upto f (s - w) = ext f (s - w) := by
          have hs : s - w = 0 := by omega
          rw [hs]; simp [upto]
        rw [if_neg h, if_pos h', if_pos h', hu]; ring
      · rw [if_neg h, if_neg h', if_neg h']; ring

theorem tail_succ (f : Fin 2048 → ℝ) (s : Nat) : tail f s = ext f s + tail f (s + 1) := by
  have h1 : tail f s = ∑ k ∈ range 2049, ext f (s + k) := by
    rw [sum_range_succ, ext_zero f (show 2048 ≤ s + 2048 by omega), add_zero]; rfl
  rw [h1, sum_range_succ', add_comm]
  exact congrArg _ (sum_congr rfl fun k _ => congrArg _ (by omega))

theorem next_eq (w : Nat) (f : Fin 2048 → ℝ) (s : Nat) : tail f s - tail f (s + w) = next w f s := by
  induction w with
  | zero => simp [next]
  | succ w ih =>
    have e : next (w + 1) f s = next w f s + ext f (s + w) := sum_range_succ _ _
    rw [e, ← ih, tail_succ f (s + w)]
    rw [show s + (w + 1) = s + w + 1 from rfl]; ring

/-- The running sum from a position on of a column less the same column `w` positions further on: the window. -/
theorem tail_lag (w : Nat) (f g : Fin 2048 → ℝ) (hg : ∀ t : Fin 2048, g t = f t + if t.val + w < 2048 then -ext f (t.val + w) else 0) (s : Nat) :
    tail g s = next w f s := by
  rw [← next_eq]
  unfold tail
  rw [← sum_sub_distrib]
  refine sum_congr rfl fun k _ => ?_
  by_cases h : s + k < 2048
  · rw [show ext g (s + k) = g ⟨s + k, h⟩ from dif_pos h, hg, show ext f (s + k) = f ⟨s + k, h⟩ from dif_pos h, sub_eq_add_neg]
    congr 1
    by_cases h' : s + k + w < 2048
    · rw [if_pos h']; exact congrArg (fun n => -ext f n) (show s + k + w = s + w + k by omega)
    · rw [if_neg h', ext_zero f (show 2048 ≤ s + w + k by omega), neg_zero]
  · rw [ext_zero g (show 2048 ≤ s + k by omega), ext_zero f (show 2048 ≤ s + k by omega), ext_zero f (show 2048 ≤ s + w + k by omega), sub_zero]

/-- The running sum as the printed window sum takes it: 2048 positions that end at `s`, those before the start zero. -/
theorem upto_window (f : Fin 2048 → ℝ) (s : Nat) (hs : s < 2048) :
    (∑ n ∈ range 2048, if 2047 ≤ s + n then ext f (s + n - 2047) else 0) = upto f s := by
  have e : 2048 = (2047 - s) + (s + 1) := by omega
  conv_lhs => rw [e]
  rw [sum_range_add, sum_eq_zero fun n hn => if_neg (by have := mem_range.1 hn; omega), zero_add]
  exact sum_congr rfl fun k _ => by rw [if_pos (by omega)]; exact congrArg _ (by omega)

end Cert.Pool

end
-- ==== Proof.PoolStep.lean ====
/-
  The steps by which the kernel builds its window sums on a block of 128 columns: a rotation along the rows, masked where it
  would run over an end, added to the block; and the number of rows that a window has.
-/
module

public import Idealize.ShloMosaic.Lib.ShapeFacts
public import Idealize.ShloMosaic.Lib.PlanTiles.Rows
public import proofs.«01_k».proof.Proof.Reals
public import proofs.«01_k».proof.Proof.PoolSum

@[expose] public section

set_option maxRecDepth 16384
set_option backward.isDefEq.respectTransparency false

noncomputable section

namespace Cert.Pool

open Idealize.ShloMosaic WordCmp Reals

abbrev Blk : Shape := ⟨2, ![2048, 128]⟩

/-- The window sums of the columns of a block. -/
def pastB (w : Nat) (X : Blk.Idx → ℝ) : Blk.Idx → ℝ := fun i => past w (fun t => X (ix2 t (i 1))) (i 0).val
def nextB (w : Nat) (X : Blk.Idx → ℝ) : Blk.Idx → ℝ := fun i => next w (fun t => X (ix2 t (i 1))) (i 0).val
/-- The number of rows of the window of at most `w` rows that ends at a row. -/
def cnt (w s : Nat) : ℝ := ((min (s + 1) w : Nat) : ℝ)
def cntB (w : Nat) : Blk.Idx → ℝ := fun i => cnt w (i 0).val

theorem cnt_pos {w : Nat} (hw : 0 < w) (s : Nat) : cnt w s ≠ 0 := by
  unfold cnt
  exact Nat.cast_ne_zero.2 (by omega)

theorem ix2_self (i : Blk.Idx) : ix2 (i 0) (i 1) = i := (eq_ix2 i).symm

theorem pastB_one (X : Blk.Idx → ℝ) : pastB 1 X = X :=
  funext fun i => (past_one (fun t => X (ix2 t (i 1))) (i 0)).trans (congrArg X (ix2_self i))
theorem nextB_one (X : Blk.Idx → ℝ) : nextB 1 X = X :=
  funext fun i => (next_one (fun t => X (ix2 t (i 1))) (i 0)).trans (congrArg X (ix2_self i))

theorem lit0 : Scalar.ofBits (F := Ideal) .f32 0x00000000#32 = ((0 : ℝ) : EReal) := by
  show Ideal.ofBits .f32 0x00000000#32 = _
  simp [Ideal.ofBits, Ideal.ieee]

/-- The block rotated by `n` rows, read at a row. -/
theorem rotate_row (X : Blk.Idx → ℝ) (n : BitVec 32) (h : Blk.Rotates 0 none) (i : Blk.Idx) (k : Fin 2048)
    (hk : k.val = ((i 0).val + 2048 - n.toNat % 2048) % 2048) : dynamicRotate 0 n none (up X) h i = ((X (ix2 k (i 1)) : ℝ) : EReal) := by
  rw [Pointwise.dynamicRotate_apply]
  refine congrArg (up X) (funext fun b => ?_)
  match b with
  | ⟨0, _⟩ => exact Fin.ext hk.symm
  | ⟨1, _⟩ => rfl

theorem back_step (w v : Nat) (n : BitVec 32) (hv : v = w + w) (hn : n.toNat = w) (hw : w < 2048) (v0 : IVec Blk 32)
    (h0 : ∀ i, v0 i = BitVec.ofNat 32 (i 0).val) (h : Blk.Rotates 0 none) (X : Blk.Idx → ℝ) :
    addf (up (pastB w X)) (select (cmpi .sge v0 (broadcast Blk n)) (dynamicRotate 0 n none (up (pastB w X)) h)
      (broadcast Blk (Scalar.ofBits (F := Ideal) .f32 0x00000000#32))) = up (pastB v X) := by
  funext i
  have hi : (i 0).val < 2048 := (i 0).isLt
  have hnat : (v0 i).toNat = (i 0).val := by rw [h0]; exact toNat_ofNat_of_lt (by omega)
  rw [addf_apply, select_at, cmpi_at, broadcast_at, broadcast_at, cmpi_sge_of_lt (by omega) (by omega), select_ofBool, hnat, hn, lit0]
  simp only [decide_eq_true_eq]
  have hd : pastB v X i = pastB w X i + if w ≤ (i 0).val then past w (fun t => X (ix2 t (i 1))) ((i 0).val - w) else 0 := past_double w v hv _ _
  show (((pastB w X i : ℝ) : EReal) + _ : EReal) = ((pastB v X i : ℝ) : EReal)
  rw [hd]
  by_cases q : w ≤ (i 0).val
  · rw [if_pos q, if_pos q, rotate_row _ n h i ⟨(i 0).val - w, by omega⟩ (by rw [hn]; show (i 0).val - w = _; rw [Nat.mod_eq_of_lt hw]; omega)]
    exact add_coe _ _
  · rw [if_neg q, if_neg q]
    exact add_coe _ _

theorem ahead_step (w v : Nat) (n : BitVec 32) (hv : v = w + w) (hn : n.toNat + w = 2048) (hw : 0 < w) (v0 : IVec Blk 32)
    (h0 : ∀ i, v0 i = BitVec.ofNat 32 (i 0).val) (h : Blk.Rotates 0 none) (X : Blk.Idx → ℝ) :
    addf (up (nextB w X)) (select (cmpi .slt v0 (broadcast Blk n)) (dynamicRotate 0 n none (up (nextB w X)) h)
      (broadcast Blk (Scalar.ofBits (F := Ideal) .f32 0x00000000#32))) = up (nextB v X) := by
  funext i
  have hi : (i 0).val < 2048 := (i 0).isLt
  have hnat : (v0 i).toNat = (i 0).val := by rw [h0]; exact toNat_ofNat_of_lt (by omega)
  rw [addf_apply, select_at, cmpi_at, broadcast_at, broadcast_at, cmpi_slt_of_lt (by omega) (by omega), select_ofBool, hnat, lit0]
  simp only [decide_eq_true_eq]
  have hd : nextB v X i = nextB w X i + if (i 0).val + w < 2048 then next w (fun t => X (ix2 t (i 1))) ((i 0).val + w) else 0 := next_double w v hv _ _
  show (((nextB w X i : ℝ) : EReal) + _ : EReal) = ((nextB v X i : ℝ) : EReal)
  rw [hd]
  by_cases q : (i 0).val + w < 2048
  · rw [if_pos q, if_pos (by omega), rotate_row _ n h i ⟨(i 0).val + w, q⟩ (by show (i 0).val + w = _; rw [Nat.mod_eq_of_lt (by omega)]; omega)]
    exact add_coe _ _
  · rw [if_neg q, if_neg (by omega)]
    exact add_coe _ _

/-- The counts, as the kernel converts them. -/
theorem count_eq (w : Nat) (n : BitVec 32) (hn : n = BitVec.ofNat 32 w) (hw : w < 2048) (v0 : IVec Blk 32) (h0 : ∀ i, v0 i = BitVec.ofNat 32 (i 0).val) :
    sitofp (F := Ideal) .f32 (minsi (addi v0 (broadcast Blk 1#32)) (broadcast Blk n)) = up (cntB w) := by
  funext i
  have hi : (i 0).val < 2048 := (i 0).isLt
  show (((IntOp.minsi (IntOp.addi (v0 i) 1#32) n).toInt : ℝ) : EReal) = _
  rw [h0, hn, show (1#32 : BitVec 32) = BitVec.ofNat 32 1 from rfl, addi_ofNat, PlanTiles.minsi_word (by omega) (by omega),
    toInt_ofNat_of_lt (show min w ((i 0).val + 1) < 2 ^ 31 by omega), Nat.min_comm]
  rfl

/-- The same steps, of a block known to be a window sum. -/
theorem back (w v : Nat) (n : BitVec 32) (hv : v = w + w) (hn : n.toNat = w) (hw : w < 2048) {v0 : IVec Blk 32}
    (h0 : ∀ i, v0 i = BitVec.ofNat 32 (i 0).val) {h : Blk.Rotates 0 none} {X : Blk.Idx → ℝ} {Y : FVec Ideal Blk .f32} (hY : Y = up (pastB w X)) :
    addf Y (select (cmpi .sge v0 (broadcast Blk n)) (dynamicRotate 0 n none Y h)
      (broadcast Blk (Scalar.ofBits (F := Ideal) .f32 0x00000000#32))) = up (pastB v X) := by
  rw [hY]; exact back_step w v n hv hn hw v0 h0 h X
theorem ahead (w v : Nat) (n : BitVec 32) (hv : v = w + w) (hn : n.toNat + w = 2048) (hw : 0 < w) {v0 : IVec Blk 32}
    (h0 : ∀ i, v0 i = BitVec.ofNat 32 (i 0).val) {h : Blk.Rotates 0 none} {X : Blk.Idx → ℝ} {Y : FVec Ideal Blk .f32} (hY : Y = up (nextB w X)) :
    addf Y (select (cmpi .slt v0 (broadcast Blk n)) (dynamicRotate 0 n none Y h)
      (broadcast Blk (Scalar.ofBits (F := Ideal) .f32 0x00000000#32))) = up (nextB v X) := by
  rw [hY]; exact ahead_step w v n hv hn hw v0 h0 h X

end Cert.Pool

end
-- ==== Proof.Pool.lean ====
/-
  The pooling mixer and its gradients, over the real numbers: four groups of 128 columns, each with its own window and its own
  product. For one group the blocks; for the whole, the blocks side by side.
-/
module

public import proofs.«01_k».proof.Proof.Pieces
public import proofs.«01_k».proof.Proof.PoolStep

@[expose] public section

set_option maxRecDepth 16384
set_option backward.isDefEq.respectTransparency false

noncomputable section

namespace Cert.Pool

open Idealize.ShloMosaic Reals Mla Pieces

/-- The four groups' windows. -/
def win : Fin 4 → Nat := ![2, 4, 8, 16]

/-- The window means less the block itself. -/
def diffB (w : Nat) (X : A2 2048 128) : A2 2048 128 := fun i => pastB w X i / cnt w (i 0).val - X i
/-- The product by a group's matrix, and the columns scaled. -/
def mulB (D : A2 2048 128) (W : A2 128 128) : A2 2048 128 := fun i => ∑ d : Fin 128, D (ix2 (i 0) d) * W (ix2 d (i 1))
def sclB (Y : A2 2048 128) (S : A2 1 128) : A2 2048 128 := fun i => Y i * S (ix2 0 (i 1))
/-- The products of the gradients: by the matrix turned over, over the rows, and the scale's. -/
def backB (Y : A2 2048 128) (W : A2 128 128) : A2 2048 128 := fun i => ∑ e : Fin 128, Y (ix2 (i 0) e) * W (ix2 (i 1) e)
def dwB (D Y : A2 2048 128) : A2 128 128 := fun i => ∑ s : Fin 2048, D (ix2 s (i 0)) * Y (ix2 s (i 1))
def dscB (Y D : A2 2048 128) (W : A2 128 128) : A2 1 128 := fun i => ∑ s : Fin 2048, Y (ix2 s (i 1)) * mulB D W (ix2 s (i 1))
/-- The window sums' gradient less the block's. -/
def duB (w : Nat) (T : A2 2048 128) : A2 2048 128 := fun i => nextB w (fun j => T j / cnt w (j 0).val) i - T i

/-- A group's columns, and its matrix. -/
def grp {n : Nat} (X : A2 n 512) (g : Fin 4) : A2 n 128 := colsOf X (128 * g.val) 128 (by omega)
def mat (W : A3 4 128 128) (g : Fin 4) : A2 128 128 := fun i => W (ix3 g (i 0) (i 1))
/-- Four blocks side by side. -/
def join {n : Nat} (F : Fin 4 → A2 n 128) : A2 n 512 := fun i =>
  F ⟨(i 1).val / 128, by have : (i 1).val < 512 := (i 1).isLt; omega⟩ (ix2 (i 0) ⟨(i 1).val % 128, Nat.mod_lt _ (by decide)⟩)

theorem join_apply {n : Nat} (F : Fin 4 → A2 n 128) (g : Fin 4) (r : Fin n) (q : Fin 128) (q' : Fin 512) (h : q'.val = 128 * g.val + q.val) :
    join F (ix2 r q') = F g (ix2 r q) := by
  have e1 : (⟨q'.val / 128, by omega⟩ : Fin 4) = g := Fin.ext (show q'.val / 128 = g.val by omega)
  have e2 : (⟨q'.val % 128, Nat.mod_lt _ (by decide)⟩ : Fin 128) = q := Fin.ext (show q'.val % 128 = q.val by omega)
  show F ⟨q'.val / 128, _⟩ (ix2 r ⟨q'.val % 128, _⟩) = _
  rw [e1, e2]

theorem grp_join {n : Nat} (F : Fin 4 → A2 n 128) (g : Fin 4) : grp (join F) g = F g := by
  funext i
  exact (join_apply F g (i 0) (i 1) _ rfl).trans (congrArg (F g) (ix2_eta i))

/-- The whole: the saved difference, the rows, and from the saved difference the gradients. -/
def diffs (U : A2 2048 512) (g : Fin 4) : A2 2048 128 := diffB (win g) (grp U g)
def saved (U : A2 2048 512) : A2 2048 512 := join (diffs U)
def scaled (DY : A2 2048 512) (S : A2 1 512) (g : Fin 4) : A2 2048 128 := sclB (grp DY g) (grp S g)
def rows (U : A2 2048 512) (W : A3 4 128 128) (S : A2 1 512) : A2 2048 512 := join fun g => sclB (mulB (diffs U g) (mat W g)) (grp S g)
def du (DY : A2 2048 512) (W : A3 4 128 128) (S : A2 1 512) : A2 2048 512 := join fun g => duB (win g) (backB (scaled DY S g) (mat W g))
def dw (E DY : A2 2048 512) (S : A2 1 512) : A3 4 128 128 := fun i => dwB (grp E (i 0)) (scaled DY S (i 0)) (ix2 (i 1) (i 2))
def dsc (E DY : A2 2048 512) (W : A3 4 128 128) : A2 1 512 := join fun g => dscB (grp DY g) (grp E g) (mat W g)

end Cert.Pool

end
-- ==== Proof.PoolKernel.lean ====
/-
  What the pooling's two calls store, over the reals: for each of the four groups of columns the difference, the rows and the
  three gradients.
-/
module

public import proofs.«01_k».proof.Proof.Pool
public import proofs.«01_k».proof.Proof.Gen.PoolBwdIdeal.Skeleton

@[expose] public section

set_option maxRecDepth 16384
set_option backward.isDefEq.respectTransparency false

noncomputable section

namespace Cert.PoolKernel

open Idealize.ShloMosaic TcCoe Reals Mla Pool PoolBwdIdeal PoolBwdIdeal.Gen

/-- A row's position, as the kernel counts it. -/
theorem pos {h} (i : Blk.Idx) : iota .tc Blk 32 [0] h i = BitVec.ofNat 32 (i 0).val := by
  rw [WordCmp.iota_at]; simp

/-- The quotient by the counts, and what is stored of it. -/
theorem quo {w : Nat} (hw : 0 < w) {V C : FVec Ideal Blk .f32} {T : A2 2048 128} (hV : V = up T) (hC : C = up (cntB w)) :
    divf V C = up fun j => T j / cnt w (j 0).val := by
  rw [hV, hC]
  funext i
  exact div_coe (T i) (cnt_pos hw _)
theorem diff_of {w : Nat} (hw : 0 < w) {A C : FVec Ideal Blk .f32} {X : A2 2048 128} (hA : A = up (pastB w X)) (hC : C = up (cntB w)) {h} :
    truncf .bf16 (subf (divf A C) (up X)) h = upb (diffB w X) := by
  rw [quo hw hA hC]
  funext i
  exact sub_coe _ _
theorem du_of {w : Nat} {A V : FVec Ideal Blk .f32} {T : A2 2048 128} (hV : V = up T) (hA : A = up (nextB w fun j => T j / cnt w (j 0).val)) :
    subf A V = up (duB w T) := by
  rw [hV, hA]
  funext i
  exact sub_coe _ _

theorem one (X : A2 2048 128) : up X = up (pastB 1 X) := congrArg up (pastB_one X).symm

section First

variable (X : A2 2048 128) {v0 : IVec Blk 32} (h0 : ∀ i, v0 i = BitVec.ofNat 32 (i 0).val)
include h0

theorem pay3 : k0_pay3 (up X) = upb (diffB 2 X) :=
  diff_of (by decide) (back (h := rotates_S2048x128_d0) 1 2 1#32 rfl rfl (by decide) pos (one X)) (count_eq 2 2#32 rfl (by decide) _ pos)
theorem pay8 {C : FVec Ideal Blk .f32} (hC : C = up (cntB 4)) {h} :
    k0_pay8 (F := Ideal) v0 (up X) C (cmpi .sge v0 (broadcast Blk 1#32)) (dynamicRotate 0 1#32 none (up X) h) (Scalar.ofBits .f32 0x00000000#32) = upb (diffB 4 X) :=
  diff_of (by decide) (back (h := rotates_S2048x128_d0) 2 4 2#32 rfl rfl (by decide) h0 (back (h := rotates_S2048x128_d0) 1 2 1#32 rfl rfl (by decide) h0 (one X))) hC
theorem pay14 {C : FVec Ideal Blk .f32} (hC : C = up (cntB 8)) :
    k0_pay14 (F := Ideal) v0 (up X) C (k0_pay11 v0 (up X)) (k0_pay12 v0) (k0_pay13 v0 (up X)) = upb (diffB 8 X) :=
  diff_of (by decide) (back (h := rotates_S2048x128_d0) 4 8 4#32 rfl rfl (by decide) h0 (back (h := rotates_S2048x128_d0) 2 4 2#32 rfl rfl (by decide) h0 (back (h := rotates_S2048x128_d0) 1 2 1#32 rfl rfl (by decide) h0 (one X)))) hC
theorem pay1 {C : FVec Ideal Blk .f32} (hC : C = up (cntB 16)) :
    k0_pay1 (F := Ideal) v0 (up X) C (k0_pay17 v0 (up X)) (k0_pay18 v0) 2#32 = upb (diffB 16 X) :=
  diff_of (by decide) (back (h := rotates_S2048x128_d0) 8 16 8#32 rfl rfl (by decide) h0 (back (h := rotates_S2048x128_d0) 4 8 4#32 rfl rfl (by decide) h0
    (back (h := rotates_S2048x128_d0) 2 4 2#32 rfl rfl (by decide) h0 (back (h := rotates_S2048x128_d0) 1 2 1#32 rfl rfl (by decide) h0 (one X))))) hC

end First

/-- A group's matrix, as it is loaded. -/
def sq (W : A3 1 128 128) : A2 128 128 := fun i => W (ix3 0 (i 0) (i 1))

variable (W : A3 1 128 128) (S : A2 1 128)

theorem pay4 {V : FVec Ideal Blk .f32} {D : A2 2048 128} (hD : k0_pay3 (F := Ideal) V = upb D) :
    k0_pay4 (F := Ideal) V (up W) (up S) = up (sclB (mulB D (sq W)) S) := by
  funext i; unfold k0_pay4; rw [hD]; pointwise [up, upb, mul_coe, coe_sum]; rfl
theorem pay9 {v0 : IVec Blk 32} {V C A : FVec Ideal Blk .f32} {M : IVec Blk 1} {z : Ideal .f32} {D : A2 2048 128} (hD : k0_pay8 (F := Ideal) v0 V C M A z = upb D) :
    k0_pay9 (F := Ideal) v0 V C M A z (up W) (up S) = up (sclB (mulB D (sq W)) S) := by
  funext i; unfold k0_pay9; rw [hD]; pointwise [up, upb, mul_coe, coe_sum]; rfl
theorem pay15 {v0 : IVec Blk 32} {V C A B : FVec Ideal Blk .f32} {M : IVec Blk 1} {D : A2 2048 128} (hD : k0_pay14 (F := Ideal) v0 V C A M B = upb D) :
    k0_pay15 (F := Ideal) v0 V C A M B (up W) (up S) = up (sclB (mulB D (sq W)) S) := by
  funext i; unfold k0_pay15; rw [hD]; pointwise [up, upb, mul_coe, coe_sum]; rfl
theorem pay2 {v0 : IVec Blk 32} {V C A : FVec Ideal Blk .f32} {M : IVec Blk 1} {n : BitVec 32} {D : A2 2048 128} (hD : k0_pay1 (F := Ideal) v0 V C A M n = upb D) :
    k0_pay2 (F := Ideal) v0 V C A M n (up W) (up S) = up (sclB (mulB D (sq W)) S) := by
  funext i; unfold k0_pay2; rw [hD]; pointwise [up, upb, mul_coe, coe_sum]; rfl

section Second

variable (D Y : A2 2048 128)

theorem b1 : k1_pay1 (upb D) = upb D := by funext i; unfold k1_pay1; pointwise [upb]
theorem b7 : k1_pay7 (upb D) = upb D := by funext i; unfold k1_pay7; pointwise [upb]
theorem b15 : k1_pay15 (upb D) = upb D := by funext i; unfold k1_pay15; pointwise [upb]
theorem b23 : k1_pay23 (upb D) = upb D := by funext i; unfold k1_pay23; pointwise [upb]
theorem b2 : k1_pay2 (up W) = upb (sq W) := by funext i; unfold k1_pay2; pointwise [up, upb]; rfl
theorem b8 : k1_pay8 (up W) = upb (sq W) := by funext i; unfold k1_pay8; pointwise [up, upb]; rfl
theorem b16 : k1_pay16 (up W) = upb (sq W) := by funext i; unfold k1_pay16; pointwise [up, upb]; rfl
theorem b24 : k1_pay24 (up W) = upb (sq W) := by funext i; unfold k1_pay24; pointwise [up, upb]; rfl
theorem b4 : k1_pay4 (up Y) (up S) = upb (sclB Y S) := by funext i; unfold k1_pay4; pointwise [up, upb, mul_coe]; rfl
theorem b10 : k1_pay10 (up Y) (up S) = upb (sclB Y S) := by funext i; unfold k1_pay10; pointwise [up, upb, mul_coe]; rfl
theorem b18 : k1_pay18 (up Y) (up S) = upb (sclB Y S) := by funext i; unfold k1_pay18; pointwise [up, upb, mul_coe]; rfl
theorem b26 : k1_pay26 (up Y) (up S) = upb (sclB Y S) := by funext i; unfold k1_pay26; pointwise [up, upb, mul_coe]; rfl

/-- The scale's gradient. -/
theorem b3 : k1_pay3 (up Y) (upb D) (up W) = up (dscB Y D (sq W)) := by
  funext i; unfold k1_pay3; rw [b1, b2]; pointwise [up, upb, mul_coe, coe_sum]; rfl
theorem b9 : k1_pay9 (up Y) (upb D) (up W) = up (dscB Y D (sq W)) := by
  funext i; unfold k1_pay9; rw [b7, b8]; pointwise [up, upb, mul_coe, coe_sum]; rfl
theorem b17 : k1_pay17 (up Y) (upb D) (up W) = up (dscB Y D (sq W)) := by
  funext i; unfold k1_pay17; rw [b15, b16]; pointwise [up, upb, mul_coe, coe_sum]; rfl
theorem b25 : k1_pay25 (up Y) (upb D) (up W) = up (dscB Y D (sq W)) := by
  funext i; unfold k1_pay25; rw [b23, b24]; pointwise [up, upb, mul_coe, coe_sum]; rfl

/-- The matrix's gradient. -/
def cube (M : A2 128 128) : A3 1 128 128 := fun i => M (ix2 (i 1) (i 2))
theorem b5 : k1_pay5 (up Y) (upb D) (up S) = up (cube (dwB D (sclB Y S))) := by
  funext i; unfold k1_pay5; rw [b1, b4]; pointwise [up, upb, mul_coe, coe_sum]; rfl
theorem b11 : k1_pay11 (up Y) (upb D) (up S) = up (cube (dwB D (sclB Y S))) := by
  funext i; unfold k1_pay11; rw [b7, b10]; pointwise [up, upb, mul_coe, coe_sum]; rfl
theorem b19 : k1_pay19 (up Y) (upb D) (up S) = up (cube (dwB D (sclB Y S))) := by
  funext i; unfold k1_pay19; rw [b15, b18]; pointwise [up, upb, mul_coe, coe_sum]; rfl
theorem b27 : k1_pay27 (up Y) (k1_pay23 (upb D)) (up S) = up (cube (dwB D (sclB Y S))) := by
  funext i; unfold k1_pay27; rw [b23, b26]; pointwise [up, upb, mul_coe, coe_sum]; rfl

/-- The difference's gradient, and through the window sums the trunk's. -/
theorem turned (A : A2 2048 128) (B : A2 128 128) :
    matmul (F := Ideal) dot_S2048x128_S128x128_S2048x128_1_1_0_0_n_n none (upb A) (upb B) (constant S2048x128 .f32 0x00000000#32) = up (backB A B) := by
  funext i; pointwise [up, upb, mul_coe, coe_sum]; rfl

variable {v0 : IVec Blk 32} (h0 : ∀ i, v0 i = BitVec.ofNat 32 (i 0).val)

theorem start {w : Nat} {V C : FVec Ideal Blk .f32} {T : A2 2048 128} (hw : 0 < w) (hV : V = up T) (hC : C = up (cntB w)) :
    divf V C = up (nextB 1 fun j => T j / cnt w (j 0).val) := (quo hw hV hC).trans (congrArg up (nextB_one _).symm)

theorem b6 : k1_pay6 (up Y) (up W) (up S) = up (duB 2 (backB (sclB Y S) (sq W))) := by
  have hV := turned (sclB Y S) (sq W)
  unfold k1_pay6
  rw [b4, b2]
  exact du_of hV (ahead (h := rotates_S2048x128_d0) 1 2 2047#32 rfl rfl (by decide) pos (start (by decide) hV (count_eq 2 2#32 rfl (by decide) _ pos)))
theorem b12 : k1_pay12 (up Y) (up W) (up S) = up (backB (sclB Y S) (sq W)) := by
  unfold k1_pay12
  rw [b10, b8]
  exact turned _ _
theorem b20 : k1_pay20 (up Y) (up W) (up S) = up (backB (sclB Y S) (sq W)) := by
  unfold k1_pay20
  rw [b18, b16]
  exact turned _ _
include h0
theorem b14 : k1_pay14 (F := Ideal) v0 (k1_pay12 (up Y) (up W) (up S)) (k1_pay13 v0 (up Y) (up W) (up S)) = up (duB 4 (backB (sclB Y S) (sq W))) :=
  du_of (b12 W S Y) (ahead (h := rotates_S2048x128_d0) 2 4 2046#32 rfl rfl (by decide) h0 (ahead (h := rotates_S2048x128_d0) 1 2 2047#32 rfl rfl (by decide) h0 (start (by decide) (b12 W S Y) (count_eq 4 4#32 rfl (by decide) _ h0))))
theorem b22 : k1_pay22 (F := Ideal) v0 (k1_pay20 (up Y) (up W) (up S)) (k1_pay21 v0) = up (duB 8 (backB (sclB Y S) (sq W))) :=
  du_of (b20 W S Y) (ahead (h := rotates_S2048x128_d0) 4 8 2044#32 rfl rfl (by decide) h0 (ahead (h := rotates_S2048x128_d0) 2 4 2046#32 rfl rfl (by decide) h0 (ahead (h := rotates_S2048x128_d0) 1 2 2047#32 rfl rfl (by decide) h0
    (start (by decide) (b20 W S Y) (count_eq 8 8#32 rfl (by decide) _ h0)))))
theorem b28 : k1_pay28 (F := Ideal) v0 (up Y) (k1_pay24 (up W)) (up S) = up (duB 16 (backB (sclB Y S) (sq W))) := by
  have hV := turned (sclB Y S) (sq W)
  unfold k1_pay28
  rw [b26, b24]
  exact du_of hV (ahead (h := rotates_S2048x128_d0) 8 16 2040#32 rfl rfl (by decide) h0 (ahead (h := rotates_S2048x128_d0) 4 8 2044#32 rfl rfl (by decide) h0 (ahead (h := rotates_S2048x128_d0) 2 4 2046#32 rfl rfl (by decide) h0
    (ahead (h := rotates_S2048x128_d0) 1 2 2047#32 rfl rfl (by decide) h0 (start (by decide) hV (count_eq 16 16#32 rfl (by decide) _ h0))))))

end Second

end Cert.PoolKernel

end
-- ==== Proof.PoolBlock.lean ====
/-
  What the pooling's two calls leave in their result arrays, over the reals: each is stored in four pieces, one for a group.
-/
module

public import proofs.«01_k».proof.Proof.PoolKernel
public import proofs.«01_k».proof.Proof.Gen.PoolBwdIdeal.Frame

@[expose] public section

set_option maxRecDepth 16384
set_option backward.isDefEq.respectTransparency false

noncomputable section

namespace Cert.PoolBlock

open Idealize.ShloMosaic TcCoe Idealize.SL.Sem Reals Mla Pieces Pool PoolKernel PoolBwdIdeal PoolBwdIdeal.Gen

variable (U DY E : A2 2048 512) (W : A3 4 128 128) (S : A2 1 512)

/-- A stored group is the whole's, if the whole is the groups side by side. -/
theorem group {n : Nat} (F : Fin 4 → A2 n 128) (g : Fin 4) (o : Nat) (ho : o = 128 * g.val)
    (inb : ∀ b : Fin 2, (![0, o] : Fin 2 → Nat) b + (![n, 128] : Fin 2 → Nat) b ≤ (![n, 512] : Fin 2 → Nat) b)
    (x : (Rect.unit (s := (⟨2, ![n, 512]⟩ : Shape)) ![0, o] ![n, 128] inb).shape.Idx) :
    ((F g x : ℝ) : EReal) = ((join F ((Rect.unit (s := (⟨2, ![n, 512]⟩ : Shape)) ![0, o] ![n, 128] inb).emb x) : ℝ) : EReal) :=
  piece_cols (join F) (F g) o inb (fun r q q' h => (join_apply F g r q q' (h.trans (congrArg (· + q.val) ho))).symm) x

/-- The rows. -/
theorem out3 : out0_3 (F := Ideal) (up U) (up W) (up S) = up (rows U W S) := by
  unfold out0_3
  funext y
  refine View.canon_apply_of_pieces (Val := Elt Ideal) (S := S2048x512) (e := .f32) (up (rows U W S)) _ (View.PiecesOf.mem ?_) y (cover0_3 _ _ _ _ y)
  unfold k0_pay19 k0_pay20 k0_pay21 k0_pay22 k0_pay23 k0_pay24 k0_pay25 k0_pay26 k0_pay27 k0_pay28 k0_pay29 r0_0 r0_1 r0_2 r0_3 r0_4 r0_5 r0_6 r0_7 r0_8 r0_9 r0_10 r0_11
  simp only [ld_cols U 0 128 (by omega), ld_cols U 128 128 (by omega), ld_cols U 256 128 (by omega), ld_cols U 384 128 (by omega), ld_one W 0 0 rfl, ld_one W 1 1 rfl, ld_one W 2 2 rfl, ld_one W 3 3 rfl, ld_cols S 0 128 (by omega), ld_cols S 128 128 (by omega), ld_cols S 256 128 (by omega), ld_cols S 384 128 (by omega)]
  exact ⟨fun x => (congrFun (pay2 _ _ (pay1 _ pos (count_eq 16 16#32 rfl (by decide) _ pos))) x).trans (group (fun g => sclB (mulB (diffs U g) (mat W g)) (grp S g)) 3 384 rfl inb_S2048x512_S2048x128_0_384 x),
    fun x => (congrFun (pay15 _ _ (pay14 _ pos (count_eq 8 8#32 rfl (by decide) _ pos))) x).trans (group (fun g => sclB (mulB (diffs U g) (mat W g)) (grp S g)) 2 256 rfl inb_S2048x512_S2048x128_0_256 x),
    fun x => (congrFun (pay9 _ _ (pay8 (h := rotates_S2048x128_d0) _ pos (count_eq 4 4#32 rfl (by decide) _ pos))) x).trans (group (fun g => sclB (mulB (diffs U g) (mat W g)) (grp S g)) 1 128 rfl inb_S2048x512_S2048x128_0_128 x),
    fun x => (congrFun (pay4 _ _ (pay3 _ (pos (h := iota_S2048x128_d0_w32)))) x).trans (group (fun g => sclB (mulB (diffs U g) (mat W g)) (grp S g)) 0 0 rfl inb_S2048x512_S2048x128_0_0 x), trivial⟩

/-- The saved difference. -/
theorem out4 : out0_4 (F := Ideal) (up U) (up W) (up S) = upb (saved U) := by
  unfold out0_4
  funext y
  refine View.canon_apply_of_pieces (Val := Elt Ideal) (S := S2048x512) (e := .bf16) (upb (saved U)) _ (View.PiecesOf.mem ?_) y (cover0_4 _ _ _ _ y)
  unfold k0_pay19 k0_pay20 k0_pay21 k0_pay22 k0_pay23 k0_pay24 k0_pay25 k0_pay26 k0_pay27 k0_pay28 k0_pay29 r0_0 r0_3 r0_6 r0_9
  simp only [ld_cols U 0 128 (by omega), ld_cols U 128 128 (by omega), ld_cols U 256 128 (by omega), ld_cols U 384 128 (by omega)]
  exact ⟨fun x => (congrFun (pay1 _ pos (count_eq 16 16#32 rfl (by decide) _ pos)) x).trans (group (diffs U) 3 384 rfl inb_S2048x512_S2048x128_0_384 x),
    fun x => (congrFun (pay14 _ pos (count_eq 8 8#32 rfl (by decide) _ pos)) x).trans (group (diffs U) 2 256 rfl inb_S2048x512_S2048x128_0_256 x),
    fun x => (congrFun (pay8 (h := rotates_S2048x128_d0) _ pos (count_eq 4 4#32 rfl (by decide) _ pos)) x).trans (group (diffs U) 1 128 rfl inb_S2048x512_S2048x128_0_128 x),
    fun x => (congrFun (pay3 _ (pos (h := iota_S2048x128_d0_w32))) x).trans (group (diffs U) 0 0 rfl inb_S2048x512_S2048x128_0_0 x), trivial⟩

/-- The trunk's gradient. -/
theorem bout4 : out1_4 (F := Ideal) (up DY) (upb E) (up W) (up S) = up (du DY W S) := by
  unfold out1_4
  funext y
  refine View.canon_apply_of_pieces (Val := Elt Ideal) (S := S2048x512) (e := .f32) (up (du DY W S)) _ (View.PiecesOf.mem ?_) y (cover1_4 _ _ _ _ y)
  unfold k1_pay29 r1_0 r1_1 r1_2 r1_3 r1_4 r1_5 r1_6 r1_7 r1_8 r1_9 r1_10 r1_11
  simp only [ld_cols DY 0 128 (by omega), ld_cols DY 128 128 (by omega), ld_cols DY 256 128 (by omega), ld_cols DY 384 128 (by omega), ld_one W 0 0 rfl, ld_one W 1 1 rfl, ld_one W 2 2 rfl, ld_one W 3 3 rfl, ld_cols S 0 128 (by omega), ld_cols S 128 128 (by omega), ld_cols S 256 128 (by omega), ld_cols S 384 128 (by omega)]
  exact ⟨fun x => (congrFun (b28 _ _ _ pos) x).trans (group (fun g => duB (win g) (backB (scaled DY S g) (mat W g))) 3 384 rfl inb_S2048x512_S2048x128_0_384 x),
    fun x => (congrFun (b22 _ _ _ pos) x).trans (group (fun g => duB (win g) (backB (scaled DY S g) (mat W g))) 2 256 rfl inb_S2048x512_S2048x128_0_256 x),
    fun x => (congrFun (b14 _ _ _ pos) x).trans (group (fun g => duB (win g) (backB (scaled DY S g) (mat W g))) 1 128 rfl inb_S2048x512_S2048x128_0_128 x),
    fun x => (congrFun (b6 _ _ _) x).trans (group (fun g => duB (win g) (backB (scaled DY S g) (mat W g))) 0 0 rfl inb_S2048x512_S2048x128_0_0 x), trivial⟩

/-- The matrices' gradient. -/
theorem bout5 : out1_5 (F := Ideal) (up DY) (upb E) (up W) (up S) = up (dw E DY S) := by
  unfold out1_5
  funext y
  refine View.canon_apply_of_pieces (Val := Elt Ideal) (S := S4x128x128) (e := .f32) (up (dw E DY S)) _ (View.PiecesOf.mem ?_) y (cover1_5 _ _ _ _ y)
  unfold r1_0 r1_1 r1_2 r1_3 r1_4 r1_5 r1_6 r1_7 r1_8 r1_9 r1_10 r1_11
  simp only [ld_cols DY 0 128 (by omega), ld_cols DY 128 128 (by omega), ld_cols DY 256 128 (by omega), ld_cols DY 384 128 (by omega), ld_colsb E 0 128 (by omega), ld_colsb E 128 128 (by omega), ld_colsb E 256 128 (by omega), ld_colsb E 384 128 (by omega), ld_cols S 0 128 (by omega), ld_cols S 128 128 (by omega), ld_cols S 256 128 (by omega), ld_cols S 384 128 (by omega)]
  exact ⟨fun x => (congrFun (b27 _ _ _) x).trans (piece_one (dw E DY S) _ 3 3 rfl inb_S4x128x128_S1x128x128_3_0_0 (fun _ _ => rfl) x),
    fun x => (congrFun (b19 _ _ _) x).trans (piece_one (dw E DY S) _ 2 2 rfl inb_S4x128x128_S1x128x128_2_0_0 (fun _ _ => rfl) x),
    fun x => (congrFun (b11 _ _ _) x).trans (piece_one (dw E DY S) _ 1 1 rfl inb_S4x128x128_S1x128x128_1_0_0 (fun _ _ => rfl) x),
    fun x => (congrFun (b5 _ _ _) x).trans (piece_one (dw E DY S) _ 0 0 rfl inb_S4x128x128_S1x128x128_0_0_0 (fun _ _ => rfl) x), trivial⟩

/-- The scale's gradient. -/
theorem bout6 : out1_6 (F := Ideal) (up DY) (upb E) (up W) (up S) = up (dsc E DY W) := by
  unfold out1_6
  funext y
  refine View.canon_apply_of_pieces (Val := Elt Ideal) (S := S1x512) (e := .f32) (up (dsc E DY W)) _ (View.PiecesOf.mem ?_) y (cover1_6 _ _ _ _ y)
  unfold r1_0 r1_1 r1_2 r1_3 r1_4 r1_5 r1_6 r1_7 r1_8 r1_9 r1_10 r1_11
  simp only [ld_cols DY 0 128 (by omega), ld_cols DY 128 128 (by omega), ld_cols DY 256 128 (by omega), ld_cols DY 384 128 (by omega), ld_colsb E 0 128 (by omega), ld_colsb E 128 128 (by omega), ld_colsb E 256 128 (by omega), ld_colsb E 384 128 (by omega), ld_one W 0 0 rfl, ld_one W 1 1 rfl, ld_one W 2 2 rfl, ld_one W 3 3 rfl]
  exact ⟨fun x => (congrFun (b25 _ _ _) x).trans (group (fun g => dscB (grp DY g) (grp E g) (mat W g)) 3 384 rfl inb_S1x512_S1x128_0_384 x),
    fun x => (congrFun (b17 _ _ _) x).trans (group (fun g => dscB (grp DY g) (grp E g) (mat W g)) 2 256 rfl inb_S1x512_S1x128_0_256 x),
    fun x => (congrFun (b9 _ _ _) x).trans (group (fun g => dscB (grp DY g) (grp E g) (mat W g)) 1 128 rfl inb_S1x512_S1x128_0_128 x),
    fun x => (congrFun (b3 _ _ _) x).trans (group (fun g => dscB (grp DY g) (grp E g) (mat W g)) 0 0 rfl inb_S1x512_S1x128_0_0 x), trivial⟩

end Cert.PoolBlock

end
-- ==== Proof.PoolValue.lean ====
/-
  What the pooling's result arrays hold after its two calls, over the reals. Each call has one grid point, whose blocks are the
  whole arrays.
-/
module

public import proofs.«01_k».proof.Proof.Blocks
public import proofs.«01_k».proof.Proof.PoolBlock

@[expose] public section

set_option maxRecDepth 16384
set_option backward.isDefEq.respectTransparency false

noncomputable section

namespace Cert.PoolValue

open PoolBwdIdeal PoolBwdIdeal.Gen Idealize.ShloMosaic TcCoe Idealize.SL.Sem
open Blocks (Whole)
open Reals Mla Pool PoolBlock
open Idealize.ShloMosaic.Pipeline (Dat)

/-- Block 0 starts at 0 and holds the array. -/
theorem at_start {i n j : Nat} (h : i = 0) : i * n + 1 * j = j := by subst h; omega
theorem in_block {i n j : Nat} (h : i = 0) (hj : j < n) : i * n ≤ j ∧ j < i * n + n := by subst h; omega

section Calls

variable (V : (c : Dev nD) → (b : Ref sig .tc) → Buf (Elt Ideal) ((c : Thread nD τ).loc b)) (c : Dev nD)

/-! The block indices. -/

theorem idx0_0 : Whole win0_0.index := by decide +kernel
theorem idx0_1 : Whole win0_1.index := by decide +kernel
theorem idx0_2 : Whole win0_2.index := by decide +kernel
theorem idx0_3 : Whole win0_3.index := by decide +kernel
theorem idx0_4 : Whole win0_4.index := by decide +kernel
theorem idx1_0 : Whole win1_0.index := by decide +kernel
theorem idx1_1 : Whole win1_1.index := by decide +kernel
theorem idx1_2 : Whole win1_2.index := by decide +kernel
theorem idx1_3 : Whole win1_3.index := by decide +kernel
theorem idx1_4 : Whole win1_4.index := by decide +kernel
theorem idx1_5 : Whole win1_5.index := by decide +kernel
theorem idx1_6 : Whole win1_6.index := by decide +kernel

/-! What the calls read. -/

theorem in0_0 (t : Fin cfg0.N) : iblk0 V c 0 t = V c main_arg0 := funext fun j => congrArg (V c main_arg0) (funext fun a => Fin.ext (at_start (idx0_0 t a)))
theorem in0_1 (t : Fin cfg0.N) : iblk0 V c 1 t = V c main_arg2 := funext fun j => congrArg (V c main_arg2) (funext fun a => Fin.ext (at_start (idx0_1 t a)))
theorem in0_2 (t : Fin cfg0.N) : iblk0 V c 2 t = V c main_arg3 := funext fun j => congrArg (V c main_arg3) (funext fun a => Fin.ext (at_start (idx0_2 t a)))
theorem in1_0 (t : Fin cfg1.N) : iblk1 V c 0 t = V c main_arg1 := funext fun j => congrArg (V c main_arg1) (funext fun a => Fin.ext (at_start (idx1_0 t a)))
theorem in1_1 (t : Fin cfg1.N) : iblk1 V c 1 t = V c main_v0_1 := funext fun j => congrArg (V c main_v0_1) (funext fun a => Fin.ext (at_start (idx1_1 t a)))
theorem in1_2 (t : Fin cfg1.N) : iblk1 V c 2 t = V c main_arg2 := funext fun j => congrArg (V c main_arg2) (funext fun a => Fin.ext (at_start (idx1_2 t a)))
theorem in1_3 (t : Fin cfg1.N) : iblk1 V c 3 t = V c main_arg3 := funext fun j => congrArg (V c main_arg3) (funext fun a => Fin.ext (at_start (idx1_3 t a)))

/-! What they leave. -/

/-- The rows. -/
theorem final0_3 (A : Vec Ideal S2048x512 .f32) (hA : out0_3 (F := Ideal) (V c main_arg0) (V c main_arg2) (V c main_arg3) = A) : (dat0 V c).arrAt 3 cfg0.N = A := by
  refine (dat0 V c).arrAt_eq_of_cover 3 _ (fun t _ => ?_) fun i => ⟨t0_0, flush0_3 _, ?_⟩
  · show (cfg0.win 3).cut (grid0.coords t) ((dat0 V c).after 3 t) = _
    rw [after0_3, in0_0, in0_1, in0_2, hA]
    funext j; rw [View.read_apply]
    exact congrArg A (funext fun a => Fin.ext (at_start (idx0_3 t a)).symm)
  · exact Blocks.in_block (fun a => in_block (idx0_3 t0_0 a) (i a).isLt)

/-- The saved difference. -/
theorem final0_4 (A : Vec Ideal S2048x512 .bf16) (hA : out0_4 (F := Ideal) (V c main_arg0) (V c main_arg2) (V c main_arg3) = A) : (dat0 V c).arrAt 4 cfg0.N = A := by
  refine (dat0 V c).arrAt_eq_of_cover 4 _ (fun t _ => ?_) fun i => ⟨t0_0, flush0_4 _, ?_⟩
  · show (cfg0.win 4).cut (grid0.coords t) ((dat0 V c).after 4 t) = _
    rw [after0_4, in0_0, in0_1, in0_2, hA]
    funext j; rw [View.read_apply]
    exact congrArg A (funext fun a => Fin.ext (at_start (idx0_4 t a)).symm)
  · exact Blocks.in_block (fun a => in_block (idx0_4 t0_0 a) (i a).isLt)

/-- The trunk's gradient. -/
theorem final1_4 (A : Vec Ideal S2048x512 .f32) (hA : out1_4 (F := Ideal) (V c main_arg1) (V c main_v0_1) (V c main_arg2) (V c main_arg3) = A) : (dat1 V c).arrAt 4 cfg1.N = A := by
  refine (dat1 V c).arrAt_eq_of_cover 4 _ (fun t _ => ?_) fun i => ⟨t1_0, flush1_4 _, ?_⟩
  · show (cfg1.win 4).cut (grid1.coords t) ((dat1 V c).after 4 t) = _
    rw [after1_4, in1_0, in1_1, in1_2, in1_3, hA]
    funext j; rw [View.read_apply]
    exact congrArg A (funext fun a => Fin.ext (at_start (idx1_4 t a)).symm)
  · exact Blocks.in_block (fun a => in_block (idx1_4 t1_0 a) (i a).isLt)

/-- The matrices' gradient. -/
theorem final1_5 (A : Vec Ideal S4x128x128 .f32) (hA : out1_5 (F := Ideal) (V c main_arg1) (V c main_v0_1) (V c main_arg2) (V c main_arg3) = A) : (dat1 V c).arrAt 5 cfg1.N = A := by
  refine (dat1 V c).arrAt_eq_of_cover 5 _ (fun t _ => ?_) fun i => ⟨t1_0, flush1_5 _, ?_⟩
  · show (cfg1.win 5).cut (grid1.coords t) ((dat1 V c).after 5 t) = _
    rw [after1_5, in1_0, in1_1, in1_2, in1_3, hA]
    funext j; rw [View.read_apply]
    exact congrArg A (funext fun a => Fin.ext (at_start (idx1_5 t a)).symm)
  · exact Blocks.in_block (fun a => in_block (idx1_5 t1_0 a) (i a).isLt)

/-- The scale's gradient. -/
theorem final1_6 (A : Vec Ideal S1x512 .f32) (hA : out1_6 (F := Ideal) (V c main_arg1) (V c main_v0_1) (V c main_arg2) (V c main_arg3) = A) : (dat1 V c).arrAt 6 cfg1.N = A := by
  refine (dat1 V c).arrAt_eq_of_cover 6 _ (fun t _ => ?_) fun i => ⟨t1_0, flush1_6 _, ?_⟩
  · show (cfg1.win 6).cut (grid1.coords t) ((dat1 V c).after 6 t) = _
    rw [after1_6, in1_0, in1_1, in1_2, in1_3, hA]
    funext j; rw [View.read_apply]
    exact congrArg A (funext fun a => Fin.ext (at_start (idx1_6 t a)).symm)
  · exact Blocks.in_block (fun a => in_block (idx1_6 t1_0 a) (i a).isLt)

end Calls

variable (m : (ℓ : Loc nD τ sig) → Buf (Elt Ideal) ℓ) (ρ : Dev nD → PrngReg) (c : Dev nD)
variable (U DY : A2 2048 512) (W : A3 4 128 128) (S : A2 1 512)

/-- The arguments are real arrays. -/
structure Args : Prop where
  h0 : m ((c : Thread nD τ).loc main_arg0) = up U
  h1 : m ((c : Thread nD τ).loc main_arg1) = up DY
  h2 : m ((c : Thread nD τ).loc main_arg2) = up W
  h3 : m ((c : Thread nD τ).loc main_arg3) = up S

variable (H : Args m c U DY W S)
include H

/-- What the second call is given. -/
theorem given : V1 m ρ c main_arg1 = up DY ∧ V1 m ρ c main_v0_1 = upb (saved U) ∧ V1 m ρ c main_arg2 = up W ∧ V1 m ρ c main_arg3 = up S := by
  refine ⟨(W1_args m ρ c _ (by decide)).trans H.h1, (W1_arr m ρ c 4).trans (final0_4 (V0 m ρ) c _ ?_),
    (W1_args m ρ c _ (by decide)).trans H.h2, (W1_args m ρ c _ (by decide)).trans H.h3⟩
  show out0_4 (m ((c : Thread nD τ).loc main_arg0)) (m ((c : Thread nD τ).loc main_arg2)) (m ((c : Thread nD τ).loc main_arg3)) = _
  rw [H.h0, H.h2, H.h3]
  exact out4 U W S

/-- The rows. -/
theorem res0 : W2 m ρ c (Proc.devRef .tc main_v0_0) = up (rows U W S) := by
  refine (W2_of_ne m ρ c main_v0_0 (by decide)).trans ((W1_arr m ρ c 3).trans (final0_3 (V0 m ρ) c _ ?_))
  show out0_3 (m ((c : Thread nD τ).loc main_arg0)) (m ((c : Thread nD τ).loc main_arg2)) (m ((c : Thread nD τ).loc main_arg3)) = _
  rw [H.h0, H.h2, H.h3]
  exact out3 U W S
/-- The trunk's gradient. -/
theorem res1 : W2 m ρ c (Proc.devRef .tc main_v1_0) = up (du DY W S) := by
  obtain ⟨e1, e2, e3, e4⟩ := given m ρ c U DY W S H
  refine (W2_arr m ρ c 4).trans (final1_4 (V1 m ρ) c _ ?_)
  rw [e1, e2, e3, e4]
  exact bout4 DY (saved U) W S
/-- The matrices' gradient. -/
theorem res2 : W2 m ρ c (Proc.devRef .tc main_v1_1) = up (dw (saved U) DY S) := by
  obtain ⟨e1, e2, e3, e4⟩ := given m ρ c U DY W S H
  refine (W2_arr m ρ c 5).trans (final1_5 (V1 m ρ) c _ ?_)
  rw [e1, e2, e3, e4]
  exact bout5 DY (saved U) W S
/-- The scale's gradient. -/
theorem res3 : W2 m ρ c (Proc.devRef .tc main_v1_2) = up (dsc (saved U) DY W) := by
  obtain ⟨e1, e2, e3, e4⟩ := given m ρ c U DY W S H
  refine (W2_arr m ρ c 6).trans (final1_6 (V1 m ρ) c _ ?_)
  rw [e1, e2, e3, e4]
  exact bout6 DY (saved U) W S

end Cert.PoolValue

end
-- ==== Proof.PoolCumsum.lean ====
/-
  The running sums along the rows of a matrix of real numbers, as the host's windowed sum prints them: a window as high as
  the matrix, padded below (the sum up to a row) or above (the sum from a row on).
-/
module

public import Idealize.ShloMosaic.Lib.Routing.OpsOne
public import Idealize.ShloMosaic.PureOps.Ideal.Laws
public import proofs.«01_k».proof.Proof.PoolSum

@[expose] public section

set_option maxRecDepth 16384

noncomputable section

namespace Cert.Pool

open Idealize.ShloMosaic Idealize.ShloMosaic.ValueIdx Idealize.ShloMosaic.Routing Finset

/-- Steps that each add the coercion of a real number add up the coercion of the sum. -/
theorem foldl_coe {n : Nat} (step : EReal → Fin n → EReal) (f : Fin n → ℝ) (h : ∀ r k, step r k = r + ((f k : ℝ) : EReal)) (a : ℝ) :
    (List.finRange n).foldl step (a : EReal) = ((a + ∑ k, f k : ℝ) : EReal) := by
  have key : ∀ (l : List (Fin n)) (b : ℝ), l.foldl step (b : EReal) = ((b + (l.map f).sum : ℝ) : EReal) := by
    intro l
    induction l with
    | nil => intro b; simp
    | cons k l ih =>
      intro b
      rw [List.foldl_cons, h b k, ← EReal.coe_add, ih, List.map_cons, List.sum_cons, add_assoc]
  rw [key, ← List.ofFn_eq_map, List.sum_ofFn]

abbrev Rows := (shape2 2048 512).Idx

/-- The windowed sum with any padding below of `lo` rows, at an entry. -/
theorem window_apply (lo hi : Nat) (X : Rows → ℝ) (init : EReal) (hi0 : init = 0)
    (h : (shape2 2048 512).ReduceWindows (![2048, 1] : Fin 2 → Nat) ![1, 1] ![lo, 0] ![hi, 0] (shape2 2048 512)) (s : Fin 2048) (c : Fin 512) :
    Ideal.hostReduceWindowAdd ![2048, 1] ![1, 1] ![lo, 0] ![hi, 0] h (fun i => ((X i : ℝ) : EReal)) init (ix2 s c)
      = ((∑ n ∈ range 2048, if lo ≤ s.val + n then ext (fun t => X (ix2 t c)) (s.val + n - lo) else 0 : ℝ) : EReal) := by
  have hc := c.isLt
  have h0 : init = ((0 : ℝ) : EReal) := by rw [hi0]; simp
  unfold Ideal.hostReduceWindowAdd Host.reduceWindow
  rw [h0]
  refine (foldl_coe (n := (shape2 2048 1).numel) _ (fun n => if lo ≤ s.val + n.val then ext (fun t => X (ix2 t c)) (s.val + n.val - lo) else 0)
    (fun r n => ?_) 0).trans ?_
  · have hw0 : ((shape2 2048 1).rowMajor.symm n 0).val = n.val := by rw [symm_col]; rfl
    have hw1 : ((shape2 2048 1).rowMajor.symm n 1).val = 0 := by rw [symm_col]; rfl
    refine congrArg (r + ·) ?_
    split
    · next hin =>
      have q := hin 0
      change lo ≤ s.val * 1 + ((shape2 2048 1).rowMajor.symm n 0).val ∧ s.val * 1 + ((shape2 2048 1).rowMajor.symm n 0).val - lo < 2048 at q
      rw [hw0, Nat.mul_one] at q
      rw [if_pos q.1]
      refine congrArg (fun z : ℝ => (z : EReal)) ?_
      unfold ext
      rw [dif_pos q.2]
      refine congrArg X (funext fun a => Fin.ext ?_)
      match a with
      | ⟨0, _⟩ => show s.val * 1 + ((shape2 2048 1).rowMajor.symm n 0).val - lo = s.val + n.val - lo; rw [hw0, Nat.mul_one]
      | ⟨1, _⟩ => show c.val * 1 + ((shape2 2048 1).rowMajor.symm n 1).val - 0 = c.val; rw [hw1]; omega
    · next hin =>
      refine congrArg (fun z : ℝ => (z : EReal)) ?_
      by_cases q : lo ≤ s.val + n.val
      · rw [if_pos q]
        unfold ext
        rw [dif_neg fun q' => hin fun a => ?_]
        match a with
        | ⟨0, _⟩ =>
          show lo ≤ s.val * 1 + ((shape2 2048 1).rowMajor.symm n 0).val ∧ s.val * 1 + ((shape2 2048 1).rowMajor.symm n 0).val - lo < 2048
          rw [hw0, Nat.mul_one]; exact ⟨q, q'⟩
        | ⟨1, _⟩ =>
          show 0 ≤ c.val * 1 + ((shape2 2048 1).rowMajor.symm n 1).val ∧ c.val * 1 + ((shape2 2048 1).rowMajor.symm n 1).val - 0 < 512
          rw [hw1]; omega
      · rw [if_neg q]
  · rw [zero_add]
    refine congrArg (fun z : ℝ => (z : EReal)) ?_
    rw [← Fin.sum_univ_eq_sum_range (fun n => if lo ≤ s.val + n then ext (fun t => X (ix2 t c)) (s.val + n - lo) else 0) 2048]
    exact Fintype.sum_equiv (finCongr (numel_col 2048)) _ _ fun n => rfl

/-- The running sum up to a row. -/
theorem cumsum_apply (X : Rows → ℝ) (init : EReal) (hi0 : init = 0)
    (h : (shape2 2048 512).ReduceWindows (![2048, 1] : Fin 2 → Nat) ![1, 1] ![2047, 0] ![0, 0] (shape2 2048 512)) (s : Fin 2048) (c : Fin 512) :
    Ideal.hostReduceWindowAdd ![2048, 1] ![1, 1] ![2047, 0] ![0, 0] h (fun i => ((X i : ℝ) : EReal)) init (ix2 s c)
      = ((upto (fun t => X (ix2 t c)) s.val : ℝ) : EReal) := by
  rw [window_apply 2047 0 X init hi0 h s c, upto_window _ _ s.isLt]

/-- The running sum from a row on. -/
theorem rcumsum_apply (X : Rows → ℝ) (init : EReal) (hi0 : init = 0)
    (h : (shape2 2048 512).ReduceWindows (![2048, 1] : Fin 2 → Nat) ![1, 1] ![0, 0] ![2047, 0] (shape2 2048 512)) (s : Fin 2048) (c : Fin 512) :
    Ideal.hostReduceWindowAdd ![2048, 1] ![1, 1] ![0, 0] ![2047, 0] h (fun i => ((X i : ℝ) : EReal)) init (ix2 s c)
      = ((tail (fun t => X (ix2 t c)) s.val : ℝ) : EReal) := by
  rw [window_apply 0 2047 X init hi0 h s c]
  unfold tail
  exact congrArg (fun z : ℝ => (z : EReal)) (sum_congr rfl fun n _ => if_pos (Nat.zero_le _))

end Cert.Pool

end
-- ==== Proof.PoolRef.lean ====
/-
  What the pooling's reference computes, over the reals: the host operations of the printed program, stage by stage.
-/
module

public import proofs.«01_k».proof.Proof.Pool
public import proofs.«01_k».proof.Proof.PoolCumsum
public import proofs.«01_k».proof.Proof.Gen.PoolBwdRefIdeal.Read

@[expose] public section

set_option maxRecDepth 16384
set_option backward.isDefEq.respectTransparency false

noncomputable section

namespace Cert.PoolRef

open Idealize.ShloMosaic WordCmp Reals Mla Pieces Pool PoolBwdRefIdeal PoolBwdRefIdeal.Read

/-- A row's count, as the reference converts it. -/
theorem count {s : Nat} (w : Nat) (n : BitVec 32) (hn : n = BitVec.ofNat 32 w) (hw : w < 2048) (hs : s < 2048) :
    FloatOps.sitofp (F := Ideal) .f32 (IntOp.minsi (IntOp.addi (BitVec.ofNat 32 s) 1#32) n) = ((cnt w s : ℝ) : EReal) := by
  show (((IntOp.minsi (IntOp.addi (BitVec.ofNat 32 s) 1#32) n).toInt : ℝ) : EReal) = _
  rw [hn, show (1#32 : BitVec 32) = BitVec.ofNat 32 1 from rfl, addi_ofNat, PlanTiles.minsi_word (by omega) (by omega),
    toInt_ofNat_of_lt (show min w (s + 1) < 2 ^ 31 by omega), Nat.min_comm]
  rfl

/-- A window's mean, as the difference of two running sums. -/
theorem mean {w s : Nat} (hw : 0 < w) (f : Fin 2048 → ℝ) :
    Ideal.div (((upto f s : ℝ) : EReal) - if _h : s < w then 0 else ((upto f (s - w) : ℝ) : EReal)) ((cnt w s : ℝ) : EReal)
      = ((past w f s / cnt w s : ℝ) : EReal) := by
  have e : (((upto f s : ℝ) : EReal) - if _h : s < w then 0 else ((upto f (s - w) : ℝ) : EReal)) = ((past w f s : ℝ) : EReal) := by
    rw [← past_eq]
    by_cases h : s < w
    · rw [dif_pos h, if_neg (by omega)]; simp
    · rw [dif_neg h, if_pos (by omega), sub_coe]
  rw [e, div_coe _ (cnt_pos hw s)]

/-- A gradient's term and the one taken off it, a window ahead. -/
theorem lagged {w : Nat} (n : Nat) (hn : n + w = 2048) (f : Fin 2048 → ℝ) (s : Fin 2048) :
    ((f s : ℝ) : EReal) + (if h : s.val < n then -(((f ⟨w + s.val, by omega⟩ : ℝ)) : EReal) else 0)
      = ((f s + if s.val + w < 2048 then -ext f (s.val + w) else 0 : ℝ) : EReal) := by
  by_cases h : s.val < n
  · rw [dif_pos h, if_pos (by omega), show s.val + w = (⟨w + s.val, by omega⟩ : Fin 2048).val from Nat.add_comm _ _, ext_val]
    simp
  · rw [dif_neg h, if_neg (by omega)]; simp

variable (U DY : A2 2048 512) (W : A3 4 128 128) (S : A2 1 512)

theorem z (i : S_.Idx) : val_main_call0_call0_v0 (F := Ideal) i = 0 := by
  pointwise [val_main_call0_call0_v0, val_main_call0_call0_cst]
theorem z' (i : S_.Idx) : val_main_call1_call0_v0 (F := Ideal) i = 0 := by
  pointwise [val_main_call1_call0_v0, val_main_call1_call0_cst]

/-- The running sums. -/
theorem v0 : val_main_v0 (F := Ideal) (up U) = up fun i => upto (fun t => U (ix2 t (i 1))) (i 0).val := by
  funext i
  unfold val_main_v0 Host.reduceWindowAdd
  rw [Ideal.hostReduceWindowAdd_def, z, eq_ix2 i]
  exact cumsum_apply U 0 rfl Gen.reduceWindows_S2048x512_S2048x512_w2048s1p2047_0_w1s1p0_0 _ _

/-! The counts of the four groups. -/

theorem v11 : val_main_v11 (F := Ideal) = fun i => ((cnt 2 (i 0).val : ℝ) : EReal) := by
  funext i
  pointwise [val_main_v11, val_main_v10, val_main_v9, val_main_c_1, val_main_v8, val_main_v7, val_main_c, val_main_v1]
  exact count 2 2#32 rfl (by decide) (i 0).isLt
theorem v25 : val_main_v25 (F := Ideal) = fun i => ((cnt 4 (i 0).val : ℝ) : EReal) := by
  funext i
  pointwise [val_main_v25, val_main_v24, val_main_v23, val_main_c_5, val_main_v22, val_main_v21, val_main_c_4, val_main_v1]
  exact count 4 4#32 rfl (by decide) (i 0).isLt
theorem v39 : val_main_v39 (F := Ideal) = fun i => ((cnt 8 (i 0).val : ℝ) : EReal) := by
  funext i
  pointwise [val_main_v39, val_main_v38, val_main_v37, val_main_c_9, val_main_v36, val_main_v35, val_main_c_8, val_main_v1]
  exact count 8 8#32 rfl (by decide) (i 0).isLt
theorem v53 : val_main_v53 (F := Ideal) = fun i => ((cnt 16 (i 0).val : ℝ) : EReal) := by
  funext i
  pointwise [val_main_v53, val_main_v52, val_main_v51, val_main_c_13, val_main_v50, val_main_v49, val_main_c_12, val_main_v1]
  exact count 16 16#32 rfl (by decide) (i 0).isLt

/-- A column of the first group. -/
theorem first {n : Nat} (X : A2 n 512) (s : Fin n) (c : Fin 128) (h : c.val < 512) : X (ix2 s ⟨c.val, h⟩) = grp X 0 (ix2 s c) :=
  congrArg (fun q => X (ix2 s q)) (Fin.ext (show c.val = 128 * 0 + c.val by omega))

/-! The means of the four groups. -/

theorem v15 : val_main_v15 (F := Ideal) (up U) = up fun i => pastB 2 (grp U 0) i / cnt 2 (i 0).val := by
  funext i
  pointwise [val_main_v15, val_main_v13, val_main_v14, val_main_v12, v11, val_main_v5, val_main_v4, val_main_v3, val_main_cst, val_main_v2, v0, up]
  refine (mean (by decide) _).trans ?_
  simp only [first U]
  rfl
theorem v29 : val_main_v29 (F := Ideal) (up U) = up fun i => pastB 4 (grp U 1) i / cnt 4 (i 0).val := by
  funext i
  pointwise [val_main_v29, val_main_v27, val_main_v28, val_main_v26, v25, val_main_v19, val_main_v18, val_main_v17, val_main_cst_2, val_main_v16, v0, up]
  exact mean (by decide) _
theorem v43 : val_main_v43 (F := Ideal) (up U) = up fun i => pastB 8 (grp U 2) i / cnt 8 (i 0).val := by
  funext i
  pointwise [val_main_v43, val_main_v41, val_main_v42, val_main_v40, v39, val_main_v33, val_main_v32, val_main_v31, val_main_cst_6, val_main_v30, v0, up]
  exact mean (by decide) _
theorem v57 : val_main_v57 (F := Ideal) (up U) = up fun i => pastB 16 (grp U 3) i / cnt 16 (i 0).val := by
  funext i
  pointwise [val_main_v57, val_main_v55, val_main_v56, val_main_v54, v53, val_main_v47, val_main_v46, val_main_v45, val_main_cst_10, val_main_v44, v0, up]
  exact mean (by decide) _

/-- A group's column in the whole. -/
theorem in_group {n : Nat} (X : A2 n 512) (s : Fin n) (g : Fin 4) (c : Fin 128) (h : g.val * 128 + c.val < 512) :
    X (ix2 s ⟨g.val * 128 + c.val, h⟩) = grp X g (ix2 s c) :=
  congrArg (fun q => X (ix2 s q)) (Fin.ext (show g.val * 128 + c.val = 128 * g.val + c.val by omega))
/-- A column of the whole in its group. -/
theorem of_group {n : Nat} (X : A2 n 512) (s : Fin n) (c : Fin 512) :
    grp X ⟨c.val / 128, by omega⟩ (ix2 s ⟨c.val % 128, Nat.mod_lt _ (by decide)⟩) = X (ix2 s c) :=
  congrArg (fun q => X (ix2 s q)) (Fin.ext (show 128 * (c.val / 128) + c.val % 128 = c.val by omega))

/-- The means less the rows. -/
theorem v64 : val_main_v64 (F := Ideal) (up U) = up fun i => diffs U (i 1) (ix2 (i 0) (i 2)) := by
  funext i
  obtain ⟨s, g, c, rfl⟩ : ∃ (s : Fin 2048) (g : Fin 4) (c : Fin 128), i = ix3 s g c := ⟨i 0, i 1, i 2, eq_ix3 i⟩
  match g with
  | 0 => pointwise [val_main_v64, val_main_v63, val_main_v62, val_main_v58, up, v15, sub_coe]; rw [first U]; rfl
  | 1 => pointwise [val_main_v64, val_main_v63, val_main_v62, val_main_v59, up, v29, sub_coe]; rfl
  | 2 => pointwise [val_main_v64, val_main_v63, val_main_v62, val_main_v60, up, v43, sub_coe]; rfl
  | 3 => pointwise [val_main_v64, val_main_v63, val_main_v62, val_main_v61, up, v57, sub_coe]; rfl

/-- The products by the groups' matrices. -/
theorem v67 : val_main_v67 (F := Ideal) (up U) (up W) = up (join fun g => mulB (diffs U g) (mat W g)) := by
  funext i
  pointwise [val_main_v67, val_main_v66, val_main_v65, v64, up, mul_coe, coe_sum]
  refine congrArg (fun z : ℝ => (z : EReal)) ?_
  exact Finset.sum_congr rfl fun d _ => mul_comm _ _

/-- The rows. -/
theorem v69 : val_main_v69 (F := Ideal) (up U) (up W) (up S) = up (rows U W S) := by
  funext i
  pointwise [val_main_v69, v67, val_main_v68, up, mul_coe]
  refine congrArg (fun z : ℝ => (z : EReal)) ?_
  exact congrArg (join (fun g => mulB (diffs U g) (mat W g)) i * ·) (of_group S 0 (i 1)).symm

/-- The saved difference's groups. -/
theorem grp_saved (g : Fin 4) : grp (saved U) g = diffs U g := grp_join _ g

/-- The scale's gradient. -/
theorem v72 : val_main_v72 (F := Ideal) (up U) (up DY) (up W) = up (dsc (saved U) DY W) := by
  funext i
  pointwise [val_main_v72, val_main_v71, val_main_v70, val_main_cst_14, v67, up, mul_coe, coe_sum]
  refine congrArg (fun z : ℝ => (z : EReal)) ?_
  have hc : (i 1).val < 512 := (i 1).isLt
  show _ = ∑ s : Fin 2048, grp DY ⟨(i 1).val / 128, by omega⟩ (ix2 s ⟨(i 1).val % 128, Nat.mod_lt _ (by decide)⟩)
    * mulB (grp (saved U) ⟨(i 1).val / 128, by omega⟩) (mat W ⟨(i 1).val / 128, by omega⟩) (ix2 s ⟨(i 1).val % 128, Nat.mod_lt _ (by decide)⟩)
  refine Finset.sum_congr rfl fun s _ => ?_
  rw [grp_saved]
  exact (mul_comm _ _).trans (congrArg (· * join (fun g => mulB (diffs U g) (mat W g)) (ix2 s (i 1))) (of_group DY s (i 1)).symm)

/-- The products' cotangents, and through the matrices. -/
theorem v76 : val_main_v76 (F := Ideal) (up DY) (up S) = up fun i => scaled DY S (i 0) (ix2 (i 2) (i 1)) := by
  funext i
  pointwise [val_main_v76, val_main_v75, val_main_v74, val_main_v73, up, mul_coe]
  rw [in_group DY, in_group S]
  rfl
theorem v78 : val_main_v78 (F := Ideal) (up DY) (up W) (up S) = up fun i => backB (scaled DY S (i 1)) (mat W (i 1)) (ix2 (i 0) (i 2)) := by
  funext i
  pointwise [val_main_v78, val_main_v77, v76, up, mul_coe, coe_sum]
  rfl

/-- The matrices' gradient. -/
theorem v80 : val_main_v80 (F := Ideal) (up U) (up DY) (up S) = up (dw (saved U) DY S) := by
  funext i
  pointwise [val_main_v80, val_main_v79, v76, v64, up, mul_coe, coe_sum]
  refine congrArg (fun z : ℝ => (z : EReal)) ?_
  unfold dw
  rw [grp_saved]
  exact Finset.sum_congr rfl fun d _ => mul_comm _ _

/-- A group's gradient of the means, and its terms with those taken off. -/
def gm (g : Fin 4) : A2 2048 128 := fun j => backB (scaled DY S g) (mat W g) j / cnt (win g) (j 0).val
def term (g : Fin 4) : A2 2048 128 := fun i => gm DY W S g i + if (i 0).val + win g < 2048 then -ext (fun t => gm DY W S g (ix2 t (i 1))) ((i 0).val + win g) else 0

theorem v92 : val_main_v92 (F := Ideal) (up DY) (up W) (up S) = up (gm DY W S 3) := by
  funext i
  pointwise [val_main_v92, val_main_v91, val_main_v90, val_main_v89, val_main_v54, v53, v78, up]
  exact div_coe _ (cnt_pos (by decide) _)
theorem v100 : val_main_v100 (F := Ideal) (up DY) (up W) (up S) = up (gm DY W S 2) := by
  funext i
  pointwise [val_main_v100, val_main_v99, val_main_v88, val_main_v87, val_main_v40, v39, v78, up]
  exact div_coe _ (cnt_pos (by decide) _)
theorem v109 : val_main_v109 (F := Ideal) (up DY) (up W) (up S) = up (gm DY W S 1) := by
  funext i
  pointwise [val_main_v109, val_main_v108, val_main_v86, val_main_v85, val_main_v26, v25, v78, up]
  exact div_coe _ (cnt_pos (by decide) _)
theorem v118 : val_main_v118 (F := Ideal) (up DY) (up W) (up S) = up (gm DY W S 0) := by
  funext i
  pointwise [val_main_v118, val_main_v117, val_main_v84, val_main_v83, val_main_v12, v11, v78, up]
  exact div_coe _ (cnt_pos (by decide) _)
theorem v97 : val_main_v97 (F := Ideal) (up DY) (up W) (up S) = up (term DY W S 3) := by
  funext i
  pointwise [val_main_v97, val_main_v96, val_main_v95, val_main_v93, val_main_cst_15, v92, up]
  exact lagged (w := 16) 2032 rfl (fun t => gm DY W S 3 (ix2 t (i 1))) (i 0)
theorem v105 : val_main_v105 (F := Ideal) (up DY) (up W) (up S) = up (term DY W S 2) := by
  funext i
  pointwise [val_main_v105, val_main_v104, val_main_v103, val_main_v101, val_main_cst_17, v100, up]
  exact lagged (w := 8) 2040 rfl (fun t => gm DY W S 2 (ix2 t (i 1))) (i 0)
theorem v114 : val_main_v114 (F := Ideal) (up DY) (up W) (up S) = up (term DY W S 1) := by
  funext i
  pointwise [val_main_v114, val_main_v113, val_main_v112, val_main_v110, val_main_cst_19, v109, up]
  exact lagged (w := 4) 2044 rfl (fun t => gm DY W S 1 (ix2 t (i 1))) (i 0)
theorem v123 : val_main_v123 (F := Ideal) (up DY) (up W) (up S) = up (term DY W S 0) := by
  funext i
  pointwise [val_main_v123, val_main_v122, val_main_v121, val_main_v119, val_main_cst_21, v118, up]
  exact lagged (w := 2) 2046 rfl (fun t => gm DY W S 0 (ix2 t (i 1))) (i 0)

/-- The four groups' terms side by side. -/
theorem v125 : val_main_v125 (F := Ideal) (up DY) (up W) (up S) = up (join (term DY W S)) := by
  funext i
  pointwise [val_main_v125, val_main_v124, val_main_v116, val_main_v115, val_main_v107, val_main_v106, val_main_v98, val_main_cst_16, val_main_cst_18, val_main_cst_20, val_main_cst_22, v97, v105, v114, v123, up]
  have hc : (i 1).val < 512 := (i 1).isLt
  have one : ∀ (g : Fin 4) (q : Fin 128), (i 1).val = 128 * g.val + q.val → ((term DY W S g (ix2 (i 0) q) : ℝ) : EReal) = ((join (term DY W S) i : ℝ) : EReal) :=
    fun g q h => congrArg (fun z : ℝ => (z : EReal)) ((join_apply (term DY W S) g (i 0) q (i 1) h).symm.trans (congrArg (join (term DY W S)) (ix2_eta i)))
  by_cases h1 : (i 1).val < 128
  · rw [dif_neg (by omega), dif_neg (by omega), dif_neg (by omega), dif_pos h1, zero_add, zero_add, zero_add]
    exact one 0 ⟨_, h1⟩ (by show (i 1).val = 128 * 0 + (i 1).val; omega)
  by_cases h2 : (i 1).val < 256
  · rw [dif_neg (by omega), dif_neg (by omega), dif_pos (by omega), dif_neg h1, zero_add, zero_add, add_zero]
    exact one 1 ⟨(i 1).val - 128, by omega⟩ (by show (i 1).val = 128 * 1 + ((i 1).val - 128); omega)
  by_cases h3 : (i 1).val < 384
  · rw [dif_neg (by omega), dif_pos (by omega), dif_neg (by omega), dif_neg h1, zero_add, add_zero, add_zero]
    exact one 2 ⟨(i 1).val - 256, by omega⟩ (by show (i 1).val = 128 * 2 + ((i 1).val - 256); omega)
  rw [dif_pos (by omega), dif_neg (by omega), dif_neg (by omega), dif_neg h1, add_zero, add_zero, add_zero]
  exact one 3 ⟨(i 1).val - 384, by omega⟩ (by show (i 1).val = 128 * 3 + ((i 1).val - 384); omega)

theorem v126 : val_main_v126 (F := Ideal) (up DY) (up W) (up S) = up fun i => tail (fun t => join (term DY W S) (ix2 t (i 1))) (i 0).val := by
  funext i
  unfold val_main_v126 Host.reduceWindowAdd
  rw [Ideal.hostReduceWindowAdd_def, z', v125, eq_ix2 i]
  exact rcumsum_apply (join (term DY W S)) 0 rfl Gen.reduceWindows_S2048x512_S2048x512_w2048s1p0_2047_w1s1p0_0 _ _

/-- The trunk's gradient. -/
theorem v127 : val_main_v127 (F := Ideal) (up DY) (up W) (up S) = up (du DY W S) := by
  funext i
  pointwise [val_main_v127, v126, val_main_v82, val_main_v81, v78, up, add_coe]
  have hc : (i 1).val < 512 := (i 1).isLt
  have e := tail_lag (win ⟨(i 1).val / 128, by omega⟩) (fun t => gm DY W S ⟨(i 1).val / 128, by omega⟩ (ix2 t ⟨(i 1).val % 128, Nat.mod_lt _ (by decide)⟩))
    (fun t => join (term DY W S) (ix2 t (i 1))) (fun t => rfl) (i 0).val
  rw [e, ← EReal.coe_neg, add_coe]
  exact congrArg (fun z : ℝ => (z : EReal)) (neg_add_eq_sub _ _)

end Cert.PoolRef

end
-- ==== Proof.PoolRun.lean ====
/-
  The run of the pooling's two calls: what the memory holds at its end.
-/
module

public import proofs.«01_k».proof.Proof.Reals
public import proofs.«01_k».proof.Proof.Gen.PoolBwdIdeal.Frame

@[expose] public section

set_option maxRecDepth 16384
set_option backward.isDefEq.respectTransparency false

noncomputable section

namespace Cert.PoolRun

open PoolBwdIdeal PoolBwdIdeal.Gen Idealize.ShloMosaic TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable (m : (ℓ : Loc nD τ sig) → Buf (Elt Ideal) ℓ) (ρ : Dev nD → PrngReg)

set_option backward.isDefEq.respectTransparency.types false in
/-- The run ends with each result array as the calls leave it, and every argument as launched. -/
theorem run : θ_run defs (onTc (τ := τ) (main (F := Ideal))) ⟨m, fun _ => 0, ρ⟩ (fun r => ∀ c : Dev nD,
      r.2.mem ((c.tc : Thread nD τ).loc main_v0_0) = W2 m ρ c (Proc.devRef .tc main_v0_0)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_v1_2) = W2 m ρ c (Proc.devRef .tc main_v1_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨h c _ (mem_uc main_v0_0 (by decide)),
       h c _ (mem_uc main_v1_0 (by decide)),
       h c _ (mem_uc main_v1_1 (by decide)),
       h c _ (mem_uc main_v1_2 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.PoolRun

end
-- ==== Proof.PoolClaims.lean ====
/-
  The claims about the pooling: the reference's frame, and the equality of the results over the reals, for finite arguments.
-/
module

public import proofs.«01_k».proof.Defs
public import proofs.«01_k».proof.Proof.PoolValue
public import proofs.«01_k».proof.Proof.PoolRef
public import proofs.«01_k».proof.Proof.PoolRun
public import proofs.«01_k».proof.Proof.Gen.PoolBwd.Frame
public import proofs.«01_k».proof.Proof.Gen.Pre_finite_pool_bwd

@[expose] public section

noncomputable section

namespace Cert.PoolClaims

open Idealize.ShloMosaic TcCoe Idealize.SL.Sem Reals

/-- Arguments that meet the precondition are arrays of real numbers. -/
theorem reals
    (x0 : FVec Ideal Pre_finite_pool_bwd.S2048x512 .f32)
    (x1 : FVec Ideal Pre_finite_pool_bwd.S2048x512 .f32)
    (x2 : FVec Ideal Pre_finite_pool_bwd.S4x128x128 .f32)
    (x3 : FVec Ideal Pre_finite_pool_bwd.S1x512 .f32)
    (h : Pre_finite_pool_bwd.fn (F := Ideal) x0 x1 x2 x3 = fun _ => 1#1) :
    (∃ U : Pre_finite_pool_bwd.S2048x512.Idx → ℝ, x0 = up U)
      ∧ (∃ DY : Pre_finite_pool_bwd.S2048x512.Idx → ℝ, x1 = up DY)
      ∧ (∃ W : Pre_finite_pool_bwd.S4x128x128.Idx → ℝ, x2 = up W)
      ∧ (∃ S : Pre_finite_pool_bwd.S1x512.Idx → ℝ, x3 = up S) := by
  have h0 := congrFun h ix0
  unfold Pre_finite_pool_bwd.fn at h0
  obtain ⟨h1, p3⟩ := IntOp.andi_eq_one.1 h0
  obtain ⟨h2, p2⟩ := IntOp.andi_eq_one.1 h1
  obtain ⟨p0, p1⟩ := IntOp.andi_eq_one.1 h2
  exact ⟨array_real (φ := .f32) _ _ (fun _ => lit_inf) _ _ _ _ p0,
    array_real (φ := .f32) _ _ (fun _ => lit_inf) _ _ _ _ p1,
    array_real (φ := .f32) _ _ (fun _ => lit_inf) _ _ _ _ p2,
    array_real (φ := .f32) _ _ (fun _ => lit_inf) _ _ _ _ p3⟩

/-- The reference runs and leaves its arguments. -/
theorem quiescent_ref : quiescent_PoolBwdRefIdeal := fun m g _ =>
  (θ_run PoolBwdRefIdeal.defs _ _).mono (fun r h => ⟨fun c => (h c).2.2.2.2,
    Idealize.ShloMosaic.sem_eq_zero_of_no_sems (by decide) r.2⟩) (PoolBwdRefIdeal.Value.run (F := Ideal) m g)

set_option maxHeartbeats 2000000 in
/-- The results are the reference's, for finite arguments. -/
theorem algebraic : algebraic_PoolBwdIdeal_PoolBwdRefIdeal_pre_finite_pool_bwd := by
  intro m g m' g' hpre hagree
  refine ⟨fun c => PoolBwdRefIdeal.Read.val_main_v69 (F := Ideal) (m ((c.tc : Thread PoolBwdIdeal.nD PoolBwdIdeal.τ).loc PoolBwdIdeal.main_arg0)) (m ((c.tc : Thread PoolBwdIdeal.nD PoolBwdIdeal.τ).loc PoolBwdIdeal.main_arg2)) (m ((c.tc : Thread PoolBwdIdeal.nD PoolBwdIdeal.τ).loc PoolBwdIdeal.main_arg3)),
    fun c => PoolBwdRefIdeal.Read.val_main_v127 (F := Ideal) (m ((c.tc : Thread PoolBwdIdeal.nD PoolBwdIdeal.τ).loc PoolBwdIdeal.main_arg1)) (m ((c.tc : Thread PoolBwdIdeal.nD PoolBwdIdeal.τ).loc PoolBwdIdeal.main_arg2)) (m ((c.tc : Thread PoolBwdIdeal.nD PoolBwdIdeal.τ).loc PoolBwdIdeal.main_arg3)),
    fun c => PoolBwdRefIdeal.Read.val_main_v80 (F := Ideal) (m ((c.tc : Thread PoolBwdIdeal.nD PoolBwdIdeal.τ).loc PoolBwdIdeal.main_arg0)) (m ((c.tc : Thread PoolBwdIdeal.nD PoolBwdIdeal.τ).loc PoolBwdIdeal.main_arg1)) (m ((c.tc : Thread PoolBwdIdeal.nD PoolBwdIdeal.τ).loc PoolBwdIdeal.main_arg3)),
    fun c => PoolBwdRefIdeal.Read.val_main_v72 (F := Ideal) (m ((c.tc : Thread PoolBwdIdeal.nD PoolBwdIdeal.τ).loc PoolBwdIdeal.main_arg0)) (m ((c.tc : Thread PoolBwdIdeal.nD PoolBwdIdeal.τ).loc PoolBwdIdeal.main_arg1)) (m ((c.tc : Thread PoolBwdIdeal.nD PoolBwdIdeal.τ).loc PoolBwdIdeal.main_arg2)), ?_, ?_⟩
  · refine (θ_run PoolBwdIdeal.defs _ _).mono (fun r h c => ?_) (PoolRun.run m g)
    obtain ⟨e0, e1, e2, e3, e4⟩ := h c
    obtain ⟨⟨U, q0⟩, ⟨DY, q1⟩, ⟨W, q2⟩, ⟨S, q3⟩⟩ := reals _ _ _ _ (hpre c)
    have H : PoolValue.Args m c U DY W S := ⟨q0, q1, q2, q3⟩
    refine ⟨e0.trans ?_, e1.trans ?_, e2.trans ?_, e3.trans ?_, e4⟩
    · rw [PoolValue.res0 m g c U DY W S H]
      beta_reduce
      rw [q0, q2, q3]
      exact (PoolRef.v69 _ _ _).symm
    · rw [PoolValue.res1 m g c U DY W S H]
      beta_reduce
      rw [q1, q2, q3]
      exact (PoolRef.v127 _ _ _).symm
    · rw [PoolValue.res2 m g c U DY W S H]
      beta_reduce
      rw [q0, q1, q3]
      exact (PoolRef.v80 _ _ _).symm
    · rw [PoolValue.res3 m g c U DY W S H]
      beta_reduce
      rw [q0, q1, q2]
      exact (PoolRef.v72 _ _ _).symm
  · refine (θ_run PoolBwdRefIdeal.defs _ _).mono (fun r h c => ?_) (PoolBwdRefIdeal.Value.run (F := Ideal) m' g')
    obtain ⟨e0, e1, e2, e3, e4⟩ := h c
    obtain ⟨a0, a1, a2, a3⟩ := hagree c
    refine ⟨e0.trans ?_, e1.trans ?_, e2.trans ?_, e3.trans ?_, e4⟩
    · beta_reduce
      rw [← a0, ← a2, ← a3]
      exact PoolBwdRefIdeal.Read.val_main_v69_eq _ _
    · beta_reduce
      rw [← a1, ← a2, ← a3]
      exact PoolBwdRefIdeal.Read.val_main_v127_eq _ _
    · beta_reduce
      rw [← a0, ← a1, ← a3]
      exact PoolBwdRefIdeal.Read.val_main_v80_eq _ _
    · beta_reduce
      rw [← a0, ← a1, ← a2]
      exact PoolBwdRefIdeal.Read.val_main_v72_eq _ _

end Cert.PoolClaims

end
-- ==== Proof.MixInFwd.lean ====
/-
  The mixers' input on any number of rows: the normalised and modulated rows, and their product with the wide projection's
  matrix; and that the forward kernel's body computes them of its block of 512 rows. Both are said of all extended reals:
  the kernel and the reference form each entry by the same operations.
-/
module

public import proofs.«01_k».proof.Proof.Gen.MixInIdeal.Frame
public import proofs.«01_k».proof.Proof.Blocks
public import Idealize.ShloMosaic.Lib.Pipeline.ValueKit.Tiles
public import Idealize.ShloMosaic.Lib.Pipeline.ReadBack

@[expose] public section

set_option maxRecDepth 16384
set_option backward.isDefEq.respectTransparency false

noncomputable section

namespace Cert.MixInFwd

open Idealize.ShloMosaic

/-- A matrix of extended reals. -/
abbrev E2 (n w : Nat) : Type := (⟨2, ![n, w]⟩ : Shape).Idx → EReal

/-- The normalised rows, scaled and shifted: by the norm's gain `g`, by one more than `s`, and by `b`. -/
def hid {n : Nat} (X : E2 n 1024) (g b s : E2 1 1024) : E2 n 1024 := fun i =>
  X i * Ideal.rsqrt (Ideal.div (∑ k : Fin 1024, X (ix2 (i 0) k) * X (ix2 (i 0) k)) (Ideal.ofBits .f32 0x44800000#32) + Ideal.ofBits .f32 0x358637BD#32)
    * g (ix2 0 (i 1)) * (Ideal.ofBits .f32 0x3F800000#32 + s (ix2 0 (i 1))) + b (ix2 0 (i 1))

/-- Columns `o`, `o + 1`, … of the product. -/
def cols {n : Nat} (H : E2 n 1024) (W : E2 1024 1216) (o k : Nat) (h : o + k ≤ 1216) : E2 n k := fun i =>
  ∑ q : Fin 1024, H (ix2 (i 0) q) * W (ix2 q ⟨o + (i 1).val, by have : (i 1).val < k := (i 1).isLt; omega⟩)

open MixInIdeal MixInIdeal.Gen

variable (X : E2 512 1024) (g b s : E2 1 1024) (W : E2 1024 1216)

/-- The matrix transposed, as the call reads it. -/
def wT : E2 1216 1024 := fun i => W (ix2 (i 1) (i 0))
/-- Rows `o`, `o + 1`, … of it. -/
def rowsT (o k : Nat) (h : o + k ≤ 1216) : E2 k 1024 := fun i =>
  W (ix2 (i 1) ⟨o + (i 0).val, by have : (i 0).val < k := (i 0).isLt; omega⟩)

theorem ld_rowsT (o k : Nat) (h : o + k ≤ 1216) (inb) :
    View.ld (Val := Elt Ideal) (e' := .bf16) (wT W) (Rect.unit (s := (⟨2, ![1216, 1024]⟩ : Shape)) ![o, 0] ![k, 1024] inb) = rowsT W o k h := by
  funext i
  have hk : (i 0).val < k := (i 0).isLt
  refine View.ld_unit_apply_of (Val := Elt Ideal) (e := .bf16) (wT W) _ _ inb i (ix2 ⟨o + (i 0).val, by omega⟩ (i 1)) fun a => ?_
  match a with
  | ⟨0, _⟩ => rfl
  | ⟨1, _⟩ => exact (Nat.zero_add _).symm

/-- The rows that the body forms. -/
theorem pay2 : k0_pay2 (F := Ideal) X g s b = hid X g b s := by
  funext i
  unfold k0_pay2
  pointwise [hid]
/-- Their products with the first rows of the matrix, cut into three. -/
theorem pay4 : k0_pay4 (F := Ideal) X g s b (rowsT W 0 1152 (by omega)) = cols (hid X g b s) W 0 512 (by omega) := by
  funext i
  unfold k0_pay4 k0_pay3
  rw [pay2]
  pointwise [cols, rowsT]
theorem pay5 : k0_pay5 (F := Ideal) X g s b (rowsT W 0 1152 (by omega)) = cols (hid X g b s) W 512 384 (by omega) := by
  funext i
  unfold k0_pay5 k0_pay3
  rw [pay2]
  pointwise [cols, rowsT]
theorem pay6 : k0_pay6 (F := Ideal) X g s b (rowsT W 0 1152 (by omega)) = cols (hid X g b s) W 896 256 (by omega) := by
  funext i
  unfold k0_pay6 k0_pay3
  rw [pay2]
  pointwise [cols, rowsT]
/-- The product with the last rows. -/
theorem pay1 : k0_pay1 (F := Ideal) (hid X g b s) (rowsT W 1152 64 (by omega)) = cols (hid X g b s) W 1152 64 (by omega) := by
  funext i
  unfold k0_pay1
  pointwise [cols, rowsT]

/-- What a point stores. -/
theorem out5 : out0_5 (F := Ideal) X g b s (wT W) = hid X g b s := by
  unfold out0_5 r0_0 r0_1
  rw [View.canon_unit_zero (S := S512x1024) off2, View.ld_unit_zero (S := S512x1024) off2, View.ld_unit_zero (S := S1x1024) off2,
    View.ld_unit_zero (S := S1x1024) off2, View.ld_unit_zero (S := S1x1024) off2, pay2]
theorem out6 : out0_6 (F := Ideal) X g b s (wT W) = cols (hid X g b s) W 0 512 (by omega) := by
  unfold out0_6 r0_0 r0_1 r0_2 r0_3
  rw [View.canon_unit_zero (S := S512x512) off2, View.ld_unit_zero (S := S512x1024) off2, View.ld_unit_zero (S := S1x1024) off2,
    View.ld_unit_zero (S := S1x1024) off2, View.ld_unit_zero (S := S1x1024) off2, ld_rowsT W 0 1152 (by omega), pay4]
theorem out7 : out0_7 (F := Ideal) X g b s (wT W) = cols (hid X g b s) W 512 384 (by omega) := by
  unfold out0_7 r0_0 r0_1 r0_2 r0_4
  rw [View.canon_unit_zero (S := S512x384) off2, View.ld_unit_zero (S := S512x1024) off2, View.ld_unit_zero (S := S1x1024) off2,
    View.ld_unit_zero (S := S1x1024) off2, View.ld_unit_zero (S := S1x1024) off2, ld_rowsT W 0 1152 (by omega), pay5]
theorem out8 : out0_8 (F := Ideal) X g b s (wT W) = cols (hid X g b s) W 896 256 (by omega) := by
  unfold out0_8 r0_0 r0_1 r0_2 r0_5
  rw [View.canon_unit_zero (S := S512x256) off2, View.ld_unit_zero (S := S512x1024) off2, View.ld_unit_zero (S := S1x1024) off2,
    View.ld_unit_zero (S := S1x1024) off2, View.ld_unit_zero (S := S1x1024) off2, ld_rowsT W 0 1152 (by omega), pay6]
theorem out9 : out0_9 (F := Ideal) X g b s (wT W) = cols (hid X g b s) W 1152 64 (by omega) := by
  unfold out0_9 r0_0 r0_1 r0_6 r0_7
  rw [View.canon_unit_zero (S := S512x64) off2, View.ld_unit_zero (S := S512x1024) off2, View.ld_unit_zero (S := S1x1024) off2,
    View.ld_unit_zero (S := S1x1024) off2, View.ld_unit_zero (S := S1x1024) off2, ld_rowsT W 1152 64 (by omega), pay2, pay1]

end Cert.MixInFwd

end
-- ==== Proof.MixInFwdValue.lean ====
/-
  What the mixers' input's forward call leaves in its five result arrays: each grid point stores its 512 rows of each.
-/
module

public import proofs.«01_k».proof.Proof.MixInFwd
public import proofs.«01_k».proof.Proof.Gen.MixInIdeal.Value
public import Idealize.ShloMosaic.Lib.StableHlo.ReadAt

@[expose] public section

set_option maxRecDepth 16384
set_option backward.isDefEq.respectTransparency false

noncomputable section

namespace Cert.MixInFwdValue

open MixInIdeal MixInIdeal.Gen Idealize.ShloMosaic TcCoe Idealize.SL.Sem Blocks MixInFwd
open Idealize.ShloMosaic.Pipeline (Dat)

variable (m : (ℓ : Loc nD τ sig) → Buf (Elt Ideal) ℓ) (c : Dev nD)

/-- The five arguments. -/
abbrev aX : E2 2048 1024 := m ((c : Thread nD τ).loc main_arg0)
abbrev ag : E2 1 1024 := m ((c : Thread nD τ).loc main_arg1)
abbrev ab : E2 1 1024 := m ((c : Thread nD τ).loc main_arg2)
abbrev as' : E2 1 1024 := m ((c : Thread nD τ).loc main_arg3)
abbrev aW : E2 1024 1216 := m ((c : Thread nD τ).loc main_arg4)
/-- The rows that they give. -/
abbrev H : E2 2048 1024 := hid (aX m c) (ag m c) (ab m c) (as' m c)

/-- The matrix as the call reads it: transposed by the host. -/
theorem weights : V m c main_v1 = wT (aW m c) := by
  unfold V
  simp only [List.flatten_cons, List.flatten_nil, List.cons_append, List.nil_append, List.append_nil, hostOps0]
  after_reads_simp
  funext i
  pointwise [wT]

/-! The block indices. -/

theorem idx0 : Along 0 win0_0.index := by decide +kernel
theorem idx1 : Whole win0_1.index := by decide +kernel
theorem idx2 : Whole win0_2.index := by decide +kernel
theorem idx3 : Whole win0_3.index := by decide +kernel
theorem idx4 : Whole win0_4.index := by decide +kernel
theorem idx5 : Along 0 win0_5.index := by decide +kernel
theorem idx6 : Along 0 win0_6.index := by decide +kernel
theorem idx7 : Along 0 win0_7.index := by decide +kernel
theorem idx8 : Along 0 win0_8.index := by decide +kernel
theorem idx9 : Along 0 win0_9.index := by decide +kernel

/-! What a point reads. -/

theorem in0 (t : Fin cfg0.N) : iblk m c 0 t = rowsOf (aX m c) (t.cast N_0) := funext fun j => congrArg (aX m c) (rows_at N_0 idx0 t _ j fun _ => rfl)
theorem in1 (t : Fin cfg0.N) : iblk m c 1 t = ag m c := funext fun j => congrArg (ag m c) (whole_at idx1 t _ j fun _ => rfl)
theorem in2 (t : Fin cfg0.N) : iblk m c 2 t = ab m c := funext fun j => congrArg (ab m c) (whole_at idx2 t _ j fun _ => rfl)
theorem in3 (t : Fin cfg0.N) : iblk m c 3 t = as' m c := funext fun j => congrArg (as' m c) (whole_at idx3 t _ j fun _ => rfl)
theorem in4 (t : Fin cfg0.N) : iblk m c 4 t = wT (aW m c) := funext fun j => (congrFun (weights m c) _).trans (congrArg (wT (aW m c)) (whole_at idx4 t _ j fun _ => rfl))

/-! What the call leaves. -/

/-- The rows. -/
theorem final5 : (dats m 0 c).arrAt 5 cfg0.N = H m c := by
  refine (dats m 0 c).arrAt_eq_of_cover 5 _ (fun t _ => ?_) fun x => ⟨blockOf N_0 (x 0), flush0_5 _, ?_⟩
  · rw [MixInIdeal.Value.flushed5, in0, in1, in2, in3, in4, out5]
    funext j; rw [View.read_apply]
    exact (congrArg (H m c) (rows_at N_0 idx5 t _ j fun _ => rfl)).symm
  · exact in_block (along_has idx5 _ x rfl (by decide) (by decide))

/-- The product's columns, for the pooling, the queries, the keys and values, and the rotary key. -/
theorem final6 : (dats m 0 c).arrAt 6 cfg0.N = cols (H m c) (aW m c) 0 512 (by omega) := by
  refine (dats m 0 c).arrAt_eq_of_cover 6 _ (fun t _ => ?_) fun x => ⟨blockOf N_0 (x 0), flush0_6 _, ?_⟩
  · rw [MixInIdeal.Value.flushed6, in0, in1, in2, in3, in4, out6]
    funext j; rw [View.read_apply]
    exact (congrArg (cols (H m c) (aW m c) 0 512 (by omega)) (rows_at N_0 idx6 t _ j fun _ => rfl)).symm
  · exact in_block (along_has idx6 _ x rfl (by decide) (by decide))
theorem final7 : (dats m 0 c).arrAt 7 cfg0.N = cols (H m c) (aW m c) 512 384 (by omega) := by
  refine (dats m 0 c).arrAt_eq_of_cover 7 _ (fun t _ => ?_) fun x => ⟨blockOf N_0 (x 0), flush0_7 _, ?_⟩
  · rw [MixInIdeal.Value.flushed7, in0, in1, in2, in3, in4, out7]
    funext j; rw [View.read_apply]
    exact (congrArg (cols (H m c) (aW m c) 512 384 (by omega)) (rows_at N_0 idx7 t _ j fun _ => rfl)).symm
  · exact in_block (along_has idx7 _ x rfl (by decide) (by decide))
theorem final8 : (dats m 0 c).arrAt 8 cfg0.N = cols (H m c) (aW m c) 896 256 (by omega) := by
  refine (dats m 0 c).arrAt_eq_of_cover 8 _ (fun t _ => ?_) fun x => ⟨blockOf N_0 (x 0), flush0_8 _, ?_⟩
  · rw [MixInIdeal.Value.flushed8, in0, in1, in2, in3, in4, out8]
    funext j; rw [View.read_apply]
    exact (congrArg (cols (H m c) (aW m c) 896 256 (by omega)) (rows_at N_0 idx8 t _ j fun _ => rfl)).symm
  · exact in_block (along_has idx8 _ x rfl (by decide) (by decide))
theorem final9 : (dats m 0 c).arrAt 9 cfg0.N = cols (H m c) (aW m c) 1152 64 (by omega) := by
  refine (dats m 0 c).arrAt_eq_of_cover 9 _ (fun t _ => ?_) fun x => ⟨blockOf N_0 (x 0), flush0_9 _, ?_⟩
  · rw [MixInIdeal.Value.flushed9, in0, in1, in2, in3, in4, out9]
    funext j; rw [View.read_apply]
    exact (congrArg (cols (H m c) (aW m c) 1152 64 (by omega)) (rows_at N_0 idx9 t _ j fun _ => rfl)).symm
  · exact in_block (along_has idx9 _ x rfl (by decide) (by decide))

end Cert.MixInFwdValue

end
-- ==== Proof.MixInFwdRef.lean ====
/-
  The results of the mixers' input's reference are the normalised and modulated rows and the product's columns.
-/
module

public import proofs.«01_k».proof.Proof.MixInFwd
public import proofs.«01_k».proof.Proof.Gen.MixInRefIdeal.Read

@[expose] public section

set_option maxRecDepth 16384
set_option backward.isDefEq.respectTransparency false

noncomputable section

namespace Cert.MixInFwdRef

open Idealize.ShloMosaic MixInFwd MixInRefIdeal MixInRefIdeal.Read

variable (X : E2 2048 1024) (g b s : E2 1 1024) (W : E2 1024 1216)

theorem v17 : val_main_v17 (F := Ideal) X g b s = hid X g b s := by
  funext i
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0, val_main_cst_1, val_main_cst_2, hid]
theorem v19 : val_main_v19 (F := Ideal) X g b s = hid X g b s := by
  unfold val_main_v19
  rw [v17]
  rfl
theorem v20 : val_main_v20 (F := Ideal) X g b s W = cols (hid X g b s) W 0 512 (by omega) := by
  funext i
  pointwise [val_main_v20, val_main_v18, v17, cols]
theorem v21 : val_main_v21 (F := Ideal) X g b s W = cols (hid X g b s) W 512 384 (by omega) := by
  funext i
  pointwise [val_main_v21, val_main_v18, v17, cols]
theorem v22 : val_main_v22 (F := Ideal) X g b s W = cols (hid X g b s) W 896 256 (by omega) := by
  funext i
  pointwise [val_main_v22, val_main_v18, v17, cols]
theorem v23 : val_main_v23 (F := Ideal) X g b s W = cols (hid X g b s) W 1152 64 (by omega) := by
  funext i
  pointwise [val_main_v23, val_main_v18, v17, cols]

end Cert.MixInFwdRef

end
-- ==== Proof.MixInFwdClaims.lean ====
/-
  The claims about the mixers' input's forward call: the reference's frame, and the equality of the results over the
  extended reals, for all arguments.
-/
module

public import proofs.«01_k».proof.Defs
public import proofs.«01_k».proof.Proof.MixInFwdValue
public import proofs.«01_k».proof.Proof.MixInFwdRef
public import proofs.«01_k».proof.Proof.Gen.MixIn.Frame

@[expose] public section

noncomputable section

namespace Cert.MixInFwdClaims

open Idealize.ShloMosaic TcCoe Idealize.SL.Sem MixInFwd MixInFwdValue MixInFwdRef

/-- The reference runs and leaves its arguments. -/
theorem quiescent_ref : quiescent_MixInRefIdeal := fun m g _ =>
  (θ_run MixInRefIdeal.defs _ _).mono (fun r h => ⟨fun c => (h c).2.2.2.2.2,
    Idealize.ShloMosaic.sem_eq_zero_of_no_sems (by decide) r.2⟩) (MixInRefIdeal.Value.run (F := Ideal) m g)

set_option maxHeartbeats 2000000 in
/-- The results are the reference's. -/
theorem algebraic : algebraic_MixInIdeal_MixInRefIdeal := by
  intro m g m' g' _ hagree
  refine ⟨fun c => H m c, fun c => cols (H m c) (aW m c) 0 512 (by omega), fun c => cols (H m c) (aW m c) 512 384 (by omega),
    fun c => cols (H m c) (aW m c) 896 256 (by omega), fun c => cols (H m c) (aW m c) 1152 64 (by omega), ?_, ?_⟩
  · refine (θ_run MixInIdeal.defs _ _).mono (fun r h c => ?_) (MixInIdeal.Value.run_blocks m g)
    obtain ⟨e0, e1, e2, e3, e4, e5⟩ := h c
    exact ⟨e0.trans (final5 m c), e1.trans (final6 m c), e2.trans (final7 m c), e3.trans (final8 m c), e4.trans (final9 m c), e5⟩
  · refine (θ_run MixInRefIdeal.defs _ _).mono (fun r h c => ?_) (MixInRefIdeal.Value.run (F := Ideal) m' g')
    obtain ⟨e0, e1, e2, e3, e4, e5⟩ := h c
    obtain ⟨a0, a1, a2, a3, a4⟩ := hagree c
    refine ⟨e0.trans ?_, e1.trans ?_, e2.trans ?_, e3.trans ?_, e4.trans ?_, e5⟩
    · beta_reduce
      rw [a0, a1, a2, a3]
      exact (MixInRefIdeal.Read.val_main_v19_eq _ _ _ _).trans (v19 _ _ _ _)
    · beta_reduce
      rw [a0, a1, a2, a3, a4]
      exact (MixInRefIdeal.Read.val_main_v20_eq _ _ _ _ _).trans (v20 _ _ _ _ _)
    · beta_reduce
      rw [a0, a1, a2, a3, a4]
      exact (MixInRefIdeal.Read.val_main_v21_eq _ _ _ _ _).trans (v21 _ _ _ _ _)
    · beta_reduce
      rw [a0, a1, a2, a3, a4]
      exact (MixInRefIdeal.Read.val_main_v22_eq _ _ _ _ _).trans (v22 _ _ _ _ _)
    · beta_reduce
      rw [a0, a1, a2, a3, a4]
      exact (MixInRefIdeal.Read.val_main_v23_eq _ _ _ _ _).trans (v23 _ _ _ _ _)

end Cert.MixInFwdClaims

end
-- ==== Proof.AdaFwd.lean ====
/-
  The conditioning's forward call: each layer's shifts, scales and gates are the gated condition's product with the layer's
  matrix, and its bias. A grid point is a layer and a third of the columns. All is said of extended reals: the kernel and the
  reference form each entry by the same operations, the factors exchanged.
-/
module

public import proofs.«01_k».proof.Proof.Blocks
public import proofs.«01_k».proof.Proof.Silu
public import proofs.«01_k».proof.Proof.Gen.AdaRefIdeal.Read
public import proofs.«01_k».proof.Proof.Gen.AdaIdeal.Value
public import Idealize.ShloMosaic.Lib.Pipeline.ValueKit.Tiles
public import Idealize.ShloMosaic.Lib.Pipeline.ReadBack

@[expose] public section

set_option maxRecDepth 16384
set_option backward.isDefEq.respectTransparency false

noncomputable section

namespace Cert.AdaFwd

open Idealize.ShloMosaic

/-- Arrays of extended reals. -/
abbrev E2 (n w : Nat) : Type := (⟨2, ![n, w]⟩ : Shape).Idx → EReal
abbrev E3 (l n w : Nat) : Type := (⟨3, ![l, n, w]⟩ : Shape).Idx → EReal

/-- The gated conditions times the layers' matrices, and the biases. -/
def mods {l k : Nat} (C : E2 16 1024) (W : E3 l 1024 k) (B : E3 l 1 k) : E3 l 16 k := fun i =>
  ∑ q : Fin 1024, C (ix2 (i 1) q) * Ideal.logistic (C (ix2 (i 1) q)) * W (ix3 (i 0) q (i 2)) + B (ix3 (i 0) 0 (i 2))

/-- The word of one. -/
theorem lit_one : Ideal.ofBits .f32 0x3F800000#32 = 1 := by
  simp [Ideal.ofBits, Ideal.ieee, -EReal.coe_mul]; norm_num

section Reference

open AdaRefIdeal AdaRefIdeal.Read

variable (C : E2 16 1024) (W : E3 4 1024 2304) (B : E3 4 1 2304)

theorem v0 : val_main_v0 (F := Ideal) C = fun i => C i * Ideal.logistic (C i) := by
  funext i
  pointwise [val_main_v0, val_main_call0_v5, val_main_call0_v4, val_main_call0_v3, val_main_call0_v2, val_main_call0_v1,
    val_main_call0_v0, val_main_call0_cst, val_main_call0_cst_0, lit_one]
  rfl

/-- The reference's result. -/
theorem v4 : val_main_v4 (F := Ideal) C W B = mods C W B := by
  funext i
  pointwise [val_main_v4, val_main_v3, val_main_v2, val_main_v1, v0, mods]
  exact congrArg (· + B (ix3 (i 0) 0 (i 2))) (Finset.sum_congr rfl fun _ _ => mul_comm _ _)

end Reference

open AdaIdeal AdaIdeal.Gen Idealize.ShloMosaic.TcCoe Idealize.SL.Sem Blocks
open Idealize.ShloMosaic.Pipeline (Dat)

/-- What a point stores. -/
theorem pay (C : E2 16 1024) (W : E3 1 1024 768) (B : E3 1 1 768) : k0_pay1 (F := Ideal) C W B = mods C W B := by
  funext i
  obtain ⟨a, r, q, rfl⟩ : ∃ (a : Fin 1) (r : Fin 16) (q : Fin 768), i = ix3 a r q := ⟨i 0, i 1, i 2, (ix3_eta i).symm⟩
  obtain rfl : a = 0 := Subsingleton.elim _ _
  unfold k0_pay1
  pointwise [mods]
theorem out (C : E2 16 1024) (W : E3 1 1024 768) (B : E3 1 1 768) : out0_3 (F := Ideal) C W B = mods C W B := by
  unfold out0_3 r0_0 r0_1 r0_2 r0_3
  rw [View.canon_unit_zero (S := S1x16x768) off3, View.ld_unit_zero (S := S16x1024) off2, View.ld_unit_zero (S := S1x1024x768) off3,
    View.ld_unit_zero (S := S1x1x768) off3, pay]

/-- The block of a layer and a third of the columns. -/
def third {n : Nat} (M : E3 4 n 2304) (t : Fin cfg0.N) : E3 1 n 768 := fun j =>
  M (ix3 ⟨t.val / 3, by have := lt_of_lt_of_eq t.isLt N_0; omega⟩ (j 1) ⟨t.val % 3 * 768 + (j 2).val, by have : (j 2).val < 768 := (j 2).isLt; omega⟩)

theorem idx0 : Whole win0_0.index := by decide +kernel
theorem idx1 : ∀ (t : Fin cfg0.N) (a : Fin 3), win0_1.index t a = (![t.val / 3, 0, t.val % 3] : Fin 3 → Nat) a := (by decide +kernel : ∀ (t : Fin grid0.N) (a : Fin 3), win0_1.index t a = (![t.val / 3, 0, t.val % 3] : Fin 3 → Nat) a)
theorem idx2 : ∀ (t : Fin cfg0.N) (a : Fin 3), win0_2.index t a = (![t.val / 3, 0, t.val % 3] : Fin 3 → Nat) a := (by decide +kernel : ∀ (t : Fin grid0.N) (a : Fin 3), win0_2.index t a = (![t.val / 3, 0, t.val % 3] : Fin 3 → Nat) a)
theorem idx3 : ∀ (t : Fin cfg0.N) (a : Fin 3), win0_3.index t a = (![t.val / 3, 0, t.val % 3] : Fin 3 → Nat) a := (by decide +kernel : ∀ (t : Fin grid0.N) (a : Fin 3), win0_3.index t a = (![t.val / 3, 0, t.val % 3] : Fin 3 → Nat) a)

/-- An entry of a layer's third, in the array. -/
theorem third_at {n : Nat} (t : Fin cfg0.N) {i : Fin 3 → Nat} (hi : ∀ a, i a = (![t.val / 3, 0, t.val % 3] : Fin 3 → Nat) a)
    (e : (⟨3, ![4, n, 2304]⟩ : Shape).Idx) (j : (⟨3, ![1, n, 768]⟩ : Shape).Idx)
    (he : ∀ a, (e a).val = i a * (![1, n, 768] : Fin 3 → Nat) a + 1 * (j a).val) (M : E3 4 n 2304) : M e = third M t j := by
  refine congrArg M (funext fun a => Fin.ext ?_)
  rw [he a, hi a]
  have h0 : (j 0).val < 1 := (j 0).isLt
  match a with
  | ⟨0, _⟩ => show t.val / 3 * 1 + 1 * (j 0).val = t.val / 3; omega
  | ⟨1, _⟩ => show 0 * n + 1 * (j 1).val = (j 1).val; omega
  | ⟨2, _⟩ => show t.val % 3 * 768 + 1 * (j 2).val = t.val % 3 * 768 + (j 2).val; omega

variable (m : (ℓ : Loc nD τ sig) → Buf (Elt Ideal) ℓ) (c : Dev nD)

/-- The three arguments. -/
abbrev aC : E2 16 1024 := m ((c : Thread nD τ).loc main_arg0)
abbrev aW : E3 4 1024 2304 := m ((c : Thread nD τ).loc main_arg1)
abbrev aB : E3 4 1 2304 := m ((c : Thread nD τ).loc main_arg2)

theorem in0 (t : Fin cfg0.N) : iblk m c 0 t = aC m c := funext fun j => congrArg (aC m c) (whole_at idx0 t _ j fun _ => rfl)
theorem in1 (t : Fin cfg0.N) : iblk m c 1 t = third (aW m c) t := funext fun j => third_at t (idx1 t) _ j (fun _ => rfl) (aW m c)
theorem in2 (t : Fin cfg0.N) : iblk m c 2 t = third (aB m c) t := funext fun j => third_at t (idx2 t) _ j (fun _ => rfl) (aB m c)

/-- The result array. -/
theorem final3 : (dats m 0 c).arrAt 3 cfg0.N = mods (aC m c) (aW m c) (aB m c) := by
  refine (dats m 0 c).arrAt_eq_of_cover 3 _ (fun t _ => ?_) fun x => ?_
  · rw [AdaIdeal.Value.flushed3, in0, in1, in2, out]
    funext j; rw [View.read_apply]
    exact (third_at t (idx3 t) _ j (fun _ => rfl) (mods (aC m c) (aW m c) (aB m c))).symm
  · have h0 : (x 0 : Nat) < 4 := (x 0).isLt
    have h1 : (x 1 : Nat) < 16 := (x 1).isLt
    have h2 : (x 2 : Nat) < 2304 := (x 2).isLt
    obtain ⟨t, ht⟩ : ∃ t : Fin cfg0.N, t.val = (x 0).val * 3 + (x 2).val / 768 :=
      ⟨⟨(x 0).val * 3 + (x 2).val / 768, lt_of_lt_of_eq (by omega) N_0.symm⟩, rfl⟩
    refine ⟨t, flush0_3 t, ?_⟩
    show x ∈ ((View.whole main_v0).slice (win0_3.rect t)).set
    rw [View.set_slice_whole, Rect.mem_set_unit]
    intro a
    show win0_3.index t a * (![1, 16, 768] : Fin 3 → Nat) a ≤ (x a).val ∧ (x a).val < win0_3.index t a * (![1, 16, 768] : Fin 3 → Nat) a + (![1, 16, 768] : Fin 3 → Nat) a
    rw [idx3 t a]
    match a with
    | ⟨0, _⟩ => show t.val / 3 * 1 ≤ (x 0).val ∧ (x 0).val < t.val / 3 * 1 + 1; omega
    | ⟨1, _⟩ => show 0 * 16 ≤ (x 1).val ∧ (x 1).val < 0 * 16 + 16; omega
    | ⟨2, _⟩ => show t.val % 3 * 768 ≤ (x 2).val ∧ (x 2).val < t.val % 3 * 768 + 768; omega

end Cert.AdaFwd

end
-- ==== Proof.AdaFwdClaims.lean ====
/-
  The claims about the conditioning's forward call: the reference's frame, and the equality of the results over the extended
  reals, for all arguments.
-/
module

public import proofs.«01_k».proof.Defs
public import proofs.«01_k».proof.Proof.AdaFwd
public import proofs.«01_k».proof.Proof.Gen.Ada.Frame

@[expose] public section

noncomputable section

namespace Cert.AdaFwdClaims

open Idealize.ShloMosaic TcCoe Idealize.SL.Sem AdaFwd

/-- The reference runs and leaves its arguments. -/
theorem quiescent_ref : quiescent_AdaRefIdeal := fun m g _ =>
  (θ_run AdaRefIdeal.defs _ _).mono (fun r h => ⟨fun c => (h c).2,
    Idealize.ShloMosaic.sem_eq_zero_of_no_sems (by decide) r.2⟩) (AdaRefIdeal.Value.run (F := Ideal) m g)

set_option maxHeartbeats 2000000 in
/-- The result is the reference's. -/
theorem algebraic : algebraic_AdaIdeal_AdaRefIdeal := by
  intro m g m' g' _ hagree
  refine ⟨fun c => mods (aC m c) (aW m c) (aB m c), ?_, ?_⟩
  · refine (θ_run AdaIdeal.defs _ _).mono (fun r h c => ?_) (AdaIdeal.Value.run_blocks m g)
    obtain ⟨e0, e1⟩ := h c
    exact ⟨e0.trans (final3 m c), e1⟩
  · refine (θ_run AdaRefIdeal.defs _ _).mono (fun r h c => ?_) (AdaRefIdeal.Value.run (F := Ideal) m' g')
    obtain ⟨e0, e1⟩ := h c
    obtain ⟨a0, a1, a2⟩ := hagree c
    refine ⟨e0.trans ?_, e1⟩
    beta_reduce
    rw [a0, a1, a2]
    exact (AdaRefIdeal.Read.val_main_v4_eq _ _ _).trans (v4 _ _ _)

end Cert.AdaFwdClaims

end
-- ==== Proof.MlaFwd.lean ====
/-
  The multi-head projections on any number of rows: the normalised latent rows, their products with one head's weights, the
  rotary embedding, and the heads' queries, keys and values. They are said of all extended reals. Only where the forward
  kernel splits a block of rotary columns into three parts, and adds the parts' products, must the columns be finite.
-/
module

public import proofs.«01_k».proof.Proof.Mla

@[expose] public section

set_option maxRecDepth 16384
set_option backward.isDefEq.respectTransparency false

noncomputable section

namespace Cert.Project

open Idealize.ShloMosaic Reals Norm Mla

/-- A matrix of extended reals. -/
abbrev E2 (n w : Nat) : Type := (⟨2, ![n, w]⟩ : Shape).Idx → EReal
/-- An array of them of three axes. -/
abbrev E3 (a n w : Nat) : Type := (⟨3, ![a, n, w]⟩ : Shape).Idx → EReal

variable {n : Nat}

/-- The normalised rows, times the gain; `w` is the rows' length. -/
def lat {d : Nat} (w : EReal) (X : E2 n d) (g : E2 1 d) : E2 n d := fun i =>
  X i * Ideal.rsqrt (Ideal.div (∑ k : Fin d, X (ix2 (i 0) k) * X (ix2 (i 0) k)) w + Ideal.ofBits .f32 0x358637BD#32) * g (ix2 0 (i 1))

/-- One head's product of the queries' rows. -/
def zq (L : E2 n 384) (W : E2 384 768) (h : Fin 4) : E2 n 192 := fun i => ∑ q : Fin 384, L (ix2 (i 0) q) * W (ix2 q (colq h (i 1)))
/-- One head's product of the keys' and values' rows. -/
def zkv (L : E2 n 256) (W : E2 256 1024) (h : Fin 4) : E2 n 256 := fun i => ∑ q : Fin 256, L (ix2 (i 0) q) * W (ix2 q (colkv h (i 1)))

/-- Columns `o`, `o + 1`, … of a matrix. -/
def part {w : Nat} (Z : E2 n w) (o k : Nat) (h : o + k ≤ w) : E2 n k := fun i =>
  Z (ix2 (i 0) ⟨o + (i 1).val, by have : (i 1).val < k := (i 1).isLt; omega⟩)

/-- "Rotate half": the second half's negative first, then the first half. -/
def spin (T : E2 n 64) : E2 n 64 := fun i =>
  if h : (i 1).val < 32 then -T (ix2 (i 0) ⟨32 + (i 1).val, by omega⟩)
  else T (ix2 (i 0) ⟨(i 1).val - 32, by have : (i 1).val < 64 := (i 1).isLt; omega⟩)
/-- Its matrix. -/
def perm : E2 64 64 := fun i => ((sgn (i 1) (i 0) : ℝ) : EReal)

/-- "Rotate half" as a product with that matrix. -/
theorem sum_perm (T : E2 n 64) (i : (⟨2, ![n, 64]⟩ : Shape).Idx) : ∑ a : Fin 64, T (ix2 (i 0) a) * perm (ix2 a (i 1)) = spin T i := by
  have l : (i 1).val < 64 := (i 1).isLt
  have z : ∀ x : EReal, x * ((0 : ℝ) : EReal) = 0 := fun x => mul_zero x
  unfold spin
  split
  · next h =>
    rw [Finset.sum_eq_single ⟨32 + (i 1).val, by omega⟩ (fun b _ hb => ?_) (fun h' => absurd (Finset.mem_univ _) h')]
    · show _ * ((sgn (i 1) ⟨32 + (i 1).val, _⟩ : ℝ) : EReal) = _
      unfold sgn
      rw [if_neg (show ¬32 + (32 + (i 1).val) = (i 1).val by omega), if_pos (show (i 1).val + 32 = 32 + (i 1).val by omega)]
      exact (congrArg (_ * ·) (EReal.coe_neg 1)).trans ((mul_neg _ _).trans (congrArg (- ·) (mul_one _)))
    · show _ * ((sgn (i 1) b : ℝ) : EReal) = _
      unfold sgn
      rw [if_neg (by omega), if_neg (fun e => hb (Fin.ext (show b.val = 32 + (i 1).val by omega)))]
      exact z _
  · next h =>
    rw [Finset.sum_eq_single ⟨(i 1).val - 32, by omega⟩ (fun b _ hb => ?_) (fun h' => absurd (Finset.mem_univ _) h')]
    · show _ * ((sgn (i 1) ⟨(i 1).val - 32, _⟩ : ℝ) : EReal) = _
      unfold sgn
      rw [if_pos (show 32 + ((i 1).val - 32) = (i 1).val by omega)]
      exact mul_one _
    · show _ * ((sgn (i 1) b : ℝ) : EReal) = _
      unfold sgn
      rw [if_neg (fun e => hb (Fin.ext (show b.val = (i 1).val - 32 by omega))), if_neg (by omega)]
      exact z _

/-- The rotary embedding. -/
def embed (T C S : E2 n 64) : E2 n 64 := fun i => T i * C i + spin T i * S i

/-- A matrix none of whose elements is infinite. -/
def Fine {w : Nat} (T : E2 n w) : Prop := ∀ i, T i - T i = 0

/-- The embedding from the three parts' products, where the columns are finite. -/
theorem embed_split {T : E2 n 64} (hT : Fine T) (C S : E2 n 64) (i : (⟨2, ![n, 64]⟩ : Shape).Idx) :
    T i * C i + (∑ a : Fin 64, T (ix2 (i 0) a) * perm (ix2 a (i 1))
        + ∑ a : Fin 64, (T (ix2 (i 0) a) - T (ix2 (i 0) a)) * perm (ix2 a (i 1))
        + ∑ a : Fin 64, ((T (ix2 (i 0) a) - T (ix2 (i 0) a)) - (T (ix2 (i 0) a) - T (ix2 (i 0) a))) * perm (ix2 a (i 1))) * S i = embed T C S i := by
  have hs : ∀ a : Fin 64, T (ix2 (i 0) a) - T (ix2 (i 0) a) = 0 := fun a => hT _
  simp only [hs, sub_zero, zero_mul, Finset.sum_const_zero, add_zero]
  rw [sum_perm]
  rfl

/-- Two parts of a head's columns, side by side. -/
def join (A : E2 n 128) (B : E2 n 64) : E2 n 192 := fun i =>
  if h : (i 1).val < 128 then A (ix2 (i 0) ⟨(i 1).val, h⟩) else B (ix2 (i 0) ⟨(i 1).val - 128, by have : (i 1).val < 192 := (i 1).isLt; omega⟩)
/-- Four heads' matrices. -/
def heads {w : Nat} (Z : Fin 4 → E2 n w) : E3 4 n w := fun i => Z (i 0) (ix2 (i 1) (i 2))

/-- One head's queries. -/
def qs (L : E2 n 384) (W : E2 384 768) (C S : E2 n 64) (h : Fin 4) : E2 n 192 :=
  join (part (zq L W h) 0 128 (by omega)) (embed (part (zq L W h) 128 64 (by omega)) C S)
/-- One head's keys: the rotary columns are the same for all heads. -/
def ks (L : E2 n 256) (W : E2 256 1024) (R C S : E2 n 64) (h : Fin 4) : E2 n 192 :=
  join (part (zkv L W h) 0 128 (by omega)) (embed R C S)
/-- One head's values. -/
def vs (L : E2 n 256) (W : E2 256 1024) (h : Fin 4) : E2 n 128 := part (zkv L W h) 128 128 (by omega)

theorem join_fst (A : E2 n 128) (B : E2 n 64) (r : Fin n) (k : Fin 128) (k' : Fin 192) (e : k'.val = 0 + k.val) : A (ix2 r k) = join A B (ix2 r k') := by
  have hk : k'.val < 128 := by omega
  have hf : k = ⟨k'.val, hk⟩ := Fin.ext (show k.val = k'.val by omega)
  refine Eq.trans ?_ (dif_pos hk).symm
  exact congrArg (fun z => A (ix2 r z)) hf
theorem join_snd (A : E2 n 128) (B : E2 n 64) (r : Fin n) (k : Fin 64) (k' : Fin 192) (e : k'.val = 128 + k.val) : B (ix2 r k) = join A B (ix2 r k') := by
  have hk : ¬k'.val < 128 := by omega
  have hf : k = ⟨k'.val - 128, by omega⟩ := Fin.ext (by show k.val = k'.val - 128; omega)
  refine Eq.trans ?_ (dif_neg hk).symm
  exact congrArg (fun z => B (ix2 r z)) hf

end Cert.Project

end
-- ==== Proof.MlaFwdKernel.lean ====
/-
  What one block of 512 rows of the projections' forward kernel forms and stores: one lemma for each of its steps. The body
  repeats its steps for the four heads; a repeated step is the same function, so one lemma serves the four.
-/
module

public import proofs.«01_k».proof.Proof.MlaFwd
public import proofs.«01_k».proof.Proof.Gen.MlaFwdIdeal.Frame
public import Idealize.ShloMosaic.Lib.Pipeline.ValueKit.Tiles
public import Idealize.ShloMosaic.Lib.Pipeline.ReadBack

@[expose] public section

set_option maxRecDepth 16384
set_option backward.isDefEq.respectTransparency false

noncomputable section

namespace Cert.ProjectKernel

open MlaFwdIdeal MlaFwdIdeal.Gen Idealize.ShloMosaic TcCoe Idealize.SL.Sem Mla Project

/-- The words of the two rows' lengths. -/
abbrev w384 : EReal := Ideal.ofBits .f32 0x43C00000#32
abbrev w256 : EReal := Ideal.ofBits .f32 0x43800000#32

/-- The queries' weights by heads: head, column, row. -/
def wqT (W : E2 384 768) : E3 4 192 384 := fun i => W (ix2 (i 2) (colq (i 0) (i 1)))
/-- The keys' and values' weights by heads: head, row, column. -/
def wkvT (W : E2 256 1024) : E3 4 256 256 := fun i => W (ix2 (i 1) (colkv (i 0) (i 2)))
/-- One head of an array, as a load of it leaves it. -/
def headOf {n w : Nat} (X : E3 4 n w) (h : Fin 4) : E3 1 n w := fun i => X (ix3 h (i 1) (i 2))
/-- A matrix as a block of one head. -/
def one3 {n w : Nat} (A : E2 n w) : E3 1 n w := fun x => A (ix2 (x 1) (x 2))

/-- A load of one head of an array. -/
theorem ld_head {n w : Nat} (X : E3 4 n w) (h : Fin 4) (o : Nat) (ho : o = h.val) (inb) :
    View.ld (Val := Elt Ideal) (e' := .bf16) X (Rect.unit (s := (⟨3, ![4, n, w]⟩ : Shape)) ![o, 0, 0] ![1, n, w] inb) = headOf X h := by
  subst ho
  funext i
  refine View.ld_unit_apply_of (Val := Elt Ideal) (e := .bf16) X _ _ inb i (ix3 h (i 1) (i 2)) fun a => ?_
  match a with
  | ⟨0, _⟩ => exact ((Nat.lt_one_iff.1 (i 0).isLt).symm ▸ rfl)
  | ⟨1, _⟩ => exact (Nat.zero_add _).symm
  | ⟨2, _⟩ => exact (Nat.zero_add _).symm

/-- Columns `o`, `o + 1`, … of a stored head are the whole's. -/
theorem head_piece {n w w' : Nat} (Z : Fin 4 → E2 n w') (A : E2 n w) (h : Fin 4) (a o : Nat) (ha : a = h.val)
    (inb : ∀ b : Fin 3, (![a, 0, o] : Fin 3 → Nat) b + (![1, n, w] : Fin 3 → Nat) b ≤ (![4, n, w'] : Fin 3 → Nat) b)
    (hZ : ∀ (r : Fin n) (k : Fin w) (k' : Fin w'), k'.val = o + k.val → A (ix2 r k) = Z h (ix2 r k'))
    (x : (Rect.unit (s := (⟨3, ![4, n, w']⟩ : Shape)) ![a, 0, o] ![1, n, w] inb).shape.Idx) :
    one3 A x = heads Z ((Rect.unit (s := (⟨3, ![4, n, w']⟩ : Shape)) ![a, 0, o] ![1, n, w] inb).emb x) := by
  subst ha
  have e : (Rect.unit (s := (⟨3, ![4, n, w']⟩ : Shape)) ![h.val, 0, o] ![1, n, w] inb).emb x
      = ix3 h (x 1) ⟨o + (x 2).val, lt_of_lt_of_le (Nat.add_lt_add_left (x 2).isLt o) (inb 2)⟩ := by
    funext b; apply Fin.ext
    match b with
    | ⟨0, _⟩ => have := Nat.lt_one_iff.1 (x 0).isLt; show h.val + 1 * (x 0).val = h.val; omega
    | ⟨1, _⟩ => exact (Nat.zero_add _).trans (Nat.one_mul _)
    | ⟨2, _⟩ => exact congrArg (o + ·) (Nat.one_mul _)
  rw [e]
  exact hZ (x 1) (x 2) _ rfl

variable (X : E2 512 384) (Y : E2 512 256) (R : E2 512 64) (g : E2 1 384) (g' : E2 1 256) (L : E2 512 384) (M : E2 512 256)
  (W : E2 384 768) (W' : E2 256 1024) (C S : E2 512 64) (h : Fin 4)

/-- The normalised latent rows. -/
theorem pay5 : k0_pay5 (F := Ideal) X g = lat w384 X g := by
  funext i
  unfold k0_pay5
  pointwise [lat]
theorem pay6 : k0_pay6 (F := Ideal) Y g' = lat w256 Y g' := by
  funext i
  unfold k0_pay6
  pointwise [lat]
/-- The matrix, unchanged. -/
theorem pay4 : k0_pay4 (F := Ideal) perm = perm := by
  funext i
  unfold k0_pay4
  pointwise []
/-- The keys' rotary columns. -/
theorem pay7 (hR : Fine R) : k0_pay7 (F := Ideal) C S perm R = embed R C S := by
  funext i
  unfold k0_pay7
  pointwise []
  exact embed_split hR C S i
/-- One head's two products. -/
theorem pay8 : k0_pay8 (F := Ideal) L (headOf (wqT W) h) = zq L W h := by
  funext i
  unfold k0_pay8
  pointwise [zq, headOf, wqT]
theorem pay12 : k0_pay12 (F := Ideal) M (headOf (wkvT W') h) = zkv M W' h := by
  funext i
  unfold k0_pay12
  pointwise [zkv, headOf, wkvT]

/-- What is stored of one head's queries: the columns that the embedding leaves alone, then the others. -/
theorem pay9 : k0_pay9 (F := Ideal) L (headOf (wqT W) h) = one3 (part (zq L W h) 0 128 (by omega)) := by
  unfold k0_pay9
  rw [pay8]
  funext i
  pointwise [one3, part]
theorem pay11 (hT : Fine (part (zq L W h) 128 64 (by omega))) :
    k0_pay11 (F := Ideal) (k0_pay10 C S perm L (headOf (wqT W) h)) = one3 (embed (part (zq L W h) 128 64 (by omega)) C S) := by
  unfold k0_pay11 k0_pay10
  rw [pay8]
  funext i
  pointwise [one3]
  exact embed_split hT C S (ix2 (i 1) (i 2))
/-- What is stored of one head's keys and values. -/
theorem pay13 : k0_pay13 (F := Ideal) M (headOf (wkvT W') h) = one3 (part (zkv M W' h) 0 128 (by omega)) := by
  unfold k0_pay13
  rw [pay12]
  funext i
  pointwise [one3, part]
theorem pay14 : k0_pay14 (F := Ideal) R = one3 R := by
  funext i
  unfold k0_pay14
  pointwise [one3]
theorem pay15 : k0_pay15 (F := Ideal) M (headOf (wkvT W') h) = one3 (part (zkv M W' h) 128 128 (by omega)) := by
  unfold k0_pay15
  rw [pay12]
  funext i
  pointwise [one3, part]

end Cert.ProjectKernel

end
-- ==== Proof.MlaFwdBlock.lean ====
/-
  What one block of 512 rows of the projections' forward kernel leaves in its five results. The heads' stores are pieces of
  one array each: every piece is a head's columns, so one lemma about a piece serves all of them.
-/
module

public import proofs.«01_k».proof.Proof.MlaFwdKernel

@[expose] public section

set_option maxRecDepth 16384
set_option backward.isDefEq.respectTransparency false

noncomputable section

namespace Cert.ProjectBlock

open MlaFwdIdeal MlaFwdIdeal.Gen Idealize.ShloMosaic TcCoe Idealize.SL.Sem Mla Project ProjectKernel

variable (X : E2 512 384) (Y : E2 512 256) (R : E2 512 64) (g : E2 1 384) (g' : E2 1 256) (L : E2 512 384) (M : E2 512 256)
  (W : E2 384 768) (W' : E2 256 1024) (C S : E2 512 64) (h : Fin 4)

/-! The later heads' stores are the first head's functions. -/

theorem st17 : k0_pay17 (F := Ideal) L (headOf (wqT W) h) = one3 (part (zq L W h) 0 128 (by omega)) := pay9 L W h
theorem st29 : k0_pay29 (F := Ideal) L (k0_pay27 (headOf (wqT W) h)) = one3 (part (zq L W h) 0 128 (by omega)) := pay9 L W h
theorem st36 : k0_pay36 (F := Ideal) L (headOf (wqT W) h) = one3 (part (zq L W h) 0 128 (by omega)) := pay9 L W h
theorem st22 (hT : Fine (part (zq L W h) 128 64 (by omega))) : k0_pay22 (F := Ideal) S perm (k0_pay18 L (headOf (wqT W) h)) (k0_pay19 C L (headOf (wqT W) h)) (k0_pay20 L (headOf (wqT W) h)) (k0_pay21 L (headOf (wqT W) h))
    = one3 (embed (part (zq L W h) 128 64 (by omega)) C S) := pay11 L W C S h hT
theorem st30 (hT : Fine (part (zq L W h) 128 64 (by omega))) : k0_pay30 (F := Ideal) C S perm L (k0_pay27 (headOf (wqT W) h)) = one3 (embed (part (zq L W h) 128 64 (by omega)) C S) := pay11 L W C S h hT
theorem st37 (hT : Fine (part (zq L W h) 128 64 (by omega))) : k0_pay37 (F := Ideal) C S perm L (headOf (wqT W) h) = one3 (embed (part (zq L W h) 128 64 (by omega)) C S) := pay11 L W C S h hT
theorem st24 : k0_pay24 (F := Ideal) M (headOf (wkvT W') h) = one3 (part (zkv M W' h) 0 128 (by omega)) := pay13 M W' h
theorem st32 : k0_pay32 (F := Ideal) M (headOf (wkvT W') h) = one3 (part (zkv M W' h) 0 128 (by omega)) := pay13 M W' h
theorem st1 : k0_pay1 (F := Ideal) (k0_pay38 M (headOf (wkvT W') h)) = one3 (part (zkv M W' h) 0 128 (by omega)) := pay13 M W' h
theorem st25 : k0_pay25 (F := Ideal) R = one3 R := pay14 R
theorem st33 : k0_pay33 (F := Ideal) R = one3 R := pay14 R
theorem st2 : k0_pay2 (F := Ideal) R = one3 R := pay14 R
theorem st26 : k0_pay26 (F := Ideal) M (headOf (wkvT W') h) = one3 (part (zkv M W' h) 128 128 (by omega)) := pay15 M W' h
theorem st34 : k0_pay34 (F := Ideal) (k0_pay31 M (headOf (wkvT W') h)) = one3 (part (zkv M W' h) 128 128 (by omega)) := pay15 M W' h
theorem st3 : k0_pay3 (F := Ideal) (k0_pay38 M (headOf (wkvT W') h)) = one3 (part (zkv M W' h) 128 128 (by omega)) := pay15 M W' h

/-- A head's columns of one array are their own piece. -/
theorem same {n w : Nat} (A : E2 n w) (r : Fin n) (k k' : Fin w) (e : k'.val = 0 + k.val) : A (ix2 r k) = A (ix2 r k') := by
  rw [show k' = k from Fin.ext (by omega)]

variable (c : Dev nD) (i : grid0.Coords) (a1 : Memref sig .tc .vmem S512x384 .f32) (h1 : a1.IsWhole) (a2 : Memref sig .tc .vmem S512x256 .f32) (h2 : a2.IsWhole)
  (a3 : Memref sig .tc .vmem S512x64 .f32) (h3 : a3.IsWhole) (a4 : Memref sig .tc .vmem S1x384 .f32) (h4 : a4.IsWhole) (a5 : Memref sig .tc .vmem S1x256 .f32) (h5 : a5.IsWhole)
  (a6 : Memref sig .tc .vmem S4x192x384 .bf16) (h6 : a6.IsWhole) (a7 : Memref sig .tc .vmem S4x256x256 .bf16) (h7 : a7.IsWhole) (a8 : Memref sig .tc .vmem S512x64 .f32) (h8 : a8.IsWhole)
  (a9 : Memref sig .tc .vmem S512x64 .f32) (h9 : a9.IsWhole) (a10 : Memref sig .tc .vmem S64x64 .bf16) (h10 : a10.IsWhole) (a11 : Memref sig .tc .vmem S4x512x192 .bf16) (h11 : a11.IsWhole)
  (a12 : Memref sig .tc .vmem S4x512x192 .bf16) (h12 : a12.IsWhole) (a13 : Memref sig .tc .vmem S4x512x128 .bf16) (h13 : a13.IsWhole) (a14 : Memref sig .tc .vmem S512x384 .bf16) (h14 : a14.IsWhole)
  (a15 : Memref sig .tc .vmem S512x256 .bf16) (h15 : a15.IsWhole)

/-- The queries. -/
theorem out10 (hT : ∀ h, Fine (part (zq (lat w384 X g) W h) 128 64 (by omega))) : out0_A_10 (F := Ideal) c i a1 h1 a2 h2 a3 h3 a4 h4 a5 h5 a6 h6 a7 h7 a8 h8 a9 h9 a10 h10 a11 h11 a12 h12 a13 h13 a14 h14 a15 h15
    X Y R g g' (wqT W) (wkvT W') C S perm = heads (qs (lat w384 X g) W C S) := by
  unfold out0_A_10
  rw [View.read_writes_eq_canon _ _ _ (fun _ => cover0_A_10 ..)]
  funext y
  refine View.canon_apply_of_pieces (Val := Elt Ideal) (S := S4x512x192) (e := .bf16) (heads (qs (lat w384 X g) W C S)) _ (View.PiecesOf.mem ?_) y (cover0_A_10 ..)
  unfold kernelRun0_A; dsimp only; sl_unfold_words
  simp only [View.readAt_eq_ld, Memref.IsWhole.read_unread,
    View.ld_unit_zero (S := S512x384) off2, View.ld_unit_zero (S := S1x384) off2, View.ld_unit_zero (S := S512x64) off2, View.ld_unit_zero (S := S64x64) off2, ld_head (wqT W) 0 0 rfl, ld_head (wqT W) 1 1 rfl, ld_head (wqT W) 2 2 rfl, ld_head (wqT W) 3 3 rfl,
    pay4, pay5, pay9 _ W 0, pay11 _ W C S 0 (hT 0), st17 _ W 1, st22 _ W C S 1 (hT 1), st29 _ W 2, st30 _ W C S 2 (hT 2), st36 _ W 3, st37 _ W C S 3 (hT 3)]
  exact ⟨head_piece (qs (lat w384 X g) W C S) _ 3 3 128 rfl inb_S4x512x192_S1x512x64_3_0_128 (join_snd _ _),
    head_piece (qs (lat w384 X g) W C S) _ 3 3 0 rfl inb_S4x512x192_S1x512x128_3_0_0 (join_fst _ _),
    head_piece (qs (lat w384 X g) W C S) _ 2 2 128 rfl inb_S4x512x192_S1x512x64_2_0_128 (join_snd _ _),
    head_piece (qs (lat w384 X g) W C S) _ 2 2 0 rfl inb_S4x512x192_S1x512x128_2_0_0 (join_fst _ _),
    head_piece (qs (lat w384 X g) W C S) _ 1 1 128 rfl inb_S4x512x192_S1x512x64_1_0_128 (join_snd _ _),
    head_piece (qs (lat w384 X g) W C S) _ 1 1 0 rfl inb_S4x512x192_S1x512x128_1_0_0 (join_fst _ _),
    head_piece (qs (lat w384 X g) W C S) _ 0 0 128 rfl inb_S4x512x192_S1x512x64_0_0_128 (join_snd _ _),
    head_piece (qs (lat w384 X g) W C S) _ 0 0 0 rfl inb_S4x512x192_S1x512x128_0_0_0 (join_fst _ _), trivial⟩

/-- The keys. -/
theorem out11 (hR : Fine R) : out0_A_11 (F := Ideal) c i a1 h1 a2 h2 a3 h3 a4 h4 a5 h5 a6 h6 a7 h7 a8 h8 a9 h9 a10 h10 a11 h11 a12 h12 a13 h13 a14 h14 a15 h15
    X Y R g g' (wqT W) (wkvT W') C S perm = heads (ks (lat w256 Y g') W' R C S) := by
  unfold out0_A_11
  rw [View.read_writes_eq_canon _ _ _ (fun _ => cover0_A_11 ..)]
  funext y
  refine View.canon_apply_of_pieces (Val := Elt Ideal) (S := S4x512x192) (e := .bf16) (heads (ks (lat w256 Y g') W' R C S)) _ (View.PiecesOf.mem ?_) y (cover0_A_11 ..)
  unfold kernelRun0_A; dsimp only; sl_unfold_words
  simp only [View.readAt_eq_ld, Memref.IsWhole.read_unread,
    View.ld_unit_zero (S := S512x256) off2, View.ld_unit_zero (S := S1x256) off2, View.ld_unit_zero (S := S512x64) off2, View.ld_unit_zero (S := S64x64) off2, ld_head (wkvT W') 0 0 rfl, ld_head (wkvT W') 1 1 rfl, ld_head (wkvT W') 2 2 rfl, ld_head (wkvT W') 3 3 rfl,
    pay4, pay6, pay7 R C S hR, pay13 _ W' 0, st24 _ W' 1, st32 _ W' 2, st1 _ W' 3, pay14, st25, st33, st2]
  exact ⟨head_piece (ks (lat w256 Y g') W' R C S) _ 3 3 128 rfl inb_S4x512x192_S1x512x64_3_0_128 (join_snd _ _),
    head_piece (ks (lat w256 Y g') W' R C S) _ 3 3 0 rfl inb_S4x512x192_S1x512x128_3_0_0 (join_fst _ _),
    head_piece (ks (lat w256 Y g') W' R C S) _ 2 2 128 rfl inb_S4x512x192_S1x512x64_2_0_128 (join_snd _ _),
    head_piece (ks (lat w256 Y g') W' R C S) _ 2 2 0 rfl inb_S4x512x192_S1x512x128_2_0_0 (join_fst _ _),
    head_piece (ks (lat w256 Y g') W' R C S) _ 1 1 128 rfl inb_S4x512x192_S1x512x64_1_0_128 (join_snd _ _),
    head_piece (ks (lat w256 Y g') W' R C S) _ 1 1 0 rfl inb_S4x512x192_S1x512x128_1_0_0 (join_fst _ _),
    head_piece (ks (lat w256 Y g') W' R C S) _ 0 0 128 rfl inb_S4x512x192_S1x512x64_0_0_128 (join_snd _ _),
    head_piece (ks (lat w256 Y g') W' R C S) _ 0 0 0 rfl inb_S4x512x192_S1x512x128_0_0_0 (join_fst _ _), trivial⟩

/-- The values. -/
theorem out12 : out0_A_12 (F := Ideal) c i a1 h1 a2 h2 a3 h3 a4 h4 a5 h5 a6 h6 a7 h7 a8 h8 a9 h9 a10 h10 a11 h11 a12 h12 a13 h13 a14 h14 a15 h15
    X Y R g g' (wqT W) (wkvT W') C S perm = heads (vs (lat w256 Y g') W') := by
  unfold out0_A_12
  rw [View.read_writes_eq_canon _ _ _ (fun _ => cover0_A_12 ..)]
  funext y
  refine View.canon_apply_of_pieces (Val := Elt Ideal) (S := S4x512x128) (e := .bf16) (heads (vs (lat w256 Y g') W')) _ (View.PiecesOf.mem ?_) y (cover0_A_12 ..)
  unfold kernelRun0_A; dsimp only; sl_unfold_words
  simp only [View.readAt_eq_ld, Memref.IsWhole.read_unread,
    View.ld_unit_zero (S := S512x256) off2, View.ld_unit_zero (S := S1x256) off2, ld_head (wkvT W') 0 0 rfl, ld_head (wkvT W') 1 1 rfl, ld_head (wkvT W') 2 2 rfl, ld_head (wkvT W') 3 3 rfl,
    pay6, pay15 _ W' 0, st26 _ W' 1, st34 _ W' 2, st3 _ W' 3]
  exact ⟨head_piece (vs (lat w256 Y g') W') _ 3 3 0 rfl inb_S4x512x128_S1x512x128_3_0_0 (same _),
    head_piece (vs (lat w256 Y g') W') _ 2 2 0 rfl inb_S4x512x128_S1x512x128_2_0_0 (same _),
    head_piece (vs (lat w256 Y g') W') _ 1 1 0 rfl inb_S4x512x128_S1x512x128_1_0_0 (same _),
    head_piece (vs (lat w256 Y g') W') _ 0 0 0 rfl inb_S4x512x128_S1x512x128_0_0_0 (same _), trivial⟩

/-- The normalised latent rows. -/
theorem out13 : out0_A_13 (F := Ideal) c i a1 h1 a2 h2 a3 h3 a4 h4 a5 h5 a6 h6 a7 h7 a8 h8 a9 h9 a10 h10 a11 h11 a12 h12 a13 h13 a14 h14 a15 h15
    X Y R g g' (wqT W) (wkvT W') C S perm = lat w384 X g := by
  unfold out0_A_13
  rw [View.read_writes_eq_canon _ _ _ (fun _ => cover0_A_13 ..)]
  unfold kernelRun0_A; dsimp only; sl_unfold_words
  simp only [View.canon_unit_zero (S := S512x384) off2, View.readAt_eq_ld, Memref.IsWhole.read_unread, View.ld_unit_zero (S := S512x384) off2, View.ld_unit_zero (S := S1x384) off2, pay5]

theorem out14 : out0_A_14 (F := Ideal) c i a1 h1 a2 h2 a3 h3 a4 h4 a5 h5 a6 h6 a7 h7 a8 h8 a9 h9 a10 h10 a11 h11 a12 h12 a13 h13 a14 h14 a15 h15
    X Y R g g' (wqT W) (wkvT W') C S perm = lat w256 Y g' := by
  unfold out0_A_14
  rw [View.read_writes_eq_canon _ _ _ (fun _ => cover0_A_14 ..)]
  unfold kernelRun0_A; dsimp only; sl_unfold_words
  simp only [View.canon_unit_zero (S := S512x256) off2, View.readAt_eq_ld, Memref.IsWhole.read_unread, View.ld_unit_zero (S := S512x256) off2, View.ld_unit_zero (S := S1x256) off2, pay6]

end Cert.ProjectBlock

end
-- ==== Proof.MlaFwdValue.lean ====
/-
  What the projections' forward call leaves in its five results: each grid point stores its 512 rows of each. The host cuts
  the two weights into heads and writes the rotary embedding's matrix.
-/
module

public import proofs.«01_k».proof.Proof.MlaFwdBlock
public import proofs.«01_k».proof.Proof.MlaHost
public import proofs.«01_k».proof.Proof.Blocks
public import proofs.«01_k».proof.Proof.Gen.MlaFwdIdeal.Value

@[expose] public section

set_option maxRecDepth 16384
set_option backward.isDefEq.respectTransparency false

noncomputable section

namespace Cert.ProjectValue

open MlaFwdIdeal MlaFwdIdeal.Gen Idealize.ShloMosaic TcCoe Idealize.SL.Sem Mla Project ProjectKernel ProjectBlock Blocks
open MlaHost (src idx row_word col_word scattered signs)
open Idealize.ShloMosaic.Pipeline (Dat)

variable (m : (ℓ : Loc nD τ sig) → Buf (Elt Ideal) ℓ) (c : Dev nD)

/-- The arguments. -/
abbrev aX : E2 2048 384 := m ((c : Thread nD τ).loc main_arg0)
abbrev aY : E2 2048 256 := m ((c : Thread nD τ).loc main_arg1)
abbrev aR : E2 2048 64 := m ((c : Thread nD τ).loc main_arg2)
abbrev ag : E2 1 384 := m ((c : Thread nD τ).loc main_arg3)
abbrev ag' : E2 1 256 := m ((c : Thread nD τ).loc main_arg4)
abbrev aW : E2 384 768 := m ((c : Thread nD τ).loc main_arg5)
abbrev aW' : E2 256 1024 := m ((c : Thread nD τ).loc main_arg6)
abbrev aC : E2 2048 64 := m ((c : Thread nD τ).loc main_arg7)
abbrev aS : E2 2048 64 := m ((c : Thread nD τ).loc main_arg8)
/-- The latent rows that they give. -/
abbrev lq : E2 2048 384 := lat w384 (aX m c) (ag m c)
abbrev lk : E2 2048 256 := lat w256 (aY m c) (ag' m c)

/-! What the host makes. -/

/-- The queries' weights by heads. -/
theorem hostq : V m c main_v2 = wqT (aW m c) := by
  unfold V
  simp only [List.flatten_cons, List.flatten_nil, List.cons_append, List.nil_append, List.append_nil, hostOps0, hostOps0_1, hostOps0_2, hostOps0_3, hostOps0_4]
  after_reads_simp
  funext i
  pointwise [wqT]
  exact congrArg (fun z : Fin 768 => aW m c (ix2 (i 2) z)) (Fin.ext (by show (i 0).val * 192 + (i 1).val = 192 * (i 0).val + (i 1).val; omega))
/-- The keys' and values' weights by heads. -/
theorem hostkv : V m c main_v5 = wkvT (aW' m c) := by
  unfold V
  simp only [List.flatten_cons, List.flatten_nil, List.cons_append, List.nil_append, List.append_nil, hostOps0, hostOps0_1, hostOps0_2, hostOps0_3, hostOps0_4]
  after_reads_simp
  funext i
  pointwise [wkvT]
  exact congrArg (fun z : Fin 1024 => aW' m c (ix2 (i 1) z)) (Fin.ext (by show (i 0).val * 256 + (i 2).val = 256 * (i 0).val + (i 2).val; omega))
/-- Each sign's place. -/
theorem lands : ∀ k : Fin 64, scatter_S64x64_S64x2_S64_n_01_01_1.resultIdx? (ix1 k) idx = some (ix2 (src k) k) := by
  decide +kernel
/-- The embedding's matrix. -/
theorem hostp : V m c main_v33 = perm := by
  unfold V
  simp only [List.flatten_cons, List.flatten_nil, List.cons_append, List.nil_append, List.append_nil, hostOps0, hostOps0_1, hostOps0_2, hostOps0_3, hostOps0_4]
  after_reads_simp
  generalize hI : concatenate S64x2 1 _ _ = I
  have hI' : I = idx := by
    rw [← hI]
    funext i
    pointwise []
    after_reads_simp
    clean_types
    pointwise []
    show _ = if (i 1).val = 0 then BitVec.ofNat 32 (src (i 0)).val else BitVec.ofNat 32 (i 0).val
    by_cases h : (i 1).val = 0
    · rw [if_pos h, dif_pos (by omega)]
      exact row_word (i 0)
    · rw [if_neg h, dif_neg (by omega)]
      exact col_word (i 0)
  funext i
  clean_types
  pointwise []
  clear hI
  subst hI'
  exact (congrArg _ (ix2_eta i).symm).trans (scattered _ lands _ _ (fun _ => Ideal.ofBits_zero .f32) (fun k => signs (k 0)) (i 0) (i 1))

/-! The block indices. -/

theorem idx0 : Along 0 win0_0.index := by decide +kernel
theorem idx1 : Along 0 win0_1.index := by decide +kernel
theorem idx2 : Along 0 win0_2.index := by decide +kernel
theorem idx3 : Whole win0_3.index := by decide +kernel
theorem idx4 : Whole win0_4.index := by decide +kernel
theorem idx5 : Whole win0_5.index := by decide +kernel
theorem idx6 : Whole win0_6.index := by decide +kernel
theorem idx7 : Along 0 win0_7.index := by decide +kernel
theorem idx8 : Along 0 win0_8.index := by decide +kernel
theorem idx9 : Whole win0_9.index := by decide +kernel
theorem idx10 : Along 1 win0_10.index := by decide +kernel
theorem idx11 : Along 1 win0_11.index := by decide +kernel
theorem idx12 : Along 1 win0_12.index := by decide +kernel
theorem idx13 : Along 0 win0_13.index := by decide +kernel
theorem idx14 : Along 0 win0_14.index := by decide +kernel

/-! What a point reads. -/

theorem in0 (t : Fin cfg0.N) : iblk m c 0 t = rowsOf (aX m c) (t.cast N_0) := funext fun j => congrArg (aX m c) (rows_at N_0 idx0 t _ j fun _ => rfl)
theorem in1 (t : Fin cfg0.N) : iblk m c 1 t = rowsOf (aY m c) (t.cast N_0) := funext fun j => congrArg (aY m c) (rows_at N_0 idx1 t _ j fun _ => rfl)
theorem in2 (t : Fin cfg0.N) : iblk m c 2 t = rowsOf (aR m c) (t.cast N_0) := funext fun j => congrArg (aR m c) (rows_at N_0 idx2 t _ j fun _ => rfl)
theorem in7 (t : Fin cfg0.N) : iblk m c 7 t = rowsOf (aC m c) (t.cast N_0) := funext fun j => congrArg (aC m c) (rows_at N_0 idx7 t _ j fun _ => rfl)
theorem in8 (t : Fin cfg0.N) : iblk m c 8 t = rowsOf (aS m c) (t.cast N_0) := funext fun j => congrArg (aS m c) (rows_at N_0 idx8 t _ j fun _ => rfl)
theorem in3 (t : Fin cfg0.N) : iblk m c 3 t = ag m c := funext fun j => congrArg (ag m c) (whole_at idx3 t _ j fun _ => rfl)
theorem in4 (t : Fin cfg0.N) : iblk m c 4 t = ag' m c := funext fun j => congrArg (ag' m c) (whole_at idx4 t _ j fun _ => rfl)
theorem in5 (t : Fin cfg0.N) : iblk m c 5 t = wqT (aW m c) := funext fun j => (congrFun (hostq m c) _).trans (congrArg (wqT (aW m c)) (whole_at idx5 t _ j fun _ => rfl))
theorem in6 (t : Fin cfg0.N) : iblk m c 6 t = wkvT (aW' m c) := funext fun j => (congrFun (hostkv m c) _).trans (congrArg (wkvT (aW' m c)) (whole_at idx6 t _ j fun _ => rfl))
theorem in9 (t : Fin cfg0.N) : iblk m c 9 t = perm := funext fun j => (congrFun (hostp m c) _).trans (congrArg perm (whole_at idx9 t _ j fun _ => rfl))

/-! What the call leaves. -/

/-- A block of finite rows is finite. -/
theorem fine_q (hT : ∀ h, Fine (part (zq (lq m c) (aW m c) h) 128 64 (by omega))) (t : Fin cfg0.N) (h : Fin 4) :
    Fine (part (zq (lat w384 (rowsOf (aX m c) (t.cast N_0)) (ag m c)) (aW m c) h) 128 64 (by omega)) := fun j => hT h (ix2 (Norm.row (t.cast N_0) (j 0)) (j 1))
theorem fine_k (hR : Fine (aR m c)) (t : Fin cfg0.N) : Fine (rowsOf (aR m c) (t.cast N_0)) := fun j => hR (ix2 (Norm.row (t.cast N_0) (j 0)) (j 1))

/-- The queries, where their rotary columns are finite. -/
theorem final10 (hT : ∀ h, Fine (part (zq (lq m c) (aW m c) h) 128 64 (by omega))) : (dats m 0 c).arrAt 10 cfg0.N = heads (qs (lq m c) (aW m c) (aC m c) (aS m c)) := by
  refine (dats m 0 c).arrAt_eq_of_cover 10 _ (fun t _ => ?_) fun x => ⟨blockOf N_0 (x 1), flush0_10 _, ?_⟩
  · rw [MlaFwdIdeal.Value.flushed10_A, in0, in1, in2, in3, in4, in5, in6, in7, in8, in9, out10 (hT := fine_q m c hT t)]
    funext j; rw [View.read_apply]
    exact (congrArg (heads (qs (lq m c) (aW m c) (aC m c) (aS m c))) (mid_at N_0 idx10 t _ j fun _ => rfl)).symm
  · exact in_block (along_has idx10 _ x rfl (by decide) (by decide))
/-- The keys, where their rotary columns are finite. -/
theorem final11 (hR : Fine (aR m c)) : (dats m 0 c).arrAt 11 cfg0.N = heads (ks (lk m c) (aW' m c) (aR m c) (aC m c) (aS m c)) := by
  refine (dats m 0 c).arrAt_eq_of_cover 11 _ (fun t _ => ?_) fun x => ⟨blockOf N_0 (x 1), flush0_11 _, ?_⟩
  · rw [MlaFwdIdeal.Value.flushed11_A, in0, in1, in2, in3, in4, in5, in6, in7, in8, in9, out11 (hR := fine_k m c hR t)]
    funext j; rw [View.read_apply]
    exact (congrArg (heads (ks (lk m c) (aW' m c) (aR m c) (aC m c) (aS m c))) (mid_at N_0 idx11 t _ j fun _ => rfl)).symm
  · exact in_block (along_has idx11 _ x rfl (by decide) (by decide))
/-- The values. -/
theorem final12 : (dats m 0 c).arrAt 12 cfg0.N = heads (vs (lk m c) (aW' m c)) := by
  refine (dats m 0 c).arrAt_eq_of_cover 12 _ (fun t _ => ?_) fun x => ⟨blockOf N_0 (x 1), flush0_12 _, ?_⟩
  · rw [MlaFwdIdeal.Value.flushed12_A, in0, in1, in2, in3, in4, in5, in6, in7, in8, in9, out12]
    funext j; rw [View.read_apply]
    exact (congrArg (heads (vs (lk m c) (aW' m c))) (mid_at N_0 idx12 t _ j fun _ => rfl)).symm
  · exact in_block (along_has idx12 _ x rfl (by decide) (by decide))
/-- The normalised latent rows. -/
theorem final13 : (dats m 0 c).arrAt 13 cfg0.N = lq m c := by
  refine (dats m 0 c).arrAt_eq_of_cover 13 _ (fun t _ => ?_) fun x => ⟨blockOf N_0 (x 0), flush0_13 _, ?_⟩
  · rw [MlaFwdIdeal.Value.flushed13_A, in0, in1, in2, in3, in4, in5, in6, in7, in8, in9, out13]
    funext j; rw [View.read_apply]
    exact (congrArg (lq m c) (rows_at N_0 idx13 t _ j fun _ => rfl)).symm
  · exact in_block (along_has idx13 _ x rfl (by decide) (by decide))
theorem final14 : (dats m 0 c).arrAt 14 cfg0.N = lk m c := by
  refine (dats m 0 c).arrAt_eq_of_cover 14 _ (fun t _ => ?_) fun x => ⟨blockOf N_0 (x 0), flush0_14 _, ?_⟩
  · rw [MlaFwdIdeal.Value.flushed14_A, in0, in1, in2, in3, in4, in5, in6, in7, in8, in9, out14]
    funext j; rw [View.read_apply]
    exact (congrArg (lk m c) (rows_at N_0 idx14 t _ j fun _ => rfl)).symm
  · exact in_block (along_has idx14 _ x rfl (by decide) (by decide))

end Cert.ProjectValue

end
-- ==== Proof.MlaFwdRef.lean ====
/-
  What the reference of the projections' forward pass computes, over the extended reals, stage by stage.
-/
module

public import proofs.«01_k».proof.Proof.MlaFwd
public import proofs.«01_k».proof.Proof.Gen.MlaFwdRefIdeal.Read

@[expose] public section

set_option maxRecDepth 16384
set_option backward.isDefEq.respectTransparency false

noncomputable section

namespace Cert.ProjectRef

open Idealize.ShloMosaic Mla Project MlaFwdRefIdeal MlaFwdRefIdeal.Read

variable (X : E2 2048 384) (Y : E2 2048 256) (R : E2 2048 64) (g : E2 1 384) (g' : E2 1 256) (W : E2 384 768) (W' : E2 256 1024) (C S : E2 2048 64)

/-- The latent rows that the arguments give. -/
abbrev lq : E2 2048 384 := lat (Ideal.ofBits .f32 0x43C00000#32) X g
abbrev lk : E2 2048 256 := lat (Ideal.ofBits .f32 0x43800000#32) Y g'

theorem v11 : val_main_v11 (F := Ideal) X g = lq X g := by
  funext i
  pointwise [val_main_v11, val_main_v10, val_main_v9, val_main_v8, val_main_v7, val_main_v6, val_main_v5, val_main_v4, val_main_v3,
    val_main_v2, val_main_v1, val_main_v0, val_main_cst, val_main_cst_0, val_main_cst_1, lat]
theorem v23 : val_main_v23 (F := Ideal) Y g' = lk Y g' := by
  funext i
  pointwise [val_main_v23, val_main_v22, val_main_v21, val_main_v20, val_main_v19, val_main_v18, val_main_v17, val_main_v16, val_main_v15,
    val_main_v14, val_main_v13, val_main_v12, val_main_cst_2, val_main_cst_3, val_main_cst_4, lat]
theorem v60 : val_main_v60 (F := Ideal) X g = lq X g := by
  unfold val_main_v60
  rw [v11]
  rfl
theorem v61 : val_main_v61 (F := Ideal) Y g' = lk Y g' := by
  unfold val_main_v61
  rw [v23]
  rfl

/-- The products by heads within a row. -/
theorem v26 (i : S2048x4x192.Idx) : val_main_v26 (F := Ideal) X g W i = zq (lq X g) W (i 1) (ix2 (i 0) (i 2)) := by
  pointwise [val_main_v26, val_main_v24, v11, zq]
  exact Finset.sum_congr rfl fun q _ => congrArg (fun z : Fin 768 => lq X g (ix2 (i 0) q) * W (ix2 q z)) (Fin.ext (by show (i 1).val * 192 + (i 2).val = 192 * (i 1).val + (i 2).val; omega))
theorem v39 (i : S2048x4x256.Idx) : val_main_v39 (F := Ideal) Y g' W' i = zkv (lk Y g') W' (i 1) (ix2 (i 0) (i 2)) := by
  pointwise [val_main_v39, val_main_v25, v23, zkv]
  exact Finset.sum_congr rfl fun q _ => congrArg (fun z : Fin 1024 => lk Y g' (ix2 (i 0) q) * W' (ix2 q z)) (Fin.ext (by show (i 1).val * 256 + (i 2).val = 256 * (i 1).val + (i 2).val; omega))

/-- The queries' rotary columns. -/
theorem v38 (i : S2048x4x64.Idx) : val_main_v38 (F := Ideal) X g W C S i = embed (part (zq (lq X g) W (i 1)) 128 64 (by omega)) C S (ix2 (i 0) (i 2)) := by
  pointwise [val_main_v38, val_main_v37, val_main_v36, val_main_v35, val_main_v34, val_main_v33, val_main_v32, val_main_v31, val_main_v30,
    val_main_v29, val_main_v28, val_main_v27, v26, embed, spin, part]
/-- The keys'. -/
theorem v46 : val_main_v46 (F := Ideal) R C S = embed R C S := by
  funext i
  pointwise [val_main_v46, val_main_v45, val_main_v44, val_main_v43, val_main_v42, val_main_v41, val_main_v40, embed, spin]

/-- THE QUERIES. -/
theorem v57 : val_main_v57 (F := Ideal) X g W C S = heads (qs (lq X g) W C S) := by
  funext i
  pointwise [val_main_v57, val_main_v53, val_main_v50, val_main_v49, v38, v26, qs, heads, join, part]
/-- THE KEYS. -/
theorem v58 : val_main_v58 (F := Ideal) Y R g' W' C S = heads (ks (lk Y g') W' R C S) := by
  funext i
  pointwise [val_main_v58, val_main_v54, val_main_v52, val_main_v51, val_main_v48, val_main_v47, v46, v39, ks, heads, join, part]
/-- THE VALUES. -/
theorem v59 : val_main_v59 (F := Ideal) Y g' W' = heads (vs (lk Y g') W') := by
  funext i
  pointwise [val_main_v59, val_main_v56, val_main_v55, v39, vs, heads, part]

end Cert.ProjectRef

end
-- ==== Proof.MlaFwdClaims.lean ====
/-
  The claims about the projections' forward call: the reference's frame, and the equality of the results over the extended
  reals. The columns that the kernel splits into parts must be finite: those of the shared key, and those of the queries'
  product, which are finite when its rows, their gain and its weights are.
-/
module

public import proofs.«01_k».proof.Defs
public import proofs.«01_k».proof.Proof.MlaFwdValue
public import proofs.«01_k».proof.Proof.MlaFwdRef
public import proofs.«01_k».proof.Proof.MlaRef
public import proofs.«01_k».proof.Proof.Gen.MlaFwd.Frame
public import proofs.«01_k».proof.Proof.Gen.Pre_finite_mla_qkv_fwd

@[expose] public section

noncomputable section

namespace Cert.MlaFwdClaims

open Idealize.ShloMosaic TcCoe Idealize.SL.Sem Reals Norm Project ProjectKernel ProjectValue
open Mla (A2)

/-- Arguments that meet the precondition are arrays of real numbers, as far as it speaks of them. -/
theorem reals (x0 : FVec Ideal Pre_finite_mla_qkv_fwd.S2048x384 .f32) (x1 : FVec Ideal Pre_finite_mla_qkv_fwd.S2048x256 .f32)
    (x2 : FVec Ideal Pre_finite_mla_qkv_fwd.S2048x64 .f32) (x3 : FVec Ideal Pre_finite_mla_qkv_fwd.S1x384 .f32)
    (x4 : FVec Ideal Pre_finite_mla_qkv_fwd.S1x256 .f32) (x5 : FVec Ideal Pre_finite_mla_qkv_fwd.S384x768 .f32)
    (x6 : FVec Ideal Pre_finite_mla_qkv_fwd.S256x1024 .f32) (x7 x8 : FVec Ideal Pre_finite_mla_qkv_fwd.S2048x64 .f32)
    (h : Pre_finite_mla_qkv_fwd.fn (F := Ideal) x0 x1 x2 x3 x4 x5 x6 x7 x8 = fun _ => 1#1) :
    (∃ X : A2 2048 384, x0 = up X) ∧ (∃ R : A2 2048 64, x2 = up R) ∧ (∃ γ : A2 1 384, x3 = up γ) ∧ (∃ W : A2 384 768, x5 = up W) := by
  have h0 := congrFun h ix0
  unfold Pre_finite_mla_qkv_fwd.fn Pre_finite_mla_qkv_fwd.fn_part1 at h0
  obtain ⟨h1, p5⟩ := IntOp.andi_eq_one.1 h0
  obtain ⟨h2, p3⟩ := IntOp.andi_eq_one.1 h1
  obtain ⟨p0, p2⟩ := IntOp.andi_eq_one.1 h2
  exact ⟨array_real (φ := .f32) _ _ (fun _ => lit_inf) _ _ _ _ p0, array_real (φ := .f32) _ _ (fun _ => lit_inf) _ _ _ _ p2,
    array_real (φ := .f32) _ _ (fun _ => lit_inf) _ _ _ _ p3, array_real (φ := .f32) _ _ (fun _ => lit_inf) _ _ _ _ p5⟩

/-- Differences of a real number. -/
theorem real_fine {x : EReal} (h : ∃ r : ℝ, x = (r : EReal)) : x - x = 0 := by
  obtain ⟨r, rfl⟩ := h
  rw [← EReal.coe_sub, sub_self]
  rfl

/-- The queries' rotary columns are finite. -/
theorem fine_cols (X : A2 2048 384) (γ : A2 1 384) (W : A2 384 768) (h : Fin 4) :
    Fine (part (zq (lat w384 (up X) (up γ)) (up W) h) 128 64 (by omega)) := by
  have e : ∀ i, lat w384 (up X) (up γ) i = ((X i * rs 384 X (i 0) * γ (ix2 0 (i 1)) : ℝ) : EReal) := by
    intro i
    unfold lat up
    simp only [w384, lit_384, lit_eps, mul_coe, coe_sum]
    rw [div_coe _ (by norm_num), add_coe]
    refine (congrArg (fun z => _ * z * _) (rsqrt_coe (ms_pos (by norm_num) X (i 0)))).trans ?_
    simp only [mul_coe]
    rfl
  intro i
  refine real_fine ⟨∑ q : Fin 384, X (ix2 (i 0) q) * rs 384 X (i 0) * γ (ix2 0 q) * W (ix2 q (Mla.colq h ⟨128 + (i 1).val, by have : (i 1).val < 64 := (i 1).isLt; omega⟩)), ?_⟩
  unfold part zq
  simp only [e, up, mul_coe, coe_sum]
  rfl

/-- The reference runs and leaves its arguments. -/
theorem quiescent_ref : quiescent_MlaFwdRefIdeal := fun m g _ =>
  (θ_run MlaFwdRefIdeal.defs _ _).mono (fun r h => ⟨fun c => (h c).2.2.2.2.2,
    Idealize.ShloMosaic.sem_eq_zero_of_no_sems (by decide) r.2⟩) (MlaFwdRefIdeal.Value.run (F := Ideal) m g)

set_option maxHeartbeats 2000000 in
/-- The results are the reference's. -/
theorem algebraic : algebraic_MlaFwdIdeal_MlaFwdRefIdeal_pre_finite_mla_qkv_fwd := by
  intro m g m' g' hpre hagree
  refine ⟨fun c => heads (qs (lq m c) (aW m c) (aC m c) (aS m c)), fun c => heads (ks (lk m c) (aW' m c) (aR m c) (aC m c) (aS m c)),
    fun c => heads (vs (lk m c) (aW' m c)), fun c => lq m c, fun c => lk m c, ?_, ?_⟩
  · refine (θ_run MlaFwdIdeal.defs _ _).mono (fun r h c => ?_) (MlaFwdIdeal.Value.run_blocks m g)
    obtain ⟨e0, e1, e2, e3, e4, e5⟩ := h c
    obtain ⟨⟨X, q0⟩, ⟨R, q2⟩, ⟨γ, q3⟩, ⟨W, q5⟩⟩ := reals _ _ _ _ _ _ _ _ _ (hpre c)
    have hT : ∀ h, Fine (part (zq (lq m c) (aW m c) h) 128 64 (by omega)) := by
      intro h
      unfold lq aX ag aW
      rw [q0, q3, q5]
      exact fine_cols X γ W h
    have hR : Fine (aR m c) := by
      unfold aR
      rw [q2]
      exact fun i => real_fine ⟨R i, rfl⟩
    exact ⟨e0.trans (final10 m c hT), e1.trans (final11 m c hR), e2.trans (final12 m c), e3.trans (final13 m c), e4.trans (final14 m c), e5⟩
  · refine (θ_run MlaFwdRefIdeal.defs _ _).mono (fun r h c => ?_) (MlaFwdRefIdeal.Value.run (F := Ideal) m' g')
    obtain ⟨e0, e1, e2, e3, e4, e5⟩ := h c
    obtain ⟨a0, a1, a2, a3, a4, a5, a6, a7, a8⟩ := hagree c
    refine ⟨e0.trans ?_, e1.trans ?_, e2.trans ?_, e3.trans ?_, e4.trans ?_, e5⟩
    · refine (MlaFwdRefIdeal.Read.val_main_v57_eq m' c).trans ?_
      rw [a0, a3, a5, a7, a8]
      exact ProjectRef.v57 _ _ _ _ _
    · beta_reduce
      rw [a1, a2, a4, a6, a7, a8]
      exact (MlaFwdRefIdeal.Read.val_main_v58_eq _ _ _ _ _ _).trans (ProjectRef.v58 _ _ _ _ _ _)
    · beta_reduce
      rw [a1, a4, a6]
      exact (MlaFwdRefIdeal.Read.val_main_v59_eq _ _ _).trans (ProjectRef.v59 _ _ _)
    · beta_reduce
      rw [a0, a3]
      exact (MlaFwdRefIdeal.Read.val_main_v60_eq _ _).trans (ProjectRef.v60 _ _)
    · beta_reduce
      rw [a1, a4]
      exact (MlaFwdRefIdeal.Read.val_main_v61_eq _ _).trans (ProjectRef.v61 _ _)

end Cert.MlaFwdClaims

end
-- ==== Proof.ProductFrame.lean ====
/-
  The frame of the product that keeps one part in full (`nn_mm`), on every chip: its own part is stored at the chip's
  grid point only and written back at the last one, so its staging buffer keeps the part from the chip's point on.
-/
module

public import proofs.«01_k».proof.Proof.Gen.NnMmIdeal.Launch
public import proofs.«01_k».proof.Proof.Gen.NnMmIdeal.Skeleton
public import Idealize.ShloMosaic.Lib.Pipeline.TableIdle
public import Idealize.ShloMosaic.Lib.Pipeline.FrameBody
public import Idealize.ShloMosaic.Lib.Claim
public import Idealize.ShloMosaic.Lib.Ring
public import Idealize.ShloMosaic.PureOps.Ideal

@[expose] public section

set_option maxRecDepth 16384
set_option backward.isDefEq.respectTransparency false

noncomputable section

namespace Cert.Product

open NnMmIdeal NnMmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A chip's number as the word the kernel is handed. -/
def word (ch : Fin 4) : S1.Idx → BitVec 32 := fun _ => BitVec.ofNat 32 ch.val
/-- The table's contents on a chip. -/
def table (ch : Fin 4) : pre0.Contents (Elt F) := fun | ⟨0, _⟩ => word ch | ⟨_ + 1, h⟩ => absurd h (by simp)
/-- The pipeline on a chip. -/
def adm (ch : Fin 4) : (pcfg0 (F := F)).Adm := ⟨table ch, trivial⟩
abbrev cfgC (F : FTy → Type) [FloatOps F] (ch : Fin 4) : Pipeline.Cfg sig Λ₀ := cfg0 (F := F) (adm ch)
abbrev chip : Memref sig .tc .smem S1 .i32 := Memref.whole main_arg0
/-- The kernel's question, whether a point is the chip's. -/
abbrev Mine (i : grid0.Coords) (T : S1.Idx → BitVec 32) : Prop :=
  k0_cond1 i (View.readAt (Elt F) chip.view (Rect.unit (s := S1) ![0] S1.size inb_S1_S1_0).toLoadRect T (Shape.Idx.first (numel1_S1.symm ▸ Nat.one_pos))) = 1#1

/-- The schedule: which points store the own part, and when each output is written back. -/
abbrev Schedule (F : FTy → Type) [FloatOps F] (ch : Fin 4) (t : Fin grid0.N) : Prop :=
  Iff (Mine (F := F) (grid0.coords t) (word ch)) (t.val = ch.val)
    ∧ (cfgC F ch).idle (2 : Fin 4) (grid0.coords t) = !(t.val == ch.val) ∧ ((cfgC F ch).win (2 : Fin 4)).flush t = (t.val == 3)
    ∧ (cfgC F ch).idle (3 : Fin 4) (grid0.coords t) = false ∧ ((cfgC F ch).win (3 : Fin 4)).flush t = true
    ∧ (t.val = 3 → t.val ≠ ch.val → (cfgC F ch).fresh (2 : Fin 4) t.val = false)
theorem schedule : ∀ (ch : Fin 4) (t : Fin grid0.N), Schedule Ideal ch t := by decide +kernel
theorem schedule' (ch : Fin 4) (t : Fin (cfgC F ch).N) : Schedule F ch t := schedule ch t

/-! ## The body -/

abbrev rOwn : Rect S704x1024 := Rect.unit (s := S704x1024) ![0, 0] S704x1024.size inb_S704x1024_S704x1024_0_0
abbrev rAll : Rect S1x704x1024 := Rect.unit (s := S1x704x1024) ![0, 0, 0] S1x704x1024.size inb_S1x704x1024_S1x704x1024_0_0_0
abbrev rA : Rect S1x704x2048 := Rect.unit (s := S1x704x2048) ![0, 0, 0] S1x704x2048.size inb_S1x704x2048_S1x704x2048_0_0_0
abbrev rB : Rect S2048x1024 := Rect.unit (s := S2048x1024) ![0, 0] S2048x1024.size inb_S2048x1024_S2048x1024_0_0
/-- What a point leaves in the staging buffer of its part, -/
def part (x0 : Vec F S1x704x2048 .bf16) (x1 : Vec F S2048x1024 .bf16) : Vec F S1x704x1024 .bf16 := View.canon [⟨rAll, k0_pay2 (View.ld x0 rA) (View.ld x1 rB)⟩]
/-- and the chip's point in the own part's. -/
def own (x0 : Vec F S1x704x2048 .bf16) (x1 : Vec F S2048x1024 .bf16) : Vec F S704x1024 .f32 := View.canon [⟨rOwn, k0_pay1 (View.ld x0 rA) (View.ld x1 rB)⟩]
theorem cover_all (p : Vec F S1x704x1024 .bf16) (y : S1x704x1024.Idx) : ∃ pc ∈ ([⟨rAll, p⟩] : List (View.Piece (Elt F) S1x704x1024 .bf16)), y ∈ pc.1.set :=
  View.cover_of_tiled [⟨rAll, p⟩] S1x704x1024.size (by rfl) y
theorem cover_own (p : Vec F S704x1024 .f32) (y : S704x1024.Idx) : ∃ pc ∈ ([⟨rOwn, p⟩] : List (View.Piece (Elt F) S704x1024 .f32)), y ∈ pc.1.set :=
  View.cover_of_tiled [⟨rOwn, p⟩] S704x1024.size (by rfl) y

set_option maxHeartbeats 2000000 in
/-- The body's run: the part is stored at every point, the own part at the chip's. -/
theorem run (c : Dev nD) (i : grid0.Coords) (arg2 : Memref sig .tc .vmem S1x704x2048 .bf16) (harg2 : arg2.IsWhole) (arg3 : Memref sig .tc .vmem S2048x1024 .bf16) (harg3 : arg3.IsWhole)
    (arg4 : Memref sig .tc .vmem S704x1024 .f32) (harg4 : arg4.IsWhole) (arg5 : Memref sig .tc .vmem S1x704x1024 .bf16) (harg5 : arg5.IsWhole) (T : S1.Idx → BitVec 32)
    (x0 : Vec F S1x704x2048 .bf16) (x1 : Vec F S2048x1024 .bf16) (y : Vec F S704x1024 .f32) (p : Prop) [Decidable p] (hp : Iff (Mine (F := F) i T) p) (K : PUnit → sProp 𝕄) :
    iprop(owns (c : Thread nD τ) arg2 fullShare x0 ∗ owns (c : Thread nD τ) arg3 fullShare x1 ∗ (chip.view.loc (c : Thread nD τ) ↦{fullShare.right} T)
        ∗ owns (c : Thread nD τ) arg4 fullShare y ∗ (∃ d, owns (c : Thread nD τ) arg5 fullShare d)
        ∗ (iprop(owns (c : Thread nD τ) arg2 fullShare x0 ∗ owns (c : Thread nD τ) arg3 fullShare x1 ∗ (chip.view.loc (c : Thread nD τ) ↦{fullShare.right} T)
            ∗ owns (c : Thread nD τ) arg4 fullShare (if p then own x0 x1 else y) ∗ owns (c : Thread nD τ) arg5 fullShare (part x0 x1)) -∗ K ⟨⟩))
      ⊢ wp frame (wpE (defs₀ (F := F)) Variants.none c none) Set.univ (cc0_nn_mm i chip (Memref.isWhole_whole _) arg2 harg2 arg3 harg3 arg4 harg4 arg5 harg5) K := by
  have hT : chip.IsWhole := Memref.isWhole_whole _
  rw [cc0_nn_mm_eq_skeleton]; unfold cc0_nn_mm_skel owns
  iintro ⟨⟨%f0, %hf0, H0⟩, ⟨%f1, %hf1, H1⟩, HT, ⟨%f2, %hf2, H2⟩, ⟨%d3, %f3, -, H3⟩, Hk⟩
  subst hf0 hf1
  by_cases q : Mine (F := F) i T
  · sl_exec! (disch := first | (guard_target = k0_cond1 _ _ = _; exact q))
    sl_step
    iapply Hk
    isplitl [H0]
    · iexists f0; isplitr; · ipureintro; rfl
      iexact H0
    isplitl [H1]
    · iexists f1; isplitr; · ipureintro; rfl
      iexact H1
    isplitl [HT]; · iexact HT
    isplitl [H2]
    · iexists _; isplitr
      swap; · iexact H2
      ipureintro
      rw [if_pos (hp.1 q)]
      exact View.read_writes_eq_canon _ _ _ (cover_own _)
    iexists _; isplitr
    swap; · iexact H3
    ipureintro
    exact View.read_writes_eq_canon _ _ _ (cover_all _)
  · sl_exec! (disch := first | (guard_target = ¬(k0_cond1 _ _ = _); exact q))
    sl_step
    iapply Hk
    isplitl [H0]
    · iexists f0; isplitr; · ipureintro; rfl
      iexact H0
    isplitl [H1]
    · iexists f1; isplitr; · ipureintro; rfl
      iexact H1
    isplitl [HT]; · iexact HT
    isplitl [H2]
    · iexists f2; isplitr
      swap; · iexact H2
      ipureintro
      rw [if_neg fun h => q (hp.2 h)]; exact hf2
    iexists _; isplitr
    swap; · iexact H3
    ipureintro
    exact View.read_writes_eq_canon _ _ _ (cover_all _)

/-! ## The pipeline's data -/

variable (ch : Fin 4) (m : (ℓ : Loc nD τ sig) → Buf (Elt F) ℓ) (ρ : Dev nD → PrngReg)

/-- A window's block at a point, read off its array at launch. -/
def iblk (c : Dev nD) (w : Fin (cfgC F ch).W) (t : Fin (cfgC F ch).N) :
    (((cfgC F ch).win w).xblock (grid0.coords t)).Idx → Elt F ((cfgC F ch).win w).elt :=
  (((cfgC F ch).win w).blk t).view.read (Elt F) ((s₀ m ρ).mem (((cfgC F ch).win w).arr.view.loc (c : Thread nD τ)))
/-- The chip's grid point. -/
def mine : Fin (cfgC F ch).N := ⟨ch.val, Nat.lt_of_lt_of_eq ch.isLt N_0.symm⟩
/-- After a point the part's buffer holds the point's part, and the own part's, once stored, the chip's. -/
def dats (_ : Fin 1) (c : Dev nD) : Dat τ (Elt F) Unit ℕ (UR sig nD τ) ℕ (cfgC F ch) c where
  A w := (s₀ m ρ).mem (((cfgC F ch).win w).arr.view.loc (c : Thread nD τ))
  after w t := match w with
    | ⟨0, _⟩ => iblk ch m ρ c (0 : Fin 4) t
    | ⟨1, _⟩ => iblk ch m ρ c (1 : Fin 4) t
    | ⟨2, _⟩ => own (iblk ch m ρ c (0 : Fin 4) (mine ch)) (iblk ch m ρ c (1 : Fin 4) (mine ch))
    | ⟨3, _⟩ => part (iblk ch m ρ c (0 : Fin 4) t) (iblk ch m ρ c (1 : Fin 4) t)
  Φ _ := iprop(chip.view.loc (c : Thread nD τ) ↦{fullShare.right} word ch)
  q _ := fullShare
  owed _ := 0

variable (c : Dev nD) (t : Fin (cfgC F ch).N)

theorem after_0 : (dats ch m ρ 0 c).after (0 : Fin 4) t = iblk ch m ρ c (0 : Fin 4) t := by dsimp only [dats]
theorem after_1 : (dats ch m ρ 0 c).after (1 : Fin 4) t = iblk ch m ρ c (1 : Fin 4) t := by dsimp only [dats]
theorem after_2 : (dats ch m ρ 0 c).after (2 : Fin 4) t = own (iblk ch m ρ c (0 : Fin 4) (mine ch)) (iblk ch m ρ c (1 : Fin 4) (mine ch)) := by dsimp only [dats]
theorem after_3 : (dats ch m ρ 0 c).after (3 : Fin 4) t = part (iblk ch m ρ c (0 : Fin 4) t) (iblk ch m ρ c (1 : Fin 4) t) := by dsimp only [dats]
theorem before_0 (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
/-- A buffer that holds the own part keeps it. -/
theorem before_2 (h : (cfgC F ch).fresh (2 : Fin 4) t.val = false) (d) :
    (dats ch m ρ 0 c).before (2 : Fin 4) t d = own (iblk ch m ρ c (0 : Fin 4) (mine ch)) (iblk ch m ρ c (1 : Fin 4) (mine ch)) := by
  rw [(dats ch m ρ 0 c).before_out_traj (2 : Fin 4) rfl (fun _ _ => rfl) (fun _ _ _ _ => by rw [after_2, after_2]) t.val t rfl d]
  rw [h]
  exact after_2 ch m ρ c _

/-! ## The body's obligation -/

abbrev st0 : Memref sig .tc .vmem S1x704x2048 .bf16 := spec0_0.stage ((cfgC F ch).slots t (0 : Fin 4))
abbrev st1 : Memref sig .tc .vmem S2048x1024 .bf16 := spec0_1.stage ((cfgC F ch).slots t (1 : Fin 4))
abbrev st2 : Memref sig .tc .vmem S704x1024 .f32 := spec0_2.stage ((cfgC F ch).slots t (2 : Fin 4))
abbrev st3 : Memref sig .tc .vmem S1x704x1024 .bf16 := spec0_3.stage ((cfgC F ch).slots t (3 : Fin 4))
abbrev bodyAt : Prog (TpuEff nD τ sig (Elt F) Λ₀ .tc) PUnit :=
  cc0_nn_mm (grid0.coords t) chip (Memref.isWhole_whole _) (st0 ch t) (hstage0_0 (((cfgC F ch).slots t (0 : Fin 4)).cast nbuf0_0)) (st1 ch t) (hstage0_1 (((cfgC F ch).slots t (1 : Fin 4)).cast nbuf0_1))
    (st2 ch t) (hstage0_2 (((cfgC F ch).slots t (2 : Fin 4)).cast nbuf0_2)) (st3 ch t) (hstage0_3 (((cfgC F ch).slots t (3 : Fin 4)).cast nbuf0_3))

set_option maxHeartbeats 4000000 in
theorem body : iprop((dats ch m ρ 0 c).Φ t.castSucc ∗ (dats ch m ρ 0 c).owesAt () t.castSucc
      ∗ (∃ d, owns (c : Thread nD τ) (st0 ch t) fullShare ((dats ch m ρ 0 c).before (0 : Fin 4) t d))
      ∗ (∃ d, owns (c : Thread nD τ) (st1 ch t) fullShare ((dats ch m ρ 0 c).before (1 : Fin 4) t d))
      ∗ (∃ d, owns (c : Thread nD τ) (st2 ch t) fullShare ((dats ch m ρ 0 c).before (2 : Fin 4) t d))
      ∗ (∃ d, owns (c : Thread nD τ) (st3 ch t) fullShare ((dats ch m ρ 0 c).before (3 : Fin 4) t d)))
    ⊢ wp frame (wpE (defs₀ (F := F)) Variants.none c none) Set.univ (bodyAt ch t) fun _ =>
        iprop((dats ch m ρ 0 c).Φ t.succ ∗ (dats ch m ρ 0 c).owesAt () t.succ
          ∗ bigSep Finset.univ fun w : Fin (cfgC F ch).W =>
              match (cfgC F ch).idle w ((cfgC F ch).grid.coords t) with
              | true =>
                match ((cfgC F ch).win w).flush t with
                | false => iprop(∃ d, owns (c : Thread nD τ) (((cfgC F ch).win w).stage ((cfgC F ch).slots t w)) fullShare ((dats ch m ρ 0 c).before w t d))
                | true => owns (c : Thread nD τ) (((cfgC F ch).win w).stage ((cfgC F ch).slots t w)) fullShare ((dats ch m ρ 0 c).after w t)
              | false => owns (c : Thread nD τ) (((cfgC F ch).win w).stage ((cfgC F ch).slots t w)) fullShare ((dats ch m ρ 0 c).after w t)) := by
  obtain ⟨hp, i2, f2, i3, f3, fr⟩ := schedule' (F := F) ch t
  rw [bigSep_W0]
  rewrite [i2, i3]
  simp only [before_0, before_1, after_0, after_1, after_2, after_3]
  rewrite [show (dats ch m ρ 0 c).Φ t.succ = iprop(chip.view.loc (c : Thread nD τ) ↦{fullShare.right} word ch) from rfl,
    show (dats ch m ρ 0 c).Φ t.castSucc = iprop(chip.view.loc (c : Thread nD τ) ↦{fullShare.right} word ch) from rfl,
    show (dats ch m ρ 0 c).owesAt () t.succ = (dats ch m ρ 0 c).owesAt () t.castSucc from rfl]
  iintro ⟨HT, Ho, ⟨%d0, H0⟩, ⟨%d1, H1⟩, ⟨%d2, H2⟩, ⟨%d3, H3⟩⟩
  iapply (run c (grid0.coords t) _ _ _ _ _ _ _ _ (word ch) (iblk ch m ρ c (0 : Fin 4) t) (iblk ch m ρ c (1 : Fin 4) t) _ (t.val = ch.val) hp _)
  isplitl [H0]; · iexact H0
  isplitl [H1]; · iexact H1
  isplitl [HT]; · iexact HT
  isplitl [H2]; · iexact H2
  isplitl [H3]; · iexists _; iexact H3
  iintro ⟨H0, H1, HT, H2, H3⟩
  isplitl [HT]; · iexact HT
  isplitl [Ho]; · iexact Ho
  isplitl [H0]; · iexact H0
  isplitl [H1]; · iexact H1
  isplitl [H2]
  · by_cases q : t.val = ch.val
    · obtain rfl : t = mine ch := Fin.ext q
      rewrite [if_pos q, show (!((mine (F := F) ch).val == ch.val)) = false from by rw [q]; simp]
      iexact H2
    · rewrite [if_neg q, show (!(t.val == ch.val)) = true from by simpa using q, f2]
      by_cases l : t.val = 3
      · rewrite [show (t.val == 3) = true from by simpa using l, before_2 ch m ρ c t (fr l q)]
        iexact H2
      · rewrite [show (t.val == 3) = false from by simpa using l]
        iexists d2; iexact H2
  iexact H3

/-- The library's obligation, at every point. -/
theorem obligation : BodyObligation (dats ch m ρ 0 c) (defs₀ (F := F)) Variants.none () Set.univ := fun t => by
  rw [bigSep_W0]
  exact body ch m ρ c t

end Cert.Product

end
-- ==== Proof.ProductRun.lean ====
/-
  The run of the product that keeps one part in full (`nn_mm`), on every chip, and its frame, at any reading of the
  numbers. The program and its ideal reading are one text, so one proof serves both.
-/
module

public import proofs.«01_k».proof.Proof.ProductFrame
public import proofs.«01_k».proof.Proof.Gen.NnMm

@[expose] public section

set_option maxRecDepth 16384
set_option backward.isDefEq.respectTransparency false

noncomputable section

namespace Cert.Product

open NnMmIdeal NnMmIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (ch : Fin 4) (m : (ℓ : Loc nD τ sig) → Buf (Elt F) ℓ) (ρ : Dev nD → PrngReg)

/-- The memory's chip is `ch`, on every device. -/
def OnChip : Prop := ∀ c : Dev nD, m ((c : Thread nD τ).loc main_arg0) = word ch
abbrev pcs : Fin 1 → Pipeline.Cfg sig Λ₀ := Pipeline.pin (pcfgs (F := F)) fun _ => adm ch
theorem cells_inj : Function.Injective (Pipeline.cellOf (nD := nD) (τ := τ) (pcs (F := F) ch)) := (launch0 (F := F)).cellOf_inj fun _ => adm ch

theorem share_eq (c : Dev nD) (w : Fin (cfgC F ch).W) : (dats ch m ρ 0 c).share w = fullShare := by unfold Dat.share; split <;> rfl

/-- The one table, as the launch hands it over. -/
theorem held (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem enter (c : Dev nD) :
    iprop(BI.emp ∗ Pipeline.prefHeld pre0 c (fun _ => fullShare.right) (adm (F := F) ch).1 ∗ Pipeline.scopedRest spec0 c) ⊢ (dats ch m ρ 0 c).Φ 0 := by
  rw [held, scopedRest0_eq, show (dats ch m ρ 0 c).Φ 0 = iprop(chip.view.loc (c : Thread nD τ) ↦{fullShare.right} word ch) from rfl]
  iintro ⟨-, HT, -⟩
  iexact HT

theorem leave (c : Dev nD) : (dats ch m ρ 0 c).Φ (Fin.last (cfgC F ch).N) ⊢ iprop(BI.emp ∗ Pipeline.scopedRest spec0 c) := by
  rw [scopedRest0_eq]
  iintro -
  isplitr <;> iempintro

/-- Every array ends at what the pipeline's data say, and the table as it was. -/
def Ends : PUnit × MemSt nD τ sig (Elt F) → Prop := fun r =>
  ∀ c : Dev nD, (∀ w : Fin (cfgC F ch).W, r.2.mem (((cfgC F ch).win w).arr.view.loc (c : Thread nD τ)) = (dats ch m ρ 0 c).arrAt w (cfgC F ch).N)
    ∧ ∀ j, r.2.mem ((c : Thread nD τ).loc (pre0.ref j)) = (adm ch).1 j

set_option backward.isDefEq.respectTransparency.types false in
set_option maxHeartbeats 4000000 in
theorem ends (hp : OnChip ch m) : θ_run (defs (F := F)) (onTc (τ := τ) (main (F := F))) (s₀ m ρ) (fun r => Ends ch m ρ r ∧ r.2.sem = fun _ => 0) :=
  Pipeline.θ_run_region_noSem_pf_quiescent pcfgs (fun _ => adm ch) (dats ch m ρ) () (cells_inj ch) (0 : Fin 1)
    (launch0 (F := F)).win.to₀ (launch0 (F := F)).pre emb₁ defs₀ Variants.none m ρ main
    (hbody := fun c => (obligation ch m ρ c).loose) (hne := (launch0 (F := F)).block_pos)
    (harr := (launch0 (F := F)).arr_whole) (hstage := (launch0 (F := F)).stage_whole) (howed := fun _ _ => rfl)
    (u₀ := initOf (Pipeline.cells (pcs ch) (cells_inj ch)) (Pipeline.launchToks (pcs ch) (cells_inj ch))) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := F)).win.arr_inj c (launch0 (F := F)).arr_whole
      (share_eq ch m ρ c) _ _ fun _ => rfl)
    (hpf := fun c j => by fin_cases j; exact hp c)
    (X := fun _ => iprop(emp)) (Y := fun _ => iprop(emp)) (Z := fun _ => iprop(emp))
    (hX := fun c => by rw [unscopedRestP0_eq]; iintro -; isplitr <;> iempintro)
    (hin := enter ch m ρ) (hout := leave ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem kept (hp : OnChip ch m) {r : PUnit × MemSt nD τ sig (Elt F)} (h : Ends ch m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 0).trans (hp c).symm, ((h c).1 (0 : Fin 4)).trans ((dats ch m ρ 0 c).arrAt_in (0 : Fin 4) rfl _), ((h c).1 (1 : Fin 4)).trans ((dats ch m ρ 0 c).arrAt_in (1 : Fin 4) rfl _)⟩

/-- The frame, on a chip. -/
theorem frame (hp : OnChip ch m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept ch m ρ hp h.1, h.2⟩) (ends ch m ρ hp)

/-! ## The program is its ideal reading's text -/

theorem table_eq : NnMm.defs₀ (F := F) = defs₀ (F := F) := by
  unfold NnMm.defs₀ defs₀
  refine congrArg Defs.onTc (funext fun l => funext fun a => ?_)
  match l, a with
  | ⟨0, _⟩, (t, s) => rfl
  | ⟨_ + 1, h⟩, _ => exact absurd h (by simp)
set_option backward.isDefEq.respectTransparency.types false in
theorem defs_eq : NnMm.defs (F := F) = defs (F := F) := congrArg (Pipeline.defs pcfgs) table_eq

set_option backward.isDefEq.respectTransparency.types false in
/-- The frame of the program. -/
theorem frame_bits (m : (ℓ : Loc NnMm.nD NnMm.τ NnMm.sig) → Buf (Elt F) ℓ) (ρ : Dev NnMm.nD → PrngReg) (hp : OnChip ch m) :
    θ_run (NnMm.defs (F := F)) (onTc (τ := NnMm.τ) (NnMm.main (F := F))) ⟨m, fun _ => 0, ρ⟩ (fun r => (∀ c : Dev NnMm.nD,
      r.2.mem ((c.tc : Thread NnMm.nD NnMm.τ).loc NnMm.main_arg0) = m ((c.tc : Thread NnMm.nD NnMm.τ).loc NnMm.main_arg0)
      ∧ r.2.mem ((c.tc : Thread NnMm.nD NnMm.τ).loc NnMm.main_arg1) = m ((c.tc : Thread NnMm.nD NnMm.τ).loc NnMm.main_arg1)
      ∧ r.2.mem ((c.tc : Thread NnMm.nD NnMm.τ).loc NnMm.main_arg2) = m ((c.tc : Thread NnMm.nD NnMm.τ).loc NnMm.main_arg2))
      ∧ r.2.sem = fun _ => 0) := by
  rw [defs_eq]
  exact frame ch m ρ hp

end Cert.Product

end
-- ==== Proof.ProductValue.lean ====
/-
  The values of the product that keeps one part in full (`nn_mm`): each part of the weight's gradient is the product of the part's
  activations with the cotangents, and the part kept in full is the chip's. Kernel and reference have the same sums, so all is said
  of extended reals.
-/
module

public import proofs.«01_k».proof.Proof.ProductRun
public import proofs.«01_k».proof.Proof.Blocks
public import proofs.«01_k».proof.Proof.Gen.NnMmRefIdeal.Read
public import Idealize.ShloMosaic.Lib.Pipeline.ValueKit.Tiles
public import Idealize.ShloMosaic.Lib.Pipeline.ReadBack
public import Idealize.ShloMosaic.Lib.StableHlo.ReadAt

@[expose] public section

set_option maxRecDepth 16384
set_option backward.isDefEq.respectTransparency false

noncomputable section

namespace Cert.Product

open Idealize.ShloMosaic

/-- The parts of the gradient, and one of them. -/
def parts (A : (⟨3, ![4, 704, 2048]⟩ : Shape).Idx → EReal) (B : (⟨2, ![2048, 1024]⟩ : Shape).Idx → EReal) : (⟨3, ![4, 704, 1024]⟩ : Shape).Idx → EReal :=
  fun i => ∑ k : Fin 2048, A (ix3 (i 0) (i 1) k) * B (ix2 k (i 2))
def one (G : (⟨3, ![4, 704, 1024]⟩ : Shape).Idx → EReal) (ch : Fin 4) : (⟨2, ![704, 1024]⟩ : Shape).Idx → EReal := fun i => G (ix3 ch (i 0) (i 1))

/-! ## The reference -/

section Reference

open NnMmRefIdeal NnMmRefIdeal.Read

variable (A : (⟨3, ![4, 704, 2048]⟩ : Shape).Idx → EReal) (B : (⟨2, ![2048, 1024]⟩ : Shape).Idx → EReal) (ch : Fin 4)

theorem v8 : val_main_v8 (F := Ideal) A B = parts A B := by
  funext i
  rw [val_main_v8_apply, val_main_v7_apply, val_main_v6_apply]
  unfold parts
  refine Finset.sum_congr rfl fun k _ => ?_
  rw [mul_comm]
  have h0 : (i 0).val < 4 := (i 0).isLt
  have h1 : (i 1).val < 704 := (i 1).isLt
  have h2 : (i 2).val < 1024 := (i 2).isLt
  have hk := k.isLt
  refine congrArg₂ (· * ·) ((val_main_v1_apply (F := Ideal) A _).trans ((val_main_v0_apply (F := Ideal) A _).trans (congrArg A (funext fun a => Fin.ext ?_)))) (congrArg B (funext fun a => Fin.ext ?_))
  · match a with
    | ⟨0, _⟩ => show (k.val * 2816 + (((i 0).val * 704 + (i 1).val) * 1024 + (i 2).val) / 1024) / 704 % 4 = (i 0).val; omega
    | ⟨1, _⟩ => show (k.val * 2816 + (((i 0).val * 704 + (i 1).val) * 1024 + (i 2).val) / 1024) % 704 = (i 1).val; omega
    | ⟨2, _⟩ => show (k.val * 2816 + (((i 0).val * 704 + (i 1).val) * 1024 + (i 2).val) / 1024) / 2816 = k.val; omega
  · match a with
    | ⟨0, _⟩ => rfl
    | ⟨1, _⟩ => show (((i 0).val * 704 + (i 1).val) * 1024 + (i 2).val) % 1024 = (i 2).val; omega

theorem v16 : val_main_v16 (F := Ideal) A B = parts A B := by
  funext i
  rw [val_main_v16_apply, v8]
  rfl

/-- Two words are compared as the chips they name. -/
theorem same : ∀ k ch : Fin 4, IntOp.cmpi .eq (BitVec.ofNat 32 k.val) (BitVec.ofNat 32 ch.val) = if k = ch then 1#1 else 0#1 := by decide
theorem mask (i : S4x704x1024.Idx) (k : Fin 4) (hk : i 0 = k) : val_main_call0_v1 (F := Ideal) (word ch) i = if k = ch then 1#1 else 0#1 := by
  rw [val_main_call0_v1_apply, val_main_v13_apply, val_main_v10_apply, val_main_v9_apply, val_main_v12_apply, ← same k ch, ← hk]
  rfl

theorem zero : FloatOps.ofBits (F := Ideal) .f32 0x00000000#32 = (0 : EReal) := by simp [FloatOps.ofBits, Ideal.ofBits, Ideal.ieee]

theorem v15 : val_main_v15 (F := Ideal) (word ch) A B = one (parts A B) ch := by
  funext i
  rw [val_main_v15_apply, val_main_cst_1_apply, zero, zero_add, Finset.sum_eq_single ch]
  · rw [val_main_v14_apply, mask ch _ ch rfl, if_pos rfl, v8]
    rfl
  · intro k _ hk
    rw [val_main_v14_apply, mask ch _ k rfl, if_neg hk, val_main_call0_v2_apply, val_main_call0_v0_apply, val_main_cst_0_apply, zero]
    rfl
  · exact fun h => absurd (Finset.mem_univ _) h

end Reference

/-! ## The kernel -/

open NnMmIdeal NnMmIdeal.Gen Idealize.ShloMosaic.TcCoe Idealize.SL.Sem Blocks
open Idealize.ShloMosaic.Pipeline (Dat)

section Point

variable (a : (⟨3, ![1, 704, 2048]⟩ : Shape).Idx → EReal) (b : (⟨2, ![2048, 1024]⟩ : Shape).Idx → EReal)

/-- A point's product. -/
def prod : (⟨2, ![704, 1024]⟩ : Shape).Idx → EReal := fun i => ∑ k : Fin 2048, a (ix3 0 (i 0) k) * b (ix2 k (i 1))
theorem pay1 : k0_pay1 (F := Ideal) a b = prod a b := by
  funext i
  pointwise [k0_pay1, prod]
theorem pay2 : k0_pay2 (F := Ideal) a b = fun i => prod a b (ix2 (i 1) (i 2)) := by
  funext i
  pointwise [k0_pay2, pay1]

theorem own_eq : own (F := Ideal) a b = prod a b := by
  unfold own rOwn rA rB
  rw [View.canon_unit_zero (S := S704x1024) off2, View.ld_unit_zero (S := S1x704x2048) off3, View.ld_unit_zero (S := S2048x1024) off2, pay1]
theorem part_eq : part (F := Ideal) a b = fun i => prod a b (ix2 (i 1) (i 2)) := by
  unfold part rAll rA rB
  rw [View.canon_unit_zero (S := S1x704x1024) off3, View.ld_unit_zero (S := S1x704x2048) off3, View.ld_unit_zero (S := S2048x1024) off2, pay2]

end Point

variable (ch : Fin 4) (m : (ℓ : Loc nD τ sig) → Buf (Elt Ideal) ℓ) (ρ : Dev nD → PrngReg) (c : Dev nD)

abbrev acts : (⟨3, ![4, 704, 2048]⟩ : Shape).Idx → EReal := m ((c.tc : Thread nD τ).loc main_arg1)
abbrev cots : (⟨2, ![2048, 1024]⟩ : Shape).Idx → EReal := m ((c.tc : Thread nD τ).loc main_arg2)

theorem idx0 : Along 0 (fun t : Fin grid0.N => ((cfgC Ideal ch).win (0 : Fin 4)).index t) := by revert ch; decide +kernel
theorem idx1 : Whole (fun t : Fin grid0.N => ((cfgC Ideal ch).win (1 : Fin 4)).index t) := by revert ch; decide +kernel
theorem idx2 : Whole (fun t : Fin grid0.N => ((cfgC Ideal ch).win (2 : Fin 4)).index t) := by revert ch; decide +kernel
theorem idx3 : Along 0 (fun t : Fin grid0.N => ((cfgC Ideal ch).win (3 : Fin 4)).index t) := by revert ch; decide +kernel

variable (t : Fin (cfgC Ideal ch).N)

theorem in0 : iblk ch m ρ c (0 : Fin 4) t = fun j => acts m c (ix3 (t.cast N_0) (j 1) (j 2)) :=
  funext fun j => congrArg (acts m c) (head_at N_0 (idx0 ch) t _ j fun _ => rfl)
theorem in1 : iblk ch m ρ c (1 : Fin 4) t = cots m c :=
  funext fun j => congrArg (cots m c) (whole_at (idx1 ch) t _ j fun _ => rfl)

/-- The parts, after the run. -/
theorem final3 : (dats ch m ρ 0 c).arrAt (3 : Fin 4) (cfgC Ideal ch).N = parts (acts m c) (cots m c) := by
  refine (dats ch m ρ 0 c).arrAt_eq_of_cover (3 : Fin 4) _ (fun t _ => ?_) fun x => ⟨(⟨(x (0 : Fin 3)).val, Nat.lt_of_lt_of_eq (x (0 : Fin 3)).isLt N_0.symm⟩ : Fin (cfgC Ideal ch).N), (schedule' ch _).2.2.2.2.1, ?_⟩
  · show ((cfgC Ideal ch).win (3 : Fin 4)).cut (grid0.coords t) ((dats ch m ρ 0 c).after (3 : Fin 4) t) = _
    rw [after_3, in0, in1, part_eq]
    funext j
    rw [View.read_apply]
    have e : (((cfgC Ideal ch).win (3 : Fin 4)).blk t).view.emb j = (ix3 (t.cast N_0) (j 1) (j 2) : S4x704x1024.Idx) := head_at N_0 (idx3 ch) t _ j fun _ => rfl
    rw [e]
    rfl
  · exact in_block (along_has (idx3 ch) _ x (Nat.div_one _).symm (show 0 < 1 by decide) (show ∀ a : Fin 3, a ≠ 0 → (![1, 704, 1024] : Fin 3 → Nat) a = (![4, 704, 1024] : Fin 3 → Nat) a by decide))

/-- The chip's part, after the run. -/
theorem final2 : (dats ch m ρ 0 c).arrAt (2 : Fin 4) (cfgC Ideal ch).N = one (parts (acts m c) (cots m c)) ch := by
  refine (dats ch m ρ 0 c).arrAt_eq_of_cover (2 : Fin 4) _ (fun t _ => ?_) fun x => ⟨(⟨3, Nat.lt_of_lt_of_eq (by decide) N_0.symm⟩ : Fin (cfgC Ideal ch).N), (schedule' ch _).2.2.1, ?_⟩
  · show ((cfgC Ideal ch).win (2 : Fin 4)).cut (grid0.coords t) ((dats ch m ρ 0 c).after (2 : Fin 4) t) = _
    rw [after_2, in0, in1, own_eq]
    funext j
    rw [View.read_apply]
    have e : (((cfgC Ideal ch).win (2 : Fin 4)).blk t).view.emb j = (j : S704x1024.Idx) := whole_at (idx2 ch) t _ j fun _ => rfl
    rw [e]
    rfl
  · exact in_block (whole_has (idx2 ch) _ x)

end Cert.Product

end
-- ==== Proof.ProductClaims.lean ====
/-
  The claims about the product that keeps one part in full (`nn_mm`): the frames on the mesh's chips, and the equality of the
  results over the extended reals.
-/
module

public import proofs.«01_k».proof.Defs
public import proofs.«01_k».proof.Proof.ProductValue
public import proofs.«01_k».proof.Proof.Gen.Pre_a_chip

@[expose] public section

noncomputable section

namespace Cert.ProductClaims

open Idealize.ShloMosaic TcCoe Idealize.SL.Sem Product

/-- A word from 0 to 3 is a chip's. -/
theorem named (w : BitVec 32) (h : IntOp.andi (IntOp.cmpi .sge w 0#32) (IntOp.cmpi .slt w 4#32) = 1#1) : ∃ ch : Fin 4, w = BitVec.ofNat 32 ch.val := by
  have hb : BitVec.ofBool ((0#32).sle w && w.slt 4#32) = 1#1 := by simpa [IntOp.andi, IntOp.cmpi] using h
  obtain ⟨h0, h4⟩ := (Bool.and_eq_true_iff (x := (0#32).sle w) (y := w.slt 4#32)).1 (by revert hb; cases ((0#32).sle w && w.slt 4#32) <;> decide)
  have hw : w.toNat < 4 := by
    rw [BitVec.sle_eq_decide, decide_eq_true_eq, show (0#32).toInt = 0 from by decide, BitVec.toInt_eq_toNat_cond] at h0
    rw [BitVec.slt_eq_decide, decide_eq_true_eq, show (4#32).toInt = 4 from by decide, BitVec.toInt_eq_toNat_cond] at h4
    split_ifs at h0 h4 <;> omega
  exact ⟨⟨w.toNat, hw⟩, (BitVec.ofNat_toNat 32 w).symm.trans (by simp)⟩

/-- The precondition says that the first argument is a chip's number. -/
theorem a_chip {F : FTy → Type} [FloatOps F] (w : IVec Pre_a_chip.S1 32) (x : FVec F Pre_a_chip.S4x704x2048 .bf16) (y : FVec F Pre_a_chip.S2048x1024 .bf16)
    (h : Pre_a_chip.fn (F := F) w x y = fun _ => 1#1) : ∃ ch : Fin 4, w = word ch := by
  have h0 := congrFun h default
  unfold Pre_a_chip.fn at h0
  obtain ⟨ch, hc⟩ := named _ h0
  refine ⟨ch, funext fun i => ?_⟩
  exact (congrArg w (funext fun a => match a with | ⟨0, _⟩ => Subsingleton.elim (α := Fin 1) _ _)).trans hc

theorem quiescent : quiescent_NnMm := fun m g hp => by
  obtain ⟨ch, h⟩ := a_chip _ _ _ (hp 0)
  exact frame_bits ch m g fun c => by rw [Subsingleton.elim c 0]; exact h

theorem on_chip (m : (ℓ : Loc NnMmIdeal.nD NnMmIdeal.τ NnMmIdeal.sig) → Buf (Elt Ideal) ℓ) (hp : Pre_NnMmIdeal m) : ∃ ch, OnChip ch m := by
  obtain ⟨ch, h⟩ := a_chip _ _ _ (hp 0)
  exact ⟨ch, fun c => by rw [Subsingleton.elim c 0]; exact h⟩

theorem quiescent_ideal : quiescent_NnMmIdeal := fun m g hp => by
  obtain ⟨ch, h⟩ := on_chip m hp
  exact frame ch m g h

/-- The reference runs and leaves its arguments. -/
theorem quiescent_ref : quiescent_NnMmRefIdeal := fun m g _ =>
  (θ_run NnMmRefIdeal.defs _ _).mono (fun r h => ⟨fun c => (h c).2.2,
    Idealize.ShloMosaic.sem_eq_zero_of_no_sems (by decide) r.2⟩) (NnMmRefIdeal.Value.run (F := Ideal) m g)

set_option maxHeartbeats 2000000 in
/-- The results are the reference's. -/
theorem algebraic : algebraic_NnMmIdeal_NnMmRefIdeal := by
  intro m g m' g' hp hagree
  obtain ⟨ch, hc⟩ := on_chip m hp
  refine ⟨fun c => one (parts (acts m c) (cots m c)) ch, fun c => parts (acts m c) (cots m c), ?_, ?_⟩
  · refine (θ_run NnMmIdeal.defs _ _).mono (fun r h c => ?_) (ends ch m g hc)
    exact ⟨((h.1 c).1 (2 : Fin 4)).trans (final2 ch m g c), ((h.1 c).1 (3 : Fin 4)).trans (final3 ch m g c), kept ch m g hc h.1 c⟩
  · refine (θ_run NnMmRefIdeal.defs _ _).mono (fun r h c => ?_) (NnMmRefIdeal.Value.run (F := Ideal) m' g')
    obtain ⟨e0, e1, e2⟩ := h c
    obtain ⟨a0, a1, a2⟩ := hagree c
    refine ⟨e0.trans ?_, e1.trans ?_, e2⟩
    all_goals beta_reduce; rw [a1, a2]
    · rw [a0, hc c]
      exact (NnMmRefIdeal.Read.val_main_v15_eq _ _ _).trans (v15 _ _ ch)
    · exact (NnMmRefIdeal.Read.val_main_v16_eq _ _).trans (v16 _ _)

end Cert.ProductClaims

end
-- ==== Proof.AdamStep.lean ====
/-
  The optimiser's step on the conditioning's matrices: the two moments and the change of the weights, entry by entry. The kernel
  and the reference do the same operations in the same order, so all is said of extended reals; the call's arrays are the
  arguments with the layers' rows one after the other, and a grid point takes 256 of these rows.
-/
module

public import proofs.«01_k».proof.Proof.Blocks
public import proofs.«01_k».proof.Proof.Gen.AdamRefIdeal.Read
public import proofs.«01_k».proof.Proof.Gen.AdamIdeal.Value
public import Idealize.ShloMosaic.Lib.Pipeline.ValueKit.Tiles
public import Idealize.ShloMosaic.Lib.Pipeline.ReadBack
public import Idealize.ShloMosaic.Lib.StableHlo.ReadAt

@[expose] public section

set_option maxRecDepth 16384
set_option backward.isDefEq.respectTransparency false

noncomputable section

namespace Cert.AdamStep

open Idealize.ShloMosaic

/-- The number that a word stands for. -/
abbrev lit (w : BitVec 32) : EReal := Ideal.ofBits .f32 w

section Entries

variable {S : Shape} (w g m v : S.Idx → EReal)

/-- The first moment, the second moment, and the change of the weights. -/
def first : S.Idx → EReal := fun i => lit 0x3F666666#32 * m i + lit 0x3DCCCCCD#32 * g i
def second : S.Idx → EReal := fun i => lit 0x3F7FBE77#32 * v i + lit 0x3A83126F#32 * (g i * g i)
def change : S.Idx → EReal := fun i => lit 0xBA83126F#32 *
  (Ideal.div (Ideal.div (first g m i) (lit 0x3F26BD02#32)) (Ideal.sqrt (Ideal.div (second g v i) (lit 0x3C231ACC#32)) + lit 0x322BCC77#32)
    + lit 0x3C23D70A#32 * w i)

end Entries

/-- The layers' rows, one after the other. -/
def flat (X : (⟨3, ![4, 1024, 2304]⟩ : Shape).Idx → EReal) : (⟨2, ![4096, 2304]⟩ : Shape).Idx → EReal := fun i =>
  X (AdamRefIdeal.Read.idx_main_v24 i)

section Reference

open AdamRefIdeal AdamRefIdeal.Read

variable (w g m v : (⟨3, ![4, 1024, 2304]⟩ : Shape).Idx → EReal)

theorem v4 : val_main_v4 (F := Ideal) g m = first g m := by
  funext i
  pointwise [val_main_v4, val_main_v3, val_main_v2, val_main_v1, val_main_v0, val_main_cst, val_main_cst_0, first, lit]
theorem v10 : val_main_v10 (F := Ideal) g v = second g v := by
  funext i
  pointwise [val_main_v10, val_main_v9, val_main_v8, val_main_v7, val_main_v6, val_main_v5, val_main_cst_1, val_main_cst_2, second, lit]
theorem v23 : val_main_v23 (F := Ideal) w g m v = change w g m v := by
  funext i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6,
    val_main_cst_7, v4, v10, change, lit]

/-- The reference's results: the flattened arrays' step. -/
theorem v24 : val_main_v24 (F := Ideal) w g m v = change (flat w) (flat g) (flat m) (flat v) := by
  funext i
  rw [val_main_v24_apply, v23]
  unfold change first second flat
  rfl
theorem v25 : val_main_v25 (F := Ideal) g m = first (flat g) (flat m) := by
  funext i
  rw [val_main_v25_apply, v4]
  unfold first flat
  rfl
theorem v26 : val_main_v26 (F := Ideal) g v = second (flat g) (flat v) := by
  funext i
  rw [val_main_v26_apply, v10]
  unfold second flat
  rfl

end Reference

open AdamIdeal AdamIdeal.Gen Idealize.ShloMosaic.TcCoe Idealize.SL.Sem Blocks
open Idealize.ShloMosaic.Pipeline (Dat)

section Kernel

variable (w g m v : (⟨2, ![256, 2304]⟩ : Shape).Idx → EReal)

/-- What a point stores. -/
theorem pay2 : k0_pay2 (F := Ideal) g m = first g m := by
  funext i
  pointwise [k0_pay2, k0_pay1, first, lit]
theorem pay3 : k0_pay3 (F := Ideal) g v = second g v := by
  funext i
  pointwise [k0_pay3, k0_pay1, second, lit]
theorem pay4 : k0_pay4 (F := Ideal) g m v w = change w g m v := by
  funext i
  pointwise [k0_pay4, pay2, pay3, change, lit]

theorem out4 : out0_4 (F := Ideal) w g m v = change w g m v := by
  unfold out0_4 r0_0
  rw [View.canon_unit_zero (S := S256x2304) off2]
  simp only [View.ld_unit_zero (S := S256x2304) off2, pay4]
theorem out5 : out0_5 (F := Ideal) w g m v = first g m := by
  unfold out0_5 r0_0
  rw [View.canon_unit_zero (S := S256x2304) off2]
  simp only [View.ld_unit_zero (S := S256x2304) off2, pay2]
theorem out6 : out0_6 (F := Ideal) w g m v = second g v := by
  unfold out0_6 r0_0
  rw [View.canon_unit_zero (S := S256x2304) off2]
  simp only [View.ld_unit_zero (S := S256x2304) off2, pay3]

end Kernel

/-- A point's rows: where they lie, and what they are. -/
def place (t : Fin cfg0.N) (j : (⟨2, ![256, 2304]⟩ : Shape).Idx) : (⟨2, ![4096, 2304]⟩ : Shape).Idx :=
  ix2 ⟨t.val * 256 + (j 0).val, by have := lt_of_lt_of_eq t.isLt N_0; have : (j 0).val < 256 := (j 0).isLt; omega⟩ (j 1)
def rows (X : (⟨2, ![4096, 2304]⟩ : Shape).Idx → EReal) (t : Fin cfg0.N) : (⟨2, ![256, 2304]⟩ : Shape).Idx → EReal := fun j => X (place t j)

theorem place_at {f : Fin cfg0.N → Fin 2 → Nat} (hf : Along 0 f) (t : Fin cfg0.N) (e : (⟨2, ![4096, 2304]⟩ : Shape).Idx) (j : (⟨2, ![256, 2304]⟩ : Shape).Idx)
    (he : ∀ a, (e a).val = f t a * (![256, 2304] : Fin 2 → Nat) a + 1 * (j a).val) : e = place t j := by
  funext a
  apply Fin.ext
  have h := he a
  rw [hf t a] at h
  match a with
  | ⟨0, _⟩ => exact h.trans (congrArg (t.val * 256 + ·) (Nat.one_mul _))
  | ⟨1, _⟩ => exact at_rest h

theorem idx0 : Along 0 win0_0.index := by decide +kernel
theorem idx1 : Along 0 win0_1.index := by decide +kernel
theorem idx2 : Along 0 win0_2.index := by decide +kernel
theorem idx3 : Along 0 win0_3.index := by decide +kernel
theorem idx4 : Along 0 win0_4.index := by decide +kernel
theorem idx5 : Along 0 win0_5.index := by decide +kernel
theorem idx6 : Along 0 win0_6.index := by decide +kernel

variable (μ : (ℓ : Loc nD τ sig) → Buf (Elt Ideal) ℓ) (c : Dev nD)

/-- The four arguments, flattened by the host. -/
abbrev aw : (⟨2, ![4096, 2304]⟩ : Shape).Idx → EReal := flat (μ ((c : Thread nD τ).loc main_arg0))
abbrev ag : (⟨2, ![4096, 2304]⟩ : Shape).Idx → EReal := flat (μ ((c : Thread nD τ).loc main_arg1))
abbrev am : (⟨2, ![4096, 2304]⟩ : Shape).Idx → EReal := flat (μ ((c : Thread nD τ).loc main_arg2))
abbrev av : (⟨2, ![4096, 2304]⟩ : Shape).Idx → EReal := flat (μ ((c : Thread nD τ).loc main_arg3))

/-- The host's reshape. -/
theorem reshaped (X : (⟨3, ![4, 1024, 2304]⟩ : Shape).Idx → EReal) (h) : shapeCast (⟨2, ![4096, 2304]⟩ : Shape) X h = flat X := by
  funext i
  refine shapeCast_apply X h i (AdamRefIdeal.Read.idx_main_v24 i) ?_
  rewrite [Shape.rowMajor_val_three, Shape.rowMajor_val_two]
  have h0 : (i 0).val < 4096 := (i 0).isLt
  have h1 : (i 1).val < 2304 := (i 1).isLt
  show (((i 0).val * 2304 + (i 1).val) / 2359296 * 1024 + ((i 0).val * 2304 + (i 1).val) / 2304 % 1024) * 2304 + ((i 0).val * 2304 + (i 1).val) % 2304 = (i 0).val * 2304 + (i 1).val
  omega

theorem host : V μ c main_v0 = aw μ c ∧ V μ c main_v1 = ag μ c ∧ V μ c main_v2 = am μ c ∧ V μ c main_v3 = av μ c := by
  unfold V
  simp only [List.flatten_cons, List.flatten_nil, List.cons_append, List.nil_append, List.append_nil, hostOps0]
  refine ⟨?_, ?_, ?_, ?_⟩ <;> (after_reads_simp; exact reshaped _ _)

theorem in0 (t : Fin cfg0.N) : iblk μ c 0 t = rows (aw μ c) t :=
  funext fun j => (congrFun (host μ c).1 _).trans (congrArg (aw μ c) (place_at idx0 t _ j fun _ => rfl))
theorem in1 (t : Fin cfg0.N) : iblk μ c 1 t = rows (ag μ c) t :=
  funext fun j => (congrFun (host μ c).2.1 _).trans (congrArg (ag μ c) (place_at idx1 t _ j fun _ => rfl))
theorem in2 (t : Fin cfg0.N) : iblk μ c 2 t = rows (am μ c) t :=
  funext fun j => (congrFun (host μ c).2.2.1 _).trans (congrArg (am μ c) (place_at idx2 t _ j fun _ => rfl))
theorem in3 (t : Fin cfg0.N) : iblk μ c 3 t = rows (av μ c) t :=
  funext fun j => (congrFun (host μ c).2.2.2 _).trans (congrArg (av μ c) (place_at idx3 t _ j fun _ => rfl))

/-- The point that takes a row. -/
def taker (x : (⟨2, ![4096, 2304]⟩ : Shape).Idx) : Fin cfg0.N :=
  ⟨(x 0).val / 256, lt_of_lt_of_eq (by have : (x 0).val < 4096 := (x 0).isLt; omega) N_0.symm⟩

/-- What the call leaves. -/
theorem final4 : (dats μ 0 c).arrAt 4 cfg0.N = change (aw μ c) (ag μ c) (am μ c) (av μ c) := by
  refine (dats μ 0 c).arrAt_eq_of_cover 4 _ (fun t _ => ?_) fun x => ⟨taker x, flush0_4 _, ?_⟩
  · rw [AdamIdeal.Value.flushed4, in0, in1, in2, in3, out4]
    exact funext fun j => congrArg (change (aw μ c) (ag μ c) (am μ c) (av μ c)) (place_at idx4 t _ j fun _ => rfl).symm
  · exact in_block (along_has idx4 _ x rfl (by decide) (by decide))
theorem final5 : (dats μ 0 c).arrAt 5 cfg0.N = first (ag μ c) (am μ c) := by
  refine (dats μ 0 c).arrAt_eq_of_cover 5 _ (fun t _ => ?_) fun x => ⟨taker x, flush0_5 _, ?_⟩
  · rw [AdamIdeal.Value.flushed5, in0, in1, in2, in3, out5]
    exact funext fun j => congrArg (first (ag μ c) (am μ c)) (place_at idx5 t _ j fun _ => rfl).symm
  · exact in_block (along_has idx5 _ x rfl (by decide) (by decide))
theorem final6 : (dats μ 0 c).arrAt 6 cfg0.N = second (ag μ c) (av μ c) := by
  refine (dats μ 0 c).arrAt_eq_of_cover 6 _ (fun t _ => ?_) fun x => ⟨taker x, flush0_6 _, ?_⟩
  · rw [AdamIdeal.Value.flushed6, in0, in1, in2, in3, out6]
    exact funext fun j => congrArg (second (ag μ c) (av μ c)) (place_at idx6 t _ j fun _ => rfl).symm
  · exact in_block (along_has idx6 _ x rfl (by decide) (by decide))

end Cert.AdamStep

end
-- ==== Proof.AdamClaims.lean ====
/-
  The claims about the optimiser's step: the reference's frame, and the equality of the results over the extended reals, for all
  arguments.
-/
module

public import proofs.«01_k».proof.Defs
public import proofs.«01_k».proof.Proof.AdamStep
public import proofs.«01_k».proof.Proof.Gen.Adam.Frame

@[expose] public section

noncomputable section

namespace Cert.AdamClaims

open Idealize.ShloMosaic TcCoe Idealize.SL.Sem AdamStep

/-- The reference runs and leaves its arguments. -/
theorem quiescent_ref : quiescent_AdamRefIdeal := fun m g _ =>
  (θ_run AdamRefIdeal.defs _ _).mono (fun r h => ⟨fun c => (h c).2.2.2,
    Idealize.ShloMosaic.sem_eq_zero_of_no_sems (by decide) r.2⟩) (AdamRefIdeal.Value.run (F := Ideal) m g)

set_option maxHeartbeats 2000000 in
/-- The results are the reference's. -/
theorem algebraic : algebraic_AdamIdeal_AdamRefIdeal := by
  intro m g m' g' _ hagree
  refine ⟨fun c => change (aw m c) (ag m c) (am m c) (av m c), fun c => first (ag m c) (am m c), fun c => second (ag m c) (av m c), ?_, ?_⟩
  · refine (θ_run AdamIdeal.defs _ _).mono (fun r h c => ?_) (AdamIdeal.Value.run_blocks m g)
    obtain ⟨e0, e1, e2, e3⟩ := h c
    exact ⟨e0.trans (final4 m c), e1.trans (final5 m c), e2.trans (final6 m c), e3⟩
  · refine (θ_run AdamRefIdeal.defs _ _).mono (fun r h c => ?_) (AdamRefIdeal.Value.run (F := Ideal) m' g')
    obtain ⟨e0, e1, e2, e3⟩ := h c
    obtain ⟨a0, a1, a2, a3⟩ := hagree c
    refine ⟨e0.trans ?_, e1.trans ?_, e2.trans ?_, e3⟩
    all_goals beta_reduce; rw [a1]
    · rw [a0, a2, a3]
      exact (AdamRefIdeal.Read.val_main_v24_eq _ _ _ _).trans (v24 _ _ _ _)
    · rw [a2]
      exact (AdamRefIdeal.Read.val_main_v25_eq _ _).trans (v25 _ _)
    · rw [a3]
      exact (AdamRefIdeal.Read.val_main_v26_eq _ _).trans (v26 _ _)

end Cert.AdamClaims

end
-- ==== Proof.lean ====
/-
  The proof of the certificate's claim: the claims about each call are proved in the call's own `…Claims` module, and
  assembled here.
-/
module

public import proofs.«01_k».proof.Proof.LossClaims
public import proofs.«01_k».proof.Proof.AttnBwdClaims
public import proofs.«01_k».proof.Proof.MlaClaims
public import proofs.«01_k».proof.Proof.MixClaims
public import proofs.«01_k».proof.Proof.AdaClaims
public import proofs.«01_k».proof.Proof.OutProjClaims
public import proofs.«01_k».proof.Proof.FfnClaims
public import proofs.«01_k».proof.Proof.AttnFwdClaims
public import proofs.«01_k».proof.Proof.PoolClaims
public import proofs.«01_k».proof.Proof.MixInFwdClaims
public import proofs.«01_k».proof.Proof.AdaFwdClaims
public import proofs.«01_k».proof.Proof.MlaFwdClaims
public import proofs.«01_k».proof.Proof.ProductClaims
public import proofs.«01_k».proof.Proof.AdamClaims

@[expose] public section

noncomputable section

namespace Cert.Proof

open Idealize.ShloMosaic Idealize.SL.Sem

theorem claim : Cert.Claim := ⟨Loss.Gen.facts, LossIdeal.Gen.facts, LossRefIdeal.Gen.facts,
  AttnBwd.Gen.facts, AttnBwdIdeal.Gen.facts, AttnBwdRefIdeal.Gen.facts,
  MlaBwd.Gen.facts, MlaBwdIdeal.Gen.facts, MlaBwdRefIdeal.Gen.facts,
  MixInBwd.Gen.facts, MixInBwdIdeal.Gen.facts, MixInBwdRefIdeal.Gen.facts,
  AdaBwd.Gen.facts, AdaBwdIdeal.Gen.facts, AdaBwdRefIdeal.Gen.facts,
  OutProj.Gen.facts, OutProjIdeal.Gen.facts, OutProjRefIdeal.Gen.facts,
  Ffn.Gen.facts, FfnIdeal.Gen.facts, FfnRefIdeal.Gen.facts,
  AttnFwd.Gen.facts, AttnFwdIdeal.Gen.facts, AttnFwdRefIdeal.Gen.facts,
  PoolBwd.Gen.facts, PoolBwdIdeal.Gen.facts, PoolBwdRefIdeal.Gen.facts,
  MixIn.Gen.facts, MixInIdeal.Gen.facts, MixInRefIdeal.Gen.facts,
  Ada.Gen.facts, AdaIdeal.Gen.facts, AdaRefIdeal.Gen.facts,
  MlaFwd.Gen.facts, MlaFwdIdeal.Gen.facts, MlaFwdRefIdeal.Gen.facts,
  NnMm.Gen.facts, NnMmIdeal.Gen.facts, NnMmRefIdeal.Gen.facts,
  Adam.Gen.facts, AdamIdeal.Gen.facts, AdamRefIdeal.Gen.facts,
  Pre_finite_loss.Gen.facts, Pre_finite_attn_bwd.Gen.facts, Pre_finite_mla_qkv_bwd.Gen.facts, Pre_finite_mix_in_bwd.Gen.facts, Pre_finite_ada_bwd.Gen.facts, Pre_finite_out_proj.Gen.facts, Pre_finite_ffn.Gen.facts, Pre_finite_attn_fwd.Gen.facts, Pre_finite_pool_bwd.Gen.facts, Pre_finite_mla_qkv_fwd.Gen.facts, Pre_a_chip.Gen.facts, by
  exact ⟨
    fun m ρ _ => Loss.Gen.frame m ρ, fun m ρ _ => LossIdeal.Gen.frame m ρ, fun m ρ _ => LossIdeal.Gen.frame m ρ,
    LossClaims.quiescent_ref, fun m ρ _ => LossClaims.quiescent_ref m ρ trivial,
    fun m ρ _ => AttnBwd.Gen.frame m ρ, fun m ρ _ => AttnBwdIdeal.Gen.frame m ρ, fun m ρ _ => AttnBwdIdeal.Gen.frame m ρ,
    AttnBwdClaims.quiescent_ref, fun m ρ _ => AttnBwdClaims.quiescent_ref m ρ trivial,
    fun m ρ _ => MlaBwd.Gen.frame m ρ, fun m ρ _ => MlaBwdIdeal.Gen.frame m ρ, fun m ρ _ => MlaBwdIdeal.Gen.frame m ρ,
    MlaClaims.quiescent_ref, fun m ρ _ => MlaClaims.quiescent_ref m ρ trivial,
    fun m ρ _ => MixInBwd.Gen.frame m ρ, fun m ρ _ => MixInBwdIdeal.Gen.frame m ρ, fun m ρ _ => MixInBwdIdeal.Gen.frame m ρ,
    MixClaims.quiescent_ref, fun m ρ _ => MixClaims.quiescent_ref m ρ trivial,
    fun m ρ _ => AdaBwd.Gen.frame m ρ, fun m ρ _ => AdaBwdIdeal.Gen.frame m ρ, fun m ρ _ => AdaBwdIdeal.Gen.frame m ρ,
    AdaClaims.quiescent_ref, fun m ρ _ => AdaClaims.quiescent_ref m ρ trivial,
    fun m ρ _ => OutProj.Gen.frame m ρ, fun m ρ _ => OutProjIdeal.Gen.frame m ρ, fun m ρ _ => OutProjIdeal.Gen.frame m ρ,
    OutProjClaims.quiescent_ref, fun m ρ _ => OutProjClaims.quiescent_ref m ρ trivial,
    fun m ρ _ => Ffn.Gen.frame m ρ, fun m ρ _ => FfnIdeal.Gen.frame m ρ, fun m ρ _ => FfnIdeal.Gen.frame m ρ,
    FfnClaims.quiescent_ref, fun m ρ _ => FfnClaims.quiescent_ref m ρ trivial,
    fun m ρ _ => AttnFwd.Gen.frame m ρ, fun m ρ _ => AttnFwdIdeal.Gen.frame m ρ, fun m ρ _ => AttnFwdIdeal.Gen.frame m ρ,
    AttnFwdClaims.quiescent_ref, fun m ρ _ => AttnFwdClaims.quiescent_ref m ρ trivial,
    fun m ρ _ => PoolBwd.Gen.frame m ρ, fun m ρ _ => PoolBwdIdeal.Gen.frame m ρ, fun m ρ _ => PoolBwdIdeal.Gen.frame m ρ,
    PoolClaims.quiescent_ref, fun m ρ _ => PoolClaims.quiescent_ref m ρ trivial,
    fun m ρ _ => MixIn.Gen.frame m ρ, fun m ρ _ => MixInIdeal.Gen.frame m ρ,
    MixInFwdClaims.quiescent_ref,
    fun m ρ _ => Ada.Gen.frame m ρ, fun m ρ _ => AdaIdeal.Gen.frame m ρ,
    AdaFwdClaims.quiescent_ref,
    fun m ρ _ => MlaFwd.Gen.frame m ρ, fun m ρ _ => MlaFwdIdeal.Gen.frame m ρ, fun m ρ _ => MlaFwdIdeal.Gen.frame m ρ,
    MlaFwdClaims.quiescent_ref, fun m ρ _ => MlaFwdClaims.quiescent_ref m ρ trivial,
    ProductClaims.quiescent, ProductClaims.quiescent_ideal, ProductClaims.quiescent_ref, fun m ρ _ => ProductClaims.quiescent_ref m ρ trivial,
    fun m ρ _ => Adam.Gen.frame m ρ, fun m ρ _ => AdamIdeal.Gen.frame m ρ,
    AdamClaims.quiescent_ref,
    trivial, LossClaims.algebraic,
    AttnBwdClaims.preserves, AttnBwdClaims.algebraic,
    trivial, MlaClaims.algebraic,
    trivial, MixClaims.algebraic,
    trivial, AdaClaims.algebraic,
    trivial, OutProjClaims.algebraic,
    trivial, FfnClaims.algebraic,
    AttnFwdClaims.preserves, AttnFwdClaims.algebraic,
    trivial, PoolClaims.algebraic,
    trivial, MixInFwdClaims.algebraic,
    trivial, AdaFwdClaims.algebraic,
    trivial, MlaFwdClaims.algebraic,
    trivial, ProductClaims.algebraic,
    trivial, AdamClaims.algebraic⟩⟩

end Cert.Proof

end
